-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S64x1x16384 : Shape := ⟨3, ![64, 1, 16384]⟩
abbrev S8192x7168 : Shape := ⟨2, ![8192, 7168]⟩
abbrev S128x7168 : Shape := ⟨2, ![128, 7168]⟩
abbrev S64x7168 : Shape := ⟨2, ![64, 7168]⟩
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn_where {F : FTy → Type} [FloatOps F] (arg0 : IVec S16384 1) (arg1 : IVec S16384 32) (arg2 : IVec S16384 32) : IVec S16384 32 :=
  let v0 : IVec S16384 32 := select arg0 arg1 arg2
  v0

def fn_floor_divide {F : FTy → Type} [FloatOps F] (arg0 : IVec S16384 32) (arg1 : IVec S_ 32) : IVec S16384 32 :=
  let v0 : IVec S_ 32 := id arg1
  let v1 : IVec S16384 32 := broadcastInDim S16384 ![] bcast_S_S16384 v0
  let v2 : IVec S16384 32 := Host.divsi arg0 v1
  let v3 : IVec S16384 32 := signi arg0
  let v4 : IVec S_ 32 := signi v0
  let v5 : IVec S16384 32 := broadcastInDim S16384 ![] bcast_S_S16384 v4
  let v6 : IVec S16384 1 := cmpi .ne v3 v5
  let v7 : IVec S16384 32 := broadcastInDim S16384 ![] bcast_S_S16384 v0
  let v8 : IVec S16384 32 := Host.remsi arg0 v7
  let c : IVec S_ 32 := constantI S_ 32 0#32
  let v9 : IVec S16384 32 := broadcastInDim S16384 ![] bcast_S_S16384 c
  let v10 : IVec S16384 1 := cmpi .ne v8 v9
  let v11 : IVec S16384 1 := andi v6 v10
  let c_0 : IVec S_ 32 := constantI S_ 32 1#32
  let v12 : IVec S16384 32 := broadcastInDim S16384 ![] bcast_S_S16384 c_0
  let v13 : IVec S16384 32 := subi v2 v12
  let v14 : IVec S16384 32 := fn_where (F := F) v11 v13 v2
  v14

def fn {F : FTy → Type} [FloatOps F] (main_arg0 : FVec F S64x1x16384 .bf16) (main_arg1 : IVec S8192x7168 8) (main_arg2 : FVec F S128x7168 .bf16) (main_arg3 : IVec S64x7168 8) (main_arg4 : IVec S16384 32) (main_arg5 : IVec S16384 32) : IVec S_ 1 :=
  let main_v0 : IVec S16384 32 := iotaInDim S16384 32 0
  let main_c : IVec S_ 32 := constantI S_ 32 128#32
  let main_v1 : IVec S16384 32 := fn_floor_divide (F := F) main_v0 main_c
  let main_v2 : IVec S16384 1 := cmpi .eq main_arg4 main_v1
  let main_c_0 : IVec S_ 1 := constantI S_ 1 1#1
  let main_v3 : IVec S_ 1 := (fun x v => Host.reduce IntOp.andi x v reducesTo_S16384_S_d0 h_S_) main_v2 main_c_0
  let main_c_1 : IVec S_ 32 := constantI S_ 32 0#32
  let main_v4 : IVec S16384 32 := broadcastInDim S16384 ![] bcast_S_S16384 main_c_1
  let main_v5 : IVec S16384 1 := cmpi .sge main_arg5 main_v4
  let main_c_2 : IVec S_ 1 := constantI S_ 1 1#1
  let main_v6 : IVec S_ 1 := (fun x v => Host.reduce IntOp.andi x v reducesTo_S16384_S_d0 h_S_) main_v5 main_c_2
  let main_v7 : IVec S_ 1 := andi main_v3 main_v6
  let main_c_3 : IVec S_ 32 := constantI S_ 32 16384#32
  let main_v8 : IVec S16384 32 := broadcastInDim S16384 ![] bcast_S_S16384 main_c_3
  let main_v9 : IVec S16384 1 := cmpi .slt main_arg5 main_v8
  let main_c_4 : IVec S_ 1 := constantI S_ 1 1#1
  let main_v10 : IVec S_ 1 := (fun x v => Host.reduce IntOp.andi x v reducesTo_S16384_S_d0 h_S_) main_v9 main_c_4
  let main_v11 : IVec S_ 1 := andi main_v7 main_v10
  main_v11
-- ==== Kernel.lean ====
abbrev S64x1x16384 : Shape := ⟨3, ![64, 1, 16384]⟩
abbrev S8192x7168 : Shape := ⟨2, ![8192, 7168]⟩
abbrev S128x7168 : Shape := ⟨2, ![128, 7168]⟩
abbrev S64x7168 : Shape := ⟨2, ![64, 7168]⟩
abbrev S16384 : Shape := ⟨1, ![16384]⟩
abbrev S128x128 : Shape := ⟨2, ![128, 128]⟩
abbrev S64x16384 : Shape := ⟨2, ![64, 16384]⟩
abbrev S512x7168 : Shape := ⟨2, ![512, 7168]⟩
abbrev S8x7168 : Shape := ⟨2, ![8, 7168]⟩
abbrev S4096x256 : Shape := ⟨2, ![4096, 256]⟩
abbrev S1024x256 : Shape := ⟨2, ![1024, 256]⟩
abbrev S2x64x1024 : Shape := ⟨3, ![2, 64, 1024]⟩
abbrev S64x128 : Shape := ⟨2, ![64, 128]⟩
abbrev S256x128 : Shape := ⟨2, ![256, 128]⟩
abbrev S128x256 : Shape := ⟨2, ![128, 256]⟩
abbrev S1 : Shape := ⟨1, ![1]⟩
abbrev S1x256 : Shape := ⟨2, ![1, 256]⟩
abbrev S1x128 : Shape := ⟨2, ![1, 128]⟩
abbrev S1x64x128 : Shape := ⟨3, ![1, 64, 128]⟩
abbrev S64x256 : Shape := ⟨2, ![64, 256]⟩
abbrev S64x1x256 : Shape := ⟨3, ![64, 1, 256]⟩
abbrev S64x2x256 : Shape := ⟨3, ![64, 2, 256]⟩
abbrev S8x16x256 : Shape := ⟨3, ![8, 16, 256]⟩
abbrev S16x256 : Shape := ⟨2, ![16, 256]⟩
abbrev S1x16x256 : Shape := ⟨3, ![1, 16, 256]⟩
abbrev S256x256 : Shape := ⟨2, ![256, 256]⟩
abbrev S1x64x256 : Shape := ⟨3, ![1, 64, 256]⟩

abbrev nBuf : Space → Nat
  | .hbm => 9
  | .vmem => 15
  | .smem => 1
  | _ => 0

abbrev bufTy : (tb : Table) → Fin (tcTables nBuf tb) → BufTy
  | .hbm, ⟨0, _⟩ => ⟨S64x1x16384, .bf16⟩
  | .hbm, ⟨1, _⟩ => ⟨S8192x7168, .i8⟩
  | .hbm, ⟨2, _⟩ => ⟨S128x7168, .bf16⟩
  | .hbm, ⟨3, _⟩ => ⟨S64x7168, .i8⟩
  | .hbm, ⟨4, _⟩ => ⟨S16384, .i32⟩
  | .hbm, ⟨5, _⟩ => ⟨S16384, .i32⟩
  | .hbm, ⟨6, _⟩ => ⟨S128x128, .i32⟩
  | .hbm, ⟨7, _⟩ => ⟨S64x16384, .bf16⟩
  | .hbm, ⟨8, _⟩ => ⟨S64x7168, .bf16⟩
  | .local _ .vmem, ⟨0, _⟩ => ⟨S128x128, .i32⟩
  | .local _ .vmem, ⟨1, _⟩ => ⟨S64x16384, .bf16⟩
  | .local _ .vmem, ⟨2, _⟩ => ⟨S512x7168, .i8⟩
  | .local _ .vmem, ⟨3, _⟩ => ⟨S512x7168, .i8⟩
  | .local _ .vmem, ⟨4, _⟩ => ⟨S8x7168, .bf16⟩
  | .local _ .vmem, ⟨5, _⟩ => ⟨S8x7168, .bf16⟩
  | .local _ .vmem, ⟨6, _⟩ => ⟨S8x7168, .i8⟩
  | .local _ .vmem, ⟨7, _⟩ => ⟨S8x7168, .i8⟩
  | .local _ .vmem, ⟨8, _⟩ => ⟨S64x7168, .bf16⟩
  | .local _ .vmem, ⟨9, _⟩ => ⟨S4096x256, .f32⟩
  | .local _ .vmem, ⟨10, _⟩ => ⟨S1024x256, .f32⟩
  | .local _ .vmem, ⟨11, _⟩ => ⟨S2x64x1024, .bf16⟩
  | .local _ .vmem, ⟨12, _⟩ => ⟨S64x7168, .f32⟩
  | .local _ .vmem, ⟨13, _⟩ => ⟨S8x7168, .f32⟩
  | .local _ .vmem, ⟨14, _⟩ => ⟨S8x7168, .f32⟩
  | .local _ .smem, ⟨0, _⟩ => ⟨S16384, .i32⟩
  | _, _ => ⟨S64x1x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6700 : BitVec 32 := 0#32
  let c128_i32_6701 : BitVec 32 := 128#32
  let v18291 : BitVec 32 := Scalar.addi c0_i32_6700 c128_i32_6701
  let c1_i32_6702 : BitVec 32 := 1#32
  ⟨c0_i32_6700, v18291, c1_i32_6702⟩
def k0_off1 (k0_t1 : Fin k0_t1_loop.trips) : Fin 1 → Nat :=
  let c0_i32_6700 : BitVec 32 := 0#32
  let c1_i32_6702 : BitVec 32 := 1#32
  let arg14 : BitVec 32 := Scf.iv c0_i32_6700 c1_i32_6702 k0_t1
  let c8_i32_6843 : BitVec 32 := 8#32
  let v18672 : BitVec 32 := Scalar.muli arg14 c8_i32_6843
  let c0_i32_6844 : BitVec 32 := 0#32
  let v18673 : BitVec 32 := Scalar.addi v18672 c0_i32_6844
  let v18676 : Index := Scalar.indexCast v18673
  ![v18676.toNat]
def k0_off2 (v18677 : BitVec 32) : Fin 2 → Nat :=
  let c4095_i32_6847 : BitVec 32 := 4095#32
  let v18678 : BitVec 32 := Scalar.andi v18677 c4095_i32_6847
  let v18679 : Index := Scalar.indexCast v18678
  let c0_6848 : Index := 0#32
  ![v18679.toNat, 0]

def k0_chk1 (i : grid0.Coords) (v18677 : BitVec 32) : Prop :=
  (∀ (k0_h1 : k0_cond1 i = 1#1), ∀ a, (k0_off2 v18677) a + S1x256.size a ≤ S4096x256.size a)
theorem k0_off2_inb : ∀ (i : grid0.Coords) (v18677 : BitVec 32) (k0_hw1 : k0_chk1 i v18677), ∀ (k0_h1 : k0_cond1 i = 1#1), ∀ a, (k0_off2 v18677) a + S1x256.size a ≤ S4096x256.size a := fun i v18677 k0_hw1 k0_h1 => k0_hw1 k0_h1

def k0_off3 (k0_t1 : Fin k0_t1_loop.trips) : Fin 2 → Nat :=
  let c0_i32_6700 : BitVec 32 := 0#32
  let c1_i32_6702 : BitVec 32 := 1#32
  let arg14 : BitVec 32 := Scf.iv c0_i32_6700 c1_i32_6702 k0_t1
  let c8_i32_6845 : BitVec 32 := 8#32
  let v18674 : BitVec 32 := Scalar.muli arg14 c8_i32_6845
  let c0_i32_6846 : BitVec 32 := 0#32
  let v18675 : BitVec 32 := Scalar.addi v18674 c0_i32_6846
  let v18681 : Index := Scalar.indexCast v18675
  let c0_6849 : Index := 0#32
  ![v18681.toNat, 0]
def k0_off4 (k0_t1 : Fin k0_t1_loop.trips) : Fin 1 → Nat :=
  let c0_i32_6700 : BitVec 32 := 0#32
  let c1_i32_6702 : BitVec 32 := 1#32
  let arg14 : BitVec 32 := Scf.iv c0_i32_6700 c1_i32_6702 k0_t1
  let c8_i32_6850 : BitVec 32 := 8#32
  let v18685 : BitVec 32 := Scalar.muli arg14 c8_i32_6850
  let c1_i32_6851 : BitVec 32 := 1#32
  let v18686 : BitVec 32 := Scalar.addi v18685 c1_i32_6851
  let v18689 : Index := Scalar.indexCast v18686
  ![v18689.toNat]
def k0_off5 (v18690 : BitVec 32) : Fin 2 → Nat :=
  let c4095_i32_6854 : BitVec 32 := 4095#32
  let v18691 : BitVec 32 := Scalar.andi v18690 c4095_i32_6854
  let v18692 : Index := Scalar.indexCast v18691
  let c0_6855 : Index := 0#32
  ![v18692.toNat, 0]

def k0_chk2 (i : grid0.Coords) (v18690 : BitVec 32) : Prop :=
  (∀ (k0_h1 : k0_cond1 i = 1#1), ∀ a, (k0_off5 v18690) a + S1x256.size a ≤ S4096x256.size a)
theorem k0_off5_inb : ∀ (i : grid0.Coords) (v18690 : BitVec 32) (k0_hw2 : k0_chk2 i v18690), ∀ (k0_h1 : k0_cond1 i = 1#1), ∀ a, (k0_off5 v18690) a + S1x256.size a ≤ S4096x256.size a := fun i v18690 k0_hw2 k0_h1 => k0_hw2 k0_h1

def k0_off6 (k0_t1 : Fin k0_t1_loop.trips) : Fin 2 → Nat :=
  let c0_i32_6700 : BitVec 32 := 0#32
  let c1_i32_6702 : BitVec 32 := 1#32
  let arg14 : BitVec 32 := Scf.iv c0_i32_6700 c1_i32_6702 k0_t1
  let c8_i32_6852 : BitVec 32 := 8#32
  let v18687 : BitVec 32 := Scalar.muli arg14 c8_i32_6852
  let c1_i32_6853 : BitVec 32 := 1#32
  let v18688 : BitVec 32 := Scalar.addi v18687 c1_i32_6853
  let v18694 : Index := Scalar.indexCast v18688
  let c0_6856 : Index := 0#32
  ![v18694.toNat, 0]
def k0_off7 (k0_t1 : Fin k0_t1_loop.trips) : Fin 1 → Nat :=
  let c0_i32_6700 : BitVec 32 := 0#32
  let c1_i32_6702 : BitVec 32 := 1#32
  let arg14 : BitVec 32 := Scf.iv c0_i32_6700 c1_i32_6702 k0_t1
  let c8_i32_6857 : BitVec 32 := 8#32
  let v18698 : BitVec 32 := Scalar.muli arg14 c8_i32_6857
  let c2_i32_6858 : BitVec 32 := 2#32
  let v18699 : BitVec 32 := Scalar.addi v18698 c2_i32_6858
  let v18702 : Index := Scalar.indexCast v18699
  ![v18702.toNat]
def k0_off8 (v18703 : BitVec 32) : Fin 2 → Nat :=
  let c4095_i32_6861 : BitVec 32 := 4095#32
  let v18704 : BitVec 32 := Scalar.andi v18703 c4095_i32_6861
  let v18705 : Index := Scalar.indexCast v18704
  let c0_6862 : Index := 0#32
  ![v18705.toNat, 0]

def k0_chk3 (i : grid0.Coords) (v18703 : BitVec 32) : Prop :=
  (∀ (k0_h1 : k0_cond1 i = 1#1), ∀ a, (k0_off8 v18703) a + S1x256.size a ≤ S4096x256.size a)
theorem k0_off8_inb : ∀ (i : grid0.Coords) (v18703 : BitVec 32) (k0_hw3 : k0_chk3 i v18703), ∀ (k0_h1 : k0_cond1 i = 1#1), ∀ a, (k0_off8 v18703) a + S1x256.size a ≤ S4096x256.size a := fun i v18703 k0_hw3 k0_h1 => k0_hw3 k0_h1

def k0_off9 (k0_t1 : Fin k0_t1_loop.trips) : Fin 2 → Nat :=
  let c0_i32_6700 : BitVec 32 := 0#32
  let c1_i32_6702 : BitVec 32 := 1#32
  let arg14 : BitVec 32 := Scf.iv c0_i32_6700 c1_i32_6702 k0_t1
  let c8_i32_6859 : BitVec 32 := 8#32
  let v18700 : BitVec 32 := Scalar.muli arg14 c8_i32_6859
  let c2_i32_6860 : BitVec 32 := 2#32
  let v18701 : BitVec 32 := Scalar.addi v18700 c2_i32_6860
  let v18707 : Index := Scalar.indexCast v18701
  let c0_6863 : Index := 0#32
  ![v18707.toNat, 0]
def k0_off10 (k0_t1 : Fin k0_t1_loop.trips) : Fin 1 → Nat :=
  let c0_i32_6700 : BitVec 32 := 0#32
  let c1_i32_6702 : BitVec 32 := 1#32
  let arg14 : BitVec 32 := Scf.iv c0_i32_6700 c1_i32_6702 k0_t1
  let c8_i32_6864 : BitVec 32 := 8#32
  let v18711 : BitVec 32 := Scalar.muli arg14 c8_i32_6864
  let c3_i32_6865 : BitVec 32 := 3#32
  let v18712 : BitVec 32 := Scalar.addi v18711 c3_i32_6865
  let v18715 : Index := Scalar.indexCast v18712
  ![v18715.toNat]
def k0_off11 (v18716 : BitVec 32) : Fin 2 → Nat :=
  let c4095_i32_6868 : BitVec 32 := 4095#32
  let v18717 : BitVec 32 := Scalar.andi v18716 c4095_i32_6868
  let v18718 : Index := Scalar.indexCast v18717
  let c0_6869 : Index := 0#32
  ![v18718.toNat, 0]

def k0_chk4 (i : grid0.Coords) (v18716 : BitVec 32) : Prop :=
  (∀ (k0_h1 : k0_cond1 i = 1#1), ∀ a, (k0_off11 v18716) a + S1x256.size a ≤ S4096x256.size a)
theorem k0_off11_inb : ∀ (i : grid0.Coords) (v18716 : BitVec 32) (k0_hw4 : k0_chk4 i v18716), ∀ (k0_h1 : k0_cond1 i = 1#1), ∀ a, (k0_off11 v18716) a + S1x256.size a ≤ S4096x256.size a := fun i v18716 k0_hw4 k0_h1 => k0_hw4 k0_h1

def k0_off12 (k0_t1 : Fin k0_t1_loop.trips) : Fin 2 → Nat :=
  let c0_i32_6700 : BitVec 32 := 0#32
  let c1_i32_6702 : BitVec 32 := 1#32
  let arg14 : BitVec 32 := Scf.iv c0_i32_6700 c1_i32_6702 k0_t1
  let c8_i32_6866 : BitVec 32 := 8#32
  let v18713 : BitVec 32 := Scalar.muli arg14 c8_i32_6866
  let c3_i32_6867 : BitVec 32 := 3#32
  let v18714 : BitVec 32 := Scalar.addi v18713 c3_i32_6867
  let v18720 : Index := Scalar.indexCast v18714
  let c0_6870 : Index := 0#32
  ![v18720.toNat, 0]
def k0_off13 (k0_t1 : Fin k0_t1_loop.trips) : Fin 1 → Nat :=
  let c0_i32_6700 : BitVec 32 := 0#32
  let c1_i32_6702 : BitVec 32 := 1#32
  let arg14 : BitVec 32 := Scf.iv c0_i32_6700 c1_i32_6702 k0_t1
  let c8_i32_6871 : BitVec 32 := 8#32
  let v18724 : BitVec 32 := Scalar.muli arg14 c8_i32_6871
  let c4_i32_6872 : BitVec 32 := 4#32
  let v18725 : BitVec 32 := Scalar.addi v18724 c4_i32_6872
  let v18728 : Index := Scalar.indexCast v18725
  ![v18728.toNat]
def k0_off14 (v18729 : BitVec 32) : Fin 2 → Nat :=
  let c4095_i32_6875 : BitVec 32 := 4095#32
  let v18730 : BitVec 32 := Scalar.andi v18729 c4095_i32_6875
  let v18731 : Index := Scalar.indexCast v18730
  let c0_6876 : Index := 0#32
  ![v18731.toNat, 0]

def k0_chk5 (i : grid0.Coords) (v18729 : BitVec 32) : Prop :=
  (∀ (k0_h1 : k0_cond1 i = 1#1), ∀ a, (k0_off14 v18729) a + S1x256.size a ≤ S4096x256.size a)
theorem k0_off14_inb : ∀ (i : grid0.Coords) (v18729 : BitVec 32) (k0_hw5 : k0_chk5 i v18729), ∀ (k0_h1 : k0_cond1 i = 1#1), ∀ a, (k0_off14 v18729) a + S1x256.size a ≤ S4096x256.size a := fun i v18729 k0_hw5 k0_h1 => k0_hw5 k0_h1

def k0_off15 (k0_t1 : Fin k0_t1_loop.trips) : Fin 2 → Nat :=
  let c0_i32_6700 : BitVec 32 := 0#32
  let c1_i32_6702 : BitVec 32 := 1#32
  let arg14 : BitVec 32 := Scf.iv c0_i32_6700 c1_i32_6702 k0_t1
  let c8_i32_6873 : BitVec 32 := 8#32
  let v18726 : BitVec 32 := Scalar.muli arg14 c8_i32_6873
  let c4_i32_6874 : BitVec 32 := 4#32
  let v18727 : BitVec 32 := Scalar.addi v18726 c4_i32_6874
  let v18733 : Index := Scalar.indexCast v18727
  let c0_6877 : Index := 0#32
  ![v18733.toNat, 0]
def k0_off16 (k0_t1 : Fin k0_t1_loop.trips) : Fin 1 → Nat :=
  let c0_i32_6700 : BitVec 32 := 0#32
  let c1_i32_6702 : BitVec 32 := 1#32
  let arg14 : BitVec 32 := Scf.iv c0_i32_6700 c1_i32_6702 k0_t1
  let c8_i32_6878 : BitVec 32 := 8#32
  let v18737 : BitVec 32 := Scalar.muli arg14 c8_i32_6878
  let c5_i32_6879 : BitVec 32 := 5#32
  let v18738 : BitVec 32 := Scalar.addi v18737 c5_i32_6879
  let v18741 : Index := Scalar.indexCast v18738
  ![v18741.toNat]
def k0_off17 (v18742 : BitVec 32) : Fin 2 → Nat :=
  let c4095_i32_6882 : BitVec 32 := 4095#32
  let v18743 : BitVec 32 := Scalar.andi v18742 c4095_i32_6882
  let v18744 : Index := Scalar.indexCast v18743
  let c0_6883 : Index := 0#32
  ![v18744.toNat, 0]

def k0_chk6 (i : grid0.Coords) (v18742 : BitVec 32) : Prop :=
  (∀ (k0_h1 : k0_cond1 i = 1#1), ∀ a, (k0_off17 v18742) a + S1x256.size a ≤ S4096x256.size a)
theorem k0_off17_inb : ∀ (i : grid0.Coords) (v18742 : BitVec 32) (k0_hw6 : k0_chk6 i v18742), ∀ (k0_h1 : k0_cond1 i = 1#1), ∀ a, (k0_off17 v18742) a + S1x256.size a ≤ S4096x256.size a := fun i v18742 k0_hw6 k0_h1 => k0_hw6 k0_h1

def k0_off18 (k0_t1 : Fin k0_t1_loop.trips) : Fin 2 → Nat :=
  let c0_i32_6700 : BitVec 32 := 0#32
  let c1_i32_6702 : BitVec 32 := 1#32
  let arg14 : BitVec 32 := Scf.iv c0_i32_6700 c1_i32_6702 k0_t1
  let c8_i32_6880 : BitVec 32 := 8#32
  let v18739 : BitVec 32 := Scalar.muli arg14 c8_i32_6880
  let c5_i32_6881 : BitVec 32 := 5#32
  let v18740 : BitVec 32 := Scalar.addi v18739 c5_i32_6881
  let v18746 : Index := Scalar.indexCast v18740
  let c0_6884 : Index := 0#32
  ![v18746.toNat, 0]
def k0_off19 (k0_t1 : Fin k0_t1_loop.trips) : Fin 1 → Nat :=
  let c0_i32_6700 : BitVec 32 := 0#32
  let c1_i32_6702 : BitVec 32 := 1#32
  let arg14 : BitVec 32 := Scf.iv c0_i32_6700 c1_i32_6702 k0_t1
  let c8_i32_6885 : BitVec 32 := 8#32
  let v18750 : BitVec 32 := Scalar.muli arg14 c8_i32_6885
  let c6_i32_6886 : BitVec 32 := 6#32
  let v18751 : BitVec 32 := Scalar.addi v18750 c6_i32_6886
  let v18754 : Index := Scalar.indexCast v18751
  ![v18754.toNat]
def k0_off20 (v18755 : BitVec 32) : Fin 2 → Nat :=
  let c4095_i32_6889 : BitVec 32 := 4095#32
  let v18756 : BitVec 32 := Scalar.andi v18755 c4095_i32_6889
  let v18757 : Index := Scalar.indexCast v18756
  let c0_6890 : Index := 0#32
  ![v18757.toNat, 0]

def k0_chk7 (i : grid0.Coords) (v18755 : BitVec 32) : Prop :=
  (∀ (k0_h1 : k0_cond1 i = 1#1), ∀ a, (k0_off20 v18755) a + S1x256.size a ≤ S4096x256.size a)
theorem k0_off20_inb : ∀ (i : grid0.Coords) (v18755 : BitVec 32) (k0_hw7 : k0_chk7 i v18755), ∀ (k0_h1 : k0_cond1 i = 1#1), ∀ a, (k0_off20 v18755) a + S1x256.size a ≤ S4096x256.size a := fun i v18755 k0_hw7 k0_h1 => k0_hw7 k0_h1

def k0_off21 (k0_t1 : Fin k0_t1_loop.trips) : Fin 2 → Nat :=
  let c0_i32_6700 : BitVec 32 := 0#32
  let c1_i32_6702 : BitVec 32 := 1#32
  let arg14 : BitVec 32 := Scf.iv c0_i32_6700 c1_i32_6702 k0_t1
  let c8_i32_6887 : BitVec 32 := 8#32
  let v18752 : BitVec 32 := Scalar.muli arg14 c8_i32_6887
  let c6_i32_6888 : BitVec 32 := 6#32
  let v18753 : BitVec 32 := Scalar.addi v18752 c6_i32_6888
  let v18759 : Index := Scalar.indexCast v18753
  let c0_6891 : Index := 0#32
  ![v18759.toNat, 0]
def k0_off22 (k0_t1 : Fin k0_t1_loop.trips) : Fin 1 → Nat :=
  let c0_i32_6700 : BitVec 32 := 0#32
  let c1_i32_6702 : BitVec 32 := 1#32
  let arg14 : BitVec 32 := Scf.iv c0_i32_6700 c1_i32_6702 k0_t1
  let c8_i32_6892 : BitVec 32 := 8#32
  let v18763 : BitVec 32 := Scalar.muli arg14 c8_i32_6892
  let c7_i32_6893 : BitVec 32 := 7#32
  let v18764 : BitVec 32 := Scalar.addi v18763 c7_i32_6893
  let v18767 : Index := Scalar.indexCast v18764
  ![v18767.toNat]
def k0_off23 (v18768 : BitVec 32) : Fin 2 → Nat :=
  let c4095_i32_6896 : BitVec 32 := 4095#32
  let v18769 : BitVec 32 := Scalar.andi v18768 c4095_i32_6896
  let v18770 : Index := Scalar.indexCast v18769
  let c0_6897 : Index := 0#32
  ![v18770.toNat, 0]

def k0_chk8 (i : grid0.Coords) (v18768 : BitVec 32) : Prop :=
  (∀ (k0_h1 : k0_cond1 i = 1#1), ∀ a, (k0_off23 v18768) a + S1x256.size a ≤ S4096x256.size a)
theorem k0_off23_inb : ∀ (i : grid0.Coords) (v18768 : BitVec 32) (k0_hw8 : k0_chk8 i v18768), ∀ (k0_h1 : k0_cond1 i = 1#1), ∀ a, (k0_off23 v18768) a + S1x256.size a ≤ S4096x256.size a := fun i v18768 k0_hw8 k0_h1 => k0_hw8 k0_h1

def k0_off24 (k0_t1 : Fin k0_t1_loop.trips) : Fin 2 → Nat :=
  let c0_i32_6700 : BitVec 32 := 0#32
  let c1_i32_6702 : BitVec 32 := 1#32
  let arg14 : BitVec 32 := Scf.iv c0_i32_6700 c1_i32_6702 k0_t1
  let c8_i32_6894 : BitVec 32 := 8#32
  let v18765 : BitVec 32 := Scalar.muli arg14 c8_i32_6894
  let c7_i32_6895 : BitVec 32 := 7#32
  let v18766 : BitVec 32 := Scalar.addi v18765 c7_i32_6895
  let v18772 : Index := Scalar.indexCast v18766
  let c0_6898 : Index := 0#32
  ![v18772.toNat, 0]
def k0_off25 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v89 : Index := Scalar.indexCast v12
  let c0_29 : Index := 0#32
  let c0_30 : Index := 0#32
  ![v89.toNat, 0, 0]
def k0_off26 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v150 : Index := Scalar.indexCast v12
  let c0_43 : Index := 0#32
  let c256 : Index := 256#32
  ![v150.toNat, 0, 256]
def k0_off27 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v212 : Index := Scalar.indexCast v12
  let c0_58 : Index := 0#32
  let c512 : Index := 512#32
  ![v212.toNat, 0, 512]
def k0_off28 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v274 : Index := Scalar.indexCast v12
  let c0_72 : Index := 0#32
  let c768 : Index := 768#32
  ![v274.toNat, 0, 768]
def k0_off29 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32 : BitVec 32 := 1024#32
  let v284 : BitVec 32 := Scalar.muli v14 c1024_i32
  let c0_i32_78 : BitVec 32 := 0#32
  let v285 : BitVec 32 := Scalar.addi v284 c0_i32_78
  let v286 : Index := Scalar.indexCast v285
  ![v286.toNat]
def k0_off30 (v287 : BitVec 32) : Fin 2 → Nat :=
  let c4095_i32 : BitVec 32 := 4095#32
  let v288 : BitVec 32 := Scalar.andi v287 c4095_i32
  let v289 : Index := Scalar.indexCast v288
  let c0_79 : Index := 0#32
  ![v289.toNat, 0]

def k0_chk9 (v287 : BitVec 32) : Prop :=
  (∀ a, (k0_off30 v287) a + S1x256.size a ≤ S4096x256.size a)
theorem k0_off30_inb : ∀ (v287 : BitVec 32) (k0_hw9 : k0_chk9 v287), ∀ a, (k0_off30 v287) a + S1x256.size a ≤ S4096x256.size a := fun v287 k0_hw9 => k0_hw9

def k0_off31 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_82 : BitVec 32 := 1024#32
  let v294 : BitVec 32 := Scalar.muli v14 c1024_i32_82
  let c1_i32_83 : BitVec 32 := 1#32
  let v295 : BitVec 32 := Scalar.addi v294 c1_i32_83
  let v296 : Index := Scalar.indexCast v295
  ![v296.toNat]
def k0_off32 (v297 : BitVec 32) : Fin 2 → Nat :=
  let c4095_i32_84 : BitVec 32 := 4095#32
  let v298 : BitVec 32 := Scalar.andi v297 c4095_i32_84
  let v299 : Index := Scalar.indexCast v298
  let c0_85 : Index := 0#32
  ![v299.toNat, 0]

def k0_chk10 (v297 : BitVec 32) : Prop :=
  (∀ a, (k0_off32 v297) a + S1x256.size a ≤ S4096x256.size a)
theorem k0_off32_inb : ∀ (v297 : BitVec 32) (k0_hw10 : k0_chk10 v297), ∀ a, (k0_off32 v297) a + S1x256.size a ≤ S4096x256.size a := fun v297 k0_hw10 => k0_hw10

def k0_off33 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_88 : BitVec 32 := 1024#32
  let v304 : BitVec 32 := Scalar.muli v14 c1024_i32_88
  let c2_i32_89 : BitVec 32 := 2#32
  let v305 : BitVec 32 := Scalar.addi v304 c2_i32_89
  let v306 : Index := Scalar.indexCast v305
  ![v306.toNat]
def k0_off34 (v307 : BitVec 32) : Fin 2 → Nat :=
  let c4095_i32_90 : BitVec 32 := 4095#32
  let v308 : BitVec 32 := Scalar.andi v307 c4095_i32_90
  let v309 : Index := Scalar.indexCast v308
  let c0_91 : Index := 0#32
  ![v309.toNat, 0]

def k0_chk11 (v307 : BitVec 32) : Prop :=
  (∀ a, (k0_off34 v307) a + S1x256.size a ≤ S4096x256.size a)
theorem k0_off34_inb : ∀ (v307 : BitVec 32) (k0_hw11 : k0_chk11 v307), ∀ a, (k0_off34 v307) a + S1x256.size a ≤ S4096x256.size a := fun v307 k0_hw11 => k0_hw11

def k0_off35 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_94 : BitVec 32 := 1024#32
  let v314 : BitVec 32 := Scalar.muli v14 c1024_i32_94
  let c3_i32 : BitVec 32 := 3#32
  let v315 : BitVec 32 := Scalar.addi v314 c3_i32
  let v316 : Index := Scalar.indexCast v315
  ![v316.toNat]
def k0_off36 (v317 : BitVec 32) : Fin 2 → Nat :=
  let c4095_i32_95 : BitVec 32 := 4095#32
  let v318 : BitVec 32 := Scalar.andi v317 c4095_i32_95
  let v319 : Index := Scalar.indexCast v318
  let c0_96 : Index := 0#32
  ![v319.toNat, 0]

def k0_chk12 (v317 : BitVec 32) : Prop :=
  (∀ a, (k0_off36 v317) a + S1x256.size a ≤ S4096x256.size a)
theorem k0_off36_inb : ∀ (v317 : BitVec 32) (k0_hw12 : k0_chk12 v317), ∀ a, (k0_off36 v317) a + S1x256.size a ≤ S4096x256.size a := fun v317 k0_hw12 => k0_hw12

def k0_off37 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_99 : BitVec 32 := 1024#32
  let v324 : BitVec 32 := Scalar.muli v14 c1024_i32_99
  let c4_i32_100 : BitVec 32 := 4#32
  let v325 : BitVec 32 := Scalar.addi v324 c4_i32_100
  let v326 : Index := Scalar.indexCast v325
  ![v326.toNat]
def k0_off38 (v327 : BitVec 32) : Fin 2 → Nat :=
  let c4095_i32_101 : BitVec 32 := 4095#32
  let v328 : BitVec 32 := Scalar.andi v327 c4095_i32_101
  let v329 : Index := Scalar.indexCast v328
  let c0_102 : Index := 0#32
  ![v329.toNat, 0]

def k0_chk13 (v327 : BitVec 32) : Prop :=
  (∀ a, (k0_off38 v327) a + S1x256.size a ≤ S4096x256.size a)
theorem k0_off38_inb : ∀ (v327 : BitVec 32) (k0_hw13 : k0_chk13 v327), ∀ a, (k0_off38 v327) a + S1x256.size a ≤ S4096x256.size a := fun v327 k0_hw13 => k0_hw13

def k0_off39 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_105 : BitVec 32 := 1024#32
  let v334 : BitVec 32 := Scalar.muli v14 c1024_i32_105
  let c5_i32 : BitVec 32 := 5#32
  let v335 : BitVec 32 := Scalar.addi v334 c5_i32
  let v336 : Index := Scalar.indexCast v335
  ![v336.toNat]
def k0_off40 (v337 : BitVec 32) : Fin 2 → Nat :=
  let c4095_i32_106 : BitVec 32 := 4095#32
  let v338 : BitVec 32 := Scalar.andi v337 c4095_i32_106
  let v339 : Index := Scalar.indexCast v338
  let c0_107 : Index := 0#32
  ![v339.toNat, 0]

def k0_chk14 (v337 : BitVec 32) : Prop :=
  (∀ a, (k0_off40 v337) a + S1x256.size a ≤ S4096x256.size a)
theorem k0_off40_inb : ∀ (v337 : BitVec 32) (k0_hw14 : k0_chk14 v337), ∀ a, (k0_off40 v337) a + S1x256.size a ≤ S4096x256.size a := fun v337 k0_hw14 => k0_hw14

def k0_off41 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_110 : BitVec 32 := 1024#32
  let v344 : BitVec 32 := Scalar.muli v14 c1024_i32_110
  let c6_i32 : BitVec 32 := 6#32
  let v345 : BitVec 32 := Scalar.addi v344 c6_i32
  let v346 : Index := Scalar.indexCast v345
  ![v346.toNat]
def k0_off42 (v347 : BitVec 32) : Fin 2 → Nat :=
  let c4095_i32_111 : BitVec 32 := 4095#32
  let v348 : BitVec 32 := Scalar.andi v347 c4095_i32_111
  let v349 : Index := Scalar.indexCast v348
  let c0_112 : Index := 0#32
  ![v349.toNat, 0]

def k0_chk15 (v347 : BitVec 32) : Prop :=
  (∀ a, (k0_off42 v347) a + S1x256.size a ≤ S4096x256.size a)
theorem k0_off42_inb : ∀ (v347 : BitVec 32) (k0_hw15 : k0_chk15 v347), ∀ a, (k0_off42 v347) a + S1x256.size a ≤ S4096x256.size a := fun v347 k0_hw15 => k0_hw15

def k0_off43 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_115 : BitVec 32 := 1024#32
  let v354 : BitVec 32 := Scalar.muli v14 c1024_i32_115
  let c7_i32 : BitVec 32 := 7#32
  let v355 : BitVec 32 := Scalar.addi v354 c7_i32
  let v356 : Index := Scalar.indexCast v355
  ![v356.toNat]
def k0_off44 (v357 : BitVec 32) : Fin 2 → Nat :=
  let c4095_i32_116 : BitVec 32 := 4095#32
  let v358 : BitVec 32 := Scalar.andi v357 c4095_i32_116
  let v359 : Index := Scalar.indexCast v358
  let c0_117 : Index := 0#32
  ![v359.toNat, 0]

def k0_chk16 (v357 : BitVec 32) : Prop :=
  (∀ a, (k0_off44 v357) a + S1x256.size a ≤ S4096x256.size a)
theorem k0_off44_inb : ∀ (v357 : BitVec 32) (k0_hw16 : k0_chk16 v357), ∀ a, (k0_off44 v357) a + S1x256.size a ≤ S4096x256.size a := fun v357 k0_hw16 => k0_hw16

def k0_off45 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_120 : BitVec 32 := 1024#32
  let v364 : BitVec 32 := Scalar.muli v14 c1024_i32_120
  let c8_i32_121 : BitVec 32 := 8#32
  let v365 : BitVec 32 := Scalar.addi v364 c8_i32_121
  let v366 : Index := Scalar.indexCast v365
  ![v366.toNat]
def k0_off46 (v367 : BitVec 32) : Fin 2 → Nat :=
  let c4095_i32_122 : BitVec 32 := 4095#32
  let v368 : BitVec 32 := Scalar.andi v367 c4095_i32_122
  let v369 : Index := Scalar.indexCast v368
  let c0_123 : Index := 0#32
  ![v369.toNat, 0]

def k0_chk17 (v367 : BitVec 32) : Prop :=
  (∀ a, (k0_off46 v367) a + S1x256.size a ≤ S4096x256.size a)
theorem k0_off46_inb : ∀ (v367 : BitVec 32) (k0_hw17 : k0_chk17 v367), ∀ a, (k0_off46 v367) a + S1x256.size a ≤ S4096x256.size a := fun v367 k0_hw17 => k0_hw17

def k0_off47 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_125 : BitVec 32 := 1024#32
  let v374 : BitVec 32 := Scalar.muli v14 c1024_i32_125
  let c9_i32 : BitVec 32 := 9#32
  let v375 : BitVec 32 := Scalar.addi v374 c9_i32
  let v376 : Index := Scalar.indexCast v375
  ![v376.toNat]
def k0_off48 (v377 : BitVec 32) : Fin 2 → Nat :=
  let c4095_i32_126 : BitVec 32 := 4095#32
  let v378 : BitVec 32 := Scalar.andi v377 c4095_i32_126
  let v379 : Index := Scalar.indexCast v378
  let c0_127 : Index := 0#32
  ![v379.toNat, 0]

def k0_chk18 (v377 : BitVec 32) : Prop :=
  (∀ a, (k0_off48 v377) a + S1x256.size a ≤ S4096x256.size a)
theorem k0_off48_inb : ∀ (v377 : BitVec 32) (k0_hw18 : k0_chk18 v377), ∀ a, (k0_off48 v377) a + S1x256.size a ≤ S4096x256.size a := fun v377 k0_hw18 => k0_hw18

def k0_off49 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_129 : BitVec 32 := 1024#32
  let v384 : BitVec 32 := Scalar.muli v14 c1024_i32_129
  let c10_i32 : BitVec 32 := 10#32
  let v385 : BitVec 32 := Scalar.addi v384 c10_i32
  let v386 : Index := Scalar.indexCast v385
  ![v386.toNat]
def k0_off50 (v387 : BitVec 32) : Fin 2 → Nat :=
  let c4095_i32_130 : BitVec 32 := 4095#32
  let v388 : BitVec 32 := Scalar.andi v387 c4095_i32_130
  let v389 : Index := Scalar.indexCast v388
  let c0_131 : Index := 0#32
  ![v389.toNat, 0]

def k0_chk19 (v387 : BitVec 32) : Prop :=
  (∀ a, (k0_off50 v387) a + S1x256.size a ≤ S4096x256.size a)
theorem k0_off50_inb : ∀ (v387 : BitVec 32) (k0_hw19 : k0_chk19 v387), ∀ a, (k0_off50 v387) a + S1x256.size a ≤ S4096x256.size a := fun v387 k0_hw19 => k0_hw19

def k0_off51 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_133 : BitVec 32 := 1024#32
  let v394 : BitVec 32 := Scalar.muli v14 c1024_i32_133
  let c11_i32 : BitVec 32 := 11#32
  let v395 : BitVec 32 := Scalar.addi v394 c11_i32
  let v396 : Index := Scalar.indexCast v395
  ![v396.toNat]
def k0_off52 (v397 : BitVec 32) : Fin 2 → Nat :=
  let c4095_i32_134 : BitVec 32 := 4095#32
  let v398 : BitVec 32 := Scalar.andi v397 c4095_i32_134
  let v399 : Index := Scalar.indexCast v398
  let c0_135 : Index := 0#32
  ![v399.toNat, 0]

def k0_chk20 (v397 : BitVec 32) : Prop :=
  (∀ a, (k0_off52 v397) a + S1x256.size a ≤ S4096x256.size a)
theorem k0_off52_inb : ∀ (v397 : BitVec 32) (k0_hw20 : k0_chk20 v397), ∀ a, (k0_off52 v397) a + S1x256.size a ≤ S4096x256.size a := fun v397 k0_hw20 => k0_hw20

def k0_off53 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_137 : BitVec 32 := 1024#32
  let v404 : BitVec 32 := Scalar.muli v14 c1024_i32_137
  let c12_i32 : BitVec 32 := 12#32
  let v405 : BitVec 32 := Scalar.addi v404 c12_i32
  let v406 : Index := Scalar.indexCast v405
  ![v406.toNat]
def k0_off54 (v407 : BitVec 32) : Fin 2 → Nat :=
  let c4095_i32_138 : BitVec 32 := 4095#32
  let v408 : BitVec 32 := Scalar.andi v407 c4095_i32_138
  let v409 : Index := Scalar.indexCast v408
  let c0_139 : Index := 0#32
  ![v409.toNat, 0]

def k0_chk21 (v407 : BitVec 32) : Prop :=
  (∀ a, (k0_off54 v407) a + S1x256.size a ≤ S4096x256.size a)
theorem k0_off54_inb : ∀ (v407 : BitVec 32) (k0_hw21 : k0_chk21 v407), ∀ a, (k0_off54 v407) a + S1x256.size a ≤ S4096x256.size a := fun v407 k0_hw21 => k0_hw21

def k0_off55 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_141 : BitVec 32 := 1024#32
  let v414 : BitVec 32 := Scalar.muli v14 c1024_i32_141
  let c13_i32 : BitVec 32 := 13#32
  let v415 : BitVec 32 := Scalar.addi v414 c13_i32
  let v416 : Index := Scalar.indexCast v415
  ![v416.toNat]
def k0_off56 (v417 : BitVec 32) : Fin 2 → Nat :=
  let c4095_i32_142 : BitVec 32 := 4095#32
  let v418 : BitVec 32 := Scalar.andi v417 c4095_i32_142
  let v419 : Index := Scalar.indexCast v418
  let c0_143 : Index := 0#32
  ![v419.toNat, 0]

def k0_chk22 (v417 : BitVec 32) : Prop :=
  (∀ a, (k0_off56 v417) a + S1x256.size a ≤ S4096x256.size a)
theorem k0_off56_inb : ∀ (v417 : BitVec 32) (k0_hw22 : k0_chk22 v417), ∀ a, (k0_off56 v417) a + S1x256.size a ≤ S4096x256.size a := fun v417 k0_hw22 => k0_hw22

def k0_off57 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_145 : BitVec 32 := 1024#32
  let v424 : BitVec 32 := Scalar.muli v14 c1024_i32_145
  let c14_i32 : BitVec 32 := 14#32
  let v425 : BitVec 32 := Scalar.addi v424 c14_i32
  let v426 : Index := Scalar.indexCast v425
  ![v426.toNat]
def k0_off58 (v427 : BitVec 32) : Fin 2 → Nat :=
  let c4095_i32_146 : BitVec 32 := 4095#32
  let v428 : BitVec 32 := Scalar.andi v427 c4095_i32_146
  let v429 : Index := Scalar.indexCast v428
  let c0_147 : Index := 0#32
  ![v429.toNat, 0]

def k0_chk23 (v427 : BitVec 32) : Prop :=
  (∀ a, (k0_off58 v427) a + S1x256.size a ≤ S4096x256.size a)
theorem k0_off58_inb : ∀ (v427 : BitVec 32) (k0_hw23 : k0_chk23 v427), ∀ a, (k0_off58 v427) a + S1x256.size a ≤ S4096x256.size a := fun v427 k0_hw23 => k0_hw23

def k0_off59 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_149 : BitVec 32 := 1024#32
  let v434 : BitVec 32 := Scalar.muli v14 c1024_i32_149
  let c15_i32_150 : BitVec 32 := 15#32
  let v435 : BitVec 32 := Scalar.addi v434 c15_i32_150
  let v436 : Index := Scalar.indexCast v435
  ![v436.toNat]
def k0_off60 (v437 : BitVec 32) : Fin 2 → Nat :=
  let c4095_i32_151 : BitVec 32 := 4095#32
  let v438 : BitVec 32 := Scalar.andi v437 c4095_i32_151
  let v439 : Index := Scalar.indexCast v438
  let c0_152 : Index := 0#32
  ![v439.toNat, 0]

def k0_chk24 (v437 : BitVec 32) : Prop :=
  (∀ a, (k0_off60 v437) a + S1x256.size a ≤ S4096x256.size a)
theorem k0_off60_inb : ∀ (v437 : BitVec 32) (k0_hw24 : k0_chk24 v437), ∀ a, (k0_off60 v437) a + S1x256.size a ≤ S4096x256.size a := fun v437 k0_hw24 => k0_hw24

def k0_off61 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_154 : BitVec 32 := 1024#32
  let v444 : BitVec 32 := Scalar.muli v14 c1024_i32_154
  let c16_i32 : BitVec 32 := 16#32
  let v445 : BitVec 32 := Scalar.addi v444 c16_i32
  let v446 : Index := Scalar.indexCast v445
  ![v446.toNat]
def k0_off62 (v447 : BitVec 32) : Fin 2 → Nat :=
  let c4095_i32_155 : BitVec 32 := 4095#32
  let v448 : BitVec 32 := Scalar.andi v447 c4095_i32_155
  let v449 : Index := Scalar.indexCast v448
  let c0_156 : Index := 0#32
  ![v449.toNat, 0]

def k0_chk25 (v447 : BitVec 32) : Prop :=
  (∀ a, (k0_off62 v447) a + S1x256.size a ≤ S4096x256.size a)
theorem k0_off62_inb : ∀ (v447 : BitVec 32) (k0_hw25 : k0_chk25 v447), ∀ a, (k0_off62 v447) a + S1x256.size a ≤ S4096x256.size a := fun v447 k0_hw25 => k0_hw25

def k0_off63 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_158 : BitVec 32 := 1024#32
  let v454 : BitVec 32 := Scalar.muli v14 c1024_i32_158
  let c17_i32 : BitVec 32 := 17#32
  let v455 : BitVec 32 := Scalar.addi v454 c17_i32
  let v456 : Index := Scalar.indexCast v455
  ![v456.toNat]
def k0_off64 (v457 : BitVec 32) : Fin 2 → Nat :=
  let c4095_i32_159 : BitVec 32 := 4095#32
  let v458 : BitVec 32 := Scalar.andi v457 c4095_i32_159
  let v459 : Index := Scalar.indexCast v458
  let c0_160 : Index := 0#32
  ![v459.toNat, 0]

def k0_chk26 (v457 : BitVec 32) : Prop :=
  (∀ a, (k0_off64 v457) a + S1x256.size a ≤ S4096x256.size a)
theorem k0_off64_inb : ∀ (v457 : BitVec 32) (k0_hw26 : k0_chk26 v457), ∀ a, (k0_off64 v457) a + S1x256.size a ≤ S4096x256.size a := fun v457 k0_hw26 => k0_hw26

def k0_off65 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_162 : BitVec 32 := 1024#32
  let v464 : BitVec 32 := Scalar.muli v14 c1024_i32_162
  let c18_i32 : BitVec 32 := 18#32
  let v465 : BitVec 32 := Scalar.addi v464 c18_i32
  let v466 : Index := Scalar.indexCast v465
  ![v466.toNat]
def k0_off66 (v467 : BitVec 32) : Fin 2 → Nat :=
  let c4095_i32_163 : BitVec 32 := 4095#32
  let v468 : BitVec 32 := Scalar.andi v467 c4095_i32_163
  let v469 : Index := Scalar.indexCast v468
  let c0_164 : Index := 0#32
  ![v469.toNat, 0]

def k0_chk27 (v467 : BitVec 32) : Prop :=
  (∀ a, (k0_off66 v467) a + S1x256.size a ≤ S4096x256.size a)
theorem k0_off66_inb : ∀ (v467 : BitVec 32) (k0_hw27 : k0_chk27 v467), ∀ a, (k0_off66 v467) a + S1x256.size a ≤ S4096x256.size a := fun v467 k0_hw27 => k0_hw27

def k0_off67 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_166 : BitVec 32 := 1024#32
  let v474 : BitVec 32 := Scalar.muli v14 c1024_i32_166
  let c19_i32 : BitVec 32 := 19#32
  let v475 : BitVec 32 := Scalar.addi v474 c19_i32
  let v476 : Index := Scalar.indexCast v475
  ![v476.toNat]
def k0_off68 (v477 : BitVec 32) : Fin 2 → Nat :=
  let c4095_i32_167 : BitVec 32 := 4095#32
  let v478 : BitVec 32 := Scalar.andi v477 c4095_i32_167
  let v479 : Index := Scalar.indexCast v478
  let c0_168 : Index := 0#32
  ![v479.toNat, 0]

def k0_chk28 (v477 : BitVec 32) : Prop :=
  (∀ a, (k0_off68 v477) a + S1x256.size a ≤ S4096x256.size a)
theorem k0_off68_inb : ∀ (v477 : BitVec 32) (k0_hw28 : k0_chk28 v477), ∀ a, (k0_off68 v477) a + S1x256.size a ≤ S4096x256.size a := fun v477 k0_hw28 => k0_hw28

def k0_off69 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_170 : BitVec 32 := 1024#32
  let v484 : BitVec 32 := Scalar.muli v14 c1024_i32_170
  let c20_i32 : BitVec 32 := 20#32
  let v485 : BitVec 32 := Scalar.addi v484 c20_i32
  let v486 : Index := Scalar.indexCast v485
  ![v486.toNat]
def k0_off70 (v487 : BitVec 32) : Fin 2 → Nat :=
  let c4095_i32_171 : BitVec 32 := 4095#32
  let v488 : BitVec 32 := Scalar.andi v487 c4095_i32_171
  let v489 : Index := Scalar.indexCast v488
  let c0_172 : Index := 0#32
  ![v489.toNat, 0]

def k0_chk29 (v487 : BitVec 32) : Prop :=
  (∀ a, (k0_off70 v487) a + S1x256.size a ≤ S4096x256.size a)
theorem k0_off70_inb : ∀ (v487 : BitVec 32) (k0_hw29 : k0_chk29 v487), ∀ a, (k0_off70 v487) a + S1x256.size a ≤ S4096x256.size a := fun v487 k0_hw29 => k0_hw29

def k0_off71 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_174 : BitVec 32 := 1024#32
  let v494 : BitVec 32 := Scalar.muli v14 c1024_i32_174
  let c21_i32 : BitVec 32 := 21#32
  let v495 : BitVec 32 := Scalar.addi v494 c21_i32
  let v496 : Index := Scalar.indexCast v495
  ![v496.toNat]
def k0_off72 (v497 : BitVec 32) : Fin 2 → Nat :=
  let c4095_i32_175 : BitVec 32 := 4095#32
  let v498 : BitVec 32 := Scalar.andi v497 c4095_i32_175
  let v499 : Index := Scalar.indexCast v498
  let c0_176 : Index := 0#32
  ![v499.toNat, 0]

def k0_chk30 (v497 : BitVec 32) : Prop :=
  (∀ a, (k0_off72 v497) a + S1x256.size a ≤ S4096x256.size a)
theorem k0_off72_inb : ∀ (v497 : BitVec 32) (k0_hw30 : k0_chk30 v497), ∀ a, (k0_off72 v497) a + S1x256.size a ≤ S4096x256.size a := fun v497 k0_hw30 => k0_hw30

def k0_off73 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_178 : BitVec 32 := 1024#32
  let v504 : BitVec 32 := Scalar.muli v14 c1024_i32_178
  let c22_i32 : BitVec 32 := 22#32
  let v505 : BitVec 32 := Scalar.addi v504 c22_i32
  let v506 : Index := Scalar.indexCast v505
  ![v506.toNat]
def k0_off74 (v507 : BitVec 32) : Fin 2 → Nat :=
  let c4095_i32_179 : BitVec 32 := 4095#32
  let v508 : BitVec 32 := Scalar.andi v507 c4095_i32_179
  let v509 : Index := Scalar.indexCast v508
  let c0_180 : Index := 0#32
  ![v509.toNat, 0]

def k0_chk31 (v507 : BitVec 32) : Prop :=
  (∀ a, (k0_off74 v507) a + S1x256.size a ≤ S4096x256.size a)
theorem k0_off74_inb : ∀ (v507 : BitVec 32) (k0_hw31 : k0_chk31 v507), ∀ a, (k0_off74 v507) a + S1x256.size a ≤ S4096x256.size a := fun v507 k0_hw31 => k0_hw31

def k0_off75 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_182 : BitVec 32 := 1024#32
  let v514 : BitVec 32 := Scalar.muli v14 c1024_i32_182
  let c23_i32 : BitVec 32 := 23#32
  let v515 : BitVec 32 := Scalar.addi v514 c23_i32
  let v516 : Index := Scalar.indexCast v515
  ![v516.toNat]
def k0_off76 (v517 : BitVec 32) : Fin 2 → Nat :=
  let c4095_i32_183 : BitVec 32 := 4095#32
  let v518 : BitVec 32 := Scalar.andi v517 c4095_i32_183
  let v519 : Index := Scalar.indexCast v518
  let c0_184 : Index := 0#32
  ![v519.toNat, 0]

def k0_chk32 (v517 : BitVec 32) : Prop :=
  (∀ a, (k0_off76 v517) a + S1x256.size a ≤ S4096x256.size a)
theorem k0_off76_inb : ∀ (v517 : BitVec 32) (k0_hw32 : k0_chk32 v517), ∀ a, (k0_off76 v517) a + S1x256.size a ≤ S4096x256.size a := fun v517 k0_hw32 => k0_hw32

def k0_off77 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_186 : BitVec 32 := 1024#32
  let v524 : BitVec 32 := Scalar.muli v14 c1024_i32_186
  let c24_i32 : BitVec 32 := 24#32
  let v525 : BitVec 32 := Scalar.addi v524 c24_i32
  let v526 : Index := Scalar.indexCast v525
  ![v526.toNat]
def k0_off78 (v527 : BitVec 32) : Fin 2 → Nat :=
  let c4095_i32_187 : BitVec 32 := 4095#32
  let v528 : BitVec 32 := Scalar.andi v527 c4095_i32_187
  let v529 : Index := Scalar.indexCast v528
  let c0_188 : Index := 0#32
  ![v529.toNat, 0]

def k0_chk33 (v527 : BitVec 32) : Prop :=
  (∀ a, (k0_off78 v527) a + S1x256.size a ≤ S4096x256.size a)
theorem k0_off78_inb : ∀ (v527 : BitVec 32) (k0_hw33 : k0_chk33 v527), ∀ a, (k0_off78 v527) a + S1x256.size a ≤ S4096x256.size a := fun v527 k0_hw33 => k0_hw33

def k0_off79 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_190 : BitVec 32 := 1024#32
  let v534 : BitVec 32 := Scalar.muli v14 c1024_i32_190
  let c25_i32 : BitVec 32 := 25#32
  let v535 : BitVec 32 := Scalar.addi v534 c25_i32
  let v536 : Index := Scalar.indexCast v535
  ![v536.toNat]
def k0_off80 (v537 : BitVec 32) : Fin 2 → Nat :=
  let c4095_i32_191 : BitVec 32 := 4095#32
  let v538 : BitVec 32 := Scalar.andi v537 c4095_i32_191
  let v539 : Index := Scalar.indexCast v538
  let c0_192 : Index := 0#32
  ![v539.toNat, 0]

def k0_chk34 (v537 : BitVec 32) : Prop :=
  (∀ a, (k0_off80 v537) a + S1x256.size a ≤ S4096x256.size a)
theorem k0_off80_inb : ∀ (v537 : BitVec 32) (k0_hw34 : k0_chk34 v537), ∀ a, (k0_off80 v537) a + S1x256.size a ≤ S4096x256.size a := fun v537 k0_hw34 => k0_hw34

def k0_off81 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_194 : BitVec 32 := 1024#32
  let v544 : BitVec 32 := Scalar.muli v14 c1024_i32_194
  let c26_i32 : BitVec 32 := 26#32
  let v545 : BitVec 32 := Scalar.addi v544 c26_i32
  let v546 : Index := Scalar.indexCast v545
  ![v546.toNat]
def k0_off82 (v547 : BitVec 32) : Fin 2 → Nat :=
  let c4095_i32_195 : BitVec 32 := 4095#32
  let v548 : BitVec 32 := Scalar.andi v547 c4095_i32_195
  let v549 : Index := Scalar.indexCast v548
  let c0_196 : Index := 0#32
  ![v549.toNat, 0]

def k0_chk35 (v547 : BitVec 32) : Prop :=
  (∀ a, (k0_off82 v547) a + S1x256.size a ≤ S4096x256.size a)
theorem k0_off82_inb : ∀ (v547 : BitVec 32) (k0_hw35 : k0_chk35 v547), ∀ a, (k0_off82 v547) a + S1x256.size a ≤ S4096x256.size a := fun v547 k0_hw35 => k0_hw35

def k0_off83 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_198 : BitVec 32 := 1024#32
  let v554 : BitVec 32 := Scalar.muli v14 c1024_i32_198
  let c27_i32 : BitVec 32 := 27#32
  let v555 : BitVec 32 := Scalar.addi v554 c27_i32
  let v556 : Index := Scalar.indexCast v555
  ![v556.toNat]
def k0_off84 (v557 : BitVec 32) : Fin 2 → Nat :=
  let c4095_i32_199 : BitVec 32 := 4095#32
  let v558 : BitVec 32 := Scalar.andi v557 c4095_i32_199
  let v559 : Index := Scalar.indexCast v558
  let c0_200 : Index := 0#32
  ![v559.toNat, 0]

def k0_chk36 (v557 : BitVec 32) : Prop :=
  (∀ a, (k0_off84 v557) a + S1x256.size a ≤ S4096x256.size a)
theorem k0_off84_inb : ∀ (v557 : BitVec 32) (k0_hw36 : k0_chk36 v557), ∀ a, (k0_off84 v557) a + S1x256.size a ≤ S4096x256.size a := fun v557 k0_hw36 => k0_hw36

def k0_off85 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_202 : BitVec 32 := 1024#32
  let v564 : BitVec 32 := Scalar.muli v14 c1024_i32_202
  let c28_i32 : BitVec 32 := 28#32
  let v565 : BitVec 32 := Scalar.addi v564 c28_i32
  let v566 : Index := Scalar.indexCast v565
  ![v566.toNat]
def k0_off86 (v567 : BitVec 32) : Fin 2 → Nat :=
  let c4095_i32_203 : BitVec 32 := 4095#32
  let v568 : BitVec 32 := Scalar.andi v567 c4095_i32_203
  let v569 : Index := Scalar.indexCast v568
  let c0_204 : Index := 0#32
  ![v569.toNat, 0]

def k0_chk37 (v567 : BitVec 32) : Prop :=
  (∀ a, (k0_off86 v567) a + S1x256.size a ≤ S4096x256.size a)
theorem k0_off86_inb : ∀ (v567 : BitVec 32) (k0_hw37 : k0_chk37 v567), ∀ a, (k0_off86 v567) a + S1x256.size a ≤ S4096x256.size a := fun v567 k0_hw37 => k0_hw37

def k0_off87 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_206 : BitVec 32 := 1024#32
  let v574 : BitVec 32 := Scalar.muli v14 c1024_i32_206
  let c29_i32 : BitVec 32 := 29#32
  let v575 : BitVec 32 := Scalar.addi v574 c29_i32
  let v576 : Index := Scalar.indexCast v575
  ![v576.toNat]
def k0_off88 (v577 : BitVec 32) : Fin 2 → Nat :=
  let c4095_i32_207 : BitVec 32 := 4095#32
  let v578 : BitVec 32 := Scalar.andi v577 c4095_i32_207
  let v579 : Index := Scalar.indexCast v578
  let c0_208 : Index := 0#32
  ![v579.toNat, 0]

def k0_chk38 (v577 : BitVec 32) : Prop :=
  (∀ a, (k0_off88 v577) a + S1x256.size a ≤ S4096x256.size a)
theorem k0_off88_inb : ∀ (v577 : BitVec 32) (k0_hw38 : k0_chk38 v577), ∀ a, (k0_off88 v577) a + S1x256.size a ≤ S4096x256.size a := fun v577 k0_hw38 => k0_hw38

def k0_off89 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_210 : BitVec 32 := 1024#32
  let v584 : BitVec 32 := Scalar.muli v14 c1024_i32_210
  let c30_i32 : BitVec 32 := 30#32
  let v585 : BitVec 32 := Scalar.addi v584 c30_i32
  let v586 : Index := Scalar.indexCast v585
  ![v586.toNat]
def k0_off90 (v587 : BitVec 32) : Fin 2 → Nat :=
  let c4095_i32_211 : BitVec 32 := 4095#32
  let v588 : BitVec 32 := Scalar.andi v587 c4095_i32_211
  let v589 : Index := Scalar.indexCast v588
  let c0_212 : Index := 0#32
  ![v589.toNat, 0]

def k0_chk39 (v587 : BitVec 32) : Prop :=
  (∀ a, (k0_off90 v587) a + S1x256.size a ≤ S4096x256.size a)
theorem k0_off90_inb : ∀ (v587 : BitVec 32) (k0_hw39 : k0_chk39 v587), ∀ a, (k0_off90 v587) a + S1x256.size a ≤ S4096x256.size a := fun v587 k0_hw39 => k0_hw39

def k0_off91 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_214 : BitVec 32 := 1024#32
  let v594 : BitVec 32 := Scalar.muli v14 c1024_i32_214
  let c31_i32 : BitVec 32 := 31#32
  let v595 : BitVec 32 := Scalar.addi v594 c31_i32
  let v596 : Index := Scalar.indexCast v595
  ![v596.toNat]
def k0_off92 (v597 : BitVec 32) : Fin 2 → Nat :=
  let c4095_i32_215 : BitVec 32 := 4095#32
  let v598 : BitVec 32 := Scalar.andi v597 c4095_i32_215
  let v599 : Index := Scalar.indexCast v598
  let c0_216 : Index := 0#32
  ![v599.toNat, 0]

def k0_chk40 (v597 : BitVec 32) : Prop :=
  (∀ a, (k0_off92 v597) a + S1x256.size a ≤ S4096x256.size a)
theorem k0_off92_inb : ∀ (v597 : BitVec 32) (k0_hw40 : k0_chk40 v597), ∀ a, (k0_off92 v597) a + S1x256.size a ≤ S4096x256.size a := fun v597 k0_hw40 => k0_hw40

def k0_off93 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_218 : BitVec 32 := 1024#32
  let v604 : BitVec 32 := Scalar.muli v14 c1024_i32_218
  let c32_i32 : BitVec 32 := 32#32
  let v605 : BitVec 32 := Scalar.addi v604 c32_i32
  let v606 : Index := Scalar.indexCast v605
  ![v606.toNat]
def k0_off94 (v607 : BitVec 32) : Fin 2 → Nat :=
  let c4095_i32_219 : BitVec 32 := 4095#32
  let v608 : BitVec 32 := Scalar.andi v607 c4095_i32_219
  let v609 : Index := Scalar.indexCast v608
  let c0_220 : Index := 0#32
  ![v609.toNat, 0]

def k0_chk41 (v607 : BitVec 32) : Prop :=
  (∀ a, (k0_off94 v607) a + S1x256.size a ≤ S4096x256.size a)
theorem k0_off94_inb : ∀ (v607 : BitVec 32) (k0_hw41 : k0_chk41 v607), ∀ a, (k0_off94 v607) a + S1x256.size a ≤ S4096x256.size a := fun v607 k0_hw41 => k0_hw41

def k0_off95 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_222 : BitVec 32 := 1024#32
  let v614 : BitVec 32 := Scalar.muli v14 c1024_i32_222
  let c33_i32 : BitVec 32 := 33#32
  let v615 : BitVec 32 := Scalar.addi v614 c33_i32
  let v616 : Index := Scalar.indexCast v615
  ![v616.toNat]
def k0_off96 (v617 : BitVec 32) : Fin 2 → Nat :=
  let c4095_i32_223 : BitVec 32 := 4095#32
  let v618 : BitVec 32 := Scalar.andi v617 c4095_i32_223
  let v619 : Index := Scalar.indexCast v618
  let c0_224 : Index := 0#32
  ![v619.toNat, 0]

def k0_chk42 (v617 : BitVec 32) : Prop :=
  (∀ a, (k0_off96 v617) a + S1x256.size a ≤ S4096x256.size a)
theorem k0_off96_inb : ∀ (v617 : BitVec 32) (k0_hw42 : k0_chk42 v617), ∀ a, (k0_off96 v617) a + S1x256.size a ≤ S4096x256.size a := fun v617 k0_hw42 => k0_hw42

def k0_off97 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_226 : BitVec 32 := 1024#32
  let v624 : BitVec 32 := Scalar.muli v14 c1024_i32_226
  let c34_i32 : BitVec 32 := 34#32
  let v625 : BitVec 32 := Scalar.addi v624 c34_i32
  let v626 : Index := Scalar.indexCast v625
  ![v626.toNat]
def k0_off98 (v627 : BitVec 32) : Fin 2 → Nat :=
  let c4095_i32_227 : BitVec 32 := 4095#32
  let v628 : BitVec 32 := Scalar.andi v627 c4095_i32_227
  let v629 : Index := Scalar.indexCast v628
  let c0_228 : Index := 0#32
  ![v629.toNat, 0]

def k0_chk43 (v627 : BitVec 32) : Prop :=
  (∀ a, (k0_off98 v627) a + S1x256.size a ≤ S4096x256.size a)
theorem k0_off98_inb : ∀ (v627 : BitVec 32) (k0_hw43 : k0_chk43 v627), ∀ a, (k0_off98 v627) a + S1x256.size a ≤ S4096x256.size a := fun v627 k0_hw43 => k0_hw43

def k0_off99 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_230 : BitVec 32 := 1024#32
  let v634 : BitVec 32 := Scalar.muli v14 c1024_i32_230
  let c35_i32 : BitVec 32 := 35#32
  let v635 : BitVec 32 := Scalar.addi v634 c35_i32
  let v636 : Index := Scalar.indexCast v635
  ![v636.toNat]
def k0_off100 (v637 : BitVec 32) : Fin 2 → Nat :=
  let c4095_i32_231 : BitVec 32 := 4095#32
  let v638 : BitVec 32 := Scalar.andi v637 c4095_i32_231
  let v639 : Index := Scalar.indexCast v638
  let c0_232 : Index := 0#32
  ![v639.toNat, 0]

def k0_chk44 (v637 : BitVec 32) : Prop :=
  (∀ a, (k0_off100 v637) a + S1x256.size a ≤ S4096x256.size a)
theorem k0_off100_inb : ∀ (v637 : BitVec 32) (k0_hw44 : k0_chk44 v637), ∀ a, (k0_off100 v637) a + S1x256.size a ≤ S4096x256.size a := fun v637 k0_hw44 => k0_hw44

def k0_off101 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_234 : BitVec 32 := 1024#32
  let v644 : BitVec 32 := Scalar.muli v14 c1024_i32_234
  let c36_i32 : BitVec 32 := 36#32
  let v645 : BitVec 32 := Scalar.addi v644 c36_i32
  let v646 : Index := Scalar.indexCast v645
  ![v646.toNat]
def k0_off102 (v647 : BitVec 32) : Fin 2 → Nat :=
  let c4095_i32_235 : BitVec 32 := 4095#32
  let v648 : BitVec 32 := Scalar.andi v647 c4095_i32_235
  let v649 : Index := Scalar.indexCast v648
  let c0_236 : Index := 0#32
  ![v649.toNat, 0]

def k0_chk45 (v647 : BitVec 32) : Prop :=
  (∀ a, (k0_off102 v647) a + S1x256.size a ≤ S4096x256.size a)
theorem k0_off102_inb : ∀ (v647 : BitVec 32) (k0_hw45 : k0_chk45 v647), ∀ a, (k0_off102 v647) a + S1x256.size a ≤ S4096x256.size a := fun v647 k0_hw45 => k0_hw45

def k0_off103 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_238 : BitVec 32 := 1024#32
  let v654 : BitVec 32 := Scalar.muli v14 c1024_i32_238
  let c37_i32 : BitVec 32 := 37#32
  let v655 : BitVec 32 := Scalar.addi v654 c37_i32
  let v656 : Index := Scalar.indexCast v655
  ![v656.toNat]
def k0_off104 (v657 : BitVec 32) : Fin 2 → Nat :=
  let c4095_i32_239 : BitVec 32 := 4095#32
  let v658 : BitVec 32 := Scalar.andi v657 c4095_i32_239
  let v659 : Index := Scalar.indexCast v658
  let c0_240 : Index := 0#32
  ![v659.toNat, 0]

def k0_chk46 (v657 : BitVec 32) : Prop :=
  (∀ a, (k0_off104 v657) a + S1x256.size a ≤ S4096x256.size a)
theorem k0_off104_inb : ∀ (v657 : BitVec 32) (k0_hw46 : k0_chk46 v657), ∀ a, (k0_off104 v657) a + S1x256.size a ≤ S4096x256.size a := fun v657 k0_hw46 => k0_hw46

def k0_off105 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v721 : Index := Scalar.indexCast v12
  let c0_258 : Index := 0#32
  let c0_259 : Index := 0#32
  ![v721.toNat, 0, 0]
def k0_off106 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v782 : Index := Scalar.indexCast v12
  let c0_277 : Index := 0#32
  let c256_278 : Index := 256#32
  ![v782.toNat, 0, 256]
def k0_off107 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v844 : Index := Scalar.indexCast v12
  let c0_296 : Index := 0#32
  let c512_297 : Index := 512#32
  ![v844.toNat, 0, 512]
def k0_off108 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v906 : Index := Scalar.indexCast v12
  let c0_315 : Index := 0#32
  let c768_316 : Index := 768#32
  ![v906.toNat, 0, 768]
def k0_off109 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_322 : BitVec 32 := 1024#32
  let v916 : BitVec 32 := Scalar.muli v14 c1024_i32_322
  let c38_i32 : BitVec 32 := 38#32
  let v917 : BitVec 32 := Scalar.addi v916 c38_i32
  let v918 : Index := Scalar.indexCast v917
  ![v918.toNat]
def k0_off110 (v919 : BitVec 32) : Fin 2 → Nat :=
  let c4095_i32_323 : BitVec 32 := 4095#32
  let v920 : BitVec 32 := Scalar.andi v919 c4095_i32_323
  let v921 : Index := Scalar.indexCast v920
  let c0_324 : Index := 0#32
  ![v921.toNat, 0]

def k0_chk47 (v919 : BitVec 32) : Prop :=
  (∀ a, (k0_off110 v919) a + S1x256.size a ≤ S4096x256.size a)
theorem k0_off110_inb : ∀ (v919 : BitVec 32) (k0_hw47 : k0_chk47 v919), ∀ a, (k0_off110 v919) a + S1x256.size a ≤ S4096x256.size a := fun v919 k0_hw47 => k0_hw47

def k0_off111 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_326 : BitVec 32 := 1024#32
  let v926 : BitVec 32 := Scalar.muli v14 c1024_i32_326
  let c39_i32 : BitVec 32 := 39#32
  let v927 : BitVec 32 := Scalar.addi v926 c39_i32
  let v928 : Index := Scalar.indexCast v927
  ![v928.toNat]
def k0_off112 (v929 : BitVec 32) : Fin 2 → Nat :=
  let c4095_i32_327 : BitVec 32 := 4095#32
  let v930 : BitVec 32 := Scalar.andi v929 c4095_i32_327
  let v931 : Index := Scalar.indexCast v930
  let c0_328 : Index := 0#32
  ![v931.toNat, 0]

def k0_chk48 (v929 : BitVec 32) : Prop :=
  (∀ a, (k0_off112 v929) a + S1x256.size a ≤ S4096x256.size a)
theorem k0_off112_inb : ∀ (v929 : BitVec 32) (k0_hw48 : k0_chk48 v929), ∀ a, (k0_off112 v929) a + S1x256.size a ≤ S4096x256.size a := fun v929 k0_hw48 => k0_hw48

def k0_off113 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_330 : BitVec 32 := 1024#32
  let v936 : BitVec 32 := Scalar.muli v14 c1024_i32_330
  let c40_i32 : BitVec 32 := 40#32
  let v937 : BitVec 32 := Scalar.addi v936 c40_i32
  let v938 : Index := Scalar.indexCast v937
  ![v938.toNat]
def k0_off114 (v939 : BitVec 32) : Fin 2 → Nat :=
  let c4095_i32_331 : BitVec 32 := 4095#32
  let v940 : BitVec 32 := Scalar.andi v939 c4095_i32_331
  let v941 : Index := Scalar.indexCast v940
  let c0_332 : Index := 0#32
  ![v941.toNat, 0]

def k0_chk49 (v939 : BitVec 32) : Prop :=
  (∀ a, (k0_off114 v939) a + S1x256.size a ≤ S4096x256.size a)
theorem k0_off114_inb : ∀ (v939 : BitVec 32) (k0_hw49 : k0_chk49 v939), ∀ a, (k0_off114 v939) a + S1x256.size a ≤ S4096x256.size a := fun v939 k0_hw49 => k0_hw49

def k0_off115 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_334 : BitVec 32 := 1024#32
  let v946 : BitVec 32 := Scalar.muli v14 c1024_i32_334
  let c41_i32 : BitVec 32 := 41#32
  let v947 : BitVec 32 := Scalar.addi v946 c41_i32
  let v948 : Index := Scalar.indexCast v947
  ![v948.toNat]
def k0_off116 (v949 : BitVec 32) : Fin 2 → Nat :=
  let c4095_i32_335 : BitVec 32 := 4095#32
  let v950 : BitVec 32 := Scalar.andi v949 c4095_i32_335
  let v951 : Index := Scalar.indexCast v950
  let c0_336 : Index := 0#32
  ![v951.toNat, 0]

def k0_chk50 (v949 : BitVec 32) : Prop :=
  (∀ a, (k0_off116 v949) a + S1x256.size a ≤ S4096x256.size a)
theorem k0_off116_inb : ∀ (v949 : BitVec 32) (k0_hw50 : k0_chk50 v949), ∀ a, (k0_off116 v949) a + S1x256.size a ≤ S4096x256.size a := fun v949 k0_hw50 => k0_hw50

def k0_off117 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_338 : BitVec 32 := 1024#32
  let v956 : BitVec 32 := Scalar.muli v14 c1024_i32_338
  let c42_i32 : BitVec 32 := 42#32
  let v957 : BitVec 32 := Scalar.addi v956 c42_i32
  let v958 : Index := Scalar.indexCast v957
  ![v958.toNat]
def k0_off118 (v959 : BitVec 32) : Fin 2 → Nat :=
  let c4095_i32_339 : BitVec 32 := 4095#32
  let v960 : BitVec 32 := Scalar.andi v959 c4095_i32_339
  let v961 : Index := Scalar.indexCast v960
  let c0_340 : Index := 0#32
  ![v961.toNat, 0]

def k0_chk51 (v959 : BitVec 32) : Prop :=
  (∀ a, (k0_off118 v959) a + S1x256.size a ≤ S4096x256.size a)
theorem k0_off118_inb : ∀ (v959 : BitVec 32) (k0_hw51 : k0_chk51 v959), ∀ a, (k0_off118 v959) a + S1x256.size a ≤ S4096x256.size a := fun v959 k0_hw51 => k0_hw51

def k0_off119 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_342 : BitVec 32 := 1024#32
  let v966 : BitVec 32 := Scalar.muli v14 c1024_i32_342
  let c43_i32 : BitVec 32 := 43#32
  let v967 : BitVec 32 := Scalar.addi v966 c43_i32
  let v968 : Index := Scalar.indexCast v967
  ![v968.toNat]
def k0_off120 (v969 : BitVec 32) : Fin 2 → Nat :=
  let c4095_i32_343 : BitVec 32 := 4095#32
  let v970 : BitVec 32 := Scalar.andi v969 c4095_i32_343
  let v971 : Index := Scalar.indexCast v970
  let c0_344 : Index := 0#32
  ![v971.toNat, 0]

def k0_chk52 (v969 : BitVec 32) : Prop :=
  (∀ a, (k0_off120 v969) a + S1x256.size a ≤ S4096x256.size a)
theorem k0_off120_inb : ∀ (v969 : BitVec 32) (k0_hw52 : k0_chk52 v969), ∀ a, (k0_off120 v969) a + S1x256.size a ≤ S4096x256.size a := fun v969 k0_hw52 => k0_hw52

def k0_off121 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_346 : BitVec 32 := 1024#32
  let v976 : BitVec 32 := Scalar.muli v14 c1024_i32_346
  let c44_i32 : BitVec 32 := 44#32
  let v977 : BitVec 32 := Scalar.addi v976 c44_i32
  let v978 : Index := Scalar.indexCast v977
  ![v978.toNat]
def k0_off122 (v979 : BitVec 32) : Fin 2 → Nat :=
  let c4095_i32_347 : BitVec 32 := 4095#32
  let v980 : BitVec 32 := Scalar.andi v979 c4095_i32_347
  let v981 : Index := Scalar.indexCast v980
  let c0_348 : Index := 0#32
  ![v981.toNat, 0]

def k0_chk53 (v979 : BitVec 32) : Prop :=
  (∀ a, (k0_off122 v979) a + S1x256.size a ≤ S4096x256.size a)
theorem k0_off122_inb : ∀ (v979 : BitVec 32) (k0_hw53 : k0_chk53 v979), ∀ a, (k0_off122 v979) a + S1x256.size a ≤ S4096x256.size a := fun v979 k0_hw53 => k0_hw53

def k0_off123 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_350 : BitVec 32 := 1024#32
  let v986 : BitVec 32 := Scalar.muli v14 c1024_i32_350
  let c45_i32 : BitVec 32 := 45#32
  let v987 : BitVec 32 := Scalar.addi v986 c45_i32
  let v988 : Index := Scalar.indexCast v987
  ![v988.toNat]
def k0_off124 (v989 : BitVec 32) : Fin 2 → Nat :=
  let c4095_i32_351 : BitVec 32 := 4095#32
  let v990 : BitVec 32 := Scalar.andi v989 c4095_i32_351
  let v991 : Index := Scalar.indexCast v990
  let c0_352 : Index := 0#32
  ![v991.toNat, 0]

def k0_chk54 (v989 : BitVec 32) : Prop :=
  (∀ a, (k0_off124 v989) a + S1x256.size a ≤ S4096x256.size a)
theorem k0_off124_inb : ∀ (v989 : BitVec 32) (k0_hw54 : k0_chk54 v989), ∀ a, (k0_off124 v989) a + S1x256.size a ≤ S4096x256.size a := fun v989 k0_hw54 => k0_hw54

def k0_off125 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_354 : BitVec 32 := 1024#32
  let v996 : BitVec 32 := Scalar.muli v14 c1024_i32_354
  let c46_i32 : BitVec 32 := 46#32
  let v997 : BitVec 32 := Scalar.addi v996 c46_i32
  let v998 : Index := Scalar.indexCast v997
  ![v998.toNat]
def k0_off126 (v999 : BitVec 32) : Fin 2 → Nat :=
  let c4095_i32_355 : BitVec 32 := 4095#32
  let v1000 : BitVec 32 := Scalar.andi v999 c4095_i32_355
  let v1001 : Index := Scalar.indexCast v1000
  let c0_356 : Index := 0#32
  ![v1001.toNat, 0]

def k0_chk55 (v999 : BitVec 32) : Prop :=
  (∀ a, (k0_off126 v999) a + S1x256.size a ≤ S4096x256.size a)
theorem k0_off126_inb : ∀ (v999 : BitVec 32) (k0_hw55 : k0_chk55 v999), ∀ a, (k0_off126 v999) a + S1x256.size a ≤ S4096x256.size a := fun v999 k0_hw55 => k0_hw55

def k0_off127 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_358 : BitVec 32 := 1024#32
  let v1006 : BitVec 32 := Scalar.muli v14 c1024_i32_358
  let c47_i32 : BitVec 32 := 47#32
  let v1007 : BitVec 32 := Scalar.addi v1006 c47_i32
  let v1008 : Index := Scalar.indexCast v1007
  ![v1008.toNat]
def k0_off128 (v1009 : BitVec 32) : Fin 2 → Nat :=
  let c4095_i32_359 : BitVec 32 := 4095#32
  let v1010 : BitVec 32 := Scalar.andi v1009 c4095_i32_359
  let v1011 : Index := Scalar.indexCast v1010
  let c0_360 : Index := 0#32
  ![v1011.toNat, 0]

def k0_chk56 (v1009 : BitVec 32) : Prop :=
  (∀ a, (k0_off128 v1009) a + S1x256.size a ≤ S4096x256.size a)
theorem k0_off128_inb : ∀ (v1009 : BitVec 32) (k0_hw56 : k0_chk56 v1009), ∀ a, (k0_off128 v1009) a + S1x256.size a ≤ S4096x256.size a := fun v1009 k0_hw56 => k0_hw56

def k0_off129 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_362 : BitVec 32 := 1024#32
  let v1016 : BitVec 32 := Scalar.muli v14 c1024_i32_362
  let c48_i32 : BitVec 32 := 48#32
  let v1017 : BitVec 32 := Scalar.addi v1016 c48_i32
  let v1018 : Index := Scalar.indexCast v1017
  ![v1018.toNat]
def k0_off130 (v1019 : BitVec 32) : Fin 2 → Nat :=
  let c4095_i32_363 : BitVec 32 := 4095#32
  let v1020 : BitVec 32 := Scalar.andi v1019 c4095_i32_363
  let v1021 : Index := Scalar.indexCast v1020
  let c0_364 : Index := 0#32
  ![v1021.toNat, 0]

def k0_chk57 (v1019 : BitVec 32) : Prop :=
  (∀ a, (k0_off130 v1019) a + S1x256.size a ≤ S4096x256.size a)
theorem k0_off130_inb : ∀ (v1019 : BitVec 32) (k0_hw57 : k0_chk57 v1019), ∀ a, (k0_off130 v1019) a + S1x256.size a ≤ S4096x256.size a := fun v1019 k0_hw57 => k0_hw57

def k0_off131 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_366 : BitVec 32 := 1024#32
  let v1026 : BitVec 32 := Scalar.muli v14 c1024_i32_366
  let c49_i32 : BitVec 32 := 49#32
  let v1027 : BitVec 32 := Scalar.addi v1026 c49_i32
  let v1028 : Index := Scalar.indexCast v1027
  ![v1028.toNat]
def k0_off132 (v1029 : BitVec 32) : Fin 2 → Nat :=
  let c4095_i32_367 : BitVec 32 := 4095#32
  let v1030 : BitVec 32 := Scalar.andi v1029 c4095_i32_367
  let v1031 : Index := Scalar.indexCast v1030
  let c0_368 : Index := 0#32
  ![v1031.toNat, 0]

def k0_chk58 (v1029 : BitVec 32) : Prop :=
  (∀ a, (k0_off132 v1029) a + S1x256.size a ≤ S4096x256.size a)
theorem k0_off132_inb : ∀ (v1029 : BitVec 32) (k0_hw58 : k0_chk58 v1029), ∀ a, (k0_off132 v1029) a + S1x256.size a ≤ S4096x256.size a := fun v1029 k0_hw58 => k0_hw58

def k0_off133 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_370 : BitVec 32 := 1024#32
  let v1036 : BitVec 32 := Scalar.muli v14 c1024_i32_370
  let c50_i32 : BitVec 32 := 50#32
  let v1037 : BitVec 32 := Scalar.addi v1036 c50_i32
  let v1038 : Index := Scalar.indexCast v1037
  ![v1038.toNat]
def k0_off134 (v1039 : BitVec 32) : Fin 2 → Nat :=
  let c4095_i32_371 : BitVec 32 := 4095#32
  let v1040 : BitVec 32 := Scalar.andi v1039 c4095_i32_371
  let v1041 : Index := Scalar.indexCast v1040
  let c0_372 : Index := 0#32
  ![v1041.toNat, 0]

def k0_chk59 (v1039 : BitVec 32) : Prop :=
  (∀ a, (k0_off134 v1039) a + S1x256.size a ≤ S4096x256.size a)
theorem k0_off134_inb : ∀ (v1039 : BitVec 32) (k0_hw59 : k0_chk59 v1039), ∀ a, (k0_off134 v1039) a + S1x256.size a ≤ S4096x256.size a := fun v1039 k0_hw59 => k0_hw59

def k0_off135 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_374 : BitVec 32 := 1024#32
  let v1046 : BitVec 32 := Scalar.muli v14 c1024_i32_374
  let c51_i32 : BitVec 32 := 51#32
  let v1047 : BitVec 32 := Scalar.addi v1046 c51_i32
  let v1048 : Index := Scalar.indexCast v1047
  ![v1048.toNat]
def k0_off136 (v1049 : BitVec 32) : Fin 2 → Nat :=
  let c4095_i32_375 : BitVec 32 := 4095#32
  let v1050 : BitVec 32 := Scalar.andi v1049 c4095_i32_375
  let v1051 : Index := Scalar.indexCast v1050
  let c0_376 : Index := 0#32
  ![v1051.toNat, 0]

def k0_chk60 (v1049 : BitVec 32) : Prop :=
  (∀ a, (k0_off136 v1049) a + S1x256.size a ≤ S4096x256.size a)
theorem k0_off136_inb : ∀ (v1049 : BitVec 32) (k0_hw60 : k0_chk60 v1049), ∀ a, (k0_off136 v1049) a + S1x256.size a ≤ S4096x256.size a := fun v1049 k0_hw60 => k0_hw60

def k0_off137 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_378 : BitVec 32 := 1024#32
  let v1056 : BitVec 32 := Scalar.muli v14 c1024_i32_378
  let c52_i32 : BitVec 32 := 52#32
  let v1057 : BitVec 32 := Scalar.addi v1056 c52_i32
  let v1058 : Index := Scalar.indexCast v1057
  ![v1058.toNat]
def k0_off138 (v1059 : BitVec 32) : Fin 2 → Nat :=
  let c4095_i32_379 : BitVec 32 := 4095#32
  let v1060 : BitVec 32 := Scalar.andi v1059 c4095_i32_379
  let v1061 : Index := Scalar.indexCast v1060
  let c0_380 : Index := 0#32
  ![v1061.toNat, 0]

def k0_chk61 (v1059 : BitVec 32) : Prop :=
  (∀ a, (k0_off138 v1059) a + S1x256.size a ≤ S4096x256.size a)
theorem k0_off138_inb : ∀ (v1059 : BitVec 32) (k0_hw61 : k0_chk61 v1059), ∀ a, (k0_off138 v1059) a + S1x256.size a ≤ S4096x256.size a := fun v1059 k0_hw61 => k0_hw61

def k0_off139 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_382 : BitVec 32 := 1024#32
  let v1066 : BitVec 32 := Scalar.muli v14 c1024_i32_382
  let c53_i32 : BitVec 32 := 53#32
  let v1067 : BitVec 32 := Scalar.addi v1066 c53_i32
  let v1068 : Index := Scalar.indexCast v1067
  ![v1068.toNat]
def k0_off140 (v1069 : BitVec 32) : Fin 2 → Nat :=
  let c4095_i32_383 : BitVec 32 := 4095#32
  let v1070 : BitVec 32 := Scalar.andi v1069 c4095_i32_383
  let v1071 : Index := Scalar.indexCast v1070
  let c0_384 : Index := 0#32
  ![v1071.toNat, 0]

def k0_chk62 (v1069 : BitVec 32) : Prop :=
  (∀ a, (k0_off140 v1069) a + S1x256.size a ≤ S4096x256.size a)
theorem k0_off140_inb : ∀ (v1069 : BitVec 32) (k0_hw62 : k0_chk62 v1069), ∀ a, (k0_off140 v1069) a + S1x256.size a ≤ S4096x256.size a := fun v1069 k0_hw62 => k0_hw62

def k0_off141 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_386 : BitVec 32 := 1024#32
  let v1076 : BitVec 32 := Scalar.muli v14 c1024_i32_386
  let c54_i32 : BitVec 32 := 54#32
  let v1077 : BitVec 32 := Scalar.addi v1076 c54_i32
  let v1078 : Index := Scalar.indexCast v1077
  ![v1078.toNat]
def k0_off142 (v1079 : BitVec 32) : Fin 2 → Nat :=
  let c4095_i32_387 : BitVec 32 := 4095#32
  let v1080 : BitVec 32 := Scalar.andi v1079 c4095_i32_387
  let v1081 : Index := Scalar.indexCast v1080
  let c0_388 : Index := 0#32
  ![v1081.toNat, 0]

def k0_chk63 (v1079 : BitVec 32) : Prop :=
  (∀ a, (k0_off142 v1079) a + S1x256.size a ≤ S4096x256.size a)
theorem k0_off142_inb : ∀ (v1079 : BitVec 32) (k0_hw63 : k0_chk63 v1079), ∀ a, (k0_off142 v1079) a + S1x256.size a ≤ S4096x256.size a := fun v1079 k0_hw63 => k0_hw63

def k0_off143 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_390 : BitVec 32 := 1024#32
  let v1086 : BitVec 32 := Scalar.muli v14 c1024_i32_390
  let c55_i32 : BitVec 32 := 55#32
  let v1087 : BitVec 32 := Scalar.addi v1086 c55_i32
  let v1088 : Index := Scalar.indexCast v1087
  ![v1088.toNat]
def k0_off144 (v1089 : BitVec 32) : Fin 2 → Nat :=
  let c4095_i32_391 : BitVec 32 := 4095#32
  let v1090 : BitVec 32 := Scalar.andi v1089 c4095_i32_391
  let v1091 : Index := Scalar.indexCast v1090
  let c0_392 : Index := 0#32
  ![v1091.toNat, 0]

def k0_chk64 (v1089 : BitVec 32) : Prop :=
  (∀ a, (k0_off144 v1089) a + S1x256.size a ≤ S4096x256.size a)
theorem k0_off144_inb : ∀ (v1089 : BitVec 32) (k0_hw64 : k0_chk64 v1089), ∀ a, (k0_off144 v1089) a + S1x256.size a ≤ S4096x256.size a := fun v1089 k0_hw64 => k0_hw64

def k0_off145 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_394 : BitVec 32 := 1024#32
  let v1096 : BitVec 32 := Scalar.muli v14 c1024_i32_394
  let c56_i32 : BitVec 32 := 56#32
  let v1097 : BitVec 32 := Scalar.addi v1096 c56_i32
  let v1098 : Index := Scalar.indexCast v1097
  ![v1098.toNat]
def k0_off146 (v1099 : BitVec 32) : Fin 2 → Nat :=
  let c4095_i32_395 : BitVec 32 := 4095#32
  let v1100 : BitVec 32 := Scalar.andi v1099 c4095_i32_395
  let v1101 : Index := Scalar.indexCast v1100
  let c0_396 : Index := 0#32
  ![v1101.toNat, 0]

def k0_chk65 (v1099 : BitVec 32) : Prop :=
  (∀ a, (k0_off146 v1099) a + S1x256.size a ≤ S4096x256.size a)
theorem k0_off146_inb : ∀ (v1099 : BitVec 32) (k0_hw65 : k0_chk65 v1099), ∀ a, (k0_off146 v1099) a + S1x256.size a ≤ S4096x256.size a := fun v1099 k0_hw65 => k0_hw65

def k0_off147 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_398 : BitVec 32 := 1024#32
  let v1106 : BitVec 32 := Scalar.muli v14 c1024_i32_398
  let c57_i32 : BitVec 32 := 57#32
  let v1107 : BitVec 32 := Scalar.addi v1106 c57_i32
  let v1108 : Index := Scalar.indexCast v1107
  ![v1108.toNat]
def k0_off148 (v1109 : BitVec 32) : Fin 2 → Nat :=
  let c4095_i32_399 : BitVec 32 := 4095#32
  let v1110 : BitVec 32 := Scalar.andi v1109 c4095_i32_399
  let v1111 : Index := Scalar.indexCast v1110
  let c0_400 : Index := 0#32
  ![v1111.toNat, 0]

def k0_chk66 (v1109 : BitVec 32) : Prop :=
  (∀ a, (k0_off148 v1109) a + S1x256.size a ≤ S4096x256.size a)
theorem k0_off148_inb : ∀ (v1109 : BitVec 32) (k0_hw66 : k0_chk66 v1109), ∀ a, (k0_off148 v1109) a + S1x256.size a ≤ S4096x256.size a := fun v1109 k0_hw66 => k0_hw66

def k0_off149 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_402 : BitVec 32 := 1024#32
  let v1116 : BitVec 32 := Scalar.muli v14 c1024_i32_402
  let c58_i32 : BitVec 32 := 58#32
  let v1117 : BitVec 32 := Scalar.addi v1116 c58_i32
  let v1118 : Index := Scalar.indexCast v1117
  ![v1118.toNat]
def k0_off150 (v1119 : BitVec 32) : Fin 2 → Nat :=
  let c4095_i32_403 : BitVec 32 := 4095#32
  let v1120 : BitVec 32 := Scalar.andi v1119 c4095_i32_403
  let v1121 : Index := Scalar.indexCast v1120
  let c0_404 : Index := 0#32
  ![v1121.toNat, 0]

def k0_chk67 (v1119 : BitVec 32) : Prop :=
  (∀ a, (k0_off150 v1119) a + S1x256.size a ≤ S4096x256.size a)
theorem k0_off150_inb : ∀ (v1119 : BitVec 32) (k0_hw67 : k0_chk67 v1119), ∀ a, (k0_off150 v1119) a + S1x256.size a ≤ S4096x256.size a := fun v1119 k0_hw67 => k0_hw67

def k0_off151 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_406 : BitVec 32 := 1024#32
  let v1126 : BitVec 32 := Scalar.muli v14 c1024_i32_406
  let c59_i32 : BitVec 32 := 59#32
  let v1127 : BitVec 32 := Scalar.addi v1126 c59_i32
  let v1128 : Index := Scalar.indexCast v1127
  ![v1128.toNat]
def k0_off152 (v1129 : BitVec 32) : Fin 2 → Nat :=
  let c4095_i32_407 : BitVec 32 := 4095#32
  let v1130 : BitVec 32 := Scalar.andi v1129 c4095_i32_407
  let v1131 : Index := Scalar.indexCast v1130
  let c0_408 : Index := 0#32
  ![v1131.toNat, 0]

def k0_chk68 (v1129 : BitVec 32) : Prop :=
  (∀ a, (k0_off152 v1129) a + S1x256.size a ≤ S4096x256.size a)
theorem k0_off152_inb : ∀ (v1129 : BitVec 32) (k0_hw68 : k0_chk68 v1129), ∀ a, (k0_off152 v1129) a + S1x256.size a ≤ S4096x256.size a := fun v1129 k0_hw68 => k0_hw68

def k0_off153 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_410 : BitVec 32 := 1024#32
  let v1136 : BitVec 32 := Scalar.muli v14 c1024_i32_410
  let c60_i32 : BitVec 32 := 60#32
  let v1137 : BitVec 32 := Scalar.addi v1136 c60_i32
  let v1138 : Index := Scalar.indexCast v1137
  ![v1138.toNat]
def k0_off154 (v1139 : BitVec 32) : Fin 2 → Nat :=
  let c4095_i32_411 : BitVec 32 := 4095#32
  let v1140 : BitVec 32 := Scalar.andi v1139 c4095_i32_411
  let v1141 : Index := Scalar.indexCast v1140
  let c0_412 : Index := 0#32
  ![v1141.toNat, 0]

def k0_chk69 (v1139 : BitVec 32) : Prop :=
  (∀ a, (k0_off154 v1139) a + S1x256.size a ≤ S4096x256.size a)
theorem k0_off154_inb : ∀ (v1139 : BitVec 32) (k0_hw69 : k0_chk69 v1139), ∀ a, (k0_off154 v1139) a + S1x256.size a ≤ S4096x256.size a := fun v1139 k0_hw69 => k0_hw69

def k0_off155 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_414 : BitVec 32 := 1024#32
  let v1146 : BitVec 32 := Scalar.muli v14 c1024_i32_414
  let c61_i32 : BitVec 32 := 61#32
  let v1147 : BitVec 32 := Scalar.addi v1146 c61_i32
  let v1148 : Index := Scalar.indexCast v1147
  ![v1148.toNat]
def k0_off156 (v1149 : BitVec 32) : Fin 2 → Nat :=
  let c4095_i32_415 : BitVec 32 := 4095#32
  let v1150 : BitVec 32 := Scalar.andi v1149 c4095_i32_415
  let v1151 : Index := Scalar.indexCast v1150
  let c0_416 : Index := 0#32
  ![v1151.toNat, 0]

def k0_chk70 (v1149 : BitVec 32) : Prop :=
  (∀ a, (k0_off156 v1149) a + S1x256.size a ≤ S4096x256.size a)
theorem k0_off156_inb : ∀ (v1149 : BitVec 32) (k0_hw70 : k0_chk70 v1149), ∀ a, (k0_off156 v1149) a + S1x256.size a ≤ S4096x256.size a := fun v1149 k0_hw70 => k0_hw70

def k0_off157 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_418 : BitVec 32 := 1024#32
  let v1156 : BitVec 32 := Scalar.muli v14 c1024_i32_418
  let c62_i32 : BitVec 32 := 62#32
  let v1157 : BitVec 32 := Scalar.addi v1156 c62_i32
  let v1158 : Index := Scalar.indexCast v1157
  ![v1158.toNat]
def k0_off158 (v1159 : BitVec 32) : Fin 2 → Nat :=
  let c4095_i32_419 : BitVec 32 := 4095#32
  let v1160 : BitVec 32 := Scalar.andi v1159 c4095_i32_419
  let v1161 : Index := Scalar.indexCast v1160
  let c0_420 : Index := 0#32
  ![v1161.toNat, 0]

def k0_chk71 (v1159 : BitVec 32) : Prop :=
  (∀ a, (k0_off158 v1159) a + S1x256.size a ≤ S4096x256.size a)
theorem k0_off158_inb : ∀ (v1159 : BitVec 32) (k0_hw71 : k0_chk71 v1159), ∀ a, (k0_off158 v1159) a + S1x256.size a ≤ S4096x256.size a := fun v1159 k0_hw71 => k0_hw71

def k0_off159 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_422 : BitVec 32 := 1024#32
  let v1166 : BitVec 32 := Scalar.muli v14 c1024_i32_422
  let c63_i32 : BitVec 32 := 63#32
  let v1167 : BitVec 32 := Scalar.addi v1166 c63_i32
  let v1168 : Index := Scalar.indexCast v1167
  ![v1168.toNat]
def k0_off160 (v1169 : BitVec 32) : Fin 2 → Nat :=
  let c4095_i32_423 : BitVec 32 := 4095#32
  let v1170 : BitVec 32 := Scalar.andi v1169 c4095_i32_423
  let v1171 : Index := Scalar.indexCast v1170
  let c0_424 : Index := 0#32
  ![v1171.toNat, 0]

def k0_chk72 (v1169 : BitVec 32) : Prop :=
  (∀ a, (k0_off160 v1169) a + S1x256.size a ≤ S4096x256.size a)
theorem k0_off160_inb : ∀ (v1169 : BitVec 32) (k0_hw72 : k0_chk72 v1169), ∀ a, (k0_off160 v1169) a + S1x256.size a ≤ S4096x256.size a := fun v1169 k0_hw72 => k0_hw72

def k0_off161 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_426 : BitVec 32 := 1024#32
  let v1176 : BitVec 32 := Scalar.muli v14 c1024_i32_426
  let c64_i32 : BitVec 32 := 64#32
  let v1177 : BitVec 32 := Scalar.addi v1176 c64_i32
  let v1178 : Index := Scalar.indexCast v1177
  ![v1178.toNat]
def k0_off162 (v1179 : BitVec 32) : Fin 2 → Nat :=
  let c4095_i32_427 : BitVec 32 := 4095#32
  let v1180 : BitVec 32 := Scalar.andi v1179 c4095_i32_427
  let v1181 : Index := Scalar.indexCast v1180
  let c0_428 : Index := 0#32
  ![v1181.toNat, 0]

def k0_chk73 (v1179 : BitVec 32) : Prop :=
  (∀ a, (k0_off162 v1179) a + S1x256.size a ≤ S4096x256.size a)
theorem k0_off162_inb : ∀ (v1179 : BitVec 32) (k0_hw73 : k0_chk73 v1179), ∀ a, (k0_off162 v1179) a + S1x256.size a ≤ S4096x256.size a := fun v1179 k0_hw73 => k0_hw73

def k0_off163 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_431 : BitVec 32 := 1024#32
  let v1186 : BitVec 32 := Scalar.muli v14 c1024_i32_431
  let c65_i32 : BitVec 32 := 65#32
  let v1187 : BitVec 32 := Scalar.addi v1186 c65_i32
  let v1188 : Index := Scalar.indexCast v1187
  ![v1188.toNat]
def k0_off164 (v1189 : BitVec 32) : Fin 2 → Nat :=
  let c4095_i32_432 : BitVec 32 := 4095#32
  let v1190 : BitVec 32 := Scalar.andi v1189 c4095_i32_432
  let v1191 : Index := Scalar.indexCast v1190
  let c0_433 : Index := 0#32
  ![v1191.toNat, 0]

def k0_chk74 (v1189 : BitVec 32) : Prop :=
  (∀ a, (k0_off164 v1189) a + S1x256.size a ≤ S4096x256.size a)
theorem k0_off164_inb : ∀ (v1189 : BitVec 32) (k0_hw74 : k0_chk74 v1189), ∀ a, (k0_off164 v1189) a + S1x256.size a ≤ S4096x256.size a := fun v1189 k0_hw74 => k0_hw74

def k0_off165 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_435 : BitVec 32 := 1024#32
  let v1196 : BitVec 32 := Scalar.muli v14 c1024_i32_435
  let c66_i32 : BitVec 32 := 66#32
  let v1197 : BitVec 32 := Scalar.addi v1196 c66_i32
  let v1198 : Index := Scalar.indexCast v1197
  ![v1198.toNat]
def k0_off166 (v1199 : BitVec 32) : Fin 2 → Nat :=
  let c4095_i32_436 : BitVec 32 := 4095#32
  let v1200 : BitVec 32 := Scalar.andi v1199 c4095_i32_436
  let v1201 : Index := Scalar.indexCast v1200
  let c0_437 : Index := 0#32
  ![v1201.toNat, 0]

def k0_chk75 (v1199 : BitVec 32) : Prop :=
  (∀ a, (k0_off166 v1199) a + S1x256.size a ≤ S4096x256.size a)
theorem k0_off166_inb : ∀ (v1199 : BitVec 32) (k0_hw75 : k0_chk75 v1199), ∀ a, (k0_off166 v1199) a + S1x256.size a ≤ S4096x256.size a := fun v1199 k0_hw75 => k0_hw75

def k0_off167 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_439 : BitVec 32 := 1024#32
  let v1206 : BitVec 32 := Scalar.muli v14 c1024_i32_439
  let c67_i32 : BitVec 32 := 67#32
  let v1207 : BitVec 32 := Scalar.addi v1206 c67_i32
  let v1208 : Index := Scalar.indexCast v1207
  ![v1208.toNat]
def k0_off168 (v1209 : BitVec 32) : Fin 2 → Nat :=
  let c4095_i32_440 : BitVec 32 := 4095#32
  let v1210 : BitVec 32 := Scalar.andi v1209 c4095_i32_440
  let v1211 : Index := Scalar.indexCast v1210
  let c0_441 : Index := 0#32
  ![v1211.toNat, 0]

def k0_chk76 (v1209 : BitVec 32) : Prop :=
  (∀ a, (k0_off168 v1209) a + S1x256.size a ≤ S4096x256.size a)
theorem k0_off168_inb : ∀ (v1209 : BitVec 32) (k0_hw76 : k0_chk76 v1209), ∀ a, (k0_off168 v1209) a + S1x256.size a ≤ S4096x256.size a := fun v1209 k0_hw76 => k0_hw76

def k0_off169 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_443 : BitVec 32 := 1024#32
  let v1216 : BitVec 32 := Scalar.muli v14 c1024_i32_443
  let c68_i32 : BitVec 32 := 68#32
  let v1217 : BitVec 32 := Scalar.addi v1216 c68_i32
  let v1218 : Index := Scalar.indexCast v1217
  ![v1218.toNat]
def k0_off170 (v1219 : BitVec 32) : Fin 2 → Nat :=
  let c4095_i32_444 : BitVec 32 := 4095#32
  let v1220 : BitVec 32 := Scalar.andi v1219 c4095_i32_444
  let v1221 : Index := Scalar.indexCast v1220
  let c0_445 : Index := 0#32
  ![v1221.toNat, 0]

def k0_chk77 (v1219 : BitVec 32) : Prop :=
  (∀ a, (k0_off170 v1219) a + S1x256.size a ≤ S4096x256.size a)
theorem k0_off170_inb : ∀ (v1219 : BitVec 32) (k0_hw77 : k0_chk77 v1219), ∀ a, (k0_off170 v1219) a + S1x256.size a ≤ S4096x256.size a := fun v1219 k0_hw77 => k0_hw77

def k0_off171 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_447 : BitVec 32 := 1024#32
  let v1226 : BitVec 32 := Scalar.muli v14 c1024_i32_447
  let c69_i32 : BitVec 32 := 69#32
  let v1227 : BitVec 32 := Scalar.addi v1226 c69_i32
  let v1228 : Index := Scalar.indexCast v1227
  ![v1228.toNat]
def k0_off172 (v1229 : BitVec 32) : Fin 2 → Nat :=
  let c4095_i32_448 : BitVec 32 := 4095#32
  let v1230 : BitVec 32 := Scalar.andi v1229 c4095_i32_448
  let v1231 : Index := Scalar.indexCast v1230
  let c0_449 : Index := 0#32
  ![v1231.toNat, 0]

def k0_chk78 (v1229 : BitVec 32) : Prop :=
  (∀ a, (k0_off172 v1229) a + S1x256.size a ≤ S4096x256.size a)
theorem k0_off172_inb : ∀ (v1229 : BitVec 32) (k0_hw78 : k0_chk78 v1229), ∀ a, (k0_off172 v1229) a + S1x256.size a ≤ S4096x256.size a := fun v1229 k0_hw78 => k0_hw78

def k0_off173 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_451 : BitVec 32 := 1024#32
  let v1236 : BitVec 32 := Scalar.muli v14 c1024_i32_451
  let c70_i32 : BitVec 32 := 70#32
  let v1237 : BitVec 32 := Scalar.addi v1236 c70_i32
  let v1238 : Index := Scalar.indexCast v1237
  ![v1238.toNat]
def k0_off174 (v1239 : BitVec 32) : Fin 2 → Nat :=
  let c4095_i32_452 : BitVec 32 := 4095#32
  let v1240 : BitVec 32 := Scalar.andi v1239 c4095_i32_452
  let v1241 : Index := Scalar.indexCast v1240
  let c0_453 : Index := 0#32
  ![v1241.toNat, 0]

def k0_chk79 (v1239 : BitVec 32) : Prop :=
  (∀ a, (k0_off174 v1239) a + S1x256.size a ≤ S4096x256.size a)
theorem k0_off174_inb : ∀ (v1239 : BitVec 32) (k0_hw79 : k0_chk79 v1239), ∀ a, (k0_off174 v1239) a + S1x256.size a ≤ S4096x256.size a := fun v1239 k0_hw79 => k0_hw79

def k0_off175 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_455 : BitVec 32 := 1024#32
  let v1246 : BitVec 32 := Scalar.muli v14 c1024_i32_455
  let c71_i32 : BitVec 32 := 71#32
  let v1247 : BitVec 32 := Scalar.addi v1246 c71_i32
  let v1248 : Index := Scalar.indexCast v1247
  ![v1248.toNat]
def k0_off176 (v1249 : BitVec 32) : Fin 2 → Nat :=
  let c4095_i32_456 : BitVec 32 := 4095#32
  let v1250 : BitVec 32 := Scalar.andi v1249 c4095_i32_456
  let v1251 : Index := Scalar.indexCast v1250
  let c0_457 : Index := 0#32
  ![v1251.toNat, 0]

def k0_chk80 (v1249 : BitVec 32) : Prop :=
  (∀ a, (k0_off176 v1249) a + S1x256.size a ≤ S4096x256.size a)
theorem k0_off176_inb : ∀ (v1249 : BitVec 32) (k0_hw80 : k0_chk80 v1249), ∀ a, (k0_off176 v1249) a + S1x256.size a ≤ S4096x256.size a := fun v1249 k0_hw80 => k0_hw80

def k0_off177 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_459 : BitVec 32 := 1024#32
  let v1256 : BitVec 32 := Scalar.muli v14 c1024_i32_459
  let c72_i32 : BitVec 32 := 72#32
  let v1257 : BitVec 32 := Scalar.addi v1256 c72_i32
  let v1258 : Index := Scalar.indexCast v1257
  ![v1258.toNat]
def k0_off178 (v1259 : BitVec 32) : Fin 2 → Nat :=
  let c4095_i32_460 : BitVec 32 := 4095#32
  let v1260 : BitVec 32 := Scalar.andi v1259 c4095_i32_460
  let v1261 : Index := Scalar.indexCast v1260
  let c0_461 : Index := 0#32
  ![v1261.toNat, 0]

def k0_chk81 (v1259 : BitVec 32) : Prop :=
  (∀ a, (k0_off178 v1259) a + S1x256.size a ≤ S4096x256.size a)
theorem k0_off178_inb : ∀ (v1259 : BitVec 32) (k0_hw81 : k0_chk81 v1259), ∀ a, (k0_off178 v1259) a + S1x256.size a ≤ S4096x256.size a := fun v1259 k0_hw81 => k0_hw81

def k0_off179 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_463 : BitVec 32 := 1024#32
  let v1266 : BitVec 32 := Scalar.muli v14 c1024_i32_463
  let c73_i32 : BitVec 32 := 73#32
  let v1267 : BitVec 32 := Scalar.addi v1266 c73_i32
  let v1268 : Index := Scalar.indexCast v1267
  ![v1268.toNat]
def k0_off180 (v1269 : BitVec 32) : Fin 2 → Nat :=
  let c4095_i32_464 : BitVec 32 := 4095#32
  let v1270 : BitVec 32 := Scalar.andi v1269 c4095_i32_464
  let v1271 : Index := Scalar.indexCast v1270
  let c0_465 : Index := 0#32
  ![v1271.toNat, 0]

def k0_chk82 (v1269 : BitVec 32) : Prop :=
  (∀ a, (k0_off180 v1269) a + S1x256.size a ≤ S4096x256.size a)
theorem k0_off180_inb : ∀ (v1269 : BitVec 32) (k0_hw82 : k0_chk82 v1269), ∀ a, (k0_off180 v1269) a + S1x256.size a ≤ S4096x256.size a := fun v1269 k0_hw82 => k0_hw82

def k0_off181 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_467 : BitVec 32 := 1024#32
  let v1276 : BitVec 32 := Scalar.muli v14 c1024_i32_467
  let c74_i32 : BitVec 32 := 74#32
  let v1277 : BitVec 32 := Scalar.addi v1276 c74_i32
  let v1278 : Index := Scalar.indexCast v1277
  ![v1278.toNat]
def k0_off182 (v1279 : BitVec 32) : Fin 2 → Nat :=
  let c4095_i32_468 : BitVec 32 := 4095#32
  let v1280 : BitVec 32 := Scalar.andi v1279 c4095_i32_468
  let v1281 : Index := Scalar.indexCast v1280
  let c0_469 : Index := 0#32
  ![v1281.toNat, 0]

def k0_chk83 (v1279 : BitVec 32) : Prop :=
  (∀ a, (k0_off182 v1279) a + S1x256.size a ≤ S4096x256.size a)
theorem k0_off182_inb : ∀ (v1279 : BitVec 32) (k0_hw83 : k0_chk83 v1279), ∀ a, (k0_off182 v1279) a + S1x256.size a ≤ S4096x256.size a := fun v1279 k0_hw83 => k0_hw83

def k0_off183 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_471 : BitVec 32 := 1024#32
  let v1286 : BitVec 32 := Scalar.muli v14 c1024_i32_471
  let c75_i32 : BitVec 32 := 75#32
  let v1287 : BitVec 32 := Scalar.addi v1286 c75_i32
  let v1288 : Index := Scalar.indexCast v1287
  ![v1288.toNat]
def k0_off184 (v1289 : BitVec 32) : Fin 2 → Nat :=
  let c4095_i32_472 : BitVec 32 := 4095#32
  let v1290 : BitVec 32 := Scalar.andi v1289 c4095_i32_472
  let v1291 : Index := Scalar.indexCast v1290
  let c0_473 : Index := 0#32
  ![v1291.toNat, 0]

def k0_chk84 (v1289 : BitVec 32) : Prop :=
  (∀ a, (k0_off184 v1289) a + S1x256.size a ≤ S4096x256.size a)
theorem k0_off184_inb : ∀ (v1289 : BitVec 32) (k0_hw84 : k0_chk84 v1289), ∀ a, (k0_off184 v1289) a + S1x256.size a ≤ S4096x256.size a := fun v1289 k0_hw84 => k0_hw84

def k0_off185 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v1353 : Index := Scalar.indexCast v12
  let c0_491 : Index := 0#32
  let c0_492 : Index := 0#32
  ![v1353.toNat, 0, 0]
def k0_off186 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v1414 : Index := Scalar.indexCast v12
  let c0_510 : Index := 0#32
  let c256_511 : Index := 256#32
  ![v1414.toNat, 0, 256]
def k0_off187 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v1476 : Index := Scalar.indexCast v12
  let c0_529 : Index := 0#32
  let c512_530 : Index := 512#32
  ![v1476.toNat, 0, 512]
def k0_off188 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v1538 : Index := Scalar.indexCast v12
  let c0_548 : Index := 0#32
  let c768_549 : Index := 768#32
  ![v1538.toNat, 0, 768]
def k0_off189 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_555 : BitVec 32 := 1024#32
  let v1548 : BitVec 32 := Scalar.muli v14 c1024_i32_555
  let c76_i32 : BitVec 32 := 76#32
  let v1549 : BitVec 32 := Scalar.addi v1548 c76_i32
  let v1550 : Index := Scalar.indexCast v1549
  ![v1550.toNat]
def k0_off190 (v1551 : BitVec 32) : Fin 2 → Nat :=
  let c4095_i32_556 : BitVec 32 := 4095#32
  let v1552 : BitVec 32 := Scalar.andi v1551 c4095_i32_556
  let v1553 : Index := Scalar.indexCast v1552
  let c0_557 : Index := 0#32
  ![v1553.toNat, 0]

def k0_chk85 (v1551 : BitVec 32) : Prop :=
  (∀ a, (k0_off190 v1551) a + S1x256.size a ≤ S4096x256.size a)
theorem k0_off190_inb : ∀ (v1551 : BitVec 32) (k0_hw85 : k0_chk85 v1551), ∀ a, (k0_off190 v1551) a + S1x256.size a ≤ S4096x256.size a := fun v1551 k0_hw85 => k0_hw85

def k0_off191 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_559 : BitVec 32 := 1024#32
  let v1558 : BitVec 32 := Scalar.muli v14 c1024_i32_559
  let c77_i32 : BitVec 32 := 77#32
  let v1559 : BitVec 32 := Scalar.addi v1558 c77_i32
  let v1560 : Index := Scalar.indexCast v1559
  ![v1560.toNat]
def k0_off192 (v1561 : BitVec 32) : Fin 2 → Nat :=
  let c4095_i32_560 : BitVec 32 := 4095#32
  let v1562 : BitVec 32 := Scalar.andi v1561 c4095_i32_560
  let v1563 : Index := Scalar.indexCast v1562
  let c0_561 : Index := 0#32
  ![v1563.toNat, 0]

def k0_chk86 (v1561 : BitVec 32) : Prop :=
  (∀ a, (k0_off192 v1561) a + S1x256.size a ≤ S4096x256.size a)
theorem k0_off192_inb : ∀ (v1561 : BitVec 32) (k0_hw86 : k0_chk86 v1561), ∀ a, (k0_off192 v1561) a + S1x256.size a ≤ S4096x256.size a := fun v1561 k0_hw86 => k0_hw86

def k0_off193 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_563 : BitVec 32 := 1024#32
  let v1568 : BitVec 32 := Scalar.muli v14 c1024_i32_563
  let c78_i32 : BitVec 32 := 78#32
  let v1569 : BitVec 32 := Scalar.addi v1568 c78_i32
  let v1570 : Index := Scalar.indexCast v1569
  ![v1570.toNat]
def k0_off194 (v1571 : BitVec 32) : Fin 2 → Nat :=
  let c4095_i32_564 : BitVec 32 := 4095#32
  let v1572 : BitVec 32 := Scalar.andi v1571 c4095_i32_564
  let v1573 : Index := Scalar.indexCast v1572
  let c0_565 : Index := 0#32
  ![v1573.toNat, 0]

def k0_chk87 (v1571 : BitVec 32) : Prop :=
  (∀ a, (k0_off194 v1571) a + S1x256.size a ≤ S4096x256.size a)
theorem k0_off194_inb : ∀ (v1571 : BitVec 32) (k0_hw87 : k0_chk87 v1571), ∀ a, (k0_off194 v1571) a + S1x256.size a ≤ S4096x256.size a := fun v1571 k0_hw87 => k0_hw87

def k0_off195 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_567 : BitVec 32 := 1024#32
  let v1578 : BitVec 32 := Scalar.muli v14 c1024_i32_567
  let c79_i32 : BitVec 32 := 79#32
  let v1579 : BitVec 32 := Scalar.addi v1578 c79_i32
  let v1580 : Index := Scalar.indexCast v1579
  ![v1580.toNat]
def k0_off196 (v1581 : BitVec 32) : Fin 2 → Nat :=
  let c4095_i32_568 : BitVec 32 := 4095#32
  let v1582 : BitVec 32 := Scalar.andi v1581 c4095_i32_568
  let v1583 : Index := Scalar.indexCast v1582
  let c0_569 : Index := 0#32
  ![v1583.toNat, 0]

def k0_chk88 (v1581 : BitVec 32) : Prop :=
  (∀ a, (k0_off196 v1581) a + S1x256.size a ≤ S4096x256.size a)
theorem k0_off196_inb : ∀ (v1581 : BitVec 32) (k0_hw88 : k0_chk88 v1581), ∀ a, (k0_off196 v1581) a + S1x256.size a ≤ S4096x256.size a := fun v1581 k0_hw88 => k0_hw88

def k0_off197 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_571 : BitVec 32 := 1024#32
  let v1588 : BitVec 32 := Scalar.muli v14 c1024_i32_571
  let c80_i32 : BitVec 32 := 80#32
  let v1589 : BitVec 32 := Scalar.addi v1588 c80_i32
  let v1590 : Index := Scalar.indexCast v1589
  ![v1590.toNat]
def k0_off198 (v1591 : BitVec 32) : Fin 2 → Nat :=
  let c4095_i32_572 : BitVec 32 := 4095#32
  let v1592 : BitVec 32 := Scalar.andi v1591 c4095_i32_572
  let v1593 : Index := Scalar.indexCast v1592
  let c0_573 : Index := 0#32
  ![v1593.toNat, 0]

def k0_chk89 (v1591 : BitVec 32) : Prop :=
  (∀ a, (k0_off198 v1591) a + S1x256.size a ≤ S4096x256.size a)
theorem k0_off198_inb : ∀ (v1591 : BitVec 32) (k0_hw89 : k0_chk89 v1591), ∀ a, (k0_off198 v1591) a + S1x256.size a ≤ S4096x256.size a := fun v1591 k0_hw89 => k0_hw89

def k0_off199 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_575 : BitVec 32 := 1024#32
  let v1598 : BitVec 32 := Scalar.muli v14 c1024_i32_575
  let c81_i32 : BitVec 32 := 81#32
  let v1599 : BitVec 32 := Scalar.addi v1598 c81_i32
  let v1600 : Index := Scalar.indexCast v1599
  ![v1600.toNat]
def k0_off200 (v1601 : BitVec 32) : Fin 2 → Nat :=
  let c4095_i32_576 : BitVec 32 := 4095#32
  let v1602 : BitVec 32 := Scalar.andi v1601 c4095_i32_576
  let v1603 : Index := Scalar.indexCast v1602
  let c0_577 : Index := 0#32
  ![v1603.toNat, 0]

def k0_chk90 (v1601 : BitVec 32) : Prop :=
  (∀ a, (k0_off200 v1601) a + S1x256.size a ≤ S4096x256.size a)
theorem k0_off200_inb : ∀ (v1601 : BitVec 32) (k0_hw90 : k0_chk90 v1601), ∀ a, (k0_off200 v1601) a + S1x256.size a ≤ S4096x256.size a := fun v1601 k0_hw90 => k0_hw90

def k0_off201 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_579 : BitVec 32 := 1024#32
  let v1608 : BitVec 32 := Scalar.muli v14 c1024_i32_579
  let c82_i32 : BitVec 32 := 82#32
  let v1609 : BitVec 32 := Scalar.addi v1608 c82_i32
  let v1610 : Index := Scalar.indexCast v1609
  ![v1610.toNat]
def k0_off202 (v1611 : BitVec 32) : Fin 2 → Nat :=
  let c4095_i32_580 : BitVec 32 := 4095#32
  let v1612 : BitVec 32 := Scalar.andi v1611 c4095_i32_580
  let v1613 : Index := Scalar.indexCast v1612
  let c0_581 : Index := 0#32
  ![v1613.toNat, 0]

def k0_chk91 (v1611 : BitVec 32) : Prop :=
  (∀ a, (k0_off202 v1611) a + S1x256.size a ≤ S4096x256.size a)
theorem k0_off202_inb : ∀ (v1611 : BitVec 32) (k0_hw91 : k0_chk91 v1611), ∀ a, (k0_off202 v1611) a + S1x256.size a ≤ S4096x256.size a := fun v1611 k0_hw91 => k0_hw91

def k0_off203 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_583 : BitVec 32 := 1024#32
  let v1618 : BitVec 32 := Scalar.muli v14 c1024_i32_583
  let c83_i32 : BitVec 32 := 83#32
  let v1619 : BitVec 32 := Scalar.addi v1618 c83_i32
  let v1620 : Index := Scalar.indexCast v1619
  ![v1620.toNat]
def k0_off204 (v1621 : BitVec 32) : Fin 2 → Nat :=
  let c4095_i32_584 : BitVec 32 := 4095#32
  let v1622 : BitVec 32 := Scalar.andi v1621 c4095_i32_584
  let v1623 : Index := Scalar.indexCast v1622
  let c0_585 : Index := 0#32
  ![v1623.toNat, 0]

def k0_chk92 (v1621 : BitVec 32) : Prop :=
  (∀ a, (k0_off204 v1621) a + S1x256.size a ≤ S4096x256.size a)
theorem k0_off204_inb : ∀ (v1621 : BitVec 32) (k0_hw92 : k0_chk92 v1621), ∀ a, (k0_off204 v1621) a + S1x256.size a ≤ S4096x256.size a := fun v1621 k0_hw92 => k0_hw92

def k0_off205 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_587 : BitVec 32 := 1024#32
  let v1628 : BitVec 32 := Scalar.muli v14 c1024_i32_587
  let c84_i32 : BitVec 32 := 84#32
  let v1629 : BitVec 32 := Scalar.addi v1628 c84_i32
  let v1630 : Index := Scalar.indexCast v1629
  ![v1630.toNat]
def k0_off206 (v1631 : BitVec 32) : Fin 2 → Nat :=
  let c4095_i32_588 : BitVec 32 := 4095#32
  let v1632 : BitVec 32 := Scalar.andi v1631 c4095_i32_588
  let v1633 : Index := Scalar.indexCast v1632
  let c0_589 : Index := 0#32
  ![v1633.toNat, 0]

def k0_chk93 (v1631 : BitVec 32) : Prop :=
  (∀ a, (k0_off206 v1631) a + S1x256.size a ≤ S4096x256.size a)
theorem k0_off206_inb : ∀ (v1631 : BitVec 32) (k0_hw93 : k0_chk93 v1631), ∀ a, (k0_off206 v1631) a + S1x256.size a ≤ S4096x256.size a := fun v1631 k0_hw93 => k0_hw93

def k0_off207 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_591 : BitVec 32 := 1024#32
  let v1638 : BitVec 32 := Scalar.muli v14 c1024_i32_591
  let c85_i32 : BitVec 32 := 85#32
  let v1639 : BitVec 32 := Scalar.addi v1638 c85_i32
  let v1640 : Index := Scalar.indexCast v1639
  ![v1640.toNat]
def k0_off208 (v1641 : BitVec 32) : Fin 2 → Nat :=
  let c4095_i32_592 : BitVec 32 := 4095#32
  let v1642 : BitVec 32 := Scalar.andi v1641 c4095_i32_592
  let v1643 : Index := Scalar.indexCast v1642
  let c0_593 : Index := 0#32
  ![v1643.toNat, 0]

def k0_chk94 (v1641 : BitVec 32) : Prop :=
  (∀ a, (k0_off208 v1641) a + S1x256.size a ≤ S4096x256.size a)
theorem k0_off208_inb : ∀ (v1641 : BitVec 32) (k0_hw94 : k0_chk94 v1641), ∀ a, (k0_off208 v1641) a + S1x256.size a ≤ S4096x256.size a := fun v1641 k0_hw94 => k0_hw94

def k0_off209 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_595 : BitVec 32 := 1024#32
  let v1648 : BitVec 32 := Scalar.muli v14 c1024_i32_595
  let c86_i32 : BitVec 32 := 86#32
  let v1649 : BitVec 32 := Scalar.addi v1648 c86_i32
  let v1650 : Index := Scalar.indexCast v1649
  ![v1650.toNat]
def k0_off210 (v1651 : BitVec 32) : Fin 2 → Nat :=
  let c4095_i32_596 : BitVec 32 := 4095#32
  let v1652 : BitVec 32 := Scalar.andi v1651 c4095_i32_596
  let v1653 : Index := Scalar.indexCast v1652
  let c0_597 : Index := 0#32
  ![v1653.toNat, 0]

def k0_chk95 (v1651 : BitVec 32) : Prop :=
  (∀ a, (k0_off210 v1651) a + S1x256.size a ≤ S4096x256.size a)
theorem k0_off210_inb : ∀ (v1651 : BitVec 32) (k0_hw95 : k0_chk95 v1651), ∀ a, (k0_off210 v1651) a + S1x256.size a ≤ S4096x256.size a := fun v1651 k0_hw95 => k0_hw95

def k0_off211 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_599 : BitVec 32 := 1024#32
  let v1658 : BitVec 32 := Scalar.muli v14 c1024_i32_599
  let c87_i32 : BitVec 32 := 87#32
  let v1659 : BitVec 32 := Scalar.addi v1658 c87_i32
  let v1660 : Index := Scalar.indexCast v1659
  ![v1660.toNat]
def k0_off212 (v1661 : BitVec 32) : Fin 2 → Nat :=
  let c4095_i32_600 : BitVec 32 := 4095#32
  let v1662 : BitVec 32 := Scalar.andi v1661 c4095_i32_600
  let v1663 : Index := Scalar.indexCast v1662
  let c0_601 : Index := 0#32
  ![v1663.toNat, 0]

def k0_chk96 (v1661 : BitVec 32) : Prop :=
  (∀ a, (k0_off212 v1661) a + S1x256.size a ≤ S4096x256.size a)
theorem k0_off212_inb : ∀ (v1661 : BitVec 32) (k0_hw96 : k0_chk96 v1661), ∀ a, (k0_off212 v1661) a + S1x256.size a ≤ S4096x256.size a := fun v1661 k0_hw96 => k0_hw96

def k0_off213 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_603 : BitVec 32 := 1024#32
  let v1668 : BitVec 32 := Scalar.muli v14 c1024_i32_603
  let c88_i32 : BitVec 32 := 88#32
  let v1669 : BitVec 32 := Scalar.addi v1668 c88_i32
  let v1670 : Index := Scalar.indexCast v1669
  ![v1670.toNat]
def k0_off214 (v1671 : BitVec 32) : Fin 2 → Nat :=
  let c4095_i32_604 : BitVec 32 := 4095#32
  let v1672 : BitVec 32 := Scalar.andi v1671 c4095_i32_604
  let v1673 : Index := Scalar.indexCast v1672
  let c0_605 : Index := 0#32
  ![v1673.toNat, 0]

def k0_chk97 (v1671 : BitVec 32) : Prop :=
  (∀ a, (k0_off214 v1671) a + S1x256.size a ≤ S4096x256.size a)
theorem k0_off214_inb : ∀ (v1671 : BitVec 32) (k0_hw97 : k0_chk97 v1671), ∀ a, (k0_off214 v1671) a + S1x256.size a ≤ S4096x256.size a := fun v1671 k0_hw97 => k0_hw97

def k0_off215 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_607 : BitVec 32 := 1024#32
  let v1678 : BitVec 32 := Scalar.muli v14 c1024_i32_607
  let c89_i32 : BitVec 32 := 89#32
  let v1679 : BitVec 32 := Scalar.addi v1678 c89_i32
  let v1680 : Index := Scalar.indexCast v1679
  ![v1680.toNat]
def k0_off216 (v1681 : BitVec 32) : Fin 2 → Nat :=
  let c4095_i32_608 : BitVec 32 := 4095#32
  let v1682 : BitVec 32 := Scalar.andi v1681 c4095_i32_608
  let v1683 : Index := Scalar.indexCast v1682
  let c0_609 : Index := 0#32
  ![v1683.toNat, 0]

def k0_chk98 (v1681 : BitVec 32) : Prop :=
  (∀ a, (k0_off216 v1681) a + S1x256.size a ≤ S4096x256.size a)
theorem k0_off216_inb : ∀ (v1681 : BitVec 32) (k0_hw98 : k0_chk98 v1681), ∀ a, (k0_off216 v1681) a + S1x256.size a ≤ S4096x256.size a := fun v1681 k0_hw98 => k0_hw98

def k0_off217 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_611 : BitVec 32 := 1024#32
  let v1688 : BitVec 32 := Scalar.muli v14 c1024_i32_611
  let c90_i32 : BitVec 32 := 90#32
  let v1689 : BitVec 32 := Scalar.addi v1688 c90_i32
  let v1690 : Index := Scalar.indexCast v1689
  ![v1690.toNat]
def k0_off218 (v1691 : BitVec 32) : Fin 2 → Nat :=
  let c4095_i32_612 : BitVec 32 := 4095#32
  let v1692 : BitVec 32 := Scalar.andi v1691 c4095_i32_612
  let v1693 : Index := Scalar.indexCast v1692
  let c0_613 : Index := 0#32
  ![v1693.toNat, 0]

def k0_chk99 (v1691 : BitVec 32) : Prop :=
  (∀ a, (k0_off218 v1691) a + S1x256.size a ≤ S4096x256.size a)
theorem k0_off218_inb : ∀ (v1691 : BitVec 32) (k0_hw99 : k0_chk99 v1691), ∀ a, (k0_off218 v1691) a + S1x256.size a ≤ S4096x256.size a := fun v1691 k0_hw99 => k0_hw99

def k0_off219 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_615 : BitVec 32 := 1024#32
  let v1698 : BitVec 32 := Scalar.muli v14 c1024_i32_615
  let c91_i32 : BitVec 32 := 91#32
  let v1699 : BitVec 32 := Scalar.addi v1698 c91_i32
  let v1700 : Index := Scalar.indexCast v1699
  ![v1700.toNat]
def k0_off220 (v1701 : BitVec 32) : Fin 2 → Nat :=
  let c4095_i32_616 : BitVec 32 := 4095#32
  let v1702 : BitVec 32 := Scalar.andi v1701 c4095_i32_616
  let v1703 : Index := Scalar.indexCast v1702
  let c0_617 : Index := 0#32
  ![v1703.toNat, 0]

def k0_chk100 (v1701 : BitVec 32) : Prop :=
  (∀ a, (k0_off220 v1701) a + S1x256.size a ≤ S4096x256.size a)
theorem k0_off220_inb : ∀ (v1701 : BitVec 32) (k0_hw100 : k0_chk100 v1701), ∀ a, (k0_off220 v1701) a + S1x256.size a ≤ S4096x256.size a := fun v1701 k0_hw100 => k0_hw100

def k0_off221 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_619 : BitVec 32 := 1024#32
  let v1708 : BitVec 32 := Scalar.muli v14 c1024_i32_619
  let c92_i32 : BitVec 32 := 92#32
  let v1709 : BitVec 32 := Scalar.addi v1708 c92_i32
  let v1710 : Index := Scalar.indexCast v1709
  ![v1710.toNat]
def k0_off222 (v1711 : BitVec 32) : Fin 2 → Nat :=
  let c4095_i32_620 : BitVec 32 := 4095#32
  let v1712 : BitVec 32 := Scalar.andi v1711 c4095_i32_620
  let v1713 : Index := Scalar.indexCast v1712
  let c0_621 : Index := 0#32
  ![v1713.toNat, 0]

def k0_chk101 (v1711 : BitVec 32) : Prop :=
  (∀ a, (k0_off222 v1711) a + S1x256.size a ≤ S4096x256.size a)
theorem k0_off222_inb : ∀ (v1711 : BitVec 32) (k0_hw101 : k0_chk101 v1711), ∀ a, (k0_off222 v1711) a + S1x256.size a ≤ S4096x256.size a := fun v1711 k0_hw101 => k0_hw101

def k0_off223 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_623 : BitVec 32 := 1024#32
  let v1718 : BitVec 32 := Scalar.muli v14 c1024_i32_623
  let c93_i32 : BitVec 32 := 93#32
  let v1719 : BitVec 32 := Scalar.addi v1718 c93_i32
  let v1720 : Index := Scalar.indexCast v1719
  ![v1720.toNat]
def k0_off224 (v1721 : BitVec 32) : Fin 2 → Nat :=
  let c4095_i32_624 : BitVec 32 := 4095#32
  let v1722 : BitVec 32 := Scalar.andi v1721 c4095_i32_624
  let v1723 : Index := Scalar.indexCast v1722
  let c0_625 : Index := 0#32
  ![v1723.toNat, 0]

def k0_chk102 (v1721 : BitVec 32) : Prop :=
  (∀ a, (k0_off224 v1721) a + S1x256.size a ≤ S4096x256.size a)
theorem k0_off224_inb : ∀ (v1721 : BitVec 32) (k0_hw102 : k0_chk102 v1721), ∀ a, (k0_off224 v1721) a + S1x256.size a ≤ S4096x256.size a := fun v1721 k0_hw102 => k0_hw102

def k0_off225 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_627 : BitVec 32 := 1024#32
  let v1728 : BitVec 32 := Scalar.muli v14 c1024_i32_627
  let c94_i32 : BitVec 32 := 94#32
  let v1729 : BitVec 32 := Scalar.addi v1728 c94_i32
  let v1730 : Index := Scalar.indexCast v1729
  ![v1730.toNat]
def k0_off226 (v1731 : BitVec 32) : Fin 2 → Nat :=
  let c4095_i32_628 : BitVec 32 := 4095#32
  let v1732 : BitVec 32 := Scalar.andi v1731 c4095_i32_628
  let v1733 : Index := Scalar.indexCast v1732
  let c0_629 : Index := 0#32
  ![v1733.toNat, 0]

def k0_chk103 (v1731 : BitVec 32) : Prop :=
  (∀ a, (k0_off226 v1731) a + S1x256.size a ≤ S4096x256.size a)
theorem k0_off226_inb : ∀ (v1731 : BitVec 32) (k0_hw103 : k0_chk103 v1731), ∀ a, (k0_off226 v1731) a + S1x256.size a ≤ S4096x256.size a := fun v1731 k0_hw103 => k0_hw103

def k0_off227 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_631 : BitVec 32 := 1024#32
  let v1738 : BitVec 32 := Scalar.muli v14 c1024_i32_631
  let c95_i32 : BitVec 32 := 95#32
  let v1739 : BitVec 32 := Scalar.addi v1738 c95_i32
  let v1740 : Index := Scalar.indexCast v1739
  ![v1740.toNat]
def k0_off228 (v1741 : BitVec 32) : Fin 2 → Nat :=
  let c4095_i32_632 : BitVec 32 := 4095#32
  let v1742 : BitVec 32 := Scalar.andi v1741 c4095_i32_632
  let v1743 : Index := Scalar.indexCast v1742
  let c0_633 : Index := 0#32
  ![v1743.toNat, 0]

def k0_chk104 (v1741 : BitVec 32) : Prop :=
  (∀ a, (k0_off228 v1741) a + S1x256.size a ≤ S4096x256.size a)
theorem k0_off228_inb : ∀ (v1741 : BitVec 32) (k0_hw104 : k0_chk104 v1741), ∀ a, (k0_off228 v1741) a + S1x256.size a ≤ S4096x256.size a := fun v1741 k0_hw104 => k0_hw104

def k0_off229 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_635 : BitVec 32 := 1024#32
  let v1748 : BitVec 32 := Scalar.muli v14 c1024_i32_635
  let c96_i32 : BitVec 32 := 96#32
  let v1749 : BitVec 32 := Scalar.addi v1748 c96_i32
  let v1750 : Index := Scalar.indexCast v1749
  ![v1750.toNat]
def k0_off230 (v1751 : BitVec 32) : Fin 2 → Nat :=
  let c4095_i32_636 : BitVec 32 := 4095#32
  let v1752 : BitVec 32 := Scalar.andi v1751 c4095_i32_636
  let v1753 : Index := Scalar.indexCast v1752
  let c0_637 : Index := 0#32
  ![v1753.toNat, 0]

def k0_chk105 (v1751 : BitVec 32) : Prop :=
  (∀ a, (k0_off230 v1751) a + S1x256.size a ≤ S4096x256.size a)
theorem k0_off230_inb : ∀ (v1751 : BitVec 32) (k0_hw105 : k0_chk105 v1751), ∀ a, (k0_off230 v1751) a + S1x256.size a ≤ S4096x256.size a := fun v1751 k0_hw105 => k0_hw105

def k0_off231 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_639 : BitVec 32 := 1024#32
  let v1758 : BitVec 32 := Scalar.muli v14 c1024_i32_639
  let c97_i32 : BitVec 32 := 97#32
  let v1759 : BitVec 32 := Scalar.addi v1758 c97_i32
  let v1760 : Index := Scalar.indexCast v1759
  ![v1760.toNat]
def k0_off232 (v1761 : BitVec 32) : Fin 2 → Nat :=
  let c4095_i32_640 : BitVec 32 := 4095#32
  let v1762 : BitVec 32 := Scalar.andi v1761 c4095_i32_640
  let v1763 : Index := Scalar.indexCast v1762
  let c0_641 : Index := 0#32
  ![v1763.toNat, 0]

def k0_chk106 (v1761 : BitVec 32) : Prop :=
  (∀ a, (k0_off232 v1761) a + S1x256.size a ≤ S4096x256.size a)
theorem k0_off232_inb : ∀ (v1761 : BitVec 32) (k0_hw106 : k0_chk106 v1761), ∀ a, (k0_off232 v1761) a + S1x256.size a ≤ S4096x256.size a := fun v1761 k0_hw106 => k0_hw106

def k0_off233 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_643 : BitVec 32 := 1024#32
  let v1768 : BitVec 32 := Scalar.muli v14 c1024_i32_643
  let c98_i32 : BitVec 32 := 98#32
  let v1769 : BitVec 32 := Scalar.addi v1768 c98_i32
  let v1770 : Index := Scalar.indexCast v1769
  ![v1770.toNat]
def k0_off234 (v1771 : BitVec 32) : Fin 2 → Nat :=
  let c4095_i32_644 : BitVec 32 := 4095#32
  let v1772 : BitVec 32 := Scalar.andi v1771 c4095_i32_644
  let v1773 : Index := Scalar.indexCast v1772
  let c0_645 : Index := 0#32
  ![v1773.toNat, 0]

def k0_chk107 (v1771 : BitVec 32) : Prop :=
  (∀ a, (k0_off234 v1771) a + S1x256.size a ≤ S4096x256.size a)
theorem k0_off234_inb : ∀ (v1771 : BitVec 32) (k0_hw107 : k0_chk107 v1771), ∀ a, (k0_off234 v1771) a + S1x256.size a ≤ S4096x256.size a := fun v1771 k0_hw107 => k0_hw107

def k0_off235 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_647 : BitVec 32 := 1024#32
  let v1778 : BitVec 32 := Scalar.muli v14 c1024_i32_647
  let c99_i32 : BitVec 32 := 99#32
  let v1779 : BitVec 32 := Scalar.addi v1778 c99_i32
  let v1780 : Index := Scalar.indexCast v1779
  ![v1780.toNat]
def k0_off236 (v1781 : BitVec 32) : Fin 2 → Nat :=
  let c4095_i32_648 : BitVec 32 := 4095#32
  let v1782 : BitVec 32 := Scalar.andi v1781 c4095_i32_648
  let v1783 : Index := Scalar.indexCast v1782
  let c0_649 : Index := 0#32
  ![v1783.toNat, 0]

def k0_chk108 (v1781 : BitVec 32) : Prop :=
  (∀ a, (k0_off236 v1781) a + S1x256.size a ≤ S4096x256.size a)
theorem k0_off236_inb : ∀ (v1781 : BitVec 32) (k0_hw108 : k0_chk108 v1781), ∀ a, (k0_off236 v1781) a + S1x256.size a ≤ S4096x256.size a := fun v1781 k0_hw108 => k0_hw108

def k0_off237 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_651 : BitVec 32 := 1024#32
  let v1788 : BitVec 32 := Scalar.muli v14 c1024_i32_651
  let c100_i32 : BitVec 32 := 100#32
  let v1789 : BitVec 32 := Scalar.addi v1788 c100_i32
  let v1790 : Index := Scalar.indexCast v1789
  ![v1790.toNat]
def k0_off238 (v1791 : BitVec 32) : Fin 2 → Nat :=
  let c4095_i32_652 : BitVec 32 := 4095#32
  let v1792 : BitVec 32 := Scalar.andi v1791 c4095_i32_652
  let v1793 : Index := Scalar.indexCast v1792
  let c0_653 : Index := 0#32
  ![v1793.toNat, 0]

def k0_chk109 (v1791 : BitVec 32) : Prop :=
  (∀ a, (k0_off238 v1791) a + S1x256.size a ≤ S4096x256.size a)
theorem k0_off238_inb : ∀ (v1791 : BitVec 32) (k0_hw109 : k0_chk109 v1791), ∀ a, (k0_off238 v1791) a + S1x256.size a ≤ S4096x256.size a := fun v1791 k0_hw109 => k0_hw109

def k0_off239 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_655 : BitVec 32 := 1024#32
  let v1798 : BitVec 32 := Scalar.muli v14 c1024_i32_655
  let c101_i32 : BitVec 32 := 101#32
  let v1799 : BitVec 32 := Scalar.addi v1798 c101_i32
  let v1800 : Index := Scalar.indexCast v1799
  ![v1800.toNat]
def k0_off240 (v1801 : BitVec 32) : Fin 2 → Nat :=
  let c4095_i32_656 : BitVec 32 := 4095#32
  let v1802 : BitVec 32 := Scalar.andi v1801 c4095_i32_656
  let v1803 : Index := Scalar.indexCast v1802
  let c0_657 : Index := 0#32
  ![v1803.toNat, 0]

def k0_chk110 (v1801 : BitVec 32) : Prop :=
  (∀ a, (k0_off240 v1801) a + S1x256.size a ≤ S4096x256.size a)
theorem k0_off240_inb : ∀ (v1801 : BitVec 32) (k0_hw110 : k0_chk110 v1801), ∀ a, (k0_off240 v1801) a + S1x256.size a ≤ S4096x256.size a := fun v1801 k0_hw110 => k0_hw110

def k0_off241 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_659 : BitVec 32 := 1024#32
  let v1808 : BitVec 32 := Scalar.muli v14 c1024_i32_659
  let c102_i32 : BitVec 32 := 102#32
  let v1809 : BitVec 32 := Scalar.addi v1808 c102_i32
  let v1810 : Index := Scalar.indexCast v1809
  ![v1810.toNat]
def k0_off242 (v1811 : BitVec 32) : Fin 2 → Nat :=
  let c4095_i32_660 : BitVec 32 := 4095#32
  let v1812 : BitVec 32 := Scalar.andi v1811 c4095_i32_660
  let v1813 : Index := Scalar.indexCast v1812
  let c0_661 : Index := 0#32
  ![v1813.toNat, 0]

def k0_chk111 (v1811 : BitVec 32) : Prop :=
  (∀ a, (k0_off242 v1811) a + S1x256.size a ≤ S4096x256.size a)
theorem k0_off242_inb : ∀ (v1811 : BitVec 32) (k0_hw111 : k0_chk111 v1811), ∀ a, (k0_off242 v1811) a + S1x256.size a ≤ S4096x256.size a := fun v1811 k0_hw111 => k0_hw111

def k0_off243 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_663 : BitVec 32 := 1024#32
  let v1818 : BitVec 32 := Scalar.muli v14 c1024_i32_663
  let c103_i32 : BitVec 32 := 103#32
  let v1819 : BitVec 32 := Scalar.addi v1818 c103_i32
  let v1820 : Index := Scalar.indexCast v1819
  ![v1820.toNat]
def k0_off244 (v1821 : BitVec 32) : Fin 2 → Nat :=
  let c4095_i32_664 : BitVec 32 := 4095#32
  let v1822 : BitVec 32 := Scalar.andi v1821 c4095_i32_664
  let v1823 : Index := Scalar.indexCast v1822
  let c0_665 : Index := 0#32
  ![v1823.toNat, 0]

def k0_chk112 (v1821 : BitVec 32) : Prop :=
  (∀ a, (k0_off244 v1821) a + S1x256.size a ≤ S4096x256.size a)
theorem k0_off244_inb : ∀ (v1821 : BitVec 32) (k0_hw112 : k0_chk112 v1821), ∀ a, (k0_off244 v1821) a + S1x256.size a ≤ S4096x256.size a := fun v1821 k0_hw112 => k0_hw112

def k0_off245 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_667 : BitVec 32 := 1024#32
  let v1828 : BitVec 32 := Scalar.muli v14 c1024_i32_667
  let c104_i32 : BitVec 32 := 104#32
  let v1829 : BitVec 32 := Scalar.addi v1828 c104_i32
  let v1830 : Index := Scalar.indexCast v1829
  ![v1830.toNat]
def k0_off246 (v1831 : BitVec 32) : Fin 2 → Nat :=
  let c4095_i32_668 : BitVec 32 := 4095#32
  let v1832 : BitVec 32 := Scalar.andi v1831 c4095_i32_668
  let v1833 : Index := Scalar.indexCast v1832
  let c0_669 : Index := 0#32
  ![v1833.toNat, 0]

def k0_chk113 (v1831 : BitVec 32) : Prop :=
  (∀ a, (k0_off246 v1831) a + S1x256.size a ≤ S4096x256.size a)
theorem k0_off246_inb : ∀ (v1831 : BitVec 32) (k0_hw113 : k0_chk113 v1831), ∀ a, (k0_off246 v1831) a + S1x256.size a ≤ S4096x256.size a := fun v1831 k0_hw113 => k0_hw113

def k0_off247 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_671 : BitVec 32 := 1024#32
  let v1838 : BitVec 32 := Scalar.muli v14 c1024_i32_671
  let c105_i32 : BitVec 32 := 105#32
  let v1839 : BitVec 32 := Scalar.addi v1838 c105_i32
  let v1840 : Index := Scalar.indexCast v1839
  ![v1840.toNat]
def k0_off248 (v1841 : BitVec 32) : Fin 2 → Nat :=
  let c4095_i32_672 : BitVec 32 := 4095#32
  let v1842 : BitVec 32 := Scalar.andi v1841 c4095_i32_672
  let v1843 : Index := Scalar.indexCast v1842
  let c0_673 : Index := 0#32
  ![v1843.toNat, 0]

def k0_chk114 (v1841 : BitVec 32) : Prop :=
  (∀ a, (k0_off248 v1841) a + S1x256.size a ≤ S4096x256.size a)
theorem k0_off248_inb : ∀ (v1841 : BitVec 32) (k0_hw114 : k0_chk114 v1841), ∀ a, (k0_off248 v1841) a + S1x256.size a ≤ S4096x256.size a := fun v1841 k0_hw114 => k0_hw114

def k0_off249 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_675 : BitVec 32 := 1024#32
  let v1848 : BitVec 32 := Scalar.muli v14 c1024_i32_675
  let c106_i32 : BitVec 32 := 106#32
  let v1849 : BitVec 32 := Scalar.addi v1848 c106_i32
  let v1850 : Index := Scalar.indexCast v1849
  ![v1850.toNat]
def k0_off250 (v1851 : BitVec 32) : Fin 2 → Nat :=
  let c4095_i32_676 : BitVec 32 := 4095#32
  let v1852 : BitVec 32 := Scalar.andi v1851 c4095_i32_676
  let v1853 : Index := Scalar.indexCast v1852
  let c0_677 : Index := 0#32
  ![v1853.toNat, 0]

def k0_chk115 (v1851 : BitVec 32) : Prop :=
  (∀ a, (k0_off250 v1851) a + S1x256.size a ≤ S4096x256.size a)
theorem k0_off250_inb : ∀ (v1851 : BitVec 32) (k0_hw115 : k0_chk115 v1851), ∀ a, (k0_off250 v1851) a + S1x256.size a ≤ S4096x256.size a := fun v1851 k0_hw115 => k0_hw115

def k0_off251 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_679 : BitVec 32 := 1024#32
  let v1858 : BitVec 32 := Scalar.muli v14 c1024_i32_679
  let c107_i32 : BitVec 32 := 107#32
  let v1859 : BitVec 32 := Scalar.addi v1858 c107_i32
  let v1860 : Index := Scalar.indexCast v1859
  ![v1860.toNat]
def k0_off252 (v1861 : BitVec 32) : Fin 2 → Nat :=
  let c4095_i32_680 : BitVec 32 := 4095#32
  let v1862 : BitVec 32 := Scalar.andi v1861 c4095_i32_680
  let v1863 : Index := Scalar.indexCast v1862
  let c0_681 : Index := 0#32
  ![v1863.toNat, 0]

def k0_chk116 (v1861 : BitVec 32) : Prop :=
  (∀ a, (k0_off252 v1861) a + S1x256.size a ≤ S4096x256.size a)
theorem k0_off252_inb : ∀ (v1861 : BitVec 32) (k0_hw116 : k0_chk116 v1861), ∀ a, (k0_off252 v1861) a + S1x256.size a ≤ S4096x256.size a := fun v1861 k0_hw116 => k0_hw116

def k0_off253 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_683 : BitVec 32 := 1024#32
  let v1868 : BitVec 32 := Scalar.muli v14 c1024_i32_683
  let c108_i32 : BitVec 32 := 108#32
  let v1869 : BitVec 32 := Scalar.addi v1868 c108_i32
  let v1870 : Index := Scalar.indexCast v1869
  ![v1870.toNat]
def k0_off254 (v1871 : BitVec 32) : Fin 2 → Nat :=
  let c4095_i32_684 : BitVec 32 := 4095#32
  let v1872 : BitVec 32 := Scalar.andi v1871 c4095_i32_684
  let v1873 : Index := Scalar.indexCast v1872
  let c0_685 : Index := 0#32
  ![v1873.toNat, 0]

def k0_chk117 (v1871 : BitVec 32) : Prop :=
  (∀ a, (k0_off254 v1871) a + S1x256.size a ≤ S4096x256.size a)
theorem k0_off254_inb : ∀ (v1871 : BitVec 32) (k0_hw117 : k0_chk117 v1871), ∀ a, (k0_off254 v1871) a + S1x256.size a ≤ S4096x256.size a := fun v1871 k0_hw117 => k0_hw117

def k0_off255 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_687 : BitVec 32 := 1024#32
  let v1878 : BitVec 32 := Scalar.muli v14 c1024_i32_687
  let c109_i32 : BitVec 32 := 109#32
  let v1879 : BitVec 32 := Scalar.addi v1878 c109_i32
  let v1880 : Index := Scalar.indexCast v1879
  ![v1880.toNat]
def k0_off256 (v1881 : BitVec 32) : Fin 2 → Nat :=
  let c4095_i32_688 : BitVec 32 := 4095#32
  let v1882 : BitVec 32 := Scalar.andi v1881 c4095_i32_688
  let v1883 : Index := Scalar.indexCast v1882
  let c0_689 : Index := 0#32
  ![v1883.toNat, 0]

def k0_chk118 (v1881 : BitVec 32) : Prop :=
  (∀ a, (k0_off256 v1881) a + S1x256.size a ≤ S4096x256.size a)
theorem k0_off256_inb : ∀ (v1881 : BitVec 32) (k0_hw118 : k0_chk118 v1881), ∀ a, (k0_off256 v1881) a + S1x256.size a ≤ S4096x256.size a := fun v1881 k0_hw118 => k0_hw118

def k0_off257 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_691 : BitVec 32 := 1024#32
  let v1888 : BitVec 32 := Scalar.muli v14 c1024_i32_691
  let c110_i32 : BitVec 32 := 110#32
  let v1889 : BitVec 32 := Scalar.addi v1888 c110_i32
  let v1890 : Index := Scalar.indexCast v1889
  ![v1890.toNat]
def k0_off258 (v1891 : BitVec 32) : Fin 2 → Nat :=
  let c4095_i32_692 : BitVec 32 := 4095#32
  let v1892 : BitVec 32 := Scalar.andi v1891 c4095_i32_692
  let v1893 : Index := Scalar.indexCast v1892
  let c0_693 : Index := 0#32
  ![v1893.toNat, 0]

def k0_chk119 (v1891 : BitVec 32) : Prop :=
  (∀ a, (k0_off258 v1891) a + S1x256.size a ≤ S4096x256.size a)
theorem k0_off258_inb : ∀ (v1891 : BitVec 32) (k0_hw119 : k0_chk119 v1891), ∀ a, (k0_off258 v1891) a + S1x256.size a ≤ S4096x256.size a := fun v1891 k0_hw119 => k0_hw119

def k0_off259 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_695 : BitVec 32 := 1024#32
  let v1898 : BitVec 32 := Scalar.muli v14 c1024_i32_695
  let c111_i32 : BitVec 32 := 111#32
  let v1899 : BitVec 32 := Scalar.addi v1898 c111_i32
  let v1900 : Index := Scalar.indexCast v1899
  ![v1900.toNat]
def k0_off260 (v1901 : BitVec 32) : Fin 2 → Nat :=
  let c4095_i32_696 : BitVec 32 := 4095#32
  let v1902 : BitVec 32 := Scalar.andi v1901 c4095_i32_696
  let v1903 : Index := Scalar.indexCast v1902
  let c0_697 : Index := 0#32
  ![v1903.toNat, 0]

def k0_chk120 (v1901 : BitVec 32) : Prop :=
  (∀ a, (k0_off260 v1901) a + S1x256.size a ≤ S4096x256.size a)
theorem k0_off260_inb : ∀ (v1901 : BitVec 32) (k0_hw120 : k0_chk120 v1901), ∀ a, (k0_off260 v1901) a + S1x256.size a ≤ S4096x256.size a := fun v1901 k0_hw120 => k0_hw120

def k0_off261 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_699 : BitVec 32 := 1024#32
  let v1908 : BitVec 32 := Scalar.muli v14 c1024_i32_699
  let c112_i32 : BitVec 32 := 112#32
  let v1909 : BitVec 32 := Scalar.addi v1908 c112_i32
  let v1910 : Index := Scalar.indexCast v1909
  ![v1910.toNat]
def k0_off262 (v1911 : BitVec 32) : Fin 2 → Nat :=
  let c4095_i32_700 : BitVec 32 := 4095#32
  let v1912 : BitVec 32 := Scalar.andi v1911 c4095_i32_700
  let v1913 : Index := Scalar.indexCast v1912
  let c0_701 : Index := 0#32
  ![v1913.toNat, 0]

def k0_chk121 (v1911 : BitVec 32) : Prop :=
  (∀ a, (k0_off262 v1911) a + S1x256.size a ≤ S4096x256.size a)
theorem k0_off262_inb : ∀ (v1911 : BitVec 32) (k0_hw121 : k0_chk121 v1911), ∀ a, (k0_off262 v1911) a + S1x256.size a ≤ S4096x256.size a := fun v1911 k0_hw121 => k0_hw121

def k0_off263 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_703 : BitVec 32 := 1024#32
  let v1918 : BitVec 32 := Scalar.muli v14 c1024_i32_703
  let c113_i32 : BitVec 32 := 113#32
  let v1919 : BitVec 32 := Scalar.addi v1918 c113_i32
  let v1920 : Index := Scalar.indexCast v1919
  ![v1920.toNat]
def k0_off264 (v1921 : BitVec 32) : Fin 2 → Nat :=
  let c4095_i32_704 : BitVec 32 := 4095#32
  let v1922 : BitVec 32 := Scalar.andi v1921 c4095_i32_704
  let v1923 : Index := Scalar.indexCast v1922
  let c0_705 : Index := 0#32
  ![v1923.toNat, 0]

def k0_chk122 (v1921 : BitVec 32) : Prop :=
  (∀ a, (k0_off264 v1921) a + S1x256.size a ≤ S4096x256.size a)
theorem k0_off264_inb : ∀ (v1921 : BitVec 32) (k0_hw122 : k0_chk122 v1921), ∀ a, (k0_off264 v1921) a + S1x256.size a ≤ S4096x256.size a := fun v1921 k0_hw122 => k0_hw122

def k0_off265 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v1985 : Index := Scalar.indexCast v12
  let c0_723 : Index := 0#32
  let c0_724 : Index := 0#32
  ![v1985.toNat, 0, 0]
def k0_off266 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v2046 : Index := Scalar.indexCast v12
  let c0_742 : Index := 0#32
  let c256_743 : Index := 256#32
  ![v2046.toNat, 0, 256]
def k0_off267 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v2108 : Index := Scalar.indexCast v12
  let c0_761 : Index := 0#32
  let c512_762 : Index := 512#32
  ![v2108.toNat, 0, 512]
def k0_off268 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v2170 : Index := Scalar.indexCast v12
  let c0_780 : Index := 0#32
  let c768_781 : Index := 768#32
  ![v2170.toNat, 0, 768]
def k0_off269 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_787 : BitVec 32 := 1024#32
  let v2180 : BitVec 32 := Scalar.muli v14 c1024_i32_787
  let c114_i32 : BitVec 32 := 114#32
  let v2181 : BitVec 32 := Scalar.addi v2180 c114_i32
  let v2182 : Index := Scalar.indexCast v2181
  ![v2182.toNat]
def k0_off270 (v2183 : BitVec 32) : Fin 2 → Nat :=
  let c4095_i32_788 : BitVec 32 := 4095#32
  let v2184 : BitVec 32 := Scalar.andi v2183 c4095_i32_788
  let v2185 : Index := Scalar.indexCast v2184
  let c0_789 : Index := 0#32
  ![v2185.toNat, 0]

def k0_chk123 (v2183 : BitVec 32) : Prop :=
  (∀ a, (k0_off270 v2183) a + S1x256.size a ≤ S4096x256.size a)
theorem k0_off270_inb : ∀ (v2183 : BitVec 32) (k0_hw123 : k0_chk123 v2183), ∀ a, (k0_off270 v2183) a + S1x256.size a ≤ S4096x256.size a := fun v2183 k0_hw123 => k0_hw123

def k0_off271 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_791 : BitVec 32 := 1024#32
  let v2190 : BitVec 32 := Scalar.muli v14 c1024_i32_791
  let c115_i32 : BitVec 32 := 115#32
  let v2191 : BitVec 32 := Scalar.addi v2190 c115_i32
  let v2192 : Index := Scalar.indexCast v2191
  ![v2192.toNat]
def k0_off272 (v2193 : BitVec 32) : Fin 2 → Nat :=
  let c4095_i32_792 : BitVec 32 := 4095#32
  let v2194 : BitVec 32 := Scalar.andi v2193 c4095_i32_792
  let v2195 : Index := Scalar.indexCast v2194
  let c0_793 : Index := 0#32
  ![v2195.toNat, 0]

def k0_chk124 (v2193 : BitVec 32) : Prop :=
  (∀ a, (k0_off272 v2193) a + S1x256.size a ≤ S4096x256.size a)
theorem k0_off272_inb : ∀ (v2193 : BitVec 32) (k0_hw124 : k0_chk124 v2193), ∀ a, (k0_off272 v2193) a + S1x256.size a ≤ S4096x256.size a := fun v2193 k0_hw124 => k0_hw124

def k0_off273 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_795 : BitVec 32 := 1024#32
  let v2200 : BitVec 32 := Scalar.muli v14 c1024_i32_795
  let c116_i32 : BitVec 32 := 116#32
  let v2201 : BitVec 32 := Scalar.addi v2200 c116_i32
  let v2202 : Index := Scalar.indexCast v2201
  ![v2202.toNat]
def k0_off274 (v2203 : BitVec 32) : Fin 2 → Nat :=
  let c4095_i32_796 : BitVec 32 := 4095#32
  let v2204 : BitVec 32 := Scalar.andi v2203 c4095_i32_796
  let v2205 : Index := Scalar.indexCast v2204
  let c0_797 : Index := 0#32
  ![v2205.toNat, 0]

def k0_chk125 (v2203 : BitVec 32) : Prop :=
  (∀ a, (k0_off274 v2203) a + S1x256.size a ≤ S4096x256.size a)
theorem k0_off274_inb : ∀ (v2203 : BitVec 32) (k0_hw125 : k0_chk125 v2203), ∀ a, (k0_off274 v2203) a + S1x256.size a ≤ S4096x256.size a := fun v2203 k0_hw125 => k0_hw125

def k0_off275 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_799 : BitVec 32 := 1024#32
  let v2210 : BitVec 32 := Scalar.muli v14 c1024_i32_799
  let c117_i32 : BitVec 32 := 117#32
  let v2211 : BitVec 32 := Scalar.addi v2210 c117_i32
  let v2212 : Index := Scalar.indexCast v2211
  ![v2212.toNat]
def k0_off276 (v2213 : BitVec 32) : Fin 2 → Nat :=
  let c4095_i32_800 : BitVec 32 := 4095#32
  let v2214 : BitVec 32 := Scalar.andi v2213 c4095_i32_800
  let v2215 : Index := Scalar.indexCast v2214
  let c0_801 : Index := 0#32
  ![v2215.toNat, 0]

def k0_chk126 (v2213 : BitVec 32) : Prop :=
  (∀ a, (k0_off276 v2213) a + S1x256.size a ≤ S4096x256.size a)
theorem k0_off276_inb : ∀ (v2213 : BitVec 32) (k0_hw126 : k0_chk126 v2213), ∀ a, (k0_off276 v2213) a + S1x256.size a ≤ S4096x256.size a := fun v2213 k0_hw126 => k0_hw126

def k0_off277 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_803 : BitVec 32 := 1024#32
  let v2220 : BitVec 32 := Scalar.muli v14 c1024_i32_803
  let c118_i32 : BitVec 32 := 118#32
  let v2221 : BitVec 32 := Scalar.addi v2220 c118_i32
  let v2222 : Index := Scalar.indexCast v2221
  ![v2222.toNat]
def k0_off278 (v2223 : BitVec 32) : Fin 2 → Nat :=
  let c4095_i32_804 : BitVec 32 := 4095#32
  let v2224 : BitVec 32 := Scalar.andi v2223 c4095_i32_804
  let v2225 : Index := Scalar.indexCast v2224
  let c0_805 : Index := 0#32
  ![v2225.toNat, 0]

def k0_chk127 (v2223 : BitVec 32) : Prop :=
  (∀ a, (k0_off278 v2223) a + S1x256.size a ≤ S4096x256.size a)
theorem k0_off278_inb : ∀ (v2223 : BitVec 32) (k0_hw127 : k0_chk127 v2223), ∀ a, (k0_off278 v2223) a + S1x256.size a ≤ S4096x256.size a := fun v2223 k0_hw127 => k0_hw127

def k0_off279 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_807 : BitVec 32 := 1024#32
  let v2230 : BitVec 32 := Scalar.muli v14 c1024_i32_807
  let c119_i32 : BitVec 32 := 119#32
  let v2231 : BitVec 32 := Scalar.addi v2230 c119_i32
  let v2232 : Index := Scalar.indexCast v2231
  ![v2232.toNat]
def k0_off280 (v2233 : BitVec 32) : Fin 2 → Nat :=
  let c4095_i32_808 : BitVec 32 := 4095#32
  let v2234 : BitVec 32 := Scalar.andi v2233 c4095_i32_808
  let v2235 : Index := Scalar.indexCast v2234
  let c0_809 : Index := 0#32
  ![v2235.toNat, 0]

def k0_chk128 (v2233 : BitVec 32) : Prop :=
  (∀ a, (k0_off280 v2233) a + S1x256.size a ≤ S4096x256.size a)
theorem k0_off280_inb : ∀ (v2233 : BitVec 32) (k0_hw128 : k0_chk128 v2233), ∀ a, (k0_off280 v2233) a + S1x256.size a ≤ S4096x256.size a := fun v2233 k0_hw128 => k0_hw128

def k0_off281 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_811 : BitVec 32 := 1024#32
  let v2240 : BitVec 32 := Scalar.muli v14 c1024_i32_811
  let c120_i32 : BitVec 32 := 120#32
  let v2241 : BitVec 32 := Scalar.addi v2240 c120_i32
  let v2242 : Index := Scalar.indexCast v2241
  ![v2242.toNat]
def k0_off282 (v2243 : BitVec 32) : Fin 2 → Nat :=
  let c4095_i32_812 : BitVec 32 := 4095#32
  let v2244 : BitVec 32 := Scalar.andi v2243 c4095_i32_812
  let v2245 : Index := Scalar.indexCast v2244
  let c0_813 : Index := 0#32
  ![v2245.toNat, 0]

def k0_chk129 (v2243 : BitVec 32) : Prop :=
  (∀ a, (k0_off282 v2243) a + S1x256.size a ≤ S4096x256.size a)
theorem k0_off282_inb : ∀ (v2243 : BitVec 32) (k0_hw129 : k0_chk129 v2243), ∀ a, (k0_off282 v2243) a + S1x256.size a ≤ S4096x256.size a := fun v2243 k0_hw129 => k0_hw129

def k0_off283 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_815 : BitVec 32 := 1024#32
  let v2250 : BitVec 32 := Scalar.muli v14 c1024_i32_815
  let c121_i32 : BitVec 32 := 121#32
  let v2251 : BitVec 32 := Scalar.addi v2250 c121_i32
  let v2252 : Index := Scalar.indexCast v2251
  ![v2252.toNat]
def k0_off284 (v2253 : BitVec 32) : Fin 2 → Nat :=
  let c4095_i32_816 : BitVec 32 := 4095#32
  let v2254 : BitVec 32 := Scalar.andi v2253 c4095_i32_816
  let v2255 : Index := Scalar.indexCast v2254
  let c0_817 : Index := 0#32
  ![v2255.toNat, 0]

def k0_chk130 (v2253 : BitVec 32) : Prop :=
  (∀ a, (k0_off284 v2253) a + S1x256.size a ≤ S4096x256.size a)
theorem k0_off284_inb : ∀ (v2253 : BitVec 32) (k0_hw130 : k0_chk130 v2253), ∀ a, (k0_off284 v2253) a + S1x256.size a ≤ S4096x256.size a := fun v2253 k0_hw130 => k0_hw130

def k0_off285 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_819 : BitVec 32 := 1024#32
  let v2260 : BitVec 32 := Scalar.muli v14 c1024_i32_819
  let c122_i32 : BitVec 32 := 122#32
  let v2261 : BitVec 32 := Scalar.addi v2260 c122_i32
  let v2262 : Index := Scalar.indexCast v2261
  ![v2262.toNat]
def k0_off286 (v2263 : BitVec 32) : Fin 2 → Nat :=
  let c4095_i32_820 : BitVec 32 := 4095#32
  let v2264 : BitVec 32 := Scalar.andi v2263 c4095_i32_820
  let v2265 : Index := Scalar.indexCast v2264
  let c0_821 : Index := 0#32
  ![v2265.toNat, 0]

def k0_chk131 (v2263 : BitVec 32) : Prop :=
  (∀ a, (k0_off286 v2263) a + S1x256.size a ≤ S4096x256.size a)
theorem k0_off286_inb : ∀ (v2263 : BitVec 32) (k0_hw131 : k0_chk131 v2263), ∀ a, (k0_off286 v2263) a + S1x256.size a ≤ S4096x256.size a := fun v2263 k0_hw131 => k0_hw131

def k0_off287 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_823 : BitVec 32 := 1024#32
  let v2270 : BitVec 32 := Scalar.muli v14 c1024_i32_823
  let c123_i32 : BitVec 32 := 123#32
  let v2271 : BitVec 32 := Scalar.addi v2270 c123_i32
  let v2272 : Index := Scalar.indexCast v2271
  ![v2272.toNat]
def k0_off288 (v2273 : BitVec 32) : Fin 2 → Nat :=
  let c4095_i32_824 : BitVec 32 := 4095#32
  let v2274 : BitVec 32 := Scalar.andi v2273 c4095_i32_824
  let v2275 : Index := Scalar.indexCast v2274
  let c0_825 : Index := 0#32
  ![v2275.toNat, 0]

def k0_chk132 (v2273 : BitVec 32) : Prop :=
  (∀ a, (k0_off288 v2273) a + S1x256.size a ≤ S4096x256.size a)
theorem k0_off288_inb : ∀ (v2273 : BitVec 32) (k0_hw132 : k0_chk132 v2273), ∀ a, (k0_off288 v2273) a + S1x256.size a ≤ S4096x256.size a := fun v2273 k0_hw132 => k0_hw132

def k0_off289 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_827 : BitVec 32 := 1024#32
  let v2280 : BitVec 32 := Scalar.muli v14 c1024_i32_827
  let c124_i32 : BitVec 32 := 124#32
  let v2281 : BitVec 32 := Scalar.addi v2280 c124_i32
  let v2282 : Index := Scalar.indexCast v2281
  ![v2282.toNat]
def k0_off290 (v2283 : BitVec 32) : Fin 2 → Nat :=
  let c4095_i32_828 : BitVec 32 := 4095#32
  let v2284 : BitVec 32 := Scalar.andi v2283 c4095_i32_828
  let v2285 : Index := Scalar.indexCast v2284
  let c0_829 : Index := 0#32
  ![v2285.toNat, 0]

def k0_chk133 (v2283 : BitVec 32) : Prop :=
  (∀ a, (k0_off290 v2283) a + S1x256.size a ≤ S4096x256.size a)
theorem k0_off290_inb : ∀ (v2283 : BitVec 32) (k0_hw133 : k0_chk133 v2283), ∀ a, (k0_off290 v2283) a + S1x256.size a ≤ S4096x256.size a := fun v2283 k0_hw133 => k0_hw133

def k0_off291 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_831 : BitVec 32 := 1024#32
  let v2290 : BitVec 32 := Scalar.muli v14 c1024_i32_831
  let c125_i32 : BitVec 32 := 125#32
  let v2291 : BitVec 32 := Scalar.addi v2290 c125_i32
  let v2292 : Index := Scalar.indexCast v2291
  ![v2292.toNat]
def k0_off292 (v2293 : BitVec 32) : Fin 2 → Nat :=
  let c4095_i32_832 : BitVec 32 := 4095#32
  let v2294 : BitVec 32 := Scalar.andi v2293 c4095_i32_832
  let v2295 : Index := Scalar.indexCast v2294
  let c0_833 : Index := 0#32
  ![v2295.toNat, 0]

def k0_chk134 (v2293 : BitVec 32) : Prop :=
  (∀ a, (k0_off292 v2293) a + S1x256.size a ≤ S4096x256.size a)
theorem k0_off292_inb : ∀ (v2293 : BitVec 32) (k0_hw134 : k0_chk134 v2293), ∀ a, (k0_off292 v2293) a + S1x256.size a ≤ S4096x256.size a := fun v2293 k0_hw134 => k0_hw134

def k0_off293 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_835 : BitVec 32 := 1024#32
  let v2300 : BitVec 32 := Scalar.muli v14 c1024_i32_835
  let c126_i32 : BitVec 32 := 126#32
  let v2301 : BitVec 32 := Scalar.addi v2300 c126_i32
  let v2302 : Index := Scalar.indexCast v2301
  ![v2302.toNat]
def k0_off294 (v2303 : BitVec 32) : Fin 2 → Nat :=
  let c4095_i32_836 : BitVec 32 := 4095#32
  let v2304 : BitVec 32 := Scalar.andi v2303 c4095_i32_836
  let v2305 : Index := Scalar.indexCast v2304
  let c0_837 : Index := 0#32
  ![v2305.toNat, 0]

def k0_chk135 (v2303 : BitVec 32) : Prop :=
  (∀ a, (k0_off294 v2303) a + S1x256.size a ≤ S4096x256.size a)
theorem k0_off294_inb : ∀ (v2303 : BitVec 32) (k0_hw135 : k0_chk135 v2303), ∀ a, (k0_off294 v2303) a + S1x256.size a ≤ S4096x256.size a := fun v2303 k0_hw135 => k0_hw135

def k0_off295 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_839 : BitVec 32 := 1024#32
  let v2310 : BitVec 32 := Scalar.muli v14 c1024_i32_839
  let c127_i32 : BitVec 32 := 127#32
  let v2311 : BitVec 32 := Scalar.addi v2310 c127_i32
  let v2312 : Index := Scalar.indexCast v2311
  ![v2312.toNat]
def k0_off296 (v2313 : BitVec 32) : Fin 2 → Nat :=
  let c4095_i32_840 : BitVec 32 := 4095#32
  let v2314 : BitVec 32 := Scalar.andi v2313 c4095_i32_840
  let v2315 : Index := Scalar.indexCast v2314
  let c0_841 : Index := 0#32
  ![v2315.toNat, 0]

def k0_chk136 (v2313 : BitVec 32) : Prop :=
  (∀ a, (k0_off296 v2313) a + S1x256.size a ≤ S4096x256.size a)
theorem k0_off296_inb : ∀ (v2313 : BitVec 32) (k0_hw136 : k0_chk136 v2313), ∀ a, (k0_off296 v2313) a + S1x256.size a ≤ S4096x256.size a := fun v2313 k0_hw136 => k0_hw136

def k0_off297 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_843 : BitVec 32 := 1024#32
  let v2320 : BitVec 32 := Scalar.muli v14 c1024_i32_843
  let c128_i32 : BitVec 32 := 128#32
  let v2321 : BitVec 32 := Scalar.addi v2320 c128_i32
  let v2322 : Index := Scalar.indexCast v2321
  ![v2322.toNat]
def k0_off298 (v2323 : BitVec 32) : Fin 2 → Nat :=
  let c4095_i32_844 : BitVec 32 := 4095#32
  let v2324 : BitVec 32 := Scalar.andi v2323 c4095_i32_844
  let v2325 : Index := Scalar.indexCast v2324
  let c0_845 : Index := 0#32
  ![v2325.toNat, 0]

def k0_chk137 (v2323 : BitVec 32) : Prop :=
  (∀ a, (k0_off298 v2323) a + S1x256.size a ≤ S4096x256.size a)
theorem k0_off298_inb : ∀ (v2323 : BitVec 32) (k0_hw137 : k0_chk137 v2323), ∀ a, (k0_off298 v2323) a + S1x256.size a ≤ S4096x256.size a := fun v2323 k0_hw137 => k0_hw137

def k0_off299 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_848 : BitVec 32 := 1024#32
  let v2330 : BitVec 32 := Scalar.muli v14 c1024_i32_848
  let c129_i32 : BitVec 32 := 129#32
  let v2331 : BitVec 32 := Scalar.addi v2330 c129_i32
  let v2332 : Index := Scalar.indexCast v2331
  ![v2332.toNat]
def k0_off300 (v2333 : BitVec 32) : Fin 2 → Nat :=
  let c4095_i32_849 : BitVec 32 := 4095#32
  let v2334 : BitVec 32 := Scalar.andi v2333 c4095_i32_849
  let v2335 : Index := Scalar.indexCast v2334
  let c0_850 : Index := 0#32
  ![v2335.toNat, 0]

def k0_chk138 (v2333 : BitVec 32) : Prop :=
  (∀ a, (k0_off300 v2333) a + S1x256.size a ≤ S4096x256.size a)
theorem k0_off300_inb : ∀ (v2333 : BitVec 32) (k0_hw138 : k0_chk138 v2333), ∀ a, (k0_off300 v2333) a + S1x256.size a ≤ S4096x256.size a := fun v2333 k0_hw138 => k0_hw138

def k0_off301 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_852 : BitVec 32 := 1024#32
  let v2340 : BitVec 32 := Scalar.muli v14 c1024_i32_852
  let c130_i32 : BitVec 32 := 130#32
  let v2341 : BitVec 32 := Scalar.addi v2340 c130_i32
  let v2342 : Index := Scalar.indexCast v2341
  ![v2342.toNat]
def k0_off302 (v2343 : BitVec 32) : Fin 2 → Nat :=
  let c4095_i32_853 : BitVec 32 := 4095#32
  let v2344 : BitVec 32 := Scalar.andi v2343 c4095_i32_853
  let v2345 : Index := Scalar.indexCast v2344
  let c0_854 : Index := 0#32
  ![v2345.toNat, 0]

def k0_chk139 (v2343 : BitVec 32) : Prop :=
  (∀ a, (k0_off302 v2343) a + S1x256.size a ≤ S4096x256.size a)
theorem k0_off302_inb : ∀ (v2343 : BitVec 32) (k0_hw139 : k0_chk139 v2343), ∀ a, (k0_off302 v2343) a + S1x256.size a ≤ S4096x256.size a := fun v2343 k0_hw139 => k0_hw139

def k0_off303 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_856 : BitVec 32 := 1024#32
  let v2350 : BitVec 32 := Scalar.muli v14 c1024_i32_856
  let c131_i32 : BitVec 32 := 131#32
  let v2351 : BitVec 32 := Scalar.addi v2350 c131_i32
  let v2352 : Index := Scalar.indexCast v2351
  ![v2352.toNat]
def k0_off304 (v2353 : BitVec 32) : Fin 2 → Nat :=
  let c4095_i32_857 : BitVec 32 := 4095#32
  let v2354 : BitVec 32 := Scalar.andi v2353 c4095_i32_857
  let v2355 : Index := Scalar.indexCast v2354
  let c0_858 : Index := 0#32
  ![v2355.toNat, 0]

def k0_chk140 (v2353 : BitVec 32) : Prop :=
  (∀ a, (k0_off304 v2353) a + S1x256.size a ≤ S4096x256.size a)
theorem k0_off304_inb : ∀ (v2353 : BitVec 32) (k0_hw140 : k0_chk140 v2353), ∀ a, (k0_off304 v2353) a + S1x256.size a ≤ S4096x256.size a := fun v2353 k0_hw140 => k0_hw140

def k0_off305 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_860 : BitVec 32 := 1024#32
  let v2360 : BitVec 32 := Scalar.muli v14 c1024_i32_860
  let c132_i32 : BitVec 32 := 132#32
  let v2361 : BitVec 32 := Scalar.addi v2360 c132_i32
  let v2362 : Index := Scalar.indexCast v2361
  ![v2362.toNat]
def k0_off306 (v2363 : BitVec 32) : Fin 2 → Nat :=
  let c4095_i32_861 : BitVec 32 := 4095#32
  let v2364 : BitVec 32 := Scalar.andi v2363 c4095_i32_861
  let v2365 : Index := Scalar.indexCast v2364
  let c0_862 : Index := 0#32
  ![v2365.toNat, 0]

def k0_chk141 (v2363 : BitVec 32) : Prop :=
  (∀ a, (k0_off306 v2363) a + S1x256.size a ≤ S4096x256.size a)
theorem k0_off306_inb : ∀ (v2363 : BitVec 32) (k0_hw141 : k0_chk141 v2363), ∀ a, (k0_off306 v2363) a + S1x256.size a ≤ S4096x256.size a := fun v2363 k0_hw141 => k0_hw141

def k0_off307 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_864 : BitVec 32 := 1024#32
  let v2370 : BitVec 32 := Scalar.muli v14 c1024_i32_864
  let c133_i32 : BitVec 32 := 133#32
  let v2371 : BitVec 32 := Scalar.addi v2370 c133_i32
  let v2372 : Index := Scalar.indexCast v2371
  ![v2372.toNat]
def k0_off308 (v2373 : BitVec 32) : Fin 2 → Nat :=
  let c4095_i32_865 : BitVec 32 := 4095#32
  let v2374 : BitVec 32 := Scalar.andi v2373 c4095_i32_865
  let v2375 : Index := Scalar.indexCast v2374
  let c0_866 : Index := 0#32
  ![v2375.toNat, 0]

def k0_chk142 (v2373 : BitVec 32) : Prop :=
  (∀ a, (k0_off308 v2373) a + S1x256.size a ≤ S4096x256.size a)
theorem k0_off308_inb : ∀ (v2373 : BitVec 32) (k0_hw142 : k0_chk142 v2373), ∀ a, (k0_off308 v2373) a + S1x256.size a ≤ S4096x256.size a := fun v2373 k0_hw142 => k0_hw142

def k0_off309 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_868 : BitVec 32 := 1024#32
  let v2380 : BitVec 32 := Scalar.muli v14 c1024_i32_868
  let c134_i32 : BitVec 32 := 134#32
  let v2381 : BitVec 32 := Scalar.addi v2380 c134_i32
  let v2382 : Index := Scalar.indexCast v2381
  ![v2382.toNat]
def k0_off310 (v2383 : BitVec 32) : Fin 2 → Nat :=
  let c4095_i32_869 : BitVec 32 := 4095#32
  let v2384 : BitVec 32 := Scalar.andi v2383 c4095_i32_869
  let v2385 : Index := Scalar.indexCast v2384
  let c0_870 : Index := 0#32
  ![v2385.toNat, 0]

def k0_chk143 (v2383 : BitVec 32) : Prop :=
  (∀ a, (k0_off310 v2383) a + S1x256.size a ≤ S4096x256.size a)
theorem k0_off310_inb : ∀ (v2383 : BitVec 32) (k0_hw143 : k0_chk143 v2383), ∀ a, (k0_off310 v2383) a + S1x256.size a ≤ S4096x256.size a := fun v2383 k0_hw143 => k0_hw143

def k0_off311 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_872 : BitVec 32 := 1024#32
  let v2390 : BitVec 32 := Scalar.muli v14 c1024_i32_872
  let c135_i32 : BitVec 32 := 135#32
  let v2391 : BitVec 32 := Scalar.addi v2390 c135_i32
  let v2392 : Index := Scalar.indexCast v2391
  ![v2392.toNat]
def k0_off312 (v2393 : BitVec 32) : Fin 2 → Nat :=
  let c4095_i32_873 : BitVec 32 := 4095#32
  let v2394 : BitVec 32 := Scalar.andi v2393 c4095_i32_873
  let v2395 : Index := Scalar.indexCast v2394
  let c0_874 : Index := 0#32
  ![v2395.toNat, 0]

def k0_chk144 (v2393 : BitVec 32) : Prop :=
  (∀ a, (k0_off312 v2393) a + S1x256.size a ≤ S4096x256.size a)
theorem k0_off312_inb : ∀ (v2393 : BitVec 32) (k0_hw144 : k0_chk144 v2393), ∀ a, (k0_off312 v2393) a + S1x256.size a ≤ S4096x256.size a := fun v2393 k0_hw144 => k0_hw144

def k0_off313 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_876 : BitVec 32 := 1024#32
  let v2400 : BitVec 32 := Scalar.muli v14 c1024_i32_876
  let c136_i32 : BitVec 32 := 136#32
  let v2401 : BitVec 32 := Scalar.addi v2400 c136_i32
  let v2402 : Index := Scalar.indexCast v2401
  ![v2402.toNat]
def k0_off314 (v2403 : BitVec 32) : Fin 2 → Nat :=
  let c4095_i32_877 : BitVec 32 := 4095#32
  let v2404 : BitVec 32 := Scalar.andi v2403 c4095_i32_877
  let v2405 : Index := Scalar.indexCast v2404
  let c0_878 : Index := 0#32
  ![v2405.toNat, 0]

def k0_chk145 (v2403 : BitVec 32) : Prop :=
  (∀ a, (k0_off314 v2403) a + S1x256.size a ≤ S4096x256.size a)
theorem k0_off314_inb : ∀ (v2403 : BitVec 32) (k0_hw145 : k0_chk145 v2403), ∀ a, (k0_off314 v2403) a + S1x256.size a ≤ S4096x256.size a := fun v2403 k0_hw145 => k0_hw145

def k0_off315 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_880 : BitVec 32 := 1024#32
  let v2410 : BitVec 32 := Scalar.muli v14 c1024_i32_880
  let c137_i32 : BitVec 32 := 137#32
  let v2411 : BitVec 32 := Scalar.addi v2410 c137_i32
  let v2412 : Index := Scalar.indexCast v2411
  ![v2412.toNat]
def k0_off316 (v2413 : BitVec 32) : Fin 2 → Nat :=
  let c4095_i32_881 : BitVec 32 := 4095#32
  let v2414 : BitVec 32 := Scalar.andi v2413 c4095_i32_881
  let v2415 : Index := Scalar.indexCast v2414
  let c0_882 : Index := 0#32
  ![v2415.toNat, 0]

def k0_chk146 (v2413 : BitVec 32) : Prop :=
  (∀ a, (k0_off316 v2413) a + S1x256.size a ≤ S4096x256.size a)
theorem k0_off316_inb : ∀ (v2413 : BitVec 32) (k0_hw146 : k0_chk146 v2413), ∀ a, (k0_off316 v2413) a + S1x256.size a ≤ S4096x256.size a := fun v2413 k0_hw146 => k0_hw146

def k0_off317 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_884 : BitVec 32 := 1024#32
  let v2420 : BitVec 32 := Scalar.muli v14 c1024_i32_884
  let c138_i32 : BitVec 32 := 138#32
  let v2421 : BitVec 32 := Scalar.addi v2420 c138_i32
  let v2422 : Index := Scalar.indexCast v2421
  ![v2422.toNat]
def k0_off318 (v2423 : BitVec 32) : Fin 2 → Nat :=
  let c4095_i32_885 : BitVec 32 := 4095#32
  let v2424 : BitVec 32 := Scalar.andi v2423 c4095_i32_885
  let v2425 : Index := Scalar.indexCast v2424
  let c0_886 : Index := 0#32
  ![v2425.toNat, 0]

def k0_chk147 (v2423 : BitVec 32) : Prop :=
  (∀ a, (k0_off318 v2423) a + S1x256.size a ≤ S4096x256.size a)
theorem k0_off318_inb : ∀ (v2423 : BitVec 32) (k0_hw147 : k0_chk147 v2423), ∀ a, (k0_off318 v2423) a + S1x256.size a ≤ S4096x256.size a := fun v2423 k0_hw147 => k0_hw147

def k0_off319 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_888 : BitVec 32 := 1024#32
  let v2430 : BitVec 32 := Scalar.muli v14 c1024_i32_888
  let c139_i32 : BitVec 32 := 139#32
  let v2431 : BitVec 32 := Scalar.addi v2430 c139_i32
  let v2432 : Index := Scalar.indexCast v2431
  ![v2432.toNat]
def k0_off320 (v2433 : BitVec 32) : Fin 2 → Nat :=
  let c4095_i32_889 : BitVec 32 := 4095#32
  let v2434 : BitVec 32 := Scalar.andi v2433 c4095_i32_889
  let v2435 : Index := Scalar.indexCast v2434
  let c0_890 : Index := 0#32
  ![v2435.toNat, 0]

def k0_chk148 (v2433 : BitVec 32) : Prop :=
  (∀ a, (k0_off320 v2433) a + S1x256.size a ≤ S4096x256.size a)
theorem k0_off320_inb : ∀ (v2433 : BitVec 32) (k0_hw148 : k0_chk148 v2433), ∀ a, (k0_off320 v2433) a + S1x256.size a ≤ S4096x256.size a := fun v2433 k0_hw148 => k0_hw148

def k0_off321 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_892 : BitVec 32 := 1024#32
  let v2440 : BitVec 32 := Scalar.muli v14 c1024_i32_892
  let c140_i32 : BitVec 32 := 140#32
  let v2441 : BitVec 32 := Scalar.addi v2440 c140_i32
  let v2442 : Index := Scalar.indexCast v2441
  ![v2442.toNat]
def k0_off322 (v2443 : BitVec 32) : Fin 2 → Nat :=
  let c4095_i32_893 : BitVec 32 := 4095#32
  let v2444 : BitVec 32 := Scalar.andi v2443 c4095_i32_893
  let v2445 : Index := Scalar.indexCast v2444
  let c0_894 : Index := 0#32
  ![v2445.toNat, 0]

def k0_chk149 (v2443 : BitVec 32) : Prop :=
  (∀ a, (k0_off322 v2443) a + S1x256.size a ≤ S4096x256.size a)
theorem k0_off322_inb : ∀ (v2443 : BitVec 32) (k0_hw149 : k0_chk149 v2443), ∀ a, (k0_off322 v2443) a + S1x256.size a ≤ S4096x256.size a := fun v2443 k0_hw149 => k0_hw149

def k0_off323 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_896 : BitVec 32 := 1024#32
  let v2450 : BitVec 32 := Scalar.muli v14 c1024_i32_896
  let c141_i32 : BitVec 32 := 141#32
  let v2451 : BitVec 32 := Scalar.addi v2450 c141_i32
  let v2452 : Index := Scalar.indexCast v2451
  ![v2452.toNat]
def k0_off324 (v2453 : BitVec 32) : Fin 2 → Nat :=
  let c4095_i32_897 : BitVec 32 := 4095#32
  let v2454 : BitVec 32 := Scalar.andi v2453 c4095_i32_897
  let v2455 : Index := Scalar.indexCast v2454
  let c0_898 : Index := 0#32
  ![v2455.toNat, 0]

def k0_chk150 (v2453 : BitVec 32) : Prop :=
  (∀ a, (k0_off324 v2453) a + S1x256.size a ≤ S4096x256.size a)
theorem k0_off324_inb : ∀ (v2453 : BitVec 32) (k0_hw150 : k0_chk150 v2453), ∀ a, (k0_off324 v2453) a + S1x256.size a ≤ S4096x256.size a := fun v2453 k0_hw150 => k0_hw150

def k0_off325 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_900 : BitVec 32 := 1024#32
  let v2460 : BitVec 32 := Scalar.muli v14 c1024_i32_900
  let c142_i32 : BitVec 32 := 142#32
  let v2461 : BitVec 32 := Scalar.addi v2460 c142_i32
  let v2462 : Index := Scalar.indexCast v2461
  ![v2462.toNat]
def k0_off326 (v2463 : BitVec 32) : Fin 2 → Nat :=
  let c4095_i32_901 : BitVec 32 := 4095#32
  let v2464 : BitVec 32 := Scalar.andi v2463 c4095_i32_901
  let v2465 : Index := Scalar.indexCast v2464
  let c0_902 : Index := 0#32
  ![v2465.toNat, 0]

def k0_chk151 (v2463 : BitVec 32) : Prop :=
  (∀ a, (k0_off326 v2463) a + S1x256.size a ≤ S4096x256.size a)
theorem k0_off326_inb : ∀ (v2463 : BitVec 32) (k0_hw151 : k0_chk151 v2463), ∀ a, (k0_off326 v2463) a + S1x256.size a ≤ S4096x256.size a := fun v2463 k0_hw151 => k0_hw151

def k0_off327 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_904 : BitVec 32 := 1024#32
  let v2470 : BitVec 32 := Scalar.muli v14 c1024_i32_904
  let c143_i32 : BitVec 32 := 143#32
  let v2471 : BitVec 32 := Scalar.addi v2470 c143_i32
  let v2472 : Index := Scalar.indexCast v2471
  ![v2472.toNat]
def k0_off328 (v2473 : BitVec 32) : Fin 2 → Nat :=
  let c4095_i32_905 : BitVec 32 := 4095#32
  let v2474 : BitVec 32 := Scalar.andi v2473 c4095_i32_905
  let v2475 : Index := Scalar.indexCast v2474
  let c0_906 : Index := 0#32
  ![v2475.toNat, 0]

def k0_chk152 (v2473 : BitVec 32) : Prop :=
  (∀ a, (k0_off328 v2473) a + S1x256.size a ≤ S4096x256.size a)
theorem k0_off328_inb : ∀ (v2473 : BitVec 32) (k0_hw152 : k0_chk152 v2473), ∀ a, (k0_off328 v2473) a + S1x256.size a ≤ S4096x256.size a := fun v2473 k0_hw152 => k0_hw152

def k0_off329 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_908 : BitVec 32 := 1024#32
  let v2480 : BitVec 32 := Scalar.muli v14 c1024_i32_908
  let c144_i32 : BitVec 32 := 144#32
  let v2481 : BitVec 32 := Scalar.addi v2480 c144_i32
  let v2482 : Index := Scalar.indexCast v2481
  ![v2482.toNat]
def k0_off330 (v2483 : BitVec 32) : Fin 2 → Nat :=
  let c4095_i32_909 : BitVec 32 := 4095#32
  let v2484 : BitVec 32 := Scalar.andi v2483 c4095_i32_909
  let v2485 : Index := Scalar.indexCast v2484
  let c0_910 : Index := 0#32
  ![v2485.toNat, 0]

def k0_chk153 (v2483 : BitVec 32) : Prop :=
  (∀ a, (k0_off330 v2483) a + S1x256.size a ≤ S4096x256.size a)
theorem k0_off330_inb : ∀ (v2483 : BitVec 32) (k0_hw153 : k0_chk153 v2483), ∀ a, (k0_off330 v2483) a + S1x256.size a ≤ S4096x256.size a := fun v2483 k0_hw153 => k0_hw153

def k0_off331 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_912 : BitVec 32 := 1024#32
  let v2490 : BitVec 32 := Scalar.muli v14 c1024_i32_912
  let c145_i32 : BitVec 32 := 145#32
  let v2491 : BitVec 32 := Scalar.addi v2490 c145_i32
  let v2492 : Index := Scalar.indexCast v2491
  ![v2492.toNat]
def k0_off332 (v2493 : BitVec 32) : Fin 2 → Nat :=
  let c4095_i32_913 : BitVec 32 := 4095#32
  let v2494 : BitVec 32 := Scalar.andi v2493 c4095_i32_913
  let v2495 : Index := Scalar.indexCast v2494
  let c0_914 : Index := 0#32
  ![v2495.toNat, 0]

def k0_chk154 (v2493 : BitVec 32) : Prop :=
  (∀ a, (k0_off332 v2493) a + S1x256.size a ≤ S4096x256.size a)
theorem k0_off332_inb : ∀ (v2493 : BitVec 32) (k0_hw154 : k0_chk154 v2493), ∀ a, (k0_off332 v2493) a + S1x256.size a ≤ S4096x256.size a := fun v2493 k0_hw154 => k0_hw154

def k0_off333 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_916 : BitVec 32 := 1024#32
  let v2500 : BitVec 32 := Scalar.muli v14 c1024_i32_916
  let c146_i32 : BitVec 32 := 146#32
  let v2501 : BitVec 32 := Scalar.addi v2500 c146_i32
  let v2502 : Index := Scalar.indexCast v2501
  ![v2502.toNat]
def k0_off334 (v2503 : BitVec 32) : Fin 2 → Nat :=
  let c4095_i32_917 : BitVec 32 := 4095#32
  let v2504 : BitVec 32 := Scalar.andi v2503 c4095_i32_917
  let v2505 : Index := Scalar.indexCast v2504
  let c0_918 : Index := 0#32
  ![v2505.toNat, 0]

def k0_chk155 (v2503 : BitVec 32) : Prop :=
  (∀ a, (k0_off334 v2503) a + S1x256.size a ≤ S4096x256.size a)
theorem k0_off334_inb : ∀ (v2503 : BitVec 32) (k0_hw155 : k0_chk155 v2503), ∀ a, (k0_off334 v2503) a + S1x256.size a ≤ S4096x256.size a := fun v2503 k0_hw155 => k0_hw155

def k0_off335 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_920 : BitVec 32 := 1024#32
  let v2510 : BitVec 32 := Scalar.muli v14 c1024_i32_920
  let c147_i32 : BitVec 32 := 147#32
  let v2511 : BitVec 32 := Scalar.addi v2510 c147_i32
  let v2512 : Index := Scalar.indexCast v2511
  ![v2512.toNat]
def k0_off336 (v2513 : BitVec 32) : Fin 2 → Nat :=
  let c4095_i32_921 : BitVec 32 := 4095#32
  let v2514 : BitVec 32 := Scalar.andi v2513 c4095_i32_921
  let v2515 : Index := Scalar.indexCast v2514
  let c0_922 : Index := 0#32
  ![v2515.toNat, 0]

def k0_chk156 (v2513 : BitVec 32) : Prop :=
  (∀ a, (k0_off336 v2513) a + S1x256.size a ≤ S4096x256.size a)
theorem k0_off336_inb : ∀ (v2513 : BitVec 32) (k0_hw156 : k0_chk156 v2513), ∀ a, (k0_off336 v2513) a + S1x256.size a ≤ S4096x256.size a := fun v2513 k0_hw156 => k0_hw156

def k0_off337 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_924 : BitVec 32 := 1024#32
  let v2520 : BitVec 32 := Scalar.muli v14 c1024_i32_924
  let c148_i32 : BitVec 32 := 148#32
  let v2521 : BitVec 32 := Scalar.addi v2520 c148_i32
  let v2522 : Index := Scalar.indexCast v2521
  ![v2522.toNat]
def k0_off338 (v2523 : BitVec 32) : Fin 2 → Nat :=
  let c4095_i32_925 : BitVec 32 := 4095#32
  let v2524 : BitVec 32 := Scalar.andi v2523 c4095_i32_925
  let v2525 : Index := Scalar.indexCast v2524
  let c0_926 : Index := 0#32
  ![v2525.toNat, 0]

def k0_chk157 (v2523 : BitVec 32) : Prop :=
  (∀ a, (k0_off338 v2523) a + S1x256.size a ≤ S4096x256.size a)
theorem k0_off338_inb : ∀ (v2523 : BitVec 32) (k0_hw157 : k0_chk157 v2523), ∀ a, (k0_off338 v2523) a + S1x256.size a ≤ S4096x256.size a := fun v2523 k0_hw157 => k0_hw157

def k0_off339 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_928 : BitVec 32 := 1024#32
  let v2530 : BitVec 32 := Scalar.muli v14 c1024_i32_928
  let c149_i32 : BitVec 32 := 149#32
  let v2531 : BitVec 32 := Scalar.addi v2530 c149_i32
  let v2532 : Index := Scalar.indexCast v2531
  ![v2532.toNat]
def k0_off340 (v2533 : BitVec 32) : Fin 2 → Nat :=
  let c4095_i32_929 : BitVec 32 := 4095#32
  let v2534 : BitVec 32 := Scalar.andi v2533 c4095_i32_929
  let v2535 : Index := Scalar.indexCast v2534
  let c0_930 : Index := 0#32
  ![v2535.toNat, 0]

def k0_chk158 (v2533 : BitVec 32) : Prop :=
  (∀ a, (k0_off340 v2533) a + S1x256.size a ≤ S4096x256.size a)
theorem k0_off340_inb : ∀ (v2533 : BitVec 32) (k0_hw158 : k0_chk158 v2533), ∀ a, (k0_off340 v2533) a + S1x256.size a ≤ S4096x256.size a := fun v2533 k0_hw158 => k0_hw158

def k0_off341 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_932 : BitVec 32 := 1024#32
  let v2540 : BitVec 32 := Scalar.muli v14 c1024_i32_932
  let c150_i32 : BitVec 32 := 150#32
  let v2541 : BitVec 32 := Scalar.addi v2540 c150_i32
  let v2542 : Index := Scalar.indexCast v2541
  ![v2542.toNat]
def k0_off342 (v2543 : BitVec 32) : Fin 2 → Nat :=
  let c4095_i32_933 : BitVec 32 := 4095#32
  let v2544 : BitVec 32 := Scalar.andi v2543 c4095_i32_933
  let v2545 : Index := Scalar.indexCast v2544
  let c0_934 : Index := 0#32
  ![v2545.toNat, 0]

def k0_chk159 (v2543 : BitVec 32) : Prop :=
  (∀ a, (k0_off342 v2543) a + S1x256.size a ≤ S4096x256.size a)
theorem k0_off342_inb : ∀ (v2543 : BitVec 32) (k0_hw159 : k0_chk159 v2543), ∀ a, (k0_off342 v2543) a + S1x256.size a ≤ S4096x256.size a := fun v2543 k0_hw159 => k0_hw159

def k0_off343 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_936 : BitVec 32 := 1024#32
  let v2550 : BitVec 32 := Scalar.muli v14 c1024_i32_936
  let c151_i32 : BitVec 32 := 151#32
  let v2551 : BitVec 32 := Scalar.addi v2550 c151_i32
  let v2552 : Index := Scalar.indexCast v2551
  ![v2552.toNat]
def k0_off344 (v2553 : BitVec 32) : Fin 2 → Nat :=
  let c4095_i32_937 : BitVec 32 := 4095#32
  let v2554 : BitVec 32 := Scalar.andi v2553 c4095_i32_937
  let v2555 : Index := Scalar.indexCast v2554
  let c0_938 : Index := 0#32
  ![v2555.toNat, 0]

def k0_chk160 (v2553 : BitVec 32) : Prop :=
  (∀ a, (k0_off344 v2553) a + S1x256.size a ≤ S4096x256.size a)
theorem k0_off344_inb : ∀ (v2553 : BitVec 32) (k0_hw160 : k0_chk160 v2553), ∀ a, (k0_off344 v2553) a + S1x256.size a ≤ S4096x256.size a := fun v2553 k0_hw160 => k0_hw160

def k0_off345 (i : grid0.Coords) : Fin 2 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c8_i32_943 : BitVec 32 := 8#32
  let v2563 : BitVec 32 := Scalar.muli v14 c8_i32_943
  let c0_i32_944 : BitVec 32 := 0#32
  let v2564 : BitVec 32 := Scalar.addi v2563 c0_i32_944
  let v2565 : Index := Scalar.indexCast v2564
  let c0_945 : Index := 0#32
  ![v2565.toNat, 0]
def k0_off346 (i : grid0.Coords) : Fin 3 → Nat :=
  let c1_i32_940 : BitVec 32 := 1#32
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v2560 : BitVec 32 := Scalar.subi c1_i32_940 v12
  let v2608 : Index := Scalar.indexCast v2560
  let c0_955 : Index := 0#32
  let c0_956 : Index := 0#32
  ![v2608.toNat, 0, 0]
def k0_off347 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v2669 : Index := Scalar.indexCast v12
  let c0_972 : Index := 0#32
  let c0_973 : Index := 0#32
  ![v2669.toNat, 0, 0]
def k0_off348 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v2730 : Index := Scalar.indexCast v12
  let c0_991 : Index := 0#32
  let c256_992 : Index := 256#32
  ![v2730.toNat, 0, 256]
def k0_off349 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v2792 : Index := Scalar.indexCast v12
  let c0_1010 : Index := 0#32
  let c512_1011 : Index := 512#32
  ![v2792.toNat, 0, 512]
def k0_off350 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v2854 : Index := Scalar.indexCast v12
  let c0_1029 : Index := 0#32
  let c768_1030 : Index := 768#32
  ![v2854.toNat, 0, 768]
def k0_off351 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1036 : BitVec 32 := 1024#32
  let v2864 : BitVec 32 := Scalar.muli v14 c1024_i32_1036
  let c152_i32 : BitVec 32 := 152#32
  let v2865 : BitVec 32 := Scalar.addi v2864 c152_i32
  let v2866 : Index := Scalar.indexCast v2865
  ![v2866.toNat]
def k0_off352 (v2867 : BitVec 32) : Fin 2 → Nat :=
  let c4095_i32_1037 : BitVec 32 := 4095#32
  let v2868 : BitVec 32 := Scalar.andi v2867 c4095_i32_1037
  let v2869 : Index := Scalar.indexCast v2868
  let c0_1038 : Index := 0#32
  ![v2869.toNat, 0]

def k0_chk161 (v2867 : BitVec 32) : Prop :=
  (∀ a, (k0_off352 v2867) a + S1x256.size a ≤ S4096x256.size a)
theorem k0_off352_inb : ∀ (v2867 : BitVec 32) (k0_hw161 : k0_chk161 v2867), ∀ a, (k0_off352 v2867) a + S1x256.size a ≤ S4096x256.size a := fun v2867 k0_hw161 => k0_hw161

def k0_off353 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1040 : BitVec 32 := 1024#32
  let v2874 : BitVec 32 := Scalar.muli v14 c1024_i32_1040
  let c153_i32 : BitVec 32 := 153#32
  let v2875 : BitVec 32 := Scalar.addi v2874 c153_i32
  let v2876 : Index := Scalar.indexCast v2875
  ![v2876.toNat]
def k0_off354 (v2877 : BitVec 32) : Fin 2 → Nat :=
  let c4095_i32_1041 : BitVec 32 := 4095#32
  let v2878 : BitVec 32 := Scalar.andi v2877 c4095_i32_1041
  let v2879 : Index := Scalar.indexCast v2878
  let c0_1042 : Index := 0#32
  ![v2879.toNat, 0]

def k0_chk162 (v2877 : BitVec 32) : Prop :=
  (∀ a, (k0_off354 v2877) a + S1x256.size a ≤ S4096x256.size a)
theorem k0_off354_inb : ∀ (v2877 : BitVec 32) (k0_hw162 : k0_chk162 v2877), ∀ a, (k0_off354 v2877) a + S1x256.size a ≤ S4096x256.size a := fun v2877 k0_hw162 => k0_hw162

def k0_off355 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1044 : BitVec 32 := 1024#32
  let v2884 : BitVec 32 := Scalar.muli v14 c1024_i32_1044
  let c154_i32 : BitVec 32 := 154#32
  let v2885 : BitVec 32 := Scalar.addi v2884 c154_i32
  let v2886 : Index := Scalar.indexCast v2885
  ![v2886.toNat]
def k0_off356 (v2887 : BitVec 32) : Fin 2 → Nat :=
  let c4095_i32_1045 : BitVec 32 := 4095#32
  let v2888 : BitVec 32 := Scalar.andi v2887 c4095_i32_1045
  let v2889 : Index := Scalar.indexCast v2888
  let c0_1046 : Index := 0#32
  ![v2889.toNat, 0]

def k0_chk163 (v2887 : BitVec 32) : Prop :=
  (∀ a, (k0_off356 v2887) a + S1x256.size a ≤ S4096x256.size a)
theorem k0_off356_inb : ∀ (v2887 : BitVec 32) (k0_hw163 : k0_chk163 v2887), ∀ a, (k0_off356 v2887) a + S1x256.size a ≤ S4096x256.size a := fun v2887 k0_hw163 => k0_hw163

def k0_off357 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1048 : BitVec 32 := 1024#32
  let v2894 : BitVec 32 := Scalar.muli v14 c1024_i32_1048
  let c155_i32 : BitVec 32 := 155#32
  let v2895 : BitVec 32 := Scalar.addi v2894 c155_i32
  let v2896 : Index := Scalar.indexCast v2895
  ![v2896.toNat]
def k0_off358 (v2897 : BitVec 32) : Fin 2 → Nat :=
  let c4095_i32_1049 : BitVec 32 := 4095#32
  let v2898 : BitVec 32 := Scalar.andi v2897 c4095_i32_1049
  let v2899 : Index := Scalar.indexCast v2898
  let c0_1050 : Index := 0#32
  ![v2899.toNat, 0]

def k0_chk164 (v2897 : BitVec 32) : Prop :=
  (∀ a, (k0_off358 v2897) a + S1x256.size a ≤ S4096x256.size a)
theorem k0_off358_inb : ∀ (v2897 : BitVec 32) (k0_hw164 : k0_chk164 v2897), ∀ a, (k0_off358 v2897) a + S1x256.size a ≤ S4096x256.size a := fun v2897 k0_hw164 => k0_hw164

def k0_off359 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1052 : BitVec 32 := 1024#32
  let v2904 : BitVec 32 := Scalar.muli v14 c1024_i32_1052
  let c156_i32 : BitVec 32 := 156#32
  let v2905 : BitVec 32 := Scalar.addi v2904 c156_i32
  let v2906 : Index := Scalar.indexCast v2905
  ![v2906.toNat]
def k0_off360 (v2907 : BitVec 32) : Fin 2 → Nat :=
  let c4095_i32_1053 : BitVec 32 := 4095#32
  let v2908 : BitVec 32 := Scalar.andi v2907 c4095_i32_1053
  let v2909 : Index := Scalar.indexCast v2908
  let c0_1054 : Index := 0#32
  ![v2909.toNat, 0]

def k0_chk165 (v2907 : BitVec 32) : Prop :=
  (∀ a, (k0_off360 v2907) a + S1x256.size a ≤ S4096x256.size a)
theorem k0_off360_inb : ∀ (v2907 : BitVec 32) (k0_hw165 : k0_chk165 v2907), ∀ a, (k0_off360 v2907) a + S1x256.size a ≤ S4096x256.size a := fun v2907 k0_hw165 => k0_hw165

def k0_off361 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1056 : BitVec 32 := 1024#32
  let v2914 : BitVec 32 := Scalar.muli v14 c1024_i32_1056
  let c157_i32 : BitVec 32 := 157#32
  let v2915 : BitVec 32 := Scalar.addi v2914 c157_i32
  let v2916 : Index := Scalar.indexCast v2915
  ![v2916.toNat]
def k0_off362 (v2917 : BitVec 32) : Fin 2 → Nat :=
  let c4095_i32_1057 : BitVec 32 := 4095#32
  let v2918 : BitVec 32 := Scalar.andi v2917 c4095_i32_1057
  let v2919 : Index := Scalar.indexCast v2918
  let c0_1058 : Index := 0#32
  ![v2919.toNat, 0]

def k0_chk166 (v2917 : BitVec 32) : Prop :=
  (∀ a, (k0_off362 v2917) a + S1x256.size a ≤ S4096x256.size a)
theorem k0_off362_inb : ∀ (v2917 : BitVec 32) (k0_hw166 : k0_chk166 v2917), ∀ a, (k0_off362 v2917) a + S1x256.size a ≤ S4096x256.size a := fun v2917 k0_hw166 => k0_hw166

def k0_off363 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1060 : BitVec 32 := 1024#32
  let v2924 : BitVec 32 := Scalar.muli v14 c1024_i32_1060
  let c158_i32 : BitVec 32 := 158#32
  let v2925 : BitVec 32 := Scalar.addi v2924 c158_i32
  let v2926 : Index := Scalar.indexCast v2925
  ![v2926.toNat]
def k0_off364 (v2927 : BitVec 32) : Fin 2 → Nat :=
  let c4095_i32_1061 : BitVec 32 := 4095#32
  let v2928 : BitVec 32 := Scalar.andi v2927 c4095_i32_1061
  let v2929 : Index := Scalar.indexCast v2928
  let c0_1062 : Index := 0#32
  ![v2929.toNat, 0]

def k0_chk167 (v2927 : BitVec 32) : Prop :=
  (∀ a, (k0_off364 v2927) a + S1x256.size a ≤ S4096x256.size a)
theorem k0_off364_inb : ∀ (v2927 : BitVec 32) (k0_hw167 : k0_chk167 v2927), ∀ a, (k0_off364 v2927) a + S1x256.size a ≤ S4096x256.size a := fun v2927 k0_hw167 => k0_hw167

def k0_off365 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1064 : BitVec 32 := 1024#32
  let v2934 : BitVec 32 := Scalar.muli v14 c1024_i32_1064
  let c159_i32 : BitVec 32 := 159#32
  let v2935 : BitVec 32 := Scalar.addi v2934 c159_i32
  let v2936 : Index := Scalar.indexCast v2935
  ![v2936.toNat]
def k0_off366 (v2937 : BitVec 32) : Fin 2 → Nat :=
  let c4095_i32_1065 : BitVec 32 := 4095#32
  let v2938 : BitVec 32 := Scalar.andi v2937 c4095_i32_1065
  let v2939 : Index := Scalar.indexCast v2938
  let c0_1066 : Index := 0#32
  ![v2939.toNat, 0]

def k0_chk168 (v2937 : BitVec 32) : Prop :=
  (∀ a, (k0_off366 v2937) a + S1x256.size a ≤ S4096x256.size a)
theorem k0_off366_inb : ∀ (v2937 : BitVec 32) (k0_hw168 : k0_chk168 v2937), ∀ a, (k0_off366 v2937) a + S1x256.size a ≤ S4096x256.size a := fun v2937 k0_hw168 => k0_hw168

def k0_off367 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1068 : BitVec 32 := 1024#32
  let v2944 : BitVec 32 := Scalar.muli v14 c1024_i32_1068
  let c160_i32 : BitVec 32 := 160#32
  let v2945 : BitVec 32 := Scalar.addi v2944 c160_i32
  let v2946 : Index := Scalar.indexCast v2945
  ![v2946.toNat]
def k0_off368 (v2947 : BitVec 32) : Fin 2 → Nat :=
  let c4095_i32_1069 : BitVec 32 := 4095#32
  let v2948 : BitVec 32 := Scalar.andi v2947 c4095_i32_1069
  let v2949 : Index := Scalar.indexCast v2948
  let c0_1070 : Index := 0#32
  ![v2949.toNat, 0]

def k0_chk169 (v2947 : BitVec 32) : Prop :=
  (∀ a, (k0_off368 v2947) a + S1x256.size a ≤ S4096x256.size a)
theorem k0_off368_inb : ∀ (v2947 : BitVec 32) (k0_hw169 : k0_chk169 v2947), ∀ a, (k0_off368 v2947) a + S1x256.size a ≤ S4096x256.size a := fun v2947 k0_hw169 => k0_hw169

def k0_off369 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1072 : BitVec 32 := 1024#32
  let v2954 : BitVec 32 := Scalar.muli v14 c1024_i32_1072
  let c161_i32 : BitVec 32 := 161#32
  let v2955 : BitVec 32 := Scalar.addi v2954 c161_i32
  let v2956 : Index := Scalar.indexCast v2955
  ![v2956.toNat]
def k0_off370 (v2957 : BitVec 32) : Fin 2 → Nat :=
  let c4095_i32_1073 : BitVec 32 := 4095#32
  let v2958 : BitVec 32 := Scalar.andi v2957 c4095_i32_1073
  let v2959 : Index := Scalar.indexCast v2958
  let c0_1074 : Index := 0#32
  ![v2959.toNat, 0]

def k0_chk170 (v2957 : BitVec 32) : Prop :=
  (∀ a, (k0_off370 v2957) a + S1x256.size a ≤ S4096x256.size a)
theorem k0_off370_inb : ∀ (v2957 : BitVec 32) (k0_hw170 : k0_chk170 v2957), ∀ a, (k0_off370 v2957) a + S1x256.size a ≤ S4096x256.size a := fun v2957 k0_hw170 => k0_hw170

def k0_off371 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1076 : BitVec 32 := 1024#32
  let v2964 : BitVec 32 := Scalar.muli v14 c1024_i32_1076
  let c162_i32 : BitVec 32 := 162#32
  let v2965 : BitVec 32 := Scalar.addi v2964 c162_i32
  let v2966 : Index := Scalar.indexCast v2965
  ![v2966.toNat]
def k0_off372 (v2967 : BitVec 32) : Fin 2 → Nat :=
  let c4095_i32_1077 : BitVec 32 := 4095#32
  let v2968 : BitVec 32 := Scalar.andi v2967 c4095_i32_1077
  let v2969 : Index := Scalar.indexCast v2968
  let c0_1078 : Index := 0#32
  ![v2969.toNat, 0]

def k0_chk171 (v2967 : BitVec 32) : Prop :=
  (∀ a, (k0_off372 v2967) a + S1x256.size a ≤ S4096x256.size a)
theorem k0_off372_inb : ∀ (v2967 : BitVec 32) (k0_hw171 : k0_chk171 v2967), ∀ a, (k0_off372 v2967) a + S1x256.size a ≤ S4096x256.size a := fun v2967 k0_hw171 => k0_hw171

def k0_off373 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1080 : BitVec 32 := 1024#32
  let v2974 : BitVec 32 := Scalar.muli v14 c1024_i32_1080
  let c163_i32 : BitVec 32 := 163#32
  let v2975 : BitVec 32 := Scalar.addi v2974 c163_i32
  let v2976 : Index := Scalar.indexCast v2975
  ![v2976.toNat]
def k0_off374 (v2977 : BitVec 32) : Fin 2 → Nat :=
  let c4095_i32_1081 : BitVec 32 := 4095#32
  let v2978 : BitVec 32 := Scalar.andi v2977 c4095_i32_1081
  let v2979 : Index := Scalar.indexCast v2978
  let c0_1082 : Index := 0#32
  ![v2979.toNat, 0]

def k0_chk172 (v2977 : BitVec 32) : Prop :=
  (∀ a, (k0_off374 v2977) a + S1x256.size a ≤ S4096x256.size a)
theorem k0_off374_inb : ∀ (v2977 : BitVec 32) (k0_hw172 : k0_chk172 v2977), ∀ a, (k0_off374 v2977) a + S1x256.size a ≤ S4096x256.size a := fun v2977 k0_hw172 => k0_hw172

def k0_off375 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1084 : BitVec 32 := 1024#32
  let v2984 : BitVec 32 := Scalar.muli v14 c1024_i32_1084
  let c164_i32 : BitVec 32 := 164#32
  let v2985 : BitVec 32 := Scalar.addi v2984 c164_i32
  let v2986 : Index := Scalar.indexCast v2985
  ![v2986.toNat]
def k0_off376 (v2987 : BitVec 32) : Fin 2 → Nat :=
  let c4095_i32_1085 : BitVec 32 := 4095#32
  let v2988 : BitVec 32 := Scalar.andi v2987 c4095_i32_1085
  let v2989 : Index := Scalar.indexCast v2988
  let c0_1086 : Index := 0#32
  ![v2989.toNat, 0]

def k0_chk173 (v2987 : BitVec 32) : Prop :=
  (∀ a, (k0_off376 v2987) a + S1x256.size a ≤ S4096x256.size a)
theorem k0_off376_inb : ∀ (v2987 : BitVec 32) (k0_hw173 : k0_chk173 v2987), ∀ a, (k0_off376 v2987) a + S1x256.size a ≤ S4096x256.size a := fun v2987 k0_hw173 => k0_hw173

def k0_off377 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1088 : BitVec 32 := 1024#32
  let v2994 : BitVec 32 := Scalar.muli v14 c1024_i32_1088
  let c165_i32 : BitVec 32 := 165#32
  let v2995 : BitVec 32 := Scalar.addi v2994 c165_i32
  let v2996 : Index := Scalar.indexCast v2995
  ![v2996.toNat]
def k0_off378 (v2997 : BitVec 32) : Fin 2 → Nat :=
  let c4095_i32_1089 : BitVec 32 := 4095#32
  let v2998 : BitVec 32 := Scalar.andi v2997 c4095_i32_1089
  let v2999 : Index := Scalar.indexCast v2998
  let c0_1090 : Index := 0#32
  ![v2999.toNat, 0]

def k0_chk174 (v2997 : BitVec 32) : Prop :=
  (∀ a, (k0_off378 v2997) a + S1x256.size a ≤ S4096x256.size a)
theorem k0_off378_inb : ∀ (v2997 : BitVec 32) (k0_hw174 : k0_chk174 v2997), ∀ a, (k0_off378 v2997) a + S1x256.size a ≤ S4096x256.size a := fun v2997 k0_hw174 => k0_hw174

def k0_off379 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1092 : BitVec 32 := 1024#32
  let v3004 : BitVec 32 := Scalar.muli v14 c1024_i32_1092
  let c166_i32 : BitVec 32 := 166#32
  let v3005 : BitVec 32 := Scalar.addi v3004 c166_i32
  let v3006 : Index := Scalar.indexCast v3005
  ![v3006.toNat]
def k0_off380 (v3007 : BitVec 32) : Fin 2 → Nat :=
  let c4095_i32_1093 : BitVec 32 := 4095#32
  let v3008 : BitVec 32 := Scalar.andi v3007 c4095_i32_1093
  let v3009 : Index := Scalar.indexCast v3008
  let c0_1094 : Index := 0#32
  ![v3009.toNat, 0]

def k0_chk175 (v3007 : BitVec 32) : Prop :=
  (∀ a, (k0_off380 v3007) a + S1x256.size a ≤ S4096x256.size a)
theorem k0_off380_inb : ∀ (v3007 : BitVec 32) (k0_hw175 : k0_chk175 v3007), ∀ a, (k0_off380 v3007) a + S1x256.size a ≤ S4096x256.size a := fun v3007 k0_hw175 => k0_hw175

def k0_off381 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1096 : BitVec 32 := 1024#32
  let v3014 : BitVec 32 := Scalar.muli v14 c1024_i32_1096
  let c167_i32 : BitVec 32 := 167#32
  let v3015 : BitVec 32 := Scalar.addi v3014 c167_i32
  let v3016 : Index := Scalar.indexCast v3015
  ![v3016.toNat]
def k0_off382 (v3017 : BitVec 32) : Fin 2 → Nat :=
  let c4095_i32_1097 : BitVec 32 := 4095#32
  let v3018 : BitVec 32 := Scalar.andi v3017 c4095_i32_1097
  let v3019 : Index := Scalar.indexCast v3018
  let c0_1098 : Index := 0#32
  ![v3019.toNat, 0]

def k0_chk176 (v3017 : BitVec 32) : Prop :=
  (∀ a, (k0_off382 v3017) a + S1x256.size a ≤ S4096x256.size a)
theorem k0_off382_inb : ∀ (v3017 : BitVec 32) (k0_hw176 : k0_chk176 v3017), ∀ a, (k0_off382 v3017) a + S1x256.size a ≤ S4096x256.size a := fun v3017 k0_hw176 => k0_hw176

def k0_off383 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1100 : BitVec 32 := 1024#32
  let v3024 : BitVec 32 := Scalar.muli v14 c1024_i32_1100
  let c168_i32 : BitVec 32 := 168#32
  let v3025 : BitVec 32 := Scalar.addi v3024 c168_i32
  let v3026 : Index := Scalar.indexCast v3025
  ![v3026.toNat]
def k0_off384 (v3027 : BitVec 32) : Fin 2 → Nat :=
  let c4095_i32_1101 : BitVec 32 := 4095#32
  let v3028 : BitVec 32 := Scalar.andi v3027 c4095_i32_1101
  let v3029 : Index := Scalar.indexCast v3028
  let c0_1102 : Index := 0#32
  ![v3029.toNat, 0]

def k0_chk177 (v3027 : BitVec 32) : Prop :=
  (∀ a, (k0_off384 v3027) a + S1x256.size a ≤ S4096x256.size a)
theorem k0_off384_inb : ∀ (v3027 : BitVec 32) (k0_hw177 : k0_chk177 v3027), ∀ a, (k0_off384 v3027) a + S1x256.size a ≤ S4096x256.size a := fun v3027 k0_hw177 => k0_hw177

def k0_off385 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1104 : BitVec 32 := 1024#32
  let v3034 : BitVec 32 := Scalar.muli v14 c1024_i32_1104
  let c169_i32 : BitVec 32 := 169#32
  let v3035 : BitVec 32 := Scalar.addi v3034 c169_i32
  let v3036 : Index := Scalar.indexCast v3035
  ![v3036.toNat]
def k0_off386 (v3037 : BitVec 32) : Fin 2 → Nat :=
  let c4095_i32_1105 : BitVec 32 := 4095#32
  let v3038 : BitVec 32 := Scalar.andi v3037 c4095_i32_1105
  let v3039 : Index := Scalar.indexCast v3038
  let c0_1106 : Index := 0#32
  ![v3039.toNat, 0]

def k0_chk178 (v3037 : BitVec 32) : Prop :=
  (∀ a, (k0_off386 v3037) a + S1x256.size a ≤ S4096x256.size a)
theorem k0_off386_inb : ∀ (v3037 : BitVec 32) (k0_hw178 : k0_chk178 v3037), ∀ a, (k0_off386 v3037) a + S1x256.size a ≤ S4096x256.size a := fun v3037 k0_hw178 => k0_hw178

def k0_off387 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1108 : BitVec 32 := 1024#32
  let v3044 : BitVec 32 := Scalar.muli v14 c1024_i32_1108
  let c170_i32 : BitVec 32 := 170#32
  let v3045 : BitVec 32 := Scalar.addi v3044 c170_i32
  let v3046 : Index := Scalar.indexCast v3045
  ![v3046.toNat]
def k0_off388 (v3047 : BitVec 32) : Fin 2 → Nat :=
  let c4095_i32_1109 : BitVec 32 := 4095#32
  let v3048 : BitVec 32 := Scalar.andi v3047 c4095_i32_1109
  let v3049 : Index := Scalar.indexCast v3048
  let c0_1110 : Index := 0#32
  ![v3049.toNat, 0]

def k0_chk179 (v3047 : BitVec 32) : Prop :=
  (∀ a, (k0_off388 v3047) a + S1x256.size a ≤ S4096x256.size a)
theorem k0_off388_inb : ∀ (v3047 : BitVec 32) (k0_hw179 : k0_chk179 v3047), ∀ a, (k0_off388 v3047) a + S1x256.size a ≤ S4096x256.size a := fun v3047 k0_hw179 => k0_hw179

def k0_off389 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1112 : BitVec 32 := 1024#32
  let v3054 : BitVec 32 := Scalar.muli v14 c1024_i32_1112
  let c171_i32 : BitVec 32 := 171#32
  let v3055 : BitVec 32 := Scalar.addi v3054 c171_i32
  let v3056 : Index := Scalar.indexCast v3055
  ![v3056.toNat]
def k0_off390 (v3057 : BitVec 32) : Fin 2 → Nat :=
  let c4095_i32_1113 : BitVec 32 := 4095#32
  let v3058 : BitVec 32 := Scalar.andi v3057 c4095_i32_1113
  let v3059 : Index := Scalar.indexCast v3058
  let c0_1114 : Index := 0#32
  ![v3059.toNat, 0]

def k0_chk180 (v3057 : BitVec 32) : Prop :=
  (∀ a, (k0_off390 v3057) a + S1x256.size a ≤ S4096x256.size a)
theorem k0_off390_inb : ∀ (v3057 : BitVec 32) (k0_hw180 : k0_chk180 v3057), ∀ a, (k0_off390 v3057) a + S1x256.size a ≤ S4096x256.size a := fun v3057 k0_hw180 => k0_hw180

def k0_off391 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1116 : BitVec 32 := 1024#32
  let v3064 : BitVec 32 := Scalar.muli v14 c1024_i32_1116
  let c172_i32 : BitVec 32 := 172#32
  let v3065 : BitVec 32 := Scalar.addi v3064 c172_i32
  let v3066 : Index := Scalar.indexCast v3065
  ![v3066.toNat]
def k0_off392 (v3067 : BitVec 32) : Fin 2 → Nat :=
  let c4095_i32_1117 : BitVec 32 := 4095#32
  let v3068 : BitVec 32 := Scalar.andi v3067 c4095_i32_1117
  let v3069 : Index := Scalar.indexCast v3068
  let c0_1118 : Index := 0#32
  ![v3069.toNat, 0]

def k0_chk181 (v3067 : BitVec 32) : Prop :=
  (∀ a, (k0_off392 v3067) a + S1x256.size a ≤ S4096x256.size a)
theorem k0_off392_inb : ∀ (v3067 : BitVec 32) (k0_hw181 : k0_chk181 v3067), ∀ a, (k0_off392 v3067) a + S1x256.size a ≤ S4096x256.size a := fun v3067 k0_hw181 => k0_hw181

def k0_off393 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1120 : BitVec 32 := 1024#32
  let v3074 : BitVec 32 := Scalar.muli v14 c1024_i32_1120
  let c173_i32 : BitVec 32 := 173#32
  let v3075 : BitVec 32 := Scalar.addi v3074 c173_i32
  let v3076 : Index := Scalar.indexCast v3075
  ![v3076.toNat]
def k0_off394 (v3077 : BitVec 32) : Fin 2 → Nat :=
  let c4095_i32_1121 : BitVec 32 := 4095#32
  let v3078 : BitVec 32 := Scalar.andi v3077 c4095_i32_1121
  let v3079 : Index := Scalar.indexCast v3078
  let c0_1122 : Index := 0#32
  ![v3079.toNat, 0]

def k0_chk182 (v3077 : BitVec 32) : Prop :=
  (∀ a, (k0_off394 v3077) a + S1x256.size a ≤ S4096x256.size a)
theorem k0_off394_inb : ∀ (v3077 : BitVec 32) (k0_hw182 : k0_chk182 v3077), ∀ a, (k0_off394 v3077) a + S1x256.size a ≤ S4096x256.size a := fun v3077 k0_hw182 => k0_hw182

def k0_off395 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1124 : BitVec 32 := 1024#32
  let v3084 : BitVec 32 := Scalar.muli v14 c1024_i32_1124
  let c174_i32 : BitVec 32 := 174#32
  let v3085 : BitVec 32 := Scalar.addi v3084 c174_i32
  let v3086 : Index := Scalar.indexCast v3085
  ![v3086.toNat]
def k0_off396 (v3087 : BitVec 32) : Fin 2 → Nat :=
  let c4095_i32_1125 : BitVec 32 := 4095#32
  let v3088 : BitVec 32 := Scalar.andi v3087 c4095_i32_1125
  let v3089 : Index := Scalar.indexCast v3088
  let c0_1126 : Index := 0#32
  ![v3089.toNat, 0]

def k0_chk183 (v3087 : BitVec 32) : Prop :=
  (∀ a, (k0_off396 v3087) a + S1x256.size a ≤ S4096x256.size a)
theorem k0_off396_inb : ∀ (v3087 : BitVec 32) (k0_hw183 : k0_chk183 v3087), ∀ a, (k0_off396 v3087) a + S1x256.size a ≤ S4096x256.size a := fun v3087 k0_hw183 => k0_hw183

def k0_off397 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1128 : BitVec 32 := 1024#32
  let v3094 : BitVec 32 := Scalar.muli v14 c1024_i32_1128
  let c175_i32 : BitVec 32 := 175#32
  let v3095 : BitVec 32 := Scalar.addi v3094 c175_i32
  let v3096 : Index := Scalar.indexCast v3095
  ![v3096.toNat]
def k0_off398 (v3097 : BitVec 32) : Fin 2 → Nat :=
  let c4095_i32_1129 : BitVec 32 := 4095#32
  let v3098 : BitVec 32 := Scalar.andi v3097 c4095_i32_1129
  let v3099 : Index := Scalar.indexCast v3098
  let c0_1130 : Index := 0#32
  ![v3099.toNat, 0]

def k0_chk184 (v3097 : BitVec 32) : Prop :=
  (∀ a, (k0_off398 v3097) a + S1x256.size a ≤ S4096x256.size a)
theorem k0_off398_inb : ∀ (v3097 : BitVec 32) (k0_hw184 : k0_chk184 v3097), ∀ a, (k0_off398 v3097) a + S1x256.size a ≤ S4096x256.size a := fun v3097 k0_hw184 => k0_hw184

def k0_off399 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1132 : BitVec 32 := 1024#32
  let v3104 : BitVec 32 := Scalar.muli v14 c1024_i32_1132
  let c176_i32 : BitVec 32 := 176#32
  let v3105 : BitVec 32 := Scalar.addi v3104 c176_i32
  let v3106 : Index := Scalar.indexCast v3105
  ![v3106.toNat]
def k0_off400 (v3107 : BitVec 32) : Fin 2 → Nat :=
  let c4095_i32_1133 : BitVec 32 := 4095#32
  let v3108 : BitVec 32 := Scalar.andi v3107 c4095_i32_1133
  let v3109 : Index := Scalar.indexCast v3108
  let c0_1134 : Index := 0#32
  ![v3109.toNat, 0]

def k0_chk185 (v3107 : BitVec 32) : Prop :=
  (∀ a, (k0_off400 v3107) a + S1x256.size a ≤ S4096x256.size a)
theorem k0_off400_inb : ∀ (v3107 : BitVec 32) (k0_hw185 : k0_chk185 v3107), ∀ a, (k0_off400 v3107) a + S1x256.size a ≤ S4096x256.size a := fun v3107 k0_hw185 => k0_hw185

def k0_off401 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1136 : BitVec 32 := 1024#32
  let v3114 : BitVec 32 := Scalar.muli v14 c1024_i32_1136
  let c177_i32 : BitVec 32 := 177#32
  let v3115 : BitVec 32 := Scalar.addi v3114 c177_i32
  let v3116 : Index := Scalar.indexCast v3115
  ![v3116.toNat]
def k0_off402 (v3117 : BitVec 32) : Fin 2 → Nat :=
  let c4095_i32_1137 : BitVec 32 := 4095#32
  let v3118 : BitVec 32 := Scalar.andi v3117 c4095_i32_1137
  let v3119 : Index := Scalar.indexCast v3118
  let c0_1138 : Index := 0#32
  ![v3119.toNat, 0]

def k0_chk186 (v3117 : BitVec 32) : Prop :=
  (∀ a, (k0_off402 v3117) a + S1x256.size a ≤ S4096x256.size a)
theorem k0_off402_inb : ∀ (v3117 : BitVec 32) (k0_hw186 : k0_chk186 v3117), ∀ a, (k0_off402 v3117) a + S1x256.size a ≤ S4096x256.size a := fun v3117 k0_hw186 => k0_hw186

def k0_off403 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1140 : BitVec 32 := 1024#32
  let v3124 : BitVec 32 := Scalar.muli v14 c1024_i32_1140
  let c178_i32 : BitVec 32 := 178#32
  let v3125 : BitVec 32 := Scalar.addi v3124 c178_i32
  let v3126 : Index := Scalar.indexCast v3125
  ![v3126.toNat]
def k0_off404 (v3127 : BitVec 32) : Fin 2 → Nat :=
  let c4095_i32_1141 : BitVec 32 := 4095#32
  let v3128 : BitVec 32 := Scalar.andi v3127 c4095_i32_1141
  let v3129 : Index := Scalar.indexCast v3128
  let c0_1142 : Index := 0#32
  ![v3129.toNat, 0]

def k0_chk187 (v3127 : BitVec 32) : Prop :=
  (∀ a, (k0_off404 v3127) a + S1x256.size a ≤ S4096x256.size a)
theorem k0_off404_inb : ∀ (v3127 : BitVec 32) (k0_hw187 : k0_chk187 v3127), ∀ a, (k0_off404 v3127) a + S1x256.size a ≤ S4096x256.size a := fun v3127 k0_hw187 => k0_hw187

def k0_off405 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1144 : BitVec 32 := 1024#32
  let v3134 : BitVec 32 := Scalar.muli v14 c1024_i32_1144
  let c179_i32 : BitVec 32 := 179#32
  let v3135 : BitVec 32 := Scalar.addi v3134 c179_i32
  let v3136 : Index := Scalar.indexCast v3135
  ![v3136.toNat]
def k0_off406 (v3137 : BitVec 32) : Fin 2 → Nat :=
  let c4095_i32_1145 : BitVec 32 := 4095#32
  let v3138 : BitVec 32 := Scalar.andi v3137 c4095_i32_1145
  let v3139 : Index := Scalar.indexCast v3138
  let c0_1146 : Index := 0#32
  ![v3139.toNat, 0]

def k0_chk188 (v3137 : BitVec 32) : Prop :=
  (∀ a, (k0_off406 v3137) a + S1x256.size a ≤ S4096x256.size a)
theorem k0_off406_inb : ∀ (v3137 : BitVec 32) (k0_hw188 : k0_chk188 v3137), ∀ a, (k0_off406 v3137) a + S1x256.size a ≤ S4096x256.size a := fun v3137 k0_hw188 => k0_hw188

def k0_off407 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1148 : BitVec 32 := 1024#32
  let v3144 : BitVec 32 := Scalar.muli v14 c1024_i32_1148
  let c180_i32 : BitVec 32 := 180#32
  let v3145 : BitVec 32 := Scalar.addi v3144 c180_i32
  let v3146 : Index := Scalar.indexCast v3145
  ![v3146.toNat]
def k0_off408 (v3147 : BitVec 32) : Fin 2 → Nat :=
  let c4095_i32_1149 : BitVec 32 := 4095#32
  let v3148 : BitVec 32 := Scalar.andi v3147 c4095_i32_1149
  let v3149 : Index := Scalar.indexCast v3148
  let c0_1150 : Index := 0#32
  ![v3149.toNat, 0]

def k0_chk189 (v3147 : BitVec 32) : Prop :=
  (∀ a, (k0_off408 v3147) a + S1x256.size a ≤ S4096x256.size a)
theorem k0_off408_inb : ∀ (v3147 : BitVec 32) (k0_hw189 : k0_chk189 v3147), ∀ a, (k0_off408 v3147) a + S1x256.size a ≤ S4096x256.size a := fun v3147 k0_hw189 => k0_hw189

def k0_off409 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1152 : BitVec 32 := 1024#32
  let v3154 : BitVec 32 := Scalar.muli v14 c1024_i32_1152
  let c181_i32 : BitVec 32 := 181#32
  let v3155 : BitVec 32 := Scalar.addi v3154 c181_i32
  let v3156 : Index := Scalar.indexCast v3155
  ![v3156.toNat]
def k0_off410 (v3157 : BitVec 32) : Fin 2 → Nat :=
  let c4095_i32_1153 : BitVec 32 := 4095#32
  let v3158 : BitVec 32 := Scalar.andi v3157 c4095_i32_1153
  let v3159 : Index := Scalar.indexCast v3158
  let c0_1154 : Index := 0#32
  ![v3159.toNat, 0]

def k0_chk190 (v3157 : BitVec 32) : Prop :=
  (∀ a, (k0_off410 v3157) a + S1x256.size a ≤ S4096x256.size a)
theorem k0_off410_inb : ∀ (v3157 : BitVec 32) (k0_hw190 : k0_chk190 v3157), ∀ a, (k0_off410 v3157) a + S1x256.size a ≤ S4096x256.size a := fun v3157 k0_hw190 => k0_hw190

def k0_off411 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1156 : BitVec 32 := 1024#32
  let v3164 : BitVec 32 := Scalar.muli v14 c1024_i32_1156
  let c182_i32 : BitVec 32 := 182#32
  let v3165 : BitVec 32 := Scalar.addi v3164 c182_i32
  let v3166 : Index := Scalar.indexCast v3165
  ![v3166.toNat]
def k0_off412 (v3167 : BitVec 32) : Fin 2 → Nat :=
  let c4095_i32_1157 : BitVec 32 := 4095#32
  let v3168 : BitVec 32 := Scalar.andi v3167 c4095_i32_1157
  let v3169 : Index := Scalar.indexCast v3168
  let c0_1158 : Index := 0#32
  ![v3169.toNat, 0]

def k0_chk191 (v3167 : BitVec 32) : Prop :=
  (∀ a, (k0_off412 v3167) a + S1x256.size a ≤ S4096x256.size a)
theorem k0_off412_inb : ∀ (v3167 : BitVec 32) (k0_hw191 : k0_chk191 v3167), ∀ a, (k0_off412 v3167) a + S1x256.size a ≤ S4096x256.size a := fun v3167 k0_hw191 => k0_hw191

def k0_off413 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1160 : BitVec 32 := 1024#32
  let v3174 : BitVec 32 := Scalar.muli v14 c1024_i32_1160
  let c183_i32 : BitVec 32 := 183#32
  let v3175 : BitVec 32 := Scalar.addi v3174 c183_i32
  let v3176 : Index := Scalar.indexCast v3175
  ![v3176.toNat]
def k0_off414 (v3177 : BitVec 32) : Fin 2 → Nat :=
  let c4095_i32_1161 : BitVec 32 := 4095#32
  let v3178 : BitVec 32 := Scalar.andi v3177 c4095_i32_1161
  let v3179 : Index := Scalar.indexCast v3178
  let c0_1162 : Index := 0#32
  ![v3179.toNat, 0]

def k0_chk192 (v3177 : BitVec 32) : Prop :=
  (∀ a, (k0_off414 v3177) a + S1x256.size a ≤ S4096x256.size a)
theorem k0_off414_inb : ∀ (v3177 : BitVec 32) (k0_hw192 : k0_chk192 v3177), ∀ a, (k0_off414 v3177) a + S1x256.size a ≤ S4096x256.size a := fun v3177 k0_hw192 => k0_hw192

def k0_off415 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1164 : BitVec 32 := 1024#32
  let v3184 : BitVec 32 := Scalar.muli v14 c1024_i32_1164
  let c184_i32 : BitVec 32 := 184#32
  let v3185 : BitVec 32 := Scalar.addi v3184 c184_i32
  let v3186 : Index := Scalar.indexCast v3185
  ![v3186.toNat]
def k0_off416 (v3187 : BitVec 32) : Fin 2 → Nat :=
  let c4095_i32_1165 : BitVec 32 := 4095#32
  let v3188 : BitVec 32 := Scalar.andi v3187 c4095_i32_1165
  let v3189 : Index := Scalar.indexCast v3188
  let c0_1166 : Index := 0#32
  ![v3189.toNat, 0]

def k0_chk193 (v3187 : BitVec 32) : Prop :=
  (∀ a, (k0_off416 v3187) a + S1x256.size a ≤ S4096x256.size a)
theorem k0_off416_inb : ∀ (v3187 : BitVec 32) (k0_hw193 : k0_chk193 v3187), ∀ a, (k0_off416 v3187) a + S1x256.size a ≤ S4096x256.size a := fun v3187 k0_hw193 => k0_hw193

def k0_off417 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1168 : BitVec 32 := 1024#32
  let v3194 : BitVec 32 := Scalar.muli v14 c1024_i32_1168
  let c185_i32 : BitVec 32 := 185#32
  let v3195 : BitVec 32 := Scalar.addi v3194 c185_i32
  let v3196 : Index := Scalar.indexCast v3195
  ![v3196.toNat]
def k0_off418 (v3197 : BitVec 32) : Fin 2 → Nat :=
  let c4095_i32_1169 : BitVec 32 := 4095#32
  let v3198 : BitVec 32 := Scalar.andi v3197 c4095_i32_1169
  let v3199 : Index := Scalar.indexCast v3198
  let c0_1170 : Index := 0#32
  ![v3199.toNat, 0]

def k0_chk194 (v3197 : BitVec 32) : Prop :=
  (∀ a, (k0_off418 v3197) a + S1x256.size a ≤ S4096x256.size a)
theorem k0_off418_inb : ∀ (v3197 : BitVec 32) (k0_hw194 : k0_chk194 v3197), ∀ a, (k0_off418 v3197) a + S1x256.size a ≤ S4096x256.size a := fun v3197 k0_hw194 => k0_hw194

def k0_off419 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1172 : BitVec 32 := 1024#32
  let v3204 : BitVec 32 := Scalar.muli v14 c1024_i32_1172
  let c186_i32 : BitVec 32 := 186#32
  let v3205 : BitVec 32 := Scalar.addi v3204 c186_i32
  let v3206 : Index := Scalar.indexCast v3205
  ![v3206.toNat]
def k0_off420 (v3207 : BitVec 32) : Fin 2 → Nat :=
  let c4095_i32_1173 : BitVec 32 := 4095#32
  let v3208 : BitVec 32 := Scalar.andi v3207 c4095_i32_1173
  let v3209 : Index := Scalar.indexCast v3208
  let c0_1174 : Index := 0#32
  ![v3209.toNat, 0]

def k0_chk195 (v3207 : BitVec 32) : Prop :=
  (∀ a, (k0_off420 v3207) a + S1x256.size a ≤ S4096x256.size a)
theorem k0_off420_inb : ∀ (v3207 : BitVec 32) (k0_hw195 : k0_chk195 v3207), ∀ a, (k0_off420 v3207) a + S1x256.size a ≤ S4096x256.size a := fun v3207 k0_hw195 => k0_hw195

def k0_off421 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1176 : BitVec 32 := 1024#32
  let v3214 : BitVec 32 := Scalar.muli v14 c1024_i32_1176
  let c187_i32 : BitVec 32 := 187#32
  let v3215 : BitVec 32 := Scalar.addi v3214 c187_i32
  let v3216 : Index := Scalar.indexCast v3215
  ![v3216.toNat]
def k0_off422 (v3217 : BitVec 32) : Fin 2 → Nat :=
  let c4095_i32_1177 : BitVec 32 := 4095#32
  let v3218 : BitVec 32 := Scalar.andi v3217 c4095_i32_1177
  let v3219 : Index := Scalar.indexCast v3218
  let c0_1178 : Index := 0#32
  ![v3219.toNat, 0]

def k0_chk196 (v3217 : BitVec 32) : Prop :=
  (∀ a, (k0_off422 v3217) a + S1x256.size a ≤ S4096x256.size a)
theorem k0_off422_inb : ∀ (v3217 : BitVec 32) (k0_hw196 : k0_chk196 v3217), ∀ a, (k0_off422 v3217) a + S1x256.size a ≤ S4096x256.size a := fun v3217 k0_hw196 => k0_hw196

def k0_off423 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1180 : BitVec 32 := 1024#32
  let v3224 : BitVec 32 := Scalar.muli v14 c1024_i32_1180
  let c188_i32 : BitVec 32 := 188#32
  let v3225 : BitVec 32 := Scalar.addi v3224 c188_i32
  let v3226 : Index := Scalar.indexCast v3225
  ![v3226.toNat]
def k0_off424 (v3227 : BitVec 32) : Fin 2 → Nat :=
  let c4095_i32_1181 : BitVec 32 := 4095#32
  let v3228 : BitVec 32 := Scalar.andi v3227 c4095_i32_1181
  let v3229 : Index := Scalar.indexCast v3228
  let c0_1182 : Index := 0#32
  ![v3229.toNat, 0]

def k0_chk197 (v3227 : BitVec 32) : Prop :=
  (∀ a, (k0_off424 v3227) a + S1x256.size a ≤ S4096x256.size a)
theorem k0_off424_inb : ∀ (v3227 : BitVec 32) (k0_hw197 : k0_chk197 v3227), ∀ a, (k0_off424 v3227) a + S1x256.size a ≤ S4096x256.size a := fun v3227 k0_hw197 => k0_hw197

def k0_off425 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1184 : BitVec 32 := 1024#32
  let v3234 : BitVec 32 := Scalar.muli v14 c1024_i32_1184
  let c189_i32 : BitVec 32 := 189#32
  let v3235 : BitVec 32 := Scalar.addi v3234 c189_i32
  let v3236 : Index := Scalar.indexCast v3235
  ![v3236.toNat]
def k0_off426 (v3237 : BitVec 32) : Fin 2 → Nat :=
  let c4095_i32_1185 : BitVec 32 := 4095#32
  let v3238 : BitVec 32 := Scalar.andi v3237 c4095_i32_1185
  let v3239 : Index := Scalar.indexCast v3238
  let c0_1186 : Index := 0#32
  ![v3239.toNat, 0]

def k0_chk198 (v3237 : BitVec 32) : Prop :=
  (∀ a, (k0_off426 v3237) a + S1x256.size a ≤ S4096x256.size a)
theorem k0_off426_inb : ∀ (v3237 : BitVec 32) (k0_hw198 : k0_chk198 v3237), ∀ a, (k0_off426 v3237) a + S1x256.size a ≤ S4096x256.size a := fun v3237 k0_hw198 => k0_hw198

def k0_off427 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v3301 : Index := Scalar.indexCast v12
  let c0_1203 : Index := 0#32
  let c0_1204 : Index := 0#32
  ![v3301.toNat, 0, 0]
def k0_off428 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v3362 : Index := Scalar.indexCast v12
  let c0_1222 : Index := 0#32
  let c256_1223 : Index := 256#32
  ![v3362.toNat, 0, 256]
def k0_off429 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v3424 : Index := Scalar.indexCast v12
  let c0_1241 : Index := 0#32
  let c512_1242 : Index := 512#32
  ![v3424.toNat, 0, 512]
def k0_off430 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v3486 : Index := Scalar.indexCast v12
  let c0_1260 : Index := 0#32
  let c768_1261 : Index := 768#32
  ![v3486.toNat, 0, 768]
def k0_off431 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1267 : BitVec 32 := 1024#32
  let v3496 : BitVec 32 := Scalar.muli v14 c1024_i32_1267
  let c190_i32 : BitVec 32 := 190#32
  let v3497 : BitVec 32 := Scalar.addi v3496 c190_i32
  let v3498 : Index := Scalar.indexCast v3497
  ![v3498.toNat]
def k0_off432 (v3499 : BitVec 32) : Fin 2 → Nat :=
  let c4095_i32_1268 : BitVec 32 := 4095#32
  let v3500 : BitVec 32 := Scalar.andi v3499 c4095_i32_1268
  let v3501 : Index := Scalar.indexCast v3500
  let c0_1269 : Index := 0#32
  ![v3501.toNat, 0]

def k0_chk199 (v3499 : BitVec 32) : Prop :=
  (∀ a, (k0_off432 v3499) a + S1x256.size a ≤ S4096x256.size a)
theorem k0_off432_inb : ∀ (v3499 : BitVec 32) (k0_hw199 : k0_chk199 v3499), ∀ a, (k0_off432 v3499) a + S1x256.size a ≤ S4096x256.size a := fun v3499 k0_hw199 => k0_hw199

def k0_off433 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1271 : BitVec 32 := 1024#32
  let v3506 : BitVec 32 := Scalar.muli v14 c1024_i32_1271
  let c191_i32 : BitVec 32 := 191#32
  let v3507 : BitVec 32 := Scalar.addi v3506 c191_i32
  let v3508 : Index := Scalar.indexCast v3507
  ![v3508.toNat]
def k0_off434 (v3509 : BitVec 32) : Fin 2 → Nat :=
  let c4095_i32_1272 : BitVec 32 := 4095#32
  let v3510 : BitVec 32 := Scalar.andi v3509 c4095_i32_1272
  let v3511 : Index := Scalar.indexCast v3510
  let c0_1273 : Index := 0#32
  ![v3511.toNat, 0]

def k0_chk200 (v3509 : BitVec 32) : Prop :=
  (∀ a, (k0_off434 v3509) a + S1x256.size a ≤ S4096x256.size a)
theorem k0_off434_inb : ∀ (v3509 : BitVec 32) (k0_hw200 : k0_chk200 v3509), ∀ a, (k0_off434 v3509) a + S1x256.size a ≤ S4096x256.size a := fun v3509 k0_hw200 => k0_hw200

def k0_off435 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1275 : BitVec 32 := 1024#32
  let v3516 : BitVec 32 := Scalar.muli v14 c1024_i32_1275
  let c192_i32 : BitVec 32 := 192#32
  let v3517 : BitVec 32 := Scalar.addi v3516 c192_i32
  let v3518 : Index := Scalar.indexCast v3517
  ![v3518.toNat]
def k0_off436 (v3519 : BitVec 32) : Fin 2 → Nat :=
  let c4095_i32_1276 : BitVec 32 := 4095#32
  let v3520 : BitVec 32 := Scalar.andi v3519 c4095_i32_1276
  let v3521 : Index := Scalar.indexCast v3520
  let c0_1277 : Index := 0#32
  ![v3521.toNat, 0]

def k0_chk201 (v3519 : BitVec 32) : Prop :=
  (∀ a, (k0_off436 v3519) a + S1x256.size a ≤ S4096x256.size a)
theorem k0_off436_inb : ∀ (v3519 : BitVec 32) (k0_hw201 : k0_chk201 v3519), ∀ a, (k0_off436 v3519) a + S1x256.size a ≤ S4096x256.size a := fun v3519 k0_hw201 => k0_hw201

def k0_off437 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1280 : BitVec 32 := 1024#32
  let v3526 : BitVec 32 := Scalar.muli v14 c1024_i32_1280
  let c193_i32 : BitVec 32 := 193#32
  let v3527 : BitVec 32 := Scalar.addi v3526 c193_i32
  let v3528 : Index := Scalar.indexCast v3527
  ![v3528.toNat]
def k0_off438 (v3529 : BitVec 32) : Fin 2 → Nat :=
  let c4095_i32_1281 : BitVec 32 := 4095#32
  let v3530 : BitVec 32 := Scalar.andi v3529 c4095_i32_1281
  let v3531 : Index := Scalar.indexCast v3530
  let c0_1282 : Index := 0#32
  ![v3531.toNat, 0]

def k0_chk202 (v3529 : BitVec 32) : Prop :=
  (∀ a, (k0_off438 v3529) a + S1x256.size a ≤ S4096x256.size a)
theorem k0_off438_inb : ∀ (v3529 : BitVec 32) (k0_hw202 : k0_chk202 v3529), ∀ a, (k0_off438 v3529) a + S1x256.size a ≤ S4096x256.size a := fun v3529 k0_hw202 => k0_hw202

def k0_off439 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1284 : BitVec 32 := 1024#32
  let v3536 : BitVec 32 := Scalar.muli v14 c1024_i32_1284
  let c194_i32 : BitVec 32 := 194#32
  let v3537 : BitVec 32 := Scalar.addi v3536 c194_i32
  let v3538 : Index := Scalar.indexCast v3537
  ![v3538.toNat]
def k0_off440 (v3539 : BitVec 32) : Fin 2 → Nat :=
  let c4095_i32_1285 : BitVec 32 := 4095#32
  let v3540 : BitVec 32 := Scalar.andi v3539 c4095_i32_1285
  let v3541 : Index := Scalar.indexCast v3540
  let c0_1286 : Index := 0#32
  ![v3541.toNat, 0]

def k0_chk203 (v3539 : BitVec 32) : Prop :=
  (∀ a, (k0_off440 v3539) a + S1x256.size a ≤ S4096x256.size a)
theorem k0_off440_inb : ∀ (v3539 : BitVec 32) (k0_hw203 : k0_chk203 v3539), ∀ a, (k0_off440 v3539) a + S1x256.size a ≤ S4096x256.size a := fun v3539 k0_hw203 => k0_hw203

def k0_off441 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1288 : BitVec 32 := 1024#32
  let v3546 : BitVec 32 := Scalar.muli v14 c1024_i32_1288
  let c195_i32 : BitVec 32 := 195#32
  let v3547 : BitVec 32 := Scalar.addi v3546 c195_i32
  let v3548 : Index := Scalar.indexCast v3547
  ![v3548.toNat]
def k0_off442 (v3549 : BitVec 32) : Fin 2 → Nat :=
  let c4095_i32_1289 : BitVec 32 := 4095#32
  let v3550 : BitVec 32 := Scalar.andi v3549 c4095_i32_1289
  let v3551 : Index := Scalar.indexCast v3550
  let c0_1290 : Index := 0#32
  ![v3551.toNat, 0]

def k0_chk204 (v3549 : BitVec 32) : Prop :=
  (∀ a, (k0_off442 v3549) a + S1x256.size a ≤ S4096x256.size a)
theorem k0_off442_inb : ∀ (v3549 : BitVec 32) (k0_hw204 : k0_chk204 v3549), ∀ a, (k0_off442 v3549) a + S1x256.size a ≤ S4096x256.size a := fun v3549 k0_hw204 => k0_hw204

def k0_off443 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1292 : BitVec 32 := 1024#32
  let v3556 : BitVec 32 := Scalar.muli v14 c1024_i32_1292
  let c196_i32 : BitVec 32 := 196#32
  let v3557 : BitVec 32 := Scalar.addi v3556 c196_i32
  let v3558 : Index := Scalar.indexCast v3557
  ![v3558.toNat]
def k0_off444 (v3559 : BitVec 32) : Fin 2 → Nat :=
  let c4095_i32_1293 : BitVec 32 := 4095#32
  let v3560 : BitVec 32 := Scalar.andi v3559 c4095_i32_1293
  let v3561 : Index := Scalar.indexCast v3560
  let c0_1294 : Index := 0#32
  ![v3561.toNat, 0]

def k0_chk205 (v3559 : BitVec 32) : Prop :=
  (∀ a, (k0_off444 v3559) a + S1x256.size a ≤ S4096x256.size a)
theorem k0_off444_inb : ∀ (v3559 : BitVec 32) (k0_hw205 : k0_chk205 v3559), ∀ a, (k0_off444 v3559) a + S1x256.size a ≤ S4096x256.size a := fun v3559 k0_hw205 => k0_hw205

def k0_off445 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1296 : BitVec 32 := 1024#32
  let v3566 : BitVec 32 := Scalar.muli v14 c1024_i32_1296
  let c197_i32 : BitVec 32 := 197#32
  let v3567 : BitVec 32 := Scalar.addi v3566 c197_i32
  let v3568 : Index := Scalar.indexCast v3567
  ![v3568.toNat]
def k0_off446 (v3569 : BitVec 32) : Fin 2 → Nat :=
  let c4095_i32_1297 : BitVec 32 := 4095#32
  let v3570 : BitVec 32 := Scalar.andi v3569 c4095_i32_1297
  let v3571 : Index := Scalar.indexCast v3570
  let c0_1298 : Index := 0#32
  ![v3571.toNat, 0]

def k0_chk206 (v3569 : BitVec 32) : Prop :=
  (∀ a, (k0_off446 v3569) a + S1x256.size a ≤ S4096x256.size a)
theorem k0_off446_inb : ∀ (v3569 : BitVec 32) (k0_hw206 : k0_chk206 v3569), ∀ a, (k0_off446 v3569) a + S1x256.size a ≤ S4096x256.size a := fun v3569 k0_hw206 => k0_hw206

def k0_off447 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1300 : BitVec 32 := 1024#32
  let v3576 : BitVec 32 := Scalar.muli v14 c1024_i32_1300
  let c198_i32 : BitVec 32 := 198#32
  let v3577 : BitVec 32 := Scalar.addi v3576 c198_i32
  let v3578 : Index := Scalar.indexCast v3577
  ![v3578.toNat]
def k0_off448 (v3579 : BitVec 32) : Fin 2 → Nat :=
  let c4095_i32_1301 : BitVec 32 := 4095#32
  let v3580 : BitVec 32 := Scalar.andi v3579 c4095_i32_1301
  let v3581 : Index := Scalar.indexCast v3580
  let c0_1302 : Index := 0#32
  ![v3581.toNat, 0]

def k0_chk207 (v3579 : BitVec 32) : Prop :=
  (∀ a, (k0_off448 v3579) a + S1x256.size a ≤ S4096x256.size a)
theorem k0_off448_inb : ∀ (v3579 : BitVec 32) (k0_hw207 : k0_chk207 v3579), ∀ a, (k0_off448 v3579) a + S1x256.size a ≤ S4096x256.size a := fun v3579 k0_hw207 => k0_hw207

def k0_off449 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1304 : BitVec 32 := 1024#32
  let v3586 : BitVec 32 := Scalar.muli v14 c1024_i32_1304
  let c199_i32 : BitVec 32 := 199#32
  let v3587 : BitVec 32 := Scalar.addi v3586 c199_i32
  let v3588 : Index := Scalar.indexCast v3587
  ![v3588.toNat]
def k0_off450 (v3589 : BitVec 32) : Fin 2 → Nat :=
  let c4095_i32_1305 : BitVec 32 := 4095#32
  let v3590 : BitVec 32 := Scalar.andi v3589 c4095_i32_1305
  let v3591 : Index := Scalar.indexCast v3590
  let c0_1306 : Index := 0#32
  ![v3591.toNat, 0]

def k0_chk208 (v3589 : BitVec 32) : Prop :=
  (∀ a, (k0_off450 v3589) a + S1x256.size a ≤ S4096x256.size a)
theorem k0_off450_inb : ∀ (v3589 : BitVec 32) (k0_hw208 : k0_chk208 v3589), ∀ a, (k0_off450 v3589) a + S1x256.size a ≤ S4096x256.size a := fun v3589 k0_hw208 => k0_hw208

def k0_off451 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1308 : BitVec 32 := 1024#32
  let v3596 : BitVec 32 := Scalar.muli v14 c1024_i32_1308
  let c200_i32 : BitVec 32 := 200#32
  let v3597 : BitVec 32 := Scalar.addi v3596 c200_i32
  let v3598 : Index := Scalar.indexCast v3597
  ![v3598.toNat]
def k0_off452 (v3599 : BitVec 32) : Fin 2 → Nat :=
  let c4095_i32_1309 : BitVec 32 := 4095#32
  let v3600 : BitVec 32 := Scalar.andi v3599 c4095_i32_1309
  let v3601 : Index := Scalar.indexCast v3600
  let c0_1310 : Index := 0#32
  ![v3601.toNat, 0]

def k0_chk209 (v3599 : BitVec 32) : Prop :=
  (∀ a, (k0_off452 v3599) a + S1x256.size a ≤ S4096x256.size a)
theorem k0_off452_inb : ∀ (v3599 : BitVec 32) (k0_hw209 : k0_chk209 v3599), ∀ a, (k0_off452 v3599) a + S1x256.size a ≤ S4096x256.size a := fun v3599 k0_hw209 => k0_hw209

def k0_off453 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1312 : BitVec 32 := 1024#32
  let v3606 : BitVec 32 := Scalar.muli v14 c1024_i32_1312
  let c201_i32 : BitVec 32 := 201#32
  let v3607 : BitVec 32 := Scalar.addi v3606 c201_i32
  let v3608 : Index := Scalar.indexCast v3607
  ![v3608.toNat]
def k0_off454 (v3609 : BitVec 32) : Fin 2 → Nat :=
  let c4095_i32_1313 : BitVec 32 := 4095#32
  let v3610 : BitVec 32 := Scalar.andi v3609 c4095_i32_1313
  let v3611 : Index := Scalar.indexCast v3610
  let c0_1314 : Index := 0#32
  ![v3611.toNat, 0]

def k0_chk210 (v3609 : BitVec 32) : Prop :=
  (∀ a, (k0_off454 v3609) a + S1x256.size a ≤ S4096x256.size a)
theorem k0_off454_inb : ∀ (v3609 : BitVec 32) (k0_hw210 : k0_chk210 v3609), ∀ a, (k0_off454 v3609) a + S1x256.size a ≤ S4096x256.size a := fun v3609 k0_hw210 => k0_hw210

def k0_off455 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1316 : BitVec 32 := 1024#32
  let v3616 : BitVec 32 := Scalar.muli v14 c1024_i32_1316
  let c202_i32 : BitVec 32 := 202#32
  let v3617 : BitVec 32 := Scalar.addi v3616 c202_i32
  let v3618 : Index := Scalar.indexCast v3617
  ![v3618.toNat]
def k0_off456 (v3619 : BitVec 32) : Fin 2 → Nat :=
  let c4095_i32_1317 : BitVec 32 := 4095#32
  let v3620 : BitVec 32 := Scalar.andi v3619 c4095_i32_1317
  let v3621 : Index := Scalar.indexCast v3620
  let c0_1318 : Index := 0#32
  ![v3621.toNat, 0]

def k0_chk211 (v3619 : BitVec 32) : Prop :=
  (∀ a, (k0_off456 v3619) a + S1x256.size a ≤ S4096x256.size a)
theorem k0_off456_inb : ∀ (v3619 : BitVec 32) (k0_hw211 : k0_chk211 v3619), ∀ a, (k0_off456 v3619) a + S1x256.size a ≤ S4096x256.size a := fun v3619 k0_hw211 => k0_hw211

def k0_off457 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1320 : BitVec 32 := 1024#32
  let v3626 : BitVec 32 := Scalar.muli v14 c1024_i32_1320
  let c203_i32 : BitVec 32 := 203#32
  let v3627 : BitVec 32 := Scalar.addi v3626 c203_i32
  let v3628 : Index := Scalar.indexCast v3627
  ![v3628.toNat]
def k0_off458 (v3629 : BitVec 32) : Fin 2 → Nat :=
  let c4095_i32_1321 : BitVec 32 := 4095#32
  let v3630 : BitVec 32 := Scalar.andi v3629 c4095_i32_1321
  let v3631 : Index := Scalar.indexCast v3630
  let c0_1322 : Index := 0#32
  ![v3631.toNat, 0]

def k0_chk212 (v3629 : BitVec 32) : Prop :=
  (∀ a, (k0_off458 v3629) a + S1x256.size a ≤ S4096x256.size a)
theorem k0_off458_inb : ∀ (v3629 : BitVec 32) (k0_hw212 : k0_chk212 v3629), ∀ a, (k0_off458 v3629) a + S1x256.size a ≤ S4096x256.size a := fun v3629 k0_hw212 => k0_hw212

def k0_off459 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1324 : BitVec 32 := 1024#32
  let v3636 : BitVec 32 := Scalar.muli v14 c1024_i32_1324
  let c204_i32 : BitVec 32 := 204#32
  let v3637 : BitVec 32 := Scalar.addi v3636 c204_i32
  let v3638 : Index := Scalar.indexCast v3637
  ![v3638.toNat]
def k0_off460 (v3639 : BitVec 32) : Fin 2 → Nat :=
  let c4095_i32_1325 : BitVec 32 := 4095#32
  let v3640 : BitVec 32 := Scalar.andi v3639 c4095_i32_1325
  let v3641 : Index := Scalar.indexCast v3640
  let c0_1326 : Index := 0#32
  ![v3641.toNat, 0]

def k0_chk213 (v3639 : BitVec 32) : Prop :=
  (∀ a, (k0_off460 v3639) a + S1x256.size a ≤ S4096x256.size a)
theorem k0_off460_inb : ∀ (v3639 : BitVec 32) (k0_hw213 : k0_chk213 v3639), ∀ a, (k0_off460 v3639) a + S1x256.size a ≤ S4096x256.size a := fun v3639 k0_hw213 => k0_hw213

def k0_off461 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1328 : BitVec 32 := 1024#32
  let v3646 : BitVec 32 := Scalar.muli v14 c1024_i32_1328
  let c205_i32 : BitVec 32 := 205#32
  let v3647 : BitVec 32 := Scalar.addi v3646 c205_i32
  let v3648 : Index := Scalar.indexCast v3647
  ![v3648.toNat]
def k0_off462 (v3649 : BitVec 32) : Fin 2 → Nat :=
  let c4095_i32_1329 : BitVec 32 := 4095#32
  let v3650 : BitVec 32 := Scalar.andi v3649 c4095_i32_1329
  let v3651 : Index := Scalar.indexCast v3650
  let c0_1330 : Index := 0#32
  ![v3651.toNat, 0]

def k0_chk214 (v3649 : BitVec 32) : Prop :=
  (∀ a, (k0_off462 v3649) a + S1x256.size a ≤ S4096x256.size a)
theorem k0_off462_inb : ∀ (v3649 : BitVec 32) (k0_hw214 : k0_chk214 v3649), ∀ a, (k0_off462 v3649) a + S1x256.size a ≤ S4096x256.size a := fun v3649 k0_hw214 => k0_hw214

def k0_off463 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1332 : BitVec 32 := 1024#32
  let v3656 : BitVec 32 := Scalar.muli v14 c1024_i32_1332
  let c206_i32 : BitVec 32 := 206#32
  let v3657 : BitVec 32 := Scalar.addi v3656 c206_i32
  let v3658 : Index := Scalar.indexCast v3657
  ![v3658.toNat]
def k0_off464 (v3659 : BitVec 32) : Fin 2 → Nat :=
  let c4095_i32_1333 : BitVec 32 := 4095#32
  let v3660 : BitVec 32 := Scalar.andi v3659 c4095_i32_1333
  let v3661 : Index := Scalar.indexCast v3660
  let c0_1334 : Index := 0#32
  ![v3661.toNat, 0]

def k0_chk215 (v3659 : BitVec 32) : Prop :=
  (∀ a, (k0_off464 v3659) a + S1x256.size a ≤ S4096x256.size a)
theorem k0_off464_inb : ∀ (v3659 : BitVec 32) (k0_hw215 : k0_chk215 v3659), ∀ a, (k0_off464 v3659) a + S1x256.size a ≤ S4096x256.size a := fun v3659 k0_hw215 => k0_hw215

def k0_off465 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1336 : BitVec 32 := 1024#32
  let v3666 : BitVec 32 := Scalar.muli v14 c1024_i32_1336
  let c207_i32 : BitVec 32 := 207#32
  let v3667 : BitVec 32 := Scalar.addi v3666 c207_i32
  let v3668 : Index := Scalar.indexCast v3667
  ![v3668.toNat]
def k0_off466 (v3669 : BitVec 32) : Fin 2 → Nat :=
  let c4095_i32_1337 : BitVec 32 := 4095#32
  let v3670 : BitVec 32 := Scalar.andi v3669 c4095_i32_1337
  let v3671 : Index := Scalar.indexCast v3670
  let c0_1338 : Index := 0#32
  ![v3671.toNat, 0]

def k0_chk216 (v3669 : BitVec 32) : Prop :=
  (∀ a, (k0_off466 v3669) a + S1x256.size a ≤ S4096x256.size a)
theorem k0_off466_inb : ∀ (v3669 : BitVec 32) (k0_hw216 : k0_chk216 v3669), ∀ a, (k0_off466 v3669) a + S1x256.size a ≤ S4096x256.size a := fun v3669 k0_hw216 => k0_hw216

def k0_off467 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1340 : BitVec 32 := 1024#32
  let v3676 : BitVec 32 := Scalar.muli v14 c1024_i32_1340
  let c208_i32 : BitVec 32 := 208#32
  let v3677 : BitVec 32 := Scalar.addi v3676 c208_i32
  let v3678 : Index := Scalar.indexCast v3677
  ![v3678.toNat]
def k0_off468 (v3679 : BitVec 32) : Fin 2 → Nat :=
  let c4095_i32_1341 : BitVec 32 := 4095#32
  let v3680 : BitVec 32 := Scalar.andi v3679 c4095_i32_1341
  let v3681 : Index := Scalar.indexCast v3680
  let c0_1342 : Index := 0#32
  ![v3681.toNat, 0]

def k0_chk217 (v3679 : BitVec 32) : Prop :=
  (∀ a, (k0_off468 v3679) a + S1x256.size a ≤ S4096x256.size a)
theorem k0_off468_inb : ∀ (v3679 : BitVec 32) (k0_hw217 : k0_chk217 v3679), ∀ a, (k0_off468 v3679) a + S1x256.size a ≤ S4096x256.size a := fun v3679 k0_hw217 => k0_hw217

def k0_off469 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1344 : BitVec 32 := 1024#32
  let v3686 : BitVec 32 := Scalar.muli v14 c1024_i32_1344
  let c209_i32 : BitVec 32 := 209#32
  let v3687 : BitVec 32 := Scalar.addi v3686 c209_i32
  let v3688 : Index := Scalar.indexCast v3687
  ![v3688.toNat]
def k0_off470 (v3689 : BitVec 32) : Fin 2 → Nat :=
  let c4095_i32_1345 : BitVec 32 := 4095#32
  let v3690 : BitVec 32 := Scalar.andi v3689 c4095_i32_1345
  let v3691 : Index := Scalar.indexCast v3690
  let c0_1346 : Index := 0#32
  ![v3691.toNat, 0]

def k0_chk218 (v3689 : BitVec 32) : Prop :=
  (∀ a, (k0_off470 v3689) a + S1x256.size a ≤ S4096x256.size a)
theorem k0_off470_inb : ∀ (v3689 : BitVec 32) (k0_hw218 : k0_chk218 v3689), ∀ a, (k0_off470 v3689) a + S1x256.size a ≤ S4096x256.size a := fun v3689 k0_hw218 => k0_hw218

def k0_off471 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1348 : BitVec 32 := 1024#32
  let v3696 : BitVec 32 := Scalar.muli v14 c1024_i32_1348
  let c210_i32 : BitVec 32 := 210#32
  let v3697 : BitVec 32 := Scalar.addi v3696 c210_i32
  let v3698 : Index := Scalar.indexCast v3697
  ![v3698.toNat]
def k0_off472 (v3699 : BitVec 32) : Fin 2 → Nat :=
  let c4095_i32_1349 : BitVec 32 := 4095#32
  let v3700 : BitVec 32 := Scalar.andi v3699 c4095_i32_1349
  let v3701 : Index := Scalar.indexCast v3700
  let c0_1350 : Index := 0#32
  ![v3701.toNat, 0]

def k0_chk219 (v3699 : BitVec 32) : Prop :=
  (∀ a, (k0_off472 v3699) a + S1x256.size a ≤ S4096x256.size a)
theorem k0_off472_inb : ∀ (v3699 : BitVec 32) (k0_hw219 : k0_chk219 v3699), ∀ a, (k0_off472 v3699) a + S1x256.size a ≤ S4096x256.size a := fun v3699 k0_hw219 => k0_hw219

def k0_off473 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1352 : BitVec 32 := 1024#32
  let v3706 : BitVec 32 := Scalar.muli v14 c1024_i32_1352
  let c211_i32 : BitVec 32 := 211#32
  let v3707 : BitVec 32 := Scalar.addi v3706 c211_i32
  let v3708 : Index := Scalar.indexCast v3707
  ![v3708.toNat]
def k0_off474 (v3709 : BitVec 32) : Fin 2 → Nat :=
  let c4095_i32_1353 : BitVec 32 := 4095#32
  let v3710 : BitVec 32 := Scalar.andi v3709 c4095_i32_1353
  let v3711 : Index := Scalar.indexCast v3710
  let c0_1354 : Index := 0#32
  ![v3711.toNat, 0]

def k0_chk220 (v3709 : BitVec 32) : Prop :=
  (∀ a, (k0_off474 v3709) a + S1x256.size a ≤ S4096x256.size a)
theorem k0_off474_inb : ∀ (v3709 : BitVec 32) (k0_hw220 : k0_chk220 v3709), ∀ a, (k0_off474 v3709) a + S1x256.size a ≤ S4096x256.size a := fun v3709 k0_hw220 => k0_hw220

def k0_off475 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1356 : BitVec 32 := 1024#32
  let v3716 : BitVec 32 := Scalar.muli v14 c1024_i32_1356
  let c212_i32 : BitVec 32 := 212#32
  let v3717 : BitVec 32 := Scalar.addi v3716 c212_i32
  let v3718 : Index := Scalar.indexCast v3717
  ![v3718.toNat]
def k0_off476 (v3719 : BitVec 32) : Fin 2 → Nat :=
  let c4095_i32_1357 : BitVec 32 := 4095#32
  let v3720 : BitVec 32 := Scalar.andi v3719 c4095_i32_1357
  let v3721 : Index := Scalar.indexCast v3720
  let c0_1358 : Index := 0#32
  ![v3721.toNat, 0]

def k0_chk221 (v3719 : BitVec 32) : Prop :=
  (∀ a, (k0_off476 v3719) a + S1x256.size a ≤ S4096x256.size a)
theorem k0_off476_inb : ∀ (v3719 : BitVec 32) (k0_hw221 : k0_chk221 v3719), ∀ a, (k0_off476 v3719) a + S1x256.size a ≤ S4096x256.size a := fun v3719 k0_hw221 => k0_hw221

def k0_off477 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1360 : BitVec 32 := 1024#32
  let v3726 : BitVec 32 := Scalar.muli v14 c1024_i32_1360
  let c213_i32 : BitVec 32 := 213#32
  let v3727 : BitVec 32 := Scalar.addi v3726 c213_i32
  let v3728 : Index := Scalar.indexCast v3727
  ![v3728.toNat]
def k0_off478 (v3729 : BitVec 32) : Fin 2 → Nat :=
  let c4095_i32_1361 : BitVec 32 := 4095#32
  let v3730 : BitVec 32 := Scalar.andi v3729 c4095_i32_1361
  let v3731 : Index := Scalar.indexCast v3730
  let c0_1362 : Index := 0#32
  ![v3731.toNat, 0]

def k0_chk222 (v3729 : BitVec 32) : Prop :=
  (∀ a, (k0_off478 v3729) a + S1x256.size a ≤ S4096x256.size a)
theorem k0_off478_inb : ∀ (v3729 : BitVec 32) (k0_hw222 : k0_chk222 v3729), ∀ a, (k0_off478 v3729) a + S1x256.size a ≤ S4096x256.size a := fun v3729 k0_hw222 => k0_hw222

def k0_off479 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1364 : BitVec 32 := 1024#32
  let v3736 : BitVec 32 := Scalar.muli v14 c1024_i32_1364
  let c214_i32 : BitVec 32 := 214#32
  let v3737 : BitVec 32 := Scalar.addi v3736 c214_i32
  let v3738 : Index := Scalar.indexCast v3737
  ![v3738.toNat]
def k0_off480 (v3739 : BitVec 32) : Fin 2 → Nat :=
  let c4095_i32_1365 : BitVec 32 := 4095#32
  let v3740 : BitVec 32 := Scalar.andi v3739 c4095_i32_1365
  let v3741 : Index := Scalar.indexCast v3740
  let c0_1366 : Index := 0#32
  ![v3741.toNat, 0]

def k0_chk223 (v3739 : BitVec 32) : Prop :=
  (∀ a, (k0_off480 v3739) a + S1x256.size a ≤ S4096x256.size a)
theorem k0_off480_inb : ∀ (v3739 : BitVec 32) (k0_hw223 : k0_chk223 v3739), ∀ a, (k0_off480 v3739) a + S1x256.size a ≤ S4096x256.size a := fun v3739 k0_hw223 => k0_hw223

def k0_off481 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1368 : BitVec 32 := 1024#32
  let v3746 : BitVec 32 := Scalar.muli v14 c1024_i32_1368
  let c215_i32 : BitVec 32 := 215#32
  let v3747 : BitVec 32 := Scalar.addi v3746 c215_i32
  let v3748 : Index := Scalar.indexCast v3747
  ![v3748.toNat]
def k0_off482 (v3749 : BitVec 32) : Fin 2 → Nat :=
  let c4095_i32_1369 : BitVec 32 := 4095#32
  let v3750 : BitVec 32 := Scalar.andi v3749 c4095_i32_1369
  let v3751 : Index := Scalar.indexCast v3750
  let c0_1370 : Index := 0#32
  ![v3751.toNat, 0]

def k0_chk224 (v3749 : BitVec 32) : Prop :=
  (∀ a, (k0_off482 v3749) a + S1x256.size a ≤ S4096x256.size a)
theorem k0_off482_inb : ∀ (v3749 : BitVec 32) (k0_hw224 : k0_chk224 v3749), ∀ a, (k0_off482 v3749) a + S1x256.size a ≤ S4096x256.size a := fun v3749 k0_hw224 => k0_hw224

def k0_off483 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1372 : BitVec 32 := 1024#32
  let v3756 : BitVec 32 := Scalar.muli v14 c1024_i32_1372
  let c216_i32 : BitVec 32 := 216#32
  let v3757 : BitVec 32 := Scalar.addi v3756 c216_i32
  let v3758 : Index := Scalar.indexCast v3757
  ![v3758.toNat]
def k0_off484 (v3759 : BitVec 32) : Fin 2 → Nat :=
  let c4095_i32_1373 : BitVec 32 := 4095#32
  let v3760 : BitVec 32 := Scalar.andi v3759 c4095_i32_1373
  let v3761 : Index := Scalar.indexCast v3760
  let c0_1374 : Index := 0#32
  ![v3761.toNat, 0]

def k0_chk225 (v3759 : BitVec 32) : Prop :=
  (∀ a, (k0_off484 v3759) a + S1x256.size a ≤ S4096x256.size a)
theorem k0_off484_inb : ∀ (v3759 : BitVec 32) (k0_hw225 : k0_chk225 v3759), ∀ a, (k0_off484 v3759) a + S1x256.size a ≤ S4096x256.size a := fun v3759 k0_hw225 => k0_hw225

def k0_off485 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1376 : BitVec 32 := 1024#32
  let v3766 : BitVec 32 := Scalar.muli v14 c1024_i32_1376
  let c217_i32 : BitVec 32 := 217#32
  let v3767 : BitVec 32 := Scalar.addi v3766 c217_i32
  let v3768 : Index := Scalar.indexCast v3767
  ![v3768.toNat]
def k0_off486 (v3769 : BitVec 32) : Fin 2 → Nat :=
  let c4095_i32_1377 : BitVec 32 := 4095#32
  let v3770 : BitVec 32 := Scalar.andi v3769 c4095_i32_1377
  let v3771 : Index := Scalar.indexCast v3770
  let c0_1378 : Index := 0#32
  ![v3771.toNat, 0]

def k0_chk226 (v3769 : BitVec 32) : Prop :=
  (∀ a, (k0_off486 v3769) a + S1x256.size a ≤ S4096x256.size a)
theorem k0_off486_inb : ∀ (v3769 : BitVec 32) (k0_hw226 : k0_chk226 v3769), ∀ a, (k0_off486 v3769) a + S1x256.size a ≤ S4096x256.size a := fun v3769 k0_hw226 => k0_hw226

def k0_off487 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1380 : BitVec 32 := 1024#32
  let v3776 : BitVec 32 := Scalar.muli v14 c1024_i32_1380
  let c218_i32 : BitVec 32 := 218#32
  let v3777 : BitVec 32 := Scalar.addi v3776 c218_i32
  let v3778 : Index := Scalar.indexCast v3777
  ![v3778.toNat]
def k0_off488 (v3779 : BitVec 32) : Fin 2 → Nat :=
  let c4095_i32_1381 : BitVec 32 := 4095#32
  let v3780 : BitVec 32 := Scalar.andi v3779 c4095_i32_1381
  let v3781 : Index := Scalar.indexCast v3780
  let c0_1382 : Index := 0#32
  ![v3781.toNat, 0]

def k0_chk227 (v3779 : BitVec 32) : Prop :=
  (∀ a, (k0_off488 v3779) a + S1x256.size a ≤ S4096x256.size a)
theorem k0_off488_inb : ∀ (v3779 : BitVec 32) (k0_hw227 : k0_chk227 v3779), ∀ a, (k0_off488 v3779) a + S1x256.size a ≤ S4096x256.size a := fun v3779 k0_hw227 => k0_hw227

def k0_off489 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1384 : BitVec 32 := 1024#32
  let v3786 : BitVec 32 := Scalar.muli v14 c1024_i32_1384
  let c219_i32 : BitVec 32 := 219#32
  let v3787 : BitVec 32 := Scalar.addi v3786 c219_i32
  let v3788 : Index := Scalar.indexCast v3787
  ![v3788.toNat]
def k0_off490 (v3789 : BitVec 32) : Fin 2 → Nat :=
  let c4095_i32_1385 : BitVec 32 := 4095#32
  let v3790 : BitVec 32 := Scalar.andi v3789 c4095_i32_1385
  let v3791 : Index := Scalar.indexCast v3790
  let c0_1386 : Index := 0#32
  ![v3791.toNat, 0]

def k0_chk228 (v3789 : BitVec 32) : Prop :=
  (∀ a, (k0_off490 v3789) a + S1x256.size a ≤ S4096x256.size a)
theorem k0_off490_inb : ∀ (v3789 : BitVec 32) (k0_hw228 : k0_chk228 v3789), ∀ a, (k0_off490 v3789) a + S1x256.size a ≤ S4096x256.size a := fun v3789 k0_hw228 => k0_hw228

def k0_off491 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1388 : BitVec 32 := 1024#32
  let v3796 : BitVec 32 := Scalar.muli v14 c1024_i32_1388
  let c220_i32 : BitVec 32 := 220#32
  let v3797 : BitVec 32 := Scalar.addi v3796 c220_i32
  let v3798 : Index := Scalar.indexCast v3797
  ![v3798.toNat]
def k0_off492 (v3799 : BitVec 32) : Fin 2 → Nat :=
  let c4095_i32_1389 : BitVec 32 := 4095#32
  let v3800 : BitVec 32 := Scalar.andi v3799 c4095_i32_1389
  let v3801 : Index := Scalar.indexCast v3800
  let c0_1390 : Index := 0#32
  ![v3801.toNat, 0]

def k0_chk229 (v3799 : BitVec 32) : Prop :=
  (∀ a, (k0_off492 v3799) a + S1x256.size a ≤ S4096x256.size a)
theorem k0_off492_inb : ∀ (v3799 : BitVec 32) (k0_hw229 : k0_chk229 v3799), ∀ a, (k0_off492 v3799) a + S1x256.size a ≤ S4096x256.size a := fun v3799 k0_hw229 => k0_hw229

def k0_off493 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1392 : BitVec 32 := 1024#32
  let v3806 : BitVec 32 := Scalar.muli v14 c1024_i32_1392
  let c221_i32 : BitVec 32 := 221#32
  let v3807 : BitVec 32 := Scalar.addi v3806 c221_i32
  let v3808 : Index := Scalar.indexCast v3807
  ![v3808.toNat]
def k0_off494 (v3809 : BitVec 32) : Fin 2 → Nat :=
  let c4095_i32_1393 : BitVec 32 := 4095#32
  let v3810 : BitVec 32 := Scalar.andi v3809 c4095_i32_1393
  let v3811 : Index := Scalar.indexCast v3810
  let c0_1394 : Index := 0#32
  ![v3811.toNat, 0]

def k0_chk230 (v3809 : BitVec 32) : Prop :=
  (∀ a, (k0_off494 v3809) a + S1x256.size a ≤ S4096x256.size a)
theorem k0_off494_inb : ∀ (v3809 : BitVec 32) (k0_hw230 : k0_chk230 v3809), ∀ a, (k0_off494 v3809) a + S1x256.size a ≤ S4096x256.size a := fun v3809 k0_hw230 => k0_hw230

def k0_off495 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1396 : BitVec 32 := 1024#32
  let v3816 : BitVec 32 := Scalar.muli v14 c1024_i32_1396
  let c222_i32 : BitVec 32 := 222#32
  let v3817 : BitVec 32 := Scalar.addi v3816 c222_i32
  let v3818 : Index := Scalar.indexCast v3817
  ![v3818.toNat]
def k0_off496 (v3819 : BitVec 32) : Fin 2 → Nat :=
  let c4095_i32_1397 : BitVec 32 := 4095#32
  let v3820 : BitVec 32 := Scalar.andi v3819 c4095_i32_1397
  let v3821 : Index := Scalar.indexCast v3820
  let c0_1398 : Index := 0#32
  ![v3821.toNat, 0]

def k0_chk231 (v3819 : BitVec 32) : Prop :=
  (∀ a, (k0_off496 v3819) a + S1x256.size a ≤ S4096x256.size a)
theorem k0_off496_inb : ∀ (v3819 : BitVec 32) (k0_hw231 : k0_chk231 v3819), ∀ a, (k0_off496 v3819) a + S1x256.size a ≤ S4096x256.size a := fun v3819 k0_hw231 => k0_hw231

def k0_off497 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1400 : BitVec 32 := 1024#32
  let v3826 : BitVec 32 := Scalar.muli v14 c1024_i32_1400
  let c223_i32 : BitVec 32 := 223#32
  let v3827 : BitVec 32 := Scalar.addi v3826 c223_i32
  let v3828 : Index := Scalar.indexCast v3827
  ![v3828.toNat]
def k0_off498 (v3829 : BitVec 32) : Fin 2 → Nat :=
  let c4095_i32_1401 : BitVec 32 := 4095#32
  let v3830 : BitVec 32 := Scalar.andi v3829 c4095_i32_1401
  let v3831 : Index := Scalar.indexCast v3830
  let c0_1402 : Index := 0#32
  ![v3831.toNat, 0]

def k0_chk232 (v3829 : BitVec 32) : Prop :=
  (∀ a, (k0_off498 v3829) a + S1x256.size a ≤ S4096x256.size a)
theorem k0_off498_inb : ∀ (v3829 : BitVec 32) (k0_hw232 : k0_chk232 v3829), ∀ a, (k0_off498 v3829) a + S1x256.size a ≤ S4096x256.size a := fun v3829 k0_hw232 => k0_hw232

def k0_off499 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1404 : BitVec 32 := 1024#32
  let v3836 : BitVec 32 := Scalar.muli v14 c1024_i32_1404
  let c224_i32 : BitVec 32 := 224#32
  let v3837 : BitVec 32 := Scalar.addi v3836 c224_i32
  let v3838 : Index := Scalar.indexCast v3837
  ![v3838.toNat]
def k0_off500 (v3839 : BitVec 32) : Fin 2 → Nat :=
  let c4095_i32_1405 : BitVec 32 := 4095#32
  let v3840 : BitVec 32 := Scalar.andi v3839 c4095_i32_1405
  let v3841 : Index := Scalar.indexCast v3840
  let c0_1406 : Index := 0#32
  ![v3841.toNat, 0]

def k0_chk233 (v3839 : BitVec 32) : Prop :=
  (∀ a, (k0_off500 v3839) a + S1x256.size a ≤ S4096x256.size a)
theorem k0_off500_inb : ∀ (v3839 : BitVec 32) (k0_hw233 : k0_chk233 v3839), ∀ a, (k0_off500 v3839) a + S1x256.size a ≤ S4096x256.size a := fun v3839 k0_hw233 => k0_hw233

def k0_off501 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1408 : BitVec 32 := 1024#32
  let v3846 : BitVec 32 := Scalar.muli v14 c1024_i32_1408
  let c225_i32 : BitVec 32 := 225#32
  let v3847 : BitVec 32 := Scalar.addi v3846 c225_i32
  let v3848 : Index := Scalar.indexCast v3847
  ![v3848.toNat]
def k0_off502 (v3849 : BitVec 32) : Fin 2 → Nat :=
  let c4095_i32_1409 : BitVec 32 := 4095#32
  let v3850 : BitVec 32 := Scalar.andi v3849 c4095_i32_1409
  let v3851 : Index := Scalar.indexCast v3850
  let c0_1410 : Index := 0#32
  ![v3851.toNat, 0]

def k0_chk234 (v3849 : BitVec 32) : Prop :=
  (∀ a, (k0_off502 v3849) a + S1x256.size a ≤ S4096x256.size a)
theorem k0_off502_inb : ∀ (v3849 : BitVec 32) (k0_hw234 : k0_chk234 v3849), ∀ a, (k0_off502 v3849) a + S1x256.size a ≤ S4096x256.size a := fun v3849 k0_hw234 => k0_hw234

def k0_off503 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1412 : BitVec 32 := 1024#32
  let v3856 : BitVec 32 := Scalar.muli v14 c1024_i32_1412
  let c226_i32 : BitVec 32 := 226#32
  let v3857 : BitVec 32 := Scalar.addi v3856 c226_i32
  let v3858 : Index := Scalar.indexCast v3857
  ![v3858.toNat]
def k0_off504 (v3859 : BitVec 32) : Fin 2 → Nat :=
  let c4095_i32_1413 : BitVec 32 := 4095#32
  let v3860 : BitVec 32 := Scalar.andi v3859 c4095_i32_1413
  let v3861 : Index := Scalar.indexCast v3860
  let c0_1414 : Index := 0#32
  ![v3861.toNat, 0]

def k0_chk235 (v3859 : BitVec 32) : Prop :=
  (∀ a, (k0_off504 v3859) a + S1x256.size a ≤ S4096x256.size a)
theorem k0_off504_inb : ∀ (v3859 : BitVec 32) (k0_hw235 : k0_chk235 v3859), ∀ a, (k0_off504 v3859) a + S1x256.size a ≤ S4096x256.size a := fun v3859 k0_hw235 => k0_hw235

def k0_off505 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1416 : BitVec 32 := 1024#32
  let v3866 : BitVec 32 := Scalar.muli v14 c1024_i32_1416
  let c227_i32 : BitVec 32 := 227#32
  let v3867 : BitVec 32 := Scalar.addi v3866 c227_i32
  let v3868 : Index := Scalar.indexCast v3867
  ![v3868.toNat]
def k0_off506 (v3869 : BitVec 32) : Fin 2 → Nat :=
  let c4095_i32_1417 : BitVec 32 := 4095#32
  let v3870 : BitVec 32 := Scalar.andi v3869 c4095_i32_1417
  let v3871 : Index := Scalar.indexCast v3870
  let c0_1418 : Index := 0#32
  ![v3871.toNat, 0]

def k0_chk236 (v3869 : BitVec 32) : Prop :=
  (∀ a, (k0_off506 v3869) a + S1x256.size a ≤ S4096x256.size a)
theorem k0_off506_inb : ∀ (v3869 : BitVec 32) (k0_hw236 : k0_chk236 v3869), ∀ a, (k0_off506 v3869) a + S1x256.size a ≤ S4096x256.size a := fun v3869 k0_hw236 => k0_hw236

def k0_off507 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v3933 : Index := Scalar.indexCast v12
  let c0_1435 : Index := 0#32
  let c0_1436 : Index := 0#32
  ![v3933.toNat, 0, 0]
def k0_off508 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v3994 : Index := Scalar.indexCast v12
  let c0_1454 : Index := 0#32
  let c256_1455 : Index := 256#32
  ![v3994.toNat, 0, 256]
def k0_off509 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v4056 : Index := Scalar.indexCast v12
  let c0_1473 : Index := 0#32
  let c512_1474 : Index := 512#32
  ![v4056.toNat, 0, 512]
def k0_off510 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v4118 : Index := Scalar.indexCast v12
  let c0_1492 : Index := 0#32
  let c768_1493 : Index := 768#32
  ![v4118.toNat, 0, 768]
def k0_off511 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1499 : BitVec 32 := 1024#32
  let v4128 : BitVec 32 := Scalar.muli v14 c1024_i32_1499
  let c228_i32 : BitVec 32 := 228#32
  let v4129 : BitVec 32 := Scalar.addi v4128 c228_i32
  let v4130 : Index := Scalar.indexCast v4129
  ![v4130.toNat]
def k0_off512 (v4131 : BitVec 32) : Fin 2 → Nat :=
  let c4095_i32_1500 : BitVec 32 := 4095#32
  let v4132 : BitVec 32 := Scalar.andi v4131 c4095_i32_1500
  let v4133 : Index := Scalar.indexCast v4132
  let c0_1501 : Index := 0#32
  ![v4133.toNat, 0]

def k0_chk237 (v4131 : BitVec 32) : Prop :=
  (∀ a, (k0_off512 v4131) a + S1x256.size a ≤ S4096x256.size a)
theorem k0_off512_inb : ∀ (v4131 : BitVec 32) (k0_hw237 : k0_chk237 v4131), ∀ a, (k0_off512 v4131) a + S1x256.size a ≤ S4096x256.size a := fun v4131 k0_hw237 => k0_hw237

def k0_off513 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1503 : BitVec 32 := 1024#32
  let v4138 : BitVec 32 := Scalar.muli v14 c1024_i32_1503
  let c229_i32 : BitVec 32 := 229#32
  let v4139 : BitVec 32 := Scalar.addi v4138 c229_i32
  let v4140 : Index := Scalar.indexCast v4139
  ![v4140.toNat]
def k0_off514 (v4141 : BitVec 32) : Fin 2 → Nat :=
  let c4095_i32_1504 : BitVec 32 := 4095#32
  let v4142 : BitVec 32 := Scalar.andi v4141 c4095_i32_1504
  let v4143 : Index := Scalar.indexCast v4142
  let c0_1505 : Index := 0#32
  ![v4143.toNat, 0]

def k0_chk238 (v4141 : BitVec 32) : Prop :=
  (∀ a, (k0_off514 v4141) a + S1x256.size a ≤ S4096x256.size a)
theorem k0_off514_inb : ∀ (v4141 : BitVec 32) (k0_hw238 : k0_chk238 v4141), ∀ a, (k0_off514 v4141) a + S1x256.size a ≤ S4096x256.size a := fun v4141 k0_hw238 => k0_hw238

def k0_off515 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1507 : BitVec 32 := 1024#32
  let v4148 : BitVec 32 := Scalar.muli v14 c1024_i32_1507
  let c230_i32 : BitVec 32 := 230#32
  let v4149 : BitVec 32 := Scalar.addi v4148 c230_i32
  let v4150 : Index := Scalar.indexCast v4149
  ![v4150.toNat]
def k0_off516 (v4151 : BitVec 32) : Fin 2 → Nat :=
  let c4095_i32_1508 : BitVec 32 := 4095#32
  let v4152 : BitVec 32 := Scalar.andi v4151 c4095_i32_1508
  let v4153 : Index := Scalar.indexCast v4152
  let c0_1509 : Index := 0#32
  ![v4153.toNat, 0]

def k0_chk239 (v4151 : BitVec 32) : Prop :=
  (∀ a, (k0_off516 v4151) a + S1x256.size a ≤ S4096x256.size a)
theorem k0_off516_inb : ∀ (v4151 : BitVec 32) (k0_hw239 : k0_chk239 v4151), ∀ a, (k0_off516 v4151) a + S1x256.size a ≤ S4096x256.size a := fun v4151 k0_hw239 => k0_hw239

def k0_off517 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1511 : BitVec 32 := 1024#32
  let v4158 : BitVec 32 := Scalar.muli v14 c1024_i32_1511
  let c231_i32 : BitVec 32 := 231#32
  let v4159 : BitVec 32 := Scalar.addi v4158 c231_i32
  let v4160 : Index := Scalar.indexCast v4159
  ![v4160.toNat]
def k0_off518 (v4161 : BitVec 32) : Fin 2 → Nat :=
  let c4095_i32_1512 : BitVec 32 := 4095#32
  let v4162 : BitVec 32 := Scalar.andi v4161 c4095_i32_1512
  let v4163 : Index := Scalar.indexCast v4162
  let c0_1513 : Index := 0#32
  ![v4163.toNat, 0]

def k0_chk240 (v4161 : BitVec 32) : Prop :=
  (∀ a, (k0_off518 v4161) a + S1x256.size a ≤ S4096x256.size a)
theorem k0_off518_inb : ∀ (v4161 : BitVec 32) (k0_hw240 : k0_chk240 v4161), ∀ a, (k0_off518 v4161) a + S1x256.size a ≤ S4096x256.size a := fun v4161 k0_hw240 => k0_hw240

def k0_off519 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1515 : BitVec 32 := 1024#32
  let v4168 : BitVec 32 := Scalar.muli v14 c1024_i32_1515
  let c232_i32 : BitVec 32 := 232#32
  let v4169 : BitVec 32 := Scalar.addi v4168 c232_i32
  let v4170 : Index := Scalar.indexCast v4169
  ![v4170.toNat]
def k0_off520 (v4171 : BitVec 32) : Fin 2 → Nat :=
  let c4095_i32_1516 : BitVec 32 := 4095#32
  let v4172 : BitVec 32 := Scalar.andi v4171 c4095_i32_1516
  let v4173 : Index := Scalar.indexCast v4172
  let c0_1517 : Index := 0#32
  ![v4173.toNat, 0]

def k0_chk241 (v4171 : BitVec 32) : Prop :=
  (∀ a, (k0_off520 v4171) a + S1x256.size a ≤ S4096x256.size a)
theorem k0_off520_inb : ∀ (v4171 : BitVec 32) (k0_hw241 : k0_chk241 v4171), ∀ a, (k0_off520 v4171) a + S1x256.size a ≤ S4096x256.size a := fun v4171 k0_hw241 => k0_hw241

def k0_off521 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1519 : BitVec 32 := 1024#32
  let v4178 : BitVec 32 := Scalar.muli v14 c1024_i32_1519
  let c233_i32 : BitVec 32 := 233#32
  let v4179 : BitVec 32 := Scalar.addi v4178 c233_i32
  let v4180 : Index := Scalar.indexCast v4179
  ![v4180.toNat]
def k0_off522 (v4181 : BitVec 32) : Fin 2 → Nat :=
  let c4095_i32_1520 : BitVec 32 := 4095#32
  let v4182 : BitVec 32 := Scalar.andi v4181 c4095_i32_1520
  let v4183 : Index := Scalar.indexCast v4182
  let c0_1521 : Index := 0#32
  ![v4183.toNat, 0]

def k0_chk242 (v4181 : BitVec 32) : Prop :=
  (∀ a, (k0_off522 v4181) a + S1x256.size a ≤ S4096x256.size a)
theorem k0_off522_inb : ∀ (v4181 : BitVec 32) (k0_hw242 : k0_chk242 v4181), ∀ a, (k0_off522 v4181) a + S1x256.size a ≤ S4096x256.size a := fun v4181 k0_hw242 => k0_hw242

def k0_off523 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1523 : BitVec 32 := 1024#32
  let v4188 : BitVec 32 := Scalar.muli v14 c1024_i32_1523
  let c234_i32 : BitVec 32 := 234#32
  let v4189 : BitVec 32 := Scalar.addi v4188 c234_i32
  let v4190 : Index := Scalar.indexCast v4189
  ![v4190.toNat]
def k0_off524 (v4191 : BitVec 32) : Fin 2 → Nat :=
  let c4095_i32_1524 : BitVec 32 := 4095#32
  let v4192 : BitVec 32 := Scalar.andi v4191 c4095_i32_1524
  let v4193 : Index := Scalar.indexCast v4192
  let c0_1525 : Index := 0#32
  ![v4193.toNat, 0]

def k0_chk243 (v4191 : BitVec 32) : Prop :=
  (∀ a, (k0_off524 v4191) a + S1x256.size a ≤ S4096x256.size a)
theorem k0_off524_inb : ∀ (v4191 : BitVec 32) (k0_hw243 : k0_chk243 v4191), ∀ a, (k0_off524 v4191) a + S1x256.size a ≤ S4096x256.size a := fun v4191 k0_hw243 => k0_hw243

def k0_off525 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1527 : BitVec 32 := 1024#32
  let v4198 : BitVec 32 := Scalar.muli v14 c1024_i32_1527
  let c235_i32 : BitVec 32 := 235#32
  let v4199 : BitVec 32 := Scalar.addi v4198 c235_i32
  let v4200 : Index := Scalar.indexCast v4199
  ![v4200.toNat]
def k0_off526 (v4201 : BitVec 32) : Fin 2 → Nat :=
  let c4095_i32_1528 : BitVec 32 := 4095#32
  let v4202 : BitVec 32 := Scalar.andi v4201 c4095_i32_1528
  let v4203 : Index := Scalar.indexCast v4202
  let c0_1529 : Index := 0#32
  ![v4203.toNat, 0]

def k0_chk244 (v4201 : BitVec 32) : Prop :=
  (∀ a, (k0_off526 v4201) a + S1x256.size a ≤ S4096x256.size a)
theorem k0_off526_inb : ∀ (v4201 : BitVec 32) (k0_hw244 : k0_chk244 v4201), ∀ a, (k0_off526 v4201) a + S1x256.size a ≤ S4096x256.size a := fun v4201 k0_hw244 => k0_hw244

def k0_off527 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1531 : BitVec 32 := 1024#32
  let v4208 : BitVec 32 := Scalar.muli v14 c1024_i32_1531
  let c236_i32 : BitVec 32 := 236#32
  let v4209 : BitVec 32 := Scalar.addi v4208 c236_i32
  let v4210 : Index := Scalar.indexCast v4209
  ![v4210.toNat]
def k0_off528 (v4211 : BitVec 32) : Fin 2 → Nat :=
  let c4095_i32_1532 : BitVec 32 := 4095#32
  let v4212 : BitVec 32 := Scalar.andi v4211 c4095_i32_1532
  let v4213 : Index := Scalar.indexCast v4212
  let c0_1533 : Index := 0#32
  ![v4213.toNat, 0]

def k0_chk245 (v4211 : BitVec 32) : Prop :=
  (∀ a, (k0_off528 v4211) a + S1x256.size a ≤ S4096x256.size a)
theorem k0_off528_inb : ∀ (v4211 : BitVec 32) (k0_hw245 : k0_chk245 v4211), ∀ a, (k0_off528 v4211) a + S1x256.size a ≤ S4096x256.size a := fun v4211 k0_hw245 => k0_hw245

def k0_off529 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1535 : BitVec 32 := 1024#32
  let v4218 : BitVec 32 := Scalar.muli v14 c1024_i32_1535
  let c237_i32 : BitVec 32 := 237#32
  let v4219 : BitVec 32 := Scalar.addi v4218 c237_i32
  let v4220 : Index := Scalar.indexCast v4219
  ![v4220.toNat]
def k0_off530 (v4221 : BitVec 32) : Fin 2 → Nat :=
  let c4095_i32_1536 : BitVec 32 := 4095#32
  let v4222 : BitVec 32 := Scalar.andi v4221 c4095_i32_1536
  let v4223 : Index := Scalar.indexCast v4222
  let c0_1537 : Index := 0#32
  ![v4223.toNat, 0]

def k0_chk246 (v4221 : BitVec 32) : Prop :=
  (∀ a, (k0_off530 v4221) a + S1x256.size a ≤ S4096x256.size a)
theorem k0_off530_inb : ∀ (v4221 : BitVec 32) (k0_hw246 : k0_chk246 v4221), ∀ a, (k0_off530 v4221) a + S1x256.size a ≤ S4096x256.size a := fun v4221 k0_hw246 => k0_hw246

def k0_off531 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1539 : BitVec 32 := 1024#32
  let v4228 : BitVec 32 := Scalar.muli v14 c1024_i32_1539
  let c238_i32 : BitVec 32 := 238#32
  let v4229 : BitVec 32 := Scalar.addi v4228 c238_i32
  let v4230 : Index := Scalar.indexCast v4229
  ![v4230.toNat]
def k0_off532 (v4231 : BitVec 32) : Fin 2 → Nat :=
  let c4095_i32_1540 : BitVec 32 := 4095#32
  let v4232 : BitVec 32 := Scalar.andi v4231 c4095_i32_1540
  let v4233 : Index := Scalar.indexCast v4232
  let c0_1541 : Index := 0#32
  ![v4233.toNat, 0]

def k0_chk247 (v4231 : BitVec 32) : Prop :=
  (∀ a, (k0_off532 v4231) a + S1x256.size a ≤ S4096x256.size a)
theorem k0_off532_inb : ∀ (v4231 : BitVec 32) (k0_hw247 : k0_chk247 v4231), ∀ a, (k0_off532 v4231) a + S1x256.size a ≤ S4096x256.size a := fun v4231 k0_hw247 => k0_hw247

def k0_off533 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1543 : BitVec 32 := 1024#32
  let v4238 : BitVec 32 := Scalar.muli v14 c1024_i32_1543
  let c239_i32 : BitVec 32 := 239#32
  let v4239 : BitVec 32 := Scalar.addi v4238 c239_i32
  let v4240 : Index := Scalar.indexCast v4239
  ![v4240.toNat]
def k0_off534 (v4241 : BitVec 32) : Fin 2 → Nat :=
  let c4095_i32_1544 : BitVec 32 := 4095#32
  let v4242 : BitVec 32 := Scalar.andi v4241 c4095_i32_1544
  let v4243 : Index := Scalar.indexCast v4242
  let c0_1545 : Index := 0#32
  ![v4243.toNat, 0]

def k0_chk248 (v4241 : BitVec 32) : Prop :=
  (∀ a, (k0_off534 v4241) a + S1x256.size a ≤ S4096x256.size a)
theorem k0_off534_inb : ∀ (v4241 : BitVec 32) (k0_hw248 : k0_chk248 v4241), ∀ a, (k0_off534 v4241) a + S1x256.size a ≤ S4096x256.size a := fun v4241 k0_hw248 => k0_hw248

def k0_off535 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1547 : BitVec 32 := 1024#32
  let v4248 : BitVec 32 := Scalar.muli v14 c1024_i32_1547
  let c240_i32 : BitVec 32 := 240#32
  let v4249 : BitVec 32 := Scalar.addi v4248 c240_i32
  let v4250 : Index := Scalar.indexCast v4249
  ![v4250.toNat]
def k0_off536 (v4251 : BitVec 32) : Fin 2 → Nat :=
  let c4095_i32_1548 : BitVec 32 := 4095#32
  let v4252 : BitVec 32 := Scalar.andi v4251 c4095_i32_1548
  let v4253 : Index := Scalar.indexCast v4252
  let c0_1549 : Index := 0#32
  ![v4253.toNat, 0]

def k0_chk249 (v4251 : BitVec 32) : Prop :=
  (∀ a, (k0_off536 v4251) a + S1x256.size a ≤ S4096x256.size a)
theorem k0_off536_inb : ∀ (v4251 : BitVec 32) (k0_hw249 : k0_chk249 v4251), ∀ a, (k0_off536 v4251) a + S1x256.size a ≤ S4096x256.size a := fun v4251 k0_hw249 => k0_hw249

def k0_off537 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1551 : BitVec 32 := 1024#32
  let v4258 : BitVec 32 := Scalar.muli v14 c1024_i32_1551
  let c241_i32 : BitVec 32 := 241#32
  let v4259 : BitVec 32 := Scalar.addi v4258 c241_i32
  let v4260 : Index := Scalar.indexCast v4259
  ![v4260.toNat]
def k0_off538 (v4261 : BitVec 32) : Fin 2 → Nat :=
  let c4095_i32_1552 : BitVec 32 := 4095#32
  let v4262 : BitVec 32 := Scalar.andi v4261 c4095_i32_1552
  let v4263 : Index := Scalar.indexCast v4262
  let c0_1553 : Index := 0#32
  ![v4263.toNat, 0]

def k0_chk250 (v4261 : BitVec 32) : Prop :=
  (∀ a, (k0_off538 v4261) a + S1x256.size a ≤ S4096x256.size a)
theorem k0_off538_inb : ∀ (v4261 : BitVec 32) (k0_hw250 : k0_chk250 v4261), ∀ a, (k0_off538 v4261) a + S1x256.size a ≤ S4096x256.size a := fun v4261 k0_hw250 => k0_hw250

def k0_off539 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1555 : BitVec 32 := 1024#32
  let v4268 : BitVec 32 := Scalar.muli v14 c1024_i32_1555
  let c242_i32 : BitVec 32 := 242#32
  let v4269 : BitVec 32 := Scalar.addi v4268 c242_i32
  let v4270 : Index := Scalar.indexCast v4269
  ![v4270.toNat]
def k0_off540 (v4271 : BitVec 32) : Fin 2 → Nat :=
  let c4095_i32_1556 : BitVec 32 := 4095#32
  let v4272 : BitVec 32 := Scalar.andi v4271 c4095_i32_1556
  let v4273 : Index := Scalar.indexCast v4272
  let c0_1557 : Index := 0#32
  ![v4273.toNat, 0]

def k0_chk251 (v4271 : BitVec 32) : Prop :=
  (∀ a, (k0_off540 v4271) a + S1x256.size a ≤ S4096x256.size a)
theorem k0_off540_inb : ∀ (v4271 : BitVec 32) (k0_hw251 : k0_chk251 v4271), ∀ a, (k0_off540 v4271) a + S1x256.size a ≤ S4096x256.size a := fun v4271 k0_hw251 => k0_hw251

def k0_off541 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1559 : BitVec 32 := 1024#32
  let v4278 : BitVec 32 := Scalar.muli v14 c1024_i32_1559
  let c243_i32 : BitVec 32 := 243#32
  let v4279 : BitVec 32 := Scalar.addi v4278 c243_i32
  let v4280 : Index := Scalar.indexCast v4279
  ![v4280.toNat]
def k0_off542 (v4281 : BitVec 32) : Fin 2 → Nat :=
  let c4095_i32_1560 : BitVec 32 := 4095#32
  let v4282 : BitVec 32 := Scalar.andi v4281 c4095_i32_1560
  let v4283 : Index := Scalar.indexCast v4282
  let c0_1561 : Index := 0#32
  ![v4283.toNat, 0]

def k0_chk252 (v4281 : BitVec 32) : Prop :=
  (∀ a, (k0_off542 v4281) a + S1x256.size a ≤ S4096x256.size a)
theorem k0_off542_inb : ∀ (v4281 : BitVec 32) (k0_hw252 : k0_chk252 v4281), ∀ a, (k0_off542 v4281) a + S1x256.size a ≤ S4096x256.size a := fun v4281 k0_hw252 => k0_hw252

def k0_off543 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1563 : BitVec 32 := 1024#32
  let v4288 : BitVec 32 := Scalar.muli v14 c1024_i32_1563
  let c244_i32 : BitVec 32 := 244#32
  let v4289 : BitVec 32 := Scalar.addi v4288 c244_i32
  let v4290 : Index := Scalar.indexCast v4289
  ![v4290.toNat]
def k0_off544 (v4291 : BitVec 32) : Fin 2 → Nat :=
  let c4095_i32_1564 : BitVec 32 := 4095#32
  let v4292 : BitVec 32 := Scalar.andi v4291 c4095_i32_1564
  let v4293 : Index := Scalar.indexCast v4292
  let c0_1565 : Index := 0#32
  ![v4293.toNat, 0]

def k0_chk253 (v4291 : BitVec 32) : Prop :=
  (∀ a, (k0_off544 v4291) a + S1x256.size a ≤ S4096x256.size a)
theorem k0_off544_inb : ∀ (v4291 : BitVec 32) (k0_hw253 : k0_chk253 v4291), ∀ a, (k0_off544 v4291) a + S1x256.size a ≤ S4096x256.size a := fun v4291 k0_hw253 => k0_hw253

def k0_off545 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1567 : BitVec 32 := 1024#32
  let v4298 : BitVec 32 := Scalar.muli v14 c1024_i32_1567
  let c245_i32 : BitVec 32 := 245#32
  let v4299 : BitVec 32 := Scalar.addi v4298 c245_i32
  let v4300 : Index := Scalar.indexCast v4299
  ![v4300.toNat]
def k0_off546 (v4301 : BitVec 32) : Fin 2 → Nat :=
  let c4095_i32_1568 : BitVec 32 := 4095#32
  let v4302 : BitVec 32 := Scalar.andi v4301 c4095_i32_1568
  let v4303 : Index := Scalar.indexCast v4302
  let c0_1569 : Index := 0#32
  ![v4303.toNat, 0]

def k0_chk254 (v4301 : BitVec 32) : Prop :=
  (∀ a, (k0_off546 v4301) a + S1x256.size a ≤ S4096x256.size a)
theorem k0_off546_inb : ∀ (v4301 : BitVec 32) (k0_hw254 : k0_chk254 v4301), ∀ a, (k0_off546 v4301) a + S1x256.size a ≤ S4096x256.size a := fun v4301 k0_hw254 => k0_hw254

def k0_off547 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1571 : BitVec 32 := 1024#32
  let v4308 : BitVec 32 := Scalar.muli v14 c1024_i32_1571
  let c246_i32 : BitVec 32 := 246#32
  let v4309 : BitVec 32 := Scalar.addi v4308 c246_i32
  let v4310 : Index := Scalar.indexCast v4309
  ![v4310.toNat]
def k0_off548 (v4311 : BitVec 32) : Fin 2 → Nat :=
  let c4095_i32_1572 : BitVec 32 := 4095#32
  let v4312 : BitVec 32 := Scalar.andi v4311 c4095_i32_1572
  let v4313 : Index := Scalar.indexCast v4312
  let c0_1573 : Index := 0#32
  ![v4313.toNat, 0]

def k0_chk255 (v4311 : BitVec 32) : Prop :=
  (∀ a, (k0_off548 v4311) a + S1x256.size a ≤ S4096x256.size a)
theorem k0_off548_inb : ∀ (v4311 : BitVec 32) (k0_hw255 : k0_chk255 v4311), ∀ a, (k0_off548 v4311) a + S1x256.size a ≤ S4096x256.size a := fun v4311 k0_hw255 => k0_hw255

def k0_off549 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1575 : BitVec 32 := 1024#32
  let v4318 : BitVec 32 := Scalar.muli v14 c1024_i32_1575
  let c247_i32 : BitVec 32 := 247#32
  let v4319 : BitVec 32 := Scalar.addi v4318 c247_i32
  let v4320 : Index := Scalar.indexCast v4319
  ![v4320.toNat]
def k0_off550 (v4321 : BitVec 32) : Fin 2 → Nat :=
  let c4095_i32_1576 : BitVec 32 := 4095#32
  let v4322 : BitVec 32 := Scalar.andi v4321 c4095_i32_1576
  let v4323 : Index := Scalar.indexCast v4322
  let c0_1577 : Index := 0#32
  ![v4323.toNat, 0]

def k0_chk256 (v4321 : BitVec 32) : Prop :=
  (∀ a, (k0_off550 v4321) a + S1x256.size a ≤ S4096x256.size a)
theorem k0_off550_inb : ∀ (v4321 : BitVec 32) (k0_hw256 : k0_chk256 v4321), ∀ a, (k0_off550 v4321) a + S1x256.size a ≤ S4096x256.size a := fun v4321 k0_hw256 => k0_hw256

def k0_off551 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1579 : BitVec 32 := 1024#32
  let v4328 : BitVec 32 := Scalar.muli v14 c1024_i32_1579
  let c248_i32 : BitVec 32 := 248#32
  let v4329 : BitVec 32 := Scalar.addi v4328 c248_i32
  let v4330 : Index := Scalar.indexCast v4329
  ![v4330.toNat]
def k0_off552 (v4331 : BitVec 32) : Fin 2 → Nat :=
  let c4095_i32_1580 : BitVec 32 := 4095#32
  let v4332 : BitVec 32 := Scalar.andi v4331 c4095_i32_1580
  let v4333 : Index := Scalar.indexCast v4332
  let c0_1581 : Index := 0#32
  ![v4333.toNat, 0]

def k0_chk257 (v4331 : BitVec 32) : Prop :=
  (∀ a, (k0_off552 v4331) a + S1x256.size a ≤ S4096x256.size a)
theorem k0_off552_inb : ∀ (v4331 : BitVec 32) (k0_hw257 : k0_chk257 v4331), ∀ a, (k0_off552 v4331) a + S1x256.size a ≤ S4096x256.size a := fun v4331 k0_hw257 => k0_hw257

def k0_off553 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1583 : BitVec 32 := 1024#32
  let v4338 : BitVec 32 := Scalar.muli v14 c1024_i32_1583
  let c249_i32 : BitVec 32 := 249#32
  let v4339 : BitVec 32 := Scalar.addi v4338 c249_i32
  let v4340 : Index := Scalar.indexCast v4339
  ![v4340.toNat]
def k0_off554 (v4341 : BitVec 32) : Fin 2 → Nat :=
  let c4095_i32_1584 : BitVec 32 := 4095#32
  let v4342 : BitVec 32 := Scalar.andi v4341 c4095_i32_1584
  let v4343 : Index := Scalar.indexCast v4342
  let c0_1585 : Index := 0#32
  ![v4343.toNat, 0]

def k0_chk258 (v4341 : BitVec 32) : Prop :=
  (∀ a, (k0_off554 v4341) a + S1x256.size a ≤ S4096x256.size a)
theorem k0_off554_inb : ∀ (v4341 : BitVec 32) (k0_hw258 : k0_chk258 v4341), ∀ a, (k0_off554 v4341) a + S1x256.size a ≤ S4096x256.size a := fun v4341 k0_hw258 => k0_hw258

def k0_off555 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1587 : BitVec 32 := 1024#32
  let v4348 : BitVec 32 := Scalar.muli v14 c1024_i32_1587
  let c250_i32 : BitVec 32 := 250#32
  let v4349 : BitVec 32 := Scalar.addi v4348 c250_i32
  let v4350 : Index := Scalar.indexCast v4349
  ![v4350.toNat]
def k0_off556 (v4351 : BitVec 32) : Fin 2 → Nat :=
  let c4095_i32_1588 : BitVec 32 := 4095#32
  let v4352 : BitVec 32 := Scalar.andi v4351 c4095_i32_1588
  let v4353 : Index := Scalar.indexCast v4352
  let c0_1589 : Index := 0#32
  ![v4353.toNat, 0]

def k0_chk259 (v4351 : BitVec 32) : Prop :=
  (∀ a, (k0_off556 v4351) a + S1x256.size a ≤ S4096x256.size a)
theorem k0_off556_inb : ∀ (v4351 : BitVec 32) (k0_hw259 : k0_chk259 v4351), ∀ a, (k0_off556 v4351) a + S1x256.size a ≤ S4096x256.size a := fun v4351 k0_hw259 => k0_hw259

def k0_off557 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1591 : BitVec 32 := 1024#32
  let v4358 : BitVec 32 := Scalar.muli v14 c1024_i32_1591
  let c251_i32 : BitVec 32 := 251#32
  let v4359 : BitVec 32 := Scalar.addi v4358 c251_i32
  let v4360 : Index := Scalar.indexCast v4359
  ![v4360.toNat]
def k0_off558 (v4361 : BitVec 32) : Fin 2 → Nat :=
  let c4095_i32_1592 : BitVec 32 := 4095#32
  let v4362 : BitVec 32 := Scalar.andi v4361 c4095_i32_1592
  let v4363 : Index := Scalar.indexCast v4362
  let c0_1593 : Index := 0#32
  ![v4363.toNat, 0]

def k0_chk260 (v4361 : BitVec 32) : Prop :=
  (∀ a, (k0_off558 v4361) a + S1x256.size a ≤ S4096x256.size a)
theorem k0_off558_inb : ∀ (v4361 : BitVec 32) (k0_hw260 : k0_chk260 v4361), ∀ a, (k0_off558 v4361) a + S1x256.size a ≤ S4096x256.size a := fun v4361 k0_hw260 => k0_hw260

def k0_off559 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1595 : BitVec 32 := 1024#32
  let v4368 : BitVec 32 := Scalar.muli v14 c1024_i32_1595
  let c252_i32 : BitVec 32 := 252#32
  let v4369 : BitVec 32 := Scalar.addi v4368 c252_i32
  let v4370 : Index := Scalar.indexCast v4369
  ![v4370.toNat]
def k0_off560 (v4371 : BitVec 32) : Fin 2 → Nat :=
  let c4095_i32_1596 : BitVec 32 := 4095#32
  let v4372 : BitVec 32 := Scalar.andi v4371 c4095_i32_1596
  let v4373 : Index := Scalar.indexCast v4372
  let c0_1597 : Index := 0#32
  ![v4373.toNat, 0]

def k0_chk261 (v4371 : BitVec 32) : Prop :=
  (∀ a, (k0_off560 v4371) a + S1x256.size a ≤ S4096x256.size a)
theorem k0_off560_inb : ∀ (v4371 : BitVec 32) (k0_hw261 : k0_chk261 v4371), ∀ a, (k0_off560 v4371) a + S1x256.size a ≤ S4096x256.size a := fun v4371 k0_hw261 => k0_hw261

def k0_off561 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1599 : BitVec 32 := 1024#32
  let v4378 : BitVec 32 := Scalar.muli v14 c1024_i32_1599
  let c253_i32 : BitVec 32 := 253#32
  let v4379 : BitVec 32 := Scalar.addi v4378 c253_i32
  let v4380 : Index := Scalar.indexCast v4379
  ![v4380.toNat]
def k0_off562 (v4381 : BitVec 32) : Fin 2 → Nat :=
  let c4095_i32_1600 : BitVec 32 := 4095#32
  let v4382 : BitVec 32 := Scalar.andi v4381 c4095_i32_1600
  let v4383 : Index := Scalar.indexCast v4382
  let c0_1601 : Index := 0#32
  ![v4383.toNat, 0]

def k0_chk262 (v4381 : BitVec 32) : Prop :=
  (∀ a, (k0_off562 v4381) a + S1x256.size a ≤ S4096x256.size a)
theorem k0_off562_inb : ∀ (v4381 : BitVec 32) (k0_hw262 : k0_chk262 v4381), ∀ a, (k0_off562 v4381) a + S1x256.size a ≤ S4096x256.size a := fun v4381 k0_hw262 => k0_hw262

def k0_off563 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1603 : BitVec 32 := 1024#32
  let v4388 : BitVec 32 := Scalar.muli v14 c1024_i32_1603
  let c254_i32 : BitVec 32 := 254#32
  let v4389 : BitVec 32 := Scalar.addi v4388 c254_i32
  let v4390 : Index := Scalar.indexCast v4389
  ![v4390.toNat]
def k0_off564 (v4391 : BitVec 32) : Fin 2 → Nat :=
  let c4095_i32_1604 : BitVec 32 := 4095#32
  let v4392 : BitVec 32 := Scalar.andi v4391 c4095_i32_1604
  let v4393 : Index := Scalar.indexCast v4392
  let c0_1605 : Index := 0#32
  ![v4393.toNat, 0]

def k0_chk263 (v4391 : BitVec 32) : Prop :=
  (∀ a, (k0_off564 v4391) a + S1x256.size a ≤ S4096x256.size a)
theorem k0_off564_inb : ∀ (v4391 : BitVec 32) (k0_hw263 : k0_chk263 v4391), ∀ a, (k0_off564 v4391) a + S1x256.size a ≤ S4096x256.size a := fun v4391 k0_hw263 => k0_hw263

def k0_off565 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1607 : BitVec 32 := 1024#32
  let v4398 : BitVec 32 := Scalar.muli v14 c1024_i32_1607
  let c255_i32 : BitVec 32 := 255#32
  let v4399 : BitVec 32 := Scalar.addi v4398 c255_i32
  let v4400 : Index := Scalar.indexCast v4399
  ![v4400.toNat]
def k0_off566 (v4401 : BitVec 32) : Fin 2 → Nat :=
  let c4095_i32_1608 : BitVec 32 := 4095#32
  let v4402 : BitVec 32 := Scalar.andi v4401 c4095_i32_1608
  let v4403 : Index := Scalar.indexCast v4402
  let c0_1609 : Index := 0#32
  ![v4403.toNat, 0]

def k0_chk264 (v4401 : BitVec 32) : Prop :=
  (∀ a, (k0_off566 v4401) a + S1x256.size a ≤ S4096x256.size a)
theorem k0_off566_inb : ∀ (v4401 : BitVec 32) (k0_hw264 : k0_chk264 v4401), ∀ a, (k0_off566 v4401) a + S1x256.size a ≤ S4096x256.size a := fun v4401 k0_hw264 => k0_hw264

def k0_off567 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1611 : BitVec 32 := 1024#32
  let v4408 : BitVec 32 := Scalar.muli v14 c1024_i32_1611
  let c256_i32 : BitVec 32 := 256#32
  let v4409 : BitVec 32 := Scalar.addi v4408 c256_i32
  let v4410 : Index := Scalar.indexCast v4409
  ![v4410.toNat]
def k0_off568 (v4411 : BitVec 32) : Fin 2 → Nat :=
  let c4095_i32_1612 : BitVec 32 := 4095#32
  let v4412 : BitVec 32 := Scalar.andi v4411 c4095_i32_1612
  let v4413 : Index := Scalar.indexCast v4412
  let c0_1613 : Index := 0#32
  ![v4413.toNat, 0]

def k0_chk265 (v4411 : BitVec 32) : Prop :=
  (∀ a, (k0_off568 v4411) a + S1x256.size a ≤ S4096x256.size a)
theorem k0_off568_inb : ∀ (v4411 : BitVec 32) (k0_hw265 : k0_chk265 v4411), ∀ a, (k0_off568 v4411) a + S1x256.size a ≤ S4096x256.size a := fun v4411 k0_hw265 => k0_hw265

def k0_off569 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1616 : BitVec 32 := 1024#32
  let v4418 : BitVec 32 := Scalar.muli v14 c1024_i32_1616
  let c257_i32 : BitVec 32 := 257#32
  let v4419 : BitVec 32 := Scalar.addi v4418 c257_i32
  let v4420 : Index := Scalar.indexCast v4419
  ![v4420.toNat]
def k0_off570 (v4421 : BitVec 32) : Fin 2 → Nat :=
  let c4095_i32_1617 : BitVec 32 := 4095#32
  let v4422 : BitVec 32 := Scalar.andi v4421 c4095_i32_1617
  let v4423 : Index := Scalar.indexCast v4422
  let c0_1618 : Index := 0#32
  ![v4423.toNat, 0]

def k0_chk266 (v4421 : BitVec 32) : Prop :=
  (∀ a, (k0_off570 v4421) a + S1x256.size a ≤ S4096x256.size a)
theorem k0_off570_inb : ∀ (v4421 : BitVec 32) (k0_hw266 : k0_chk266 v4421), ∀ a, (k0_off570 v4421) a + S1x256.size a ≤ S4096x256.size a := fun v4421 k0_hw266 => k0_hw266

def k0_off571 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1620 : BitVec 32 := 1024#32
  let v4428 : BitVec 32 := Scalar.muli v14 c1024_i32_1620
  let c258_i32 : BitVec 32 := 258#32
  let v4429 : BitVec 32 := Scalar.addi v4428 c258_i32
  let v4430 : Index := Scalar.indexCast v4429
  ![v4430.toNat]
def k0_off572 (v4431 : BitVec 32) : Fin 2 → Nat :=
  let c4095_i32_1621 : BitVec 32 := 4095#32
  let v4432 : BitVec 32 := Scalar.andi v4431 c4095_i32_1621
  let v4433 : Index := Scalar.indexCast v4432
  let c0_1622 : Index := 0#32
  ![v4433.toNat, 0]

def k0_chk267 (v4431 : BitVec 32) : Prop :=
  (∀ a, (k0_off572 v4431) a + S1x256.size a ≤ S4096x256.size a)
theorem k0_off572_inb : ∀ (v4431 : BitVec 32) (k0_hw267 : k0_chk267 v4431), ∀ a, (k0_off572 v4431) a + S1x256.size a ≤ S4096x256.size a := fun v4431 k0_hw267 => k0_hw267

def k0_off573 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1624 : BitVec 32 := 1024#32
  let v4438 : BitVec 32 := Scalar.muli v14 c1024_i32_1624
  let c259_i32 : BitVec 32 := 259#32
  let v4439 : BitVec 32 := Scalar.addi v4438 c259_i32
  let v4440 : Index := Scalar.indexCast v4439
  ![v4440.toNat]
def k0_off574 (v4441 : BitVec 32) : Fin 2 → Nat :=
  let c4095_i32_1625 : BitVec 32 := 4095#32
  let v4442 : BitVec 32 := Scalar.andi v4441 c4095_i32_1625
  let v4443 : Index := Scalar.indexCast v4442
  let c0_1626 : Index := 0#32
  ![v4443.toNat, 0]

def k0_chk268 (v4441 : BitVec 32) : Prop :=
  (∀ a, (k0_off574 v4441) a + S1x256.size a ≤ S4096x256.size a)
theorem k0_off574_inb : ∀ (v4441 : BitVec 32) (k0_hw268 : k0_chk268 v4441), ∀ a, (k0_off574 v4441) a + S1x256.size a ≤ S4096x256.size a := fun v4441 k0_hw268 => k0_hw268

def k0_off575 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1628 : BitVec 32 := 1024#32
  let v4448 : BitVec 32 := Scalar.muli v14 c1024_i32_1628
  let c260_i32 : BitVec 32 := 260#32
  let v4449 : BitVec 32 := Scalar.addi v4448 c260_i32
  let v4450 : Index := Scalar.indexCast v4449
  ![v4450.toNat]
def k0_off576 (v4451 : BitVec 32) : Fin 2 → Nat :=
  let c4095_i32_1629 : BitVec 32 := 4095#32
  let v4452 : BitVec 32 := Scalar.andi v4451 c4095_i32_1629
  let v4453 : Index := Scalar.indexCast v4452
  let c0_1630 : Index := 0#32
  ![v4453.toNat, 0]

def k0_chk269 (v4451 : BitVec 32) : Prop :=
  (∀ a, (k0_off576 v4451) a + S1x256.size a ≤ S4096x256.size a)
theorem k0_off576_inb : ∀ (v4451 : BitVec 32) (k0_hw269 : k0_chk269 v4451), ∀ a, (k0_off576 v4451) a + S1x256.size a ≤ S4096x256.size a := fun v4451 k0_hw269 => k0_hw269

def k0_off577 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1632 : BitVec 32 := 1024#32
  let v4458 : BitVec 32 := Scalar.muli v14 c1024_i32_1632
  let c261_i32 : BitVec 32 := 261#32
  let v4459 : BitVec 32 := Scalar.addi v4458 c261_i32
  let v4460 : Index := Scalar.indexCast v4459
  ![v4460.toNat]
def k0_off578 (v4461 : BitVec 32) : Fin 2 → Nat :=
  let c4095_i32_1633 : BitVec 32 := 4095#32
  let v4462 : BitVec 32 := Scalar.andi v4461 c4095_i32_1633
  let v4463 : Index := Scalar.indexCast v4462
  let c0_1634 : Index := 0#32
  ![v4463.toNat, 0]

def k0_chk270 (v4461 : BitVec 32) : Prop :=
  (∀ a, (k0_off578 v4461) a + S1x256.size a ≤ S4096x256.size a)
theorem k0_off578_inb : ∀ (v4461 : BitVec 32) (k0_hw270 : k0_chk270 v4461), ∀ a, (k0_off578 v4461) a + S1x256.size a ≤ S4096x256.size a := fun v4461 k0_hw270 => k0_hw270

def k0_off579 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1636 : BitVec 32 := 1024#32
  let v4468 : BitVec 32 := Scalar.muli v14 c1024_i32_1636
  let c262_i32 : BitVec 32 := 262#32
  let v4469 : BitVec 32 := Scalar.addi v4468 c262_i32
  let v4470 : Index := Scalar.indexCast v4469
  ![v4470.toNat]
def k0_off580 (v4471 : BitVec 32) : Fin 2 → Nat :=
  let c4095_i32_1637 : BitVec 32 := 4095#32
  let v4472 : BitVec 32 := Scalar.andi v4471 c4095_i32_1637
  let v4473 : Index := Scalar.indexCast v4472
  let c0_1638 : Index := 0#32
  ![v4473.toNat, 0]

def k0_chk271 (v4471 : BitVec 32) : Prop :=
  (∀ a, (k0_off580 v4471) a + S1x256.size a ≤ S4096x256.size a)
theorem k0_off580_inb : ∀ (v4471 : BitVec 32) (k0_hw271 : k0_chk271 v4471), ∀ a, (k0_off580 v4471) a + S1x256.size a ≤ S4096x256.size a := fun v4471 k0_hw271 => k0_hw271

def k0_off581 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1640 : BitVec 32 := 1024#32
  let v4478 : BitVec 32 := Scalar.muli v14 c1024_i32_1640
  let c263_i32 : BitVec 32 := 263#32
  let v4479 : BitVec 32 := Scalar.addi v4478 c263_i32
  let v4480 : Index := Scalar.indexCast v4479
  ![v4480.toNat]
def k0_off582 (v4481 : BitVec 32) : Fin 2 → Nat :=
  let c4095_i32_1641 : BitVec 32 := 4095#32
  let v4482 : BitVec 32 := Scalar.andi v4481 c4095_i32_1641
  let v4483 : Index := Scalar.indexCast v4482
  let c0_1642 : Index := 0#32
  ![v4483.toNat, 0]

def k0_chk272 (v4481 : BitVec 32) : Prop :=
  (∀ a, (k0_off582 v4481) a + S1x256.size a ≤ S4096x256.size a)
theorem k0_off582_inb : ∀ (v4481 : BitVec 32) (k0_hw272 : k0_chk272 v4481), ∀ a, (k0_off582 v4481) a + S1x256.size a ≤ S4096x256.size a := fun v4481 k0_hw272 => k0_hw272

def k0_off583 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1644 : BitVec 32 := 1024#32
  let v4488 : BitVec 32 := Scalar.muli v14 c1024_i32_1644
  let c264_i32 : BitVec 32 := 264#32
  let v4489 : BitVec 32 := Scalar.addi v4488 c264_i32
  let v4490 : Index := Scalar.indexCast v4489
  ![v4490.toNat]
def k0_off584 (v4491 : BitVec 32) : Fin 2 → Nat :=
  let c4095_i32_1645 : BitVec 32 := 4095#32
  let v4492 : BitVec 32 := Scalar.andi v4491 c4095_i32_1645
  let v4493 : Index := Scalar.indexCast v4492
  let c0_1646 : Index := 0#32
  ![v4493.toNat, 0]

def k0_chk273 (v4491 : BitVec 32) : Prop :=
  (∀ a, (k0_off584 v4491) a + S1x256.size a ≤ S4096x256.size a)
theorem k0_off584_inb : ∀ (v4491 : BitVec 32) (k0_hw273 : k0_chk273 v4491), ∀ a, (k0_off584 v4491) a + S1x256.size a ≤ S4096x256.size a := fun v4491 k0_hw273 => k0_hw273

def k0_off585 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1648 : BitVec 32 := 1024#32
  let v4498 : BitVec 32 := Scalar.muli v14 c1024_i32_1648
  let c265_i32 : BitVec 32 := 265#32
  let v4499 : BitVec 32 := Scalar.addi v4498 c265_i32
  let v4500 : Index := Scalar.indexCast v4499
  ![v4500.toNat]
def k0_off586 (v4501 : BitVec 32) : Fin 2 → Nat :=
  let c4095_i32_1649 : BitVec 32 := 4095#32
  let v4502 : BitVec 32 := Scalar.andi v4501 c4095_i32_1649
  let v4503 : Index := Scalar.indexCast v4502
  let c0_1650 : Index := 0#32
  ![v4503.toNat, 0]

def k0_chk274 (v4501 : BitVec 32) : Prop :=
  (∀ a, (k0_off586 v4501) a + S1x256.size a ≤ S4096x256.size a)
theorem k0_off586_inb : ∀ (v4501 : BitVec 32) (k0_hw274 : k0_chk274 v4501), ∀ a, (k0_off586 v4501) a + S1x256.size a ≤ S4096x256.size a := fun v4501 k0_hw274 => k0_hw274

def k0_off587 (i : grid0.Coords) : Fin 2 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c8_i32_1655 : BitVec 32 := 8#32
  let v4511 : BitVec 32 := Scalar.muli v14 c8_i32_1655
  let c1_i32_1656 : BitVec 32 := 1#32
  let v4512 : BitVec 32 := Scalar.addi v4511 c1_i32_1656
  let v4513 : Index := Scalar.indexCast v4512
  let c0_1657 : Index := 0#32
  ![v4513.toNat, 0]
def k0_off588 (i : grid0.Coords) : Fin 3 → Nat :=
  let c1_i32_1652 : BitVec 32 := 1#32
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v4508 : BitVec 32 := Scalar.subi c1_i32_1652 v12
  let v4556 : Index := Scalar.indexCast v4508
  let c0_1668 : Index := 0#32
  let c128_1669 : Index := 128#32
  ![v4556.toNat, 0, 128]
def k0_off589 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v4617 : Index := Scalar.indexCast v12
  let c0_1685 : Index := 0#32
  let c0_1686 : Index := 0#32
  ![v4617.toNat, 0, 0]
def k0_off590 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v4678 : Index := Scalar.indexCast v12
  let c0_1704 : Index := 0#32
  let c256_1705 : Index := 256#32
  ![v4678.toNat, 0, 256]
def k0_off591 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v4740 : Index := Scalar.indexCast v12
  let c0_1723 : Index := 0#32
  let c512_1724 : Index := 512#32
  ![v4740.toNat, 0, 512]
def k0_off592 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v4802 : Index := Scalar.indexCast v12
  let c0_1742 : Index := 0#32
  let c768_1743 : Index := 768#32
  ![v4802.toNat, 0, 768]
def k0_off593 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1749 : BitVec 32 := 1024#32
  let v4812 : BitVec 32 := Scalar.muli v14 c1024_i32_1749
  let c266_i32 : BitVec 32 := 266#32
  let v4813 : BitVec 32 := Scalar.addi v4812 c266_i32
  let v4814 : Index := Scalar.indexCast v4813
  ![v4814.toNat]
def k0_off594 (v4815 : BitVec 32) : Fin 2 → Nat :=
  let c4095_i32_1750 : BitVec 32 := 4095#32
  let v4816 : BitVec 32 := Scalar.andi v4815 c4095_i32_1750
  let v4817 : Index := Scalar.indexCast v4816
  let c0_1751 : Index := 0#32
  ![v4817.toNat, 0]

def k0_chk275 (v4815 : BitVec 32) : Prop :=
  (∀ a, (k0_off594 v4815) a + S1x256.size a ≤ S4096x256.size a)
theorem k0_off594_inb : ∀ (v4815 : BitVec 32) (k0_hw275 : k0_chk275 v4815), ∀ a, (k0_off594 v4815) a + S1x256.size a ≤ S4096x256.size a := fun v4815 k0_hw275 => k0_hw275

def k0_off595 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1753 : BitVec 32 := 1024#32
  let v4822 : BitVec 32 := Scalar.muli v14 c1024_i32_1753
  let c267_i32 : BitVec 32 := 267#32
  let v4823 : BitVec 32 := Scalar.addi v4822 c267_i32
  let v4824 : Index := Scalar.indexCast v4823
  ![v4824.toNat]
def k0_off596 (v4825 : BitVec 32) : Fin 2 → Nat :=
  let c4095_i32_1754 : BitVec 32 := 4095#32
  let v4826 : BitVec 32 := Scalar.andi v4825 c4095_i32_1754
  let v4827 : Index := Scalar.indexCast v4826
  let c0_1755 : Index := 0#32
  ![v4827.toNat, 0]

def k0_chk276 (v4825 : BitVec 32) : Prop :=
  (∀ a, (k0_off596 v4825) a + S1x256.size a ≤ S4096x256.size a)
theorem k0_off596_inb : ∀ (v4825 : BitVec 32) (k0_hw276 : k0_chk276 v4825), ∀ a, (k0_off596 v4825) a + S1x256.size a ≤ S4096x256.size a := fun v4825 k0_hw276 => k0_hw276

def k0_off597 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1757 : BitVec 32 := 1024#32
  let v4832 : BitVec 32 := Scalar.muli v14 c1024_i32_1757
  let c268_i32 : BitVec 32 := 268#32
  let v4833 : BitVec 32 := Scalar.addi v4832 c268_i32
  let v4834 : Index := Scalar.indexCast v4833
  ![v4834.toNat]
def k0_off598 (v4835 : BitVec 32) : Fin 2 → Nat :=
  let c4095_i32_1758 : BitVec 32 := 4095#32
  let v4836 : BitVec 32 := Scalar.andi v4835 c4095_i32_1758
  let v4837 : Index := Scalar.indexCast v4836
  let c0_1759 : Index := 0#32
  ![v4837.toNat, 0]

def k0_chk277 (v4835 : BitVec 32) : Prop :=
  (∀ a, (k0_off598 v4835) a + S1x256.size a ≤ S4096x256.size a)
theorem k0_off598_inb : ∀ (v4835 : BitVec 32) (k0_hw277 : k0_chk277 v4835), ∀ a, (k0_off598 v4835) a + S1x256.size a ≤ S4096x256.size a := fun v4835 k0_hw277 => k0_hw277

def k0_off599 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1761 : BitVec 32 := 1024#32
  let v4842 : BitVec 32 := Scalar.muli v14 c1024_i32_1761
  let c269_i32 : BitVec 32 := 269#32
  let v4843 : BitVec 32 := Scalar.addi v4842 c269_i32
  let v4844 : Index := Scalar.indexCast v4843
  ![v4844.toNat]
def k0_off600 (v4845 : BitVec 32) : Fin 2 → Nat :=
  let c4095_i32_1762 : BitVec 32 := 4095#32
  let v4846 : BitVec 32 := Scalar.andi v4845 c4095_i32_1762
  let v4847 : Index := Scalar.indexCast v4846
  let c0_1763 : Index := 0#32
  ![v4847.toNat, 0]

def k0_chk278 (v4845 : BitVec 32) : Prop :=
  (∀ a, (k0_off600 v4845) a + S1x256.size a ≤ S4096x256.size a)
theorem k0_off600_inb : ∀ (v4845 : BitVec 32) (k0_hw278 : k0_chk278 v4845), ∀ a, (k0_off600 v4845) a + S1x256.size a ≤ S4096x256.size a := fun v4845 k0_hw278 => k0_hw278

def k0_off601 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1765 : BitVec 32 := 1024#32
  let v4852 : BitVec 32 := Scalar.muli v14 c1024_i32_1765
  let c270_i32 : BitVec 32 := 270#32
  let v4853 : BitVec 32 := Scalar.addi v4852 c270_i32
  let v4854 : Index := Scalar.indexCast v4853
  ![v4854.toNat]
def k0_off602 (v4855 : BitVec 32) : Fin 2 → Nat :=
  let c4095_i32_1766 : BitVec 32 := 4095#32
  let v4856 : BitVec 32 := Scalar.andi v4855 c4095_i32_1766
  let v4857 : Index := Scalar.indexCast v4856
  let c0_1767 : Index := 0#32
  ![v4857.toNat, 0]

def k0_chk279 (v4855 : BitVec 32) : Prop :=
  (∀ a, (k0_off602 v4855) a + S1x256.size a ≤ S4096x256.size a)
theorem k0_off602_inb : ∀ (v4855 : BitVec 32) (k0_hw279 : k0_chk279 v4855), ∀ a, (k0_off602 v4855) a + S1x256.size a ≤ S4096x256.size a := fun v4855 k0_hw279 => k0_hw279

def k0_off603 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1769 : BitVec 32 := 1024#32
  let v4862 : BitVec 32 := Scalar.muli v14 c1024_i32_1769
  let c271_i32 : BitVec 32 := 271#32
  let v4863 : BitVec 32 := Scalar.addi v4862 c271_i32
  let v4864 : Index := Scalar.indexCast v4863
  ![v4864.toNat]
def k0_off604 (v4865 : BitVec 32) : Fin 2 → Nat :=
  let c4095_i32_1770 : BitVec 32 := 4095#32
  let v4866 : BitVec 32 := Scalar.andi v4865 c4095_i32_1770
  let v4867 : Index := Scalar.indexCast v4866
  let c0_1771 : Index := 0#32
  ![v4867.toNat, 0]

def k0_chk280 (v4865 : BitVec 32) : Prop :=
  (∀ a, (k0_off604 v4865) a + S1x256.size a ≤ S4096x256.size a)
theorem k0_off604_inb : ∀ (v4865 : BitVec 32) (k0_hw280 : k0_chk280 v4865), ∀ a, (k0_off604 v4865) a + S1x256.size a ≤ S4096x256.size a := fun v4865 k0_hw280 => k0_hw280

def k0_off605 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1773 : BitVec 32 := 1024#32
  let v4872 : BitVec 32 := Scalar.muli v14 c1024_i32_1773
  let c272_i32 : BitVec 32 := 272#32
  let v4873 : BitVec 32 := Scalar.addi v4872 c272_i32
  let v4874 : Index := Scalar.indexCast v4873
  ![v4874.toNat]
def k0_off606 (v4875 : BitVec 32) : Fin 2 → Nat :=
  let c4095_i32_1774 : BitVec 32 := 4095#32
  let v4876 : BitVec 32 := Scalar.andi v4875 c4095_i32_1774
  let v4877 : Index := Scalar.indexCast v4876
  let c0_1775 : Index := 0#32
  ![v4877.toNat, 0]

def k0_chk281 (v4875 : BitVec 32) : Prop :=
  (∀ a, (k0_off606 v4875) a + S1x256.size a ≤ S4096x256.size a)
theorem k0_off606_inb : ∀ (v4875 : BitVec 32) (k0_hw281 : k0_chk281 v4875), ∀ a, (k0_off606 v4875) a + S1x256.size a ≤ S4096x256.size a := fun v4875 k0_hw281 => k0_hw281

def k0_off607 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1777 : BitVec 32 := 1024#32
  let v4882 : BitVec 32 := Scalar.muli v14 c1024_i32_1777
  let c273_i32 : BitVec 32 := 273#32
  let v4883 : BitVec 32 := Scalar.addi v4882 c273_i32
  let v4884 : Index := Scalar.indexCast v4883
  ![v4884.toNat]
def k0_off608 (v4885 : BitVec 32) : Fin 2 → Nat :=
  let c4095_i32_1778 : BitVec 32 := 4095#32
  let v4886 : BitVec 32 := Scalar.andi v4885 c4095_i32_1778
  let v4887 : Index := Scalar.indexCast v4886
  let c0_1779 : Index := 0#32
  ![v4887.toNat, 0]

def k0_chk282 (v4885 : BitVec 32) : Prop :=
  (∀ a, (k0_off608 v4885) a + S1x256.size a ≤ S4096x256.size a)
theorem k0_off608_inb : ∀ (v4885 : BitVec 32) (k0_hw282 : k0_chk282 v4885), ∀ a, (k0_off608 v4885) a + S1x256.size a ≤ S4096x256.size a := fun v4885 k0_hw282 => k0_hw282

def k0_off609 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1781 : BitVec 32 := 1024#32
  let v4892 : BitVec 32 := Scalar.muli v14 c1024_i32_1781
  let c274_i32 : BitVec 32 := 274#32
  let v4893 : BitVec 32 := Scalar.addi v4892 c274_i32
  let v4894 : Index := Scalar.indexCast v4893
  ![v4894.toNat]
def k0_off610 (v4895 : BitVec 32) : Fin 2 → Nat :=
  let c4095_i32_1782 : BitVec 32 := 4095#32
  let v4896 : BitVec 32 := Scalar.andi v4895 c4095_i32_1782
  let v4897 : Index := Scalar.indexCast v4896
  let c0_1783 : Index := 0#32
  ![v4897.toNat, 0]

def k0_chk283 (v4895 : BitVec 32) : Prop :=
  (∀ a, (k0_off610 v4895) a + S1x256.size a ≤ S4096x256.size a)
theorem k0_off610_inb : ∀ (v4895 : BitVec 32) (k0_hw283 : k0_chk283 v4895), ∀ a, (k0_off610 v4895) a + S1x256.size a ≤ S4096x256.size a := fun v4895 k0_hw283 => k0_hw283

def k0_off611 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1785 : BitVec 32 := 1024#32
  let v4902 : BitVec 32 := Scalar.muli v14 c1024_i32_1785
  let c275_i32 : BitVec 32 := 275#32
  let v4903 : BitVec 32 := Scalar.addi v4902 c275_i32
  let v4904 : Index := Scalar.indexCast v4903
  ![v4904.toNat]
def k0_off612 (v4905 : BitVec 32) : Fin 2 → Nat :=
  let c4095_i32_1786 : BitVec 32 := 4095#32
  let v4906 : BitVec 32 := Scalar.andi v4905 c4095_i32_1786
  let v4907 : Index := Scalar.indexCast v4906
  let c0_1787 : Index := 0#32
  ![v4907.toNat, 0]

def k0_chk284 (v4905 : BitVec 32) : Prop :=
  (∀ a, (k0_off612 v4905) a + S1x256.size a ≤ S4096x256.size a)
theorem k0_off612_inb : ∀ (v4905 : BitVec 32) (k0_hw284 : k0_chk284 v4905), ∀ a, (k0_off612 v4905) a + S1x256.size a ≤ S4096x256.size a := fun v4905 k0_hw284 => k0_hw284

def k0_off613 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1789 : BitVec 32 := 1024#32
  let v4912 : BitVec 32 := Scalar.muli v14 c1024_i32_1789
  let c276_i32 : BitVec 32 := 276#32
  let v4913 : BitVec 32 := Scalar.addi v4912 c276_i32
  let v4914 : Index := Scalar.indexCast v4913
  ![v4914.toNat]
def k0_off614 (v4915 : BitVec 32) : Fin 2 → Nat :=
  let c4095_i32_1790 : BitVec 32 := 4095#32
  let v4916 : BitVec 32 := Scalar.andi v4915 c4095_i32_1790
  let v4917 : Index := Scalar.indexCast v4916
  let c0_1791 : Index := 0#32
  ![v4917.toNat, 0]

def k0_chk285 (v4915 : BitVec 32) : Prop :=
  (∀ a, (k0_off614 v4915) a + S1x256.size a ≤ S4096x256.size a)
theorem k0_off614_inb : ∀ (v4915 : BitVec 32) (k0_hw285 : k0_chk285 v4915), ∀ a, (k0_off614 v4915) a + S1x256.size a ≤ S4096x256.size a := fun v4915 k0_hw285 => k0_hw285

def k0_off615 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1793 : BitVec 32 := 1024#32
  let v4922 : BitVec 32 := Scalar.muli v14 c1024_i32_1793
  let c277_i32 : BitVec 32 := 277#32
  let v4923 : BitVec 32 := Scalar.addi v4922 c277_i32
  let v4924 : Index := Scalar.indexCast v4923
  ![v4924.toNat]
def k0_off616 (v4925 : BitVec 32) : Fin 2 → Nat :=
  let c4095_i32_1794 : BitVec 32 := 4095#32
  let v4926 : BitVec 32 := Scalar.andi v4925 c4095_i32_1794
  let v4927 : Index := Scalar.indexCast v4926
  let c0_1795 : Index := 0#32
  ![v4927.toNat, 0]

def k0_chk286 (v4925 : BitVec 32) : Prop :=
  (∀ a, (k0_off616 v4925) a + S1x256.size a ≤ S4096x256.size a)
theorem k0_off616_inb : ∀ (v4925 : BitVec 32) (k0_hw286 : k0_chk286 v4925), ∀ a, (k0_off616 v4925) a + S1x256.size a ≤ S4096x256.size a := fun v4925 k0_hw286 => k0_hw286

def k0_off617 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1797 : BitVec 32 := 1024#32
  let v4932 : BitVec 32 := Scalar.muli v14 c1024_i32_1797
  let c278_i32 : BitVec 32 := 278#32
  let v4933 : BitVec 32 := Scalar.addi v4932 c278_i32
  let v4934 : Index := Scalar.indexCast v4933
  ![v4934.toNat]
def k0_off618 (v4935 : BitVec 32) : Fin 2 → Nat :=
  let c4095_i32_1798 : BitVec 32 := 4095#32
  let v4936 : BitVec 32 := Scalar.andi v4935 c4095_i32_1798
  let v4937 : Index := Scalar.indexCast v4936
  let c0_1799 : Index := 0#32
  ![v4937.toNat, 0]

def k0_chk287 (v4935 : BitVec 32) : Prop :=
  (∀ a, (k0_off618 v4935) a + S1x256.size a ≤ S4096x256.size a)
theorem k0_off618_inb : ∀ (v4935 : BitVec 32) (k0_hw287 : k0_chk287 v4935), ∀ a, (k0_off618 v4935) a + S1x256.size a ≤ S4096x256.size a := fun v4935 k0_hw287 => k0_hw287

def k0_off619 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1801 : BitVec 32 := 1024#32
  let v4942 : BitVec 32 := Scalar.muli v14 c1024_i32_1801
  let c279_i32 : BitVec 32 := 279#32
  let v4943 : BitVec 32 := Scalar.addi v4942 c279_i32
  let v4944 : Index := Scalar.indexCast v4943
  ![v4944.toNat]
def k0_off620 (v4945 : BitVec 32) : Fin 2 → Nat :=
  let c4095_i32_1802 : BitVec 32 := 4095#32
  let v4946 : BitVec 32 := Scalar.andi v4945 c4095_i32_1802
  let v4947 : Index := Scalar.indexCast v4946
  let c0_1803 : Index := 0#32
  ![v4947.toNat, 0]

def k0_chk288 (v4945 : BitVec 32) : Prop :=
  (∀ a, (k0_off620 v4945) a + S1x256.size a ≤ S4096x256.size a)
theorem k0_off620_inb : ∀ (v4945 : BitVec 32) (k0_hw288 : k0_chk288 v4945), ∀ a, (k0_off620 v4945) a + S1x256.size a ≤ S4096x256.size a := fun v4945 k0_hw288 => k0_hw288

def k0_off621 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1805 : BitVec 32 := 1024#32
  let v4952 : BitVec 32 := Scalar.muli v14 c1024_i32_1805
  let c280_i32 : BitVec 32 := 280#32
  let v4953 : BitVec 32 := Scalar.addi v4952 c280_i32
  let v4954 : Index := Scalar.indexCast v4953
  ![v4954.toNat]
def k0_off622 (v4955 : BitVec 32) : Fin 2 → Nat :=
  let c4095_i32_1806 : BitVec 32 := 4095#32
  let v4956 : BitVec 32 := Scalar.andi v4955 c4095_i32_1806
  let v4957 : Index := Scalar.indexCast v4956
  let c0_1807 : Index := 0#32
  ![v4957.toNat, 0]

def k0_chk289 (v4955 : BitVec 32) : Prop :=
  (∀ a, (k0_off622 v4955) a + S1x256.size a ≤ S4096x256.size a)
theorem k0_off622_inb : ∀ (v4955 : BitVec 32) (k0_hw289 : k0_chk289 v4955), ∀ a, (k0_off622 v4955) a + S1x256.size a ≤ S4096x256.size a := fun v4955 k0_hw289 => k0_hw289

def k0_off623 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1809 : BitVec 32 := 1024#32
  let v4962 : BitVec 32 := Scalar.muli v14 c1024_i32_1809
  let c281_i32 : BitVec 32 := 281#32
  let v4963 : BitVec 32 := Scalar.addi v4962 c281_i32
  let v4964 : Index := Scalar.indexCast v4963
  ![v4964.toNat]
def k0_off624 (v4965 : BitVec 32) : Fin 2 → Nat :=
  let c4095_i32_1810 : BitVec 32 := 4095#32
  let v4966 : BitVec 32 := Scalar.andi v4965 c4095_i32_1810
  let v4967 : Index := Scalar.indexCast v4966
  let c0_1811 : Index := 0#32
  ![v4967.toNat, 0]

def k0_chk290 (v4965 : BitVec 32) : Prop :=
  (∀ a, (k0_off624 v4965) a + S1x256.size a ≤ S4096x256.size a)
theorem k0_off624_inb : ∀ (v4965 : BitVec 32) (k0_hw290 : k0_chk290 v4965), ∀ a, (k0_off624 v4965) a + S1x256.size a ≤ S4096x256.size a := fun v4965 k0_hw290 => k0_hw290

def k0_off625 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1813 : BitVec 32 := 1024#32
  let v4972 : BitVec 32 := Scalar.muli v14 c1024_i32_1813
  let c282_i32 : BitVec 32 := 282#32
  let v4973 : BitVec 32 := Scalar.addi v4972 c282_i32
  let v4974 : Index := Scalar.indexCast v4973
  ![v4974.toNat]
def k0_off626 (v4975 : BitVec 32) : Fin 2 → Nat :=
  let c4095_i32_1814 : BitVec 32 := 4095#32
  let v4976 : BitVec 32 := Scalar.andi v4975 c4095_i32_1814
  let v4977 : Index := Scalar.indexCast v4976
  let c0_1815 : Index := 0#32
  ![v4977.toNat, 0]

def k0_chk291 (v4975 : BitVec 32) : Prop :=
  (∀ a, (k0_off626 v4975) a + S1x256.size a ≤ S4096x256.size a)
theorem k0_off626_inb : ∀ (v4975 : BitVec 32) (k0_hw291 : k0_chk291 v4975), ∀ a, (k0_off626 v4975) a + S1x256.size a ≤ S4096x256.size a := fun v4975 k0_hw291 => k0_hw291

def k0_off627 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1817 : BitVec 32 := 1024#32
  let v4982 : BitVec 32 := Scalar.muli v14 c1024_i32_1817
  let c283_i32 : BitVec 32 := 283#32
  let v4983 : BitVec 32 := Scalar.addi v4982 c283_i32
  let v4984 : Index := Scalar.indexCast v4983
  ![v4984.toNat]
def k0_off628 (v4985 : BitVec 32) : Fin 2 → Nat :=
  let c4095_i32_1818 : BitVec 32 := 4095#32
  let v4986 : BitVec 32 := Scalar.andi v4985 c4095_i32_1818
  let v4987 : Index := Scalar.indexCast v4986
  let c0_1819 : Index := 0#32
  ![v4987.toNat, 0]

def k0_chk292 (v4985 : BitVec 32) : Prop :=
  (∀ a, (k0_off628 v4985) a + S1x256.size a ≤ S4096x256.size a)
theorem k0_off628_inb : ∀ (v4985 : BitVec 32) (k0_hw292 : k0_chk292 v4985), ∀ a, (k0_off628 v4985) a + S1x256.size a ≤ S4096x256.size a := fun v4985 k0_hw292 => k0_hw292

def k0_off629 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1821 : BitVec 32 := 1024#32
  let v4992 : BitVec 32 := Scalar.muli v14 c1024_i32_1821
  let c284_i32 : BitVec 32 := 284#32
  let v4993 : BitVec 32 := Scalar.addi v4992 c284_i32
  let v4994 : Index := Scalar.indexCast v4993
  ![v4994.toNat]
def k0_off630 (v4995 : BitVec 32) : Fin 2 → Nat :=
  let c4095_i32_1822 : BitVec 32 := 4095#32
  let v4996 : BitVec 32 := Scalar.andi v4995 c4095_i32_1822
  let v4997 : Index := Scalar.indexCast v4996
  let c0_1823 : Index := 0#32
  ![v4997.toNat, 0]

def k0_chk293 (v4995 : BitVec 32) : Prop :=
  (∀ a, (k0_off630 v4995) a + S1x256.size a ≤ S4096x256.size a)
theorem k0_off630_inb : ∀ (v4995 : BitVec 32) (k0_hw293 : k0_chk293 v4995), ∀ a, (k0_off630 v4995) a + S1x256.size a ≤ S4096x256.size a := fun v4995 k0_hw293 => k0_hw293

def k0_off631 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1825 : BitVec 32 := 1024#32
  let v5002 : BitVec 32 := Scalar.muli v14 c1024_i32_1825
  let c285_i32 : BitVec 32 := 285#32
  let v5003 : BitVec 32 := Scalar.addi v5002 c285_i32
  let v5004 : Index := Scalar.indexCast v5003
  ![v5004.toNat]
def k0_off632 (v5005 : BitVec 32) : Fin 2 → Nat :=
  let c4095_i32_1826 : BitVec 32 := 4095#32
  let v5006 : BitVec 32 := Scalar.andi v5005 c4095_i32_1826
  let v5007 : Index := Scalar.indexCast v5006
  let c0_1827 : Index := 0#32
  ![v5007.toNat, 0]

def k0_chk294 (v5005 : BitVec 32) : Prop :=
  (∀ a, (k0_off632 v5005) a + S1x256.size a ≤ S4096x256.size a)
theorem k0_off632_inb : ∀ (v5005 : BitVec 32) (k0_hw294 : k0_chk294 v5005), ∀ a, (k0_off632 v5005) a + S1x256.size a ≤ S4096x256.size a := fun v5005 k0_hw294 => k0_hw294

def k0_off633 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1829 : BitVec 32 := 1024#32
  let v5012 : BitVec 32 := Scalar.muli v14 c1024_i32_1829
  let c286_i32 : BitVec 32 := 286#32
  let v5013 : BitVec 32 := Scalar.addi v5012 c286_i32
  let v5014 : Index := Scalar.indexCast v5013
  ![v5014.toNat]
def k0_off634 (v5015 : BitVec 32) : Fin 2 → Nat :=
  let c4095_i32_1830 : BitVec 32 := 4095#32
  let v5016 : BitVec 32 := Scalar.andi v5015 c4095_i32_1830
  let v5017 : Index := Scalar.indexCast v5016
  let c0_1831 : Index := 0#32
  ![v5017.toNat, 0]

def k0_chk295 (v5015 : BitVec 32) : Prop :=
  (∀ a, (k0_off634 v5015) a + S1x256.size a ≤ S4096x256.size a)
theorem k0_off634_inb : ∀ (v5015 : BitVec 32) (k0_hw295 : k0_chk295 v5015), ∀ a, (k0_off634 v5015) a + S1x256.size a ≤ S4096x256.size a := fun v5015 k0_hw295 => k0_hw295

def k0_off635 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1833 : BitVec 32 := 1024#32
  let v5022 : BitVec 32 := Scalar.muli v14 c1024_i32_1833
  let c287_i32 : BitVec 32 := 287#32
  let v5023 : BitVec 32 := Scalar.addi v5022 c287_i32
  let v5024 : Index := Scalar.indexCast v5023
  ![v5024.toNat]
def k0_off636 (v5025 : BitVec 32) : Fin 2 → Nat :=
  let c4095_i32_1834 : BitVec 32 := 4095#32
  let v5026 : BitVec 32 := Scalar.andi v5025 c4095_i32_1834
  let v5027 : Index := Scalar.indexCast v5026
  let c0_1835 : Index := 0#32
  ![v5027.toNat, 0]

def k0_chk296 (v5025 : BitVec 32) : Prop :=
  (∀ a, (k0_off636 v5025) a + S1x256.size a ≤ S4096x256.size a)
theorem k0_off636_inb : ∀ (v5025 : BitVec 32) (k0_hw296 : k0_chk296 v5025), ∀ a, (k0_off636 v5025) a + S1x256.size a ≤ S4096x256.size a := fun v5025 k0_hw296 => k0_hw296

def k0_off637 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1837 : BitVec 32 := 1024#32
  let v5032 : BitVec 32 := Scalar.muli v14 c1024_i32_1837
  let c288_i32 : BitVec 32 := 288#32
  let v5033 : BitVec 32 := Scalar.addi v5032 c288_i32
  let v5034 : Index := Scalar.indexCast v5033
  ![v5034.toNat]
def k0_off638 (v5035 : BitVec 32) : Fin 2 → Nat :=
  let c4095_i32_1838 : BitVec 32 := 4095#32
  let v5036 : BitVec 32 := Scalar.andi v5035 c4095_i32_1838
  let v5037 : Index := Scalar.indexCast v5036
  let c0_1839 : Index := 0#32
  ![v5037.toNat, 0]

def k0_chk297 (v5035 : BitVec 32) : Prop :=
  (∀ a, (k0_off638 v5035) a + S1x256.size a ≤ S4096x256.size a)
theorem k0_off638_inb : ∀ (v5035 : BitVec 32) (k0_hw297 : k0_chk297 v5035), ∀ a, (k0_off638 v5035) a + S1x256.size a ≤ S4096x256.size a := fun v5035 k0_hw297 => k0_hw297

def k0_off639 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1841 : BitVec 32 := 1024#32
  let v5042 : BitVec 32 := Scalar.muli v14 c1024_i32_1841
  let c289_i32 : BitVec 32 := 289#32
  let v5043 : BitVec 32 := Scalar.addi v5042 c289_i32
  let v5044 : Index := Scalar.indexCast v5043
  ![v5044.toNat]
def k0_off640 (v5045 : BitVec 32) : Fin 2 → Nat :=
  let c4095_i32_1842 : BitVec 32 := 4095#32
  let v5046 : BitVec 32 := Scalar.andi v5045 c4095_i32_1842
  let v5047 : Index := Scalar.indexCast v5046
  let c0_1843 : Index := 0#32
  ![v5047.toNat, 0]

def k0_chk298 (v5045 : BitVec 32) : Prop :=
  (∀ a, (k0_off640 v5045) a + S1x256.size a ≤ S4096x256.size a)
theorem k0_off640_inb : ∀ (v5045 : BitVec 32) (k0_hw298 : k0_chk298 v5045), ∀ a, (k0_off640 v5045) a + S1x256.size a ≤ S4096x256.size a := fun v5045 k0_hw298 => k0_hw298

def k0_off641 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1845 : BitVec 32 := 1024#32
  let v5052 : BitVec 32 := Scalar.muli v14 c1024_i32_1845
  let c290_i32 : BitVec 32 := 290#32
  let v5053 : BitVec 32 := Scalar.addi v5052 c290_i32
  let v5054 : Index := Scalar.indexCast v5053
  ![v5054.toNat]
def k0_off642 (v5055 : BitVec 32) : Fin 2 → Nat :=
  let c4095_i32_1846 : BitVec 32 := 4095#32
  let v5056 : BitVec 32 := Scalar.andi v5055 c4095_i32_1846
  let v5057 : Index := Scalar.indexCast v5056
  let c0_1847 : Index := 0#32
  ![v5057.toNat, 0]

def k0_chk299 (v5055 : BitVec 32) : Prop :=
  (∀ a, (k0_off642 v5055) a + S1x256.size a ≤ S4096x256.size a)
theorem k0_off642_inb : ∀ (v5055 : BitVec 32) (k0_hw299 : k0_chk299 v5055), ∀ a, (k0_off642 v5055) a + S1x256.size a ≤ S4096x256.size a := fun v5055 k0_hw299 => k0_hw299

def k0_off643 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1849 : BitVec 32 := 1024#32
  let v5062 : BitVec 32 := Scalar.muli v14 c1024_i32_1849
  let c291_i32 : BitVec 32 := 291#32
  let v5063 : BitVec 32 := Scalar.addi v5062 c291_i32
  let v5064 : Index := Scalar.indexCast v5063
  ![v5064.toNat]
def k0_off644 (v5065 : BitVec 32) : Fin 2 → Nat :=
  let c4095_i32_1850 : BitVec 32 := 4095#32
  let v5066 : BitVec 32 := Scalar.andi v5065 c4095_i32_1850
  let v5067 : Index := Scalar.indexCast v5066
  let c0_1851 : Index := 0#32
  ![v5067.toNat, 0]

def k0_chk300 (v5065 : BitVec 32) : Prop :=
  (∀ a, (k0_off644 v5065) a + S1x256.size a ≤ S4096x256.size a)
theorem k0_off644_inb : ∀ (v5065 : BitVec 32) (k0_hw300 : k0_chk300 v5065), ∀ a, (k0_off644 v5065) a + S1x256.size a ≤ S4096x256.size a := fun v5065 k0_hw300 => k0_hw300

def k0_off645 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1853 : BitVec 32 := 1024#32
  let v5072 : BitVec 32 := Scalar.muli v14 c1024_i32_1853
  let c292_i32 : BitVec 32 := 292#32
  let v5073 : BitVec 32 := Scalar.addi v5072 c292_i32
  let v5074 : Index := Scalar.indexCast v5073
  ![v5074.toNat]
def k0_off646 (v5075 : BitVec 32) : Fin 2 → Nat :=
  let c4095_i32_1854 : BitVec 32 := 4095#32
  let v5076 : BitVec 32 := Scalar.andi v5075 c4095_i32_1854
  let v5077 : Index := Scalar.indexCast v5076
  let c0_1855 : Index := 0#32
  ![v5077.toNat, 0]

def k0_chk301 (v5075 : BitVec 32) : Prop :=
  (∀ a, (k0_off646 v5075) a + S1x256.size a ≤ S4096x256.size a)
theorem k0_off646_inb : ∀ (v5075 : BitVec 32) (k0_hw301 : k0_chk301 v5075), ∀ a, (k0_off646 v5075) a + S1x256.size a ≤ S4096x256.size a := fun v5075 k0_hw301 => k0_hw301

def k0_off647 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1857 : BitVec 32 := 1024#32
  let v5082 : BitVec 32 := Scalar.muli v14 c1024_i32_1857
  let c293_i32 : BitVec 32 := 293#32
  let v5083 : BitVec 32 := Scalar.addi v5082 c293_i32
  let v5084 : Index := Scalar.indexCast v5083
  ![v5084.toNat]
def k0_off648 (v5085 : BitVec 32) : Fin 2 → Nat :=
  let c4095_i32_1858 : BitVec 32 := 4095#32
  let v5086 : BitVec 32 := Scalar.andi v5085 c4095_i32_1858
  let v5087 : Index := Scalar.indexCast v5086
  let c0_1859 : Index := 0#32
  ![v5087.toNat, 0]

def k0_chk302 (v5085 : BitVec 32) : Prop :=
  (∀ a, (k0_off648 v5085) a + S1x256.size a ≤ S4096x256.size a)
theorem k0_off648_inb : ∀ (v5085 : BitVec 32) (k0_hw302 : k0_chk302 v5085), ∀ a, (k0_off648 v5085) a + S1x256.size a ≤ S4096x256.size a := fun v5085 k0_hw302 => k0_hw302

def k0_off649 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1861 : BitVec 32 := 1024#32
  let v5092 : BitVec 32 := Scalar.muli v14 c1024_i32_1861
  let c294_i32 : BitVec 32 := 294#32
  let v5093 : BitVec 32 := Scalar.addi v5092 c294_i32
  let v5094 : Index := Scalar.indexCast v5093
  ![v5094.toNat]
def k0_off650 (v5095 : BitVec 32) : Fin 2 → Nat :=
  let c4095_i32_1862 : BitVec 32 := 4095#32
  let v5096 : BitVec 32 := Scalar.andi v5095 c4095_i32_1862
  let v5097 : Index := Scalar.indexCast v5096
  let c0_1863 : Index := 0#32
  ![v5097.toNat, 0]

def k0_chk303 (v5095 : BitVec 32) : Prop :=
  (∀ a, (k0_off650 v5095) a + S1x256.size a ≤ S4096x256.size a)
theorem k0_off650_inb : ∀ (v5095 : BitVec 32) (k0_hw303 : k0_chk303 v5095), ∀ a, (k0_off650 v5095) a + S1x256.size a ≤ S4096x256.size a := fun v5095 k0_hw303 => k0_hw303

def k0_off651 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1865 : BitVec 32 := 1024#32
  let v5102 : BitVec 32 := Scalar.muli v14 c1024_i32_1865
  let c295_i32 : BitVec 32 := 295#32
  let v5103 : BitVec 32 := Scalar.addi v5102 c295_i32
  let v5104 : Index := Scalar.indexCast v5103
  ![v5104.toNat]
def k0_off652 (v5105 : BitVec 32) : Fin 2 → Nat :=
  let c4095_i32_1866 : BitVec 32 := 4095#32
  let v5106 : BitVec 32 := Scalar.andi v5105 c4095_i32_1866
  let v5107 : Index := Scalar.indexCast v5106
  let c0_1867 : Index := 0#32
  ![v5107.toNat, 0]

def k0_chk304 (v5105 : BitVec 32) : Prop :=
  (∀ a, (k0_off652 v5105) a + S1x256.size a ≤ S4096x256.size a)
theorem k0_off652_inb : ∀ (v5105 : BitVec 32) (k0_hw304 : k0_chk304 v5105), ∀ a, (k0_off652 v5105) a + S1x256.size a ≤ S4096x256.size a := fun v5105 k0_hw304 => k0_hw304

def k0_off653 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1869 : BitVec 32 := 1024#32
  let v5112 : BitVec 32 := Scalar.muli v14 c1024_i32_1869
  let c296_i32 : BitVec 32 := 296#32
  let v5113 : BitVec 32 := Scalar.addi v5112 c296_i32
  let v5114 : Index := Scalar.indexCast v5113
  ![v5114.toNat]
def k0_off654 (v5115 : BitVec 32) : Fin 2 → Nat :=
  let c4095_i32_1870 : BitVec 32 := 4095#32
  let v5116 : BitVec 32 := Scalar.andi v5115 c4095_i32_1870
  let v5117 : Index := Scalar.indexCast v5116
  let c0_1871 : Index := 0#32
  ![v5117.toNat, 0]

def k0_chk305 (v5115 : BitVec 32) : Prop :=
  (∀ a, (k0_off654 v5115) a + S1x256.size a ≤ S4096x256.size a)
theorem k0_off654_inb : ∀ (v5115 : BitVec 32) (k0_hw305 : k0_chk305 v5115), ∀ a, (k0_off654 v5115) a + S1x256.size a ≤ S4096x256.size a := fun v5115 k0_hw305 => k0_hw305

def k0_off655 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1873 : BitVec 32 := 1024#32
  let v5122 : BitVec 32 := Scalar.muli v14 c1024_i32_1873
  let c297_i32 : BitVec 32 := 297#32
  let v5123 : BitVec 32 := Scalar.addi v5122 c297_i32
  let v5124 : Index := Scalar.indexCast v5123
  ![v5124.toNat]
def k0_off656 (v5125 : BitVec 32) : Fin 2 → Nat :=
  let c4095_i32_1874 : BitVec 32 := 4095#32
  let v5126 : BitVec 32 := Scalar.andi v5125 c4095_i32_1874
  let v5127 : Index := Scalar.indexCast v5126
  let c0_1875 : Index := 0#32
  ![v5127.toNat, 0]

def k0_chk306 (v5125 : BitVec 32) : Prop :=
  (∀ a, (k0_off656 v5125) a + S1x256.size a ≤ S4096x256.size a)
theorem k0_off656_inb : ∀ (v5125 : BitVec 32) (k0_hw306 : k0_chk306 v5125), ∀ a, (k0_off656 v5125) a + S1x256.size a ≤ S4096x256.size a := fun v5125 k0_hw306 => k0_hw306

def k0_off657 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1877 : BitVec 32 := 1024#32
  let v5132 : BitVec 32 := Scalar.muli v14 c1024_i32_1877
  let c298_i32 : BitVec 32 := 298#32
  let v5133 : BitVec 32 := Scalar.addi v5132 c298_i32
  let v5134 : Index := Scalar.indexCast v5133
  ![v5134.toNat]
def k0_off658 (v5135 : BitVec 32) : Fin 2 → Nat :=
  let c4095_i32_1878 : BitVec 32 := 4095#32
  let v5136 : BitVec 32 := Scalar.andi v5135 c4095_i32_1878
  let v5137 : Index := Scalar.indexCast v5136
  let c0_1879 : Index := 0#32
  ![v5137.toNat, 0]

def k0_chk307 (v5135 : BitVec 32) : Prop :=
  (∀ a, (k0_off658 v5135) a + S1x256.size a ≤ S4096x256.size a)
theorem k0_off658_inb : ∀ (v5135 : BitVec 32) (k0_hw307 : k0_chk307 v5135), ∀ a, (k0_off658 v5135) a + S1x256.size a ≤ S4096x256.size a := fun v5135 k0_hw307 => k0_hw307

def k0_off659 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1881 : BitVec 32 := 1024#32
  let v5142 : BitVec 32 := Scalar.muli v14 c1024_i32_1881
  let c299_i32 : BitVec 32 := 299#32
  let v5143 : BitVec 32 := Scalar.addi v5142 c299_i32
  let v5144 : Index := Scalar.indexCast v5143
  ![v5144.toNat]
def k0_off660 (v5145 : BitVec 32) : Fin 2 → Nat :=
  let c4095_i32_1882 : BitVec 32 := 4095#32
  let v5146 : BitVec 32 := Scalar.andi v5145 c4095_i32_1882
  let v5147 : Index := Scalar.indexCast v5146
  let c0_1883 : Index := 0#32
  ![v5147.toNat, 0]

def k0_chk308 (v5145 : BitVec 32) : Prop :=
  (∀ a, (k0_off660 v5145) a + S1x256.size a ≤ S4096x256.size a)
theorem k0_off660_inb : ∀ (v5145 : BitVec 32) (k0_hw308 : k0_chk308 v5145), ∀ a, (k0_off660 v5145) a + S1x256.size a ≤ S4096x256.size a := fun v5145 k0_hw308 => k0_hw308

def k0_off661 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1885 : BitVec 32 := 1024#32
  let v5152 : BitVec 32 := Scalar.muli v14 c1024_i32_1885
  let c300_i32 : BitVec 32 := 300#32
  let v5153 : BitVec 32 := Scalar.addi v5152 c300_i32
  let v5154 : Index := Scalar.indexCast v5153
  ![v5154.toNat]
def k0_off662 (v5155 : BitVec 32) : Fin 2 → Nat :=
  let c4095_i32_1886 : BitVec 32 := 4095#32
  let v5156 : BitVec 32 := Scalar.andi v5155 c4095_i32_1886
  let v5157 : Index := Scalar.indexCast v5156
  let c0_1887 : Index := 0#32
  ![v5157.toNat, 0]

def k0_chk309 (v5155 : BitVec 32) : Prop :=
  (∀ a, (k0_off662 v5155) a + S1x256.size a ≤ S4096x256.size a)
theorem k0_off662_inb : ∀ (v5155 : BitVec 32) (k0_hw309 : k0_chk309 v5155), ∀ a, (k0_off662 v5155) a + S1x256.size a ≤ S4096x256.size a := fun v5155 k0_hw309 => k0_hw309

def k0_off663 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1889 : BitVec 32 := 1024#32
  let v5162 : BitVec 32 := Scalar.muli v14 c1024_i32_1889
  let c301_i32 : BitVec 32 := 301#32
  let v5163 : BitVec 32 := Scalar.addi v5162 c301_i32
  let v5164 : Index := Scalar.indexCast v5163
  ![v5164.toNat]
def k0_off664 (v5165 : BitVec 32) : Fin 2 → Nat :=
  let c4095_i32_1890 : BitVec 32 := 4095#32
  let v5166 : BitVec 32 := Scalar.andi v5165 c4095_i32_1890
  let v5167 : Index := Scalar.indexCast v5166
  let c0_1891 : Index := 0#32
  ![v5167.toNat, 0]

def k0_chk310 (v5165 : BitVec 32) : Prop :=
  (∀ a, (k0_off664 v5165) a + S1x256.size a ≤ S4096x256.size a)
theorem k0_off664_inb : ∀ (v5165 : BitVec 32) (k0_hw310 : k0_chk310 v5165), ∀ a, (k0_off664 v5165) a + S1x256.size a ≤ S4096x256.size a := fun v5165 k0_hw310 => k0_hw310

def k0_off665 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1893 : BitVec 32 := 1024#32
  let v5172 : BitVec 32 := Scalar.muli v14 c1024_i32_1893
  let c302_i32 : BitVec 32 := 302#32
  let v5173 : BitVec 32 := Scalar.addi v5172 c302_i32
  let v5174 : Index := Scalar.indexCast v5173
  ![v5174.toNat]
def k0_off666 (v5175 : BitVec 32) : Fin 2 → Nat :=
  let c4095_i32_1894 : BitVec 32 := 4095#32
  let v5176 : BitVec 32 := Scalar.andi v5175 c4095_i32_1894
  let v5177 : Index := Scalar.indexCast v5176
  let c0_1895 : Index := 0#32
  ![v5177.toNat, 0]

def k0_chk311 (v5175 : BitVec 32) : Prop :=
  (∀ a, (k0_off666 v5175) a + S1x256.size a ≤ S4096x256.size a)
theorem k0_off666_inb : ∀ (v5175 : BitVec 32) (k0_hw311 : k0_chk311 v5175), ∀ a, (k0_off666 v5175) a + S1x256.size a ≤ S4096x256.size a := fun v5175 k0_hw311 => k0_hw311

def k0_off667 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1897 : BitVec 32 := 1024#32
  let v5182 : BitVec 32 := Scalar.muli v14 c1024_i32_1897
  let c303_i32 : BitVec 32 := 303#32
  let v5183 : BitVec 32 := Scalar.addi v5182 c303_i32
  let v5184 : Index := Scalar.indexCast v5183
  ![v5184.toNat]
def k0_off668 (v5185 : BitVec 32) : Fin 2 → Nat :=
  let c4095_i32_1898 : BitVec 32 := 4095#32
  let v5186 : BitVec 32 := Scalar.andi v5185 c4095_i32_1898
  let v5187 : Index := Scalar.indexCast v5186
  let c0_1899 : Index := 0#32
  ![v5187.toNat, 0]

def k0_chk312 (v5185 : BitVec 32) : Prop :=
  (∀ a, (k0_off668 v5185) a + S1x256.size a ≤ S4096x256.size a)
theorem k0_off668_inb : ∀ (v5185 : BitVec 32) (k0_hw312 : k0_chk312 v5185), ∀ a, (k0_off668 v5185) a + S1x256.size a ≤ S4096x256.size a := fun v5185 k0_hw312 => k0_hw312

def k0_off669 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v5249 : Index := Scalar.indexCast v12
  let c0_1916 : Index := 0#32
  let c0_1917 : Index := 0#32
  ![v5249.toNat, 0, 0]
def k0_off670 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v5310 : Index := Scalar.indexCast v12
  let c0_1935 : Index := 0#32
  let c256_1936 : Index := 256#32
  ![v5310.toNat, 0, 256]
def k0_off671 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v5372 : Index := Scalar.indexCast v12
  let c0_1954 : Index := 0#32
  let c512_1955 : Index := 512#32
  ![v5372.toNat, 0, 512]
def k0_off672 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v5434 : Index := Scalar.indexCast v12
  let c0_1973 : Index := 0#32
  let c768_1974 : Index := 768#32
  ![v5434.toNat, 0, 768]
def k0_off673 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1980 : BitVec 32 := 1024#32
  let v5444 : BitVec 32 := Scalar.muli v14 c1024_i32_1980
  let c304_i32 : BitVec 32 := 304#32
  let v5445 : BitVec 32 := Scalar.addi v5444 c304_i32
  let v5446 : Index := Scalar.indexCast v5445
  ![v5446.toNat]
def k0_off674 (v5447 : BitVec 32) : Fin 2 → Nat :=
  let c4095_i32_1981 : BitVec 32 := 4095#32
  let v5448 : BitVec 32 := Scalar.andi v5447 c4095_i32_1981
  let v5449 : Index := Scalar.indexCast v5448
  let c0_1982 : Index := 0#32
  ![v5449.toNat, 0]

def k0_chk313 (v5447 : BitVec 32) : Prop :=
  (∀ a, (k0_off674 v5447) a + S1x256.size a ≤ S4096x256.size a)
theorem k0_off674_inb : ∀ (v5447 : BitVec 32) (k0_hw313 : k0_chk313 v5447), ∀ a, (k0_off674 v5447) a + S1x256.size a ≤ S4096x256.size a := fun v5447 k0_hw313 => k0_hw313

def k0_off675 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1984 : BitVec 32 := 1024#32
  let v5454 : BitVec 32 := Scalar.muli v14 c1024_i32_1984
  let c305_i32 : BitVec 32 := 305#32
  let v5455 : BitVec 32 := Scalar.addi v5454 c305_i32
  let v5456 : Index := Scalar.indexCast v5455
  ![v5456.toNat]
def k0_off676 (v5457 : BitVec 32) : Fin 2 → Nat :=
  let c4095_i32_1985 : BitVec 32 := 4095#32
  let v5458 : BitVec 32 := Scalar.andi v5457 c4095_i32_1985
  let v5459 : Index := Scalar.indexCast v5458
  let c0_1986 : Index := 0#32
  ![v5459.toNat, 0]

def k0_chk314 (v5457 : BitVec 32) : Prop :=
  (∀ a, (k0_off676 v5457) a + S1x256.size a ≤ S4096x256.size a)
theorem k0_off676_inb : ∀ (v5457 : BitVec 32) (k0_hw314 : k0_chk314 v5457), ∀ a, (k0_off676 v5457) a + S1x256.size a ≤ S4096x256.size a := fun v5457 k0_hw314 => k0_hw314

def k0_off677 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1988 : BitVec 32 := 1024#32
  let v5464 : BitVec 32 := Scalar.muli v14 c1024_i32_1988
  let c306_i32 : BitVec 32 := 306#32
  let v5465 : BitVec 32 := Scalar.addi v5464 c306_i32
  let v5466 : Index := Scalar.indexCast v5465
  ![v5466.toNat]
def k0_off678 (v5467 : BitVec 32) : Fin 2 → Nat :=
  let c4095_i32_1989 : BitVec 32 := 4095#32
  let v5468 : BitVec 32 := Scalar.andi v5467 c4095_i32_1989
  let v5469 : Index := Scalar.indexCast v5468
  let c0_1990 : Index := 0#32
  ![v5469.toNat, 0]

def k0_chk315 (v5467 : BitVec 32) : Prop :=
  (∀ a, (k0_off678 v5467) a + S1x256.size a ≤ S4096x256.size a)
theorem k0_off678_inb : ∀ (v5467 : BitVec 32) (k0_hw315 : k0_chk315 v5467), ∀ a, (k0_off678 v5467) a + S1x256.size a ≤ S4096x256.size a := fun v5467 k0_hw315 => k0_hw315

def k0_off679 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1992 : BitVec 32 := 1024#32
  let v5474 : BitVec 32 := Scalar.muli v14 c1024_i32_1992
  let c307_i32 : BitVec 32 := 307#32
  let v5475 : BitVec 32 := Scalar.addi v5474 c307_i32
  let v5476 : Index := Scalar.indexCast v5475
  ![v5476.toNat]
def k0_off680 (v5477 : BitVec 32) : Fin 2 → Nat :=
  let c4095_i32_1993 : BitVec 32 := 4095#32
  let v5478 : BitVec 32 := Scalar.andi v5477 c4095_i32_1993
  let v5479 : Index := Scalar.indexCast v5478
  let c0_1994 : Index := 0#32
  ![v5479.toNat, 0]

def k0_chk316 (v5477 : BitVec 32) : Prop :=
  (∀ a, (k0_off680 v5477) a + S1x256.size a ≤ S4096x256.size a)
theorem k0_off680_inb : ∀ (v5477 : BitVec 32) (k0_hw316 : k0_chk316 v5477), ∀ a, (k0_off680 v5477) a + S1x256.size a ≤ S4096x256.size a := fun v5477 k0_hw316 => k0_hw316

def k0_off681 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_1996 : BitVec 32 := 1024#32
  let v5484 : BitVec 32 := Scalar.muli v14 c1024_i32_1996
  let c308_i32 : BitVec 32 := 308#32
  let v5485 : BitVec 32 := Scalar.addi v5484 c308_i32
  let v5486 : Index := Scalar.indexCast v5485
  ![v5486.toNat]
def k0_off682 (v5487 : BitVec 32) : Fin 2 → Nat :=
  let c4095_i32_1997 : BitVec 32 := 4095#32
  let v5488 : BitVec 32 := Scalar.andi v5487 c4095_i32_1997
  let v5489 : Index := Scalar.indexCast v5488
  let c0_1998 : Index := 0#32
  ![v5489.toNat, 0]

def k0_chk317 (v5487 : BitVec 32) : Prop :=
  (∀ a, (k0_off682 v5487) a + S1x256.size a ≤ S4096x256.size a)
theorem k0_off682_inb : ∀ (v5487 : BitVec 32) (k0_hw317 : k0_chk317 v5487), ∀ a, (k0_off682 v5487) a + S1x256.size a ≤ S4096x256.size a := fun v5487 k0_hw317 => k0_hw317

def k0_off683 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2000 : BitVec 32 := 1024#32
  let v5494 : BitVec 32 := Scalar.muli v14 c1024_i32_2000
  let c309_i32 : BitVec 32 := 309#32
  let v5495 : BitVec 32 := Scalar.addi v5494 c309_i32
  let v5496 : Index := Scalar.indexCast v5495
  ![v5496.toNat]
def k0_off684 (v5497 : BitVec 32) : Fin 2 → Nat :=
  let c4095_i32_2001 : BitVec 32 := 4095#32
  let v5498 : BitVec 32 := Scalar.andi v5497 c4095_i32_2001
  let v5499 : Index := Scalar.indexCast v5498
  let c0_2002 : Index := 0#32
  ![v5499.toNat, 0]

def k0_chk318 (v5497 : BitVec 32) : Prop :=
  (∀ a, (k0_off684 v5497) a + S1x256.size a ≤ S4096x256.size a)
theorem k0_off684_inb : ∀ (v5497 : BitVec 32) (k0_hw318 : k0_chk318 v5497), ∀ a, (k0_off684 v5497) a + S1x256.size a ≤ S4096x256.size a := fun v5497 k0_hw318 => k0_hw318

def k0_off685 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2004 : BitVec 32 := 1024#32
  let v5504 : BitVec 32 := Scalar.muli v14 c1024_i32_2004
  let c310_i32 : BitVec 32 := 310#32
  let v5505 : BitVec 32 := Scalar.addi v5504 c310_i32
  let v5506 : Index := Scalar.indexCast v5505
  ![v5506.toNat]
def k0_off686 (v5507 : BitVec 32) : Fin 2 → Nat :=
  let c4095_i32_2005 : BitVec 32 := 4095#32
  let v5508 : BitVec 32 := Scalar.andi v5507 c4095_i32_2005
  let v5509 : Index := Scalar.indexCast v5508
  let c0_2006 : Index := 0#32
  ![v5509.toNat, 0]

def k0_chk319 (v5507 : BitVec 32) : Prop :=
  (∀ a, (k0_off686 v5507) a + S1x256.size a ≤ S4096x256.size a)
theorem k0_off686_inb : ∀ (v5507 : BitVec 32) (k0_hw319 : k0_chk319 v5507), ∀ a, (k0_off686 v5507) a + S1x256.size a ≤ S4096x256.size a := fun v5507 k0_hw319 => k0_hw319

def k0_off687 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2008 : BitVec 32 := 1024#32
  let v5514 : BitVec 32 := Scalar.muli v14 c1024_i32_2008
  let c311_i32 : BitVec 32 := 311#32
  let v5515 : BitVec 32 := Scalar.addi v5514 c311_i32
  let v5516 : Index := Scalar.indexCast v5515
  ![v5516.toNat]
def k0_off688 (v5517 : BitVec 32) : Fin 2 → Nat :=
  let c4095_i32_2009 : BitVec 32 := 4095#32
  let v5518 : BitVec 32 := Scalar.andi v5517 c4095_i32_2009
  let v5519 : Index := Scalar.indexCast v5518
  let c0_2010 : Index := 0#32
  ![v5519.toNat, 0]

def k0_chk320 (v5517 : BitVec 32) : Prop :=
  (∀ a, (k0_off688 v5517) a + S1x256.size a ≤ S4096x256.size a)
theorem k0_off688_inb : ∀ (v5517 : BitVec 32) (k0_hw320 : k0_chk320 v5517), ∀ a, (k0_off688 v5517) a + S1x256.size a ≤ S4096x256.size a := fun v5517 k0_hw320 => k0_hw320

def k0_off689 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2012 : BitVec 32 := 1024#32
  let v5524 : BitVec 32 := Scalar.muli v14 c1024_i32_2012
  let c312_i32 : BitVec 32 := 312#32
  let v5525 : BitVec 32 := Scalar.addi v5524 c312_i32
  let v5526 : Index := Scalar.indexCast v5525
  ![v5526.toNat]
def k0_off690 (v5527 : BitVec 32) : Fin 2 → Nat :=
  let c4095_i32_2013 : BitVec 32 := 4095#32
  let v5528 : BitVec 32 := Scalar.andi v5527 c4095_i32_2013
  let v5529 : Index := Scalar.indexCast v5528
  let c0_2014 : Index := 0#32
  ![v5529.toNat, 0]

def k0_chk321 (v5527 : BitVec 32) : Prop :=
  (∀ a, (k0_off690 v5527) a + S1x256.size a ≤ S4096x256.size a)
theorem k0_off690_inb : ∀ (v5527 : BitVec 32) (k0_hw321 : k0_chk321 v5527), ∀ a, (k0_off690 v5527) a + S1x256.size a ≤ S4096x256.size a := fun v5527 k0_hw321 => k0_hw321

def k0_off691 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2016 : BitVec 32 := 1024#32
  let v5534 : BitVec 32 := Scalar.muli v14 c1024_i32_2016
  let c313_i32 : BitVec 32 := 313#32
  let v5535 : BitVec 32 := Scalar.addi v5534 c313_i32
  let v5536 : Index := Scalar.indexCast v5535
  ![v5536.toNat]
def k0_off692 (v5537 : BitVec 32) : Fin 2 → Nat :=
  let c4095_i32_2017 : BitVec 32 := 4095#32
  let v5538 : BitVec 32 := Scalar.andi v5537 c4095_i32_2017
  let v5539 : Index := Scalar.indexCast v5538
  let c0_2018 : Index := 0#32
  ![v5539.toNat, 0]

def k0_chk322 (v5537 : BitVec 32) : Prop :=
  (∀ a, (k0_off692 v5537) a + S1x256.size a ≤ S4096x256.size a)
theorem k0_off692_inb : ∀ (v5537 : BitVec 32) (k0_hw322 : k0_chk322 v5537), ∀ a, (k0_off692 v5537) a + S1x256.size a ≤ S4096x256.size a := fun v5537 k0_hw322 => k0_hw322

def k0_off693 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2020 : BitVec 32 := 1024#32
  let v5544 : BitVec 32 := Scalar.muli v14 c1024_i32_2020
  let c314_i32 : BitVec 32 := 314#32
  let v5545 : BitVec 32 := Scalar.addi v5544 c314_i32
  let v5546 : Index := Scalar.indexCast v5545
  ![v5546.toNat]
def k0_off694 (v5547 : BitVec 32) : Fin 2 → Nat :=
  let c4095_i32_2021 : BitVec 32 := 4095#32
  let v5548 : BitVec 32 := Scalar.andi v5547 c4095_i32_2021
  let v5549 : Index := Scalar.indexCast v5548
  let c0_2022 : Index := 0#32
  ![v5549.toNat, 0]

def k0_chk323 (v5547 : BitVec 32) : Prop :=
  (∀ a, (k0_off694 v5547) a + S1x256.size a ≤ S4096x256.size a)
theorem k0_off694_inb : ∀ (v5547 : BitVec 32) (k0_hw323 : k0_chk323 v5547), ∀ a, (k0_off694 v5547) a + S1x256.size a ≤ S4096x256.size a := fun v5547 k0_hw323 => k0_hw323

def k0_off695 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2024 : BitVec 32 := 1024#32
  let v5554 : BitVec 32 := Scalar.muli v14 c1024_i32_2024
  let c315_i32 : BitVec 32 := 315#32
  let v5555 : BitVec 32 := Scalar.addi v5554 c315_i32
  let v5556 : Index := Scalar.indexCast v5555
  ![v5556.toNat]
def k0_off696 (v5557 : BitVec 32) : Fin 2 → Nat :=
  let c4095_i32_2025 : BitVec 32 := 4095#32
  let v5558 : BitVec 32 := Scalar.andi v5557 c4095_i32_2025
  let v5559 : Index := Scalar.indexCast v5558
  let c0_2026 : Index := 0#32
  ![v5559.toNat, 0]

def k0_chk324 (v5557 : BitVec 32) : Prop :=
  (∀ a, (k0_off696 v5557) a + S1x256.size a ≤ S4096x256.size a)
theorem k0_off696_inb : ∀ (v5557 : BitVec 32) (k0_hw324 : k0_chk324 v5557), ∀ a, (k0_off696 v5557) a + S1x256.size a ≤ S4096x256.size a := fun v5557 k0_hw324 => k0_hw324

def k0_off697 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2028 : BitVec 32 := 1024#32
  let v5564 : BitVec 32 := Scalar.muli v14 c1024_i32_2028
  let c316_i32 : BitVec 32 := 316#32
  let v5565 : BitVec 32 := Scalar.addi v5564 c316_i32
  let v5566 : Index := Scalar.indexCast v5565
  ![v5566.toNat]
def k0_off698 (v5567 : BitVec 32) : Fin 2 → Nat :=
  let c4095_i32_2029 : BitVec 32 := 4095#32
  let v5568 : BitVec 32 := Scalar.andi v5567 c4095_i32_2029
  let v5569 : Index := Scalar.indexCast v5568
  let c0_2030 : Index := 0#32
  ![v5569.toNat, 0]

def k0_chk325 (v5567 : BitVec 32) : Prop :=
  (∀ a, (k0_off698 v5567) a + S1x256.size a ≤ S4096x256.size a)
theorem k0_off698_inb : ∀ (v5567 : BitVec 32) (k0_hw325 : k0_chk325 v5567), ∀ a, (k0_off698 v5567) a + S1x256.size a ≤ S4096x256.size a := fun v5567 k0_hw325 => k0_hw325

def k0_off699 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2032 : BitVec 32 := 1024#32
  let v5574 : BitVec 32 := Scalar.muli v14 c1024_i32_2032
  let c317_i32 : BitVec 32 := 317#32
  let v5575 : BitVec 32 := Scalar.addi v5574 c317_i32
  let v5576 : Index := Scalar.indexCast v5575
  ![v5576.toNat]
def k0_off700 (v5577 : BitVec 32) : Fin 2 → Nat :=
  let c4095_i32_2033 : BitVec 32 := 4095#32
  let v5578 : BitVec 32 := Scalar.andi v5577 c4095_i32_2033
  let v5579 : Index := Scalar.indexCast v5578
  let c0_2034 : Index := 0#32
  ![v5579.toNat, 0]

def k0_chk326 (v5577 : BitVec 32) : Prop :=
  (∀ a, (k0_off700 v5577) a + S1x256.size a ≤ S4096x256.size a)
theorem k0_off700_inb : ∀ (v5577 : BitVec 32) (k0_hw326 : k0_chk326 v5577), ∀ a, (k0_off700 v5577) a + S1x256.size a ≤ S4096x256.size a := fun v5577 k0_hw326 => k0_hw326

def k0_off701 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2036 : BitVec 32 := 1024#32
  let v5584 : BitVec 32 := Scalar.muli v14 c1024_i32_2036
  let c318_i32 : BitVec 32 := 318#32
  let v5585 : BitVec 32 := Scalar.addi v5584 c318_i32
  let v5586 : Index := Scalar.indexCast v5585
  ![v5586.toNat]
def k0_off702 (v5587 : BitVec 32) : Fin 2 → Nat :=
  let c4095_i32_2037 : BitVec 32 := 4095#32
  let v5588 : BitVec 32 := Scalar.andi v5587 c4095_i32_2037
  let v5589 : Index := Scalar.indexCast v5588
  let c0_2038 : Index := 0#32
  ![v5589.toNat, 0]

def k0_chk327 (v5587 : BitVec 32) : Prop :=
  (∀ a, (k0_off702 v5587) a + S1x256.size a ≤ S4096x256.size a)
theorem k0_off702_inb : ∀ (v5587 : BitVec 32) (k0_hw327 : k0_chk327 v5587), ∀ a, (k0_off702 v5587) a + S1x256.size a ≤ S4096x256.size a := fun v5587 k0_hw327 => k0_hw327

def k0_off703 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2040 : BitVec 32 := 1024#32
  let v5594 : BitVec 32 := Scalar.muli v14 c1024_i32_2040
  let c319_i32 : BitVec 32 := 319#32
  let v5595 : BitVec 32 := Scalar.addi v5594 c319_i32
  let v5596 : Index := Scalar.indexCast v5595
  ![v5596.toNat]
def k0_off704 (v5597 : BitVec 32) : Fin 2 → Nat :=
  let c4095_i32_2041 : BitVec 32 := 4095#32
  let v5598 : BitVec 32 := Scalar.andi v5597 c4095_i32_2041
  let v5599 : Index := Scalar.indexCast v5598
  let c0_2042 : Index := 0#32
  ![v5599.toNat, 0]

def k0_chk328 (v5597 : BitVec 32) : Prop :=
  (∀ a, (k0_off704 v5597) a + S1x256.size a ≤ S4096x256.size a)
theorem k0_off704_inb : ∀ (v5597 : BitVec 32) (k0_hw328 : k0_chk328 v5597), ∀ a, (k0_off704 v5597) a + S1x256.size a ≤ S4096x256.size a := fun v5597 k0_hw328 => k0_hw328

def k0_off705 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2044 : BitVec 32 := 1024#32
  let v5604 : BitVec 32 := Scalar.muli v14 c1024_i32_2044
  let c320_i32 : BitVec 32 := 320#32
  let v5605 : BitVec 32 := Scalar.addi v5604 c320_i32
  let v5606 : Index := Scalar.indexCast v5605
  ![v5606.toNat]
def k0_off706 (v5607 : BitVec 32) : Fin 2 → Nat :=
  let c4095_i32_2045 : BitVec 32 := 4095#32
  let v5608 : BitVec 32 := Scalar.andi v5607 c4095_i32_2045
  let v5609 : Index := Scalar.indexCast v5608
  let c0_2046 : Index := 0#32
  ![v5609.toNat, 0]

def k0_chk329 (v5607 : BitVec 32) : Prop :=
  (∀ a, (k0_off706 v5607) a + S1x256.size a ≤ S4096x256.size a)
theorem k0_off706_inb : ∀ (v5607 : BitVec 32) (k0_hw329 : k0_chk329 v5607), ∀ a, (k0_off706 v5607) a + S1x256.size a ≤ S4096x256.size a := fun v5607 k0_hw329 => k0_hw329

def k0_off707 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2049 : BitVec 32 := 1024#32
  let v5614 : BitVec 32 := Scalar.muli v14 c1024_i32_2049
  let c321_i32 : BitVec 32 := 321#32
  let v5615 : BitVec 32 := Scalar.addi v5614 c321_i32
  let v5616 : Index := Scalar.indexCast v5615
  ![v5616.toNat]
def k0_off708 (v5617 : BitVec 32) : Fin 2 → Nat :=
  let c4095_i32_2050 : BitVec 32 := 4095#32
  let v5618 : BitVec 32 := Scalar.andi v5617 c4095_i32_2050
  let v5619 : Index := Scalar.indexCast v5618
  let c0_2051 : Index := 0#32
  ![v5619.toNat, 0]

def k0_chk330 (v5617 : BitVec 32) : Prop :=
  (∀ a, (k0_off708 v5617) a + S1x256.size a ≤ S4096x256.size a)
theorem k0_off708_inb : ∀ (v5617 : BitVec 32) (k0_hw330 : k0_chk330 v5617), ∀ a, (k0_off708 v5617) a + S1x256.size a ≤ S4096x256.size a := fun v5617 k0_hw330 => k0_hw330

def k0_off709 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2053 : BitVec 32 := 1024#32
  let v5624 : BitVec 32 := Scalar.muli v14 c1024_i32_2053
  let c322_i32 : BitVec 32 := 322#32
  let v5625 : BitVec 32 := Scalar.addi v5624 c322_i32
  let v5626 : Index := Scalar.indexCast v5625
  ![v5626.toNat]
def k0_off710 (v5627 : BitVec 32) : Fin 2 → Nat :=
  let c4095_i32_2054 : BitVec 32 := 4095#32
  let v5628 : BitVec 32 := Scalar.andi v5627 c4095_i32_2054
  let v5629 : Index := Scalar.indexCast v5628
  let c0_2055 : Index := 0#32
  ![v5629.toNat, 0]

def k0_chk331 (v5627 : BitVec 32) : Prop :=
  (∀ a, (k0_off710 v5627) a + S1x256.size a ≤ S4096x256.size a)
theorem k0_off710_inb : ∀ (v5627 : BitVec 32) (k0_hw331 : k0_chk331 v5627), ∀ a, (k0_off710 v5627) a + S1x256.size a ≤ S4096x256.size a := fun v5627 k0_hw331 => k0_hw331

def k0_off711 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2057 : BitVec 32 := 1024#32
  let v5634 : BitVec 32 := Scalar.muli v14 c1024_i32_2057
  let c323_i32 : BitVec 32 := 323#32
  let v5635 : BitVec 32 := Scalar.addi v5634 c323_i32
  let v5636 : Index := Scalar.indexCast v5635
  ![v5636.toNat]
def k0_off712 (v5637 : BitVec 32) : Fin 2 → Nat :=
  let c4095_i32_2058 : BitVec 32 := 4095#32
  let v5638 : BitVec 32 := Scalar.andi v5637 c4095_i32_2058
  let v5639 : Index := Scalar.indexCast v5638
  let c0_2059 : Index := 0#32
  ![v5639.toNat, 0]

def k0_chk332 (v5637 : BitVec 32) : Prop :=
  (∀ a, (k0_off712 v5637) a + S1x256.size a ≤ S4096x256.size a)
theorem k0_off712_inb : ∀ (v5637 : BitVec 32) (k0_hw332 : k0_chk332 v5637), ∀ a, (k0_off712 v5637) a + S1x256.size a ≤ S4096x256.size a := fun v5637 k0_hw332 => k0_hw332

def k0_off713 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2061 : BitVec 32 := 1024#32
  let v5644 : BitVec 32 := Scalar.muli v14 c1024_i32_2061
  let c324_i32 : BitVec 32 := 324#32
  let v5645 : BitVec 32 := Scalar.addi v5644 c324_i32
  let v5646 : Index := Scalar.indexCast v5645
  ![v5646.toNat]
def k0_off714 (v5647 : BitVec 32) : Fin 2 → Nat :=
  let c4095_i32_2062 : BitVec 32 := 4095#32
  let v5648 : BitVec 32 := Scalar.andi v5647 c4095_i32_2062
  let v5649 : Index := Scalar.indexCast v5648
  let c0_2063 : Index := 0#32
  ![v5649.toNat, 0]

def k0_chk333 (v5647 : BitVec 32) : Prop :=
  (∀ a, (k0_off714 v5647) a + S1x256.size a ≤ S4096x256.size a)
theorem k0_off714_inb : ∀ (v5647 : BitVec 32) (k0_hw333 : k0_chk333 v5647), ∀ a, (k0_off714 v5647) a + S1x256.size a ≤ S4096x256.size a := fun v5647 k0_hw333 => k0_hw333

def k0_off715 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2065 : BitVec 32 := 1024#32
  let v5654 : BitVec 32 := Scalar.muli v14 c1024_i32_2065
  let c325_i32 : BitVec 32 := 325#32
  let v5655 : BitVec 32 := Scalar.addi v5654 c325_i32
  let v5656 : Index := Scalar.indexCast v5655
  ![v5656.toNat]
def k0_off716 (v5657 : BitVec 32) : Fin 2 → Nat :=
  let c4095_i32_2066 : BitVec 32 := 4095#32
  let v5658 : BitVec 32 := Scalar.andi v5657 c4095_i32_2066
  let v5659 : Index := Scalar.indexCast v5658
  let c0_2067 : Index := 0#32
  ![v5659.toNat, 0]

def k0_chk334 (v5657 : BitVec 32) : Prop :=
  (∀ a, (k0_off716 v5657) a + S1x256.size a ≤ S4096x256.size a)
theorem k0_off716_inb : ∀ (v5657 : BitVec 32) (k0_hw334 : k0_chk334 v5657), ∀ a, (k0_off716 v5657) a + S1x256.size a ≤ S4096x256.size a := fun v5657 k0_hw334 => k0_hw334

def k0_off717 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2069 : BitVec 32 := 1024#32
  let v5664 : BitVec 32 := Scalar.muli v14 c1024_i32_2069
  let c326_i32 : BitVec 32 := 326#32
  let v5665 : BitVec 32 := Scalar.addi v5664 c326_i32
  let v5666 : Index := Scalar.indexCast v5665
  ![v5666.toNat]
def k0_off718 (v5667 : BitVec 32) : Fin 2 → Nat :=
  let c4095_i32_2070 : BitVec 32 := 4095#32
  let v5668 : BitVec 32 := Scalar.andi v5667 c4095_i32_2070
  let v5669 : Index := Scalar.indexCast v5668
  let c0_2071 : Index := 0#32
  ![v5669.toNat, 0]

def k0_chk335 (v5667 : BitVec 32) : Prop :=
  (∀ a, (k0_off718 v5667) a + S1x256.size a ≤ S4096x256.size a)
theorem k0_off718_inb : ∀ (v5667 : BitVec 32) (k0_hw335 : k0_chk335 v5667), ∀ a, (k0_off718 v5667) a + S1x256.size a ≤ S4096x256.size a := fun v5667 k0_hw335 => k0_hw335

def k0_off719 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2073 : BitVec 32 := 1024#32
  let v5674 : BitVec 32 := Scalar.muli v14 c1024_i32_2073
  let c327_i32 : BitVec 32 := 327#32
  let v5675 : BitVec 32 := Scalar.addi v5674 c327_i32
  let v5676 : Index := Scalar.indexCast v5675
  ![v5676.toNat]
def k0_off720 (v5677 : BitVec 32) : Fin 2 → Nat :=
  let c4095_i32_2074 : BitVec 32 := 4095#32
  let v5678 : BitVec 32 := Scalar.andi v5677 c4095_i32_2074
  let v5679 : Index := Scalar.indexCast v5678
  let c0_2075 : Index := 0#32
  ![v5679.toNat, 0]

def k0_chk336 (v5677 : BitVec 32) : Prop :=
  (∀ a, (k0_off720 v5677) a + S1x256.size a ≤ S4096x256.size a)
theorem k0_off720_inb : ∀ (v5677 : BitVec 32) (k0_hw336 : k0_chk336 v5677), ∀ a, (k0_off720 v5677) a + S1x256.size a ≤ S4096x256.size a := fun v5677 k0_hw336 => k0_hw336

def k0_off721 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2077 : BitVec 32 := 1024#32
  let v5684 : BitVec 32 := Scalar.muli v14 c1024_i32_2077
  let c328_i32 : BitVec 32 := 328#32
  let v5685 : BitVec 32 := Scalar.addi v5684 c328_i32
  let v5686 : Index := Scalar.indexCast v5685
  ![v5686.toNat]
def k0_off722 (v5687 : BitVec 32) : Fin 2 → Nat :=
  let c4095_i32_2078 : BitVec 32 := 4095#32
  let v5688 : BitVec 32 := Scalar.andi v5687 c4095_i32_2078
  let v5689 : Index := Scalar.indexCast v5688
  let c0_2079 : Index := 0#32
  ![v5689.toNat, 0]

def k0_chk337 (v5687 : BitVec 32) : Prop :=
  (∀ a, (k0_off722 v5687) a + S1x256.size a ≤ S4096x256.size a)
theorem k0_off722_inb : ∀ (v5687 : BitVec 32) (k0_hw337 : k0_chk337 v5687), ∀ a, (k0_off722 v5687) a + S1x256.size a ≤ S4096x256.size a := fun v5687 k0_hw337 => k0_hw337

def k0_off723 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2081 : BitVec 32 := 1024#32
  let v5694 : BitVec 32 := Scalar.muli v14 c1024_i32_2081
  let c329_i32 : BitVec 32 := 329#32
  let v5695 : BitVec 32 := Scalar.addi v5694 c329_i32
  let v5696 : Index := Scalar.indexCast v5695
  ![v5696.toNat]
def k0_off724 (v5697 : BitVec 32) : Fin 2 → Nat :=
  let c4095_i32_2082 : BitVec 32 := 4095#32
  let v5698 : BitVec 32 := Scalar.andi v5697 c4095_i32_2082
  let v5699 : Index := Scalar.indexCast v5698
  let c0_2083 : Index := 0#32
  ![v5699.toNat, 0]

def k0_chk338 (v5697 : BitVec 32) : Prop :=
  (∀ a, (k0_off724 v5697) a + S1x256.size a ≤ S4096x256.size a)
theorem k0_off724_inb : ∀ (v5697 : BitVec 32) (k0_hw338 : k0_chk338 v5697), ∀ a, (k0_off724 v5697) a + S1x256.size a ≤ S4096x256.size a := fun v5697 k0_hw338 => k0_hw338

def k0_off725 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2085 : BitVec 32 := 1024#32
  let v5704 : BitVec 32 := Scalar.muli v14 c1024_i32_2085
  let c330_i32 : BitVec 32 := 330#32
  let v5705 : BitVec 32 := Scalar.addi v5704 c330_i32
  let v5706 : Index := Scalar.indexCast v5705
  ![v5706.toNat]
def k0_off726 (v5707 : BitVec 32) : Fin 2 → Nat :=
  let c4095_i32_2086 : BitVec 32 := 4095#32
  let v5708 : BitVec 32 := Scalar.andi v5707 c4095_i32_2086
  let v5709 : Index := Scalar.indexCast v5708
  let c0_2087 : Index := 0#32
  ![v5709.toNat, 0]

def k0_chk339 (v5707 : BitVec 32) : Prop :=
  (∀ a, (k0_off726 v5707) a + S1x256.size a ≤ S4096x256.size a)
theorem k0_off726_inb : ∀ (v5707 : BitVec 32) (k0_hw339 : k0_chk339 v5707), ∀ a, (k0_off726 v5707) a + S1x256.size a ≤ S4096x256.size a := fun v5707 k0_hw339 => k0_hw339

def k0_off727 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2089 : BitVec 32 := 1024#32
  let v5714 : BitVec 32 := Scalar.muli v14 c1024_i32_2089
  let c331_i32 : BitVec 32 := 331#32
  let v5715 : BitVec 32 := Scalar.addi v5714 c331_i32
  let v5716 : Index := Scalar.indexCast v5715
  ![v5716.toNat]
def k0_off728 (v5717 : BitVec 32) : Fin 2 → Nat :=
  let c4095_i32_2090 : BitVec 32 := 4095#32
  let v5718 : BitVec 32 := Scalar.andi v5717 c4095_i32_2090
  let v5719 : Index := Scalar.indexCast v5718
  let c0_2091 : Index := 0#32
  ![v5719.toNat, 0]

def k0_chk340 (v5717 : BitVec 32) : Prop :=
  (∀ a, (k0_off728 v5717) a + S1x256.size a ≤ S4096x256.size a)
theorem k0_off728_inb : ∀ (v5717 : BitVec 32) (k0_hw340 : k0_chk340 v5717), ∀ a, (k0_off728 v5717) a + S1x256.size a ≤ S4096x256.size a := fun v5717 k0_hw340 => k0_hw340

def k0_off729 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2093 : BitVec 32 := 1024#32
  let v5724 : BitVec 32 := Scalar.muli v14 c1024_i32_2093
  let c332_i32 : BitVec 32 := 332#32
  let v5725 : BitVec 32 := Scalar.addi v5724 c332_i32
  let v5726 : Index := Scalar.indexCast v5725
  ![v5726.toNat]
def k0_off730 (v5727 : BitVec 32) : Fin 2 → Nat :=
  let c4095_i32_2094 : BitVec 32 := 4095#32
  let v5728 : BitVec 32 := Scalar.andi v5727 c4095_i32_2094
  let v5729 : Index := Scalar.indexCast v5728
  let c0_2095 : Index := 0#32
  ![v5729.toNat, 0]

def k0_chk341 (v5727 : BitVec 32) : Prop :=
  (∀ a, (k0_off730 v5727) a + S1x256.size a ≤ S4096x256.size a)
theorem k0_off730_inb : ∀ (v5727 : BitVec 32) (k0_hw341 : k0_chk341 v5727), ∀ a, (k0_off730 v5727) a + S1x256.size a ≤ S4096x256.size a := fun v5727 k0_hw341 => k0_hw341

def k0_off731 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2097 : BitVec 32 := 1024#32
  let v5734 : BitVec 32 := Scalar.muli v14 c1024_i32_2097
  let c333_i32 : BitVec 32 := 333#32
  let v5735 : BitVec 32 := Scalar.addi v5734 c333_i32
  let v5736 : Index := Scalar.indexCast v5735
  ![v5736.toNat]
def k0_off732 (v5737 : BitVec 32) : Fin 2 → Nat :=
  let c4095_i32_2098 : BitVec 32 := 4095#32
  let v5738 : BitVec 32 := Scalar.andi v5737 c4095_i32_2098
  let v5739 : Index := Scalar.indexCast v5738
  let c0_2099 : Index := 0#32
  ![v5739.toNat, 0]

def k0_chk342 (v5737 : BitVec 32) : Prop :=
  (∀ a, (k0_off732 v5737) a + S1x256.size a ≤ S4096x256.size a)
theorem k0_off732_inb : ∀ (v5737 : BitVec 32) (k0_hw342 : k0_chk342 v5737), ∀ a, (k0_off732 v5737) a + S1x256.size a ≤ S4096x256.size a := fun v5737 k0_hw342 => k0_hw342

def k0_off733 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2101 : BitVec 32 := 1024#32
  let v5744 : BitVec 32 := Scalar.muli v14 c1024_i32_2101
  let c334_i32 : BitVec 32 := 334#32
  let v5745 : BitVec 32 := Scalar.addi v5744 c334_i32
  let v5746 : Index := Scalar.indexCast v5745
  ![v5746.toNat]
def k0_off734 (v5747 : BitVec 32) : Fin 2 → Nat :=
  let c4095_i32_2102 : BitVec 32 := 4095#32
  let v5748 : BitVec 32 := Scalar.andi v5747 c4095_i32_2102
  let v5749 : Index := Scalar.indexCast v5748
  let c0_2103 : Index := 0#32
  ![v5749.toNat, 0]

def k0_chk343 (v5747 : BitVec 32) : Prop :=
  (∀ a, (k0_off734 v5747) a + S1x256.size a ≤ S4096x256.size a)
theorem k0_off734_inb : ∀ (v5747 : BitVec 32) (k0_hw343 : k0_chk343 v5747), ∀ a, (k0_off734 v5747) a + S1x256.size a ≤ S4096x256.size a := fun v5747 k0_hw343 => k0_hw343

def k0_off735 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2105 : BitVec 32 := 1024#32
  let v5754 : BitVec 32 := Scalar.muli v14 c1024_i32_2105
  let c335_i32 : BitVec 32 := 335#32
  let v5755 : BitVec 32 := Scalar.addi v5754 c335_i32
  let v5756 : Index := Scalar.indexCast v5755
  ![v5756.toNat]
def k0_off736 (v5757 : BitVec 32) : Fin 2 → Nat :=
  let c4095_i32_2106 : BitVec 32 := 4095#32
  let v5758 : BitVec 32 := Scalar.andi v5757 c4095_i32_2106
  let v5759 : Index := Scalar.indexCast v5758
  let c0_2107 : Index := 0#32
  ![v5759.toNat, 0]

def k0_chk344 (v5757 : BitVec 32) : Prop :=
  (∀ a, (k0_off736 v5757) a + S1x256.size a ≤ S4096x256.size a)
theorem k0_off736_inb : ∀ (v5757 : BitVec 32) (k0_hw344 : k0_chk344 v5757), ∀ a, (k0_off736 v5757) a + S1x256.size a ≤ S4096x256.size a := fun v5757 k0_hw344 => k0_hw344

def k0_off737 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2109 : BitVec 32 := 1024#32
  let v5764 : BitVec 32 := Scalar.muli v14 c1024_i32_2109
  let c336_i32 : BitVec 32 := 336#32
  let v5765 : BitVec 32 := Scalar.addi v5764 c336_i32
  let v5766 : Index := Scalar.indexCast v5765
  ![v5766.toNat]
def k0_off738 (v5767 : BitVec 32) : Fin 2 → Nat :=
  let c4095_i32_2110 : BitVec 32 := 4095#32
  let v5768 : BitVec 32 := Scalar.andi v5767 c4095_i32_2110
  let v5769 : Index := Scalar.indexCast v5768
  let c0_2111 : Index := 0#32
  ![v5769.toNat, 0]

def k0_chk345 (v5767 : BitVec 32) : Prop :=
  (∀ a, (k0_off738 v5767) a + S1x256.size a ≤ S4096x256.size a)
theorem k0_off738_inb : ∀ (v5767 : BitVec 32) (k0_hw345 : k0_chk345 v5767), ∀ a, (k0_off738 v5767) a + S1x256.size a ≤ S4096x256.size a := fun v5767 k0_hw345 => k0_hw345

def k0_off739 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2113 : BitVec 32 := 1024#32
  let v5774 : BitVec 32 := Scalar.muli v14 c1024_i32_2113
  let c337_i32 : BitVec 32 := 337#32
  let v5775 : BitVec 32 := Scalar.addi v5774 c337_i32
  let v5776 : Index := Scalar.indexCast v5775
  ![v5776.toNat]
def k0_off740 (v5777 : BitVec 32) : Fin 2 → Nat :=
  let c4095_i32_2114 : BitVec 32 := 4095#32
  let v5778 : BitVec 32 := Scalar.andi v5777 c4095_i32_2114
  let v5779 : Index := Scalar.indexCast v5778
  let c0_2115 : Index := 0#32
  ![v5779.toNat, 0]

def k0_chk346 (v5777 : BitVec 32) : Prop :=
  (∀ a, (k0_off740 v5777) a + S1x256.size a ≤ S4096x256.size a)
theorem k0_off740_inb : ∀ (v5777 : BitVec 32) (k0_hw346 : k0_chk346 v5777), ∀ a, (k0_off740 v5777) a + S1x256.size a ≤ S4096x256.size a := fun v5777 k0_hw346 => k0_hw346

def k0_off741 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2117 : BitVec 32 := 1024#32
  let v5784 : BitVec 32 := Scalar.muli v14 c1024_i32_2117
  let c338_i32 : BitVec 32 := 338#32
  let v5785 : BitVec 32 := Scalar.addi v5784 c338_i32
  let v5786 : Index := Scalar.indexCast v5785
  ![v5786.toNat]
def k0_off742 (v5787 : BitVec 32) : Fin 2 → Nat :=
  let c4095_i32_2118 : BitVec 32 := 4095#32
  let v5788 : BitVec 32 := Scalar.andi v5787 c4095_i32_2118
  let v5789 : Index := Scalar.indexCast v5788
  let c0_2119 : Index := 0#32
  ![v5789.toNat, 0]

def k0_chk347 (v5787 : BitVec 32) : Prop :=
  (∀ a, (k0_off742 v5787) a + S1x256.size a ≤ S4096x256.size a)
theorem k0_off742_inb : ∀ (v5787 : BitVec 32) (k0_hw347 : k0_chk347 v5787), ∀ a, (k0_off742 v5787) a + S1x256.size a ≤ S4096x256.size a := fun v5787 k0_hw347 => k0_hw347

def k0_off743 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2121 : BitVec 32 := 1024#32
  let v5794 : BitVec 32 := Scalar.muli v14 c1024_i32_2121
  let c339_i32 : BitVec 32 := 339#32
  let v5795 : BitVec 32 := Scalar.addi v5794 c339_i32
  let v5796 : Index := Scalar.indexCast v5795
  ![v5796.toNat]
def k0_off744 (v5797 : BitVec 32) : Fin 2 → Nat :=
  let c4095_i32_2122 : BitVec 32 := 4095#32
  let v5798 : BitVec 32 := Scalar.andi v5797 c4095_i32_2122
  let v5799 : Index := Scalar.indexCast v5798
  let c0_2123 : Index := 0#32
  ![v5799.toNat, 0]

def k0_chk348 (v5797 : BitVec 32) : Prop :=
  (∀ a, (k0_off744 v5797) a + S1x256.size a ≤ S4096x256.size a)
theorem k0_off744_inb : ∀ (v5797 : BitVec 32) (k0_hw348 : k0_chk348 v5797), ∀ a, (k0_off744 v5797) a + S1x256.size a ≤ S4096x256.size a := fun v5797 k0_hw348 => k0_hw348

def k0_off745 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2125 : BitVec 32 := 1024#32
  let v5804 : BitVec 32 := Scalar.muli v14 c1024_i32_2125
  let c340_i32 : BitVec 32 := 340#32
  let v5805 : BitVec 32 := Scalar.addi v5804 c340_i32
  let v5806 : Index := Scalar.indexCast v5805
  ![v5806.toNat]
def k0_off746 (v5807 : BitVec 32) : Fin 2 → Nat :=
  let c4095_i32_2126 : BitVec 32 := 4095#32
  let v5808 : BitVec 32 := Scalar.andi v5807 c4095_i32_2126
  let v5809 : Index := Scalar.indexCast v5808
  let c0_2127 : Index := 0#32
  ![v5809.toNat, 0]

def k0_chk349 (v5807 : BitVec 32) : Prop :=
  (∀ a, (k0_off746 v5807) a + S1x256.size a ≤ S4096x256.size a)
theorem k0_off746_inb : ∀ (v5807 : BitVec 32) (k0_hw349 : k0_chk349 v5807), ∀ a, (k0_off746 v5807) a + S1x256.size a ≤ S4096x256.size a := fun v5807 k0_hw349 => k0_hw349

def k0_off747 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2129 : BitVec 32 := 1024#32
  let v5814 : BitVec 32 := Scalar.muli v14 c1024_i32_2129
  let c341_i32 : BitVec 32 := 341#32
  let v5815 : BitVec 32 := Scalar.addi v5814 c341_i32
  let v5816 : Index := Scalar.indexCast v5815
  ![v5816.toNat]
def k0_off748 (v5817 : BitVec 32) : Fin 2 → Nat :=
  let c4095_i32_2130 : BitVec 32 := 4095#32
  let v5818 : BitVec 32 := Scalar.andi v5817 c4095_i32_2130
  let v5819 : Index := Scalar.indexCast v5818
  let c0_2131 : Index := 0#32
  ![v5819.toNat, 0]

def k0_chk350 (v5817 : BitVec 32) : Prop :=
  (∀ a, (k0_off748 v5817) a + S1x256.size a ≤ S4096x256.size a)
theorem k0_off748_inb : ∀ (v5817 : BitVec 32) (k0_hw350 : k0_chk350 v5817), ∀ a, (k0_off748 v5817) a + S1x256.size a ≤ S4096x256.size a := fun v5817 k0_hw350 => k0_hw350

def k0_off749 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v5881 : Index := Scalar.indexCast v12
  let c0_2148 : Index := 0#32
  let c0_2149 : Index := 0#32
  ![v5881.toNat, 0, 0]
def k0_off750 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v5942 : Index := Scalar.indexCast v12
  let c0_2167 : Index := 0#32
  let c256_2168 : Index := 256#32
  ![v5942.toNat, 0, 256]
def k0_off751 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v6004 : Index := Scalar.indexCast v12
  let c0_2186 : Index := 0#32
  let c512_2187 : Index := 512#32
  ![v6004.toNat, 0, 512]
def k0_off752 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v6066 : Index := Scalar.indexCast v12
  let c0_2205 : Index := 0#32
  let c768_2206 : Index := 768#32
  ![v6066.toNat, 0, 768]
def k0_off753 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2212 : BitVec 32 := 1024#32
  let v6076 : BitVec 32 := Scalar.muli v14 c1024_i32_2212
  let c342_i32 : BitVec 32 := 342#32
  let v6077 : BitVec 32 := Scalar.addi v6076 c342_i32
  let v6078 : Index := Scalar.indexCast v6077
  ![v6078.toNat]
def k0_off754 (v6079 : BitVec 32) : Fin 2 → Nat :=
  let c4095_i32_2213 : BitVec 32 := 4095#32
  let v6080 : BitVec 32 := Scalar.andi v6079 c4095_i32_2213
  let v6081 : Index := Scalar.indexCast v6080
  let c0_2214 : Index := 0#32
  ![v6081.toNat, 0]

def k0_chk351 (v6079 : BitVec 32) : Prop :=
  (∀ a, (k0_off754 v6079) a + S1x256.size a ≤ S4096x256.size a)
theorem k0_off754_inb : ∀ (v6079 : BitVec 32) (k0_hw351 : k0_chk351 v6079), ∀ a, (k0_off754 v6079) a + S1x256.size a ≤ S4096x256.size a := fun v6079 k0_hw351 => k0_hw351

def k0_off755 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2216 : BitVec 32 := 1024#32
  let v6086 : BitVec 32 := Scalar.muli v14 c1024_i32_2216
  let c343_i32 : BitVec 32 := 343#32
  let v6087 : BitVec 32 := Scalar.addi v6086 c343_i32
  let v6088 : Index := Scalar.indexCast v6087
  ![v6088.toNat]
def k0_off756 (v6089 : BitVec 32) : Fin 2 → Nat :=
  let c4095_i32_2217 : BitVec 32 := 4095#32
  let v6090 : BitVec 32 := Scalar.andi v6089 c4095_i32_2217
  let v6091 : Index := Scalar.indexCast v6090
  let c0_2218 : Index := 0#32
  ![v6091.toNat, 0]

def k0_chk352 (v6089 : BitVec 32) : Prop :=
  (∀ a, (k0_off756 v6089) a + S1x256.size a ≤ S4096x256.size a)
theorem k0_off756_inb : ∀ (v6089 : BitVec 32) (k0_hw352 : k0_chk352 v6089), ∀ a, (k0_off756 v6089) a + S1x256.size a ≤ S4096x256.size a := fun v6089 k0_hw352 => k0_hw352

def k0_off757 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2220 : BitVec 32 := 1024#32
  let v6096 : BitVec 32 := Scalar.muli v14 c1024_i32_2220
  let c344_i32 : BitVec 32 := 344#32
  let v6097 : BitVec 32 := Scalar.addi v6096 c344_i32
  let v6098 : Index := Scalar.indexCast v6097
  ![v6098.toNat]
def k0_off758 (v6099 : BitVec 32) : Fin 2 → Nat :=
  let c4095_i32_2221 : BitVec 32 := 4095#32
  let v6100 : BitVec 32 := Scalar.andi v6099 c4095_i32_2221
  let v6101 : Index := Scalar.indexCast v6100
  let c0_2222 : Index := 0#32
  ![v6101.toNat, 0]

def k0_chk353 (v6099 : BitVec 32) : Prop :=
  (∀ a, (k0_off758 v6099) a + S1x256.size a ≤ S4096x256.size a)
theorem k0_off758_inb : ∀ (v6099 : BitVec 32) (k0_hw353 : k0_chk353 v6099), ∀ a, (k0_off758 v6099) a + S1x256.size a ≤ S4096x256.size a := fun v6099 k0_hw353 => k0_hw353

def k0_off759 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2224 : BitVec 32 := 1024#32
  let v6106 : BitVec 32 := Scalar.muli v14 c1024_i32_2224
  let c345_i32 : BitVec 32 := 345#32
  let v6107 : BitVec 32 := Scalar.addi v6106 c345_i32
  let v6108 : Index := Scalar.indexCast v6107
  ![v6108.toNat]
def k0_off760 (v6109 : BitVec 32) : Fin 2 → Nat :=
  let c4095_i32_2225 : BitVec 32 := 4095#32
  let v6110 : BitVec 32 := Scalar.andi v6109 c4095_i32_2225
  let v6111 : Index := Scalar.indexCast v6110
  let c0_2226 : Index := 0#32
  ![v6111.toNat, 0]

def k0_chk354 (v6109 : BitVec 32) : Prop :=
  (∀ a, (k0_off760 v6109) a + S1x256.size a ≤ S4096x256.size a)
theorem k0_off760_inb : ∀ (v6109 : BitVec 32) (k0_hw354 : k0_chk354 v6109), ∀ a, (k0_off760 v6109) a + S1x256.size a ≤ S4096x256.size a := fun v6109 k0_hw354 => k0_hw354

def k0_off761 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2228 : BitVec 32 := 1024#32
  let v6116 : BitVec 32 := Scalar.muli v14 c1024_i32_2228
  let c346_i32 : BitVec 32 := 346#32
  let v6117 : BitVec 32 := Scalar.addi v6116 c346_i32
  let v6118 : Index := Scalar.indexCast v6117
  ![v6118.toNat]
def k0_off762 (v6119 : BitVec 32) : Fin 2 → Nat :=
  let c4095_i32_2229 : BitVec 32 := 4095#32
  let v6120 : BitVec 32 := Scalar.andi v6119 c4095_i32_2229
  let v6121 : Index := Scalar.indexCast v6120
  let c0_2230 : Index := 0#32
  ![v6121.toNat, 0]

def k0_chk355 (v6119 : BitVec 32) : Prop :=
  (∀ a, (k0_off762 v6119) a + S1x256.size a ≤ S4096x256.size a)
theorem k0_off762_inb : ∀ (v6119 : BitVec 32) (k0_hw355 : k0_chk355 v6119), ∀ a, (k0_off762 v6119) a + S1x256.size a ≤ S4096x256.size a := fun v6119 k0_hw355 => k0_hw355

def k0_off763 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2232 : BitVec 32 := 1024#32
  let v6126 : BitVec 32 := Scalar.muli v14 c1024_i32_2232
  let c347_i32 : BitVec 32 := 347#32
  let v6127 : BitVec 32 := Scalar.addi v6126 c347_i32
  let v6128 : Index := Scalar.indexCast v6127
  ![v6128.toNat]
def k0_off764 (v6129 : BitVec 32) : Fin 2 → Nat :=
  let c4095_i32_2233 : BitVec 32 := 4095#32
  let v6130 : BitVec 32 := Scalar.andi v6129 c4095_i32_2233
  let v6131 : Index := Scalar.indexCast v6130
  let c0_2234 : Index := 0#32
  ![v6131.toNat, 0]

def k0_chk356 (v6129 : BitVec 32) : Prop :=
  (∀ a, (k0_off764 v6129) a + S1x256.size a ≤ S4096x256.size a)
theorem k0_off764_inb : ∀ (v6129 : BitVec 32) (k0_hw356 : k0_chk356 v6129), ∀ a, (k0_off764 v6129) a + S1x256.size a ≤ S4096x256.size a := fun v6129 k0_hw356 => k0_hw356

def k0_off765 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2236 : BitVec 32 := 1024#32
  let v6136 : BitVec 32 := Scalar.muli v14 c1024_i32_2236
  let c348_i32 : BitVec 32 := 348#32
  let v6137 : BitVec 32 := Scalar.addi v6136 c348_i32
  let v6138 : Index := Scalar.indexCast v6137
  ![v6138.toNat]
def k0_off766 (v6139 : BitVec 32) : Fin 2 → Nat :=
  let c4095_i32_2237 : BitVec 32 := 4095#32
  let v6140 : BitVec 32 := Scalar.andi v6139 c4095_i32_2237
  let v6141 : Index := Scalar.indexCast v6140
  let c0_2238 : Index := 0#32
  ![v6141.toNat, 0]

def k0_chk357 (v6139 : BitVec 32) : Prop :=
  (∀ a, (k0_off766 v6139) a + S1x256.size a ≤ S4096x256.size a)
theorem k0_off766_inb : ∀ (v6139 : BitVec 32) (k0_hw357 : k0_chk357 v6139), ∀ a, (k0_off766 v6139) a + S1x256.size a ≤ S4096x256.size a := fun v6139 k0_hw357 => k0_hw357

def k0_off767 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2240 : BitVec 32 := 1024#32
  let v6146 : BitVec 32 := Scalar.muli v14 c1024_i32_2240
  let c349_i32 : BitVec 32 := 349#32
  let v6147 : BitVec 32 := Scalar.addi v6146 c349_i32
  let v6148 : Index := Scalar.indexCast v6147
  ![v6148.toNat]
def k0_off768 (v6149 : BitVec 32) : Fin 2 → Nat :=
  let c4095_i32_2241 : BitVec 32 := 4095#32
  let v6150 : BitVec 32 := Scalar.andi v6149 c4095_i32_2241
  let v6151 : Index := Scalar.indexCast v6150
  let c0_2242 : Index := 0#32
  ![v6151.toNat, 0]

def k0_chk358 (v6149 : BitVec 32) : Prop :=
  (∀ a, (k0_off768 v6149) a + S1x256.size a ≤ S4096x256.size a)
theorem k0_off768_inb : ∀ (v6149 : BitVec 32) (k0_hw358 : k0_chk358 v6149), ∀ a, (k0_off768 v6149) a + S1x256.size a ≤ S4096x256.size a := fun v6149 k0_hw358 => k0_hw358

def k0_off769 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2244 : BitVec 32 := 1024#32
  let v6156 : BitVec 32 := Scalar.muli v14 c1024_i32_2244
  let c350_i32 : BitVec 32 := 350#32
  let v6157 : BitVec 32 := Scalar.addi v6156 c350_i32
  let v6158 : Index := Scalar.indexCast v6157
  ![v6158.toNat]
def k0_off770 (v6159 : BitVec 32) : Fin 2 → Nat :=
  let c4095_i32_2245 : BitVec 32 := 4095#32
  let v6160 : BitVec 32 := Scalar.andi v6159 c4095_i32_2245
  let v6161 : Index := Scalar.indexCast v6160
  let c0_2246 : Index := 0#32
  ![v6161.toNat, 0]

def k0_chk359 (v6159 : BitVec 32) : Prop :=
  (∀ a, (k0_off770 v6159) a + S1x256.size a ≤ S4096x256.size a)
theorem k0_off770_inb : ∀ (v6159 : BitVec 32) (k0_hw359 : k0_chk359 v6159), ∀ a, (k0_off770 v6159) a + S1x256.size a ≤ S4096x256.size a := fun v6159 k0_hw359 => k0_hw359

def k0_off771 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2248 : BitVec 32 := 1024#32
  let v6166 : BitVec 32 := Scalar.muli v14 c1024_i32_2248
  let c351_i32 : BitVec 32 := 351#32
  let v6167 : BitVec 32 := Scalar.addi v6166 c351_i32
  let v6168 : Index := Scalar.indexCast v6167
  ![v6168.toNat]
def k0_off772 (v6169 : BitVec 32) : Fin 2 → Nat :=
  let c4095_i32_2249 : BitVec 32 := 4095#32
  let v6170 : BitVec 32 := Scalar.andi v6169 c4095_i32_2249
  let v6171 : Index := Scalar.indexCast v6170
  let c0_2250 : Index := 0#32
  ![v6171.toNat, 0]

def k0_chk360 (v6169 : BitVec 32) : Prop :=
  (∀ a, (k0_off772 v6169) a + S1x256.size a ≤ S4096x256.size a)
theorem k0_off772_inb : ∀ (v6169 : BitVec 32) (k0_hw360 : k0_chk360 v6169), ∀ a, (k0_off772 v6169) a + S1x256.size a ≤ S4096x256.size a := fun v6169 k0_hw360 => k0_hw360

def k0_off773 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2252 : BitVec 32 := 1024#32
  let v6176 : BitVec 32 := Scalar.muli v14 c1024_i32_2252
  let c352_i32 : BitVec 32 := 352#32
  let v6177 : BitVec 32 := Scalar.addi v6176 c352_i32
  let v6178 : Index := Scalar.indexCast v6177
  ![v6178.toNat]
def k0_off774 (v6179 : BitVec 32) : Fin 2 → Nat :=
  let c4095_i32_2253 : BitVec 32 := 4095#32
  let v6180 : BitVec 32 := Scalar.andi v6179 c4095_i32_2253
  let v6181 : Index := Scalar.indexCast v6180
  let c0_2254 : Index := 0#32
  ![v6181.toNat, 0]

def k0_chk361 (v6179 : BitVec 32) : Prop :=
  (∀ a, (k0_off774 v6179) a + S1x256.size a ≤ S4096x256.size a)
theorem k0_off774_inb : ∀ (v6179 : BitVec 32) (k0_hw361 : k0_chk361 v6179), ∀ a, (k0_off774 v6179) a + S1x256.size a ≤ S4096x256.size a := fun v6179 k0_hw361 => k0_hw361

def k0_off775 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2256 : BitVec 32 := 1024#32
  let v6186 : BitVec 32 := Scalar.muli v14 c1024_i32_2256
  let c353_i32 : BitVec 32 := 353#32
  let v6187 : BitVec 32 := Scalar.addi v6186 c353_i32
  let v6188 : Index := Scalar.indexCast v6187
  ![v6188.toNat]
def k0_off776 (v6189 : BitVec 32) : Fin 2 → Nat :=
  let c4095_i32_2257 : BitVec 32 := 4095#32
  let v6190 : BitVec 32 := Scalar.andi v6189 c4095_i32_2257
  let v6191 : Index := Scalar.indexCast v6190
  let c0_2258 : Index := 0#32
  ![v6191.toNat, 0]

def k0_chk362 (v6189 : BitVec 32) : Prop :=
  (∀ a, (k0_off776 v6189) a + S1x256.size a ≤ S4096x256.size a)
theorem k0_off776_inb : ∀ (v6189 : BitVec 32) (k0_hw362 : k0_chk362 v6189), ∀ a, (k0_off776 v6189) a + S1x256.size a ≤ S4096x256.size a := fun v6189 k0_hw362 => k0_hw362

def k0_off777 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2260 : BitVec 32 := 1024#32
  let v6196 : BitVec 32 := Scalar.muli v14 c1024_i32_2260
  let c354_i32 : BitVec 32 := 354#32
  let v6197 : BitVec 32 := Scalar.addi v6196 c354_i32
  let v6198 : Index := Scalar.indexCast v6197
  ![v6198.toNat]
def k0_off778 (v6199 : BitVec 32) : Fin 2 → Nat :=
  let c4095_i32_2261 : BitVec 32 := 4095#32
  let v6200 : BitVec 32 := Scalar.andi v6199 c4095_i32_2261
  let v6201 : Index := Scalar.indexCast v6200
  let c0_2262 : Index := 0#32
  ![v6201.toNat, 0]

def k0_chk363 (v6199 : BitVec 32) : Prop :=
  (∀ a, (k0_off778 v6199) a + S1x256.size a ≤ S4096x256.size a)
theorem k0_off778_inb : ∀ (v6199 : BitVec 32) (k0_hw363 : k0_chk363 v6199), ∀ a, (k0_off778 v6199) a + S1x256.size a ≤ S4096x256.size a := fun v6199 k0_hw363 => k0_hw363

def k0_off779 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2264 : BitVec 32 := 1024#32
  let v6206 : BitVec 32 := Scalar.muli v14 c1024_i32_2264
  let c355_i32 : BitVec 32 := 355#32
  let v6207 : BitVec 32 := Scalar.addi v6206 c355_i32
  let v6208 : Index := Scalar.indexCast v6207
  ![v6208.toNat]
def k0_off780 (v6209 : BitVec 32) : Fin 2 → Nat :=
  let c4095_i32_2265 : BitVec 32 := 4095#32
  let v6210 : BitVec 32 := Scalar.andi v6209 c4095_i32_2265
  let v6211 : Index := Scalar.indexCast v6210
  let c0_2266 : Index := 0#32
  ![v6211.toNat, 0]

def k0_chk364 (v6209 : BitVec 32) : Prop :=
  (∀ a, (k0_off780 v6209) a + S1x256.size a ≤ S4096x256.size a)
theorem k0_off780_inb : ∀ (v6209 : BitVec 32) (k0_hw364 : k0_chk364 v6209), ∀ a, (k0_off780 v6209) a + S1x256.size a ≤ S4096x256.size a := fun v6209 k0_hw364 => k0_hw364

def k0_off781 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2268 : BitVec 32 := 1024#32
  let v6216 : BitVec 32 := Scalar.muli v14 c1024_i32_2268
  let c356_i32 : BitVec 32 := 356#32
  let v6217 : BitVec 32 := Scalar.addi v6216 c356_i32
  let v6218 : Index := Scalar.indexCast v6217
  ![v6218.toNat]
def k0_off782 (v6219 : BitVec 32) : Fin 2 → Nat :=
  let c4095_i32_2269 : BitVec 32 := 4095#32
  let v6220 : BitVec 32 := Scalar.andi v6219 c4095_i32_2269
  let v6221 : Index := Scalar.indexCast v6220
  let c0_2270 : Index := 0#32
  ![v6221.toNat, 0]

def k0_chk365 (v6219 : BitVec 32) : Prop :=
  (∀ a, (k0_off782 v6219) a + S1x256.size a ≤ S4096x256.size a)
theorem k0_off782_inb : ∀ (v6219 : BitVec 32) (k0_hw365 : k0_chk365 v6219), ∀ a, (k0_off782 v6219) a + S1x256.size a ≤ S4096x256.size a := fun v6219 k0_hw365 => k0_hw365

def k0_off783 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2272 : BitVec 32 := 1024#32
  let v6226 : BitVec 32 := Scalar.muli v14 c1024_i32_2272
  let c357_i32 : BitVec 32 := 357#32
  let v6227 : BitVec 32 := Scalar.addi v6226 c357_i32
  let v6228 : Index := Scalar.indexCast v6227
  ![v6228.toNat]
def k0_off784 (v6229 : BitVec 32) : Fin 2 → Nat :=
  let c4095_i32_2273 : BitVec 32 := 4095#32
  let v6230 : BitVec 32 := Scalar.andi v6229 c4095_i32_2273
  let v6231 : Index := Scalar.indexCast v6230
  let c0_2274 : Index := 0#32
  ![v6231.toNat, 0]

def k0_chk366 (v6229 : BitVec 32) : Prop :=
  (∀ a, (k0_off784 v6229) a + S1x256.size a ≤ S4096x256.size a)
theorem k0_off784_inb : ∀ (v6229 : BitVec 32) (k0_hw366 : k0_chk366 v6229), ∀ a, (k0_off784 v6229) a + S1x256.size a ≤ S4096x256.size a := fun v6229 k0_hw366 => k0_hw366

def k0_off785 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2276 : BitVec 32 := 1024#32
  let v6236 : BitVec 32 := Scalar.muli v14 c1024_i32_2276
  let c358_i32 : BitVec 32 := 358#32
  let v6237 : BitVec 32 := Scalar.addi v6236 c358_i32
  let v6238 : Index := Scalar.indexCast v6237
  ![v6238.toNat]
def k0_off786 (v6239 : BitVec 32) : Fin 2 → Nat :=
  let c4095_i32_2277 : BitVec 32 := 4095#32
  let v6240 : BitVec 32 := Scalar.andi v6239 c4095_i32_2277
  let v6241 : Index := Scalar.indexCast v6240
  let c0_2278 : Index := 0#32
  ![v6241.toNat, 0]

def k0_chk367 (v6239 : BitVec 32) : Prop :=
  (∀ a, (k0_off786 v6239) a + S1x256.size a ≤ S4096x256.size a)
theorem k0_off786_inb : ∀ (v6239 : BitVec 32) (k0_hw367 : k0_chk367 v6239), ∀ a, (k0_off786 v6239) a + S1x256.size a ≤ S4096x256.size a := fun v6239 k0_hw367 => k0_hw367

def k0_off787 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2280 : BitVec 32 := 1024#32
  let v6246 : BitVec 32 := Scalar.muli v14 c1024_i32_2280
  let c359_i32 : BitVec 32 := 359#32
  let v6247 : BitVec 32 := Scalar.addi v6246 c359_i32
  let v6248 : Index := Scalar.indexCast v6247
  ![v6248.toNat]
def k0_off788 (v6249 : BitVec 32) : Fin 2 → Nat :=
  let c4095_i32_2281 : BitVec 32 := 4095#32
  let v6250 : BitVec 32 := Scalar.andi v6249 c4095_i32_2281
  let v6251 : Index := Scalar.indexCast v6250
  let c0_2282 : Index := 0#32
  ![v6251.toNat, 0]

def k0_chk368 (v6249 : BitVec 32) : Prop :=
  (∀ a, (k0_off788 v6249) a + S1x256.size a ≤ S4096x256.size a)
theorem k0_off788_inb : ∀ (v6249 : BitVec 32) (k0_hw368 : k0_chk368 v6249), ∀ a, (k0_off788 v6249) a + S1x256.size a ≤ S4096x256.size a := fun v6249 k0_hw368 => k0_hw368

def k0_off789 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2284 : BitVec 32 := 1024#32
  let v6256 : BitVec 32 := Scalar.muli v14 c1024_i32_2284
  let c360_i32 : BitVec 32 := 360#32
  let v6257 : BitVec 32 := Scalar.addi v6256 c360_i32
  let v6258 : Index := Scalar.indexCast v6257
  ![v6258.toNat]
def k0_off790 (v6259 : BitVec 32) : Fin 2 → Nat :=
  let c4095_i32_2285 : BitVec 32 := 4095#32
  let v6260 : BitVec 32 := Scalar.andi v6259 c4095_i32_2285
  let v6261 : Index := Scalar.indexCast v6260
  let c0_2286 : Index := 0#32
  ![v6261.toNat, 0]

def k0_chk369 (v6259 : BitVec 32) : Prop :=
  (∀ a, (k0_off790 v6259) a + S1x256.size a ≤ S4096x256.size a)
theorem k0_off790_inb : ∀ (v6259 : BitVec 32) (k0_hw369 : k0_chk369 v6259), ∀ a, (k0_off790 v6259) a + S1x256.size a ≤ S4096x256.size a := fun v6259 k0_hw369 => k0_hw369

def k0_off791 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2288 : BitVec 32 := 1024#32
  let v6266 : BitVec 32 := Scalar.muli v14 c1024_i32_2288
  let c361_i32 : BitVec 32 := 361#32
  let v6267 : BitVec 32 := Scalar.addi v6266 c361_i32
  let v6268 : Index := Scalar.indexCast v6267
  ![v6268.toNat]
def k0_off792 (v6269 : BitVec 32) : Fin 2 → Nat :=
  let c4095_i32_2289 : BitVec 32 := 4095#32
  let v6270 : BitVec 32 := Scalar.andi v6269 c4095_i32_2289
  let v6271 : Index := Scalar.indexCast v6270
  let c0_2290 : Index := 0#32
  ![v6271.toNat, 0]

def k0_chk370 (v6269 : BitVec 32) : Prop :=
  (∀ a, (k0_off792 v6269) a + S1x256.size a ≤ S4096x256.size a)
theorem k0_off792_inb : ∀ (v6269 : BitVec 32) (k0_hw370 : k0_chk370 v6269), ∀ a, (k0_off792 v6269) a + S1x256.size a ≤ S4096x256.size a := fun v6269 k0_hw370 => k0_hw370

def k0_off793 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2292 : BitVec 32 := 1024#32
  let v6276 : BitVec 32 := Scalar.muli v14 c1024_i32_2292
  let c362_i32 : BitVec 32 := 362#32
  let v6277 : BitVec 32 := Scalar.addi v6276 c362_i32
  let v6278 : Index := Scalar.indexCast v6277
  ![v6278.toNat]
def k0_off794 (v6279 : BitVec 32) : Fin 2 → Nat :=
  let c4095_i32_2293 : BitVec 32 := 4095#32
  let v6280 : BitVec 32 := Scalar.andi v6279 c4095_i32_2293
  let v6281 : Index := Scalar.indexCast v6280
  let c0_2294 : Index := 0#32
  ![v6281.toNat, 0]

def k0_chk371 (v6279 : BitVec 32) : Prop :=
  (∀ a, (k0_off794 v6279) a + S1x256.size a ≤ S4096x256.size a)
theorem k0_off794_inb : ∀ (v6279 : BitVec 32) (k0_hw371 : k0_chk371 v6279), ∀ a, (k0_off794 v6279) a + S1x256.size a ≤ S4096x256.size a := fun v6279 k0_hw371 => k0_hw371

def k0_off795 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2296 : BitVec 32 := 1024#32
  let v6286 : BitVec 32 := Scalar.muli v14 c1024_i32_2296
  let c363_i32 : BitVec 32 := 363#32
  let v6287 : BitVec 32 := Scalar.addi v6286 c363_i32
  let v6288 : Index := Scalar.indexCast v6287
  ![v6288.toNat]
def k0_off796 (v6289 : BitVec 32) : Fin 2 → Nat :=
  let c4095_i32_2297 : BitVec 32 := 4095#32
  let v6290 : BitVec 32 := Scalar.andi v6289 c4095_i32_2297
  let v6291 : Index := Scalar.indexCast v6290
  let c0_2298 : Index := 0#32
  ![v6291.toNat, 0]

def k0_chk372 (v6289 : BitVec 32) : Prop :=
  (∀ a, (k0_off796 v6289) a + S1x256.size a ≤ S4096x256.size a)
theorem k0_off796_inb : ∀ (v6289 : BitVec 32) (k0_hw372 : k0_chk372 v6289), ∀ a, (k0_off796 v6289) a + S1x256.size a ≤ S4096x256.size a := fun v6289 k0_hw372 => k0_hw372

def k0_off797 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2300 : BitVec 32 := 1024#32
  let v6296 : BitVec 32 := Scalar.muli v14 c1024_i32_2300
  let c364_i32 : BitVec 32 := 364#32
  let v6297 : BitVec 32 := Scalar.addi v6296 c364_i32
  let v6298 : Index := Scalar.indexCast v6297
  ![v6298.toNat]
def k0_off798 (v6299 : BitVec 32) : Fin 2 → Nat :=
  let c4095_i32_2301 : BitVec 32 := 4095#32
  let v6300 : BitVec 32 := Scalar.andi v6299 c4095_i32_2301
  let v6301 : Index := Scalar.indexCast v6300
  let c0_2302 : Index := 0#32
  ![v6301.toNat, 0]

def k0_chk373 (v6299 : BitVec 32) : Prop :=
  (∀ a, (k0_off798 v6299) a + S1x256.size a ≤ S4096x256.size a)
theorem k0_off798_inb : ∀ (v6299 : BitVec 32) (k0_hw373 : k0_chk373 v6299), ∀ a, (k0_off798 v6299) a + S1x256.size a ≤ S4096x256.size a := fun v6299 k0_hw373 => k0_hw373

def k0_off799 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2304 : BitVec 32 := 1024#32
  let v6306 : BitVec 32 := Scalar.muli v14 c1024_i32_2304
  let c365_i32 : BitVec 32 := 365#32
  let v6307 : BitVec 32 := Scalar.addi v6306 c365_i32
  let v6308 : Index := Scalar.indexCast v6307
  ![v6308.toNat]
def k0_off800 (v6309 : BitVec 32) : Fin 2 → Nat :=
  let c4095_i32_2305 : BitVec 32 := 4095#32
  let v6310 : BitVec 32 := Scalar.andi v6309 c4095_i32_2305
  let v6311 : Index := Scalar.indexCast v6310
  let c0_2306 : Index := 0#32
  ![v6311.toNat, 0]

def k0_chk374 (v6309 : BitVec 32) : Prop :=
  (∀ a, (k0_off800 v6309) a + S1x256.size a ≤ S4096x256.size a)
theorem k0_off800_inb : ∀ (v6309 : BitVec 32) (k0_hw374 : k0_chk374 v6309), ∀ a, (k0_off800 v6309) a + S1x256.size a ≤ S4096x256.size a := fun v6309 k0_hw374 => k0_hw374

def k0_off801 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2308 : BitVec 32 := 1024#32
  let v6316 : BitVec 32 := Scalar.muli v14 c1024_i32_2308
  let c366_i32 : BitVec 32 := 366#32
  let v6317 : BitVec 32 := Scalar.addi v6316 c366_i32
  let v6318 : Index := Scalar.indexCast v6317
  ![v6318.toNat]
def k0_off802 (v6319 : BitVec 32) : Fin 2 → Nat :=
  let c4095_i32_2309 : BitVec 32 := 4095#32
  let v6320 : BitVec 32 := Scalar.andi v6319 c4095_i32_2309
  let v6321 : Index := Scalar.indexCast v6320
  let c0_2310 : Index := 0#32
  ![v6321.toNat, 0]

def k0_chk375 (v6319 : BitVec 32) : Prop :=
  (∀ a, (k0_off802 v6319) a + S1x256.size a ≤ S4096x256.size a)
theorem k0_off802_inb : ∀ (v6319 : BitVec 32) (k0_hw375 : k0_chk375 v6319), ∀ a, (k0_off802 v6319) a + S1x256.size a ≤ S4096x256.size a := fun v6319 k0_hw375 => k0_hw375

def k0_off803 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2312 : BitVec 32 := 1024#32
  let v6326 : BitVec 32 := Scalar.muli v14 c1024_i32_2312
  let c367_i32 : BitVec 32 := 367#32
  let v6327 : BitVec 32 := Scalar.addi v6326 c367_i32
  let v6328 : Index := Scalar.indexCast v6327
  ![v6328.toNat]
def k0_off804 (v6329 : BitVec 32) : Fin 2 → Nat :=
  let c4095_i32_2313 : BitVec 32 := 4095#32
  let v6330 : BitVec 32 := Scalar.andi v6329 c4095_i32_2313
  let v6331 : Index := Scalar.indexCast v6330
  let c0_2314 : Index := 0#32
  ![v6331.toNat, 0]

def k0_chk376 (v6329 : BitVec 32) : Prop :=
  (∀ a, (k0_off804 v6329) a + S1x256.size a ≤ S4096x256.size a)
theorem k0_off804_inb : ∀ (v6329 : BitVec 32) (k0_hw376 : k0_chk376 v6329), ∀ a, (k0_off804 v6329) a + S1x256.size a ≤ S4096x256.size a := fun v6329 k0_hw376 => k0_hw376

def k0_off805 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2316 : BitVec 32 := 1024#32
  let v6336 : BitVec 32 := Scalar.muli v14 c1024_i32_2316
  let c368_i32 : BitVec 32 := 368#32
  let v6337 : BitVec 32 := Scalar.addi v6336 c368_i32
  let v6338 : Index := Scalar.indexCast v6337
  ![v6338.toNat]
def k0_off806 (v6339 : BitVec 32) : Fin 2 → Nat :=
  let c4095_i32_2317 : BitVec 32 := 4095#32
  let v6340 : BitVec 32 := Scalar.andi v6339 c4095_i32_2317
  let v6341 : Index := Scalar.indexCast v6340
  let c0_2318 : Index := 0#32
  ![v6341.toNat, 0]

def k0_chk377 (v6339 : BitVec 32) : Prop :=
  (∀ a, (k0_off806 v6339) a + S1x256.size a ≤ S4096x256.size a)
theorem k0_off806_inb : ∀ (v6339 : BitVec 32) (k0_hw377 : k0_chk377 v6339), ∀ a, (k0_off806 v6339) a + S1x256.size a ≤ S4096x256.size a := fun v6339 k0_hw377 => k0_hw377

def k0_off807 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2320 : BitVec 32 := 1024#32
  let v6346 : BitVec 32 := Scalar.muli v14 c1024_i32_2320
  let c369_i32 : BitVec 32 := 369#32
  let v6347 : BitVec 32 := Scalar.addi v6346 c369_i32
  let v6348 : Index := Scalar.indexCast v6347
  ![v6348.toNat]
def k0_off808 (v6349 : BitVec 32) : Fin 2 → Nat :=
  let c4095_i32_2321 : BitVec 32 := 4095#32
  let v6350 : BitVec 32 := Scalar.andi v6349 c4095_i32_2321
  let v6351 : Index := Scalar.indexCast v6350
  let c0_2322 : Index := 0#32
  ![v6351.toNat, 0]

def k0_chk378 (v6349 : BitVec 32) : Prop :=
  (∀ a, (k0_off808 v6349) a + S1x256.size a ≤ S4096x256.size a)
theorem k0_off808_inb : ∀ (v6349 : BitVec 32) (k0_hw378 : k0_chk378 v6349), ∀ a, (k0_off808 v6349) a + S1x256.size a ≤ S4096x256.size a := fun v6349 k0_hw378 => k0_hw378

def k0_off809 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2324 : BitVec 32 := 1024#32
  let v6356 : BitVec 32 := Scalar.muli v14 c1024_i32_2324
  let c370_i32 : BitVec 32 := 370#32
  let v6357 : BitVec 32 := Scalar.addi v6356 c370_i32
  let v6358 : Index := Scalar.indexCast v6357
  ![v6358.toNat]
def k0_off810 (v6359 : BitVec 32) : Fin 2 → Nat :=
  let c4095_i32_2325 : BitVec 32 := 4095#32
  let v6360 : BitVec 32 := Scalar.andi v6359 c4095_i32_2325
  let v6361 : Index := Scalar.indexCast v6360
  let c0_2326 : Index := 0#32
  ![v6361.toNat, 0]

def k0_chk379 (v6359 : BitVec 32) : Prop :=
  (∀ a, (k0_off810 v6359) a + S1x256.size a ≤ S4096x256.size a)
theorem k0_off810_inb : ∀ (v6359 : BitVec 32) (k0_hw379 : k0_chk379 v6359), ∀ a, (k0_off810 v6359) a + S1x256.size a ≤ S4096x256.size a := fun v6359 k0_hw379 => k0_hw379

def k0_off811 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2328 : BitVec 32 := 1024#32
  let v6366 : BitVec 32 := Scalar.muli v14 c1024_i32_2328
  let c371_i32 : BitVec 32 := 371#32
  let v6367 : BitVec 32 := Scalar.addi v6366 c371_i32
  let v6368 : Index := Scalar.indexCast v6367
  ![v6368.toNat]
def k0_off812 (v6369 : BitVec 32) : Fin 2 → Nat :=
  let c4095_i32_2329 : BitVec 32 := 4095#32
  let v6370 : BitVec 32 := Scalar.andi v6369 c4095_i32_2329
  let v6371 : Index := Scalar.indexCast v6370
  let c0_2330 : Index := 0#32
  ![v6371.toNat, 0]

def k0_chk380 (v6369 : BitVec 32) : Prop :=
  (∀ a, (k0_off812 v6369) a + S1x256.size a ≤ S4096x256.size a)
theorem k0_off812_inb : ∀ (v6369 : BitVec 32) (k0_hw380 : k0_chk380 v6369), ∀ a, (k0_off812 v6369) a + S1x256.size a ≤ S4096x256.size a := fun v6369 k0_hw380 => k0_hw380

def k0_off813 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2332 : BitVec 32 := 1024#32
  let v6376 : BitVec 32 := Scalar.muli v14 c1024_i32_2332
  let c372_i32 : BitVec 32 := 372#32
  let v6377 : BitVec 32 := Scalar.addi v6376 c372_i32
  let v6378 : Index := Scalar.indexCast v6377
  ![v6378.toNat]
def k0_off814 (v6379 : BitVec 32) : Fin 2 → Nat :=
  let c4095_i32_2333 : BitVec 32 := 4095#32
  let v6380 : BitVec 32 := Scalar.andi v6379 c4095_i32_2333
  let v6381 : Index := Scalar.indexCast v6380
  let c0_2334 : Index := 0#32
  ![v6381.toNat, 0]

def k0_chk381 (v6379 : BitVec 32) : Prop :=
  (∀ a, (k0_off814 v6379) a + S1x256.size a ≤ S4096x256.size a)
theorem k0_off814_inb : ∀ (v6379 : BitVec 32) (k0_hw381 : k0_chk381 v6379), ∀ a, (k0_off814 v6379) a + S1x256.size a ≤ S4096x256.size a := fun v6379 k0_hw381 => k0_hw381

def k0_off815 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2336 : BitVec 32 := 1024#32
  let v6386 : BitVec 32 := Scalar.muli v14 c1024_i32_2336
  let c373_i32 : BitVec 32 := 373#32
  let v6387 : BitVec 32 := Scalar.addi v6386 c373_i32
  let v6388 : Index := Scalar.indexCast v6387
  ![v6388.toNat]
def k0_off816 (v6389 : BitVec 32) : Fin 2 → Nat :=
  let c4095_i32_2337 : BitVec 32 := 4095#32
  let v6390 : BitVec 32 := Scalar.andi v6389 c4095_i32_2337
  let v6391 : Index := Scalar.indexCast v6390
  let c0_2338 : Index := 0#32
  ![v6391.toNat, 0]

def k0_chk382 (v6389 : BitVec 32) : Prop :=
  (∀ a, (k0_off816 v6389) a + S1x256.size a ≤ S4096x256.size a)
theorem k0_off816_inb : ∀ (v6389 : BitVec 32) (k0_hw382 : k0_chk382 v6389), ∀ a, (k0_off816 v6389) a + S1x256.size a ≤ S4096x256.size a := fun v6389 k0_hw382 => k0_hw382

def k0_off817 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2340 : BitVec 32 := 1024#32
  let v6396 : BitVec 32 := Scalar.muli v14 c1024_i32_2340
  let c374_i32 : BitVec 32 := 374#32
  let v6397 : BitVec 32 := Scalar.addi v6396 c374_i32
  let v6398 : Index := Scalar.indexCast v6397
  ![v6398.toNat]
def k0_off818 (v6399 : BitVec 32) : Fin 2 → Nat :=
  let c4095_i32_2341 : BitVec 32 := 4095#32
  let v6400 : BitVec 32 := Scalar.andi v6399 c4095_i32_2341
  let v6401 : Index := Scalar.indexCast v6400
  let c0_2342 : Index := 0#32
  ![v6401.toNat, 0]

def k0_chk383 (v6399 : BitVec 32) : Prop :=
  (∀ a, (k0_off818 v6399) a + S1x256.size a ≤ S4096x256.size a)
theorem k0_off818_inb : ∀ (v6399 : BitVec 32) (k0_hw383 : k0_chk383 v6399), ∀ a, (k0_off818 v6399) a + S1x256.size a ≤ S4096x256.size a := fun v6399 k0_hw383 => k0_hw383

def k0_off819 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2344 : BitVec 32 := 1024#32
  let v6406 : BitVec 32 := Scalar.muli v14 c1024_i32_2344
  let c375_i32 : BitVec 32 := 375#32
  let v6407 : BitVec 32 := Scalar.addi v6406 c375_i32
  let v6408 : Index := Scalar.indexCast v6407
  ![v6408.toNat]
def k0_off820 (v6409 : BitVec 32) : Fin 2 → Nat :=
  let c4095_i32_2345 : BitVec 32 := 4095#32
  let v6410 : BitVec 32 := Scalar.andi v6409 c4095_i32_2345
  let v6411 : Index := Scalar.indexCast v6410
  let c0_2346 : Index := 0#32
  ![v6411.toNat, 0]

def k0_chk384 (v6409 : BitVec 32) : Prop :=
  (∀ a, (k0_off820 v6409) a + S1x256.size a ≤ S4096x256.size a)
theorem k0_off820_inb : ∀ (v6409 : BitVec 32) (k0_hw384 : k0_chk384 v6409), ∀ a, (k0_off820 v6409) a + S1x256.size a ≤ S4096x256.size a := fun v6409 k0_hw384 => k0_hw384

def k0_off821 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2348 : BitVec 32 := 1024#32
  let v6416 : BitVec 32 := Scalar.muli v14 c1024_i32_2348
  let c376_i32 : BitVec 32 := 376#32
  let v6417 : BitVec 32 := Scalar.addi v6416 c376_i32
  let v6418 : Index := Scalar.indexCast v6417
  ![v6418.toNat]
def k0_off822 (v6419 : BitVec 32) : Fin 2 → Nat :=
  let c4095_i32_2349 : BitVec 32 := 4095#32
  let v6420 : BitVec 32 := Scalar.andi v6419 c4095_i32_2349
  let v6421 : Index := Scalar.indexCast v6420
  let c0_2350 : Index := 0#32
  ![v6421.toNat, 0]

def k0_chk385 (v6419 : BitVec 32) : Prop :=
  (∀ a, (k0_off822 v6419) a + S1x256.size a ≤ S4096x256.size a)
theorem k0_off822_inb : ∀ (v6419 : BitVec 32) (k0_hw385 : k0_chk385 v6419), ∀ a, (k0_off822 v6419) a + S1x256.size a ≤ S4096x256.size a := fun v6419 k0_hw385 => k0_hw385

def k0_off823 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2352 : BitVec 32 := 1024#32
  let v6426 : BitVec 32 := Scalar.muli v14 c1024_i32_2352
  let c377_i32 : BitVec 32 := 377#32
  let v6427 : BitVec 32 := Scalar.addi v6426 c377_i32
  let v6428 : Index := Scalar.indexCast v6427
  ![v6428.toNat]
def k0_off824 (v6429 : BitVec 32) : Fin 2 → Nat :=
  let c4095_i32_2353 : BitVec 32 := 4095#32
  let v6430 : BitVec 32 := Scalar.andi v6429 c4095_i32_2353
  let v6431 : Index := Scalar.indexCast v6430
  let c0_2354 : Index := 0#32
  ![v6431.toNat, 0]

def k0_chk386 (v6429 : BitVec 32) : Prop :=
  (∀ a, (k0_off824 v6429) a + S1x256.size a ≤ S4096x256.size a)
theorem k0_off824_inb : ∀ (v6429 : BitVec 32) (k0_hw386 : k0_chk386 v6429), ∀ a, (k0_off824 v6429) a + S1x256.size a ≤ S4096x256.size a := fun v6429 k0_hw386 => k0_hw386

def k0_off825 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2356 : BitVec 32 := 1024#32
  let v6436 : BitVec 32 := Scalar.muli v14 c1024_i32_2356
  let c378_i32 : BitVec 32 := 378#32
  let v6437 : BitVec 32 := Scalar.addi v6436 c378_i32
  let v6438 : Index := Scalar.indexCast v6437
  ![v6438.toNat]
def k0_off826 (v6439 : BitVec 32) : Fin 2 → Nat :=
  let c4095_i32_2357 : BitVec 32 := 4095#32
  let v6440 : BitVec 32 := Scalar.andi v6439 c4095_i32_2357
  let v6441 : Index := Scalar.indexCast v6440
  let c0_2358 : Index := 0#32
  ![v6441.toNat, 0]

def k0_chk387 (v6439 : BitVec 32) : Prop :=
  (∀ a, (k0_off826 v6439) a + S1x256.size a ≤ S4096x256.size a)
theorem k0_off826_inb : ∀ (v6439 : BitVec 32) (k0_hw387 : k0_chk387 v6439), ∀ a, (k0_off826 v6439) a + S1x256.size a ≤ S4096x256.size a := fun v6439 k0_hw387 => k0_hw387

def k0_off827 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2360 : BitVec 32 := 1024#32
  let v6446 : BitVec 32 := Scalar.muli v14 c1024_i32_2360
  let c379_i32 : BitVec 32 := 379#32
  let v6447 : BitVec 32 := Scalar.addi v6446 c379_i32
  let v6448 : Index := Scalar.indexCast v6447
  ![v6448.toNat]
def k0_off828 (v6449 : BitVec 32) : Fin 2 → Nat :=
  let c4095_i32_2361 : BitVec 32 := 4095#32
  let v6450 : BitVec 32 := Scalar.andi v6449 c4095_i32_2361
  let v6451 : Index := Scalar.indexCast v6450
  let c0_2362 : Index := 0#32
  ![v6451.toNat, 0]

def k0_chk388 (v6449 : BitVec 32) : Prop :=
  (∀ a, (k0_off828 v6449) a + S1x256.size a ≤ S4096x256.size a)
theorem k0_off828_inb : ∀ (v6449 : BitVec 32) (k0_hw388 : k0_chk388 v6449), ∀ a, (k0_off828 v6449) a + S1x256.size a ≤ S4096x256.size a := fun v6449 k0_hw388 => k0_hw388

def k0_off829 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v6513 : Index := Scalar.indexCast v12
  let c0_2379 : Index := 0#32
  let c0_2380 : Index := 0#32
  ![v6513.toNat, 0, 0]
def k0_off830 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v6574 : Index := Scalar.indexCast v12
  let c0_2398 : Index := 0#32
  let c256_2399 : Index := 256#32
  ![v6574.toNat, 0, 256]
def k0_off831 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v6636 : Index := Scalar.indexCast v12
  let c0_2417 : Index := 0#32
  let c512_2418 : Index := 512#32
  ![v6636.toNat, 0, 512]
def k0_off832 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v6698 : Index := Scalar.indexCast v12
  let c0_2436 : Index := 0#32
  let c768_2437 : Index := 768#32
  ![v6698.toNat, 0, 768]
def k0_off833 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2443 : BitVec 32 := 1024#32
  let v6708 : BitVec 32 := Scalar.muli v14 c1024_i32_2443
  let c380_i32 : BitVec 32 := 380#32
  let v6709 : BitVec 32 := Scalar.addi v6708 c380_i32
  let v6710 : Index := Scalar.indexCast v6709
  ![v6710.toNat]
def k0_off834 (v6711 : BitVec 32) : Fin 2 → Nat :=
  let c4095_i32_2444 : BitVec 32 := 4095#32
  let v6712 : BitVec 32 := Scalar.andi v6711 c4095_i32_2444
  let v6713 : Index := Scalar.indexCast v6712
  let c0_2445 : Index := 0#32
  ![v6713.toNat, 0]

def k0_chk389 (v6711 : BitVec 32) : Prop :=
  (∀ a, (k0_off834 v6711) a + S1x256.size a ≤ S4096x256.size a)
theorem k0_off834_inb : ∀ (v6711 : BitVec 32) (k0_hw389 : k0_chk389 v6711), ∀ a, (k0_off834 v6711) a + S1x256.size a ≤ S4096x256.size a := fun v6711 k0_hw389 => k0_hw389

def k0_off835 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2447 : BitVec 32 := 1024#32
  let v6718 : BitVec 32 := Scalar.muli v14 c1024_i32_2447
  let c381_i32 : BitVec 32 := 381#32
  let v6719 : BitVec 32 := Scalar.addi v6718 c381_i32
  let v6720 : Index := Scalar.indexCast v6719
  ![v6720.toNat]
def k0_off836 (v6721 : BitVec 32) : Fin 2 → Nat :=
  let c4095_i32_2448 : BitVec 32 := 4095#32
  let v6722 : BitVec 32 := Scalar.andi v6721 c4095_i32_2448
  let v6723 : Index := Scalar.indexCast v6722
  let c0_2449 : Index := 0#32
  ![v6723.toNat, 0]

def k0_chk390 (v6721 : BitVec 32) : Prop :=
  (∀ a, (k0_off836 v6721) a + S1x256.size a ≤ S4096x256.size a)
theorem k0_off836_inb : ∀ (v6721 : BitVec 32) (k0_hw390 : k0_chk390 v6721), ∀ a, (k0_off836 v6721) a + S1x256.size a ≤ S4096x256.size a := fun v6721 k0_hw390 => k0_hw390

def k0_off837 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2451 : BitVec 32 := 1024#32
  let v6728 : BitVec 32 := Scalar.muli v14 c1024_i32_2451
  let c382_i32 : BitVec 32 := 382#32
  let v6729 : BitVec 32 := Scalar.addi v6728 c382_i32
  let v6730 : Index := Scalar.indexCast v6729
  ![v6730.toNat]
def k0_off838 (v6731 : BitVec 32) : Fin 2 → Nat :=
  let c4095_i32_2452 : BitVec 32 := 4095#32
  let v6732 : BitVec 32 := Scalar.andi v6731 c4095_i32_2452
  let v6733 : Index := Scalar.indexCast v6732
  let c0_2453 : Index := 0#32
  ![v6733.toNat, 0]

def k0_chk391 (v6731 : BitVec 32) : Prop :=
  (∀ a, (k0_off838 v6731) a + S1x256.size a ≤ S4096x256.size a)
theorem k0_off838_inb : ∀ (v6731 : BitVec 32) (k0_hw391 : k0_chk391 v6731), ∀ a, (k0_off838 v6731) a + S1x256.size a ≤ S4096x256.size a := fun v6731 k0_hw391 => k0_hw391

def k0_off839 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2455 : BitVec 32 := 1024#32
  let v6738 : BitVec 32 := Scalar.muli v14 c1024_i32_2455
  let c383_i32 : BitVec 32 := 383#32
  let v6739 : BitVec 32 := Scalar.addi v6738 c383_i32
  let v6740 : Index := Scalar.indexCast v6739
  ![v6740.toNat]
def k0_off840 (v6741 : BitVec 32) : Fin 2 → Nat :=
  let c4095_i32_2456 : BitVec 32 := 4095#32
  let v6742 : BitVec 32 := Scalar.andi v6741 c4095_i32_2456
  let v6743 : Index := Scalar.indexCast v6742
  let c0_2457 : Index := 0#32
  ![v6743.toNat, 0]

def k0_chk392 (v6741 : BitVec 32) : Prop :=
  (∀ a, (k0_off840 v6741) a + S1x256.size a ≤ S4096x256.size a)
theorem k0_off840_inb : ∀ (v6741 : BitVec 32) (k0_hw392 : k0_chk392 v6741), ∀ a, (k0_off840 v6741) a + S1x256.size a ≤ S4096x256.size a := fun v6741 k0_hw392 => k0_hw392

def k0_off841 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2459 : BitVec 32 := 1024#32
  let v6748 : BitVec 32 := Scalar.muli v14 c1024_i32_2459
  let c384_i32 : BitVec 32 := 384#32
  let v6749 : BitVec 32 := Scalar.addi v6748 c384_i32
  let v6750 : Index := Scalar.indexCast v6749
  ![v6750.toNat]
def k0_off842 (v6751 : BitVec 32) : Fin 2 → Nat :=
  let c4095_i32_2460 : BitVec 32 := 4095#32
  let v6752 : BitVec 32 := Scalar.andi v6751 c4095_i32_2460
  let v6753 : Index := Scalar.indexCast v6752
  let c0_2461 : Index := 0#32
  ![v6753.toNat, 0]

def k0_chk393 (v6751 : BitVec 32) : Prop :=
  (∀ a, (k0_off842 v6751) a + S1x256.size a ≤ S4096x256.size a)
theorem k0_off842_inb : ∀ (v6751 : BitVec 32) (k0_hw393 : k0_chk393 v6751), ∀ a, (k0_off842 v6751) a + S1x256.size a ≤ S4096x256.size a := fun v6751 k0_hw393 => k0_hw393

def k0_off843 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2464 : BitVec 32 := 1024#32
  let v6758 : BitVec 32 := Scalar.muli v14 c1024_i32_2464
  let c385_i32 : BitVec 32 := 385#32
  let v6759 : BitVec 32 := Scalar.addi v6758 c385_i32
  let v6760 : Index := Scalar.indexCast v6759
  ![v6760.toNat]
def k0_off844 (v6761 : BitVec 32) : Fin 2 → Nat :=
  let c4095_i32_2465 : BitVec 32 := 4095#32
  let v6762 : BitVec 32 := Scalar.andi v6761 c4095_i32_2465
  let v6763 : Index := Scalar.indexCast v6762
  let c0_2466 : Index := 0#32
  ![v6763.toNat, 0]

def k0_chk394 (v6761 : BitVec 32) : Prop :=
  (∀ a, (k0_off844 v6761) a + S1x256.size a ≤ S4096x256.size a)
theorem k0_off844_inb : ∀ (v6761 : BitVec 32) (k0_hw394 : k0_chk394 v6761), ∀ a, (k0_off844 v6761) a + S1x256.size a ≤ S4096x256.size a := fun v6761 k0_hw394 => k0_hw394

def k0_off845 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2468 : BitVec 32 := 1024#32
  let v6768 : BitVec 32 := Scalar.muli v14 c1024_i32_2468
  let c386_i32 : BitVec 32 := 386#32
  let v6769 : BitVec 32 := Scalar.addi v6768 c386_i32
  let v6770 : Index := Scalar.indexCast v6769
  ![v6770.toNat]
def k0_off846 (v6771 : BitVec 32) : Fin 2 → Nat :=
  let c4095_i32_2469 : BitVec 32 := 4095#32
  let v6772 : BitVec 32 := Scalar.andi v6771 c4095_i32_2469
  let v6773 : Index := Scalar.indexCast v6772
  let c0_2470 : Index := 0#32
  ![v6773.toNat, 0]

def k0_chk395 (v6771 : BitVec 32) : Prop :=
  (∀ a, (k0_off846 v6771) a + S1x256.size a ≤ S4096x256.size a)
theorem k0_off846_inb : ∀ (v6771 : BitVec 32) (k0_hw395 : k0_chk395 v6771), ∀ a, (k0_off846 v6771) a + S1x256.size a ≤ S4096x256.size a := fun v6771 k0_hw395 => k0_hw395

def k0_off847 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2472 : BitVec 32 := 1024#32
  let v6778 : BitVec 32 := Scalar.muli v14 c1024_i32_2472
  let c387_i32 : BitVec 32 := 387#32
  let v6779 : BitVec 32 := Scalar.addi v6778 c387_i32
  let v6780 : Index := Scalar.indexCast v6779
  ![v6780.toNat]
def k0_off848 (v6781 : BitVec 32) : Fin 2 → Nat :=
  let c4095_i32_2473 : BitVec 32 := 4095#32
  let v6782 : BitVec 32 := Scalar.andi v6781 c4095_i32_2473
  let v6783 : Index := Scalar.indexCast v6782
  let c0_2474 : Index := 0#32
  ![v6783.toNat, 0]

def k0_chk396 (v6781 : BitVec 32) : Prop :=
  (∀ a, (k0_off848 v6781) a + S1x256.size a ≤ S4096x256.size a)
theorem k0_off848_inb : ∀ (v6781 : BitVec 32) (k0_hw396 : k0_chk396 v6781), ∀ a, (k0_off848 v6781) a + S1x256.size a ≤ S4096x256.size a := fun v6781 k0_hw396 => k0_hw396

def k0_off849 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2476 : BitVec 32 := 1024#32
  let v6788 : BitVec 32 := Scalar.muli v14 c1024_i32_2476
  let c388_i32 : BitVec 32 := 388#32
  let v6789 : BitVec 32 := Scalar.addi v6788 c388_i32
  let v6790 : Index := Scalar.indexCast v6789
  ![v6790.toNat]
def k0_off850 (v6791 : BitVec 32) : Fin 2 → Nat :=
  let c4095_i32_2477 : BitVec 32 := 4095#32
  let v6792 : BitVec 32 := Scalar.andi v6791 c4095_i32_2477
  let v6793 : Index := Scalar.indexCast v6792
  let c0_2478 : Index := 0#32
  ![v6793.toNat, 0]

def k0_chk397 (v6791 : BitVec 32) : Prop :=
  (∀ a, (k0_off850 v6791) a + S1x256.size a ≤ S4096x256.size a)
theorem k0_off850_inb : ∀ (v6791 : BitVec 32) (k0_hw397 : k0_chk397 v6791), ∀ a, (k0_off850 v6791) a + S1x256.size a ≤ S4096x256.size a := fun v6791 k0_hw397 => k0_hw397

def k0_off851 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2480 : BitVec 32 := 1024#32
  let v6798 : BitVec 32 := Scalar.muli v14 c1024_i32_2480
  let c389_i32 : BitVec 32 := 389#32
  let v6799 : BitVec 32 := Scalar.addi v6798 c389_i32
  let v6800 : Index := Scalar.indexCast v6799
  ![v6800.toNat]
def k0_off852 (v6801 : BitVec 32) : Fin 2 → Nat :=
  let c4095_i32_2481 : BitVec 32 := 4095#32
  let v6802 : BitVec 32 := Scalar.andi v6801 c4095_i32_2481
  let v6803 : Index := Scalar.indexCast v6802
  let c0_2482 : Index := 0#32
  ![v6803.toNat, 0]

def k0_chk398 (v6801 : BitVec 32) : Prop :=
  (∀ a, (k0_off852 v6801) a + S1x256.size a ≤ S4096x256.size a)
theorem k0_off852_inb : ∀ (v6801 : BitVec 32) (k0_hw398 : k0_chk398 v6801), ∀ a, (k0_off852 v6801) a + S1x256.size a ≤ S4096x256.size a := fun v6801 k0_hw398 => k0_hw398

def k0_off853 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2484 : BitVec 32 := 1024#32
  let v6808 : BitVec 32 := Scalar.muli v14 c1024_i32_2484
  let c390_i32 : BitVec 32 := 390#32
  let v6809 : BitVec 32 := Scalar.addi v6808 c390_i32
  let v6810 : Index := Scalar.indexCast v6809
  ![v6810.toNat]
def k0_off854 (v6811 : BitVec 32) : Fin 2 → Nat :=
  let c4095_i32_2485 : BitVec 32 := 4095#32
  let v6812 : BitVec 32 := Scalar.andi v6811 c4095_i32_2485
  let v6813 : Index := Scalar.indexCast v6812
  let c0_2486 : Index := 0#32
  ![v6813.toNat, 0]

def k0_chk399 (v6811 : BitVec 32) : Prop :=
  (∀ a, (k0_off854 v6811) a + S1x256.size a ≤ S4096x256.size a)
theorem k0_off854_inb : ∀ (v6811 : BitVec 32) (k0_hw399 : k0_chk399 v6811), ∀ a, (k0_off854 v6811) a + S1x256.size a ≤ S4096x256.size a := fun v6811 k0_hw399 => k0_hw399

def k0_off855 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2488 : BitVec 32 := 1024#32
  let v6818 : BitVec 32 := Scalar.muli v14 c1024_i32_2488
  let c391_i32 : BitVec 32 := 391#32
  let v6819 : BitVec 32 := Scalar.addi v6818 c391_i32
  let v6820 : Index := Scalar.indexCast v6819
  ![v6820.toNat]
def k0_off856 (v6821 : BitVec 32) : Fin 2 → Nat :=
  let c4095_i32_2489 : BitVec 32 := 4095#32
  let v6822 : BitVec 32 := Scalar.andi v6821 c4095_i32_2489
  let v6823 : Index := Scalar.indexCast v6822
  let c0_2490 : Index := 0#32
  ![v6823.toNat, 0]

def k0_chk400 (v6821 : BitVec 32) : Prop :=
  (∀ a, (k0_off856 v6821) a + S1x256.size a ≤ S4096x256.size a)
theorem k0_off856_inb : ∀ (v6821 : BitVec 32) (k0_hw400 : k0_chk400 v6821), ∀ a, (k0_off856 v6821) a + S1x256.size a ≤ S4096x256.size a := fun v6821 k0_hw400 => k0_hw400

def k0_off857 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2492 : BitVec 32 := 1024#32
  let v6828 : BitVec 32 := Scalar.muli v14 c1024_i32_2492
  let c392_i32 : BitVec 32 := 392#32
  let v6829 : BitVec 32 := Scalar.addi v6828 c392_i32
  let v6830 : Index := Scalar.indexCast v6829
  ![v6830.toNat]
def k0_off858 (v6831 : BitVec 32) : Fin 2 → Nat :=
  let c4095_i32_2493 : BitVec 32 := 4095#32
  let v6832 : BitVec 32 := Scalar.andi v6831 c4095_i32_2493
  let v6833 : Index := Scalar.indexCast v6832
  let c0_2494 : Index := 0#32
  ![v6833.toNat, 0]

def k0_chk401 (v6831 : BitVec 32) : Prop :=
  (∀ a, (k0_off858 v6831) a + S1x256.size a ≤ S4096x256.size a)
theorem k0_off858_inb : ∀ (v6831 : BitVec 32) (k0_hw401 : k0_chk401 v6831), ∀ a, (k0_off858 v6831) a + S1x256.size a ≤ S4096x256.size a := fun v6831 k0_hw401 => k0_hw401

def k0_off859 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2496 : BitVec 32 := 1024#32
  let v6838 : BitVec 32 := Scalar.muli v14 c1024_i32_2496
  let c393_i32 : BitVec 32 := 393#32
  let v6839 : BitVec 32 := Scalar.addi v6838 c393_i32
  let v6840 : Index := Scalar.indexCast v6839
  ![v6840.toNat]
def k0_off860 (v6841 : BitVec 32) : Fin 2 → Nat :=
  let c4095_i32_2497 : BitVec 32 := 4095#32
  let v6842 : BitVec 32 := Scalar.andi v6841 c4095_i32_2497
  let v6843 : Index := Scalar.indexCast v6842
  let c0_2498 : Index := 0#32
  ![v6843.toNat, 0]

def k0_chk402 (v6841 : BitVec 32) : Prop :=
  (∀ a, (k0_off860 v6841) a + S1x256.size a ≤ S4096x256.size a)
theorem k0_off860_inb : ∀ (v6841 : BitVec 32) (k0_hw402 : k0_chk402 v6841), ∀ a, (k0_off860 v6841) a + S1x256.size a ≤ S4096x256.size a := fun v6841 k0_hw402 => k0_hw402

def k0_off861 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2500 : BitVec 32 := 1024#32
  let v6848 : BitVec 32 := Scalar.muli v14 c1024_i32_2500
  let c394_i32 : BitVec 32 := 394#32
  let v6849 : BitVec 32 := Scalar.addi v6848 c394_i32
  let v6850 : Index := Scalar.indexCast v6849
  ![v6850.toNat]
def k0_off862 (v6851 : BitVec 32) : Fin 2 → Nat :=
  let c4095_i32_2501 : BitVec 32 := 4095#32
  let v6852 : BitVec 32 := Scalar.andi v6851 c4095_i32_2501
  let v6853 : Index := Scalar.indexCast v6852
  let c0_2502 : Index := 0#32
  ![v6853.toNat, 0]

def k0_chk403 (v6851 : BitVec 32) : Prop :=
  (∀ a, (k0_off862 v6851) a + S1x256.size a ≤ S4096x256.size a)
theorem k0_off862_inb : ∀ (v6851 : BitVec 32) (k0_hw403 : k0_chk403 v6851), ∀ a, (k0_off862 v6851) a + S1x256.size a ≤ S4096x256.size a := fun v6851 k0_hw403 => k0_hw403

def k0_off863 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2504 : BitVec 32 := 1024#32
  let v6858 : BitVec 32 := Scalar.muli v14 c1024_i32_2504
  let c395_i32 : BitVec 32 := 395#32
  let v6859 : BitVec 32 := Scalar.addi v6858 c395_i32
  let v6860 : Index := Scalar.indexCast v6859
  ![v6860.toNat]
def k0_off864 (v6861 : BitVec 32) : Fin 2 → Nat :=
  let c4095_i32_2505 : BitVec 32 := 4095#32
  let v6862 : BitVec 32 := Scalar.andi v6861 c4095_i32_2505
  let v6863 : Index := Scalar.indexCast v6862
  let c0_2506 : Index := 0#32
  ![v6863.toNat, 0]

def k0_chk404 (v6861 : BitVec 32) : Prop :=
  (∀ a, (k0_off864 v6861) a + S1x256.size a ≤ S4096x256.size a)
theorem k0_off864_inb : ∀ (v6861 : BitVec 32) (k0_hw404 : k0_chk404 v6861), ∀ a, (k0_off864 v6861) a + S1x256.size a ≤ S4096x256.size a := fun v6861 k0_hw404 => k0_hw404

def k0_off865 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2508 : BitVec 32 := 1024#32
  let v6868 : BitVec 32 := Scalar.muli v14 c1024_i32_2508
  let c396_i32 : BitVec 32 := 396#32
  let v6869 : BitVec 32 := Scalar.addi v6868 c396_i32
  let v6870 : Index := Scalar.indexCast v6869
  ![v6870.toNat]
def k0_off866 (v6871 : BitVec 32) : Fin 2 → Nat :=
  let c4095_i32_2509 : BitVec 32 := 4095#32
  let v6872 : BitVec 32 := Scalar.andi v6871 c4095_i32_2509
  let v6873 : Index := Scalar.indexCast v6872
  let c0_2510 : Index := 0#32
  ![v6873.toNat, 0]

def k0_chk405 (v6871 : BitVec 32) : Prop :=
  (∀ a, (k0_off866 v6871) a + S1x256.size a ≤ S4096x256.size a)
theorem k0_off866_inb : ∀ (v6871 : BitVec 32) (k0_hw405 : k0_chk405 v6871), ∀ a, (k0_off866 v6871) a + S1x256.size a ≤ S4096x256.size a := fun v6871 k0_hw405 => k0_hw405

def k0_off867 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2512 : BitVec 32 := 1024#32
  let v6878 : BitVec 32 := Scalar.muli v14 c1024_i32_2512
  let c397_i32 : BitVec 32 := 397#32
  let v6879 : BitVec 32 := Scalar.addi v6878 c397_i32
  let v6880 : Index := Scalar.indexCast v6879
  ![v6880.toNat]
def k0_off868 (v6881 : BitVec 32) : Fin 2 → Nat :=
  let c4095_i32_2513 : BitVec 32 := 4095#32
  let v6882 : BitVec 32 := Scalar.andi v6881 c4095_i32_2513
  let v6883 : Index := Scalar.indexCast v6882
  let c0_2514 : Index := 0#32
  ![v6883.toNat, 0]

def k0_chk406 (v6881 : BitVec 32) : Prop :=
  (∀ a, (k0_off868 v6881) a + S1x256.size a ≤ S4096x256.size a)
theorem k0_off868_inb : ∀ (v6881 : BitVec 32) (k0_hw406 : k0_chk406 v6881), ∀ a, (k0_off868 v6881) a + S1x256.size a ≤ S4096x256.size a := fun v6881 k0_hw406 => k0_hw406

def k0_off869 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2516 : BitVec 32 := 1024#32
  let v6888 : BitVec 32 := Scalar.muli v14 c1024_i32_2516
  let c398_i32 : BitVec 32 := 398#32
  let v6889 : BitVec 32 := Scalar.addi v6888 c398_i32
  let v6890 : Index := Scalar.indexCast v6889
  ![v6890.toNat]
def k0_off870 (v6891 : BitVec 32) : Fin 2 → Nat :=
  let c4095_i32_2517 : BitVec 32 := 4095#32
  let v6892 : BitVec 32 := Scalar.andi v6891 c4095_i32_2517
  let v6893 : Index := Scalar.indexCast v6892
  let c0_2518 : Index := 0#32
  ![v6893.toNat, 0]

def k0_chk407 (v6891 : BitVec 32) : Prop :=
  (∀ a, (k0_off870 v6891) a + S1x256.size a ≤ S4096x256.size a)
theorem k0_off870_inb : ∀ (v6891 : BitVec 32) (k0_hw407 : k0_chk407 v6891), ∀ a, (k0_off870 v6891) a + S1x256.size a ≤ S4096x256.size a := fun v6891 k0_hw407 => k0_hw407

def k0_off871 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2520 : BitVec 32 := 1024#32
  let v6898 : BitVec 32 := Scalar.muli v14 c1024_i32_2520
  let c399_i32 : BitVec 32 := 399#32
  let v6899 : BitVec 32 := Scalar.addi v6898 c399_i32
  let v6900 : Index := Scalar.indexCast v6899
  ![v6900.toNat]
def k0_off872 (v6901 : BitVec 32) : Fin 2 → Nat :=
  let c4095_i32_2521 : BitVec 32 := 4095#32
  let v6902 : BitVec 32 := Scalar.andi v6901 c4095_i32_2521
  let v6903 : Index := Scalar.indexCast v6902
  let c0_2522 : Index := 0#32
  ![v6903.toNat, 0]

def k0_chk408 (v6901 : BitVec 32) : Prop :=
  (∀ a, (k0_off872 v6901) a + S1x256.size a ≤ S4096x256.size a)
theorem k0_off872_inb : ∀ (v6901 : BitVec 32) (k0_hw408 : k0_chk408 v6901), ∀ a, (k0_off872 v6901) a + S1x256.size a ≤ S4096x256.size a := fun v6901 k0_hw408 => k0_hw408

def k0_off873 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2524 : BitVec 32 := 1024#32
  let v6908 : BitVec 32 := Scalar.muli v14 c1024_i32_2524
  let c400_i32 : BitVec 32 := 400#32
  let v6909 : BitVec 32 := Scalar.addi v6908 c400_i32
  let v6910 : Index := Scalar.indexCast v6909
  ![v6910.toNat]
def k0_off874 (v6911 : BitVec 32) : Fin 2 → Nat :=
  let c4095_i32_2525 : BitVec 32 := 4095#32
  let v6912 : BitVec 32 := Scalar.andi v6911 c4095_i32_2525
  let v6913 : Index := Scalar.indexCast v6912
  let c0_2526 : Index := 0#32
  ![v6913.toNat, 0]

def k0_chk409 (v6911 : BitVec 32) : Prop :=
  (∀ a, (k0_off874 v6911) a + S1x256.size a ≤ S4096x256.size a)
theorem k0_off874_inb : ∀ (v6911 : BitVec 32) (k0_hw409 : k0_chk409 v6911), ∀ a, (k0_off874 v6911) a + S1x256.size a ≤ S4096x256.size a := fun v6911 k0_hw409 => k0_hw409

def k0_off875 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2528 : BitVec 32 := 1024#32
  let v6918 : BitVec 32 := Scalar.muli v14 c1024_i32_2528
  let c401_i32 : BitVec 32 := 401#32
  let v6919 : BitVec 32 := Scalar.addi v6918 c401_i32
  let v6920 : Index := Scalar.indexCast v6919
  ![v6920.toNat]
def k0_off876 (v6921 : BitVec 32) : Fin 2 → Nat :=
  let c4095_i32_2529 : BitVec 32 := 4095#32
  let v6922 : BitVec 32 := Scalar.andi v6921 c4095_i32_2529
  let v6923 : Index := Scalar.indexCast v6922
  let c0_2530 : Index := 0#32
  ![v6923.toNat, 0]

def k0_chk410 (v6921 : BitVec 32) : Prop :=
  (∀ a, (k0_off876 v6921) a + S1x256.size a ≤ S4096x256.size a)
theorem k0_off876_inb : ∀ (v6921 : BitVec 32) (k0_hw410 : k0_chk410 v6921), ∀ a, (k0_off876 v6921) a + S1x256.size a ≤ S4096x256.size a := fun v6921 k0_hw410 => k0_hw410

def k0_off877 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2532 : BitVec 32 := 1024#32
  let v6928 : BitVec 32 := Scalar.muli v14 c1024_i32_2532
  let c402_i32 : BitVec 32 := 402#32
  let v6929 : BitVec 32 := Scalar.addi v6928 c402_i32
  let v6930 : Index := Scalar.indexCast v6929
  ![v6930.toNat]
def k0_off878 (v6931 : BitVec 32) : Fin 2 → Nat :=
  let c4095_i32_2533 : BitVec 32 := 4095#32
  let v6932 : BitVec 32 := Scalar.andi v6931 c4095_i32_2533
  let v6933 : Index := Scalar.indexCast v6932
  let c0_2534 : Index := 0#32
  ![v6933.toNat, 0]

def k0_chk411 (v6931 : BitVec 32) : Prop :=
  (∀ a, (k0_off878 v6931) a + S1x256.size a ≤ S4096x256.size a)
theorem k0_off878_inb : ∀ (v6931 : BitVec 32) (k0_hw411 : k0_chk411 v6931), ∀ a, (k0_off878 v6931) a + S1x256.size a ≤ S4096x256.size a := fun v6931 k0_hw411 => k0_hw411

def k0_off879 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2536 : BitVec 32 := 1024#32
  let v6938 : BitVec 32 := Scalar.muli v14 c1024_i32_2536
  let c403_i32 : BitVec 32 := 403#32
  let v6939 : BitVec 32 := Scalar.addi v6938 c403_i32
  let v6940 : Index := Scalar.indexCast v6939
  ![v6940.toNat]
def k0_off880 (v6941 : BitVec 32) : Fin 2 → Nat :=
  let c4095_i32_2537 : BitVec 32 := 4095#32
  let v6942 : BitVec 32 := Scalar.andi v6941 c4095_i32_2537
  let v6943 : Index := Scalar.indexCast v6942
  let c0_2538 : Index := 0#32
  ![v6943.toNat, 0]

def k0_chk412 (v6941 : BitVec 32) : Prop :=
  (∀ a, (k0_off880 v6941) a + S1x256.size a ≤ S4096x256.size a)
theorem k0_off880_inb : ∀ (v6941 : BitVec 32) (k0_hw412 : k0_chk412 v6941), ∀ a, (k0_off880 v6941) a + S1x256.size a ≤ S4096x256.size a := fun v6941 k0_hw412 => k0_hw412

def k0_off881 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2540 : BitVec 32 := 1024#32
  let v6948 : BitVec 32 := Scalar.muli v14 c1024_i32_2540
  let c404_i32 : BitVec 32 := 404#32
  let v6949 : BitVec 32 := Scalar.addi v6948 c404_i32
  let v6950 : Index := Scalar.indexCast v6949
  ![v6950.toNat]
def k0_off882 (v6951 : BitVec 32) : Fin 2 → Nat :=
  let c4095_i32_2541 : BitVec 32 := 4095#32
  let v6952 : BitVec 32 := Scalar.andi v6951 c4095_i32_2541
  let v6953 : Index := Scalar.indexCast v6952
  let c0_2542 : Index := 0#32
  ![v6953.toNat, 0]

def k0_chk413 (v6951 : BitVec 32) : Prop :=
  (∀ a, (k0_off882 v6951) a + S1x256.size a ≤ S4096x256.size a)
theorem k0_off882_inb : ∀ (v6951 : BitVec 32) (k0_hw413 : k0_chk413 v6951), ∀ a, (k0_off882 v6951) a + S1x256.size a ≤ S4096x256.size a := fun v6951 k0_hw413 => k0_hw413

def k0_off883 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2544 : BitVec 32 := 1024#32
  let v6958 : BitVec 32 := Scalar.muli v14 c1024_i32_2544
  let c405_i32 : BitVec 32 := 405#32
  let v6959 : BitVec 32 := Scalar.addi v6958 c405_i32
  let v6960 : Index := Scalar.indexCast v6959
  ![v6960.toNat]
def k0_off884 (v6961 : BitVec 32) : Fin 2 → Nat :=
  let c4095_i32_2545 : BitVec 32 := 4095#32
  let v6962 : BitVec 32 := Scalar.andi v6961 c4095_i32_2545
  let v6963 : Index := Scalar.indexCast v6962
  let c0_2546 : Index := 0#32
  ![v6963.toNat, 0]

def k0_chk414 (v6961 : BitVec 32) : Prop :=
  (∀ a, (k0_off884 v6961) a + S1x256.size a ≤ S4096x256.size a)
theorem k0_off884_inb : ∀ (v6961 : BitVec 32) (k0_hw414 : k0_chk414 v6961), ∀ a, (k0_off884 v6961) a + S1x256.size a ≤ S4096x256.size a := fun v6961 k0_hw414 => k0_hw414

def k0_off885 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2548 : BitVec 32 := 1024#32
  let v6968 : BitVec 32 := Scalar.muli v14 c1024_i32_2548
  let c406_i32 : BitVec 32 := 406#32
  let v6969 : BitVec 32 := Scalar.addi v6968 c406_i32
  let v6970 : Index := Scalar.indexCast v6969
  ![v6970.toNat]
def k0_off886 (v6971 : BitVec 32) : Fin 2 → Nat :=
  let c4095_i32_2549 : BitVec 32 := 4095#32
  let v6972 : BitVec 32 := Scalar.andi v6971 c4095_i32_2549
  let v6973 : Index := Scalar.indexCast v6972
  let c0_2550 : Index := 0#32
  ![v6973.toNat, 0]

def k0_chk415 (v6971 : BitVec 32) : Prop :=
  (∀ a, (k0_off886 v6971) a + S1x256.size a ≤ S4096x256.size a)
theorem k0_off886_inb : ∀ (v6971 : BitVec 32) (k0_hw415 : k0_chk415 v6971), ∀ a, (k0_off886 v6971) a + S1x256.size a ≤ S4096x256.size a := fun v6971 k0_hw415 => k0_hw415

def k0_off887 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2552 : BitVec 32 := 1024#32
  let v6978 : BitVec 32 := Scalar.muli v14 c1024_i32_2552
  let c407_i32 : BitVec 32 := 407#32
  let v6979 : BitVec 32 := Scalar.addi v6978 c407_i32
  let v6980 : Index := Scalar.indexCast v6979
  ![v6980.toNat]
def k0_off888 (v6981 : BitVec 32) : Fin 2 → Nat :=
  let c4095_i32_2553 : BitVec 32 := 4095#32
  let v6982 : BitVec 32 := Scalar.andi v6981 c4095_i32_2553
  let v6983 : Index := Scalar.indexCast v6982
  let c0_2554 : Index := 0#32
  ![v6983.toNat, 0]

def k0_chk416 (v6981 : BitVec 32) : Prop :=
  (∀ a, (k0_off888 v6981) a + S1x256.size a ≤ S4096x256.size a)
theorem k0_off888_inb : ∀ (v6981 : BitVec 32) (k0_hw416 : k0_chk416 v6981), ∀ a, (k0_off888 v6981) a + S1x256.size a ≤ S4096x256.size a := fun v6981 k0_hw416 => k0_hw416

def k0_off889 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2556 : BitVec 32 := 1024#32
  let v6988 : BitVec 32 := Scalar.muli v14 c1024_i32_2556
  let c408_i32 : BitVec 32 := 408#32
  let v6989 : BitVec 32 := Scalar.addi v6988 c408_i32
  let v6990 : Index := Scalar.indexCast v6989
  ![v6990.toNat]
def k0_off890 (v6991 : BitVec 32) : Fin 2 → Nat :=
  let c4095_i32_2557 : BitVec 32 := 4095#32
  let v6992 : BitVec 32 := Scalar.andi v6991 c4095_i32_2557
  let v6993 : Index := Scalar.indexCast v6992
  let c0_2558 : Index := 0#32
  ![v6993.toNat, 0]

def k0_chk417 (v6991 : BitVec 32) : Prop :=
  (∀ a, (k0_off890 v6991) a + S1x256.size a ≤ S4096x256.size a)
theorem k0_off890_inb : ∀ (v6991 : BitVec 32) (k0_hw417 : k0_chk417 v6991), ∀ a, (k0_off890 v6991) a + S1x256.size a ≤ S4096x256.size a := fun v6991 k0_hw417 => k0_hw417

def k0_off891 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2560 : BitVec 32 := 1024#32
  let v6998 : BitVec 32 := Scalar.muli v14 c1024_i32_2560
  let c409_i32 : BitVec 32 := 409#32
  let v6999 : BitVec 32 := Scalar.addi v6998 c409_i32
  let v7000 : Index := Scalar.indexCast v6999
  ![v7000.toNat]
def k0_off892 (v7001 : BitVec 32) : Fin 2 → Nat :=
  let c4095_i32_2561 : BitVec 32 := 4095#32
  let v7002 : BitVec 32 := Scalar.andi v7001 c4095_i32_2561
  let v7003 : Index := Scalar.indexCast v7002
  let c0_2562 : Index := 0#32
  ![v7003.toNat, 0]

def k0_chk418 (v7001 : BitVec 32) : Prop :=
  (∀ a, (k0_off892 v7001) a + S1x256.size a ≤ S4096x256.size a)
theorem k0_off892_inb : ∀ (v7001 : BitVec 32) (k0_hw418 : k0_chk418 v7001), ∀ a, (k0_off892 v7001) a + S1x256.size a ≤ S4096x256.size a := fun v7001 k0_hw418 => k0_hw418

def k0_off893 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2564 : BitVec 32 := 1024#32
  let v7008 : BitVec 32 := Scalar.muli v14 c1024_i32_2564
  let c410_i32 : BitVec 32 := 410#32
  let v7009 : BitVec 32 := Scalar.addi v7008 c410_i32
  let v7010 : Index := Scalar.indexCast v7009
  ![v7010.toNat]
def k0_off894 (v7011 : BitVec 32) : Fin 2 → Nat :=
  let c4095_i32_2565 : BitVec 32 := 4095#32
  let v7012 : BitVec 32 := Scalar.andi v7011 c4095_i32_2565
  let v7013 : Index := Scalar.indexCast v7012
  let c0_2566 : Index := 0#32
  ![v7013.toNat, 0]

def k0_chk419 (v7011 : BitVec 32) : Prop :=
  (∀ a, (k0_off894 v7011) a + S1x256.size a ≤ S4096x256.size a)
theorem k0_off894_inb : ∀ (v7011 : BitVec 32) (k0_hw419 : k0_chk419 v7011), ∀ a, (k0_off894 v7011) a + S1x256.size a ≤ S4096x256.size a := fun v7011 k0_hw419 => k0_hw419

def k0_off895 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2568 : BitVec 32 := 1024#32
  let v7018 : BitVec 32 := Scalar.muli v14 c1024_i32_2568
  let c411_i32 : BitVec 32 := 411#32
  let v7019 : BitVec 32 := Scalar.addi v7018 c411_i32
  let v7020 : Index := Scalar.indexCast v7019
  ![v7020.toNat]
def k0_off896 (v7021 : BitVec 32) : Fin 2 → Nat :=
  let c4095_i32_2569 : BitVec 32 := 4095#32
  let v7022 : BitVec 32 := Scalar.andi v7021 c4095_i32_2569
  let v7023 : Index := Scalar.indexCast v7022
  let c0_2570 : Index := 0#32
  ![v7023.toNat, 0]

def k0_chk420 (v7021 : BitVec 32) : Prop :=
  (∀ a, (k0_off896 v7021) a + S1x256.size a ≤ S4096x256.size a)
theorem k0_off896_inb : ∀ (v7021 : BitVec 32) (k0_hw420 : k0_chk420 v7021), ∀ a, (k0_off896 v7021) a + S1x256.size a ≤ S4096x256.size a := fun v7021 k0_hw420 => k0_hw420

def k0_off897 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2572 : BitVec 32 := 1024#32
  let v7028 : BitVec 32 := Scalar.muli v14 c1024_i32_2572
  let c412_i32 : BitVec 32 := 412#32
  let v7029 : BitVec 32 := Scalar.addi v7028 c412_i32
  let v7030 : Index := Scalar.indexCast v7029
  ![v7030.toNat]
def k0_off898 (v7031 : BitVec 32) : Fin 2 → Nat :=
  let c4095_i32_2573 : BitVec 32 := 4095#32
  let v7032 : BitVec 32 := Scalar.andi v7031 c4095_i32_2573
  let v7033 : Index := Scalar.indexCast v7032
  let c0_2574 : Index := 0#32
  ![v7033.toNat, 0]

def k0_chk421 (v7031 : BitVec 32) : Prop :=
  (∀ a, (k0_off898 v7031) a + S1x256.size a ≤ S4096x256.size a)
theorem k0_off898_inb : ∀ (v7031 : BitVec 32) (k0_hw421 : k0_chk421 v7031), ∀ a, (k0_off898 v7031) a + S1x256.size a ≤ S4096x256.size a := fun v7031 k0_hw421 => k0_hw421

def k0_off899 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2576 : BitVec 32 := 1024#32
  let v7038 : BitVec 32 := Scalar.muli v14 c1024_i32_2576
  let c413_i32 : BitVec 32 := 413#32
  let v7039 : BitVec 32 := Scalar.addi v7038 c413_i32
  let v7040 : Index := Scalar.indexCast v7039
  ![v7040.toNat]
def k0_off900 (v7041 : BitVec 32) : Fin 2 → Nat :=
  let c4095_i32_2577 : BitVec 32 := 4095#32
  let v7042 : BitVec 32 := Scalar.andi v7041 c4095_i32_2577
  let v7043 : Index := Scalar.indexCast v7042
  let c0_2578 : Index := 0#32
  ![v7043.toNat, 0]

def k0_chk422 (v7041 : BitVec 32) : Prop :=
  (∀ a, (k0_off900 v7041) a + S1x256.size a ≤ S4096x256.size a)
theorem k0_off900_inb : ∀ (v7041 : BitVec 32) (k0_hw422 : k0_chk422 v7041), ∀ a, (k0_off900 v7041) a + S1x256.size a ≤ S4096x256.size a := fun v7041 k0_hw422 => k0_hw422

def k0_off901 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2580 : BitVec 32 := 1024#32
  let v7048 : BitVec 32 := Scalar.muli v14 c1024_i32_2580
  let c414_i32 : BitVec 32 := 414#32
  let v7049 : BitVec 32 := Scalar.addi v7048 c414_i32
  let v7050 : Index := Scalar.indexCast v7049
  ![v7050.toNat]
def k0_off902 (v7051 : BitVec 32) : Fin 2 → Nat :=
  let c4095_i32_2581 : BitVec 32 := 4095#32
  let v7052 : BitVec 32 := Scalar.andi v7051 c4095_i32_2581
  let v7053 : Index := Scalar.indexCast v7052
  let c0_2582 : Index := 0#32
  ![v7053.toNat, 0]

def k0_chk423 (v7051 : BitVec 32) : Prop :=
  (∀ a, (k0_off902 v7051) a + S1x256.size a ≤ S4096x256.size a)
theorem k0_off902_inb : ∀ (v7051 : BitVec 32) (k0_hw423 : k0_chk423 v7051), ∀ a, (k0_off902 v7051) a + S1x256.size a ≤ S4096x256.size a := fun v7051 k0_hw423 => k0_hw423

def k0_off903 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2584 : BitVec 32 := 1024#32
  let v7058 : BitVec 32 := Scalar.muli v14 c1024_i32_2584
  let c415_i32 : BitVec 32 := 415#32
  let v7059 : BitVec 32 := Scalar.addi v7058 c415_i32
  let v7060 : Index := Scalar.indexCast v7059
  ![v7060.toNat]
def k0_off904 (v7061 : BitVec 32) : Fin 2 → Nat :=
  let c4095_i32_2585 : BitVec 32 := 4095#32
  let v7062 : BitVec 32 := Scalar.andi v7061 c4095_i32_2585
  let v7063 : Index := Scalar.indexCast v7062
  let c0_2586 : Index := 0#32
  ![v7063.toNat, 0]

def k0_chk424 (v7061 : BitVec 32) : Prop :=
  (∀ a, (k0_off904 v7061) a + S1x256.size a ≤ S4096x256.size a)
theorem k0_off904_inb : ∀ (v7061 : BitVec 32) (k0_hw424 : k0_chk424 v7061), ∀ a, (k0_off904 v7061) a + S1x256.size a ≤ S4096x256.size a := fun v7061 k0_hw424 => k0_hw424

def k0_off905 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2588 : BitVec 32 := 1024#32
  let v7068 : BitVec 32 := Scalar.muli v14 c1024_i32_2588
  let c416_i32 : BitVec 32 := 416#32
  let v7069 : BitVec 32 := Scalar.addi v7068 c416_i32
  let v7070 : Index := Scalar.indexCast v7069
  ![v7070.toNat]
def k0_off906 (v7071 : BitVec 32) : Fin 2 → Nat :=
  let c4095_i32_2589 : BitVec 32 := 4095#32
  let v7072 : BitVec 32 := Scalar.andi v7071 c4095_i32_2589
  let v7073 : Index := Scalar.indexCast v7072
  let c0_2590 : Index := 0#32
  ![v7073.toNat, 0]

def k0_chk425 (v7071 : BitVec 32) : Prop :=
  (∀ a, (k0_off906 v7071) a + S1x256.size a ≤ S4096x256.size a)
theorem k0_off906_inb : ∀ (v7071 : BitVec 32) (k0_hw425 : k0_chk425 v7071), ∀ a, (k0_off906 v7071) a + S1x256.size a ≤ S4096x256.size a := fun v7071 k0_hw425 => k0_hw425

def k0_off907 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2592 : BitVec 32 := 1024#32
  let v7078 : BitVec 32 := Scalar.muli v14 c1024_i32_2592
  let c417_i32 : BitVec 32 := 417#32
  let v7079 : BitVec 32 := Scalar.addi v7078 c417_i32
  let v7080 : Index := Scalar.indexCast v7079
  ![v7080.toNat]
def k0_off908 (v7081 : BitVec 32) : Fin 2 → Nat :=
  let c4095_i32_2593 : BitVec 32 := 4095#32
  let v7082 : BitVec 32 := Scalar.andi v7081 c4095_i32_2593
  let v7083 : Index := Scalar.indexCast v7082
  let c0_2594 : Index := 0#32
  ![v7083.toNat, 0]

def k0_chk426 (v7081 : BitVec 32) : Prop :=
  (∀ a, (k0_off908 v7081) a + S1x256.size a ≤ S4096x256.size a)
theorem k0_off908_inb : ∀ (v7081 : BitVec 32) (k0_hw426 : k0_chk426 v7081), ∀ a, (k0_off908 v7081) a + S1x256.size a ≤ S4096x256.size a := fun v7081 k0_hw426 => k0_hw426

def k0_off909 (i : grid0.Coords) : Fin 2 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c8_i32_2599 : BitVec 32 := 8#32
  let v7091 : BitVec 32 := Scalar.muli v14 c8_i32_2599
  let c2_i32_2600 : BitVec 32 := 2#32
  let v7092 : BitVec 32 := Scalar.addi v7091 c2_i32_2600
  let v7093 : Index := Scalar.indexCast v7092
  let c0_2601 : Index := 0#32
  ![v7093.toNat, 0]
def k0_off910 (i : grid0.Coords) : Fin 3 → Nat :=
  let c1_i32_2596 : BitVec 32 := 1#32
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v7088 : BitVec 32 := Scalar.subi c1_i32_2596 v12
  let v7136 : Index := Scalar.indexCast v7088
  let c0_2612 : Index := 0#32
  let c256_2613 : Index := 256#32
  ![v7136.toNat, 0, 256]
def k0_off911 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v7197 : Index := Scalar.indexCast v12
  let c0_2629 : Index := 0#32
  let c0_2630 : Index := 0#32
  ![v7197.toNat, 0, 0]
def k0_off912 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v7258 : Index := Scalar.indexCast v12
  let c0_2648 : Index := 0#32
  let c256_2649 : Index := 256#32
  ![v7258.toNat, 0, 256]
def k0_off913 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v7320 : Index := Scalar.indexCast v12
  let c0_2667 : Index := 0#32
  let c512_2668 : Index := 512#32
  ![v7320.toNat, 0, 512]
def k0_off914 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v7382 : Index := Scalar.indexCast v12
  let c0_2686 : Index := 0#32
  let c768_2687 : Index := 768#32
  ![v7382.toNat, 0, 768]
def k0_off915 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2693 : BitVec 32 := 1024#32
  let v7392 : BitVec 32 := Scalar.muli v14 c1024_i32_2693
  let c418_i32 : BitVec 32 := 418#32
  let v7393 : BitVec 32 := Scalar.addi v7392 c418_i32
  let v7394 : Index := Scalar.indexCast v7393
  ![v7394.toNat]
def k0_off916 (v7395 : BitVec 32) : Fin 2 → Nat :=
  let c4095_i32_2694 : BitVec 32 := 4095#32
  let v7396 : BitVec 32 := Scalar.andi v7395 c4095_i32_2694
  let v7397 : Index := Scalar.indexCast v7396
  let c0_2695 : Index := 0#32
  ![v7397.toNat, 0]

def k0_chk427 (v7395 : BitVec 32) : Prop :=
  (∀ a, (k0_off916 v7395) a + S1x256.size a ≤ S4096x256.size a)
theorem k0_off916_inb : ∀ (v7395 : BitVec 32) (k0_hw427 : k0_chk427 v7395), ∀ a, (k0_off916 v7395) a + S1x256.size a ≤ S4096x256.size a := fun v7395 k0_hw427 => k0_hw427

def k0_off917 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2697 : BitVec 32 := 1024#32
  let v7402 : BitVec 32 := Scalar.muli v14 c1024_i32_2697
  let c419_i32 : BitVec 32 := 419#32
  let v7403 : BitVec 32 := Scalar.addi v7402 c419_i32
  let v7404 : Index := Scalar.indexCast v7403
  ![v7404.toNat]
def k0_off918 (v7405 : BitVec 32) : Fin 2 → Nat :=
  let c4095_i32_2698 : BitVec 32 := 4095#32
  let v7406 : BitVec 32 := Scalar.andi v7405 c4095_i32_2698
  let v7407 : Index := Scalar.indexCast v7406
  let c0_2699 : Index := 0#32
  ![v7407.toNat, 0]

def k0_chk428 (v7405 : BitVec 32) : Prop :=
  (∀ a, (k0_off918 v7405) a + S1x256.size a ≤ S4096x256.size a)
theorem k0_off918_inb : ∀ (v7405 : BitVec 32) (k0_hw428 : k0_chk428 v7405), ∀ a, (k0_off918 v7405) a + S1x256.size a ≤ S4096x256.size a := fun v7405 k0_hw428 => k0_hw428

def k0_off919 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2701 : BitVec 32 := 1024#32
  let v7412 : BitVec 32 := Scalar.muli v14 c1024_i32_2701
  let c420_i32 : BitVec 32 := 420#32
  let v7413 : BitVec 32 := Scalar.addi v7412 c420_i32
  let v7414 : Index := Scalar.indexCast v7413
  ![v7414.toNat]
def k0_off920 (v7415 : BitVec 32) : Fin 2 → Nat :=
  let c4095_i32_2702 : BitVec 32 := 4095#32
  let v7416 : BitVec 32 := Scalar.andi v7415 c4095_i32_2702
  let v7417 : Index := Scalar.indexCast v7416
  let c0_2703 : Index := 0#32
  ![v7417.toNat, 0]

def k0_chk429 (v7415 : BitVec 32) : Prop :=
  (∀ a, (k0_off920 v7415) a + S1x256.size a ≤ S4096x256.size a)
theorem k0_off920_inb : ∀ (v7415 : BitVec 32) (k0_hw429 : k0_chk429 v7415), ∀ a, (k0_off920 v7415) a + S1x256.size a ≤ S4096x256.size a := fun v7415 k0_hw429 => k0_hw429

def k0_off921 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2705 : BitVec 32 := 1024#32
  let v7422 : BitVec 32 := Scalar.muli v14 c1024_i32_2705
  let c421_i32 : BitVec 32 := 421#32
  let v7423 : BitVec 32 := Scalar.addi v7422 c421_i32
  let v7424 : Index := Scalar.indexCast v7423
  ![v7424.toNat]
def k0_off922 (v7425 : BitVec 32) : Fin 2 → Nat :=
  let c4095_i32_2706 : BitVec 32 := 4095#32
  let v7426 : BitVec 32 := Scalar.andi v7425 c4095_i32_2706
  let v7427 : Index := Scalar.indexCast v7426
  let c0_2707 : Index := 0#32
  ![v7427.toNat, 0]

def k0_chk430 (v7425 : BitVec 32) : Prop :=
  (∀ a, (k0_off922 v7425) a + S1x256.size a ≤ S4096x256.size a)
theorem k0_off922_inb : ∀ (v7425 : BitVec 32) (k0_hw430 : k0_chk430 v7425), ∀ a, (k0_off922 v7425) a + S1x256.size a ≤ S4096x256.size a := fun v7425 k0_hw430 => k0_hw430

def k0_off923 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2709 : BitVec 32 := 1024#32
  let v7432 : BitVec 32 := Scalar.muli v14 c1024_i32_2709
  let c422_i32 : BitVec 32 := 422#32
  let v7433 : BitVec 32 := Scalar.addi v7432 c422_i32
  let v7434 : Index := Scalar.indexCast v7433
  ![v7434.toNat]
def k0_off924 (v7435 : BitVec 32) : Fin 2 → Nat :=
  let c4095_i32_2710 : BitVec 32 := 4095#32
  let v7436 : BitVec 32 := Scalar.andi v7435 c4095_i32_2710
  let v7437 : Index := Scalar.indexCast v7436
  let c0_2711 : Index := 0#32
  ![v7437.toNat, 0]

def k0_chk431 (v7435 : BitVec 32) : Prop :=
  (∀ a, (k0_off924 v7435) a + S1x256.size a ≤ S4096x256.size a)
theorem k0_off924_inb : ∀ (v7435 : BitVec 32) (k0_hw431 : k0_chk431 v7435), ∀ a, (k0_off924 v7435) a + S1x256.size a ≤ S4096x256.size a := fun v7435 k0_hw431 => k0_hw431

def k0_off925 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2713 : BitVec 32 := 1024#32
  let v7442 : BitVec 32 := Scalar.muli v14 c1024_i32_2713
  let c423_i32 : BitVec 32 := 423#32
  let v7443 : BitVec 32 := Scalar.addi v7442 c423_i32
  let v7444 : Index := Scalar.indexCast v7443
  ![v7444.toNat]
def k0_off926 (v7445 : BitVec 32) : Fin 2 → Nat :=
  let c4095_i32_2714 : BitVec 32 := 4095#32
  let v7446 : BitVec 32 := Scalar.andi v7445 c4095_i32_2714
  let v7447 : Index := Scalar.indexCast v7446
  let c0_2715 : Index := 0#32
  ![v7447.toNat, 0]

def k0_chk432 (v7445 : BitVec 32) : Prop :=
  (∀ a, (k0_off926 v7445) a + S1x256.size a ≤ S4096x256.size a)
theorem k0_off926_inb : ∀ (v7445 : BitVec 32) (k0_hw432 : k0_chk432 v7445), ∀ a, (k0_off926 v7445) a + S1x256.size a ≤ S4096x256.size a := fun v7445 k0_hw432 => k0_hw432

def k0_off927 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2717 : BitVec 32 := 1024#32
  let v7452 : BitVec 32 := Scalar.muli v14 c1024_i32_2717
  let c424_i32 : BitVec 32 := 424#32
  let v7453 : BitVec 32 := Scalar.addi v7452 c424_i32
  let v7454 : Index := Scalar.indexCast v7453
  ![v7454.toNat]
def k0_off928 (v7455 : BitVec 32) : Fin 2 → Nat :=
  let c4095_i32_2718 : BitVec 32 := 4095#32
  let v7456 : BitVec 32 := Scalar.andi v7455 c4095_i32_2718
  let v7457 : Index := Scalar.indexCast v7456
  let c0_2719 : Index := 0#32
  ![v7457.toNat, 0]

def k0_chk433 (v7455 : BitVec 32) : Prop :=
  (∀ a, (k0_off928 v7455) a + S1x256.size a ≤ S4096x256.size a)
theorem k0_off928_inb : ∀ (v7455 : BitVec 32) (k0_hw433 : k0_chk433 v7455), ∀ a, (k0_off928 v7455) a + S1x256.size a ≤ S4096x256.size a := fun v7455 k0_hw433 => k0_hw433

def k0_off929 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2721 : BitVec 32 := 1024#32
  let v7462 : BitVec 32 := Scalar.muli v14 c1024_i32_2721
  let c425_i32 : BitVec 32 := 425#32
  let v7463 : BitVec 32 := Scalar.addi v7462 c425_i32
  let v7464 : Index := Scalar.indexCast v7463
  ![v7464.toNat]
def k0_off930 (v7465 : BitVec 32) : Fin 2 → Nat :=
  let c4095_i32_2722 : BitVec 32 := 4095#32
  let v7466 : BitVec 32 := Scalar.andi v7465 c4095_i32_2722
  let v7467 : Index := Scalar.indexCast v7466
  let c0_2723 : Index := 0#32
  ![v7467.toNat, 0]

def k0_chk434 (v7465 : BitVec 32) : Prop :=
  (∀ a, (k0_off930 v7465) a + S1x256.size a ≤ S4096x256.size a)
theorem k0_off930_inb : ∀ (v7465 : BitVec 32) (k0_hw434 : k0_chk434 v7465), ∀ a, (k0_off930 v7465) a + S1x256.size a ≤ S4096x256.size a := fun v7465 k0_hw434 => k0_hw434

def k0_off931 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2725 : BitVec 32 := 1024#32
  let v7472 : BitVec 32 := Scalar.muli v14 c1024_i32_2725
  let c426_i32 : BitVec 32 := 426#32
  let v7473 : BitVec 32 := Scalar.addi v7472 c426_i32
  let v7474 : Index := Scalar.indexCast v7473
  ![v7474.toNat]
def k0_off932 (v7475 : BitVec 32) : Fin 2 → Nat :=
  let c4095_i32_2726 : BitVec 32 := 4095#32
  let v7476 : BitVec 32 := Scalar.andi v7475 c4095_i32_2726
  let v7477 : Index := Scalar.indexCast v7476
  let c0_2727 : Index := 0#32
  ![v7477.toNat, 0]

def k0_chk435 (v7475 : BitVec 32) : Prop :=
  (∀ a, (k0_off932 v7475) a + S1x256.size a ≤ S4096x256.size a)
theorem k0_off932_inb : ∀ (v7475 : BitVec 32) (k0_hw435 : k0_chk435 v7475), ∀ a, (k0_off932 v7475) a + S1x256.size a ≤ S4096x256.size a := fun v7475 k0_hw435 => k0_hw435

def k0_off933 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2729 : BitVec 32 := 1024#32
  let v7482 : BitVec 32 := Scalar.muli v14 c1024_i32_2729
  let c427_i32 : BitVec 32 := 427#32
  let v7483 : BitVec 32 := Scalar.addi v7482 c427_i32
  let v7484 : Index := Scalar.indexCast v7483
  ![v7484.toNat]
def k0_off934 (v7485 : BitVec 32) : Fin 2 → Nat :=
  let c4095_i32_2730 : BitVec 32 := 4095#32
  let v7486 : BitVec 32 := Scalar.andi v7485 c4095_i32_2730
  let v7487 : Index := Scalar.indexCast v7486
  let c0_2731 : Index := 0#32
  ![v7487.toNat, 0]

def k0_chk436 (v7485 : BitVec 32) : Prop :=
  (∀ a, (k0_off934 v7485) a + S1x256.size a ≤ S4096x256.size a)
theorem k0_off934_inb : ∀ (v7485 : BitVec 32) (k0_hw436 : k0_chk436 v7485), ∀ a, (k0_off934 v7485) a + S1x256.size a ≤ S4096x256.size a := fun v7485 k0_hw436 => k0_hw436

def k0_off935 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2733 : BitVec 32 := 1024#32
  let v7492 : BitVec 32 := Scalar.muli v14 c1024_i32_2733
  let c428_i32 : BitVec 32 := 428#32
  let v7493 : BitVec 32 := Scalar.addi v7492 c428_i32
  let v7494 : Index := Scalar.indexCast v7493
  ![v7494.toNat]
def k0_off936 (v7495 : BitVec 32) : Fin 2 → Nat :=
  let c4095_i32_2734 : BitVec 32 := 4095#32
  let v7496 : BitVec 32 := Scalar.andi v7495 c4095_i32_2734
  let v7497 : Index := Scalar.indexCast v7496
  let c0_2735 : Index := 0#32
  ![v7497.toNat, 0]

def k0_chk437 (v7495 : BitVec 32) : Prop :=
  (∀ a, (k0_off936 v7495) a + S1x256.size a ≤ S4096x256.size a)
theorem k0_off936_inb : ∀ (v7495 : BitVec 32) (k0_hw437 : k0_chk437 v7495), ∀ a, (k0_off936 v7495) a + S1x256.size a ≤ S4096x256.size a := fun v7495 k0_hw437 => k0_hw437

def k0_off937 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2737 : BitVec 32 := 1024#32
  let v7502 : BitVec 32 := Scalar.muli v14 c1024_i32_2737
  let c429_i32 : BitVec 32 := 429#32
  let v7503 : BitVec 32 := Scalar.addi v7502 c429_i32
  let v7504 : Index := Scalar.indexCast v7503
  ![v7504.toNat]
def k0_off938 (v7505 : BitVec 32) : Fin 2 → Nat :=
  let c4095_i32_2738 : BitVec 32 := 4095#32
  let v7506 : BitVec 32 := Scalar.andi v7505 c4095_i32_2738
  let v7507 : Index := Scalar.indexCast v7506
  let c0_2739 : Index := 0#32
  ![v7507.toNat, 0]

def k0_chk438 (v7505 : BitVec 32) : Prop :=
  (∀ a, (k0_off938 v7505) a + S1x256.size a ≤ S4096x256.size a)
theorem k0_off938_inb : ∀ (v7505 : BitVec 32) (k0_hw438 : k0_chk438 v7505), ∀ a, (k0_off938 v7505) a + S1x256.size a ≤ S4096x256.size a := fun v7505 k0_hw438 => k0_hw438

def k0_off939 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2741 : BitVec 32 := 1024#32
  let v7512 : BitVec 32 := Scalar.muli v14 c1024_i32_2741
  let c430_i32 : BitVec 32 := 430#32
  let v7513 : BitVec 32 := Scalar.addi v7512 c430_i32
  let v7514 : Index := Scalar.indexCast v7513
  ![v7514.toNat]
def k0_off940 (v7515 : BitVec 32) : Fin 2 → Nat :=
  let c4095_i32_2742 : BitVec 32 := 4095#32
  let v7516 : BitVec 32 := Scalar.andi v7515 c4095_i32_2742
  let v7517 : Index := Scalar.indexCast v7516
  let c0_2743 : Index := 0#32
  ![v7517.toNat, 0]

def k0_chk439 (v7515 : BitVec 32) : Prop :=
  (∀ a, (k0_off940 v7515) a + S1x256.size a ≤ S4096x256.size a)
theorem k0_off940_inb : ∀ (v7515 : BitVec 32) (k0_hw439 : k0_chk439 v7515), ∀ a, (k0_off940 v7515) a + S1x256.size a ≤ S4096x256.size a := fun v7515 k0_hw439 => k0_hw439

def k0_off941 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2745 : BitVec 32 := 1024#32
  let v7522 : BitVec 32 := Scalar.muli v14 c1024_i32_2745
  let c431_i32 : BitVec 32 := 431#32
  let v7523 : BitVec 32 := Scalar.addi v7522 c431_i32
  let v7524 : Index := Scalar.indexCast v7523
  ![v7524.toNat]
def k0_off942 (v7525 : BitVec 32) : Fin 2 → Nat :=
  let c4095_i32_2746 : BitVec 32 := 4095#32
  let v7526 : BitVec 32 := Scalar.andi v7525 c4095_i32_2746
  let v7527 : Index := Scalar.indexCast v7526
  let c0_2747 : Index := 0#32
  ![v7527.toNat, 0]

def k0_chk440 (v7525 : BitVec 32) : Prop :=
  (∀ a, (k0_off942 v7525) a + S1x256.size a ≤ S4096x256.size a)
theorem k0_off942_inb : ∀ (v7525 : BitVec 32) (k0_hw440 : k0_chk440 v7525), ∀ a, (k0_off942 v7525) a + S1x256.size a ≤ S4096x256.size a := fun v7525 k0_hw440 => k0_hw440

def k0_off943 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2749 : BitVec 32 := 1024#32
  let v7532 : BitVec 32 := Scalar.muli v14 c1024_i32_2749
  let c432_i32 : BitVec 32 := 432#32
  let v7533 : BitVec 32 := Scalar.addi v7532 c432_i32
  let v7534 : Index := Scalar.indexCast v7533
  ![v7534.toNat]
def k0_off944 (v7535 : BitVec 32) : Fin 2 → Nat :=
  let c4095_i32_2750 : BitVec 32 := 4095#32
  let v7536 : BitVec 32 := Scalar.andi v7535 c4095_i32_2750
  let v7537 : Index := Scalar.indexCast v7536
  let c0_2751 : Index := 0#32
  ![v7537.toNat, 0]

def k0_chk441 (v7535 : BitVec 32) : Prop :=
  (∀ a, (k0_off944 v7535) a + S1x256.size a ≤ S4096x256.size a)
theorem k0_off944_inb : ∀ (v7535 : BitVec 32) (k0_hw441 : k0_chk441 v7535), ∀ a, (k0_off944 v7535) a + S1x256.size a ≤ S4096x256.size a := fun v7535 k0_hw441 => k0_hw441

def k0_off945 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2753 : BitVec 32 := 1024#32
  let v7542 : BitVec 32 := Scalar.muli v14 c1024_i32_2753
  let c433_i32 : BitVec 32 := 433#32
  let v7543 : BitVec 32 := Scalar.addi v7542 c433_i32
  let v7544 : Index := Scalar.indexCast v7543
  ![v7544.toNat]
def k0_off946 (v7545 : BitVec 32) : Fin 2 → Nat :=
  let c4095_i32_2754 : BitVec 32 := 4095#32
  let v7546 : BitVec 32 := Scalar.andi v7545 c4095_i32_2754
  let v7547 : Index := Scalar.indexCast v7546
  let c0_2755 : Index := 0#32
  ![v7547.toNat, 0]

def k0_chk442 (v7545 : BitVec 32) : Prop :=
  (∀ a, (k0_off946 v7545) a + S1x256.size a ≤ S4096x256.size a)
theorem k0_off946_inb : ∀ (v7545 : BitVec 32) (k0_hw442 : k0_chk442 v7545), ∀ a, (k0_off946 v7545) a + S1x256.size a ≤ S4096x256.size a := fun v7545 k0_hw442 => k0_hw442

def k0_off947 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2757 : BitVec 32 := 1024#32
  let v7552 : BitVec 32 := Scalar.muli v14 c1024_i32_2757
  let c434_i32 : BitVec 32 := 434#32
  let v7553 : BitVec 32 := Scalar.addi v7552 c434_i32
  let v7554 : Index := Scalar.indexCast v7553
  ![v7554.toNat]
def k0_off948 (v7555 : BitVec 32) : Fin 2 → Nat :=
  let c4095_i32_2758 : BitVec 32 := 4095#32
  let v7556 : BitVec 32 := Scalar.andi v7555 c4095_i32_2758
  let v7557 : Index := Scalar.indexCast v7556
  let c0_2759 : Index := 0#32
  ![v7557.toNat, 0]

def k0_chk443 (v7555 : BitVec 32) : Prop :=
  (∀ a, (k0_off948 v7555) a + S1x256.size a ≤ S4096x256.size a)
theorem k0_off948_inb : ∀ (v7555 : BitVec 32) (k0_hw443 : k0_chk443 v7555), ∀ a, (k0_off948 v7555) a + S1x256.size a ≤ S4096x256.size a := fun v7555 k0_hw443 => k0_hw443

def k0_off949 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2761 : BitVec 32 := 1024#32
  let v7562 : BitVec 32 := Scalar.muli v14 c1024_i32_2761
  let c435_i32 : BitVec 32 := 435#32
  let v7563 : BitVec 32 := Scalar.addi v7562 c435_i32
  let v7564 : Index := Scalar.indexCast v7563
  ![v7564.toNat]
def k0_off950 (v7565 : BitVec 32) : Fin 2 → Nat :=
  let c4095_i32_2762 : BitVec 32 := 4095#32
  let v7566 : BitVec 32 := Scalar.andi v7565 c4095_i32_2762
  let v7567 : Index := Scalar.indexCast v7566
  let c0_2763 : Index := 0#32
  ![v7567.toNat, 0]

def k0_chk444 (v7565 : BitVec 32) : Prop :=
  (∀ a, (k0_off950 v7565) a + S1x256.size a ≤ S4096x256.size a)
theorem k0_off950_inb : ∀ (v7565 : BitVec 32) (k0_hw444 : k0_chk444 v7565), ∀ a, (k0_off950 v7565) a + S1x256.size a ≤ S4096x256.size a := fun v7565 k0_hw444 => k0_hw444

def k0_off951 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2765 : BitVec 32 := 1024#32
  let v7572 : BitVec 32 := Scalar.muli v14 c1024_i32_2765
  let c436_i32 : BitVec 32 := 436#32
  let v7573 : BitVec 32 := Scalar.addi v7572 c436_i32
  let v7574 : Index := Scalar.indexCast v7573
  ![v7574.toNat]
def k0_off952 (v7575 : BitVec 32) : Fin 2 → Nat :=
  let c4095_i32_2766 : BitVec 32 := 4095#32
  let v7576 : BitVec 32 := Scalar.andi v7575 c4095_i32_2766
  let v7577 : Index := Scalar.indexCast v7576
  let c0_2767 : Index := 0#32
  ![v7577.toNat, 0]

def k0_chk445 (v7575 : BitVec 32) : Prop :=
  (∀ a, (k0_off952 v7575) a + S1x256.size a ≤ S4096x256.size a)
theorem k0_off952_inb : ∀ (v7575 : BitVec 32) (k0_hw445 : k0_chk445 v7575), ∀ a, (k0_off952 v7575) a + S1x256.size a ≤ S4096x256.size a := fun v7575 k0_hw445 => k0_hw445

def k0_off953 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2769 : BitVec 32 := 1024#32
  let v7582 : BitVec 32 := Scalar.muli v14 c1024_i32_2769
  let c437_i32 : BitVec 32 := 437#32
  let v7583 : BitVec 32 := Scalar.addi v7582 c437_i32
  let v7584 : Index := Scalar.indexCast v7583
  ![v7584.toNat]
def k0_off954 (v7585 : BitVec 32) : Fin 2 → Nat :=
  let c4095_i32_2770 : BitVec 32 := 4095#32
  let v7586 : BitVec 32 := Scalar.andi v7585 c4095_i32_2770
  let v7587 : Index := Scalar.indexCast v7586
  let c0_2771 : Index := 0#32
  ![v7587.toNat, 0]

def k0_chk446 (v7585 : BitVec 32) : Prop :=
  (∀ a, (k0_off954 v7585) a + S1x256.size a ≤ S4096x256.size a)
theorem k0_off954_inb : ∀ (v7585 : BitVec 32) (k0_hw446 : k0_chk446 v7585), ∀ a, (k0_off954 v7585) a + S1x256.size a ≤ S4096x256.size a := fun v7585 k0_hw446 => k0_hw446

def k0_off955 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2773 : BitVec 32 := 1024#32
  let v7592 : BitVec 32 := Scalar.muli v14 c1024_i32_2773
  let c438_i32 : BitVec 32 := 438#32
  let v7593 : BitVec 32 := Scalar.addi v7592 c438_i32
  let v7594 : Index := Scalar.indexCast v7593
  ![v7594.toNat]
def k0_off956 (v7595 : BitVec 32) : Fin 2 → Nat :=
  let c4095_i32_2774 : BitVec 32 := 4095#32
  let v7596 : BitVec 32 := Scalar.andi v7595 c4095_i32_2774
  let v7597 : Index := Scalar.indexCast v7596
  let c0_2775 : Index := 0#32
  ![v7597.toNat, 0]

def k0_chk447 (v7595 : BitVec 32) : Prop :=
  (∀ a, (k0_off956 v7595) a + S1x256.size a ≤ S4096x256.size a)
theorem k0_off956_inb : ∀ (v7595 : BitVec 32) (k0_hw447 : k0_chk447 v7595), ∀ a, (k0_off956 v7595) a + S1x256.size a ≤ S4096x256.size a := fun v7595 k0_hw447 => k0_hw447

def k0_off957 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2777 : BitVec 32 := 1024#32
  let v7602 : BitVec 32 := Scalar.muli v14 c1024_i32_2777
  let c439_i32 : BitVec 32 := 439#32
  let v7603 : BitVec 32 := Scalar.addi v7602 c439_i32
  let v7604 : Index := Scalar.indexCast v7603
  ![v7604.toNat]
def k0_off958 (v7605 : BitVec 32) : Fin 2 → Nat :=
  let c4095_i32_2778 : BitVec 32 := 4095#32
  let v7606 : BitVec 32 := Scalar.andi v7605 c4095_i32_2778
  let v7607 : Index := Scalar.indexCast v7606
  let c0_2779 : Index := 0#32
  ![v7607.toNat, 0]

def k0_chk448 (v7605 : BitVec 32) : Prop :=
  (∀ a, (k0_off958 v7605) a + S1x256.size a ≤ S4096x256.size a)
theorem k0_off958_inb : ∀ (v7605 : BitVec 32) (k0_hw448 : k0_chk448 v7605), ∀ a, (k0_off958 v7605) a + S1x256.size a ≤ S4096x256.size a := fun v7605 k0_hw448 => k0_hw448

def k0_off959 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2781 : BitVec 32 := 1024#32
  let v7612 : BitVec 32 := Scalar.muli v14 c1024_i32_2781
  let c440_i32 : BitVec 32 := 440#32
  let v7613 : BitVec 32 := Scalar.addi v7612 c440_i32
  let v7614 : Index := Scalar.indexCast v7613
  ![v7614.toNat]
def k0_off960 (v7615 : BitVec 32) : Fin 2 → Nat :=
  let c4095_i32_2782 : BitVec 32 := 4095#32
  let v7616 : BitVec 32 := Scalar.andi v7615 c4095_i32_2782
  let v7617 : Index := Scalar.indexCast v7616
  let c0_2783 : Index := 0#32
  ![v7617.toNat, 0]

def k0_chk449 (v7615 : BitVec 32) : Prop :=
  (∀ a, (k0_off960 v7615) a + S1x256.size a ≤ S4096x256.size a)
theorem k0_off960_inb : ∀ (v7615 : BitVec 32) (k0_hw449 : k0_chk449 v7615), ∀ a, (k0_off960 v7615) a + S1x256.size a ≤ S4096x256.size a := fun v7615 k0_hw449 => k0_hw449

def k0_off961 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2785 : BitVec 32 := 1024#32
  let v7622 : BitVec 32 := Scalar.muli v14 c1024_i32_2785
  let c441_i32 : BitVec 32 := 441#32
  let v7623 : BitVec 32 := Scalar.addi v7622 c441_i32
  let v7624 : Index := Scalar.indexCast v7623
  ![v7624.toNat]
def k0_off962 (v7625 : BitVec 32) : Fin 2 → Nat :=
  let c4095_i32_2786 : BitVec 32 := 4095#32
  let v7626 : BitVec 32 := Scalar.andi v7625 c4095_i32_2786
  let v7627 : Index := Scalar.indexCast v7626
  let c0_2787 : Index := 0#32
  ![v7627.toNat, 0]

def k0_chk450 (v7625 : BitVec 32) : Prop :=
  (∀ a, (k0_off962 v7625) a + S1x256.size a ≤ S4096x256.size a)
theorem k0_off962_inb : ∀ (v7625 : BitVec 32) (k0_hw450 : k0_chk450 v7625), ∀ a, (k0_off962 v7625) a + S1x256.size a ≤ S4096x256.size a := fun v7625 k0_hw450 => k0_hw450

def k0_off963 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2789 : BitVec 32 := 1024#32
  let v7632 : BitVec 32 := Scalar.muli v14 c1024_i32_2789
  let c442_i32 : BitVec 32 := 442#32
  let v7633 : BitVec 32 := Scalar.addi v7632 c442_i32
  let v7634 : Index := Scalar.indexCast v7633
  ![v7634.toNat]
def k0_off964 (v7635 : BitVec 32) : Fin 2 → Nat :=
  let c4095_i32_2790 : BitVec 32 := 4095#32
  let v7636 : BitVec 32 := Scalar.andi v7635 c4095_i32_2790
  let v7637 : Index := Scalar.indexCast v7636
  let c0_2791 : Index := 0#32
  ![v7637.toNat, 0]

def k0_chk451 (v7635 : BitVec 32) : Prop :=
  (∀ a, (k0_off964 v7635) a + S1x256.size a ≤ S4096x256.size a)
theorem k0_off964_inb : ∀ (v7635 : BitVec 32) (k0_hw451 : k0_chk451 v7635), ∀ a, (k0_off964 v7635) a + S1x256.size a ≤ S4096x256.size a := fun v7635 k0_hw451 => k0_hw451

def k0_off965 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2793 : BitVec 32 := 1024#32
  let v7642 : BitVec 32 := Scalar.muli v14 c1024_i32_2793
  let c443_i32 : BitVec 32 := 443#32
  let v7643 : BitVec 32 := Scalar.addi v7642 c443_i32
  let v7644 : Index := Scalar.indexCast v7643
  ![v7644.toNat]
def k0_off966 (v7645 : BitVec 32) : Fin 2 → Nat :=
  let c4095_i32_2794 : BitVec 32 := 4095#32
  let v7646 : BitVec 32 := Scalar.andi v7645 c4095_i32_2794
  let v7647 : Index := Scalar.indexCast v7646
  let c0_2795 : Index := 0#32
  ![v7647.toNat, 0]

def k0_chk452 (v7645 : BitVec 32) : Prop :=
  (∀ a, (k0_off966 v7645) a + S1x256.size a ≤ S4096x256.size a)
theorem k0_off966_inb : ∀ (v7645 : BitVec 32) (k0_hw452 : k0_chk452 v7645), ∀ a, (k0_off966 v7645) a + S1x256.size a ≤ S4096x256.size a := fun v7645 k0_hw452 => k0_hw452

def k0_off967 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2797 : BitVec 32 := 1024#32
  let v7652 : BitVec 32 := Scalar.muli v14 c1024_i32_2797
  let c444_i32 : BitVec 32 := 444#32
  let v7653 : BitVec 32 := Scalar.addi v7652 c444_i32
  let v7654 : Index := Scalar.indexCast v7653
  ![v7654.toNat]
def k0_off968 (v7655 : BitVec 32) : Fin 2 → Nat :=
  let c4095_i32_2798 : BitVec 32 := 4095#32
  let v7656 : BitVec 32 := Scalar.andi v7655 c4095_i32_2798
  let v7657 : Index := Scalar.indexCast v7656
  let c0_2799 : Index := 0#32
  ![v7657.toNat, 0]

def k0_chk453 (v7655 : BitVec 32) : Prop :=
  (∀ a, (k0_off968 v7655) a + S1x256.size a ≤ S4096x256.size a)
theorem k0_off968_inb : ∀ (v7655 : BitVec 32) (k0_hw453 : k0_chk453 v7655), ∀ a, (k0_off968 v7655) a + S1x256.size a ≤ S4096x256.size a := fun v7655 k0_hw453 => k0_hw453

def k0_off969 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2801 : BitVec 32 := 1024#32
  let v7662 : BitVec 32 := Scalar.muli v14 c1024_i32_2801
  let c445_i32 : BitVec 32 := 445#32
  let v7663 : BitVec 32 := Scalar.addi v7662 c445_i32
  let v7664 : Index := Scalar.indexCast v7663
  ![v7664.toNat]
def k0_off970 (v7665 : BitVec 32) : Fin 2 → Nat :=
  let c4095_i32_2802 : BitVec 32 := 4095#32
  let v7666 : BitVec 32 := Scalar.andi v7665 c4095_i32_2802
  let v7667 : Index := Scalar.indexCast v7666
  let c0_2803 : Index := 0#32
  ![v7667.toNat, 0]

def k0_chk454 (v7665 : BitVec 32) : Prop :=
  (∀ a, (k0_off970 v7665) a + S1x256.size a ≤ S4096x256.size a)
theorem k0_off970_inb : ∀ (v7665 : BitVec 32) (k0_hw454 : k0_chk454 v7665), ∀ a, (k0_off970 v7665) a + S1x256.size a ≤ S4096x256.size a := fun v7665 k0_hw454 => k0_hw454

def k0_off971 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2805 : BitVec 32 := 1024#32
  let v7672 : BitVec 32 := Scalar.muli v14 c1024_i32_2805
  let c446_i32 : BitVec 32 := 446#32
  let v7673 : BitVec 32 := Scalar.addi v7672 c446_i32
  let v7674 : Index := Scalar.indexCast v7673
  ![v7674.toNat]
def k0_off972 (v7675 : BitVec 32) : Fin 2 → Nat :=
  let c4095_i32_2806 : BitVec 32 := 4095#32
  let v7676 : BitVec 32 := Scalar.andi v7675 c4095_i32_2806
  let v7677 : Index := Scalar.indexCast v7676
  let c0_2807 : Index := 0#32
  ![v7677.toNat, 0]

def k0_chk455 (v7675 : BitVec 32) : Prop :=
  (∀ a, (k0_off972 v7675) a + S1x256.size a ≤ S4096x256.size a)
theorem k0_off972_inb : ∀ (v7675 : BitVec 32) (k0_hw455 : k0_chk455 v7675), ∀ a, (k0_off972 v7675) a + S1x256.size a ≤ S4096x256.size a := fun v7675 k0_hw455 => k0_hw455

def k0_off973 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2809 : BitVec 32 := 1024#32
  let v7682 : BitVec 32 := Scalar.muli v14 c1024_i32_2809
  let c447_i32 : BitVec 32 := 447#32
  let v7683 : BitVec 32 := Scalar.addi v7682 c447_i32
  let v7684 : Index := Scalar.indexCast v7683
  ![v7684.toNat]
def k0_off974 (v7685 : BitVec 32) : Fin 2 → Nat :=
  let c4095_i32_2810 : BitVec 32 := 4095#32
  let v7686 : BitVec 32 := Scalar.andi v7685 c4095_i32_2810
  let v7687 : Index := Scalar.indexCast v7686
  let c0_2811 : Index := 0#32
  ![v7687.toNat, 0]

def k0_chk456 (v7685 : BitVec 32) : Prop :=
  (∀ a, (k0_off974 v7685) a + S1x256.size a ≤ S4096x256.size a)
theorem k0_off974_inb : ∀ (v7685 : BitVec 32) (k0_hw456 : k0_chk456 v7685), ∀ a, (k0_off974 v7685) a + S1x256.size a ≤ S4096x256.size a := fun v7685 k0_hw456 => k0_hw456

def k0_off975 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2813 : BitVec 32 := 1024#32
  let v7692 : BitVec 32 := Scalar.muli v14 c1024_i32_2813
  let c448_i32 : BitVec 32 := 448#32
  let v7693 : BitVec 32 := Scalar.addi v7692 c448_i32
  let v7694 : Index := Scalar.indexCast v7693
  ![v7694.toNat]
def k0_off976 (v7695 : BitVec 32) : Fin 2 → Nat :=
  let c4095_i32_2814 : BitVec 32 := 4095#32
  let v7696 : BitVec 32 := Scalar.andi v7695 c4095_i32_2814
  let v7697 : Index := Scalar.indexCast v7696
  let c0_2815 : Index := 0#32
  ![v7697.toNat, 0]

def k0_chk457 (v7695 : BitVec 32) : Prop :=
  (∀ a, (k0_off976 v7695) a + S1x256.size a ≤ S4096x256.size a)
theorem k0_off976_inb : ∀ (v7695 : BitVec 32) (k0_hw457 : k0_chk457 v7695), ∀ a, (k0_off976 v7695) a + S1x256.size a ≤ S4096x256.size a := fun v7695 k0_hw457 => k0_hw457

def k0_off977 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2818 : BitVec 32 := 1024#32
  let v7702 : BitVec 32 := Scalar.muli v14 c1024_i32_2818
  let c449_i32 : BitVec 32 := 449#32
  let v7703 : BitVec 32 := Scalar.addi v7702 c449_i32
  let v7704 : Index := Scalar.indexCast v7703
  ![v7704.toNat]
def k0_off978 (v7705 : BitVec 32) : Fin 2 → Nat :=
  let c4095_i32_2819 : BitVec 32 := 4095#32
  let v7706 : BitVec 32 := Scalar.andi v7705 c4095_i32_2819
  let v7707 : Index := Scalar.indexCast v7706
  let c0_2820 : Index := 0#32
  ![v7707.toNat, 0]

def k0_chk458 (v7705 : BitVec 32) : Prop :=
  (∀ a, (k0_off978 v7705) a + S1x256.size a ≤ S4096x256.size a)
theorem k0_off978_inb : ∀ (v7705 : BitVec 32) (k0_hw458 : k0_chk458 v7705), ∀ a, (k0_off978 v7705) a + S1x256.size a ≤ S4096x256.size a := fun v7705 k0_hw458 => k0_hw458

def k0_off979 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2822 : BitVec 32 := 1024#32
  let v7712 : BitVec 32 := Scalar.muli v14 c1024_i32_2822
  let c450_i32 : BitVec 32 := 450#32
  let v7713 : BitVec 32 := Scalar.addi v7712 c450_i32
  let v7714 : Index := Scalar.indexCast v7713
  ![v7714.toNat]
def k0_off980 (v7715 : BitVec 32) : Fin 2 → Nat :=
  let c4095_i32_2823 : BitVec 32 := 4095#32
  let v7716 : BitVec 32 := Scalar.andi v7715 c4095_i32_2823
  let v7717 : Index := Scalar.indexCast v7716
  let c0_2824 : Index := 0#32
  ![v7717.toNat, 0]

def k0_chk459 (v7715 : BitVec 32) : Prop :=
  (∀ a, (k0_off980 v7715) a + S1x256.size a ≤ S4096x256.size a)
theorem k0_off980_inb : ∀ (v7715 : BitVec 32) (k0_hw459 : k0_chk459 v7715), ∀ a, (k0_off980 v7715) a + S1x256.size a ≤ S4096x256.size a := fun v7715 k0_hw459 => k0_hw459

def k0_off981 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2826 : BitVec 32 := 1024#32
  let v7722 : BitVec 32 := Scalar.muli v14 c1024_i32_2826
  let c451_i32 : BitVec 32 := 451#32
  let v7723 : BitVec 32 := Scalar.addi v7722 c451_i32
  let v7724 : Index := Scalar.indexCast v7723
  ![v7724.toNat]
def k0_off982 (v7725 : BitVec 32) : Fin 2 → Nat :=
  let c4095_i32_2827 : BitVec 32 := 4095#32
  let v7726 : BitVec 32 := Scalar.andi v7725 c4095_i32_2827
  let v7727 : Index := Scalar.indexCast v7726
  let c0_2828 : Index := 0#32
  ![v7727.toNat, 0]

def k0_chk460 (v7725 : BitVec 32) : Prop :=
  (∀ a, (k0_off982 v7725) a + S1x256.size a ≤ S4096x256.size a)
theorem k0_off982_inb : ∀ (v7725 : BitVec 32) (k0_hw460 : k0_chk460 v7725), ∀ a, (k0_off982 v7725) a + S1x256.size a ≤ S4096x256.size a := fun v7725 k0_hw460 => k0_hw460

def k0_off983 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2830 : BitVec 32 := 1024#32
  let v7732 : BitVec 32 := Scalar.muli v14 c1024_i32_2830
  let c452_i32 : BitVec 32 := 452#32
  let v7733 : BitVec 32 := Scalar.addi v7732 c452_i32
  let v7734 : Index := Scalar.indexCast v7733
  ![v7734.toNat]
def k0_off984 (v7735 : BitVec 32) : Fin 2 → Nat :=
  let c4095_i32_2831 : BitVec 32 := 4095#32
  let v7736 : BitVec 32 := Scalar.andi v7735 c4095_i32_2831
  let v7737 : Index := Scalar.indexCast v7736
  let c0_2832 : Index := 0#32
  ![v7737.toNat, 0]

def k0_chk461 (v7735 : BitVec 32) : Prop :=
  (∀ a, (k0_off984 v7735) a + S1x256.size a ≤ S4096x256.size a)
theorem k0_off984_inb : ∀ (v7735 : BitVec 32) (k0_hw461 : k0_chk461 v7735), ∀ a, (k0_off984 v7735) a + S1x256.size a ≤ S4096x256.size a := fun v7735 k0_hw461 => k0_hw461

def k0_off985 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2834 : BitVec 32 := 1024#32
  let v7742 : BitVec 32 := Scalar.muli v14 c1024_i32_2834
  let c453_i32 : BitVec 32 := 453#32
  let v7743 : BitVec 32 := Scalar.addi v7742 c453_i32
  let v7744 : Index := Scalar.indexCast v7743
  ![v7744.toNat]
def k0_off986 (v7745 : BitVec 32) : Fin 2 → Nat :=
  let c4095_i32_2835 : BitVec 32 := 4095#32
  let v7746 : BitVec 32 := Scalar.andi v7745 c4095_i32_2835
  let v7747 : Index := Scalar.indexCast v7746
  let c0_2836 : Index := 0#32
  ![v7747.toNat, 0]

def k0_chk462 (v7745 : BitVec 32) : Prop :=
  (∀ a, (k0_off986 v7745) a + S1x256.size a ≤ S4096x256.size a)
theorem k0_off986_inb : ∀ (v7745 : BitVec 32) (k0_hw462 : k0_chk462 v7745), ∀ a, (k0_off986 v7745) a + S1x256.size a ≤ S4096x256.size a := fun v7745 k0_hw462 => k0_hw462

def k0_off987 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2838 : BitVec 32 := 1024#32
  let v7752 : BitVec 32 := Scalar.muli v14 c1024_i32_2838
  let c454_i32 : BitVec 32 := 454#32
  let v7753 : BitVec 32 := Scalar.addi v7752 c454_i32
  let v7754 : Index := Scalar.indexCast v7753
  ![v7754.toNat]
def k0_off988 (v7755 : BitVec 32) : Fin 2 → Nat :=
  let c4095_i32_2839 : BitVec 32 := 4095#32
  let v7756 : BitVec 32 := Scalar.andi v7755 c4095_i32_2839
  let v7757 : Index := Scalar.indexCast v7756
  let c0_2840 : Index := 0#32
  ![v7757.toNat, 0]

def k0_chk463 (v7755 : BitVec 32) : Prop :=
  (∀ a, (k0_off988 v7755) a + S1x256.size a ≤ S4096x256.size a)
theorem k0_off988_inb : ∀ (v7755 : BitVec 32) (k0_hw463 : k0_chk463 v7755), ∀ a, (k0_off988 v7755) a + S1x256.size a ≤ S4096x256.size a := fun v7755 k0_hw463 => k0_hw463

def k0_off989 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2842 : BitVec 32 := 1024#32
  let v7762 : BitVec 32 := Scalar.muli v14 c1024_i32_2842
  let c455_i32 : BitVec 32 := 455#32
  let v7763 : BitVec 32 := Scalar.addi v7762 c455_i32
  let v7764 : Index := Scalar.indexCast v7763
  ![v7764.toNat]
def k0_off990 (v7765 : BitVec 32) : Fin 2 → Nat :=
  let c4095_i32_2843 : BitVec 32 := 4095#32
  let v7766 : BitVec 32 := Scalar.andi v7765 c4095_i32_2843
  let v7767 : Index := Scalar.indexCast v7766
  let c0_2844 : Index := 0#32
  ![v7767.toNat, 0]

def k0_chk464 (v7765 : BitVec 32) : Prop :=
  (∀ a, (k0_off990 v7765) a + S1x256.size a ≤ S4096x256.size a)
theorem k0_off990_inb : ∀ (v7765 : BitVec 32) (k0_hw464 : k0_chk464 v7765), ∀ a, (k0_off990 v7765) a + S1x256.size a ≤ S4096x256.size a := fun v7765 k0_hw464 => k0_hw464

def k0_off991 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v7829 : Index := Scalar.indexCast v12
  let c0_2861 : Index := 0#32
  let c0_2862 : Index := 0#32
  ![v7829.toNat, 0, 0]
def k0_off992 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v7890 : Index := Scalar.indexCast v12
  let c0_2880 : Index := 0#32
  let c256_2881 : Index := 256#32
  ![v7890.toNat, 0, 256]
def k0_off993 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v7952 : Index := Scalar.indexCast v12
  let c0_2899 : Index := 0#32
  let c512_2900 : Index := 512#32
  ![v7952.toNat, 0, 512]
def k0_off994 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v8014 : Index := Scalar.indexCast v12
  let c0_2918 : Index := 0#32
  let c768_2919 : Index := 768#32
  ![v8014.toNat, 0, 768]
def k0_off995 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2925 : BitVec 32 := 1024#32
  let v8024 : BitVec 32 := Scalar.muli v14 c1024_i32_2925
  let c456_i32 : BitVec 32 := 456#32
  let v8025 : BitVec 32 := Scalar.addi v8024 c456_i32
  let v8026 : Index := Scalar.indexCast v8025
  ![v8026.toNat]
def k0_off996 (v8027 : BitVec 32) : Fin 2 → Nat :=
  let c4095_i32_2926 : BitVec 32 := 4095#32
  let v8028 : BitVec 32 := Scalar.andi v8027 c4095_i32_2926
  let v8029 : Index := Scalar.indexCast v8028
  let c0_2927 : Index := 0#32
  ![v8029.toNat, 0]

def k0_chk465 (v8027 : BitVec 32) : Prop :=
  (∀ a, (k0_off996 v8027) a + S1x256.size a ≤ S4096x256.size a)
theorem k0_off996_inb : ∀ (v8027 : BitVec 32) (k0_hw465 : k0_chk465 v8027), ∀ a, (k0_off996 v8027) a + S1x256.size a ≤ S4096x256.size a := fun v8027 k0_hw465 => k0_hw465

def k0_off997 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2929 : BitVec 32 := 1024#32
  let v8034 : BitVec 32 := Scalar.muli v14 c1024_i32_2929
  let c457_i32 : BitVec 32 := 457#32
  let v8035 : BitVec 32 := Scalar.addi v8034 c457_i32
  let v8036 : Index := Scalar.indexCast v8035
  ![v8036.toNat]
def k0_off998 (v8037 : BitVec 32) : Fin 2 → Nat :=
  let c4095_i32_2930 : BitVec 32 := 4095#32
  let v8038 : BitVec 32 := Scalar.andi v8037 c4095_i32_2930
  let v8039 : Index := Scalar.indexCast v8038
  let c0_2931 : Index := 0#32
  ![v8039.toNat, 0]

def k0_chk466 (v8037 : BitVec 32) : Prop :=
  (∀ a, (k0_off998 v8037) a + S1x256.size a ≤ S4096x256.size a)
theorem k0_off998_inb : ∀ (v8037 : BitVec 32) (k0_hw466 : k0_chk466 v8037), ∀ a, (k0_off998 v8037) a + S1x256.size a ≤ S4096x256.size a := fun v8037 k0_hw466 => k0_hw466

def k0_off999 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2933 : BitVec 32 := 1024#32
  let v8044 : BitVec 32 := Scalar.muli v14 c1024_i32_2933
  let c458_i32 : BitVec 32 := 458#32
  let v8045 : BitVec 32 := Scalar.addi v8044 c458_i32
  let v8046 : Index := Scalar.indexCast v8045
  ![v8046.toNat]
def k0_off1000 (v8047 : BitVec 32) : Fin 2 → Nat :=
  let c4095_i32_2934 : BitVec 32 := 4095#32
  let v8048 : BitVec 32 := Scalar.andi v8047 c4095_i32_2934
  let v8049 : Index := Scalar.indexCast v8048
  let c0_2935 : Index := 0#32
  ![v8049.toNat, 0]

def k0_chk467 (v8047 : BitVec 32) : Prop :=
  (∀ a, (k0_off1000 v8047) a + S1x256.size a ≤ S4096x256.size a)
theorem k0_off1000_inb : ∀ (v8047 : BitVec 32) (k0_hw467 : k0_chk467 v8047), ∀ a, (k0_off1000 v8047) a + S1x256.size a ≤ S4096x256.size a := fun v8047 k0_hw467 => k0_hw467

def k0_off1001 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2937 : BitVec 32 := 1024#32
  let v8054 : BitVec 32 := Scalar.muli v14 c1024_i32_2937
  let c459_i32 : BitVec 32 := 459#32
  let v8055 : BitVec 32 := Scalar.addi v8054 c459_i32
  let v8056 : Index := Scalar.indexCast v8055
  ![v8056.toNat]
def k0_off1002 (v8057 : BitVec 32) : Fin 2 → Nat :=
  let c4095_i32_2938 : BitVec 32 := 4095#32
  let v8058 : BitVec 32 := Scalar.andi v8057 c4095_i32_2938
  let v8059 : Index := Scalar.indexCast v8058
  let c0_2939 : Index := 0#32
  ![v8059.toNat, 0]

def k0_chk468 (v8057 : BitVec 32) : Prop :=
  (∀ a, (k0_off1002 v8057) a + S1x256.size a ≤ S4096x256.size a)
theorem k0_off1002_inb : ∀ (v8057 : BitVec 32) (k0_hw468 : k0_chk468 v8057), ∀ a, (k0_off1002 v8057) a + S1x256.size a ≤ S4096x256.size a := fun v8057 k0_hw468 => k0_hw468

def k0_off1003 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2941 : BitVec 32 := 1024#32
  let v8064 : BitVec 32 := Scalar.muli v14 c1024_i32_2941
  let c460_i32 : BitVec 32 := 460#32
  let v8065 : BitVec 32 := Scalar.addi v8064 c460_i32
  let v8066 : Index := Scalar.indexCast v8065
  ![v8066.toNat]
def k0_off1004 (v8067 : BitVec 32) : Fin 2 → Nat :=
  let c4095_i32_2942 : BitVec 32 := 4095#32
  let v8068 : BitVec 32 := Scalar.andi v8067 c4095_i32_2942
  let v8069 : Index := Scalar.indexCast v8068
  let c0_2943 : Index := 0#32
  ![v8069.toNat, 0]

def k0_chk469 (v8067 : BitVec 32) : Prop :=
  (∀ a, (k0_off1004 v8067) a + S1x256.size a ≤ S4096x256.size a)
theorem k0_off1004_inb : ∀ (v8067 : BitVec 32) (k0_hw469 : k0_chk469 v8067), ∀ a, (k0_off1004 v8067) a + S1x256.size a ≤ S4096x256.size a := fun v8067 k0_hw469 => k0_hw469

def k0_off1005 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2945 : BitVec 32 := 1024#32
  let v8074 : BitVec 32 := Scalar.muli v14 c1024_i32_2945
  let c461_i32 : BitVec 32 := 461#32
  let v8075 : BitVec 32 := Scalar.addi v8074 c461_i32
  let v8076 : Index := Scalar.indexCast v8075
  ![v8076.toNat]
def k0_off1006 (v8077 : BitVec 32) : Fin 2 → Nat :=
  let c4095_i32_2946 : BitVec 32 := 4095#32
  let v8078 : BitVec 32 := Scalar.andi v8077 c4095_i32_2946
  let v8079 : Index := Scalar.indexCast v8078
  let c0_2947 : Index := 0#32
  ![v8079.toNat, 0]

def k0_chk470 (v8077 : BitVec 32) : Prop :=
  (∀ a, (k0_off1006 v8077) a + S1x256.size a ≤ S4096x256.size a)
theorem k0_off1006_inb : ∀ (v8077 : BitVec 32) (k0_hw470 : k0_chk470 v8077), ∀ a, (k0_off1006 v8077) a + S1x256.size a ≤ S4096x256.size a := fun v8077 k0_hw470 => k0_hw470

def k0_off1007 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2949 : BitVec 32 := 1024#32
  let v8084 : BitVec 32 := Scalar.muli v14 c1024_i32_2949
  let c462_i32 : BitVec 32 := 462#32
  let v8085 : BitVec 32 := Scalar.addi v8084 c462_i32
  let v8086 : Index := Scalar.indexCast v8085
  ![v8086.toNat]
def k0_off1008 (v8087 : BitVec 32) : Fin 2 → Nat :=
  let c4095_i32_2950 : BitVec 32 := 4095#32
  let v8088 : BitVec 32 := Scalar.andi v8087 c4095_i32_2950
  let v8089 : Index := Scalar.indexCast v8088
  let c0_2951 : Index := 0#32
  ![v8089.toNat, 0]

def k0_chk471 (v8087 : BitVec 32) : Prop :=
  (∀ a, (k0_off1008 v8087) a + S1x256.size a ≤ S4096x256.size a)
theorem k0_off1008_inb : ∀ (v8087 : BitVec 32) (k0_hw471 : k0_chk471 v8087), ∀ a, (k0_off1008 v8087) a + S1x256.size a ≤ S4096x256.size a := fun v8087 k0_hw471 => k0_hw471

def k0_off1009 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2953 : BitVec 32 := 1024#32
  let v8094 : BitVec 32 := Scalar.muli v14 c1024_i32_2953
  let c463_i32 : BitVec 32 := 463#32
  let v8095 : BitVec 32 := Scalar.addi v8094 c463_i32
  let v8096 : Index := Scalar.indexCast v8095
  ![v8096.toNat]
def k0_off1010 (v8097 : BitVec 32) : Fin 2 → Nat :=
  let c4095_i32_2954 : BitVec 32 := 4095#32
  let v8098 : BitVec 32 := Scalar.andi v8097 c4095_i32_2954
  let v8099 : Index := Scalar.indexCast v8098
  let c0_2955 : Index := 0#32
  ![v8099.toNat, 0]

def k0_chk472 (v8097 : BitVec 32) : Prop :=
  (∀ a, (k0_off1010 v8097) a + S1x256.size a ≤ S4096x256.size a)
theorem k0_off1010_inb : ∀ (v8097 : BitVec 32) (k0_hw472 : k0_chk472 v8097), ∀ a, (k0_off1010 v8097) a + S1x256.size a ≤ S4096x256.size a := fun v8097 k0_hw472 => k0_hw472

def k0_off1011 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2957 : BitVec 32 := 1024#32
  let v8104 : BitVec 32 := Scalar.muli v14 c1024_i32_2957
  let c464_i32 : BitVec 32 := 464#32
  let v8105 : BitVec 32 := Scalar.addi v8104 c464_i32
  let v8106 : Index := Scalar.indexCast v8105
  ![v8106.toNat]
def k0_off1012 (v8107 : BitVec 32) : Fin 2 → Nat :=
  let c4095_i32_2958 : BitVec 32 := 4095#32
  let v8108 : BitVec 32 := Scalar.andi v8107 c4095_i32_2958
  let v8109 : Index := Scalar.indexCast v8108
  let c0_2959 : Index := 0#32
  ![v8109.toNat, 0]

def k0_chk473 (v8107 : BitVec 32) : Prop :=
  (∀ a, (k0_off1012 v8107) a + S1x256.size a ≤ S4096x256.size a)
theorem k0_off1012_inb : ∀ (v8107 : BitVec 32) (k0_hw473 : k0_chk473 v8107), ∀ a, (k0_off1012 v8107) a + S1x256.size a ≤ S4096x256.size a := fun v8107 k0_hw473 => k0_hw473

def k0_off1013 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2961 : BitVec 32 := 1024#32
  let v8114 : BitVec 32 := Scalar.muli v14 c1024_i32_2961
  let c465_i32 : BitVec 32 := 465#32
  let v8115 : BitVec 32 := Scalar.addi v8114 c465_i32
  let v8116 : Index := Scalar.indexCast v8115
  ![v8116.toNat]
def k0_off1014 (v8117 : BitVec 32) : Fin 2 → Nat :=
  let c4095_i32_2962 : BitVec 32 := 4095#32
  let v8118 : BitVec 32 := Scalar.andi v8117 c4095_i32_2962
  let v8119 : Index := Scalar.indexCast v8118
  let c0_2963 : Index := 0#32
  ![v8119.toNat, 0]

def k0_chk474 (v8117 : BitVec 32) : Prop :=
  (∀ a, (k0_off1014 v8117) a + S1x256.size a ≤ S4096x256.size a)
theorem k0_off1014_inb : ∀ (v8117 : BitVec 32) (k0_hw474 : k0_chk474 v8117), ∀ a, (k0_off1014 v8117) a + S1x256.size a ≤ S4096x256.size a := fun v8117 k0_hw474 => k0_hw474

def k0_off1015 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2965 : BitVec 32 := 1024#32
  let v8124 : BitVec 32 := Scalar.muli v14 c1024_i32_2965
  let c466_i32 : BitVec 32 := 466#32
  let v8125 : BitVec 32 := Scalar.addi v8124 c466_i32
  let v8126 : Index := Scalar.indexCast v8125
  ![v8126.toNat]
def k0_off1016 (v8127 : BitVec 32) : Fin 2 → Nat :=
  let c4095_i32_2966 : BitVec 32 := 4095#32
  let v8128 : BitVec 32 := Scalar.andi v8127 c4095_i32_2966
  let v8129 : Index := Scalar.indexCast v8128
  let c0_2967 : Index := 0#32
  ![v8129.toNat, 0]

def k0_chk475 (v8127 : BitVec 32) : Prop :=
  (∀ a, (k0_off1016 v8127) a + S1x256.size a ≤ S4096x256.size a)
theorem k0_off1016_inb : ∀ (v8127 : BitVec 32) (k0_hw475 : k0_chk475 v8127), ∀ a, (k0_off1016 v8127) a + S1x256.size a ≤ S4096x256.size a := fun v8127 k0_hw475 => k0_hw475

def k0_off1017 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2969 : BitVec 32 := 1024#32
  let v8134 : BitVec 32 := Scalar.muli v14 c1024_i32_2969
  let c467_i32 : BitVec 32 := 467#32
  let v8135 : BitVec 32 := Scalar.addi v8134 c467_i32
  let v8136 : Index := Scalar.indexCast v8135
  ![v8136.toNat]
def k0_off1018 (v8137 : BitVec 32) : Fin 2 → Nat :=
  let c4095_i32_2970 : BitVec 32 := 4095#32
  let v8138 : BitVec 32 := Scalar.andi v8137 c4095_i32_2970
  let v8139 : Index := Scalar.indexCast v8138
  let c0_2971 : Index := 0#32
  ![v8139.toNat, 0]

def k0_chk476 (v8137 : BitVec 32) : Prop :=
  (∀ a, (k0_off1018 v8137) a + S1x256.size a ≤ S4096x256.size a)
theorem k0_off1018_inb : ∀ (v8137 : BitVec 32) (k0_hw476 : k0_chk476 v8137), ∀ a, (k0_off1018 v8137) a + S1x256.size a ≤ S4096x256.size a := fun v8137 k0_hw476 => k0_hw476

def k0_off1019 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2973 : BitVec 32 := 1024#32
  let v8144 : BitVec 32 := Scalar.muli v14 c1024_i32_2973
  let c468_i32 : BitVec 32 := 468#32
  let v8145 : BitVec 32 := Scalar.addi v8144 c468_i32
  let v8146 : Index := Scalar.indexCast v8145
  ![v8146.toNat]
def k0_off1020 (v8147 : BitVec 32) : Fin 2 → Nat :=
  let c4095_i32_2974 : BitVec 32 := 4095#32
  let v8148 : BitVec 32 := Scalar.andi v8147 c4095_i32_2974
  let v8149 : Index := Scalar.indexCast v8148
  let c0_2975 : Index := 0#32
  ![v8149.toNat, 0]

def k0_chk477 (v8147 : BitVec 32) : Prop :=
  (∀ a, (k0_off1020 v8147) a + S1x256.size a ≤ S4096x256.size a)
theorem k0_off1020_inb : ∀ (v8147 : BitVec 32) (k0_hw477 : k0_chk477 v8147), ∀ a, (k0_off1020 v8147) a + S1x256.size a ≤ S4096x256.size a := fun v8147 k0_hw477 => k0_hw477

def k0_off1021 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2977 : BitVec 32 := 1024#32
  let v8154 : BitVec 32 := Scalar.muli v14 c1024_i32_2977
  let c469_i32 : BitVec 32 := 469#32
  let v8155 : BitVec 32 := Scalar.addi v8154 c469_i32
  let v8156 : Index := Scalar.indexCast v8155
  ![v8156.toNat]
def k0_off1022 (v8157 : BitVec 32) : Fin 2 → Nat :=
  let c4095_i32_2978 : BitVec 32 := 4095#32
  let v8158 : BitVec 32 := Scalar.andi v8157 c4095_i32_2978
  let v8159 : Index := Scalar.indexCast v8158
  let c0_2979 : Index := 0#32
  ![v8159.toNat, 0]

def k0_chk478 (v8157 : BitVec 32) : Prop :=
  (∀ a, (k0_off1022 v8157) a + S1x256.size a ≤ S4096x256.size a)
theorem k0_off1022_inb : ∀ (v8157 : BitVec 32) (k0_hw478 : k0_chk478 v8157), ∀ a, (k0_off1022 v8157) a + S1x256.size a ≤ S4096x256.size a := fun v8157 k0_hw478 => k0_hw478

def k0_off1023 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2981 : BitVec 32 := 1024#32
  let v8164 : BitVec 32 := Scalar.muli v14 c1024_i32_2981
  let c470_i32 : BitVec 32 := 470#32
  let v8165 : BitVec 32 := Scalar.addi v8164 c470_i32
  let v8166 : Index := Scalar.indexCast v8165
  ![v8166.toNat]
def k0_off1024 (v8167 : BitVec 32) : Fin 2 → Nat :=
  let c4095_i32_2982 : BitVec 32 := 4095#32
  let v8168 : BitVec 32 := Scalar.andi v8167 c4095_i32_2982
  let v8169 : Index := Scalar.indexCast v8168
  let c0_2983 : Index := 0#32
  ![v8169.toNat, 0]

def k0_chk479 (v8167 : BitVec 32) : Prop :=
  (∀ a, (k0_off1024 v8167) a + S1x256.size a ≤ S4096x256.size a)
theorem k0_off1024_inb : ∀ (v8167 : BitVec 32) (k0_hw479 : k0_chk479 v8167), ∀ a, (k0_off1024 v8167) a + S1x256.size a ≤ S4096x256.size a := fun v8167 k0_hw479 => k0_hw479

def k0_off1025 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2985 : BitVec 32 := 1024#32
  let v8174 : BitVec 32 := Scalar.muli v14 c1024_i32_2985
  let c471_i32 : BitVec 32 := 471#32
  let v8175 : BitVec 32 := Scalar.addi v8174 c471_i32
  let v8176 : Index := Scalar.indexCast v8175
  ![v8176.toNat]
def k0_off1026 (v8177 : BitVec 32) : Fin 2 → Nat :=
  let c4095_i32_2986 : BitVec 32 := 4095#32
  let v8178 : BitVec 32 := Scalar.andi v8177 c4095_i32_2986
  let v8179 : Index := Scalar.indexCast v8178
  let c0_2987 : Index := 0#32
  ![v8179.toNat, 0]

def k0_chk480 (v8177 : BitVec 32) : Prop :=
  (∀ a, (k0_off1026 v8177) a + S1x256.size a ≤ S4096x256.size a)
theorem k0_off1026_inb : ∀ (v8177 : BitVec 32) (k0_hw480 : k0_chk480 v8177), ∀ a, (k0_off1026 v8177) a + S1x256.size a ≤ S4096x256.size a := fun v8177 k0_hw480 => k0_hw480

def k0_off1027 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2989 : BitVec 32 := 1024#32
  let v8184 : BitVec 32 := Scalar.muli v14 c1024_i32_2989
  let c472_i32 : BitVec 32 := 472#32
  let v8185 : BitVec 32 := Scalar.addi v8184 c472_i32
  let v8186 : Index := Scalar.indexCast v8185
  ![v8186.toNat]
def k0_off1028 (v8187 : BitVec 32) : Fin 2 → Nat :=
  let c4095_i32_2990 : BitVec 32 := 4095#32
  let v8188 : BitVec 32 := Scalar.andi v8187 c4095_i32_2990
  let v8189 : Index := Scalar.indexCast v8188
  let c0_2991 : Index := 0#32
  ![v8189.toNat, 0]

def k0_chk481 (v8187 : BitVec 32) : Prop :=
  (∀ a, (k0_off1028 v8187) a + S1x256.size a ≤ S4096x256.size a)
theorem k0_off1028_inb : ∀ (v8187 : BitVec 32) (k0_hw481 : k0_chk481 v8187), ∀ a, (k0_off1028 v8187) a + S1x256.size a ≤ S4096x256.size a := fun v8187 k0_hw481 => k0_hw481

def k0_off1029 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2993 : BitVec 32 := 1024#32
  let v8194 : BitVec 32 := Scalar.muli v14 c1024_i32_2993
  let c473_i32 : BitVec 32 := 473#32
  let v8195 : BitVec 32 := Scalar.addi v8194 c473_i32
  let v8196 : Index := Scalar.indexCast v8195
  ![v8196.toNat]
def k0_off1030 (v8197 : BitVec 32) : Fin 2 → Nat :=
  let c4095_i32_2994 : BitVec 32 := 4095#32
  let v8198 : BitVec 32 := Scalar.andi v8197 c4095_i32_2994
  let v8199 : Index := Scalar.indexCast v8198
  let c0_2995 : Index := 0#32
  ![v8199.toNat, 0]

def k0_chk482 (v8197 : BitVec 32) : Prop :=
  (∀ a, (k0_off1030 v8197) a + S1x256.size a ≤ S4096x256.size a)
theorem k0_off1030_inb : ∀ (v8197 : BitVec 32) (k0_hw482 : k0_chk482 v8197), ∀ a, (k0_off1030 v8197) a + S1x256.size a ≤ S4096x256.size a := fun v8197 k0_hw482 => k0_hw482

def k0_off1031 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_2997 : BitVec 32 := 1024#32
  let v8204 : BitVec 32 := Scalar.muli v14 c1024_i32_2997
  let c474_i32 : BitVec 32 := 474#32
  let v8205 : BitVec 32 := Scalar.addi v8204 c474_i32
  let v8206 : Index := Scalar.indexCast v8205
  ![v8206.toNat]
def k0_off1032 (v8207 : BitVec 32) : Fin 2 → Nat :=
  let c4095_i32_2998 : BitVec 32 := 4095#32
  let v8208 : BitVec 32 := Scalar.andi v8207 c4095_i32_2998
  let v8209 : Index := Scalar.indexCast v8208
  let c0_2999 : Index := 0#32
  ![v8209.toNat, 0]

def k0_chk483 (v8207 : BitVec 32) : Prop :=
  (∀ a, (k0_off1032 v8207) a + S1x256.size a ≤ S4096x256.size a)
theorem k0_off1032_inb : ∀ (v8207 : BitVec 32) (k0_hw483 : k0_chk483 v8207), ∀ a, (k0_off1032 v8207) a + S1x256.size a ≤ S4096x256.size a := fun v8207 k0_hw483 => k0_hw483

def k0_off1033 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3001 : BitVec 32 := 1024#32
  let v8214 : BitVec 32 := Scalar.muli v14 c1024_i32_3001
  let c475_i32 : BitVec 32 := 475#32
  let v8215 : BitVec 32 := Scalar.addi v8214 c475_i32
  let v8216 : Index := Scalar.indexCast v8215
  ![v8216.toNat]
def k0_off1034 (v8217 : BitVec 32) : Fin 2 → Nat :=
  let c4095_i32_3002 : BitVec 32 := 4095#32
  let v8218 : BitVec 32 := Scalar.andi v8217 c4095_i32_3002
  let v8219 : Index := Scalar.indexCast v8218
  let c0_3003 : Index := 0#32
  ![v8219.toNat, 0]

def k0_chk484 (v8217 : BitVec 32) : Prop :=
  (∀ a, (k0_off1034 v8217) a + S1x256.size a ≤ S4096x256.size a)
theorem k0_off1034_inb : ∀ (v8217 : BitVec 32) (k0_hw484 : k0_chk484 v8217), ∀ a, (k0_off1034 v8217) a + S1x256.size a ≤ S4096x256.size a := fun v8217 k0_hw484 => k0_hw484

def k0_off1035 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3005 : BitVec 32 := 1024#32
  let v8224 : BitVec 32 := Scalar.muli v14 c1024_i32_3005
  let c476_i32 : BitVec 32 := 476#32
  let v8225 : BitVec 32 := Scalar.addi v8224 c476_i32
  let v8226 : Index := Scalar.indexCast v8225
  ![v8226.toNat]
def k0_off1036 (v8227 : BitVec 32) : Fin 2 → Nat :=
  let c4095_i32_3006 : BitVec 32 := 4095#32
  let v8228 : BitVec 32 := Scalar.andi v8227 c4095_i32_3006
  let v8229 : Index := Scalar.indexCast v8228
  let c0_3007 : Index := 0#32
  ![v8229.toNat, 0]

def k0_chk485 (v8227 : BitVec 32) : Prop :=
  (∀ a, (k0_off1036 v8227) a + S1x256.size a ≤ S4096x256.size a)
theorem k0_off1036_inb : ∀ (v8227 : BitVec 32) (k0_hw485 : k0_chk485 v8227), ∀ a, (k0_off1036 v8227) a + S1x256.size a ≤ S4096x256.size a := fun v8227 k0_hw485 => k0_hw485

def k0_off1037 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3009 : BitVec 32 := 1024#32
  let v8234 : BitVec 32 := Scalar.muli v14 c1024_i32_3009
  let c477_i32 : BitVec 32 := 477#32
  let v8235 : BitVec 32 := Scalar.addi v8234 c477_i32
  let v8236 : Index := Scalar.indexCast v8235
  ![v8236.toNat]
def k0_off1038 (v8237 : BitVec 32) : Fin 2 → Nat :=
  let c4095_i32_3010 : BitVec 32 := 4095#32
  let v8238 : BitVec 32 := Scalar.andi v8237 c4095_i32_3010
  let v8239 : Index := Scalar.indexCast v8238
  let c0_3011 : Index := 0#32
  ![v8239.toNat, 0]

def k0_chk486 (v8237 : BitVec 32) : Prop :=
  (∀ a, (k0_off1038 v8237) a + S1x256.size a ≤ S4096x256.size a)
theorem k0_off1038_inb : ∀ (v8237 : BitVec 32) (k0_hw486 : k0_chk486 v8237), ∀ a, (k0_off1038 v8237) a + S1x256.size a ≤ S4096x256.size a := fun v8237 k0_hw486 => k0_hw486

def k0_off1039 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3013 : BitVec 32 := 1024#32
  let v8244 : BitVec 32 := Scalar.muli v14 c1024_i32_3013
  let c478_i32 : BitVec 32 := 478#32
  let v8245 : BitVec 32 := Scalar.addi v8244 c478_i32
  let v8246 : Index := Scalar.indexCast v8245
  ![v8246.toNat]
def k0_off1040 (v8247 : BitVec 32) : Fin 2 → Nat :=
  let c4095_i32_3014 : BitVec 32 := 4095#32
  let v8248 : BitVec 32 := Scalar.andi v8247 c4095_i32_3014
  let v8249 : Index := Scalar.indexCast v8248
  let c0_3015 : Index := 0#32
  ![v8249.toNat, 0]

def k0_chk487 (v8247 : BitVec 32) : Prop :=
  (∀ a, (k0_off1040 v8247) a + S1x256.size a ≤ S4096x256.size a)
theorem k0_off1040_inb : ∀ (v8247 : BitVec 32) (k0_hw487 : k0_chk487 v8247), ∀ a, (k0_off1040 v8247) a + S1x256.size a ≤ S4096x256.size a := fun v8247 k0_hw487 => k0_hw487

def k0_off1041 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3017 : BitVec 32 := 1024#32
  let v8254 : BitVec 32 := Scalar.muli v14 c1024_i32_3017
  let c479_i32 : BitVec 32 := 479#32
  let v8255 : BitVec 32 := Scalar.addi v8254 c479_i32
  let v8256 : Index := Scalar.indexCast v8255
  ![v8256.toNat]
def k0_off1042 (v8257 : BitVec 32) : Fin 2 → Nat :=
  let c4095_i32_3018 : BitVec 32 := 4095#32
  let v8258 : BitVec 32 := Scalar.andi v8257 c4095_i32_3018
  let v8259 : Index := Scalar.indexCast v8258
  let c0_3019 : Index := 0#32
  ![v8259.toNat, 0]

def k0_chk488 (v8257 : BitVec 32) : Prop :=
  (∀ a, (k0_off1042 v8257) a + S1x256.size a ≤ S4096x256.size a)
theorem k0_off1042_inb : ∀ (v8257 : BitVec 32) (k0_hw488 : k0_chk488 v8257), ∀ a, (k0_off1042 v8257) a + S1x256.size a ≤ S4096x256.size a := fun v8257 k0_hw488 => k0_hw488

def k0_off1043 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3021 : BitVec 32 := 1024#32
  let v8264 : BitVec 32 := Scalar.muli v14 c1024_i32_3021
  let c480_i32 : BitVec 32 := 480#32
  let v8265 : BitVec 32 := Scalar.addi v8264 c480_i32
  let v8266 : Index := Scalar.indexCast v8265
  ![v8266.toNat]
def k0_off1044 (v8267 : BitVec 32) : Fin 2 → Nat :=
  let c4095_i32_3022 : BitVec 32 := 4095#32
  let v8268 : BitVec 32 := Scalar.andi v8267 c4095_i32_3022
  let v8269 : Index := Scalar.indexCast v8268
  let c0_3023 : Index := 0#32
  ![v8269.toNat, 0]

def k0_chk489 (v8267 : BitVec 32) : Prop :=
  (∀ a, (k0_off1044 v8267) a + S1x256.size a ≤ S4096x256.size a)
theorem k0_off1044_inb : ∀ (v8267 : BitVec 32) (k0_hw489 : k0_chk489 v8267), ∀ a, (k0_off1044 v8267) a + S1x256.size a ≤ S4096x256.size a := fun v8267 k0_hw489 => k0_hw489

def k0_off1045 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3025 : BitVec 32 := 1024#32
  let v8274 : BitVec 32 := Scalar.muli v14 c1024_i32_3025
  let c481_i32 : BitVec 32 := 481#32
  let v8275 : BitVec 32 := Scalar.addi v8274 c481_i32
  let v8276 : Index := Scalar.indexCast v8275
  ![v8276.toNat]
def k0_off1046 (v8277 : BitVec 32) : Fin 2 → Nat :=
  let c4095_i32_3026 : BitVec 32 := 4095#32
  let v8278 : BitVec 32 := Scalar.andi v8277 c4095_i32_3026
  let v8279 : Index := Scalar.indexCast v8278
  let c0_3027 : Index := 0#32
  ![v8279.toNat, 0]

def k0_chk490 (v8277 : BitVec 32) : Prop :=
  (∀ a, (k0_off1046 v8277) a + S1x256.size a ≤ S4096x256.size a)
theorem k0_off1046_inb : ∀ (v8277 : BitVec 32) (k0_hw490 : k0_chk490 v8277), ∀ a, (k0_off1046 v8277) a + S1x256.size a ≤ S4096x256.size a := fun v8277 k0_hw490 => k0_hw490

def k0_off1047 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3029 : BitVec 32 := 1024#32
  let v8284 : BitVec 32 := Scalar.muli v14 c1024_i32_3029
  let c482_i32 : BitVec 32 := 482#32
  let v8285 : BitVec 32 := Scalar.addi v8284 c482_i32
  let v8286 : Index := Scalar.indexCast v8285
  ![v8286.toNat]
def k0_off1048 (v8287 : BitVec 32) : Fin 2 → Nat :=
  let c4095_i32_3030 : BitVec 32 := 4095#32
  let v8288 : BitVec 32 := Scalar.andi v8287 c4095_i32_3030
  let v8289 : Index := Scalar.indexCast v8288
  let c0_3031 : Index := 0#32
  ![v8289.toNat, 0]

def k0_chk491 (v8287 : BitVec 32) : Prop :=
  (∀ a, (k0_off1048 v8287) a + S1x256.size a ≤ S4096x256.size a)
theorem k0_off1048_inb : ∀ (v8287 : BitVec 32) (k0_hw491 : k0_chk491 v8287), ∀ a, (k0_off1048 v8287) a + S1x256.size a ≤ S4096x256.size a := fun v8287 k0_hw491 => k0_hw491

def k0_off1049 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3033 : BitVec 32 := 1024#32
  let v8294 : BitVec 32 := Scalar.muli v14 c1024_i32_3033
  let c483_i32 : BitVec 32 := 483#32
  let v8295 : BitVec 32 := Scalar.addi v8294 c483_i32
  let v8296 : Index := Scalar.indexCast v8295
  ![v8296.toNat]
def k0_off1050 (v8297 : BitVec 32) : Fin 2 → Nat :=
  let c4095_i32_3034 : BitVec 32 := 4095#32
  let v8298 : BitVec 32 := Scalar.andi v8297 c4095_i32_3034
  let v8299 : Index := Scalar.indexCast v8298
  let c0_3035 : Index := 0#32
  ![v8299.toNat, 0]

def k0_chk492 (v8297 : BitVec 32) : Prop :=
  (∀ a, (k0_off1050 v8297) a + S1x256.size a ≤ S4096x256.size a)
theorem k0_off1050_inb : ∀ (v8297 : BitVec 32) (k0_hw492 : k0_chk492 v8297), ∀ a, (k0_off1050 v8297) a + S1x256.size a ≤ S4096x256.size a := fun v8297 k0_hw492 => k0_hw492

def k0_off1051 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3037 : BitVec 32 := 1024#32
  let v8304 : BitVec 32 := Scalar.muli v14 c1024_i32_3037
  let c484_i32 : BitVec 32 := 484#32
  let v8305 : BitVec 32 := Scalar.addi v8304 c484_i32
  let v8306 : Index := Scalar.indexCast v8305
  ![v8306.toNat]
def k0_off1052 (v8307 : BitVec 32) : Fin 2 → Nat :=
  let c4095_i32_3038 : BitVec 32 := 4095#32
  let v8308 : BitVec 32 := Scalar.andi v8307 c4095_i32_3038
  let v8309 : Index := Scalar.indexCast v8308
  let c0_3039 : Index := 0#32
  ![v8309.toNat, 0]

def k0_chk493 (v8307 : BitVec 32) : Prop :=
  (∀ a, (k0_off1052 v8307) a + S1x256.size a ≤ S4096x256.size a)
theorem k0_off1052_inb : ∀ (v8307 : BitVec 32) (k0_hw493 : k0_chk493 v8307), ∀ a, (k0_off1052 v8307) a + S1x256.size a ≤ S4096x256.size a := fun v8307 k0_hw493 => k0_hw493

def k0_off1053 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3041 : BitVec 32 := 1024#32
  let v8314 : BitVec 32 := Scalar.muli v14 c1024_i32_3041
  let c485_i32 : BitVec 32 := 485#32
  let v8315 : BitVec 32 := Scalar.addi v8314 c485_i32
  let v8316 : Index := Scalar.indexCast v8315
  ![v8316.toNat]
def k0_off1054 (v8317 : BitVec 32) : Fin 2 → Nat :=
  let c4095_i32_3042 : BitVec 32 := 4095#32
  let v8318 : BitVec 32 := Scalar.andi v8317 c4095_i32_3042
  let v8319 : Index := Scalar.indexCast v8318
  let c0_3043 : Index := 0#32
  ![v8319.toNat, 0]

def k0_chk494 (v8317 : BitVec 32) : Prop :=
  (∀ a, (k0_off1054 v8317) a + S1x256.size a ≤ S4096x256.size a)
theorem k0_off1054_inb : ∀ (v8317 : BitVec 32) (k0_hw494 : k0_chk494 v8317), ∀ a, (k0_off1054 v8317) a + S1x256.size a ≤ S4096x256.size a := fun v8317 k0_hw494 => k0_hw494

def k0_off1055 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3045 : BitVec 32 := 1024#32
  let v8324 : BitVec 32 := Scalar.muli v14 c1024_i32_3045
  let c486_i32 : BitVec 32 := 486#32
  let v8325 : BitVec 32 := Scalar.addi v8324 c486_i32
  let v8326 : Index := Scalar.indexCast v8325
  ![v8326.toNat]
def k0_off1056 (v8327 : BitVec 32) : Fin 2 → Nat :=
  let c4095_i32_3046 : BitVec 32 := 4095#32
  let v8328 : BitVec 32 := Scalar.andi v8327 c4095_i32_3046
  let v8329 : Index := Scalar.indexCast v8328
  let c0_3047 : Index := 0#32
  ![v8329.toNat, 0]

def k0_chk495 (v8327 : BitVec 32) : Prop :=
  (∀ a, (k0_off1056 v8327) a + S1x256.size a ≤ S4096x256.size a)
theorem k0_off1056_inb : ∀ (v8327 : BitVec 32) (k0_hw495 : k0_chk495 v8327), ∀ a, (k0_off1056 v8327) a + S1x256.size a ≤ S4096x256.size a := fun v8327 k0_hw495 => k0_hw495

def k0_off1057 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3049 : BitVec 32 := 1024#32
  let v8334 : BitVec 32 := Scalar.muli v14 c1024_i32_3049
  let c487_i32 : BitVec 32 := 487#32
  let v8335 : BitVec 32 := Scalar.addi v8334 c487_i32
  let v8336 : Index := Scalar.indexCast v8335
  ![v8336.toNat]
def k0_off1058 (v8337 : BitVec 32) : Fin 2 → Nat :=
  let c4095_i32_3050 : BitVec 32 := 4095#32
  let v8338 : BitVec 32 := Scalar.andi v8337 c4095_i32_3050
  let v8339 : Index := Scalar.indexCast v8338
  let c0_3051 : Index := 0#32
  ![v8339.toNat, 0]

def k0_chk496 (v8337 : BitVec 32) : Prop :=
  (∀ a, (k0_off1058 v8337) a + S1x256.size a ≤ S4096x256.size a)
theorem k0_off1058_inb : ∀ (v8337 : BitVec 32) (k0_hw496 : k0_chk496 v8337), ∀ a, (k0_off1058 v8337) a + S1x256.size a ≤ S4096x256.size a := fun v8337 k0_hw496 => k0_hw496

def k0_off1059 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3053 : BitVec 32 := 1024#32
  let v8344 : BitVec 32 := Scalar.muli v14 c1024_i32_3053
  let c488_i32 : BitVec 32 := 488#32
  let v8345 : BitVec 32 := Scalar.addi v8344 c488_i32
  let v8346 : Index := Scalar.indexCast v8345
  ![v8346.toNat]
def k0_off1060 (v8347 : BitVec 32) : Fin 2 → Nat :=
  let c4095_i32_3054 : BitVec 32 := 4095#32
  let v8348 : BitVec 32 := Scalar.andi v8347 c4095_i32_3054
  let v8349 : Index := Scalar.indexCast v8348
  let c0_3055 : Index := 0#32
  ![v8349.toNat, 0]

def k0_chk497 (v8347 : BitVec 32) : Prop :=
  (∀ a, (k0_off1060 v8347) a + S1x256.size a ≤ S4096x256.size a)
theorem k0_off1060_inb : ∀ (v8347 : BitVec 32) (k0_hw497 : k0_chk497 v8347), ∀ a, (k0_off1060 v8347) a + S1x256.size a ≤ S4096x256.size a := fun v8347 k0_hw497 => k0_hw497

def k0_off1061 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3057 : BitVec 32 := 1024#32
  let v8354 : BitVec 32 := Scalar.muli v14 c1024_i32_3057
  let c489_i32 : BitVec 32 := 489#32
  let v8355 : BitVec 32 := Scalar.addi v8354 c489_i32
  let v8356 : Index := Scalar.indexCast v8355
  ![v8356.toNat]
def k0_off1062 (v8357 : BitVec 32) : Fin 2 → Nat :=
  let c4095_i32_3058 : BitVec 32 := 4095#32
  let v8358 : BitVec 32 := Scalar.andi v8357 c4095_i32_3058
  let v8359 : Index := Scalar.indexCast v8358
  let c0_3059 : Index := 0#32
  ![v8359.toNat, 0]

def k0_chk498 (v8357 : BitVec 32) : Prop :=
  (∀ a, (k0_off1062 v8357) a + S1x256.size a ≤ S4096x256.size a)
theorem k0_off1062_inb : ∀ (v8357 : BitVec 32) (k0_hw498 : k0_chk498 v8357), ∀ a, (k0_off1062 v8357) a + S1x256.size a ≤ S4096x256.size a := fun v8357 k0_hw498 => k0_hw498

def k0_off1063 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3061 : BitVec 32 := 1024#32
  let v8364 : BitVec 32 := Scalar.muli v14 c1024_i32_3061
  let c490_i32 : BitVec 32 := 490#32
  let v8365 : BitVec 32 := Scalar.addi v8364 c490_i32
  let v8366 : Index := Scalar.indexCast v8365
  ![v8366.toNat]
def k0_off1064 (v8367 : BitVec 32) : Fin 2 → Nat :=
  let c4095_i32_3062 : BitVec 32 := 4095#32
  let v8368 : BitVec 32 := Scalar.andi v8367 c4095_i32_3062
  let v8369 : Index := Scalar.indexCast v8368
  let c0_3063 : Index := 0#32
  ![v8369.toNat, 0]

def k0_chk499 (v8367 : BitVec 32) : Prop :=
  (∀ a, (k0_off1064 v8367) a + S1x256.size a ≤ S4096x256.size a)
theorem k0_off1064_inb : ∀ (v8367 : BitVec 32) (k0_hw499 : k0_chk499 v8367), ∀ a, (k0_off1064 v8367) a + S1x256.size a ≤ S4096x256.size a := fun v8367 k0_hw499 => k0_hw499

def k0_off1065 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3065 : BitVec 32 := 1024#32
  let v8374 : BitVec 32 := Scalar.muli v14 c1024_i32_3065
  let c491_i32 : BitVec 32 := 491#32
  let v8375 : BitVec 32 := Scalar.addi v8374 c491_i32
  let v8376 : Index := Scalar.indexCast v8375
  ![v8376.toNat]
def k0_off1066 (v8377 : BitVec 32) : Fin 2 → Nat :=
  let c4095_i32_3066 : BitVec 32 := 4095#32
  let v8378 : BitVec 32 := Scalar.andi v8377 c4095_i32_3066
  let v8379 : Index := Scalar.indexCast v8378
  let c0_3067 : Index := 0#32
  ![v8379.toNat, 0]

def k0_chk500 (v8377 : BitVec 32) : Prop :=
  (∀ a, (k0_off1066 v8377) a + S1x256.size a ≤ S4096x256.size a)
theorem k0_off1066_inb : ∀ (v8377 : BitVec 32) (k0_hw500 : k0_chk500 v8377), ∀ a, (k0_off1066 v8377) a + S1x256.size a ≤ S4096x256.size a := fun v8377 k0_hw500 => k0_hw500

def k0_off1067 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3069 : BitVec 32 := 1024#32
  let v8384 : BitVec 32 := Scalar.muli v14 c1024_i32_3069
  let c492_i32 : BitVec 32 := 492#32
  let v8385 : BitVec 32 := Scalar.addi v8384 c492_i32
  let v8386 : Index := Scalar.indexCast v8385
  ![v8386.toNat]
def k0_off1068 (v8387 : BitVec 32) : Fin 2 → Nat :=
  let c4095_i32_3070 : BitVec 32 := 4095#32
  let v8388 : BitVec 32 := Scalar.andi v8387 c4095_i32_3070
  let v8389 : Index := Scalar.indexCast v8388
  let c0_3071 : Index := 0#32
  ![v8389.toNat, 0]

def k0_chk501 (v8387 : BitVec 32) : Prop :=
  (∀ a, (k0_off1068 v8387) a + S1x256.size a ≤ S4096x256.size a)
theorem k0_off1068_inb : ∀ (v8387 : BitVec 32) (k0_hw501 : k0_chk501 v8387), ∀ a, (k0_off1068 v8387) a + S1x256.size a ≤ S4096x256.size a := fun v8387 k0_hw501 => k0_hw501

def k0_off1069 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3073 : BitVec 32 := 1024#32
  let v8394 : BitVec 32 := Scalar.muli v14 c1024_i32_3073
  let c493_i32 : BitVec 32 := 493#32
  let v8395 : BitVec 32 := Scalar.addi v8394 c493_i32
  let v8396 : Index := Scalar.indexCast v8395
  ![v8396.toNat]
def k0_off1070 (v8397 : BitVec 32) : Fin 2 → Nat :=
  let c4095_i32_3074 : BitVec 32 := 4095#32
  let v8398 : BitVec 32 := Scalar.andi v8397 c4095_i32_3074
  let v8399 : Index := Scalar.indexCast v8398
  let c0_3075 : Index := 0#32
  ![v8399.toNat, 0]

def k0_chk502 (v8397 : BitVec 32) : Prop :=
  (∀ a, (k0_off1070 v8397) a + S1x256.size a ≤ S4096x256.size a)
theorem k0_off1070_inb : ∀ (v8397 : BitVec 32) (k0_hw502 : k0_chk502 v8397), ∀ a, (k0_off1070 v8397) a + S1x256.size a ≤ S4096x256.size a := fun v8397 k0_hw502 => k0_hw502

def k0_off1071 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v8461 : Index := Scalar.indexCast v12
  let c0_3092 : Index := 0#32
  let c0_3093 : Index := 0#32
  ![v8461.toNat, 0, 0]
def k0_off1072 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v8522 : Index := Scalar.indexCast v12
  let c0_3111 : Index := 0#32
  let c256_3112 : Index := 256#32
  ![v8522.toNat, 0, 256]
def k0_off1073 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v8584 : Index := Scalar.indexCast v12
  let c0_3130 : Index := 0#32
  let c512_3131 : Index := 512#32
  ![v8584.toNat, 0, 512]
def k0_off1074 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v8646 : Index := Scalar.indexCast v12
  let c0_3149 : Index := 0#32
  let c768_3150 : Index := 768#32
  ![v8646.toNat, 0, 768]
def k0_off1075 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3156 : BitVec 32 := 1024#32
  let v8656 : BitVec 32 := Scalar.muli v14 c1024_i32_3156
  let c494_i32 : BitVec 32 := 494#32
  let v8657 : BitVec 32 := Scalar.addi v8656 c494_i32
  let v8658 : Index := Scalar.indexCast v8657
  ![v8658.toNat]
def k0_off1076 (v8659 : BitVec 32) : Fin 2 → Nat :=
  let c4095_i32_3157 : BitVec 32 := 4095#32
  let v8660 : BitVec 32 := Scalar.andi v8659 c4095_i32_3157
  let v8661 : Index := Scalar.indexCast v8660
  let c0_3158 : Index := 0#32
  ![v8661.toNat, 0]

def k0_chk503 (v8659 : BitVec 32) : Prop :=
  (∀ a, (k0_off1076 v8659) a + S1x256.size a ≤ S4096x256.size a)
theorem k0_off1076_inb : ∀ (v8659 : BitVec 32) (k0_hw503 : k0_chk503 v8659), ∀ a, (k0_off1076 v8659) a + S1x256.size a ≤ S4096x256.size a := fun v8659 k0_hw503 => k0_hw503

def k0_off1077 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3160 : BitVec 32 := 1024#32
  let v8666 : BitVec 32 := Scalar.muli v14 c1024_i32_3160
  let c495_i32 : BitVec 32 := 495#32
  let v8667 : BitVec 32 := Scalar.addi v8666 c495_i32
  let v8668 : Index := Scalar.indexCast v8667
  ![v8668.toNat]
def k0_off1078 (v8669 : BitVec 32) : Fin 2 → Nat :=
  let c4095_i32_3161 : BitVec 32 := 4095#32
  let v8670 : BitVec 32 := Scalar.andi v8669 c4095_i32_3161
  let v8671 : Index := Scalar.indexCast v8670
  let c0_3162 : Index := 0#32
  ![v8671.toNat, 0]

def k0_chk504 (v8669 : BitVec 32) : Prop :=
  (∀ a, (k0_off1078 v8669) a + S1x256.size a ≤ S4096x256.size a)
theorem k0_off1078_inb : ∀ (v8669 : BitVec 32) (k0_hw504 : k0_chk504 v8669), ∀ a, (k0_off1078 v8669) a + S1x256.size a ≤ S4096x256.size a := fun v8669 k0_hw504 => k0_hw504

def k0_off1079 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3164 : BitVec 32 := 1024#32
  let v8676 : BitVec 32 := Scalar.muli v14 c1024_i32_3164
  let c496_i32 : BitVec 32 := 496#32
  let v8677 : BitVec 32 := Scalar.addi v8676 c496_i32
  let v8678 : Index := Scalar.indexCast v8677
  ![v8678.toNat]
def k0_off1080 (v8679 : BitVec 32) : Fin 2 → Nat :=
  let c4095_i32_3165 : BitVec 32 := 4095#32
  let v8680 : BitVec 32 := Scalar.andi v8679 c4095_i32_3165
  let v8681 : Index := Scalar.indexCast v8680
  let c0_3166 : Index := 0#32
  ![v8681.toNat, 0]

def k0_chk505 (v8679 : BitVec 32) : Prop :=
  (∀ a, (k0_off1080 v8679) a + S1x256.size a ≤ S4096x256.size a)
theorem k0_off1080_inb : ∀ (v8679 : BitVec 32) (k0_hw505 : k0_chk505 v8679), ∀ a, (k0_off1080 v8679) a + S1x256.size a ≤ S4096x256.size a := fun v8679 k0_hw505 => k0_hw505

def k0_off1081 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3168 : BitVec 32 := 1024#32
  let v8686 : BitVec 32 := Scalar.muli v14 c1024_i32_3168
  let c497_i32 : BitVec 32 := 497#32
  let v8687 : BitVec 32 := Scalar.addi v8686 c497_i32
  let v8688 : Index := Scalar.indexCast v8687
  ![v8688.toNat]
def k0_off1082 (v8689 : BitVec 32) : Fin 2 → Nat :=
  let c4095_i32_3169 : BitVec 32 := 4095#32
  let v8690 : BitVec 32 := Scalar.andi v8689 c4095_i32_3169
  let v8691 : Index := Scalar.indexCast v8690
  let c0_3170 : Index := 0#32
  ![v8691.toNat, 0]

def k0_chk506 (v8689 : BitVec 32) : Prop :=
  (∀ a, (k0_off1082 v8689) a + S1x256.size a ≤ S4096x256.size a)
theorem k0_off1082_inb : ∀ (v8689 : BitVec 32) (k0_hw506 : k0_chk506 v8689), ∀ a, (k0_off1082 v8689) a + S1x256.size a ≤ S4096x256.size a := fun v8689 k0_hw506 => k0_hw506

def k0_off1083 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3172 : BitVec 32 := 1024#32
  let v8696 : BitVec 32 := Scalar.muli v14 c1024_i32_3172
  let c498_i32 : BitVec 32 := 498#32
  let v8697 : BitVec 32 := Scalar.addi v8696 c498_i32
  let v8698 : Index := Scalar.indexCast v8697
  ![v8698.toNat]
def k0_off1084 (v8699 : BitVec 32) : Fin 2 → Nat :=
  let c4095_i32_3173 : BitVec 32 := 4095#32
  let v8700 : BitVec 32 := Scalar.andi v8699 c4095_i32_3173
  let v8701 : Index := Scalar.indexCast v8700
  let c0_3174 : Index := 0#32
  ![v8701.toNat, 0]

def k0_chk507 (v8699 : BitVec 32) : Prop :=
  (∀ a, (k0_off1084 v8699) a + S1x256.size a ≤ S4096x256.size a)
theorem k0_off1084_inb : ∀ (v8699 : BitVec 32) (k0_hw507 : k0_chk507 v8699), ∀ a, (k0_off1084 v8699) a + S1x256.size a ≤ S4096x256.size a := fun v8699 k0_hw507 => k0_hw507

def k0_off1085 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3176 : BitVec 32 := 1024#32
  let v8706 : BitVec 32 := Scalar.muli v14 c1024_i32_3176
  let c499_i32 : BitVec 32 := 499#32
  let v8707 : BitVec 32 := Scalar.addi v8706 c499_i32
  let v8708 : Index := Scalar.indexCast v8707
  ![v8708.toNat]
def k0_off1086 (v8709 : BitVec 32) : Fin 2 → Nat :=
  let c4095_i32_3177 : BitVec 32 := 4095#32
  let v8710 : BitVec 32 := Scalar.andi v8709 c4095_i32_3177
  let v8711 : Index := Scalar.indexCast v8710
  let c0_3178 : Index := 0#32
  ![v8711.toNat, 0]

def k0_chk508 (v8709 : BitVec 32) : Prop :=
  (∀ a, (k0_off1086 v8709) a + S1x256.size a ≤ S4096x256.size a)
theorem k0_off1086_inb : ∀ (v8709 : BitVec 32) (k0_hw508 : k0_chk508 v8709), ∀ a, (k0_off1086 v8709) a + S1x256.size a ≤ S4096x256.size a := fun v8709 k0_hw508 => k0_hw508

def k0_off1087 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3180 : BitVec 32 := 1024#32
  let v8716 : BitVec 32 := Scalar.muli v14 c1024_i32_3180
  let c500_i32 : BitVec 32 := 500#32
  let v8717 : BitVec 32 := Scalar.addi v8716 c500_i32
  let v8718 : Index := Scalar.indexCast v8717
  ![v8718.toNat]
def k0_off1088 (v8719 : BitVec 32) : Fin 2 → Nat :=
  let c4095_i32_3181 : BitVec 32 := 4095#32
  let v8720 : BitVec 32 := Scalar.andi v8719 c4095_i32_3181
  let v8721 : Index := Scalar.indexCast v8720
  let c0_3182 : Index := 0#32
  ![v8721.toNat, 0]

def k0_chk509 (v8719 : BitVec 32) : Prop :=
  (∀ a, (k0_off1088 v8719) a + S1x256.size a ≤ S4096x256.size a)
theorem k0_off1088_inb : ∀ (v8719 : BitVec 32) (k0_hw509 : k0_chk509 v8719), ∀ a, (k0_off1088 v8719) a + S1x256.size a ≤ S4096x256.size a := fun v8719 k0_hw509 => k0_hw509

def k0_off1089 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3184 : BitVec 32 := 1024#32
  let v8726 : BitVec 32 := Scalar.muli v14 c1024_i32_3184
  let c501_i32 : BitVec 32 := 501#32
  let v8727 : BitVec 32 := Scalar.addi v8726 c501_i32
  let v8728 : Index := Scalar.indexCast v8727
  ![v8728.toNat]
def k0_off1090 (v8729 : BitVec 32) : Fin 2 → Nat :=
  let c4095_i32_3185 : BitVec 32 := 4095#32
  let v8730 : BitVec 32 := Scalar.andi v8729 c4095_i32_3185
  let v8731 : Index := Scalar.indexCast v8730
  let c0_3186 : Index := 0#32
  ![v8731.toNat, 0]

def k0_chk510 (v8729 : BitVec 32) : Prop :=
  (∀ a, (k0_off1090 v8729) a + S1x256.size a ≤ S4096x256.size a)
theorem k0_off1090_inb : ∀ (v8729 : BitVec 32) (k0_hw510 : k0_chk510 v8729), ∀ a, (k0_off1090 v8729) a + S1x256.size a ≤ S4096x256.size a := fun v8729 k0_hw510 => k0_hw510

def k0_off1091 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3188 : BitVec 32 := 1024#32
  let v8736 : BitVec 32 := Scalar.muli v14 c1024_i32_3188
  let c502_i32 : BitVec 32 := 502#32
  let v8737 : BitVec 32 := Scalar.addi v8736 c502_i32
  let v8738 : Index := Scalar.indexCast v8737
  ![v8738.toNat]
def k0_off1092 (v8739 : BitVec 32) : Fin 2 → Nat :=
  let c4095_i32_3189 : BitVec 32 := 4095#32
  let v8740 : BitVec 32 := Scalar.andi v8739 c4095_i32_3189
  let v8741 : Index := Scalar.indexCast v8740
  let c0_3190 : Index := 0#32
  ![v8741.toNat, 0]

def k0_chk511 (v8739 : BitVec 32) : Prop :=
  (∀ a, (k0_off1092 v8739) a + S1x256.size a ≤ S4096x256.size a)
theorem k0_off1092_inb : ∀ (v8739 : BitVec 32) (k0_hw511 : k0_chk511 v8739), ∀ a, (k0_off1092 v8739) a + S1x256.size a ≤ S4096x256.size a := fun v8739 k0_hw511 => k0_hw511

def k0_off1093 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3192 : BitVec 32 := 1024#32
  let v8746 : BitVec 32 := Scalar.muli v14 c1024_i32_3192
  let c503_i32 : BitVec 32 := 503#32
  let v8747 : BitVec 32 := Scalar.addi v8746 c503_i32
  let v8748 : Index := Scalar.indexCast v8747
  ![v8748.toNat]
def k0_off1094 (v8749 : BitVec 32) : Fin 2 → Nat :=
  let c4095_i32_3193 : BitVec 32 := 4095#32
  let v8750 : BitVec 32 := Scalar.andi v8749 c4095_i32_3193
  let v8751 : Index := Scalar.indexCast v8750
  let c0_3194 : Index := 0#32
  ![v8751.toNat, 0]

def k0_chk512 (v8749 : BitVec 32) : Prop :=
  (∀ a, (k0_off1094 v8749) a + S1x256.size a ≤ S4096x256.size a)
theorem k0_off1094_inb : ∀ (v8749 : BitVec 32) (k0_hw512 : k0_chk512 v8749), ∀ a, (k0_off1094 v8749) a + S1x256.size a ≤ S4096x256.size a := fun v8749 k0_hw512 => k0_hw512

def k0_off1095 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3196 : BitVec 32 := 1024#32
  let v8756 : BitVec 32 := Scalar.muli v14 c1024_i32_3196
  let c504_i32 : BitVec 32 := 504#32
  let v8757 : BitVec 32 := Scalar.addi v8756 c504_i32
  let v8758 : Index := Scalar.indexCast v8757
  ![v8758.toNat]
def k0_off1096 (v8759 : BitVec 32) : Fin 2 → Nat :=
  let c4095_i32_3197 : BitVec 32 := 4095#32
  let v8760 : BitVec 32 := Scalar.andi v8759 c4095_i32_3197
  let v8761 : Index := Scalar.indexCast v8760
  let c0_3198 : Index := 0#32
  ![v8761.toNat, 0]

def k0_chk513 (v8759 : BitVec 32) : Prop :=
  (∀ a, (k0_off1096 v8759) a + S1x256.size a ≤ S4096x256.size a)
theorem k0_off1096_inb : ∀ (v8759 : BitVec 32) (k0_hw513 : k0_chk513 v8759), ∀ a, (k0_off1096 v8759) a + S1x256.size a ≤ S4096x256.size a := fun v8759 k0_hw513 => k0_hw513

def k0_off1097 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3200 : BitVec 32 := 1024#32
  let v8766 : BitVec 32 := Scalar.muli v14 c1024_i32_3200
  let c505_i32 : BitVec 32 := 505#32
  let v8767 : BitVec 32 := Scalar.addi v8766 c505_i32
  let v8768 : Index := Scalar.indexCast v8767
  ![v8768.toNat]
def k0_off1098 (v8769 : BitVec 32) : Fin 2 → Nat :=
  let c4095_i32_3201 : BitVec 32 := 4095#32
  let v8770 : BitVec 32 := Scalar.andi v8769 c4095_i32_3201
  let v8771 : Index := Scalar.indexCast v8770
  let c0_3202 : Index := 0#32
  ![v8771.toNat, 0]

def k0_chk514 (v8769 : BitVec 32) : Prop :=
  (∀ a, (k0_off1098 v8769) a + S1x256.size a ≤ S4096x256.size a)
theorem k0_off1098_inb : ∀ (v8769 : BitVec 32) (k0_hw514 : k0_chk514 v8769), ∀ a, (k0_off1098 v8769) a + S1x256.size a ≤ S4096x256.size a := fun v8769 k0_hw514 => k0_hw514

def k0_off1099 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3204 : BitVec 32 := 1024#32
  let v8776 : BitVec 32 := Scalar.muli v14 c1024_i32_3204
  let c506_i32 : BitVec 32 := 506#32
  let v8777 : BitVec 32 := Scalar.addi v8776 c506_i32
  let v8778 : Index := Scalar.indexCast v8777
  ![v8778.toNat]
def k0_off1100 (v8779 : BitVec 32) : Fin 2 → Nat :=
  let c4095_i32_3205 : BitVec 32 := 4095#32
  let v8780 : BitVec 32 := Scalar.andi v8779 c4095_i32_3205
  let v8781 : Index := Scalar.indexCast v8780
  let c0_3206 : Index := 0#32
  ![v8781.toNat, 0]

def k0_chk515 (v8779 : BitVec 32) : Prop :=
  (∀ a, (k0_off1100 v8779) a + S1x256.size a ≤ S4096x256.size a)
theorem k0_off1100_inb : ∀ (v8779 : BitVec 32) (k0_hw515 : k0_chk515 v8779), ∀ a, (k0_off1100 v8779) a + S1x256.size a ≤ S4096x256.size a := fun v8779 k0_hw515 => k0_hw515

def k0_off1101 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3208 : BitVec 32 := 1024#32
  let v8786 : BitVec 32 := Scalar.muli v14 c1024_i32_3208
  let c507_i32 : BitVec 32 := 507#32
  let v8787 : BitVec 32 := Scalar.addi v8786 c507_i32
  let v8788 : Index := Scalar.indexCast v8787
  ![v8788.toNat]
def k0_off1102 (v8789 : BitVec 32) : Fin 2 → Nat :=
  let c4095_i32_3209 : BitVec 32 := 4095#32
  let v8790 : BitVec 32 := Scalar.andi v8789 c4095_i32_3209
  let v8791 : Index := Scalar.indexCast v8790
  let c0_3210 : Index := 0#32
  ![v8791.toNat, 0]

def k0_chk516 (v8789 : BitVec 32) : Prop :=
  (∀ a, (k0_off1102 v8789) a + S1x256.size a ≤ S4096x256.size a)
theorem k0_off1102_inb : ∀ (v8789 : BitVec 32) (k0_hw516 : k0_chk516 v8789), ∀ a, (k0_off1102 v8789) a + S1x256.size a ≤ S4096x256.size a := fun v8789 k0_hw516 => k0_hw516

def k0_off1103 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3212 : BitVec 32 := 1024#32
  let v8796 : BitVec 32 := Scalar.muli v14 c1024_i32_3212
  let c508_i32 : BitVec 32 := 508#32
  let v8797 : BitVec 32 := Scalar.addi v8796 c508_i32
  let v8798 : Index := Scalar.indexCast v8797
  ![v8798.toNat]
def k0_off1104 (v8799 : BitVec 32) : Fin 2 → Nat :=
  let c4095_i32_3213 : BitVec 32 := 4095#32
  let v8800 : BitVec 32 := Scalar.andi v8799 c4095_i32_3213
  let v8801 : Index := Scalar.indexCast v8800
  let c0_3214 : Index := 0#32
  ![v8801.toNat, 0]

def k0_chk517 (v8799 : BitVec 32) : Prop :=
  (∀ a, (k0_off1104 v8799) a + S1x256.size a ≤ S4096x256.size a)
theorem k0_off1104_inb : ∀ (v8799 : BitVec 32) (k0_hw517 : k0_chk517 v8799), ∀ a, (k0_off1104 v8799) a + S1x256.size a ≤ S4096x256.size a := fun v8799 k0_hw517 => k0_hw517

def k0_off1105 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3216 : BitVec 32 := 1024#32
  let v8806 : BitVec 32 := Scalar.muli v14 c1024_i32_3216
  let c509_i32 : BitVec 32 := 509#32
  let v8807 : BitVec 32 := Scalar.addi v8806 c509_i32
  let v8808 : Index := Scalar.indexCast v8807
  ![v8808.toNat]
def k0_off1106 (v8809 : BitVec 32) : Fin 2 → Nat :=
  let c4095_i32_3217 : BitVec 32 := 4095#32
  let v8810 : BitVec 32 := Scalar.andi v8809 c4095_i32_3217
  let v8811 : Index := Scalar.indexCast v8810
  let c0_3218 : Index := 0#32
  ![v8811.toNat, 0]

def k0_chk518 (v8809 : BitVec 32) : Prop :=
  (∀ a, (k0_off1106 v8809) a + S1x256.size a ≤ S4096x256.size a)
theorem k0_off1106_inb : ∀ (v8809 : BitVec 32) (k0_hw518 : k0_chk518 v8809), ∀ a, (k0_off1106 v8809) a + S1x256.size a ≤ S4096x256.size a := fun v8809 k0_hw518 => k0_hw518

def k0_off1107 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3220 : BitVec 32 := 1024#32
  let v8816 : BitVec 32 := Scalar.muli v14 c1024_i32_3220
  let c510_i32 : BitVec 32 := 510#32
  let v8817 : BitVec 32 := Scalar.addi v8816 c510_i32
  let v8818 : Index := Scalar.indexCast v8817
  ![v8818.toNat]
def k0_off1108 (v8819 : BitVec 32) : Fin 2 → Nat :=
  let c4095_i32_3221 : BitVec 32 := 4095#32
  let v8820 : BitVec 32 := Scalar.andi v8819 c4095_i32_3221
  let v8821 : Index := Scalar.indexCast v8820
  let c0_3222 : Index := 0#32
  ![v8821.toNat, 0]

def k0_chk519 (v8819 : BitVec 32) : Prop :=
  (∀ a, (k0_off1108 v8819) a + S1x256.size a ≤ S4096x256.size a)
theorem k0_off1108_inb : ∀ (v8819 : BitVec 32) (k0_hw519 : k0_chk519 v8819), ∀ a, (k0_off1108 v8819) a + S1x256.size a ≤ S4096x256.size a := fun v8819 k0_hw519 => k0_hw519

def k0_off1109 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3224 : BitVec 32 := 1024#32
  let v8826 : BitVec 32 := Scalar.muli v14 c1024_i32_3224
  let c511_i32 : BitVec 32 := 511#32
  let v8827 : BitVec 32 := Scalar.addi v8826 c511_i32
  let v8828 : Index := Scalar.indexCast v8827
  ![v8828.toNat]
def k0_off1110 (v8829 : BitVec 32) : Fin 2 → Nat :=
  let c4095_i32_3225 : BitVec 32 := 4095#32
  let v8830 : BitVec 32 := Scalar.andi v8829 c4095_i32_3225
  let v8831 : Index := Scalar.indexCast v8830
  let c0_3226 : Index := 0#32
  ![v8831.toNat, 0]

def k0_chk520 (v8829 : BitVec 32) : Prop :=
  (∀ a, (k0_off1110 v8829) a + S1x256.size a ≤ S4096x256.size a)
theorem k0_off1110_inb : ∀ (v8829 : BitVec 32) (k0_hw520 : k0_chk520 v8829), ∀ a, (k0_off1110 v8829) a + S1x256.size a ≤ S4096x256.size a := fun v8829 k0_hw520 => k0_hw520

def k0_off1111 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3228 : BitVec 32 := 1024#32
  let v8836 : BitVec 32 := Scalar.muli v14 c1024_i32_3228
  let c512_i32 : BitVec 32 := 512#32
  let v8837 : BitVec 32 := Scalar.addi v8836 c512_i32
  let v8838 : Index := Scalar.indexCast v8837
  ![v8838.toNat]
def k0_off1112 (v8839 : BitVec 32) : Fin 2 → Nat :=
  let c4095_i32_3229 : BitVec 32 := 4095#32
  let v8840 : BitVec 32 := Scalar.andi v8839 c4095_i32_3229
  let v8841 : Index := Scalar.indexCast v8840
  let c0_3230 : Index := 0#32
  ![v8841.toNat, 0]

def k0_chk521 (v8839 : BitVec 32) : Prop :=
  (∀ a, (k0_off1112 v8839) a + S1x256.size a ≤ S4096x256.size a)
theorem k0_off1112_inb : ∀ (v8839 : BitVec 32) (k0_hw521 : k0_chk521 v8839), ∀ a, (k0_off1112 v8839) a + S1x256.size a ≤ S4096x256.size a := fun v8839 k0_hw521 => k0_hw521

def k0_off1113 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3233 : BitVec 32 := 1024#32
  let v8846 : BitVec 32 := Scalar.muli v14 c1024_i32_3233
  let c513_i32 : BitVec 32 := 513#32
  let v8847 : BitVec 32 := Scalar.addi v8846 c513_i32
  let v8848 : Index := Scalar.indexCast v8847
  ![v8848.toNat]
def k0_off1114 (v8849 : BitVec 32) : Fin 2 → Nat :=
  let c4095_i32_3234 : BitVec 32 := 4095#32
  let v8850 : BitVec 32 := Scalar.andi v8849 c4095_i32_3234
  let v8851 : Index := Scalar.indexCast v8850
  let c0_3235 : Index := 0#32
  ![v8851.toNat, 0]

def k0_chk522 (v8849 : BitVec 32) : Prop :=
  (∀ a, (k0_off1114 v8849) a + S1x256.size a ≤ S4096x256.size a)
theorem k0_off1114_inb : ∀ (v8849 : BitVec 32) (k0_hw522 : k0_chk522 v8849), ∀ a, (k0_off1114 v8849) a + S1x256.size a ≤ S4096x256.size a := fun v8849 k0_hw522 => k0_hw522

def k0_off1115 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3237 : BitVec 32 := 1024#32
  let v8856 : BitVec 32 := Scalar.muli v14 c1024_i32_3237
  let c514_i32 : BitVec 32 := 514#32
  let v8857 : BitVec 32 := Scalar.addi v8856 c514_i32
  let v8858 : Index := Scalar.indexCast v8857
  ![v8858.toNat]
def k0_off1116 (v8859 : BitVec 32) : Fin 2 → Nat :=
  let c4095_i32_3238 : BitVec 32 := 4095#32
  let v8860 : BitVec 32 := Scalar.andi v8859 c4095_i32_3238
  let v8861 : Index := Scalar.indexCast v8860
  let c0_3239 : Index := 0#32
  ![v8861.toNat, 0]

def k0_chk523 (v8859 : BitVec 32) : Prop :=
  (∀ a, (k0_off1116 v8859) a + S1x256.size a ≤ S4096x256.size a)
theorem k0_off1116_inb : ∀ (v8859 : BitVec 32) (k0_hw523 : k0_chk523 v8859), ∀ a, (k0_off1116 v8859) a + S1x256.size a ≤ S4096x256.size a := fun v8859 k0_hw523 => k0_hw523

def k0_off1117 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3241 : BitVec 32 := 1024#32
  let v8866 : BitVec 32 := Scalar.muli v14 c1024_i32_3241
  let c515_i32 : BitVec 32 := 515#32
  let v8867 : BitVec 32 := Scalar.addi v8866 c515_i32
  let v8868 : Index := Scalar.indexCast v8867
  ![v8868.toNat]
def k0_off1118 (v8869 : BitVec 32) : Fin 2 → Nat :=
  let c4095_i32_3242 : BitVec 32 := 4095#32
  let v8870 : BitVec 32 := Scalar.andi v8869 c4095_i32_3242
  let v8871 : Index := Scalar.indexCast v8870
  let c0_3243 : Index := 0#32
  ![v8871.toNat, 0]

def k0_chk524 (v8869 : BitVec 32) : Prop :=
  (∀ a, (k0_off1118 v8869) a + S1x256.size a ≤ S4096x256.size a)
theorem k0_off1118_inb : ∀ (v8869 : BitVec 32) (k0_hw524 : k0_chk524 v8869), ∀ a, (k0_off1118 v8869) a + S1x256.size a ≤ S4096x256.size a := fun v8869 k0_hw524 => k0_hw524

def k0_off1119 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3245 : BitVec 32 := 1024#32
  let v8876 : BitVec 32 := Scalar.muli v14 c1024_i32_3245
  let c516_i32 : BitVec 32 := 516#32
  let v8877 : BitVec 32 := Scalar.addi v8876 c516_i32
  let v8878 : Index := Scalar.indexCast v8877
  ![v8878.toNat]
def k0_off1120 (v8879 : BitVec 32) : Fin 2 → Nat :=
  let c4095_i32_3246 : BitVec 32 := 4095#32
  let v8880 : BitVec 32 := Scalar.andi v8879 c4095_i32_3246
  let v8881 : Index := Scalar.indexCast v8880
  let c0_3247 : Index := 0#32
  ![v8881.toNat, 0]

def k0_chk525 (v8879 : BitVec 32) : Prop :=
  (∀ a, (k0_off1120 v8879) a + S1x256.size a ≤ S4096x256.size a)
theorem k0_off1120_inb : ∀ (v8879 : BitVec 32) (k0_hw525 : k0_chk525 v8879), ∀ a, (k0_off1120 v8879) a + S1x256.size a ≤ S4096x256.size a := fun v8879 k0_hw525 => k0_hw525

def k0_off1121 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3249 : BitVec 32 := 1024#32
  let v8886 : BitVec 32 := Scalar.muli v14 c1024_i32_3249
  let c517_i32 : BitVec 32 := 517#32
  let v8887 : BitVec 32 := Scalar.addi v8886 c517_i32
  let v8888 : Index := Scalar.indexCast v8887
  ![v8888.toNat]
def k0_off1122 (v8889 : BitVec 32) : Fin 2 → Nat :=
  let c4095_i32_3250 : BitVec 32 := 4095#32
  let v8890 : BitVec 32 := Scalar.andi v8889 c4095_i32_3250
  let v8891 : Index := Scalar.indexCast v8890
  let c0_3251 : Index := 0#32
  ![v8891.toNat, 0]

def k0_chk526 (v8889 : BitVec 32) : Prop :=
  (∀ a, (k0_off1122 v8889) a + S1x256.size a ≤ S4096x256.size a)
theorem k0_off1122_inb : ∀ (v8889 : BitVec 32) (k0_hw526 : k0_chk526 v8889), ∀ a, (k0_off1122 v8889) a + S1x256.size a ≤ S4096x256.size a := fun v8889 k0_hw526 => k0_hw526

def k0_off1123 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3253 : BitVec 32 := 1024#32
  let v8896 : BitVec 32 := Scalar.muli v14 c1024_i32_3253
  let c518_i32 : BitVec 32 := 518#32
  let v8897 : BitVec 32 := Scalar.addi v8896 c518_i32
  let v8898 : Index := Scalar.indexCast v8897
  ![v8898.toNat]
def k0_off1124 (v8899 : BitVec 32) : Fin 2 → Nat :=
  let c4095_i32_3254 : BitVec 32 := 4095#32
  let v8900 : BitVec 32 := Scalar.andi v8899 c4095_i32_3254
  let v8901 : Index := Scalar.indexCast v8900
  let c0_3255 : Index := 0#32
  ![v8901.toNat, 0]

def k0_chk527 (v8899 : BitVec 32) : Prop :=
  (∀ a, (k0_off1124 v8899) a + S1x256.size a ≤ S4096x256.size a)
theorem k0_off1124_inb : ∀ (v8899 : BitVec 32) (k0_hw527 : k0_chk527 v8899), ∀ a, (k0_off1124 v8899) a + S1x256.size a ≤ S4096x256.size a := fun v8899 k0_hw527 => k0_hw527

def k0_off1125 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3257 : BitVec 32 := 1024#32
  let v8906 : BitVec 32 := Scalar.muli v14 c1024_i32_3257
  let c519_i32 : BitVec 32 := 519#32
  let v8907 : BitVec 32 := Scalar.addi v8906 c519_i32
  let v8908 : Index := Scalar.indexCast v8907
  ![v8908.toNat]
def k0_off1126 (v8909 : BitVec 32) : Fin 2 → Nat :=
  let c4095_i32_3258 : BitVec 32 := 4095#32
  let v8910 : BitVec 32 := Scalar.andi v8909 c4095_i32_3258
  let v8911 : Index := Scalar.indexCast v8910
  let c0_3259 : Index := 0#32
  ![v8911.toNat, 0]

def k0_chk528 (v8909 : BitVec 32) : Prop :=
  (∀ a, (k0_off1126 v8909) a + S1x256.size a ≤ S4096x256.size a)
theorem k0_off1126_inb : ∀ (v8909 : BitVec 32) (k0_hw528 : k0_chk528 v8909), ∀ a, (k0_off1126 v8909) a + S1x256.size a ≤ S4096x256.size a := fun v8909 k0_hw528 => k0_hw528

def k0_off1127 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3261 : BitVec 32 := 1024#32
  let v8916 : BitVec 32 := Scalar.muli v14 c1024_i32_3261
  let c520_i32 : BitVec 32 := 520#32
  let v8917 : BitVec 32 := Scalar.addi v8916 c520_i32
  let v8918 : Index := Scalar.indexCast v8917
  ![v8918.toNat]
def k0_off1128 (v8919 : BitVec 32) : Fin 2 → Nat :=
  let c4095_i32_3262 : BitVec 32 := 4095#32
  let v8920 : BitVec 32 := Scalar.andi v8919 c4095_i32_3262
  let v8921 : Index := Scalar.indexCast v8920
  let c0_3263 : Index := 0#32
  ![v8921.toNat, 0]

def k0_chk529 (v8919 : BitVec 32) : Prop :=
  (∀ a, (k0_off1128 v8919) a + S1x256.size a ≤ S4096x256.size a)
theorem k0_off1128_inb : ∀ (v8919 : BitVec 32) (k0_hw529 : k0_chk529 v8919), ∀ a, (k0_off1128 v8919) a + S1x256.size a ≤ S4096x256.size a := fun v8919 k0_hw529 => k0_hw529

def k0_off1129 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3265 : BitVec 32 := 1024#32
  let v8926 : BitVec 32 := Scalar.muli v14 c1024_i32_3265
  let c521_i32 : BitVec 32 := 521#32
  let v8927 : BitVec 32 := Scalar.addi v8926 c521_i32
  let v8928 : Index := Scalar.indexCast v8927
  ![v8928.toNat]
def k0_off1130 (v8929 : BitVec 32) : Fin 2 → Nat :=
  let c4095_i32_3266 : BitVec 32 := 4095#32
  let v8930 : BitVec 32 := Scalar.andi v8929 c4095_i32_3266
  let v8931 : Index := Scalar.indexCast v8930
  let c0_3267 : Index := 0#32
  ![v8931.toNat, 0]

def k0_chk530 (v8929 : BitVec 32) : Prop :=
  (∀ a, (k0_off1130 v8929) a + S1x256.size a ≤ S4096x256.size a)
theorem k0_off1130_inb : ∀ (v8929 : BitVec 32) (k0_hw530 : k0_chk530 v8929), ∀ a, (k0_off1130 v8929) a + S1x256.size a ≤ S4096x256.size a := fun v8929 k0_hw530 => k0_hw530

def k0_off1131 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3269 : BitVec 32 := 1024#32
  let v8936 : BitVec 32 := Scalar.muli v14 c1024_i32_3269
  let c522_i32 : BitVec 32 := 522#32
  let v8937 : BitVec 32 := Scalar.addi v8936 c522_i32
  let v8938 : Index := Scalar.indexCast v8937
  ![v8938.toNat]
def k0_off1132 (v8939 : BitVec 32) : Fin 2 → Nat :=
  let c4095_i32_3270 : BitVec 32 := 4095#32
  let v8940 : BitVec 32 := Scalar.andi v8939 c4095_i32_3270
  let v8941 : Index := Scalar.indexCast v8940
  let c0_3271 : Index := 0#32
  ![v8941.toNat, 0]

def k0_chk531 (v8939 : BitVec 32) : Prop :=
  (∀ a, (k0_off1132 v8939) a + S1x256.size a ≤ S4096x256.size a)
theorem k0_off1132_inb : ∀ (v8939 : BitVec 32) (k0_hw531 : k0_chk531 v8939), ∀ a, (k0_off1132 v8939) a + S1x256.size a ≤ S4096x256.size a := fun v8939 k0_hw531 => k0_hw531

def k0_off1133 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3273 : BitVec 32 := 1024#32
  let v8946 : BitVec 32 := Scalar.muli v14 c1024_i32_3273
  let c523_i32 : BitVec 32 := 523#32
  let v8947 : BitVec 32 := Scalar.addi v8946 c523_i32
  let v8948 : Index := Scalar.indexCast v8947
  ![v8948.toNat]
def k0_off1134 (v8949 : BitVec 32) : Fin 2 → Nat :=
  let c4095_i32_3274 : BitVec 32 := 4095#32
  let v8950 : BitVec 32 := Scalar.andi v8949 c4095_i32_3274
  let v8951 : Index := Scalar.indexCast v8950
  let c0_3275 : Index := 0#32
  ![v8951.toNat, 0]

def k0_chk532 (v8949 : BitVec 32) : Prop :=
  (∀ a, (k0_off1134 v8949) a + S1x256.size a ≤ S4096x256.size a)
theorem k0_off1134_inb : ∀ (v8949 : BitVec 32) (k0_hw532 : k0_chk532 v8949), ∀ a, (k0_off1134 v8949) a + S1x256.size a ≤ S4096x256.size a := fun v8949 k0_hw532 => k0_hw532

def k0_off1135 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3277 : BitVec 32 := 1024#32
  let v8956 : BitVec 32 := Scalar.muli v14 c1024_i32_3277
  let c524_i32 : BitVec 32 := 524#32
  let v8957 : BitVec 32 := Scalar.addi v8956 c524_i32
  let v8958 : Index := Scalar.indexCast v8957
  ![v8958.toNat]
def k0_off1136 (v8959 : BitVec 32) : Fin 2 → Nat :=
  let c4095_i32_3278 : BitVec 32 := 4095#32
  let v8960 : BitVec 32 := Scalar.andi v8959 c4095_i32_3278
  let v8961 : Index := Scalar.indexCast v8960
  let c0_3279 : Index := 0#32
  ![v8961.toNat, 0]

def k0_chk533 (v8959 : BitVec 32) : Prop :=
  (∀ a, (k0_off1136 v8959) a + S1x256.size a ≤ S4096x256.size a)
theorem k0_off1136_inb : ∀ (v8959 : BitVec 32) (k0_hw533 : k0_chk533 v8959), ∀ a, (k0_off1136 v8959) a + S1x256.size a ≤ S4096x256.size a := fun v8959 k0_hw533 => k0_hw533

def k0_off1137 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3281 : BitVec 32 := 1024#32
  let v8966 : BitVec 32 := Scalar.muli v14 c1024_i32_3281
  let c525_i32 : BitVec 32 := 525#32
  let v8967 : BitVec 32 := Scalar.addi v8966 c525_i32
  let v8968 : Index := Scalar.indexCast v8967
  ![v8968.toNat]
def k0_off1138 (v8969 : BitVec 32) : Fin 2 → Nat :=
  let c4095_i32_3282 : BitVec 32 := 4095#32
  let v8970 : BitVec 32 := Scalar.andi v8969 c4095_i32_3282
  let v8971 : Index := Scalar.indexCast v8970
  let c0_3283 : Index := 0#32
  ![v8971.toNat, 0]

def k0_chk534 (v8969 : BitVec 32) : Prop :=
  (∀ a, (k0_off1138 v8969) a + S1x256.size a ≤ S4096x256.size a)
theorem k0_off1138_inb : ∀ (v8969 : BitVec 32) (k0_hw534 : k0_chk534 v8969), ∀ a, (k0_off1138 v8969) a + S1x256.size a ≤ S4096x256.size a := fun v8969 k0_hw534 => k0_hw534

def k0_off1139 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3285 : BitVec 32 := 1024#32
  let v8976 : BitVec 32 := Scalar.muli v14 c1024_i32_3285
  let c526_i32 : BitVec 32 := 526#32
  let v8977 : BitVec 32 := Scalar.addi v8976 c526_i32
  let v8978 : Index := Scalar.indexCast v8977
  ![v8978.toNat]
def k0_off1140 (v8979 : BitVec 32) : Fin 2 → Nat :=
  let c4095_i32_3286 : BitVec 32 := 4095#32
  let v8980 : BitVec 32 := Scalar.andi v8979 c4095_i32_3286
  let v8981 : Index := Scalar.indexCast v8980
  let c0_3287 : Index := 0#32
  ![v8981.toNat, 0]

def k0_chk535 (v8979 : BitVec 32) : Prop :=
  (∀ a, (k0_off1140 v8979) a + S1x256.size a ≤ S4096x256.size a)
theorem k0_off1140_inb : ∀ (v8979 : BitVec 32) (k0_hw535 : k0_chk535 v8979), ∀ a, (k0_off1140 v8979) a + S1x256.size a ≤ S4096x256.size a := fun v8979 k0_hw535 => k0_hw535

def k0_off1141 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3289 : BitVec 32 := 1024#32
  let v8986 : BitVec 32 := Scalar.muli v14 c1024_i32_3289
  let c527_i32 : BitVec 32 := 527#32
  let v8987 : BitVec 32 := Scalar.addi v8986 c527_i32
  let v8988 : Index := Scalar.indexCast v8987
  ![v8988.toNat]
def k0_off1142 (v8989 : BitVec 32) : Fin 2 → Nat :=
  let c4095_i32_3290 : BitVec 32 := 4095#32
  let v8990 : BitVec 32 := Scalar.andi v8989 c4095_i32_3290
  let v8991 : Index := Scalar.indexCast v8990
  let c0_3291 : Index := 0#32
  ![v8991.toNat, 0]

def k0_chk536 (v8989 : BitVec 32) : Prop :=
  (∀ a, (k0_off1142 v8989) a + S1x256.size a ≤ S4096x256.size a)
theorem k0_off1142_inb : ∀ (v8989 : BitVec 32) (k0_hw536 : k0_chk536 v8989), ∀ a, (k0_off1142 v8989) a + S1x256.size a ≤ S4096x256.size a := fun v8989 k0_hw536 => k0_hw536

def k0_off1143 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3293 : BitVec 32 := 1024#32
  let v8996 : BitVec 32 := Scalar.muli v14 c1024_i32_3293
  let c528_i32 : BitVec 32 := 528#32
  let v8997 : BitVec 32 := Scalar.addi v8996 c528_i32
  let v8998 : Index := Scalar.indexCast v8997
  ![v8998.toNat]
def k0_off1144 (v8999 : BitVec 32) : Fin 2 → Nat :=
  let c4095_i32_3294 : BitVec 32 := 4095#32
  let v9000 : BitVec 32 := Scalar.andi v8999 c4095_i32_3294
  let v9001 : Index := Scalar.indexCast v9000
  let c0_3295 : Index := 0#32
  ![v9001.toNat, 0]

def k0_chk537 (v8999 : BitVec 32) : Prop :=
  (∀ a, (k0_off1144 v8999) a + S1x256.size a ≤ S4096x256.size a)
theorem k0_off1144_inb : ∀ (v8999 : BitVec 32) (k0_hw537 : k0_chk537 v8999), ∀ a, (k0_off1144 v8999) a + S1x256.size a ≤ S4096x256.size a := fun v8999 k0_hw537 => k0_hw537

def k0_off1145 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3297 : BitVec 32 := 1024#32
  let v9006 : BitVec 32 := Scalar.muli v14 c1024_i32_3297
  let c529_i32 : BitVec 32 := 529#32
  let v9007 : BitVec 32 := Scalar.addi v9006 c529_i32
  let v9008 : Index := Scalar.indexCast v9007
  ![v9008.toNat]
def k0_off1146 (v9009 : BitVec 32) : Fin 2 → Nat :=
  let c4095_i32_3298 : BitVec 32 := 4095#32
  let v9010 : BitVec 32 := Scalar.andi v9009 c4095_i32_3298
  let v9011 : Index := Scalar.indexCast v9010
  let c0_3299 : Index := 0#32
  ![v9011.toNat, 0]

def k0_chk538 (v9009 : BitVec 32) : Prop :=
  (∀ a, (k0_off1146 v9009) a + S1x256.size a ≤ S4096x256.size a)
theorem k0_off1146_inb : ∀ (v9009 : BitVec 32) (k0_hw538 : k0_chk538 v9009), ∀ a, (k0_off1146 v9009) a + S1x256.size a ≤ S4096x256.size a := fun v9009 k0_hw538 => k0_hw538

def k0_off1147 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3301 : BitVec 32 := 1024#32
  let v9016 : BitVec 32 := Scalar.muli v14 c1024_i32_3301
  let c530_i32 : BitVec 32 := 530#32
  let v9017 : BitVec 32 := Scalar.addi v9016 c530_i32
  let v9018 : Index := Scalar.indexCast v9017
  ![v9018.toNat]
def k0_off1148 (v9019 : BitVec 32) : Fin 2 → Nat :=
  let c4095_i32_3302 : BitVec 32 := 4095#32
  let v9020 : BitVec 32 := Scalar.andi v9019 c4095_i32_3302
  let v9021 : Index := Scalar.indexCast v9020
  let c0_3303 : Index := 0#32
  ![v9021.toNat, 0]

def k0_chk539 (v9019 : BitVec 32) : Prop :=
  (∀ a, (k0_off1148 v9019) a + S1x256.size a ≤ S4096x256.size a)
theorem k0_off1148_inb : ∀ (v9019 : BitVec 32) (k0_hw539 : k0_chk539 v9019), ∀ a, (k0_off1148 v9019) a + S1x256.size a ≤ S4096x256.size a := fun v9019 k0_hw539 => k0_hw539

def k0_off1149 (i : grid0.Coords) : Fin 2 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c8_i32_3308 : BitVec 32 := 8#32
  let v9029 : BitVec 32 := Scalar.muli v14 c8_i32_3308
  let c3_i32_3309 : BitVec 32 := 3#32
  let v9030 : BitVec 32 := Scalar.addi v9029 c3_i32_3309
  let v9031 : Index := Scalar.indexCast v9030
  let c0_3310 : Index := 0#32
  ![v9031.toNat, 0]
def k0_off1150 (i : grid0.Coords) : Fin 3 → Nat :=
  let c1_i32_3305 : BitVec 32 := 1#32
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v9026 : BitVec 32 := Scalar.subi c1_i32_3305 v12
  let v9074 : Index := Scalar.indexCast v9026
  let c0_3321 : Index := 0#32
  let c384_3322 : Index := 384#32
  ![v9074.toNat, 0, 384]
def k0_off1151 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v9135 : Index := Scalar.indexCast v12
  let c0_3338 : Index := 0#32
  let c0_3339 : Index := 0#32
  ![v9135.toNat, 0, 0]
def k0_off1152 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v9196 : Index := Scalar.indexCast v12
  let c0_3357 : Index := 0#32
  let c256_3358 : Index := 256#32
  ![v9196.toNat, 0, 256]
def k0_off1153 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v9258 : Index := Scalar.indexCast v12
  let c0_3376 : Index := 0#32
  let c512_3377 : Index := 512#32
  ![v9258.toNat, 0, 512]
def k0_off1154 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v9320 : Index := Scalar.indexCast v12
  let c0_3395 : Index := 0#32
  let c768_3396 : Index := 768#32
  ![v9320.toNat, 0, 768]
def k0_off1155 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3402 : BitVec 32 := 1024#32
  let v9330 : BitVec 32 := Scalar.muli v14 c1024_i32_3402
  let c531_i32 : BitVec 32 := 531#32
  let v9331 : BitVec 32 := Scalar.addi v9330 c531_i32
  let v9332 : Index := Scalar.indexCast v9331
  ![v9332.toNat]
def k0_off1156 (v9333 : BitVec 32) : Fin 2 → Nat :=
  let c4095_i32_3403 : BitVec 32 := 4095#32
  let v9334 : BitVec 32 := Scalar.andi v9333 c4095_i32_3403
  let v9335 : Index := Scalar.indexCast v9334
  let c0_3404 : Index := 0#32
  ![v9335.toNat, 0]

def k0_chk540 (v9333 : BitVec 32) : Prop :=
  (∀ a, (k0_off1156 v9333) a + S1x256.size a ≤ S4096x256.size a)
theorem k0_off1156_inb : ∀ (v9333 : BitVec 32) (k0_hw540 : k0_chk540 v9333), ∀ a, (k0_off1156 v9333) a + S1x256.size a ≤ S4096x256.size a := fun v9333 k0_hw540 => k0_hw540

def k0_off1157 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3406 : BitVec 32 := 1024#32
  let v9340 : BitVec 32 := Scalar.muli v14 c1024_i32_3406
  let c532_i32 : BitVec 32 := 532#32
  let v9341 : BitVec 32 := Scalar.addi v9340 c532_i32
  let v9342 : Index := Scalar.indexCast v9341
  ![v9342.toNat]
def k0_off1158 (v9343 : BitVec 32) : Fin 2 → Nat :=
  let c4095_i32_3407 : BitVec 32 := 4095#32
  let v9344 : BitVec 32 := Scalar.andi v9343 c4095_i32_3407
  let v9345 : Index := Scalar.indexCast v9344
  let c0_3408 : Index := 0#32
  ![v9345.toNat, 0]

def k0_chk541 (v9343 : BitVec 32) : Prop :=
  (∀ a, (k0_off1158 v9343) a + S1x256.size a ≤ S4096x256.size a)
theorem k0_off1158_inb : ∀ (v9343 : BitVec 32) (k0_hw541 : k0_chk541 v9343), ∀ a, (k0_off1158 v9343) a + S1x256.size a ≤ S4096x256.size a := fun v9343 k0_hw541 => k0_hw541

def k0_off1159 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3410 : BitVec 32 := 1024#32
  let v9350 : BitVec 32 := Scalar.muli v14 c1024_i32_3410
  let c533_i32 : BitVec 32 := 533#32
  let v9351 : BitVec 32 := Scalar.addi v9350 c533_i32
  let v9352 : Index := Scalar.indexCast v9351
  ![v9352.toNat]
def k0_off1160 (v9353 : BitVec 32) : Fin 2 → Nat :=
  let c4095_i32_3411 : BitVec 32 := 4095#32
  let v9354 : BitVec 32 := Scalar.andi v9353 c4095_i32_3411
  let v9355 : Index := Scalar.indexCast v9354
  let c0_3412 : Index := 0#32
  ![v9355.toNat, 0]

def k0_chk542 (v9353 : BitVec 32) : Prop :=
  (∀ a, (k0_off1160 v9353) a + S1x256.size a ≤ S4096x256.size a)
theorem k0_off1160_inb : ∀ (v9353 : BitVec 32) (k0_hw542 : k0_chk542 v9353), ∀ a, (k0_off1160 v9353) a + S1x256.size a ≤ S4096x256.size a := fun v9353 k0_hw542 => k0_hw542

def k0_off1161 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3414 : BitVec 32 := 1024#32
  let v9360 : BitVec 32 := Scalar.muli v14 c1024_i32_3414
  let c534_i32 : BitVec 32 := 534#32
  let v9361 : BitVec 32 := Scalar.addi v9360 c534_i32
  let v9362 : Index := Scalar.indexCast v9361
  ![v9362.toNat]
def k0_off1162 (v9363 : BitVec 32) : Fin 2 → Nat :=
  let c4095_i32_3415 : BitVec 32 := 4095#32
  let v9364 : BitVec 32 := Scalar.andi v9363 c4095_i32_3415
  let v9365 : Index := Scalar.indexCast v9364
  let c0_3416 : Index := 0#32
  ![v9365.toNat, 0]

def k0_chk543 (v9363 : BitVec 32) : Prop :=
  (∀ a, (k0_off1162 v9363) a + S1x256.size a ≤ S4096x256.size a)
theorem k0_off1162_inb : ∀ (v9363 : BitVec 32) (k0_hw543 : k0_chk543 v9363), ∀ a, (k0_off1162 v9363) a + S1x256.size a ≤ S4096x256.size a := fun v9363 k0_hw543 => k0_hw543

def k0_off1163 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3418 : BitVec 32 := 1024#32
  let v9370 : BitVec 32 := Scalar.muli v14 c1024_i32_3418
  let c535_i32 : BitVec 32 := 535#32
  let v9371 : BitVec 32 := Scalar.addi v9370 c535_i32
  let v9372 : Index := Scalar.indexCast v9371
  ![v9372.toNat]
def k0_off1164 (v9373 : BitVec 32) : Fin 2 → Nat :=
  let c4095_i32_3419 : BitVec 32 := 4095#32
  let v9374 : BitVec 32 := Scalar.andi v9373 c4095_i32_3419
  let v9375 : Index := Scalar.indexCast v9374
  let c0_3420 : Index := 0#32
  ![v9375.toNat, 0]

def k0_chk544 (v9373 : BitVec 32) : Prop :=
  (∀ a, (k0_off1164 v9373) a + S1x256.size a ≤ S4096x256.size a)
theorem k0_off1164_inb : ∀ (v9373 : BitVec 32) (k0_hw544 : k0_chk544 v9373), ∀ a, (k0_off1164 v9373) a + S1x256.size a ≤ S4096x256.size a := fun v9373 k0_hw544 => k0_hw544

def k0_off1165 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3422 : BitVec 32 := 1024#32
  let v9380 : BitVec 32 := Scalar.muli v14 c1024_i32_3422
  let c536_i32 : BitVec 32 := 536#32
  let v9381 : BitVec 32 := Scalar.addi v9380 c536_i32
  let v9382 : Index := Scalar.indexCast v9381
  ![v9382.toNat]
def k0_off1166 (v9383 : BitVec 32) : Fin 2 → Nat :=
  let c4095_i32_3423 : BitVec 32 := 4095#32
  let v9384 : BitVec 32 := Scalar.andi v9383 c4095_i32_3423
  let v9385 : Index := Scalar.indexCast v9384
  let c0_3424 : Index := 0#32
  ![v9385.toNat, 0]

def k0_chk545 (v9383 : BitVec 32) : Prop :=
  (∀ a, (k0_off1166 v9383) a + S1x256.size a ≤ S4096x256.size a)
theorem k0_off1166_inb : ∀ (v9383 : BitVec 32) (k0_hw545 : k0_chk545 v9383), ∀ a, (k0_off1166 v9383) a + S1x256.size a ≤ S4096x256.size a := fun v9383 k0_hw545 => k0_hw545

def k0_off1167 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3426 : BitVec 32 := 1024#32
  let v9390 : BitVec 32 := Scalar.muli v14 c1024_i32_3426
  let c537_i32 : BitVec 32 := 537#32
  let v9391 : BitVec 32 := Scalar.addi v9390 c537_i32
  let v9392 : Index := Scalar.indexCast v9391
  ![v9392.toNat]
def k0_off1168 (v9393 : BitVec 32) : Fin 2 → Nat :=
  let c4095_i32_3427 : BitVec 32 := 4095#32
  let v9394 : BitVec 32 := Scalar.andi v9393 c4095_i32_3427
  let v9395 : Index := Scalar.indexCast v9394
  let c0_3428 : Index := 0#32
  ![v9395.toNat, 0]

def k0_chk546 (v9393 : BitVec 32) : Prop :=
  (∀ a, (k0_off1168 v9393) a + S1x256.size a ≤ S4096x256.size a)
theorem k0_off1168_inb : ∀ (v9393 : BitVec 32) (k0_hw546 : k0_chk546 v9393), ∀ a, (k0_off1168 v9393) a + S1x256.size a ≤ S4096x256.size a := fun v9393 k0_hw546 => k0_hw546

def k0_off1169 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3430 : BitVec 32 := 1024#32
  let v9400 : BitVec 32 := Scalar.muli v14 c1024_i32_3430
  let c538_i32 : BitVec 32 := 538#32
  let v9401 : BitVec 32 := Scalar.addi v9400 c538_i32
  let v9402 : Index := Scalar.indexCast v9401
  ![v9402.toNat]
def k0_off1170 (v9403 : BitVec 32) : Fin 2 → Nat :=
  let c4095_i32_3431 : BitVec 32 := 4095#32
  let v9404 : BitVec 32 := Scalar.andi v9403 c4095_i32_3431
  let v9405 : Index := Scalar.indexCast v9404
  let c0_3432 : Index := 0#32
  ![v9405.toNat, 0]

def k0_chk547 (v9403 : BitVec 32) : Prop :=
  (∀ a, (k0_off1170 v9403) a + S1x256.size a ≤ S4096x256.size a)
theorem k0_off1170_inb : ∀ (v9403 : BitVec 32) (k0_hw547 : k0_chk547 v9403), ∀ a, (k0_off1170 v9403) a + S1x256.size a ≤ S4096x256.size a := fun v9403 k0_hw547 => k0_hw547

def k0_off1171 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3434 : BitVec 32 := 1024#32
  let v9410 : BitVec 32 := Scalar.muli v14 c1024_i32_3434
  let c539_i32 : BitVec 32 := 539#32
  let v9411 : BitVec 32 := Scalar.addi v9410 c539_i32
  let v9412 : Index := Scalar.indexCast v9411
  ![v9412.toNat]
def k0_off1172 (v9413 : BitVec 32) : Fin 2 → Nat :=
  let c4095_i32_3435 : BitVec 32 := 4095#32
  let v9414 : BitVec 32 := Scalar.andi v9413 c4095_i32_3435
  let v9415 : Index := Scalar.indexCast v9414
  let c0_3436 : Index := 0#32
  ![v9415.toNat, 0]

def k0_chk548 (v9413 : BitVec 32) : Prop :=
  (∀ a, (k0_off1172 v9413) a + S1x256.size a ≤ S4096x256.size a)
theorem k0_off1172_inb : ∀ (v9413 : BitVec 32) (k0_hw548 : k0_chk548 v9413), ∀ a, (k0_off1172 v9413) a + S1x256.size a ≤ S4096x256.size a := fun v9413 k0_hw548 => k0_hw548

def k0_off1173 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3438 : BitVec 32 := 1024#32
  let v9420 : BitVec 32 := Scalar.muli v14 c1024_i32_3438
  let c540_i32 : BitVec 32 := 540#32
  let v9421 : BitVec 32 := Scalar.addi v9420 c540_i32
  let v9422 : Index := Scalar.indexCast v9421
  ![v9422.toNat]
def k0_off1174 (v9423 : BitVec 32) : Fin 2 → Nat :=
  let c4095_i32_3439 : BitVec 32 := 4095#32
  let v9424 : BitVec 32 := Scalar.andi v9423 c4095_i32_3439
  let v9425 : Index := Scalar.indexCast v9424
  let c0_3440 : Index := 0#32
  ![v9425.toNat, 0]

def k0_chk549 (v9423 : BitVec 32) : Prop :=
  (∀ a, (k0_off1174 v9423) a + S1x256.size a ≤ S4096x256.size a)
theorem k0_off1174_inb : ∀ (v9423 : BitVec 32) (k0_hw549 : k0_chk549 v9423), ∀ a, (k0_off1174 v9423) a + S1x256.size a ≤ S4096x256.size a := fun v9423 k0_hw549 => k0_hw549

def k0_off1175 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3442 : BitVec 32 := 1024#32
  let v9430 : BitVec 32 := Scalar.muli v14 c1024_i32_3442
  let c541_i32 : BitVec 32 := 541#32
  let v9431 : BitVec 32 := Scalar.addi v9430 c541_i32
  let v9432 : Index := Scalar.indexCast v9431
  ![v9432.toNat]
def k0_off1176 (v9433 : BitVec 32) : Fin 2 → Nat :=
  let c4095_i32_3443 : BitVec 32 := 4095#32
  let v9434 : BitVec 32 := Scalar.andi v9433 c4095_i32_3443
  let v9435 : Index := Scalar.indexCast v9434
  let c0_3444 : Index := 0#32
  ![v9435.toNat, 0]

def k0_chk550 (v9433 : BitVec 32) : Prop :=
  (∀ a, (k0_off1176 v9433) a + S1x256.size a ≤ S4096x256.size a)
theorem k0_off1176_inb : ∀ (v9433 : BitVec 32) (k0_hw550 : k0_chk550 v9433), ∀ a, (k0_off1176 v9433) a + S1x256.size a ≤ S4096x256.size a := fun v9433 k0_hw550 => k0_hw550

def k0_off1177 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3446 : BitVec 32 := 1024#32
  let v9440 : BitVec 32 := Scalar.muli v14 c1024_i32_3446
  let c542_i32 : BitVec 32 := 542#32
  let v9441 : BitVec 32 := Scalar.addi v9440 c542_i32
  let v9442 : Index := Scalar.indexCast v9441
  ![v9442.toNat]
def k0_off1178 (v9443 : BitVec 32) : Fin 2 → Nat :=
  let c4095_i32_3447 : BitVec 32 := 4095#32
  let v9444 : BitVec 32 := Scalar.andi v9443 c4095_i32_3447
  let v9445 : Index := Scalar.indexCast v9444
  let c0_3448 : Index := 0#32
  ![v9445.toNat, 0]

def k0_chk551 (v9443 : BitVec 32) : Prop :=
  (∀ a, (k0_off1178 v9443) a + S1x256.size a ≤ S4096x256.size a)
theorem k0_off1178_inb : ∀ (v9443 : BitVec 32) (k0_hw551 : k0_chk551 v9443), ∀ a, (k0_off1178 v9443) a + S1x256.size a ≤ S4096x256.size a := fun v9443 k0_hw551 => k0_hw551

def k0_off1179 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3450 : BitVec 32 := 1024#32
  let v9450 : BitVec 32 := Scalar.muli v14 c1024_i32_3450
  let c543_i32 : BitVec 32 := 543#32
  let v9451 : BitVec 32 := Scalar.addi v9450 c543_i32
  let v9452 : Index := Scalar.indexCast v9451
  ![v9452.toNat]
def k0_off1180 (v9453 : BitVec 32) : Fin 2 → Nat :=
  let c4095_i32_3451 : BitVec 32 := 4095#32
  let v9454 : BitVec 32 := Scalar.andi v9453 c4095_i32_3451
  let v9455 : Index := Scalar.indexCast v9454
  let c0_3452 : Index := 0#32
  ![v9455.toNat, 0]

def k0_chk552 (v9453 : BitVec 32) : Prop :=
  (∀ a, (k0_off1180 v9453) a + S1x256.size a ≤ S4096x256.size a)
theorem k0_off1180_inb : ∀ (v9453 : BitVec 32) (k0_hw552 : k0_chk552 v9453), ∀ a, (k0_off1180 v9453) a + S1x256.size a ≤ S4096x256.size a := fun v9453 k0_hw552 => k0_hw552

def k0_off1181 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3454 : BitVec 32 := 1024#32
  let v9460 : BitVec 32 := Scalar.muli v14 c1024_i32_3454
  let c544_i32 : BitVec 32 := 544#32
  let v9461 : BitVec 32 := Scalar.addi v9460 c544_i32
  let v9462 : Index := Scalar.indexCast v9461
  ![v9462.toNat]
def k0_off1182 (v9463 : BitVec 32) : Fin 2 → Nat :=
  let c4095_i32_3455 : BitVec 32 := 4095#32
  let v9464 : BitVec 32 := Scalar.andi v9463 c4095_i32_3455
  let v9465 : Index := Scalar.indexCast v9464
  let c0_3456 : Index := 0#32
  ![v9465.toNat, 0]

def k0_chk553 (v9463 : BitVec 32) : Prop :=
  (∀ a, (k0_off1182 v9463) a + S1x256.size a ≤ S4096x256.size a)
theorem k0_off1182_inb : ∀ (v9463 : BitVec 32) (k0_hw553 : k0_chk553 v9463), ∀ a, (k0_off1182 v9463) a + S1x256.size a ≤ S4096x256.size a := fun v9463 k0_hw553 => k0_hw553

def k0_off1183 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3458 : BitVec 32 := 1024#32
  let v9470 : BitVec 32 := Scalar.muli v14 c1024_i32_3458
  let c545_i32 : BitVec 32 := 545#32
  let v9471 : BitVec 32 := Scalar.addi v9470 c545_i32
  let v9472 : Index := Scalar.indexCast v9471
  ![v9472.toNat]
def k0_off1184 (v9473 : BitVec 32) : Fin 2 → Nat :=
  let c4095_i32_3459 : BitVec 32 := 4095#32
  let v9474 : BitVec 32 := Scalar.andi v9473 c4095_i32_3459
  let v9475 : Index := Scalar.indexCast v9474
  let c0_3460 : Index := 0#32
  ![v9475.toNat, 0]

def k0_chk554 (v9473 : BitVec 32) : Prop :=
  (∀ a, (k0_off1184 v9473) a + S1x256.size a ≤ S4096x256.size a)
theorem k0_off1184_inb : ∀ (v9473 : BitVec 32) (k0_hw554 : k0_chk554 v9473), ∀ a, (k0_off1184 v9473) a + S1x256.size a ≤ S4096x256.size a := fun v9473 k0_hw554 => k0_hw554

def k0_off1185 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3462 : BitVec 32 := 1024#32
  let v9480 : BitVec 32 := Scalar.muli v14 c1024_i32_3462
  let c546_i32 : BitVec 32 := 546#32
  let v9481 : BitVec 32 := Scalar.addi v9480 c546_i32
  let v9482 : Index := Scalar.indexCast v9481
  ![v9482.toNat]
def k0_off1186 (v9483 : BitVec 32) : Fin 2 → Nat :=
  let c4095_i32_3463 : BitVec 32 := 4095#32
  let v9484 : BitVec 32 := Scalar.andi v9483 c4095_i32_3463
  let v9485 : Index := Scalar.indexCast v9484
  let c0_3464 : Index := 0#32
  ![v9485.toNat, 0]

def k0_chk555 (v9483 : BitVec 32) : Prop :=
  (∀ a, (k0_off1186 v9483) a + S1x256.size a ≤ S4096x256.size a)
theorem k0_off1186_inb : ∀ (v9483 : BitVec 32) (k0_hw555 : k0_chk555 v9483), ∀ a, (k0_off1186 v9483) a + S1x256.size a ≤ S4096x256.size a := fun v9483 k0_hw555 => k0_hw555

def k0_off1187 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3466 : BitVec 32 := 1024#32
  let v9490 : BitVec 32 := Scalar.muli v14 c1024_i32_3466
  let c547_i32 : BitVec 32 := 547#32
  let v9491 : BitVec 32 := Scalar.addi v9490 c547_i32
  let v9492 : Index := Scalar.indexCast v9491
  ![v9492.toNat]
def k0_off1188 (v9493 : BitVec 32) : Fin 2 → Nat :=
  let c4095_i32_3467 : BitVec 32 := 4095#32
  let v9494 : BitVec 32 := Scalar.andi v9493 c4095_i32_3467
  let v9495 : Index := Scalar.indexCast v9494
  let c0_3468 : Index := 0#32
  ![v9495.toNat, 0]

def k0_chk556 (v9493 : BitVec 32) : Prop :=
  (∀ a, (k0_off1188 v9493) a + S1x256.size a ≤ S4096x256.size a)
theorem k0_off1188_inb : ∀ (v9493 : BitVec 32) (k0_hw556 : k0_chk556 v9493), ∀ a, (k0_off1188 v9493) a + S1x256.size a ≤ S4096x256.size a := fun v9493 k0_hw556 => k0_hw556

def k0_off1189 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3470 : BitVec 32 := 1024#32
  let v9500 : BitVec 32 := Scalar.muli v14 c1024_i32_3470
  let c548_i32 : BitVec 32 := 548#32
  let v9501 : BitVec 32 := Scalar.addi v9500 c548_i32
  let v9502 : Index := Scalar.indexCast v9501
  ![v9502.toNat]
def k0_off1190 (v9503 : BitVec 32) : Fin 2 → Nat :=
  let c4095_i32_3471 : BitVec 32 := 4095#32
  let v9504 : BitVec 32 := Scalar.andi v9503 c4095_i32_3471
  let v9505 : Index := Scalar.indexCast v9504
  let c0_3472 : Index := 0#32
  ![v9505.toNat, 0]

def k0_chk557 (v9503 : BitVec 32) : Prop :=
  (∀ a, (k0_off1190 v9503) a + S1x256.size a ≤ S4096x256.size a)
theorem k0_off1190_inb : ∀ (v9503 : BitVec 32) (k0_hw557 : k0_chk557 v9503), ∀ a, (k0_off1190 v9503) a + S1x256.size a ≤ S4096x256.size a := fun v9503 k0_hw557 => k0_hw557

def k0_off1191 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3474 : BitVec 32 := 1024#32
  let v9510 : BitVec 32 := Scalar.muli v14 c1024_i32_3474
  let c549_i32 : BitVec 32 := 549#32
  let v9511 : BitVec 32 := Scalar.addi v9510 c549_i32
  let v9512 : Index := Scalar.indexCast v9511
  ![v9512.toNat]
def k0_off1192 (v9513 : BitVec 32) : Fin 2 → Nat :=
  let c4095_i32_3475 : BitVec 32 := 4095#32
  let v9514 : BitVec 32 := Scalar.andi v9513 c4095_i32_3475
  let v9515 : Index := Scalar.indexCast v9514
  let c0_3476 : Index := 0#32
  ![v9515.toNat, 0]

def k0_chk558 (v9513 : BitVec 32) : Prop :=
  (∀ a, (k0_off1192 v9513) a + S1x256.size a ≤ S4096x256.size a)
theorem k0_off1192_inb : ∀ (v9513 : BitVec 32) (k0_hw558 : k0_chk558 v9513), ∀ a, (k0_off1192 v9513) a + S1x256.size a ≤ S4096x256.size a := fun v9513 k0_hw558 => k0_hw558

def k0_off1193 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3478 : BitVec 32 := 1024#32
  let v9520 : BitVec 32 := Scalar.muli v14 c1024_i32_3478
  let c550_i32 : BitVec 32 := 550#32
  let v9521 : BitVec 32 := Scalar.addi v9520 c550_i32
  let v9522 : Index := Scalar.indexCast v9521
  ![v9522.toNat]
def k0_off1194 (v9523 : BitVec 32) : Fin 2 → Nat :=
  let c4095_i32_3479 : BitVec 32 := 4095#32
  let v9524 : BitVec 32 := Scalar.andi v9523 c4095_i32_3479
  let v9525 : Index := Scalar.indexCast v9524
  let c0_3480 : Index := 0#32
  ![v9525.toNat, 0]

def k0_chk559 (v9523 : BitVec 32) : Prop :=
  (∀ a, (k0_off1194 v9523) a + S1x256.size a ≤ S4096x256.size a)
theorem k0_off1194_inb : ∀ (v9523 : BitVec 32) (k0_hw559 : k0_chk559 v9523), ∀ a, (k0_off1194 v9523) a + S1x256.size a ≤ S4096x256.size a := fun v9523 k0_hw559 => k0_hw559

def k0_off1195 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3482 : BitVec 32 := 1024#32
  let v9530 : BitVec 32 := Scalar.muli v14 c1024_i32_3482
  let c551_i32 : BitVec 32 := 551#32
  let v9531 : BitVec 32 := Scalar.addi v9530 c551_i32
  let v9532 : Index := Scalar.indexCast v9531
  ![v9532.toNat]
def k0_off1196 (v9533 : BitVec 32) : Fin 2 → Nat :=
  let c4095_i32_3483 : BitVec 32 := 4095#32
  let v9534 : BitVec 32 := Scalar.andi v9533 c4095_i32_3483
  let v9535 : Index := Scalar.indexCast v9534
  let c0_3484 : Index := 0#32
  ![v9535.toNat, 0]

def k0_chk560 (v9533 : BitVec 32) : Prop :=
  (∀ a, (k0_off1196 v9533) a + S1x256.size a ≤ S4096x256.size a)
theorem k0_off1196_inb : ∀ (v9533 : BitVec 32) (k0_hw560 : k0_chk560 v9533), ∀ a, (k0_off1196 v9533) a + S1x256.size a ≤ S4096x256.size a := fun v9533 k0_hw560 => k0_hw560

def k0_off1197 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3486 : BitVec 32 := 1024#32
  let v9540 : BitVec 32 := Scalar.muli v14 c1024_i32_3486
  let c552_i32 : BitVec 32 := 552#32
  let v9541 : BitVec 32 := Scalar.addi v9540 c552_i32
  let v9542 : Index := Scalar.indexCast v9541
  ![v9542.toNat]
def k0_off1198 (v9543 : BitVec 32) : Fin 2 → Nat :=
  let c4095_i32_3487 : BitVec 32 := 4095#32
  let v9544 : BitVec 32 := Scalar.andi v9543 c4095_i32_3487
  let v9545 : Index := Scalar.indexCast v9544
  let c0_3488 : Index := 0#32
  ![v9545.toNat, 0]

def k0_chk561 (v9543 : BitVec 32) : Prop :=
  (∀ a, (k0_off1198 v9543) a + S1x256.size a ≤ S4096x256.size a)
theorem k0_off1198_inb : ∀ (v9543 : BitVec 32) (k0_hw561 : k0_chk561 v9543), ∀ a, (k0_off1198 v9543) a + S1x256.size a ≤ S4096x256.size a := fun v9543 k0_hw561 => k0_hw561

def k0_off1199 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3490 : BitVec 32 := 1024#32
  let v9550 : BitVec 32 := Scalar.muli v14 c1024_i32_3490
  let c553_i32 : BitVec 32 := 553#32
  let v9551 : BitVec 32 := Scalar.addi v9550 c553_i32
  let v9552 : Index := Scalar.indexCast v9551
  ![v9552.toNat]
def k0_off1200 (v9553 : BitVec 32) : Fin 2 → Nat :=
  let c4095_i32_3491 : BitVec 32 := 4095#32
  let v9554 : BitVec 32 := Scalar.andi v9553 c4095_i32_3491
  let v9555 : Index := Scalar.indexCast v9554
  let c0_3492 : Index := 0#32
  ![v9555.toNat, 0]

def k0_chk562 (v9553 : BitVec 32) : Prop :=
  (∀ a, (k0_off1200 v9553) a + S1x256.size a ≤ S4096x256.size a)
theorem k0_off1200_inb : ∀ (v9553 : BitVec 32) (k0_hw562 : k0_chk562 v9553), ∀ a, (k0_off1200 v9553) a + S1x256.size a ≤ S4096x256.size a := fun v9553 k0_hw562 => k0_hw562

def k0_off1201 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3494 : BitVec 32 := 1024#32
  let v9560 : BitVec 32 := Scalar.muli v14 c1024_i32_3494
  let c554_i32 : BitVec 32 := 554#32
  let v9561 : BitVec 32 := Scalar.addi v9560 c554_i32
  let v9562 : Index := Scalar.indexCast v9561
  ![v9562.toNat]
def k0_off1202 (v9563 : BitVec 32) : Fin 2 → Nat :=
  let c4095_i32_3495 : BitVec 32 := 4095#32
  let v9564 : BitVec 32 := Scalar.andi v9563 c4095_i32_3495
  let v9565 : Index := Scalar.indexCast v9564
  let c0_3496 : Index := 0#32
  ![v9565.toNat, 0]

def k0_chk563 (v9563 : BitVec 32) : Prop :=
  (∀ a, (k0_off1202 v9563) a + S1x256.size a ≤ S4096x256.size a)
theorem k0_off1202_inb : ∀ (v9563 : BitVec 32) (k0_hw563 : k0_chk563 v9563), ∀ a, (k0_off1202 v9563) a + S1x256.size a ≤ S4096x256.size a := fun v9563 k0_hw563 => k0_hw563

def k0_off1203 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3498 : BitVec 32 := 1024#32
  let v9570 : BitVec 32 := Scalar.muli v14 c1024_i32_3498
  let c555_i32 : BitVec 32 := 555#32
  let v9571 : BitVec 32 := Scalar.addi v9570 c555_i32
  let v9572 : Index := Scalar.indexCast v9571
  ![v9572.toNat]
def k0_off1204 (v9573 : BitVec 32) : Fin 2 → Nat :=
  let c4095_i32_3499 : BitVec 32 := 4095#32
  let v9574 : BitVec 32 := Scalar.andi v9573 c4095_i32_3499
  let v9575 : Index := Scalar.indexCast v9574
  let c0_3500 : Index := 0#32
  ![v9575.toNat, 0]

def k0_chk564 (v9573 : BitVec 32) : Prop :=
  (∀ a, (k0_off1204 v9573) a + S1x256.size a ≤ S4096x256.size a)
theorem k0_off1204_inb : ∀ (v9573 : BitVec 32) (k0_hw564 : k0_chk564 v9573), ∀ a, (k0_off1204 v9573) a + S1x256.size a ≤ S4096x256.size a := fun v9573 k0_hw564 => k0_hw564

def k0_off1205 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3502 : BitVec 32 := 1024#32
  let v9580 : BitVec 32 := Scalar.muli v14 c1024_i32_3502
  let c556_i32 : BitVec 32 := 556#32
  let v9581 : BitVec 32 := Scalar.addi v9580 c556_i32
  let v9582 : Index := Scalar.indexCast v9581
  ![v9582.toNat]
def k0_off1206 (v9583 : BitVec 32) : Fin 2 → Nat :=
  let c4095_i32_3503 : BitVec 32 := 4095#32
  let v9584 : BitVec 32 := Scalar.andi v9583 c4095_i32_3503
  let v9585 : Index := Scalar.indexCast v9584
  let c0_3504 : Index := 0#32
  ![v9585.toNat, 0]

def k0_chk565 (v9583 : BitVec 32) : Prop :=
  (∀ a, (k0_off1206 v9583) a + S1x256.size a ≤ S4096x256.size a)
theorem k0_off1206_inb : ∀ (v9583 : BitVec 32) (k0_hw565 : k0_chk565 v9583), ∀ a, (k0_off1206 v9583) a + S1x256.size a ≤ S4096x256.size a := fun v9583 k0_hw565 => k0_hw565

def k0_off1207 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3506 : BitVec 32 := 1024#32
  let v9590 : BitVec 32 := Scalar.muli v14 c1024_i32_3506
  let c557_i32 : BitVec 32 := 557#32
  let v9591 : BitVec 32 := Scalar.addi v9590 c557_i32
  let v9592 : Index := Scalar.indexCast v9591
  ![v9592.toNat]
def k0_off1208 (v9593 : BitVec 32) : Fin 2 → Nat :=
  let c4095_i32_3507 : BitVec 32 := 4095#32
  let v9594 : BitVec 32 := Scalar.andi v9593 c4095_i32_3507
  let v9595 : Index := Scalar.indexCast v9594
  let c0_3508 : Index := 0#32
  ![v9595.toNat, 0]

def k0_chk566 (v9593 : BitVec 32) : Prop :=
  (∀ a, (k0_off1208 v9593) a + S1x256.size a ≤ S4096x256.size a)
theorem k0_off1208_inb : ∀ (v9593 : BitVec 32) (k0_hw566 : k0_chk566 v9593), ∀ a, (k0_off1208 v9593) a + S1x256.size a ≤ S4096x256.size a := fun v9593 k0_hw566 => k0_hw566

def k0_off1209 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3510 : BitVec 32 := 1024#32
  let v9600 : BitVec 32 := Scalar.muli v14 c1024_i32_3510
  let c558_i32 : BitVec 32 := 558#32
  let v9601 : BitVec 32 := Scalar.addi v9600 c558_i32
  let v9602 : Index := Scalar.indexCast v9601
  ![v9602.toNat]
def k0_off1210 (v9603 : BitVec 32) : Fin 2 → Nat :=
  let c4095_i32_3511 : BitVec 32 := 4095#32
  let v9604 : BitVec 32 := Scalar.andi v9603 c4095_i32_3511
  let v9605 : Index := Scalar.indexCast v9604
  let c0_3512 : Index := 0#32
  ![v9605.toNat, 0]

def k0_chk567 (v9603 : BitVec 32) : Prop :=
  (∀ a, (k0_off1210 v9603) a + S1x256.size a ≤ S4096x256.size a)
theorem k0_off1210_inb : ∀ (v9603 : BitVec 32) (k0_hw567 : k0_chk567 v9603), ∀ a, (k0_off1210 v9603) a + S1x256.size a ≤ S4096x256.size a := fun v9603 k0_hw567 => k0_hw567

def k0_off1211 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3514 : BitVec 32 := 1024#32
  let v9610 : BitVec 32 := Scalar.muli v14 c1024_i32_3514
  let c559_i32 : BitVec 32 := 559#32
  let v9611 : BitVec 32 := Scalar.addi v9610 c559_i32
  let v9612 : Index := Scalar.indexCast v9611
  ![v9612.toNat]
def k0_off1212 (v9613 : BitVec 32) : Fin 2 → Nat :=
  let c4095_i32_3515 : BitVec 32 := 4095#32
  let v9614 : BitVec 32 := Scalar.andi v9613 c4095_i32_3515
  let v9615 : Index := Scalar.indexCast v9614
  let c0_3516 : Index := 0#32
  ![v9615.toNat, 0]

def k0_chk568 (v9613 : BitVec 32) : Prop :=
  (∀ a, (k0_off1212 v9613) a + S1x256.size a ≤ S4096x256.size a)
theorem k0_off1212_inb : ∀ (v9613 : BitVec 32) (k0_hw568 : k0_chk568 v9613), ∀ a, (k0_off1212 v9613) a + S1x256.size a ≤ S4096x256.size a := fun v9613 k0_hw568 => k0_hw568

def k0_off1213 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3518 : BitVec 32 := 1024#32
  let v9620 : BitVec 32 := Scalar.muli v14 c1024_i32_3518
  let c560_i32 : BitVec 32 := 560#32
  let v9621 : BitVec 32 := Scalar.addi v9620 c560_i32
  let v9622 : Index := Scalar.indexCast v9621
  ![v9622.toNat]
def k0_off1214 (v9623 : BitVec 32) : Fin 2 → Nat :=
  let c4095_i32_3519 : BitVec 32 := 4095#32
  let v9624 : BitVec 32 := Scalar.andi v9623 c4095_i32_3519
  let v9625 : Index := Scalar.indexCast v9624
  let c0_3520 : Index := 0#32
  ![v9625.toNat, 0]

def k0_chk569 (v9623 : BitVec 32) : Prop :=
  (∀ a, (k0_off1214 v9623) a + S1x256.size a ≤ S4096x256.size a)
theorem k0_off1214_inb : ∀ (v9623 : BitVec 32) (k0_hw569 : k0_chk569 v9623), ∀ a, (k0_off1214 v9623) a + S1x256.size a ≤ S4096x256.size a := fun v9623 k0_hw569 => k0_hw569

def k0_off1215 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3522 : BitVec 32 := 1024#32
  let v9630 : BitVec 32 := Scalar.muli v14 c1024_i32_3522
  let c561_i32 : BitVec 32 := 561#32
  let v9631 : BitVec 32 := Scalar.addi v9630 c561_i32
  let v9632 : Index := Scalar.indexCast v9631
  ![v9632.toNat]
def k0_off1216 (v9633 : BitVec 32) : Fin 2 → Nat :=
  let c4095_i32_3523 : BitVec 32 := 4095#32
  let v9634 : BitVec 32 := Scalar.andi v9633 c4095_i32_3523
  let v9635 : Index := Scalar.indexCast v9634
  let c0_3524 : Index := 0#32
  ![v9635.toNat, 0]

def k0_chk570 (v9633 : BitVec 32) : Prop :=
  (∀ a, (k0_off1216 v9633) a + S1x256.size a ≤ S4096x256.size a)
theorem k0_off1216_inb : ∀ (v9633 : BitVec 32) (k0_hw570 : k0_chk570 v9633), ∀ a, (k0_off1216 v9633) a + S1x256.size a ≤ S4096x256.size a := fun v9633 k0_hw570 => k0_hw570

def k0_off1217 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3526 : BitVec 32 := 1024#32
  let v9640 : BitVec 32 := Scalar.muli v14 c1024_i32_3526
  let c562_i32 : BitVec 32 := 562#32
  let v9641 : BitVec 32 := Scalar.addi v9640 c562_i32
  let v9642 : Index := Scalar.indexCast v9641
  ![v9642.toNat]
def k0_off1218 (v9643 : BitVec 32) : Fin 2 → Nat :=
  let c4095_i32_3527 : BitVec 32 := 4095#32
  let v9644 : BitVec 32 := Scalar.andi v9643 c4095_i32_3527
  let v9645 : Index := Scalar.indexCast v9644
  let c0_3528 : Index := 0#32
  ![v9645.toNat, 0]

def k0_chk571 (v9643 : BitVec 32) : Prop :=
  (∀ a, (k0_off1218 v9643) a + S1x256.size a ≤ S4096x256.size a)
theorem k0_off1218_inb : ∀ (v9643 : BitVec 32) (k0_hw571 : k0_chk571 v9643), ∀ a, (k0_off1218 v9643) a + S1x256.size a ≤ S4096x256.size a := fun v9643 k0_hw571 => k0_hw571

def k0_off1219 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3530 : BitVec 32 := 1024#32
  let v9650 : BitVec 32 := Scalar.muli v14 c1024_i32_3530
  let c563_i32 : BitVec 32 := 563#32
  let v9651 : BitVec 32 := Scalar.addi v9650 c563_i32
  let v9652 : Index := Scalar.indexCast v9651
  ![v9652.toNat]
def k0_off1220 (v9653 : BitVec 32) : Fin 2 → Nat :=
  let c4095_i32_3531 : BitVec 32 := 4095#32
  let v9654 : BitVec 32 := Scalar.andi v9653 c4095_i32_3531
  let v9655 : Index := Scalar.indexCast v9654
  let c0_3532 : Index := 0#32
  ![v9655.toNat, 0]

def k0_chk572 (v9653 : BitVec 32) : Prop :=
  (∀ a, (k0_off1220 v9653) a + S1x256.size a ≤ S4096x256.size a)
theorem k0_off1220_inb : ∀ (v9653 : BitVec 32) (k0_hw572 : k0_chk572 v9653), ∀ a, (k0_off1220 v9653) a + S1x256.size a ≤ S4096x256.size a := fun v9653 k0_hw572 => k0_hw572

def k0_off1221 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3534 : BitVec 32 := 1024#32
  let v9660 : BitVec 32 := Scalar.muli v14 c1024_i32_3534
  let c564_i32 : BitVec 32 := 564#32
  let v9661 : BitVec 32 := Scalar.addi v9660 c564_i32
  let v9662 : Index := Scalar.indexCast v9661
  ![v9662.toNat]
def k0_off1222 (v9663 : BitVec 32) : Fin 2 → Nat :=
  let c4095_i32_3535 : BitVec 32 := 4095#32
  let v9664 : BitVec 32 := Scalar.andi v9663 c4095_i32_3535
  let v9665 : Index := Scalar.indexCast v9664
  let c0_3536 : Index := 0#32
  ![v9665.toNat, 0]

def k0_chk573 (v9663 : BitVec 32) : Prop :=
  (∀ a, (k0_off1222 v9663) a + S1x256.size a ≤ S4096x256.size a)
theorem k0_off1222_inb : ∀ (v9663 : BitVec 32) (k0_hw573 : k0_chk573 v9663), ∀ a, (k0_off1222 v9663) a + S1x256.size a ≤ S4096x256.size a := fun v9663 k0_hw573 => k0_hw573

def k0_off1223 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3538 : BitVec 32 := 1024#32
  let v9670 : BitVec 32 := Scalar.muli v14 c1024_i32_3538
  let c565_i32 : BitVec 32 := 565#32
  let v9671 : BitVec 32 := Scalar.addi v9670 c565_i32
  let v9672 : Index := Scalar.indexCast v9671
  ![v9672.toNat]
def k0_off1224 (v9673 : BitVec 32) : Fin 2 → Nat :=
  let c4095_i32_3539 : BitVec 32 := 4095#32
  let v9674 : BitVec 32 := Scalar.andi v9673 c4095_i32_3539
  let v9675 : Index := Scalar.indexCast v9674
  let c0_3540 : Index := 0#32
  ![v9675.toNat, 0]

def k0_chk574 (v9673 : BitVec 32) : Prop :=
  (∀ a, (k0_off1224 v9673) a + S1x256.size a ≤ S4096x256.size a)
theorem k0_off1224_inb : ∀ (v9673 : BitVec 32) (k0_hw574 : k0_chk574 v9673), ∀ a, (k0_off1224 v9673) a + S1x256.size a ≤ S4096x256.size a := fun v9673 k0_hw574 => k0_hw574

def k0_off1225 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3542 : BitVec 32 := 1024#32
  let v9680 : BitVec 32 := Scalar.muli v14 c1024_i32_3542
  let c566_i32 : BitVec 32 := 566#32
  let v9681 : BitVec 32 := Scalar.addi v9680 c566_i32
  let v9682 : Index := Scalar.indexCast v9681
  ![v9682.toNat]
def k0_off1226 (v9683 : BitVec 32) : Fin 2 → Nat :=
  let c4095_i32_3543 : BitVec 32 := 4095#32
  let v9684 : BitVec 32 := Scalar.andi v9683 c4095_i32_3543
  let v9685 : Index := Scalar.indexCast v9684
  let c0_3544 : Index := 0#32
  ![v9685.toNat, 0]

def k0_chk575 (v9683 : BitVec 32) : Prop :=
  (∀ a, (k0_off1226 v9683) a + S1x256.size a ≤ S4096x256.size a)
theorem k0_off1226_inb : ∀ (v9683 : BitVec 32) (k0_hw575 : k0_chk575 v9683), ∀ a, (k0_off1226 v9683) a + S1x256.size a ≤ S4096x256.size a := fun v9683 k0_hw575 => k0_hw575

def k0_off1227 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3546 : BitVec 32 := 1024#32
  let v9690 : BitVec 32 := Scalar.muli v14 c1024_i32_3546
  let c567_i32 : BitVec 32 := 567#32
  let v9691 : BitVec 32 := Scalar.addi v9690 c567_i32
  let v9692 : Index := Scalar.indexCast v9691
  ![v9692.toNat]
def k0_off1228 (v9693 : BitVec 32) : Fin 2 → Nat :=
  let c4095_i32_3547 : BitVec 32 := 4095#32
  let v9694 : BitVec 32 := Scalar.andi v9693 c4095_i32_3547
  let v9695 : Index := Scalar.indexCast v9694
  let c0_3548 : Index := 0#32
  ![v9695.toNat, 0]

def k0_chk576 (v9693 : BitVec 32) : Prop :=
  (∀ a, (k0_off1228 v9693) a + S1x256.size a ≤ S4096x256.size a)
theorem k0_off1228_inb : ∀ (v9693 : BitVec 32) (k0_hw576 : k0_chk576 v9693), ∀ a, (k0_off1228 v9693) a + S1x256.size a ≤ S4096x256.size a := fun v9693 k0_hw576 => k0_hw576

def k0_off1229 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3550 : BitVec 32 := 1024#32
  let v9700 : BitVec 32 := Scalar.muli v14 c1024_i32_3550
  let c568_i32 : BitVec 32 := 568#32
  let v9701 : BitVec 32 := Scalar.addi v9700 c568_i32
  let v9702 : Index := Scalar.indexCast v9701
  ![v9702.toNat]
def k0_off1230 (v9703 : BitVec 32) : Fin 2 → Nat :=
  let c4095_i32_3551 : BitVec 32 := 4095#32
  let v9704 : BitVec 32 := Scalar.andi v9703 c4095_i32_3551
  let v9705 : Index := Scalar.indexCast v9704
  let c0_3552 : Index := 0#32
  ![v9705.toNat, 0]

def k0_chk577 (v9703 : BitVec 32) : Prop :=
  (∀ a, (k0_off1230 v9703) a + S1x256.size a ≤ S4096x256.size a)
theorem k0_off1230_inb : ∀ (v9703 : BitVec 32) (k0_hw577 : k0_chk577 v9703), ∀ a, (k0_off1230 v9703) a + S1x256.size a ≤ S4096x256.size a := fun v9703 k0_hw577 => k0_hw577

def k0_off1231 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v9767 : Index := Scalar.indexCast v12
  let c0_3569 : Index := 0#32
  let c0_3570 : Index := 0#32
  ![v9767.toNat, 0, 0]
def k0_off1232 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v9828 : Index := Scalar.indexCast v12
  let c0_3588 : Index := 0#32
  let c256_3589 : Index := 256#32
  ![v9828.toNat, 0, 256]
def k0_off1233 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v9890 : Index := Scalar.indexCast v12
  let c0_3607 : Index := 0#32
  let c512_3608 : Index := 512#32
  ![v9890.toNat, 0, 512]
def k0_off1234 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v9952 : Index := Scalar.indexCast v12
  let c0_3626 : Index := 0#32
  let c768_3627 : Index := 768#32
  ![v9952.toNat, 0, 768]
def k0_off1235 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3633 : BitVec 32 := 1024#32
  let v9962 : BitVec 32 := Scalar.muli v14 c1024_i32_3633
  let c569_i32 : BitVec 32 := 569#32
  let v9963 : BitVec 32 := Scalar.addi v9962 c569_i32
  let v9964 : Index := Scalar.indexCast v9963
  ![v9964.toNat]
def k0_off1236 (v9965 : BitVec 32) : Fin 2 → Nat :=
  let c4095_i32_3634 : BitVec 32 := 4095#32
  let v9966 : BitVec 32 := Scalar.andi v9965 c4095_i32_3634
  let v9967 : Index := Scalar.indexCast v9966
  let c0_3635 : Index := 0#32
  ![v9967.toNat, 0]

def k0_chk578 (v9965 : BitVec 32) : Prop :=
  (∀ a, (k0_off1236 v9965) a + S1x256.size a ≤ S4096x256.size a)
theorem k0_off1236_inb : ∀ (v9965 : BitVec 32) (k0_hw578 : k0_chk578 v9965), ∀ a, (k0_off1236 v9965) a + S1x256.size a ≤ S4096x256.size a := fun v9965 k0_hw578 => k0_hw578

def k0_off1237 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3637 : BitVec 32 := 1024#32
  let v9972 : BitVec 32 := Scalar.muli v14 c1024_i32_3637
  let c570_i32 : BitVec 32 := 570#32
  let v9973 : BitVec 32 := Scalar.addi v9972 c570_i32
  let v9974 : Index := Scalar.indexCast v9973
  ![v9974.toNat]
def k0_off1238 (v9975 : BitVec 32) : Fin 2 → Nat :=
  let c4095_i32_3638 : BitVec 32 := 4095#32
  let v9976 : BitVec 32 := Scalar.andi v9975 c4095_i32_3638
  let v9977 : Index := Scalar.indexCast v9976
  let c0_3639 : Index := 0#32
  ![v9977.toNat, 0]

def k0_chk579 (v9975 : BitVec 32) : Prop :=
  (∀ a, (k0_off1238 v9975) a + S1x256.size a ≤ S4096x256.size a)
theorem k0_off1238_inb : ∀ (v9975 : BitVec 32) (k0_hw579 : k0_chk579 v9975), ∀ a, (k0_off1238 v9975) a + S1x256.size a ≤ S4096x256.size a := fun v9975 k0_hw579 => k0_hw579

def k0_off1239 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3641 : BitVec 32 := 1024#32
  let v9982 : BitVec 32 := Scalar.muli v14 c1024_i32_3641
  let c571_i32 : BitVec 32 := 571#32
  let v9983 : BitVec 32 := Scalar.addi v9982 c571_i32
  let v9984 : Index := Scalar.indexCast v9983
  ![v9984.toNat]
def k0_off1240 (v9985 : BitVec 32) : Fin 2 → Nat :=
  let c4095_i32_3642 : BitVec 32 := 4095#32
  let v9986 : BitVec 32 := Scalar.andi v9985 c4095_i32_3642
  let v9987 : Index := Scalar.indexCast v9986
  let c0_3643 : Index := 0#32
  ![v9987.toNat, 0]

def k0_chk580 (v9985 : BitVec 32) : Prop :=
  (∀ a, (k0_off1240 v9985) a + S1x256.size a ≤ S4096x256.size a)
theorem k0_off1240_inb : ∀ (v9985 : BitVec 32) (k0_hw580 : k0_chk580 v9985), ∀ a, (k0_off1240 v9985) a + S1x256.size a ≤ S4096x256.size a := fun v9985 k0_hw580 => k0_hw580

def k0_off1241 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3645 : BitVec 32 := 1024#32
  let v9992 : BitVec 32 := Scalar.muli v14 c1024_i32_3645
  let c572_i32 : BitVec 32 := 572#32
  let v9993 : BitVec 32 := Scalar.addi v9992 c572_i32
  let v9994 : Index := Scalar.indexCast v9993
  ![v9994.toNat]
def k0_off1242 (v9995 : BitVec 32) : Fin 2 → Nat :=
  let c4095_i32_3646 : BitVec 32 := 4095#32
  let v9996 : BitVec 32 := Scalar.andi v9995 c4095_i32_3646
  let v9997 : Index := Scalar.indexCast v9996
  let c0_3647 : Index := 0#32
  ![v9997.toNat, 0]

def k0_chk581 (v9995 : BitVec 32) : Prop :=
  (∀ a, (k0_off1242 v9995) a + S1x256.size a ≤ S4096x256.size a)
theorem k0_off1242_inb : ∀ (v9995 : BitVec 32) (k0_hw581 : k0_chk581 v9995), ∀ a, (k0_off1242 v9995) a + S1x256.size a ≤ S4096x256.size a := fun v9995 k0_hw581 => k0_hw581

def k0_off1243 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3649 : BitVec 32 := 1024#32
  let v10002 : BitVec 32 := Scalar.muli v14 c1024_i32_3649
  let c573_i32 : BitVec 32 := 573#32
  let v10003 : BitVec 32 := Scalar.addi v10002 c573_i32
  let v10004 : Index := Scalar.indexCast v10003
  ![v10004.toNat]
def k0_off1244 (v10005 : BitVec 32) : Fin 2 → Nat :=
  let c4095_i32_3650 : BitVec 32 := 4095#32
  let v10006 : BitVec 32 := Scalar.andi v10005 c4095_i32_3650
  let v10007 : Index := Scalar.indexCast v10006
  let c0_3651 : Index := 0#32
  ![v10007.toNat, 0]

def k0_chk582 (v10005 : BitVec 32) : Prop :=
  (∀ a, (k0_off1244 v10005) a + S1x256.size a ≤ S4096x256.size a)
theorem k0_off1244_inb : ∀ (v10005 : BitVec 32) (k0_hw582 : k0_chk582 v10005), ∀ a, (k0_off1244 v10005) a + S1x256.size a ≤ S4096x256.size a := fun v10005 k0_hw582 => k0_hw582

def k0_off1245 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3653 : BitVec 32 := 1024#32
  let v10012 : BitVec 32 := Scalar.muli v14 c1024_i32_3653
  let c574_i32 : BitVec 32 := 574#32
  let v10013 : BitVec 32 := Scalar.addi v10012 c574_i32
  let v10014 : Index := Scalar.indexCast v10013
  ![v10014.toNat]
def k0_off1246 (v10015 : BitVec 32) : Fin 2 → Nat :=
  let c4095_i32_3654 : BitVec 32 := 4095#32
  let v10016 : BitVec 32 := Scalar.andi v10015 c4095_i32_3654
  let v10017 : Index := Scalar.indexCast v10016
  let c0_3655 : Index := 0#32
  ![v10017.toNat, 0]

def k0_chk583 (v10015 : BitVec 32) : Prop :=
  (∀ a, (k0_off1246 v10015) a + S1x256.size a ≤ S4096x256.size a)
theorem k0_off1246_inb : ∀ (v10015 : BitVec 32) (k0_hw583 : k0_chk583 v10015), ∀ a, (k0_off1246 v10015) a + S1x256.size a ≤ S4096x256.size a := fun v10015 k0_hw583 => k0_hw583

def k0_off1247 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3657 : BitVec 32 := 1024#32
  let v10022 : BitVec 32 := Scalar.muli v14 c1024_i32_3657
  let c575_i32 : BitVec 32 := 575#32
  let v10023 : BitVec 32 := Scalar.addi v10022 c575_i32
  let v10024 : Index := Scalar.indexCast v10023
  ![v10024.toNat]
def k0_off1248 (v10025 : BitVec 32) : Fin 2 → Nat :=
  let c4095_i32_3658 : BitVec 32 := 4095#32
  let v10026 : BitVec 32 := Scalar.andi v10025 c4095_i32_3658
  let v10027 : Index := Scalar.indexCast v10026
  let c0_3659 : Index := 0#32
  ![v10027.toNat, 0]

def k0_chk584 (v10025 : BitVec 32) : Prop :=
  (∀ a, (k0_off1248 v10025) a + S1x256.size a ≤ S4096x256.size a)
theorem k0_off1248_inb : ∀ (v10025 : BitVec 32) (k0_hw584 : k0_chk584 v10025), ∀ a, (k0_off1248 v10025) a + S1x256.size a ≤ S4096x256.size a := fun v10025 k0_hw584 => k0_hw584

def k0_off1249 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3661 : BitVec 32 := 1024#32
  let v10032 : BitVec 32 := Scalar.muli v14 c1024_i32_3661
  let c576_i32 : BitVec 32 := 576#32
  let v10033 : BitVec 32 := Scalar.addi v10032 c576_i32
  let v10034 : Index := Scalar.indexCast v10033
  ![v10034.toNat]
def k0_off1250 (v10035 : BitVec 32) : Fin 2 → Nat :=
  let c4095_i32_3662 : BitVec 32 := 4095#32
  let v10036 : BitVec 32 := Scalar.andi v10035 c4095_i32_3662
  let v10037 : Index := Scalar.indexCast v10036
  let c0_3663 : Index := 0#32
  ![v10037.toNat, 0]

def k0_chk585 (v10035 : BitVec 32) : Prop :=
  (∀ a, (k0_off1250 v10035) a + S1x256.size a ≤ S4096x256.size a)
theorem k0_off1250_inb : ∀ (v10035 : BitVec 32) (k0_hw585 : k0_chk585 v10035), ∀ a, (k0_off1250 v10035) a + S1x256.size a ≤ S4096x256.size a := fun v10035 k0_hw585 => k0_hw585

def k0_off1251 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3665 : BitVec 32 := 1024#32
  let v10042 : BitVec 32 := Scalar.muli v14 c1024_i32_3665
  let c577_i32 : BitVec 32 := 577#32
  let v10043 : BitVec 32 := Scalar.addi v10042 c577_i32
  let v10044 : Index := Scalar.indexCast v10043
  ![v10044.toNat]
def k0_off1252 (v10045 : BitVec 32) : Fin 2 → Nat :=
  let c4095_i32_3666 : BitVec 32 := 4095#32
  let v10046 : BitVec 32 := Scalar.andi v10045 c4095_i32_3666
  let v10047 : Index := Scalar.indexCast v10046
  let c0_3667 : Index := 0#32
  ![v10047.toNat, 0]

def k0_chk586 (v10045 : BitVec 32) : Prop :=
  (∀ a, (k0_off1252 v10045) a + S1x256.size a ≤ S4096x256.size a)
theorem k0_off1252_inb : ∀ (v10045 : BitVec 32) (k0_hw586 : k0_chk586 v10045), ∀ a, (k0_off1252 v10045) a + S1x256.size a ≤ S4096x256.size a := fun v10045 k0_hw586 => k0_hw586

def k0_off1253 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3669 : BitVec 32 := 1024#32
  let v10052 : BitVec 32 := Scalar.muli v14 c1024_i32_3669
  let c578_i32 : BitVec 32 := 578#32
  let v10053 : BitVec 32 := Scalar.addi v10052 c578_i32
  let v10054 : Index := Scalar.indexCast v10053
  ![v10054.toNat]
def k0_off1254 (v10055 : BitVec 32) : Fin 2 → Nat :=
  let c4095_i32_3670 : BitVec 32 := 4095#32
  let v10056 : BitVec 32 := Scalar.andi v10055 c4095_i32_3670
  let v10057 : Index := Scalar.indexCast v10056
  let c0_3671 : Index := 0#32
  ![v10057.toNat, 0]

def k0_chk587 (v10055 : BitVec 32) : Prop :=
  (∀ a, (k0_off1254 v10055) a + S1x256.size a ≤ S4096x256.size a)
theorem k0_off1254_inb : ∀ (v10055 : BitVec 32) (k0_hw587 : k0_chk587 v10055), ∀ a, (k0_off1254 v10055) a + S1x256.size a ≤ S4096x256.size a := fun v10055 k0_hw587 => k0_hw587

def k0_off1255 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3673 : BitVec 32 := 1024#32
  let v10062 : BitVec 32 := Scalar.muli v14 c1024_i32_3673
  let c579_i32 : BitVec 32 := 579#32
  let v10063 : BitVec 32 := Scalar.addi v10062 c579_i32
  let v10064 : Index := Scalar.indexCast v10063
  ![v10064.toNat]
def k0_off1256 (v10065 : BitVec 32) : Fin 2 → Nat :=
  let c4095_i32_3674 : BitVec 32 := 4095#32
  let v10066 : BitVec 32 := Scalar.andi v10065 c4095_i32_3674
  let v10067 : Index := Scalar.indexCast v10066
  let c0_3675 : Index := 0#32
  ![v10067.toNat, 0]

def k0_chk588 (v10065 : BitVec 32) : Prop :=
  (∀ a, (k0_off1256 v10065) a + S1x256.size a ≤ S4096x256.size a)
theorem k0_off1256_inb : ∀ (v10065 : BitVec 32) (k0_hw588 : k0_chk588 v10065), ∀ a, (k0_off1256 v10065) a + S1x256.size a ≤ S4096x256.size a := fun v10065 k0_hw588 => k0_hw588

def k0_off1257 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3677 : BitVec 32 := 1024#32
  let v10072 : BitVec 32 := Scalar.muli v14 c1024_i32_3677
  let c580_i32 : BitVec 32 := 580#32
  let v10073 : BitVec 32 := Scalar.addi v10072 c580_i32
  let v10074 : Index := Scalar.indexCast v10073
  ![v10074.toNat]
def k0_off1258 (v10075 : BitVec 32) : Fin 2 → Nat :=
  let c4095_i32_3678 : BitVec 32 := 4095#32
  let v10076 : BitVec 32 := Scalar.andi v10075 c4095_i32_3678
  let v10077 : Index := Scalar.indexCast v10076
  let c0_3679 : Index := 0#32
  ![v10077.toNat, 0]

def k0_chk589 (v10075 : BitVec 32) : Prop :=
  (∀ a, (k0_off1258 v10075) a + S1x256.size a ≤ S4096x256.size a)
theorem k0_off1258_inb : ∀ (v10075 : BitVec 32) (k0_hw589 : k0_chk589 v10075), ∀ a, (k0_off1258 v10075) a + S1x256.size a ≤ S4096x256.size a := fun v10075 k0_hw589 => k0_hw589

def k0_off1259 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3681 : BitVec 32 := 1024#32
  let v10082 : BitVec 32 := Scalar.muli v14 c1024_i32_3681
  let c581_i32 : BitVec 32 := 581#32
  let v10083 : BitVec 32 := Scalar.addi v10082 c581_i32
  let v10084 : Index := Scalar.indexCast v10083
  ![v10084.toNat]
def k0_off1260 (v10085 : BitVec 32) : Fin 2 → Nat :=
  let c4095_i32_3682 : BitVec 32 := 4095#32
  let v10086 : BitVec 32 := Scalar.andi v10085 c4095_i32_3682
  let v10087 : Index := Scalar.indexCast v10086
  let c0_3683 : Index := 0#32
  ![v10087.toNat, 0]

def k0_chk590 (v10085 : BitVec 32) : Prop :=
  (∀ a, (k0_off1260 v10085) a + S1x256.size a ≤ S4096x256.size a)
theorem k0_off1260_inb : ∀ (v10085 : BitVec 32) (k0_hw590 : k0_chk590 v10085), ∀ a, (k0_off1260 v10085) a + S1x256.size a ≤ S4096x256.size a := fun v10085 k0_hw590 => k0_hw590

def k0_off1261 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3685 : BitVec 32 := 1024#32
  let v10092 : BitVec 32 := Scalar.muli v14 c1024_i32_3685
  let c582_i32 : BitVec 32 := 582#32
  let v10093 : BitVec 32 := Scalar.addi v10092 c582_i32
  let v10094 : Index := Scalar.indexCast v10093
  ![v10094.toNat]
def k0_off1262 (v10095 : BitVec 32) : Fin 2 → Nat :=
  let c4095_i32_3686 : BitVec 32 := 4095#32
  let v10096 : BitVec 32 := Scalar.andi v10095 c4095_i32_3686
  let v10097 : Index := Scalar.indexCast v10096
  let c0_3687 : Index := 0#32
  ![v10097.toNat, 0]

def k0_chk591 (v10095 : BitVec 32) : Prop :=
  (∀ a, (k0_off1262 v10095) a + S1x256.size a ≤ S4096x256.size a)
theorem k0_off1262_inb : ∀ (v10095 : BitVec 32) (k0_hw591 : k0_chk591 v10095), ∀ a, (k0_off1262 v10095) a + S1x256.size a ≤ S4096x256.size a := fun v10095 k0_hw591 => k0_hw591

def k0_off1263 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3689 : BitVec 32 := 1024#32
  let v10102 : BitVec 32 := Scalar.muli v14 c1024_i32_3689
  let c583_i32 : BitVec 32 := 583#32
  let v10103 : BitVec 32 := Scalar.addi v10102 c583_i32
  let v10104 : Index := Scalar.indexCast v10103
  ![v10104.toNat]
def k0_off1264 (v10105 : BitVec 32) : Fin 2 → Nat :=
  let c4095_i32_3690 : BitVec 32 := 4095#32
  let v10106 : BitVec 32 := Scalar.andi v10105 c4095_i32_3690
  let v10107 : Index := Scalar.indexCast v10106
  let c0_3691 : Index := 0#32
  ![v10107.toNat, 0]

def k0_chk592 (v10105 : BitVec 32) : Prop :=
  (∀ a, (k0_off1264 v10105) a + S1x256.size a ≤ S4096x256.size a)
theorem k0_off1264_inb : ∀ (v10105 : BitVec 32) (k0_hw592 : k0_chk592 v10105), ∀ a, (k0_off1264 v10105) a + S1x256.size a ≤ S4096x256.size a := fun v10105 k0_hw592 => k0_hw592

def k0_off1265 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3693 : BitVec 32 := 1024#32
  let v10112 : BitVec 32 := Scalar.muli v14 c1024_i32_3693
  let c584_i32 : BitVec 32 := 584#32
  let v10113 : BitVec 32 := Scalar.addi v10112 c584_i32
  let v10114 : Index := Scalar.indexCast v10113
  ![v10114.toNat]
def k0_off1266 (v10115 : BitVec 32) : Fin 2 → Nat :=
  let c4095_i32_3694 : BitVec 32 := 4095#32
  let v10116 : BitVec 32 := Scalar.andi v10115 c4095_i32_3694
  let v10117 : Index := Scalar.indexCast v10116
  let c0_3695 : Index := 0#32
  ![v10117.toNat, 0]

def k0_chk593 (v10115 : BitVec 32) : Prop :=
  (∀ a, (k0_off1266 v10115) a + S1x256.size a ≤ S4096x256.size a)
theorem k0_off1266_inb : ∀ (v10115 : BitVec 32) (k0_hw593 : k0_chk593 v10115), ∀ a, (k0_off1266 v10115) a + S1x256.size a ≤ S4096x256.size a := fun v10115 k0_hw593 => k0_hw593

def k0_off1267 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3697 : BitVec 32 := 1024#32
  let v10122 : BitVec 32 := Scalar.muli v14 c1024_i32_3697
  let c585_i32 : BitVec 32 := 585#32
  let v10123 : BitVec 32 := Scalar.addi v10122 c585_i32
  let v10124 : Index := Scalar.indexCast v10123
  ![v10124.toNat]
def k0_off1268 (v10125 : BitVec 32) : Fin 2 → Nat :=
  let c4095_i32_3698 : BitVec 32 := 4095#32
  let v10126 : BitVec 32 := Scalar.andi v10125 c4095_i32_3698
  let v10127 : Index := Scalar.indexCast v10126
  let c0_3699 : Index := 0#32
  ![v10127.toNat, 0]

def k0_chk594 (v10125 : BitVec 32) : Prop :=
  (∀ a, (k0_off1268 v10125) a + S1x256.size a ≤ S4096x256.size a)
theorem k0_off1268_inb : ∀ (v10125 : BitVec 32) (k0_hw594 : k0_chk594 v10125), ∀ a, (k0_off1268 v10125) a + S1x256.size a ≤ S4096x256.size a := fun v10125 k0_hw594 => k0_hw594

def k0_off1269 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3701 : BitVec 32 := 1024#32
  let v10132 : BitVec 32 := Scalar.muli v14 c1024_i32_3701
  let c586_i32 : BitVec 32 := 586#32
  let v10133 : BitVec 32 := Scalar.addi v10132 c586_i32
  let v10134 : Index := Scalar.indexCast v10133
  ![v10134.toNat]
def k0_off1270 (v10135 : BitVec 32) : Fin 2 → Nat :=
  let c4095_i32_3702 : BitVec 32 := 4095#32
  let v10136 : BitVec 32 := Scalar.andi v10135 c4095_i32_3702
  let v10137 : Index := Scalar.indexCast v10136
  let c0_3703 : Index := 0#32
  ![v10137.toNat, 0]

def k0_chk595 (v10135 : BitVec 32) : Prop :=
  (∀ a, (k0_off1270 v10135) a + S1x256.size a ≤ S4096x256.size a)
theorem k0_off1270_inb : ∀ (v10135 : BitVec 32) (k0_hw595 : k0_chk595 v10135), ∀ a, (k0_off1270 v10135) a + S1x256.size a ≤ S4096x256.size a := fun v10135 k0_hw595 => k0_hw595

def k0_off1271 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3705 : BitVec 32 := 1024#32
  let v10142 : BitVec 32 := Scalar.muli v14 c1024_i32_3705
  let c587_i32 : BitVec 32 := 587#32
  let v10143 : BitVec 32 := Scalar.addi v10142 c587_i32
  let v10144 : Index := Scalar.indexCast v10143
  ![v10144.toNat]
def k0_off1272 (v10145 : BitVec 32) : Fin 2 → Nat :=
  let c4095_i32_3706 : BitVec 32 := 4095#32
  let v10146 : BitVec 32 := Scalar.andi v10145 c4095_i32_3706
  let v10147 : Index := Scalar.indexCast v10146
  let c0_3707 : Index := 0#32
  ![v10147.toNat, 0]

def k0_chk596 (v10145 : BitVec 32) : Prop :=
  (∀ a, (k0_off1272 v10145) a + S1x256.size a ≤ S4096x256.size a)
theorem k0_off1272_inb : ∀ (v10145 : BitVec 32) (k0_hw596 : k0_chk596 v10145), ∀ a, (k0_off1272 v10145) a + S1x256.size a ≤ S4096x256.size a := fun v10145 k0_hw596 => k0_hw596

def k0_off1273 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3709 : BitVec 32 := 1024#32
  let v10152 : BitVec 32 := Scalar.muli v14 c1024_i32_3709
  let c588_i32 : BitVec 32 := 588#32
  let v10153 : BitVec 32 := Scalar.addi v10152 c588_i32
  let v10154 : Index := Scalar.indexCast v10153
  ![v10154.toNat]
def k0_off1274 (v10155 : BitVec 32) : Fin 2 → Nat :=
  let c4095_i32_3710 : BitVec 32 := 4095#32
  let v10156 : BitVec 32 := Scalar.andi v10155 c4095_i32_3710
  let v10157 : Index := Scalar.indexCast v10156
  let c0_3711 : Index := 0#32
  ![v10157.toNat, 0]

def k0_chk597 (v10155 : BitVec 32) : Prop :=
  (∀ a, (k0_off1274 v10155) a + S1x256.size a ≤ S4096x256.size a)
theorem k0_off1274_inb : ∀ (v10155 : BitVec 32) (k0_hw597 : k0_chk597 v10155), ∀ a, (k0_off1274 v10155) a + S1x256.size a ≤ S4096x256.size a := fun v10155 k0_hw597 => k0_hw597

def k0_off1275 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3713 : BitVec 32 := 1024#32
  let v10162 : BitVec 32 := Scalar.muli v14 c1024_i32_3713
  let c589_i32 : BitVec 32 := 589#32
  let v10163 : BitVec 32 := Scalar.addi v10162 c589_i32
  let v10164 : Index := Scalar.indexCast v10163
  ![v10164.toNat]
def k0_off1276 (v10165 : BitVec 32) : Fin 2 → Nat :=
  let c4095_i32_3714 : BitVec 32 := 4095#32
  let v10166 : BitVec 32 := Scalar.andi v10165 c4095_i32_3714
  let v10167 : Index := Scalar.indexCast v10166
  let c0_3715 : Index := 0#32
  ![v10167.toNat, 0]

def k0_chk598 (v10165 : BitVec 32) : Prop :=
  (∀ a, (k0_off1276 v10165) a + S1x256.size a ≤ S4096x256.size a)
theorem k0_off1276_inb : ∀ (v10165 : BitVec 32) (k0_hw598 : k0_chk598 v10165), ∀ a, (k0_off1276 v10165) a + S1x256.size a ≤ S4096x256.size a := fun v10165 k0_hw598 => k0_hw598

def k0_off1277 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3717 : BitVec 32 := 1024#32
  let v10172 : BitVec 32 := Scalar.muli v14 c1024_i32_3717
  let c590_i32 : BitVec 32 := 590#32
  let v10173 : BitVec 32 := Scalar.addi v10172 c590_i32
  let v10174 : Index := Scalar.indexCast v10173
  ![v10174.toNat]
def k0_off1278 (v10175 : BitVec 32) : Fin 2 → Nat :=
  let c4095_i32_3718 : BitVec 32 := 4095#32
  let v10176 : BitVec 32 := Scalar.andi v10175 c4095_i32_3718
  let v10177 : Index := Scalar.indexCast v10176
  let c0_3719 : Index := 0#32
  ![v10177.toNat, 0]

def k0_chk599 (v10175 : BitVec 32) : Prop :=
  (∀ a, (k0_off1278 v10175) a + S1x256.size a ≤ S4096x256.size a)
theorem k0_off1278_inb : ∀ (v10175 : BitVec 32) (k0_hw599 : k0_chk599 v10175), ∀ a, (k0_off1278 v10175) a + S1x256.size a ≤ S4096x256.size a := fun v10175 k0_hw599 => k0_hw599

def k0_off1279 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3721 : BitVec 32 := 1024#32
  let v10182 : BitVec 32 := Scalar.muli v14 c1024_i32_3721
  let c591_i32 : BitVec 32 := 591#32
  let v10183 : BitVec 32 := Scalar.addi v10182 c591_i32
  let v10184 : Index := Scalar.indexCast v10183
  ![v10184.toNat]
def k0_off1280 (v10185 : BitVec 32) : Fin 2 → Nat :=
  let c4095_i32_3722 : BitVec 32 := 4095#32
  let v10186 : BitVec 32 := Scalar.andi v10185 c4095_i32_3722
  let v10187 : Index := Scalar.indexCast v10186
  let c0_3723 : Index := 0#32
  ![v10187.toNat, 0]

def k0_chk600 (v10185 : BitVec 32) : Prop :=
  (∀ a, (k0_off1280 v10185) a + S1x256.size a ≤ S4096x256.size a)
theorem k0_off1280_inb : ∀ (v10185 : BitVec 32) (k0_hw600 : k0_chk600 v10185), ∀ a, (k0_off1280 v10185) a + S1x256.size a ≤ S4096x256.size a := fun v10185 k0_hw600 => k0_hw600

def k0_off1281 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3725 : BitVec 32 := 1024#32
  let v10192 : BitVec 32 := Scalar.muli v14 c1024_i32_3725
  let c592_i32 : BitVec 32 := 592#32
  let v10193 : BitVec 32 := Scalar.addi v10192 c592_i32
  let v10194 : Index := Scalar.indexCast v10193
  ![v10194.toNat]
def k0_off1282 (v10195 : BitVec 32) : Fin 2 → Nat :=
  let c4095_i32_3726 : BitVec 32 := 4095#32
  let v10196 : BitVec 32 := Scalar.andi v10195 c4095_i32_3726
  let v10197 : Index := Scalar.indexCast v10196
  let c0_3727 : Index := 0#32
  ![v10197.toNat, 0]

def k0_chk601 (v10195 : BitVec 32) : Prop :=
  (∀ a, (k0_off1282 v10195) a + S1x256.size a ≤ S4096x256.size a)
theorem k0_off1282_inb : ∀ (v10195 : BitVec 32) (k0_hw601 : k0_chk601 v10195), ∀ a, (k0_off1282 v10195) a + S1x256.size a ≤ S4096x256.size a := fun v10195 k0_hw601 => k0_hw601

def k0_off1283 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3729 : BitVec 32 := 1024#32
  let v10202 : BitVec 32 := Scalar.muli v14 c1024_i32_3729
  let c593_i32 : BitVec 32 := 593#32
  let v10203 : BitVec 32 := Scalar.addi v10202 c593_i32
  let v10204 : Index := Scalar.indexCast v10203
  ![v10204.toNat]
def k0_off1284 (v10205 : BitVec 32) : Fin 2 → Nat :=
  let c4095_i32_3730 : BitVec 32 := 4095#32
  let v10206 : BitVec 32 := Scalar.andi v10205 c4095_i32_3730
  let v10207 : Index := Scalar.indexCast v10206
  let c0_3731 : Index := 0#32
  ![v10207.toNat, 0]

def k0_chk602 (v10205 : BitVec 32) : Prop :=
  (∀ a, (k0_off1284 v10205) a + S1x256.size a ≤ S4096x256.size a)
theorem k0_off1284_inb : ∀ (v10205 : BitVec 32) (k0_hw602 : k0_chk602 v10205), ∀ a, (k0_off1284 v10205) a + S1x256.size a ≤ S4096x256.size a := fun v10205 k0_hw602 => k0_hw602

def k0_off1285 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3733 : BitVec 32 := 1024#32
  let v10212 : BitVec 32 := Scalar.muli v14 c1024_i32_3733
  let c594_i32 : BitVec 32 := 594#32
  let v10213 : BitVec 32 := Scalar.addi v10212 c594_i32
  let v10214 : Index := Scalar.indexCast v10213
  ![v10214.toNat]
def k0_off1286 (v10215 : BitVec 32) : Fin 2 → Nat :=
  let c4095_i32_3734 : BitVec 32 := 4095#32
  let v10216 : BitVec 32 := Scalar.andi v10215 c4095_i32_3734
  let v10217 : Index := Scalar.indexCast v10216
  let c0_3735 : Index := 0#32
  ![v10217.toNat, 0]

def k0_chk603 (v10215 : BitVec 32) : Prop :=
  (∀ a, (k0_off1286 v10215) a + S1x256.size a ≤ S4096x256.size a)
theorem k0_off1286_inb : ∀ (v10215 : BitVec 32) (k0_hw603 : k0_chk603 v10215), ∀ a, (k0_off1286 v10215) a + S1x256.size a ≤ S4096x256.size a := fun v10215 k0_hw603 => k0_hw603

def k0_off1287 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3737 : BitVec 32 := 1024#32
  let v10222 : BitVec 32 := Scalar.muli v14 c1024_i32_3737
  let c595_i32 : BitVec 32 := 595#32
  let v10223 : BitVec 32 := Scalar.addi v10222 c595_i32
  let v10224 : Index := Scalar.indexCast v10223
  ![v10224.toNat]
def k0_off1288 (v10225 : BitVec 32) : Fin 2 → Nat :=
  let c4095_i32_3738 : BitVec 32 := 4095#32
  let v10226 : BitVec 32 := Scalar.andi v10225 c4095_i32_3738
  let v10227 : Index := Scalar.indexCast v10226
  let c0_3739 : Index := 0#32
  ![v10227.toNat, 0]

def k0_chk604 (v10225 : BitVec 32) : Prop :=
  (∀ a, (k0_off1288 v10225) a + S1x256.size a ≤ S4096x256.size a)
theorem k0_off1288_inb : ∀ (v10225 : BitVec 32) (k0_hw604 : k0_chk604 v10225), ∀ a, (k0_off1288 v10225) a + S1x256.size a ≤ S4096x256.size a := fun v10225 k0_hw604 => k0_hw604

def k0_off1289 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3741 : BitVec 32 := 1024#32
  let v10232 : BitVec 32 := Scalar.muli v14 c1024_i32_3741
  let c596_i32 : BitVec 32 := 596#32
  let v10233 : BitVec 32 := Scalar.addi v10232 c596_i32
  let v10234 : Index := Scalar.indexCast v10233
  ![v10234.toNat]
def k0_off1290 (v10235 : BitVec 32) : Fin 2 → Nat :=
  let c4095_i32_3742 : BitVec 32 := 4095#32
  let v10236 : BitVec 32 := Scalar.andi v10235 c4095_i32_3742
  let v10237 : Index := Scalar.indexCast v10236
  let c0_3743 : Index := 0#32
  ![v10237.toNat, 0]

def k0_chk605 (v10235 : BitVec 32) : Prop :=
  (∀ a, (k0_off1290 v10235) a + S1x256.size a ≤ S4096x256.size a)
theorem k0_off1290_inb : ∀ (v10235 : BitVec 32) (k0_hw605 : k0_chk605 v10235), ∀ a, (k0_off1290 v10235) a + S1x256.size a ≤ S4096x256.size a := fun v10235 k0_hw605 => k0_hw605

def k0_off1291 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3745 : BitVec 32 := 1024#32
  let v10242 : BitVec 32 := Scalar.muli v14 c1024_i32_3745
  let c597_i32 : BitVec 32 := 597#32
  let v10243 : BitVec 32 := Scalar.addi v10242 c597_i32
  let v10244 : Index := Scalar.indexCast v10243
  ![v10244.toNat]
def k0_off1292 (v10245 : BitVec 32) : Fin 2 → Nat :=
  let c4095_i32_3746 : BitVec 32 := 4095#32
  let v10246 : BitVec 32 := Scalar.andi v10245 c4095_i32_3746
  let v10247 : Index := Scalar.indexCast v10246
  let c0_3747 : Index := 0#32
  ![v10247.toNat, 0]

def k0_chk606 (v10245 : BitVec 32) : Prop :=
  (∀ a, (k0_off1292 v10245) a + S1x256.size a ≤ S4096x256.size a)
theorem k0_off1292_inb : ∀ (v10245 : BitVec 32) (k0_hw606 : k0_chk606 v10245), ∀ a, (k0_off1292 v10245) a + S1x256.size a ≤ S4096x256.size a := fun v10245 k0_hw606 => k0_hw606

def k0_off1293 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3749 : BitVec 32 := 1024#32
  let v10252 : BitVec 32 := Scalar.muli v14 c1024_i32_3749
  let c598_i32 : BitVec 32 := 598#32
  let v10253 : BitVec 32 := Scalar.addi v10252 c598_i32
  let v10254 : Index := Scalar.indexCast v10253
  ![v10254.toNat]
def k0_off1294 (v10255 : BitVec 32) : Fin 2 → Nat :=
  let c4095_i32_3750 : BitVec 32 := 4095#32
  let v10256 : BitVec 32 := Scalar.andi v10255 c4095_i32_3750
  let v10257 : Index := Scalar.indexCast v10256
  let c0_3751 : Index := 0#32
  ![v10257.toNat, 0]

def k0_chk607 (v10255 : BitVec 32) : Prop :=
  (∀ a, (k0_off1294 v10255) a + S1x256.size a ≤ S4096x256.size a)
theorem k0_off1294_inb : ∀ (v10255 : BitVec 32) (k0_hw607 : k0_chk607 v10255), ∀ a, (k0_off1294 v10255) a + S1x256.size a ≤ S4096x256.size a := fun v10255 k0_hw607 => k0_hw607

def k0_off1295 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3753 : BitVec 32 := 1024#32
  let v10262 : BitVec 32 := Scalar.muli v14 c1024_i32_3753
  let c599_i32 : BitVec 32 := 599#32
  let v10263 : BitVec 32 := Scalar.addi v10262 c599_i32
  let v10264 : Index := Scalar.indexCast v10263
  ![v10264.toNat]
def k0_off1296 (v10265 : BitVec 32) : Fin 2 → Nat :=
  let c4095_i32_3754 : BitVec 32 := 4095#32
  let v10266 : BitVec 32 := Scalar.andi v10265 c4095_i32_3754
  let v10267 : Index := Scalar.indexCast v10266
  let c0_3755 : Index := 0#32
  ![v10267.toNat, 0]

def k0_chk608 (v10265 : BitVec 32) : Prop :=
  (∀ a, (k0_off1296 v10265) a + S1x256.size a ≤ S4096x256.size a)
theorem k0_off1296_inb : ∀ (v10265 : BitVec 32) (k0_hw608 : k0_chk608 v10265), ∀ a, (k0_off1296 v10265) a + S1x256.size a ≤ S4096x256.size a := fun v10265 k0_hw608 => k0_hw608

def k0_off1297 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3757 : BitVec 32 := 1024#32
  let v10272 : BitVec 32 := Scalar.muli v14 c1024_i32_3757
  let c600_i32 : BitVec 32 := 600#32
  let v10273 : BitVec 32 := Scalar.addi v10272 c600_i32
  let v10274 : Index := Scalar.indexCast v10273
  ![v10274.toNat]
def k0_off1298 (v10275 : BitVec 32) : Fin 2 → Nat :=
  let c4095_i32_3758 : BitVec 32 := 4095#32
  let v10276 : BitVec 32 := Scalar.andi v10275 c4095_i32_3758
  let v10277 : Index := Scalar.indexCast v10276
  let c0_3759 : Index := 0#32
  ![v10277.toNat, 0]

def k0_chk609 (v10275 : BitVec 32) : Prop :=
  (∀ a, (k0_off1298 v10275) a + S1x256.size a ≤ S4096x256.size a)
theorem k0_off1298_inb : ∀ (v10275 : BitVec 32) (k0_hw609 : k0_chk609 v10275), ∀ a, (k0_off1298 v10275) a + S1x256.size a ≤ S4096x256.size a := fun v10275 k0_hw609 => k0_hw609

def k0_off1299 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3761 : BitVec 32 := 1024#32
  let v10282 : BitVec 32 := Scalar.muli v14 c1024_i32_3761
  let c601_i32 : BitVec 32 := 601#32
  let v10283 : BitVec 32 := Scalar.addi v10282 c601_i32
  let v10284 : Index := Scalar.indexCast v10283
  ![v10284.toNat]
def k0_off1300 (v10285 : BitVec 32) : Fin 2 → Nat :=
  let c4095_i32_3762 : BitVec 32 := 4095#32
  let v10286 : BitVec 32 := Scalar.andi v10285 c4095_i32_3762
  let v10287 : Index := Scalar.indexCast v10286
  let c0_3763 : Index := 0#32
  ![v10287.toNat, 0]

def k0_chk610 (v10285 : BitVec 32) : Prop :=
  (∀ a, (k0_off1300 v10285) a + S1x256.size a ≤ S4096x256.size a)
theorem k0_off1300_inb : ∀ (v10285 : BitVec 32) (k0_hw610 : k0_chk610 v10285), ∀ a, (k0_off1300 v10285) a + S1x256.size a ≤ S4096x256.size a := fun v10285 k0_hw610 => k0_hw610

def k0_off1301 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3765 : BitVec 32 := 1024#32
  let v10292 : BitVec 32 := Scalar.muli v14 c1024_i32_3765
  let c602_i32 : BitVec 32 := 602#32
  let v10293 : BitVec 32 := Scalar.addi v10292 c602_i32
  let v10294 : Index := Scalar.indexCast v10293
  ![v10294.toNat]
def k0_off1302 (v10295 : BitVec 32) : Fin 2 → Nat :=
  let c4095_i32_3766 : BitVec 32 := 4095#32
  let v10296 : BitVec 32 := Scalar.andi v10295 c4095_i32_3766
  let v10297 : Index := Scalar.indexCast v10296
  let c0_3767 : Index := 0#32
  ![v10297.toNat, 0]

def k0_chk611 (v10295 : BitVec 32) : Prop :=
  (∀ a, (k0_off1302 v10295) a + S1x256.size a ≤ S4096x256.size a)
theorem k0_off1302_inb : ∀ (v10295 : BitVec 32) (k0_hw611 : k0_chk611 v10295), ∀ a, (k0_off1302 v10295) a + S1x256.size a ≤ S4096x256.size a := fun v10295 k0_hw611 => k0_hw611

def k0_off1303 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3769 : BitVec 32 := 1024#32
  let v10302 : BitVec 32 := Scalar.muli v14 c1024_i32_3769
  let c603_i32 : BitVec 32 := 603#32
  let v10303 : BitVec 32 := Scalar.addi v10302 c603_i32
  let v10304 : Index := Scalar.indexCast v10303
  ![v10304.toNat]
def k0_off1304 (v10305 : BitVec 32) : Fin 2 → Nat :=
  let c4095_i32_3770 : BitVec 32 := 4095#32
  let v10306 : BitVec 32 := Scalar.andi v10305 c4095_i32_3770
  let v10307 : Index := Scalar.indexCast v10306
  let c0_3771 : Index := 0#32
  ![v10307.toNat, 0]

def k0_chk612 (v10305 : BitVec 32) : Prop :=
  (∀ a, (k0_off1304 v10305) a + S1x256.size a ≤ S4096x256.size a)
theorem k0_off1304_inb : ∀ (v10305 : BitVec 32) (k0_hw612 : k0_chk612 v10305), ∀ a, (k0_off1304 v10305) a + S1x256.size a ≤ S4096x256.size a := fun v10305 k0_hw612 => k0_hw612

def k0_off1305 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3773 : BitVec 32 := 1024#32
  let v10312 : BitVec 32 := Scalar.muli v14 c1024_i32_3773
  let c604_i32 : BitVec 32 := 604#32
  let v10313 : BitVec 32 := Scalar.addi v10312 c604_i32
  let v10314 : Index := Scalar.indexCast v10313
  ![v10314.toNat]
def k0_off1306 (v10315 : BitVec 32) : Fin 2 → Nat :=
  let c4095_i32_3774 : BitVec 32 := 4095#32
  let v10316 : BitVec 32 := Scalar.andi v10315 c4095_i32_3774
  let v10317 : Index := Scalar.indexCast v10316
  let c0_3775 : Index := 0#32
  ![v10317.toNat, 0]

def k0_chk613 (v10315 : BitVec 32) : Prop :=
  (∀ a, (k0_off1306 v10315) a + S1x256.size a ≤ S4096x256.size a)
theorem k0_off1306_inb : ∀ (v10315 : BitVec 32) (k0_hw613 : k0_chk613 v10315), ∀ a, (k0_off1306 v10315) a + S1x256.size a ≤ S4096x256.size a := fun v10315 k0_hw613 => k0_hw613

def k0_off1307 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3777 : BitVec 32 := 1024#32
  let v10322 : BitVec 32 := Scalar.muli v14 c1024_i32_3777
  let c605_i32 : BitVec 32 := 605#32
  let v10323 : BitVec 32 := Scalar.addi v10322 c605_i32
  let v10324 : Index := Scalar.indexCast v10323
  ![v10324.toNat]
def k0_off1308 (v10325 : BitVec 32) : Fin 2 → Nat :=
  let c4095_i32_3778 : BitVec 32 := 4095#32
  let v10326 : BitVec 32 := Scalar.andi v10325 c4095_i32_3778
  let v10327 : Index := Scalar.indexCast v10326
  let c0_3779 : Index := 0#32
  ![v10327.toNat, 0]

def k0_chk614 (v10325 : BitVec 32) : Prop :=
  (∀ a, (k0_off1308 v10325) a + S1x256.size a ≤ S4096x256.size a)
theorem k0_off1308_inb : ∀ (v10325 : BitVec 32) (k0_hw614 : k0_chk614 v10325), ∀ a, (k0_off1308 v10325) a + S1x256.size a ≤ S4096x256.size a := fun v10325 k0_hw614 => k0_hw614

def k0_off1309 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3781 : BitVec 32 := 1024#32
  let v10332 : BitVec 32 := Scalar.muli v14 c1024_i32_3781
  let c606_i32 : BitVec 32 := 606#32
  let v10333 : BitVec 32 := Scalar.addi v10332 c606_i32
  let v10334 : Index := Scalar.indexCast v10333
  ![v10334.toNat]
def k0_off1310 (v10335 : BitVec 32) : Fin 2 → Nat :=
  let c4095_i32_3782 : BitVec 32 := 4095#32
  let v10336 : BitVec 32 := Scalar.andi v10335 c4095_i32_3782
  let v10337 : Index := Scalar.indexCast v10336
  let c0_3783 : Index := 0#32
  ![v10337.toNat, 0]

def k0_chk615 (v10335 : BitVec 32) : Prop :=
  (∀ a, (k0_off1310 v10335) a + S1x256.size a ≤ S4096x256.size a)
theorem k0_off1310_inb : ∀ (v10335 : BitVec 32) (k0_hw615 : k0_chk615 v10335), ∀ a, (k0_off1310 v10335) a + S1x256.size a ≤ S4096x256.size a := fun v10335 k0_hw615 => k0_hw615

def k0_off1311 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v10399 : Index := Scalar.indexCast v12
  let c0_3800 : Index := 0#32
  let c0_3801 : Index := 0#32
  ![v10399.toNat, 0, 0]
def k0_off1312 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v10460 : Index := Scalar.indexCast v12
  let c0_3819 : Index := 0#32
  let c256_3820 : Index := 256#32
  ![v10460.toNat, 0, 256]
def k0_off1313 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v10522 : Index := Scalar.indexCast v12
  let c0_3838 : Index := 0#32
  let c512_3839 : Index := 512#32
  ![v10522.toNat, 0, 512]
def k0_off1314 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v10584 : Index := Scalar.indexCast v12
  let c0_3857 : Index := 0#32
  let c768_3858 : Index := 768#32
  ![v10584.toNat, 0, 768]
def k0_off1315 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3864 : BitVec 32 := 1024#32
  let v10594 : BitVec 32 := Scalar.muli v14 c1024_i32_3864
  let c607_i32 : BitVec 32 := 607#32
  let v10595 : BitVec 32 := Scalar.addi v10594 c607_i32
  let v10596 : Index := Scalar.indexCast v10595
  ![v10596.toNat]
def k0_off1316 (v10597 : BitVec 32) : Fin 2 → Nat :=
  let c4095_i32_3865 : BitVec 32 := 4095#32
  let v10598 : BitVec 32 := Scalar.andi v10597 c4095_i32_3865
  let v10599 : Index := Scalar.indexCast v10598
  let c0_3866 : Index := 0#32
  ![v10599.toNat, 0]

def k0_chk616 (v10597 : BitVec 32) : Prop :=
  (∀ a, (k0_off1316 v10597) a + S1x256.size a ≤ S4096x256.size a)
theorem k0_off1316_inb : ∀ (v10597 : BitVec 32) (k0_hw616 : k0_chk616 v10597), ∀ a, (k0_off1316 v10597) a + S1x256.size a ≤ S4096x256.size a := fun v10597 k0_hw616 => k0_hw616

def k0_off1317 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3868 : BitVec 32 := 1024#32
  let v10604 : BitVec 32 := Scalar.muli v14 c1024_i32_3868
  let c608_i32 : BitVec 32 := 608#32
  let v10605 : BitVec 32 := Scalar.addi v10604 c608_i32
  let v10606 : Index := Scalar.indexCast v10605
  ![v10606.toNat]
def k0_off1318 (v10607 : BitVec 32) : Fin 2 → Nat :=
  let c4095_i32_3869 : BitVec 32 := 4095#32
  let v10608 : BitVec 32 := Scalar.andi v10607 c4095_i32_3869
  let v10609 : Index := Scalar.indexCast v10608
  let c0_3870 : Index := 0#32
  ![v10609.toNat, 0]

def k0_chk617 (v10607 : BitVec 32) : Prop :=
  (∀ a, (k0_off1318 v10607) a + S1x256.size a ≤ S4096x256.size a)
theorem k0_off1318_inb : ∀ (v10607 : BitVec 32) (k0_hw617 : k0_chk617 v10607), ∀ a, (k0_off1318 v10607) a + S1x256.size a ≤ S4096x256.size a := fun v10607 k0_hw617 => k0_hw617

def k0_off1319 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3872 : BitVec 32 := 1024#32
  let v10614 : BitVec 32 := Scalar.muli v14 c1024_i32_3872
  let c609_i32 : BitVec 32 := 609#32
  let v10615 : BitVec 32 := Scalar.addi v10614 c609_i32
  let v10616 : Index := Scalar.indexCast v10615
  ![v10616.toNat]
def k0_off1320 (v10617 : BitVec 32) : Fin 2 → Nat :=
  let c4095_i32_3873 : BitVec 32 := 4095#32
  let v10618 : BitVec 32 := Scalar.andi v10617 c4095_i32_3873
  let v10619 : Index := Scalar.indexCast v10618
  let c0_3874 : Index := 0#32
  ![v10619.toNat, 0]

def k0_chk618 (v10617 : BitVec 32) : Prop :=
  (∀ a, (k0_off1320 v10617) a + S1x256.size a ≤ S4096x256.size a)
theorem k0_off1320_inb : ∀ (v10617 : BitVec 32) (k0_hw618 : k0_chk618 v10617), ∀ a, (k0_off1320 v10617) a + S1x256.size a ≤ S4096x256.size a := fun v10617 k0_hw618 => k0_hw618

def k0_off1321 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3876 : BitVec 32 := 1024#32
  let v10624 : BitVec 32 := Scalar.muli v14 c1024_i32_3876
  let c610_i32 : BitVec 32 := 610#32
  let v10625 : BitVec 32 := Scalar.addi v10624 c610_i32
  let v10626 : Index := Scalar.indexCast v10625
  ![v10626.toNat]
def k0_off1322 (v10627 : BitVec 32) : Fin 2 → Nat :=
  let c4095_i32_3877 : BitVec 32 := 4095#32
  let v10628 : BitVec 32 := Scalar.andi v10627 c4095_i32_3877
  let v10629 : Index := Scalar.indexCast v10628
  let c0_3878 : Index := 0#32
  ![v10629.toNat, 0]

def k0_chk619 (v10627 : BitVec 32) : Prop :=
  (∀ a, (k0_off1322 v10627) a + S1x256.size a ≤ S4096x256.size a)
theorem k0_off1322_inb : ∀ (v10627 : BitVec 32) (k0_hw619 : k0_chk619 v10627), ∀ a, (k0_off1322 v10627) a + S1x256.size a ≤ S4096x256.size a := fun v10627 k0_hw619 => k0_hw619

def k0_off1323 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3880 : BitVec 32 := 1024#32
  let v10634 : BitVec 32 := Scalar.muli v14 c1024_i32_3880
  let c611_i32 : BitVec 32 := 611#32
  let v10635 : BitVec 32 := Scalar.addi v10634 c611_i32
  let v10636 : Index := Scalar.indexCast v10635
  ![v10636.toNat]
def k0_off1324 (v10637 : BitVec 32) : Fin 2 → Nat :=
  let c4095_i32_3881 : BitVec 32 := 4095#32
  let v10638 : BitVec 32 := Scalar.andi v10637 c4095_i32_3881
  let v10639 : Index := Scalar.indexCast v10638
  let c0_3882 : Index := 0#32
  ![v10639.toNat, 0]

def k0_chk620 (v10637 : BitVec 32) : Prop :=
  (∀ a, (k0_off1324 v10637) a + S1x256.size a ≤ S4096x256.size a)
theorem k0_off1324_inb : ∀ (v10637 : BitVec 32) (k0_hw620 : k0_chk620 v10637), ∀ a, (k0_off1324 v10637) a + S1x256.size a ≤ S4096x256.size a := fun v10637 k0_hw620 => k0_hw620

def k0_off1325 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3884 : BitVec 32 := 1024#32
  let v10644 : BitVec 32 := Scalar.muli v14 c1024_i32_3884
  let c612_i32 : BitVec 32 := 612#32
  let v10645 : BitVec 32 := Scalar.addi v10644 c612_i32
  let v10646 : Index := Scalar.indexCast v10645
  ![v10646.toNat]
def k0_off1326 (v10647 : BitVec 32) : Fin 2 → Nat :=
  let c4095_i32_3885 : BitVec 32 := 4095#32
  let v10648 : BitVec 32 := Scalar.andi v10647 c4095_i32_3885
  let v10649 : Index := Scalar.indexCast v10648
  let c0_3886 : Index := 0#32
  ![v10649.toNat, 0]

def k0_chk621 (v10647 : BitVec 32) : Prop :=
  (∀ a, (k0_off1326 v10647) a + S1x256.size a ≤ S4096x256.size a)
theorem k0_off1326_inb : ∀ (v10647 : BitVec 32) (k0_hw621 : k0_chk621 v10647), ∀ a, (k0_off1326 v10647) a + S1x256.size a ≤ S4096x256.size a := fun v10647 k0_hw621 => k0_hw621

def k0_off1327 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3888 : BitVec 32 := 1024#32
  let v10654 : BitVec 32 := Scalar.muli v14 c1024_i32_3888
  let c613_i32 : BitVec 32 := 613#32
  let v10655 : BitVec 32 := Scalar.addi v10654 c613_i32
  let v10656 : Index := Scalar.indexCast v10655
  ![v10656.toNat]
def k0_off1328 (v10657 : BitVec 32) : Fin 2 → Nat :=
  let c4095_i32_3889 : BitVec 32 := 4095#32
  let v10658 : BitVec 32 := Scalar.andi v10657 c4095_i32_3889
  let v10659 : Index := Scalar.indexCast v10658
  let c0_3890 : Index := 0#32
  ![v10659.toNat, 0]

def k0_chk622 (v10657 : BitVec 32) : Prop :=
  (∀ a, (k0_off1328 v10657) a + S1x256.size a ≤ S4096x256.size a)
theorem k0_off1328_inb : ∀ (v10657 : BitVec 32) (k0_hw622 : k0_chk622 v10657), ∀ a, (k0_off1328 v10657) a + S1x256.size a ≤ S4096x256.size a := fun v10657 k0_hw622 => k0_hw622

def k0_off1329 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3892 : BitVec 32 := 1024#32
  let v10664 : BitVec 32 := Scalar.muli v14 c1024_i32_3892
  let c614_i32 : BitVec 32 := 614#32
  let v10665 : BitVec 32 := Scalar.addi v10664 c614_i32
  let v10666 : Index := Scalar.indexCast v10665
  ![v10666.toNat]
def k0_off1330 (v10667 : BitVec 32) : Fin 2 → Nat :=
  let c4095_i32_3893 : BitVec 32 := 4095#32
  let v10668 : BitVec 32 := Scalar.andi v10667 c4095_i32_3893
  let v10669 : Index := Scalar.indexCast v10668
  let c0_3894 : Index := 0#32
  ![v10669.toNat, 0]

def k0_chk623 (v10667 : BitVec 32) : Prop :=
  (∀ a, (k0_off1330 v10667) a + S1x256.size a ≤ S4096x256.size a)
theorem k0_off1330_inb : ∀ (v10667 : BitVec 32) (k0_hw623 : k0_chk623 v10667), ∀ a, (k0_off1330 v10667) a + S1x256.size a ≤ S4096x256.size a := fun v10667 k0_hw623 => k0_hw623

def k0_off1331 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3896 : BitVec 32 := 1024#32
  let v10674 : BitVec 32 := Scalar.muli v14 c1024_i32_3896
  let c615_i32 : BitVec 32 := 615#32
  let v10675 : BitVec 32 := Scalar.addi v10674 c615_i32
  let v10676 : Index := Scalar.indexCast v10675
  ![v10676.toNat]
def k0_off1332 (v10677 : BitVec 32) : Fin 2 → Nat :=
  let c4095_i32_3897 : BitVec 32 := 4095#32
  let v10678 : BitVec 32 := Scalar.andi v10677 c4095_i32_3897
  let v10679 : Index := Scalar.indexCast v10678
  let c0_3898 : Index := 0#32
  ![v10679.toNat, 0]

def k0_chk624 (v10677 : BitVec 32) : Prop :=
  (∀ a, (k0_off1332 v10677) a + S1x256.size a ≤ S4096x256.size a)
theorem k0_off1332_inb : ∀ (v10677 : BitVec 32) (k0_hw624 : k0_chk624 v10677), ∀ a, (k0_off1332 v10677) a + S1x256.size a ≤ S4096x256.size a := fun v10677 k0_hw624 => k0_hw624

def k0_off1333 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3900 : BitVec 32 := 1024#32
  let v10684 : BitVec 32 := Scalar.muli v14 c1024_i32_3900
  let c616_i32 : BitVec 32 := 616#32
  let v10685 : BitVec 32 := Scalar.addi v10684 c616_i32
  let v10686 : Index := Scalar.indexCast v10685
  ![v10686.toNat]
def k0_off1334 (v10687 : BitVec 32) : Fin 2 → Nat :=
  let c4095_i32_3901 : BitVec 32 := 4095#32
  let v10688 : BitVec 32 := Scalar.andi v10687 c4095_i32_3901
  let v10689 : Index := Scalar.indexCast v10688
  let c0_3902 : Index := 0#32
  ![v10689.toNat, 0]

def k0_chk625 (v10687 : BitVec 32) : Prop :=
  (∀ a, (k0_off1334 v10687) a + S1x256.size a ≤ S4096x256.size a)
theorem k0_off1334_inb : ∀ (v10687 : BitVec 32) (k0_hw625 : k0_chk625 v10687), ∀ a, (k0_off1334 v10687) a + S1x256.size a ≤ S4096x256.size a := fun v10687 k0_hw625 => k0_hw625

def k0_off1335 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3904 : BitVec 32 := 1024#32
  let v10694 : BitVec 32 := Scalar.muli v14 c1024_i32_3904
  let c617_i32 : BitVec 32 := 617#32
  let v10695 : BitVec 32 := Scalar.addi v10694 c617_i32
  let v10696 : Index := Scalar.indexCast v10695
  ![v10696.toNat]
def k0_off1336 (v10697 : BitVec 32) : Fin 2 → Nat :=
  let c4095_i32_3905 : BitVec 32 := 4095#32
  let v10698 : BitVec 32 := Scalar.andi v10697 c4095_i32_3905
  let v10699 : Index := Scalar.indexCast v10698
  let c0_3906 : Index := 0#32
  ![v10699.toNat, 0]

def k0_chk626 (v10697 : BitVec 32) : Prop :=
  (∀ a, (k0_off1336 v10697) a + S1x256.size a ≤ S4096x256.size a)
theorem k0_off1336_inb : ∀ (v10697 : BitVec 32) (k0_hw626 : k0_chk626 v10697), ∀ a, (k0_off1336 v10697) a + S1x256.size a ≤ S4096x256.size a := fun v10697 k0_hw626 => k0_hw626

def k0_off1337 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3908 : BitVec 32 := 1024#32
  let v10704 : BitVec 32 := Scalar.muli v14 c1024_i32_3908
  let c618_i32 : BitVec 32 := 618#32
  let v10705 : BitVec 32 := Scalar.addi v10704 c618_i32
  let v10706 : Index := Scalar.indexCast v10705
  ![v10706.toNat]
def k0_off1338 (v10707 : BitVec 32) : Fin 2 → Nat :=
  let c4095_i32_3909 : BitVec 32 := 4095#32
  let v10708 : BitVec 32 := Scalar.andi v10707 c4095_i32_3909
  let v10709 : Index := Scalar.indexCast v10708
  let c0_3910 : Index := 0#32
  ![v10709.toNat, 0]

def k0_chk627 (v10707 : BitVec 32) : Prop :=
  (∀ a, (k0_off1338 v10707) a + S1x256.size a ≤ S4096x256.size a)
theorem k0_off1338_inb : ∀ (v10707 : BitVec 32) (k0_hw627 : k0_chk627 v10707), ∀ a, (k0_off1338 v10707) a + S1x256.size a ≤ S4096x256.size a := fun v10707 k0_hw627 => k0_hw627

def k0_off1339 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3912 : BitVec 32 := 1024#32
  let v10714 : BitVec 32 := Scalar.muli v14 c1024_i32_3912
  let c619_i32 : BitVec 32 := 619#32
  let v10715 : BitVec 32 := Scalar.addi v10714 c619_i32
  let v10716 : Index := Scalar.indexCast v10715
  ![v10716.toNat]
def k0_off1340 (v10717 : BitVec 32) : Fin 2 → Nat :=
  let c4095_i32_3913 : BitVec 32 := 4095#32
  let v10718 : BitVec 32 := Scalar.andi v10717 c4095_i32_3913
  let v10719 : Index := Scalar.indexCast v10718
  let c0_3914 : Index := 0#32
  ![v10719.toNat, 0]

def k0_chk628 (v10717 : BitVec 32) : Prop :=
  (∀ a, (k0_off1340 v10717) a + S1x256.size a ≤ S4096x256.size a)
theorem k0_off1340_inb : ∀ (v10717 : BitVec 32) (k0_hw628 : k0_chk628 v10717), ∀ a, (k0_off1340 v10717) a + S1x256.size a ≤ S4096x256.size a := fun v10717 k0_hw628 => k0_hw628

def k0_off1341 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3916 : BitVec 32 := 1024#32
  let v10724 : BitVec 32 := Scalar.muli v14 c1024_i32_3916
  let c620_i32 : BitVec 32 := 620#32
  let v10725 : BitVec 32 := Scalar.addi v10724 c620_i32
  let v10726 : Index := Scalar.indexCast v10725
  ![v10726.toNat]
def k0_off1342 (v10727 : BitVec 32) : Fin 2 → Nat :=
  let c4095_i32_3917 : BitVec 32 := 4095#32
  let v10728 : BitVec 32 := Scalar.andi v10727 c4095_i32_3917
  let v10729 : Index := Scalar.indexCast v10728
  let c0_3918 : Index := 0#32
  ![v10729.toNat, 0]

def k0_chk629 (v10727 : BitVec 32) : Prop :=
  (∀ a, (k0_off1342 v10727) a + S1x256.size a ≤ S4096x256.size a)
theorem k0_off1342_inb : ∀ (v10727 : BitVec 32) (k0_hw629 : k0_chk629 v10727), ∀ a, (k0_off1342 v10727) a + S1x256.size a ≤ S4096x256.size a := fun v10727 k0_hw629 => k0_hw629

def k0_off1343 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3920 : BitVec 32 := 1024#32
  let v10734 : BitVec 32 := Scalar.muli v14 c1024_i32_3920
  let c621_i32 : BitVec 32 := 621#32
  let v10735 : BitVec 32 := Scalar.addi v10734 c621_i32
  let v10736 : Index := Scalar.indexCast v10735
  ![v10736.toNat]
def k0_off1344 (v10737 : BitVec 32) : Fin 2 → Nat :=
  let c4095_i32_3921 : BitVec 32 := 4095#32
  let v10738 : BitVec 32 := Scalar.andi v10737 c4095_i32_3921
  let v10739 : Index := Scalar.indexCast v10738
  let c0_3922 : Index := 0#32
  ![v10739.toNat, 0]

def k0_chk630 (v10737 : BitVec 32) : Prop :=
  (∀ a, (k0_off1344 v10737) a + S1x256.size a ≤ S4096x256.size a)
theorem k0_off1344_inb : ∀ (v10737 : BitVec 32) (k0_hw630 : k0_chk630 v10737), ∀ a, (k0_off1344 v10737) a + S1x256.size a ≤ S4096x256.size a := fun v10737 k0_hw630 => k0_hw630

def k0_off1345 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3924 : BitVec 32 := 1024#32
  let v10744 : BitVec 32 := Scalar.muli v14 c1024_i32_3924
  let c622_i32 : BitVec 32 := 622#32
  let v10745 : BitVec 32 := Scalar.addi v10744 c622_i32
  let v10746 : Index := Scalar.indexCast v10745
  ![v10746.toNat]
def k0_off1346 (v10747 : BitVec 32) : Fin 2 → Nat :=
  let c4095_i32_3925 : BitVec 32 := 4095#32
  let v10748 : BitVec 32 := Scalar.andi v10747 c4095_i32_3925
  let v10749 : Index := Scalar.indexCast v10748
  let c0_3926 : Index := 0#32
  ![v10749.toNat, 0]

def k0_chk631 (v10747 : BitVec 32) : Prop :=
  (∀ a, (k0_off1346 v10747) a + S1x256.size a ≤ S4096x256.size a)
theorem k0_off1346_inb : ∀ (v10747 : BitVec 32) (k0_hw631 : k0_chk631 v10747), ∀ a, (k0_off1346 v10747) a + S1x256.size a ≤ S4096x256.size a := fun v10747 k0_hw631 => k0_hw631

def k0_off1347 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3928 : BitVec 32 := 1024#32
  let v10754 : BitVec 32 := Scalar.muli v14 c1024_i32_3928
  let c623_i32 : BitVec 32 := 623#32
  let v10755 : BitVec 32 := Scalar.addi v10754 c623_i32
  let v10756 : Index := Scalar.indexCast v10755
  ![v10756.toNat]
def k0_off1348 (v10757 : BitVec 32) : Fin 2 → Nat :=
  let c4095_i32_3929 : BitVec 32 := 4095#32
  let v10758 : BitVec 32 := Scalar.andi v10757 c4095_i32_3929
  let v10759 : Index := Scalar.indexCast v10758
  let c0_3930 : Index := 0#32
  ![v10759.toNat, 0]

def k0_chk632 (v10757 : BitVec 32) : Prop :=
  (∀ a, (k0_off1348 v10757) a + S1x256.size a ≤ S4096x256.size a)
theorem k0_off1348_inb : ∀ (v10757 : BitVec 32) (k0_hw632 : k0_chk632 v10757), ∀ a, (k0_off1348 v10757) a + S1x256.size a ≤ S4096x256.size a := fun v10757 k0_hw632 => k0_hw632

def k0_off1349 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3932 : BitVec 32 := 1024#32
  let v10764 : BitVec 32 := Scalar.muli v14 c1024_i32_3932
  let c624_i32 : BitVec 32 := 624#32
  let v10765 : BitVec 32 := Scalar.addi v10764 c624_i32
  let v10766 : Index := Scalar.indexCast v10765
  ![v10766.toNat]
def k0_off1350 (v10767 : BitVec 32) : Fin 2 → Nat :=
  let c4095_i32_3933 : BitVec 32 := 4095#32
  let v10768 : BitVec 32 := Scalar.andi v10767 c4095_i32_3933
  let v10769 : Index := Scalar.indexCast v10768
  let c0_3934 : Index := 0#32
  ![v10769.toNat, 0]

def k0_chk633 (v10767 : BitVec 32) : Prop :=
  (∀ a, (k0_off1350 v10767) a + S1x256.size a ≤ S4096x256.size a)
theorem k0_off1350_inb : ∀ (v10767 : BitVec 32) (k0_hw633 : k0_chk633 v10767), ∀ a, (k0_off1350 v10767) a + S1x256.size a ≤ S4096x256.size a := fun v10767 k0_hw633 => k0_hw633

def k0_off1351 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3936 : BitVec 32 := 1024#32
  let v10774 : BitVec 32 := Scalar.muli v14 c1024_i32_3936
  let c625_i32 : BitVec 32 := 625#32
  let v10775 : BitVec 32 := Scalar.addi v10774 c625_i32
  let v10776 : Index := Scalar.indexCast v10775
  ![v10776.toNat]
def k0_off1352 (v10777 : BitVec 32) : Fin 2 → Nat :=
  let c4095_i32_3937 : BitVec 32 := 4095#32
  let v10778 : BitVec 32 := Scalar.andi v10777 c4095_i32_3937
  let v10779 : Index := Scalar.indexCast v10778
  let c0_3938 : Index := 0#32
  ![v10779.toNat, 0]

def k0_chk634 (v10777 : BitVec 32) : Prop :=
  (∀ a, (k0_off1352 v10777) a + S1x256.size a ≤ S4096x256.size a)
theorem k0_off1352_inb : ∀ (v10777 : BitVec 32) (k0_hw634 : k0_chk634 v10777), ∀ a, (k0_off1352 v10777) a + S1x256.size a ≤ S4096x256.size a := fun v10777 k0_hw634 => k0_hw634

def k0_off1353 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3940 : BitVec 32 := 1024#32
  let v10784 : BitVec 32 := Scalar.muli v14 c1024_i32_3940
  let c626_i32 : BitVec 32 := 626#32
  let v10785 : BitVec 32 := Scalar.addi v10784 c626_i32
  let v10786 : Index := Scalar.indexCast v10785
  ![v10786.toNat]
def k0_off1354 (v10787 : BitVec 32) : Fin 2 → Nat :=
  let c4095_i32_3941 : BitVec 32 := 4095#32
  let v10788 : BitVec 32 := Scalar.andi v10787 c4095_i32_3941
  let v10789 : Index := Scalar.indexCast v10788
  let c0_3942 : Index := 0#32
  ![v10789.toNat, 0]

def k0_chk635 (v10787 : BitVec 32) : Prop :=
  (∀ a, (k0_off1354 v10787) a + S1x256.size a ≤ S4096x256.size a)
theorem k0_off1354_inb : ∀ (v10787 : BitVec 32) (k0_hw635 : k0_chk635 v10787), ∀ a, (k0_off1354 v10787) a + S1x256.size a ≤ S4096x256.size a := fun v10787 k0_hw635 => k0_hw635

def k0_off1355 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3944 : BitVec 32 := 1024#32
  let v10794 : BitVec 32 := Scalar.muli v14 c1024_i32_3944
  let c627_i32 : BitVec 32 := 627#32
  let v10795 : BitVec 32 := Scalar.addi v10794 c627_i32
  let v10796 : Index := Scalar.indexCast v10795
  ![v10796.toNat]
def k0_off1356 (v10797 : BitVec 32) : Fin 2 → Nat :=
  let c4095_i32_3945 : BitVec 32 := 4095#32
  let v10798 : BitVec 32 := Scalar.andi v10797 c4095_i32_3945
  let v10799 : Index := Scalar.indexCast v10798
  let c0_3946 : Index := 0#32
  ![v10799.toNat, 0]

def k0_chk636 (v10797 : BitVec 32) : Prop :=
  (∀ a, (k0_off1356 v10797) a + S1x256.size a ≤ S4096x256.size a)
theorem k0_off1356_inb : ∀ (v10797 : BitVec 32) (k0_hw636 : k0_chk636 v10797), ∀ a, (k0_off1356 v10797) a + S1x256.size a ≤ S4096x256.size a := fun v10797 k0_hw636 => k0_hw636

def k0_off1357 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3948 : BitVec 32 := 1024#32
  let v10804 : BitVec 32 := Scalar.muli v14 c1024_i32_3948
  let c628_i32 : BitVec 32 := 628#32
  let v10805 : BitVec 32 := Scalar.addi v10804 c628_i32
  let v10806 : Index := Scalar.indexCast v10805
  ![v10806.toNat]
def k0_off1358 (v10807 : BitVec 32) : Fin 2 → Nat :=
  let c4095_i32_3949 : BitVec 32 := 4095#32
  let v10808 : BitVec 32 := Scalar.andi v10807 c4095_i32_3949
  let v10809 : Index := Scalar.indexCast v10808
  let c0_3950 : Index := 0#32
  ![v10809.toNat, 0]

def k0_chk637 (v10807 : BitVec 32) : Prop :=
  (∀ a, (k0_off1358 v10807) a + S1x256.size a ≤ S4096x256.size a)
theorem k0_off1358_inb : ∀ (v10807 : BitVec 32) (k0_hw637 : k0_chk637 v10807), ∀ a, (k0_off1358 v10807) a + S1x256.size a ≤ S4096x256.size a := fun v10807 k0_hw637 => k0_hw637

def k0_off1359 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3952 : BitVec 32 := 1024#32
  let v10814 : BitVec 32 := Scalar.muli v14 c1024_i32_3952
  let c629_i32 : BitVec 32 := 629#32
  let v10815 : BitVec 32 := Scalar.addi v10814 c629_i32
  let v10816 : Index := Scalar.indexCast v10815
  ![v10816.toNat]
def k0_off1360 (v10817 : BitVec 32) : Fin 2 → Nat :=
  let c4095_i32_3953 : BitVec 32 := 4095#32
  let v10818 : BitVec 32 := Scalar.andi v10817 c4095_i32_3953
  let v10819 : Index := Scalar.indexCast v10818
  let c0_3954 : Index := 0#32
  ![v10819.toNat, 0]

def k0_chk638 (v10817 : BitVec 32) : Prop :=
  (∀ a, (k0_off1360 v10817) a + S1x256.size a ≤ S4096x256.size a)
theorem k0_off1360_inb : ∀ (v10817 : BitVec 32) (k0_hw638 : k0_chk638 v10817), ∀ a, (k0_off1360 v10817) a + S1x256.size a ≤ S4096x256.size a := fun v10817 k0_hw638 => k0_hw638

def k0_off1361 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3956 : BitVec 32 := 1024#32
  let v10824 : BitVec 32 := Scalar.muli v14 c1024_i32_3956
  let c630_i32 : BitVec 32 := 630#32
  let v10825 : BitVec 32 := Scalar.addi v10824 c630_i32
  let v10826 : Index := Scalar.indexCast v10825
  ![v10826.toNat]
def k0_off1362 (v10827 : BitVec 32) : Fin 2 → Nat :=
  let c4095_i32_3957 : BitVec 32 := 4095#32
  let v10828 : BitVec 32 := Scalar.andi v10827 c4095_i32_3957
  let v10829 : Index := Scalar.indexCast v10828
  let c0_3958 : Index := 0#32
  ![v10829.toNat, 0]

def k0_chk639 (v10827 : BitVec 32) : Prop :=
  (∀ a, (k0_off1362 v10827) a + S1x256.size a ≤ S4096x256.size a)
theorem k0_off1362_inb : ∀ (v10827 : BitVec 32) (k0_hw639 : k0_chk639 v10827), ∀ a, (k0_off1362 v10827) a + S1x256.size a ≤ S4096x256.size a := fun v10827 k0_hw639 => k0_hw639

def k0_off1363 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3960 : BitVec 32 := 1024#32
  let v10834 : BitVec 32 := Scalar.muli v14 c1024_i32_3960
  let c631_i32 : BitVec 32 := 631#32
  let v10835 : BitVec 32 := Scalar.addi v10834 c631_i32
  let v10836 : Index := Scalar.indexCast v10835
  ![v10836.toNat]
def k0_off1364 (v10837 : BitVec 32) : Fin 2 → Nat :=
  let c4095_i32_3961 : BitVec 32 := 4095#32
  let v10838 : BitVec 32 := Scalar.andi v10837 c4095_i32_3961
  let v10839 : Index := Scalar.indexCast v10838
  let c0_3962 : Index := 0#32
  ![v10839.toNat, 0]

def k0_chk640 (v10837 : BitVec 32) : Prop :=
  (∀ a, (k0_off1364 v10837) a + S1x256.size a ≤ S4096x256.size a)
theorem k0_off1364_inb : ∀ (v10837 : BitVec 32) (k0_hw640 : k0_chk640 v10837), ∀ a, (k0_off1364 v10837) a + S1x256.size a ≤ S4096x256.size a := fun v10837 k0_hw640 => k0_hw640

def k0_off1365 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3964 : BitVec 32 := 1024#32
  let v10844 : BitVec 32 := Scalar.muli v14 c1024_i32_3964
  let c632_i32 : BitVec 32 := 632#32
  let v10845 : BitVec 32 := Scalar.addi v10844 c632_i32
  let v10846 : Index := Scalar.indexCast v10845
  ![v10846.toNat]
def k0_off1366 (v10847 : BitVec 32) : Fin 2 → Nat :=
  let c4095_i32_3965 : BitVec 32 := 4095#32
  let v10848 : BitVec 32 := Scalar.andi v10847 c4095_i32_3965
  let v10849 : Index := Scalar.indexCast v10848
  let c0_3966 : Index := 0#32
  ![v10849.toNat, 0]

def k0_chk641 (v10847 : BitVec 32) : Prop :=
  (∀ a, (k0_off1366 v10847) a + S1x256.size a ≤ S4096x256.size a)
theorem k0_off1366_inb : ∀ (v10847 : BitVec 32) (k0_hw641 : k0_chk641 v10847), ∀ a, (k0_off1366 v10847) a + S1x256.size a ≤ S4096x256.size a := fun v10847 k0_hw641 => k0_hw641

def k0_off1367 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3968 : BitVec 32 := 1024#32
  let v10854 : BitVec 32 := Scalar.muli v14 c1024_i32_3968
  let c633_i32 : BitVec 32 := 633#32
  let v10855 : BitVec 32 := Scalar.addi v10854 c633_i32
  let v10856 : Index := Scalar.indexCast v10855
  ![v10856.toNat]
def k0_off1368 (v10857 : BitVec 32) : Fin 2 → Nat :=
  let c4095_i32_3969 : BitVec 32 := 4095#32
  let v10858 : BitVec 32 := Scalar.andi v10857 c4095_i32_3969
  let v10859 : Index := Scalar.indexCast v10858
  let c0_3970 : Index := 0#32
  ![v10859.toNat, 0]

def k0_chk642 (v10857 : BitVec 32) : Prop :=
  (∀ a, (k0_off1368 v10857) a + S1x256.size a ≤ S4096x256.size a)
theorem k0_off1368_inb : ∀ (v10857 : BitVec 32) (k0_hw642 : k0_chk642 v10857), ∀ a, (k0_off1368 v10857) a + S1x256.size a ≤ S4096x256.size a := fun v10857 k0_hw642 => k0_hw642

def k0_off1369 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3972 : BitVec 32 := 1024#32
  let v10864 : BitVec 32 := Scalar.muli v14 c1024_i32_3972
  let c634_i32 : BitVec 32 := 634#32
  let v10865 : BitVec 32 := Scalar.addi v10864 c634_i32
  let v10866 : Index := Scalar.indexCast v10865
  ![v10866.toNat]
def k0_off1370 (v10867 : BitVec 32) : Fin 2 → Nat :=
  let c4095_i32_3973 : BitVec 32 := 4095#32
  let v10868 : BitVec 32 := Scalar.andi v10867 c4095_i32_3973
  let v10869 : Index := Scalar.indexCast v10868
  let c0_3974 : Index := 0#32
  ![v10869.toNat, 0]

def k0_chk643 (v10867 : BitVec 32) : Prop :=
  (∀ a, (k0_off1370 v10867) a + S1x256.size a ≤ S4096x256.size a)
theorem k0_off1370_inb : ∀ (v10867 : BitVec 32) (k0_hw643 : k0_chk643 v10867), ∀ a, (k0_off1370 v10867) a + S1x256.size a ≤ S4096x256.size a := fun v10867 k0_hw643 => k0_hw643

def k0_off1371 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3976 : BitVec 32 := 1024#32
  let v10874 : BitVec 32 := Scalar.muli v14 c1024_i32_3976
  let c635_i32 : BitVec 32 := 635#32
  let v10875 : BitVec 32 := Scalar.addi v10874 c635_i32
  let v10876 : Index := Scalar.indexCast v10875
  ![v10876.toNat]
def k0_off1372 (v10877 : BitVec 32) : Fin 2 → Nat :=
  let c4095_i32_3977 : BitVec 32 := 4095#32
  let v10878 : BitVec 32 := Scalar.andi v10877 c4095_i32_3977
  let v10879 : Index := Scalar.indexCast v10878
  let c0_3978 : Index := 0#32
  ![v10879.toNat, 0]

def k0_chk644 (v10877 : BitVec 32) : Prop :=
  (∀ a, (k0_off1372 v10877) a + S1x256.size a ≤ S4096x256.size a)
theorem k0_off1372_inb : ∀ (v10877 : BitVec 32) (k0_hw644 : k0_chk644 v10877), ∀ a, (k0_off1372 v10877) a + S1x256.size a ≤ S4096x256.size a := fun v10877 k0_hw644 => k0_hw644

def k0_off1373 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3980 : BitVec 32 := 1024#32
  let v10884 : BitVec 32 := Scalar.muli v14 c1024_i32_3980
  let c636_i32 : BitVec 32 := 636#32
  let v10885 : BitVec 32 := Scalar.addi v10884 c636_i32
  let v10886 : Index := Scalar.indexCast v10885
  ![v10886.toNat]
def k0_off1374 (v10887 : BitVec 32) : Fin 2 → Nat :=
  let c4095_i32_3981 : BitVec 32 := 4095#32
  let v10888 : BitVec 32 := Scalar.andi v10887 c4095_i32_3981
  let v10889 : Index := Scalar.indexCast v10888
  let c0_3982 : Index := 0#32
  ![v10889.toNat, 0]

def k0_chk645 (v10887 : BitVec 32) : Prop :=
  (∀ a, (k0_off1374 v10887) a + S1x256.size a ≤ S4096x256.size a)
theorem k0_off1374_inb : ∀ (v10887 : BitVec 32) (k0_hw645 : k0_chk645 v10887), ∀ a, (k0_off1374 v10887) a + S1x256.size a ≤ S4096x256.size a := fun v10887 k0_hw645 => k0_hw645

def k0_off1375 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3984 : BitVec 32 := 1024#32
  let v10894 : BitVec 32 := Scalar.muli v14 c1024_i32_3984
  let c637_i32 : BitVec 32 := 637#32
  let v10895 : BitVec 32 := Scalar.addi v10894 c637_i32
  let v10896 : Index := Scalar.indexCast v10895
  ![v10896.toNat]
def k0_off1376 (v10897 : BitVec 32) : Fin 2 → Nat :=
  let c4095_i32_3985 : BitVec 32 := 4095#32
  let v10898 : BitVec 32 := Scalar.andi v10897 c4095_i32_3985
  let v10899 : Index := Scalar.indexCast v10898
  let c0_3986 : Index := 0#32
  ![v10899.toNat, 0]

def k0_chk646 (v10897 : BitVec 32) : Prop :=
  (∀ a, (k0_off1376 v10897) a + S1x256.size a ≤ S4096x256.size a)
theorem k0_off1376_inb : ∀ (v10897 : BitVec 32) (k0_hw646 : k0_chk646 v10897), ∀ a, (k0_off1376 v10897) a + S1x256.size a ≤ S4096x256.size a := fun v10897 k0_hw646 => k0_hw646

def k0_off1377 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3988 : BitVec 32 := 1024#32
  let v10904 : BitVec 32 := Scalar.muli v14 c1024_i32_3988
  let c638_i32 : BitVec 32 := 638#32
  let v10905 : BitVec 32 := Scalar.addi v10904 c638_i32
  let v10906 : Index := Scalar.indexCast v10905
  ![v10906.toNat]
def k0_off1378 (v10907 : BitVec 32) : Fin 2 → Nat :=
  let c4095_i32_3989 : BitVec 32 := 4095#32
  let v10908 : BitVec 32 := Scalar.andi v10907 c4095_i32_3989
  let v10909 : Index := Scalar.indexCast v10908
  let c0_3990 : Index := 0#32
  ![v10909.toNat, 0]

def k0_chk647 (v10907 : BitVec 32) : Prop :=
  (∀ a, (k0_off1378 v10907) a + S1x256.size a ≤ S4096x256.size a)
theorem k0_off1378_inb : ∀ (v10907 : BitVec 32) (k0_hw647 : k0_chk647 v10907), ∀ a, (k0_off1378 v10907) a + S1x256.size a ≤ S4096x256.size a := fun v10907 k0_hw647 => k0_hw647

def k0_off1379 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3992 : BitVec 32 := 1024#32
  let v10914 : BitVec 32 := Scalar.muli v14 c1024_i32_3992
  let c639_i32 : BitVec 32 := 639#32
  let v10915 : BitVec 32 := Scalar.addi v10914 c639_i32
  let v10916 : Index := Scalar.indexCast v10915
  ![v10916.toNat]
def k0_off1380 (v10917 : BitVec 32) : Fin 2 → Nat :=
  let c4095_i32_3993 : BitVec 32 := 4095#32
  let v10918 : BitVec 32 := Scalar.andi v10917 c4095_i32_3993
  let v10919 : Index := Scalar.indexCast v10918
  let c0_3994 : Index := 0#32
  ![v10919.toNat, 0]

def k0_chk648 (v10917 : BitVec 32) : Prop :=
  (∀ a, (k0_off1380 v10917) a + S1x256.size a ≤ S4096x256.size a)
theorem k0_off1380_inb : ∀ (v10917 : BitVec 32) (k0_hw648 : k0_chk648 v10917), ∀ a, (k0_off1380 v10917) a + S1x256.size a ≤ S4096x256.size a := fun v10917 k0_hw648 => k0_hw648

def k0_off1381 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_3996 : BitVec 32 := 1024#32
  let v10924 : BitVec 32 := Scalar.muli v14 c1024_i32_3996
  let c640_i32 : BitVec 32 := 640#32
  let v10925 : BitVec 32 := Scalar.addi v10924 c640_i32
  let v10926 : Index := Scalar.indexCast v10925
  ![v10926.toNat]
def k0_off1382 (v10927 : BitVec 32) : Fin 2 → Nat :=
  let c4095_i32_3997 : BitVec 32 := 4095#32
  let v10928 : BitVec 32 := Scalar.andi v10927 c4095_i32_3997
  let v10929 : Index := Scalar.indexCast v10928
  let c0_3998 : Index := 0#32
  ![v10929.toNat, 0]

def k0_chk649 (v10927 : BitVec 32) : Prop :=
  (∀ a, (k0_off1382 v10927) a + S1x256.size a ≤ S4096x256.size a)
theorem k0_off1382_inb : ∀ (v10927 : BitVec 32) (k0_hw649 : k0_chk649 v10927), ∀ a, (k0_off1382 v10927) a + S1x256.size a ≤ S4096x256.size a := fun v10927 k0_hw649 => k0_hw649

def k0_off1383 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4000 : BitVec 32 := 1024#32
  let v10934 : BitVec 32 := Scalar.muli v14 c1024_i32_4000
  let c641_i32 : BitVec 32 := 641#32
  let v10935 : BitVec 32 := Scalar.addi v10934 c641_i32
  let v10936 : Index := Scalar.indexCast v10935
  ![v10936.toNat]
def k0_off1384 (v10937 : BitVec 32) : Fin 2 → Nat :=
  let c4095_i32_4001 : BitVec 32 := 4095#32
  let v10938 : BitVec 32 := Scalar.andi v10937 c4095_i32_4001
  let v10939 : Index := Scalar.indexCast v10938
  let c0_4002 : Index := 0#32
  ![v10939.toNat, 0]

def k0_chk650 (v10937 : BitVec 32) : Prop :=
  (∀ a, (k0_off1384 v10937) a + S1x256.size a ≤ S4096x256.size a)
theorem k0_off1384_inb : ∀ (v10937 : BitVec 32) (k0_hw650 : k0_chk650 v10937), ∀ a, (k0_off1384 v10937) a + S1x256.size a ≤ S4096x256.size a := fun v10937 k0_hw650 => k0_hw650

def k0_off1385 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4004 : BitVec 32 := 1024#32
  let v10944 : BitVec 32 := Scalar.muli v14 c1024_i32_4004
  let c642_i32 : BitVec 32 := 642#32
  let v10945 : BitVec 32 := Scalar.addi v10944 c642_i32
  let v10946 : Index := Scalar.indexCast v10945
  ![v10946.toNat]
def k0_off1386 (v10947 : BitVec 32) : Fin 2 → Nat :=
  let c4095_i32_4005 : BitVec 32 := 4095#32
  let v10948 : BitVec 32 := Scalar.andi v10947 c4095_i32_4005
  let v10949 : Index := Scalar.indexCast v10948
  let c0_4006 : Index := 0#32
  ![v10949.toNat, 0]

def k0_chk651 (v10947 : BitVec 32) : Prop :=
  (∀ a, (k0_off1386 v10947) a + S1x256.size a ≤ S4096x256.size a)
theorem k0_off1386_inb : ∀ (v10947 : BitVec 32) (k0_hw651 : k0_chk651 v10947), ∀ a, (k0_off1386 v10947) a + S1x256.size a ≤ S4096x256.size a := fun v10947 k0_hw651 => k0_hw651

def k0_off1387 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4008 : BitVec 32 := 1024#32
  let v10954 : BitVec 32 := Scalar.muli v14 c1024_i32_4008
  let c643_i32 : BitVec 32 := 643#32
  let v10955 : BitVec 32 := Scalar.addi v10954 c643_i32
  let v10956 : Index := Scalar.indexCast v10955
  ![v10956.toNat]
def k0_off1388 (v10957 : BitVec 32) : Fin 2 → Nat :=
  let c4095_i32_4009 : BitVec 32 := 4095#32
  let v10958 : BitVec 32 := Scalar.andi v10957 c4095_i32_4009
  let v10959 : Index := Scalar.indexCast v10958
  let c0_4010 : Index := 0#32
  ![v10959.toNat, 0]

def k0_chk652 (v10957 : BitVec 32) : Prop :=
  (∀ a, (k0_off1388 v10957) a + S1x256.size a ≤ S4096x256.size a)
theorem k0_off1388_inb : ∀ (v10957 : BitVec 32) (k0_hw652 : k0_chk652 v10957), ∀ a, (k0_off1388 v10957) a + S1x256.size a ≤ S4096x256.size a := fun v10957 k0_hw652 => k0_hw652

def k0_off1389 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4012 : BitVec 32 := 1024#32
  let v10964 : BitVec 32 := Scalar.muli v14 c1024_i32_4012
  let c644_i32 : BitVec 32 := 644#32
  let v10965 : BitVec 32 := Scalar.addi v10964 c644_i32
  let v10966 : Index := Scalar.indexCast v10965
  ![v10966.toNat]
def k0_off1390 (v10967 : BitVec 32) : Fin 2 → Nat :=
  let c4095_i32_4013 : BitVec 32 := 4095#32
  let v10968 : BitVec 32 := Scalar.andi v10967 c4095_i32_4013
  let v10969 : Index := Scalar.indexCast v10968
  let c0_4014 : Index := 0#32
  ![v10969.toNat, 0]

def k0_chk653 (v10967 : BitVec 32) : Prop :=
  (∀ a, (k0_off1390 v10967) a + S1x256.size a ≤ S4096x256.size a)
theorem k0_off1390_inb : ∀ (v10967 : BitVec 32) (k0_hw653 : k0_chk653 v10967), ∀ a, (k0_off1390 v10967) a + S1x256.size a ≤ S4096x256.size a := fun v10967 k0_hw653 => k0_hw653

def k0_off1391 (i : grid0.Coords) : Fin 2 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c8_i32_4019 : BitVec 32 := 8#32
  let v10977 : BitVec 32 := Scalar.muli v14 c8_i32_4019
  let c4_i32_4020 : BitVec 32 := 4#32
  let v10978 : BitVec 32 := Scalar.addi v10977 c4_i32_4020
  let v10979 : Index := Scalar.indexCast v10978
  let c0_4021 : Index := 0#32
  ![v10979.toNat, 0]
def k0_off1392 (i : grid0.Coords) : Fin 3 → Nat :=
  let c1_i32_4016 : BitVec 32 := 1#32
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v10974 : BitVec 32 := Scalar.subi c1_i32_4016 v12
  let v11022 : Index := Scalar.indexCast v10974
  let c0_4032 : Index := 0#32
  let c512_4033 : Index := 512#32
  ![v11022.toNat, 0, 512]
def k0_off1393 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v11083 : Index := Scalar.indexCast v12
  let c0_4049 : Index := 0#32
  let c0_4050 : Index := 0#32
  ![v11083.toNat, 0, 0]
def k0_off1394 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v11144 : Index := Scalar.indexCast v12
  let c0_4068 : Index := 0#32
  let c256_4069 : Index := 256#32
  ![v11144.toNat, 0, 256]
def k0_off1395 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v11206 : Index := Scalar.indexCast v12
  let c0_4087 : Index := 0#32
  let c512_4088 : Index := 512#32
  ![v11206.toNat, 0, 512]
def k0_off1396 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v11268 : Index := Scalar.indexCast v12
  let c0_4106 : Index := 0#32
  let c768_4107 : Index := 768#32
  ![v11268.toNat, 0, 768]
def k0_off1397 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4113 : BitVec 32 := 1024#32
  let v11278 : BitVec 32 := Scalar.muli v14 c1024_i32_4113
  let c645_i32 : BitVec 32 := 645#32
  let v11279 : BitVec 32 := Scalar.addi v11278 c645_i32
  let v11280 : Index := Scalar.indexCast v11279
  ![v11280.toNat]
def k0_off1398 (v11281 : BitVec 32) : Fin 2 → Nat :=
  let c4095_i32_4114 : BitVec 32 := 4095#32
  let v11282 : BitVec 32 := Scalar.andi v11281 c4095_i32_4114
  let v11283 : Index := Scalar.indexCast v11282
  let c0_4115 : Index := 0#32
  ![v11283.toNat, 0]

def k0_chk654 (v11281 : BitVec 32) : Prop :=
  (∀ a, (k0_off1398 v11281) a + S1x256.size a ≤ S4096x256.size a)
theorem k0_off1398_inb : ∀ (v11281 : BitVec 32) (k0_hw654 : k0_chk654 v11281), ∀ a, (k0_off1398 v11281) a + S1x256.size a ≤ S4096x256.size a := fun v11281 k0_hw654 => k0_hw654

def k0_off1399 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4117 : BitVec 32 := 1024#32
  let v11288 : BitVec 32 := Scalar.muli v14 c1024_i32_4117
  let c646_i32 : BitVec 32 := 646#32
  let v11289 : BitVec 32 := Scalar.addi v11288 c646_i32
  let v11290 : Index := Scalar.indexCast v11289
  ![v11290.toNat]
def k0_off1400 (v11291 : BitVec 32) : Fin 2 → Nat :=
  let c4095_i32_4118 : BitVec 32 := 4095#32
  let v11292 : BitVec 32 := Scalar.andi v11291 c4095_i32_4118
  let v11293 : Index := Scalar.indexCast v11292
  let c0_4119 : Index := 0#32
  ![v11293.toNat, 0]

def k0_chk655 (v11291 : BitVec 32) : Prop :=
  (∀ a, (k0_off1400 v11291) a + S1x256.size a ≤ S4096x256.size a)
theorem k0_off1400_inb : ∀ (v11291 : BitVec 32) (k0_hw655 : k0_chk655 v11291), ∀ a, (k0_off1400 v11291) a + S1x256.size a ≤ S4096x256.size a := fun v11291 k0_hw655 => k0_hw655

def k0_off1401 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4121 : BitVec 32 := 1024#32
  let v11298 : BitVec 32 := Scalar.muli v14 c1024_i32_4121
  let c647_i32 : BitVec 32 := 647#32
  let v11299 : BitVec 32 := Scalar.addi v11298 c647_i32
  let v11300 : Index := Scalar.indexCast v11299
  ![v11300.toNat]
def k0_off1402 (v11301 : BitVec 32) : Fin 2 → Nat :=
  let c4095_i32_4122 : BitVec 32 := 4095#32
  let v11302 : BitVec 32 := Scalar.andi v11301 c4095_i32_4122
  let v11303 : Index := Scalar.indexCast v11302
  let c0_4123 : Index := 0#32
  ![v11303.toNat, 0]

def k0_chk656 (v11301 : BitVec 32) : Prop :=
  (∀ a, (k0_off1402 v11301) a + S1x256.size a ≤ S4096x256.size a)
theorem k0_off1402_inb : ∀ (v11301 : BitVec 32) (k0_hw656 : k0_chk656 v11301), ∀ a, (k0_off1402 v11301) a + S1x256.size a ≤ S4096x256.size a := fun v11301 k0_hw656 => k0_hw656

def k0_off1403 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4125 : BitVec 32 := 1024#32
  let v11308 : BitVec 32 := Scalar.muli v14 c1024_i32_4125
  let c648_i32 : BitVec 32 := 648#32
  let v11309 : BitVec 32 := Scalar.addi v11308 c648_i32
  let v11310 : Index := Scalar.indexCast v11309
  ![v11310.toNat]
def k0_off1404 (v11311 : BitVec 32) : Fin 2 → Nat :=
  let c4095_i32_4126 : BitVec 32 := 4095#32
  let v11312 : BitVec 32 := Scalar.andi v11311 c4095_i32_4126
  let v11313 : Index := Scalar.indexCast v11312
  let c0_4127 : Index := 0#32
  ![v11313.toNat, 0]

def k0_chk657 (v11311 : BitVec 32) : Prop :=
  (∀ a, (k0_off1404 v11311) a + S1x256.size a ≤ S4096x256.size a)
theorem k0_off1404_inb : ∀ (v11311 : BitVec 32) (k0_hw657 : k0_chk657 v11311), ∀ a, (k0_off1404 v11311) a + S1x256.size a ≤ S4096x256.size a := fun v11311 k0_hw657 => k0_hw657

def k0_off1405 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4129 : BitVec 32 := 1024#32
  let v11318 : BitVec 32 := Scalar.muli v14 c1024_i32_4129
  let c649_i32 : BitVec 32 := 649#32
  let v11319 : BitVec 32 := Scalar.addi v11318 c649_i32
  let v11320 : Index := Scalar.indexCast v11319
  ![v11320.toNat]
def k0_off1406 (v11321 : BitVec 32) : Fin 2 → Nat :=
  let c4095_i32_4130 : BitVec 32 := 4095#32
  let v11322 : BitVec 32 := Scalar.andi v11321 c4095_i32_4130
  let v11323 : Index := Scalar.indexCast v11322
  let c0_4131 : Index := 0#32
  ![v11323.toNat, 0]

def k0_chk658 (v11321 : BitVec 32) : Prop :=
  (∀ a, (k0_off1406 v11321) a + S1x256.size a ≤ S4096x256.size a)
theorem k0_off1406_inb : ∀ (v11321 : BitVec 32) (k0_hw658 : k0_chk658 v11321), ∀ a, (k0_off1406 v11321) a + S1x256.size a ≤ S4096x256.size a := fun v11321 k0_hw658 => k0_hw658

def k0_off1407 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4133 : BitVec 32 := 1024#32
  let v11328 : BitVec 32 := Scalar.muli v14 c1024_i32_4133
  let c650_i32 : BitVec 32 := 650#32
  let v11329 : BitVec 32 := Scalar.addi v11328 c650_i32
  let v11330 : Index := Scalar.indexCast v11329
  ![v11330.toNat]
def k0_off1408 (v11331 : BitVec 32) : Fin 2 → Nat :=
  let c4095_i32_4134 : BitVec 32 := 4095#32
  let v11332 : BitVec 32 := Scalar.andi v11331 c4095_i32_4134
  let v11333 : Index := Scalar.indexCast v11332
  let c0_4135 : Index := 0#32
  ![v11333.toNat, 0]

def k0_chk659 (v11331 : BitVec 32) : Prop :=
  (∀ a, (k0_off1408 v11331) a + S1x256.size a ≤ S4096x256.size a)
theorem k0_off1408_inb : ∀ (v11331 : BitVec 32) (k0_hw659 : k0_chk659 v11331), ∀ a, (k0_off1408 v11331) a + S1x256.size a ≤ S4096x256.size a := fun v11331 k0_hw659 => k0_hw659

def k0_off1409 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4137 : BitVec 32 := 1024#32
  let v11338 : BitVec 32 := Scalar.muli v14 c1024_i32_4137
  let c651_i32 : BitVec 32 := 651#32
  let v11339 : BitVec 32 := Scalar.addi v11338 c651_i32
  let v11340 : Index := Scalar.indexCast v11339
  ![v11340.toNat]
def k0_off1410 (v11341 : BitVec 32) : Fin 2 → Nat :=
  let c4095_i32_4138 : BitVec 32 := 4095#32
  let v11342 : BitVec 32 := Scalar.andi v11341 c4095_i32_4138
  let v11343 : Index := Scalar.indexCast v11342
  let c0_4139 : Index := 0#32
  ![v11343.toNat, 0]

def k0_chk660 (v11341 : BitVec 32) : Prop :=
  (∀ a, (k0_off1410 v11341) a + S1x256.size a ≤ S4096x256.size a)
theorem k0_off1410_inb : ∀ (v11341 : BitVec 32) (k0_hw660 : k0_chk660 v11341), ∀ a, (k0_off1410 v11341) a + S1x256.size a ≤ S4096x256.size a := fun v11341 k0_hw660 => k0_hw660

def k0_off1411 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4141 : BitVec 32 := 1024#32
  let v11348 : BitVec 32 := Scalar.muli v14 c1024_i32_4141
  let c652_i32 : BitVec 32 := 652#32
  let v11349 : BitVec 32 := Scalar.addi v11348 c652_i32
  let v11350 : Index := Scalar.indexCast v11349
  ![v11350.toNat]
def k0_off1412 (v11351 : BitVec 32) : Fin 2 → Nat :=
  let c4095_i32_4142 : BitVec 32 := 4095#32
  let v11352 : BitVec 32 := Scalar.andi v11351 c4095_i32_4142
  let v11353 : Index := Scalar.indexCast v11352
  let c0_4143 : Index := 0#32
  ![v11353.toNat, 0]

def k0_chk661 (v11351 : BitVec 32) : Prop :=
  (∀ a, (k0_off1412 v11351) a + S1x256.size a ≤ S4096x256.size a)
theorem k0_off1412_inb : ∀ (v11351 : BitVec 32) (k0_hw661 : k0_chk661 v11351), ∀ a, (k0_off1412 v11351) a + S1x256.size a ≤ S4096x256.size a := fun v11351 k0_hw661 => k0_hw661

def k0_off1413 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4145 : BitVec 32 := 1024#32
  let v11358 : BitVec 32 := Scalar.muli v14 c1024_i32_4145
  let c653_i32 : BitVec 32 := 653#32
  let v11359 : BitVec 32 := Scalar.addi v11358 c653_i32
  let v11360 : Index := Scalar.indexCast v11359
  ![v11360.toNat]
def k0_off1414 (v11361 : BitVec 32) : Fin 2 → Nat :=
  let c4095_i32_4146 : BitVec 32 := 4095#32
  let v11362 : BitVec 32 := Scalar.andi v11361 c4095_i32_4146
  let v11363 : Index := Scalar.indexCast v11362
  let c0_4147 : Index := 0#32
  ![v11363.toNat, 0]

def k0_chk662 (v11361 : BitVec 32) : Prop :=
  (∀ a, (k0_off1414 v11361) a + S1x256.size a ≤ S4096x256.size a)
theorem k0_off1414_inb : ∀ (v11361 : BitVec 32) (k0_hw662 : k0_chk662 v11361), ∀ a, (k0_off1414 v11361) a + S1x256.size a ≤ S4096x256.size a := fun v11361 k0_hw662 => k0_hw662

def k0_off1415 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4149 : BitVec 32 := 1024#32
  let v11368 : BitVec 32 := Scalar.muli v14 c1024_i32_4149
  let c654_i32 : BitVec 32 := 654#32
  let v11369 : BitVec 32 := Scalar.addi v11368 c654_i32
  let v11370 : Index := Scalar.indexCast v11369
  ![v11370.toNat]
def k0_off1416 (v11371 : BitVec 32) : Fin 2 → Nat :=
  let c4095_i32_4150 : BitVec 32 := 4095#32
  let v11372 : BitVec 32 := Scalar.andi v11371 c4095_i32_4150
  let v11373 : Index := Scalar.indexCast v11372
  let c0_4151 : Index := 0#32
  ![v11373.toNat, 0]

def k0_chk663 (v11371 : BitVec 32) : Prop :=
  (∀ a, (k0_off1416 v11371) a + S1x256.size a ≤ S4096x256.size a)
theorem k0_off1416_inb : ∀ (v11371 : BitVec 32) (k0_hw663 : k0_chk663 v11371), ∀ a, (k0_off1416 v11371) a + S1x256.size a ≤ S4096x256.size a := fun v11371 k0_hw663 => k0_hw663

def k0_off1417 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4153 : BitVec 32 := 1024#32
  let v11378 : BitVec 32 := Scalar.muli v14 c1024_i32_4153
  let c655_i32 : BitVec 32 := 655#32
  let v11379 : BitVec 32 := Scalar.addi v11378 c655_i32
  let v11380 : Index := Scalar.indexCast v11379
  ![v11380.toNat]
def k0_off1418 (v11381 : BitVec 32) : Fin 2 → Nat :=
  let c4095_i32_4154 : BitVec 32 := 4095#32
  let v11382 : BitVec 32 := Scalar.andi v11381 c4095_i32_4154
  let v11383 : Index := Scalar.indexCast v11382
  let c0_4155 : Index := 0#32
  ![v11383.toNat, 0]

def k0_chk664 (v11381 : BitVec 32) : Prop :=
  (∀ a, (k0_off1418 v11381) a + S1x256.size a ≤ S4096x256.size a)
theorem k0_off1418_inb : ∀ (v11381 : BitVec 32) (k0_hw664 : k0_chk664 v11381), ∀ a, (k0_off1418 v11381) a + S1x256.size a ≤ S4096x256.size a := fun v11381 k0_hw664 => k0_hw664

def k0_off1419 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4157 : BitVec 32 := 1024#32
  let v11388 : BitVec 32 := Scalar.muli v14 c1024_i32_4157
  let c656_i32 : BitVec 32 := 656#32
  let v11389 : BitVec 32 := Scalar.addi v11388 c656_i32
  let v11390 : Index := Scalar.indexCast v11389
  ![v11390.toNat]
def k0_off1420 (v11391 : BitVec 32) : Fin 2 → Nat :=
  let c4095_i32_4158 : BitVec 32 := 4095#32
  let v11392 : BitVec 32 := Scalar.andi v11391 c4095_i32_4158
  let v11393 : Index := Scalar.indexCast v11392
  let c0_4159 : Index := 0#32
  ![v11393.toNat, 0]

def k0_chk665 (v11391 : BitVec 32) : Prop :=
  (∀ a, (k0_off1420 v11391) a + S1x256.size a ≤ S4096x256.size a)
theorem k0_off1420_inb : ∀ (v11391 : BitVec 32) (k0_hw665 : k0_chk665 v11391), ∀ a, (k0_off1420 v11391) a + S1x256.size a ≤ S4096x256.size a := fun v11391 k0_hw665 => k0_hw665

def k0_off1421 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4161 : BitVec 32 := 1024#32
  let v11398 : BitVec 32 := Scalar.muli v14 c1024_i32_4161
  let c657_i32 : BitVec 32 := 657#32
  let v11399 : BitVec 32 := Scalar.addi v11398 c657_i32
  let v11400 : Index := Scalar.indexCast v11399
  ![v11400.toNat]
def k0_off1422 (v11401 : BitVec 32) : Fin 2 → Nat :=
  let c4095_i32_4162 : BitVec 32 := 4095#32
  let v11402 : BitVec 32 := Scalar.andi v11401 c4095_i32_4162
  let v11403 : Index := Scalar.indexCast v11402
  let c0_4163 : Index := 0#32
  ![v11403.toNat, 0]

def k0_chk666 (v11401 : BitVec 32) : Prop :=
  (∀ a, (k0_off1422 v11401) a + S1x256.size a ≤ S4096x256.size a)
theorem k0_off1422_inb : ∀ (v11401 : BitVec 32) (k0_hw666 : k0_chk666 v11401), ∀ a, (k0_off1422 v11401) a + S1x256.size a ≤ S4096x256.size a := fun v11401 k0_hw666 => k0_hw666

def k0_off1423 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4165 : BitVec 32 := 1024#32
  let v11408 : BitVec 32 := Scalar.muli v14 c1024_i32_4165
  let c658_i32 : BitVec 32 := 658#32
  let v11409 : BitVec 32 := Scalar.addi v11408 c658_i32
  let v11410 : Index := Scalar.indexCast v11409
  ![v11410.toNat]
def k0_off1424 (v11411 : BitVec 32) : Fin 2 → Nat :=
  let c4095_i32_4166 : BitVec 32 := 4095#32
  let v11412 : BitVec 32 := Scalar.andi v11411 c4095_i32_4166
  let v11413 : Index := Scalar.indexCast v11412
  let c0_4167 : Index := 0#32
  ![v11413.toNat, 0]

def k0_chk667 (v11411 : BitVec 32) : Prop :=
  (∀ a, (k0_off1424 v11411) a + S1x256.size a ≤ S4096x256.size a)
theorem k0_off1424_inb : ∀ (v11411 : BitVec 32) (k0_hw667 : k0_chk667 v11411), ∀ a, (k0_off1424 v11411) a + S1x256.size a ≤ S4096x256.size a := fun v11411 k0_hw667 => k0_hw667

def k0_off1425 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4169 : BitVec 32 := 1024#32
  let v11418 : BitVec 32 := Scalar.muli v14 c1024_i32_4169
  let c659_i32 : BitVec 32 := 659#32
  let v11419 : BitVec 32 := Scalar.addi v11418 c659_i32
  let v11420 : Index := Scalar.indexCast v11419
  ![v11420.toNat]
def k0_off1426 (v11421 : BitVec 32) : Fin 2 → Nat :=
  let c4095_i32_4170 : BitVec 32 := 4095#32
  let v11422 : BitVec 32 := Scalar.andi v11421 c4095_i32_4170
  let v11423 : Index := Scalar.indexCast v11422
  let c0_4171 : Index := 0#32
  ![v11423.toNat, 0]

def k0_chk668 (v11421 : BitVec 32) : Prop :=
  (∀ a, (k0_off1426 v11421) a + S1x256.size a ≤ S4096x256.size a)
theorem k0_off1426_inb : ∀ (v11421 : BitVec 32) (k0_hw668 : k0_chk668 v11421), ∀ a, (k0_off1426 v11421) a + S1x256.size a ≤ S4096x256.size a := fun v11421 k0_hw668 => k0_hw668

def k0_off1427 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4173 : BitVec 32 := 1024#32
  let v11428 : BitVec 32 := Scalar.muli v14 c1024_i32_4173
  let c660_i32 : BitVec 32 := 660#32
  let v11429 : BitVec 32 := Scalar.addi v11428 c660_i32
  let v11430 : Index := Scalar.indexCast v11429
  ![v11430.toNat]
def k0_off1428 (v11431 : BitVec 32) : Fin 2 → Nat :=
  let c4095_i32_4174 : BitVec 32 := 4095#32
  let v11432 : BitVec 32 := Scalar.andi v11431 c4095_i32_4174
  let v11433 : Index := Scalar.indexCast v11432
  let c0_4175 : Index := 0#32
  ![v11433.toNat, 0]

def k0_chk669 (v11431 : BitVec 32) : Prop :=
  (∀ a, (k0_off1428 v11431) a + S1x256.size a ≤ S4096x256.size a)
theorem k0_off1428_inb : ∀ (v11431 : BitVec 32) (k0_hw669 : k0_chk669 v11431), ∀ a, (k0_off1428 v11431) a + S1x256.size a ≤ S4096x256.size a := fun v11431 k0_hw669 => k0_hw669

def k0_off1429 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4177 : BitVec 32 := 1024#32
  let v11438 : BitVec 32 := Scalar.muli v14 c1024_i32_4177
  let c661_i32 : BitVec 32 := 661#32
  let v11439 : BitVec 32 := Scalar.addi v11438 c661_i32
  let v11440 : Index := Scalar.indexCast v11439
  ![v11440.toNat]
def k0_off1430 (v11441 : BitVec 32) : Fin 2 → Nat :=
  let c4095_i32_4178 : BitVec 32 := 4095#32
  let v11442 : BitVec 32 := Scalar.andi v11441 c4095_i32_4178
  let v11443 : Index := Scalar.indexCast v11442
  let c0_4179 : Index := 0#32
  ![v11443.toNat, 0]

def k0_chk670 (v11441 : BitVec 32) : Prop :=
  (∀ a, (k0_off1430 v11441) a + S1x256.size a ≤ S4096x256.size a)
theorem k0_off1430_inb : ∀ (v11441 : BitVec 32) (k0_hw670 : k0_chk670 v11441), ∀ a, (k0_off1430 v11441) a + S1x256.size a ≤ S4096x256.size a := fun v11441 k0_hw670 => k0_hw670

def k0_off1431 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4181 : BitVec 32 := 1024#32
  let v11448 : BitVec 32 := Scalar.muli v14 c1024_i32_4181
  let c662_i32 : BitVec 32 := 662#32
  let v11449 : BitVec 32 := Scalar.addi v11448 c662_i32
  let v11450 : Index := Scalar.indexCast v11449
  ![v11450.toNat]
def k0_off1432 (v11451 : BitVec 32) : Fin 2 → Nat :=
  let c4095_i32_4182 : BitVec 32 := 4095#32
  let v11452 : BitVec 32 := Scalar.andi v11451 c4095_i32_4182
  let v11453 : Index := Scalar.indexCast v11452
  let c0_4183 : Index := 0#32
  ![v11453.toNat, 0]

def k0_chk671 (v11451 : BitVec 32) : Prop :=
  (∀ a, (k0_off1432 v11451) a + S1x256.size a ≤ S4096x256.size a)
theorem k0_off1432_inb : ∀ (v11451 : BitVec 32) (k0_hw671 : k0_chk671 v11451), ∀ a, (k0_off1432 v11451) a + S1x256.size a ≤ S4096x256.size a := fun v11451 k0_hw671 => k0_hw671

def k0_off1433 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4185 : BitVec 32 := 1024#32
  let v11458 : BitVec 32 := Scalar.muli v14 c1024_i32_4185
  let c663_i32 : BitVec 32 := 663#32
  let v11459 : BitVec 32 := Scalar.addi v11458 c663_i32
  let v11460 : Index := Scalar.indexCast v11459
  ![v11460.toNat]
def k0_off1434 (v11461 : BitVec 32) : Fin 2 → Nat :=
  let c4095_i32_4186 : BitVec 32 := 4095#32
  let v11462 : BitVec 32 := Scalar.andi v11461 c4095_i32_4186
  let v11463 : Index := Scalar.indexCast v11462
  let c0_4187 : Index := 0#32
  ![v11463.toNat, 0]

def k0_chk672 (v11461 : BitVec 32) : Prop :=
  (∀ a, (k0_off1434 v11461) a + S1x256.size a ≤ S4096x256.size a)
theorem k0_off1434_inb : ∀ (v11461 : BitVec 32) (k0_hw672 : k0_chk672 v11461), ∀ a, (k0_off1434 v11461) a + S1x256.size a ≤ S4096x256.size a := fun v11461 k0_hw672 => k0_hw672

def k0_off1435 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4189 : BitVec 32 := 1024#32
  let v11468 : BitVec 32 := Scalar.muli v14 c1024_i32_4189
  let c664_i32 : BitVec 32 := 664#32
  let v11469 : BitVec 32 := Scalar.addi v11468 c664_i32
  let v11470 : Index := Scalar.indexCast v11469
  ![v11470.toNat]
def k0_off1436 (v11471 : BitVec 32) : Fin 2 → Nat :=
  let c4095_i32_4190 : BitVec 32 := 4095#32
  let v11472 : BitVec 32 := Scalar.andi v11471 c4095_i32_4190
  let v11473 : Index := Scalar.indexCast v11472
  let c0_4191 : Index := 0#32
  ![v11473.toNat, 0]

def k0_chk673 (v11471 : BitVec 32) : Prop :=
  (∀ a, (k0_off1436 v11471) a + S1x256.size a ≤ S4096x256.size a)
theorem k0_off1436_inb : ∀ (v11471 : BitVec 32) (k0_hw673 : k0_chk673 v11471), ∀ a, (k0_off1436 v11471) a + S1x256.size a ≤ S4096x256.size a := fun v11471 k0_hw673 => k0_hw673

def k0_off1437 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4193 : BitVec 32 := 1024#32
  let v11478 : BitVec 32 := Scalar.muli v14 c1024_i32_4193
  let c665_i32 : BitVec 32 := 665#32
  let v11479 : BitVec 32 := Scalar.addi v11478 c665_i32
  let v11480 : Index := Scalar.indexCast v11479
  ![v11480.toNat]
def k0_off1438 (v11481 : BitVec 32) : Fin 2 → Nat :=
  let c4095_i32_4194 : BitVec 32 := 4095#32
  let v11482 : BitVec 32 := Scalar.andi v11481 c4095_i32_4194
  let v11483 : Index := Scalar.indexCast v11482
  let c0_4195 : Index := 0#32
  ![v11483.toNat, 0]

def k0_chk674 (v11481 : BitVec 32) : Prop :=
  (∀ a, (k0_off1438 v11481) a + S1x256.size a ≤ S4096x256.size a)
theorem k0_off1438_inb : ∀ (v11481 : BitVec 32) (k0_hw674 : k0_chk674 v11481), ∀ a, (k0_off1438 v11481) a + S1x256.size a ≤ S4096x256.size a := fun v11481 k0_hw674 => k0_hw674

def k0_off1439 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4197 : BitVec 32 := 1024#32
  let v11488 : BitVec 32 := Scalar.muli v14 c1024_i32_4197
  let c666_i32 : BitVec 32 := 666#32
  let v11489 : BitVec 32 := Scalar.addi v11488 c666_i32
  let v11490 : Index := Scalar.indexCast v11489
  ![v11490.toNat]
def k0_off1440 (v11491 : BitVec 32) : Fin 2 → Nat :=
  let c4095_i32_4198 : BitVec 32 := 4095#32
  let v11492 : BitVec 32 := Scalar.andi v11491 c4095_i32_4198
  let v11493 : Index := Scalar.indexCast v11492
  let c0_4199 : Index := 0#32
  ![v11493.toNat, 0]

def k0_chk675 (v11491 : BitVec 32) : Prop :=
  (∀ a, (k0_off1440 v11491) a + S1x256.size a ≤ S4096x256.size a)
theorem k0_off1440_inb : ∀ (v11491 : BitVec 32) (k0_hw675 : k0_chk675 v11491), ∀ a, (k0_off1440 v11491) a + S1x256.size a ≤ S4096x256.size a := fun v11491 k0_hw675 => k0_hw675

def k0_off1441 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4201 : BitVec 32 := 1024#32
  let v11498 : BitVec 32 := Scalar.muli v14 c1024_i32_4201
  let c667_i32 : BitVec 32 := 667#32
  let v11499 : BitVec 32 := Scalar.addi v11498 c667_i32
  let v11500 : Index := Scalar.indexCast v11499
  ![v11500.toNat]
def k0_off1442 (v11501 : BitVec 32) : Fin 2 → Nat :=
  let c4095_i32_4202 : BitVec 32 := 4095#32
  let v11502 : BitVec 32 := Scalar.andi v11501 c4095_i32_4202
  let v11503 : Index := Scalar.indexCast v11502
  let c0_4203 : Index := 0#32
  ![v11503.toNat, 0]

def k0_chk676 (v11501 : BitVec 32) : Prop :=
  (∀ a, (k0_off1442 v11501) a + S1x256.size a ≤ S4096x256.size a)
theorem k0_off1442_inb : ∀ (v11501 : BitVec 32) (k0_hw676 : k0_chk676 v11501), ∀ a, (k0_off1442 v11501) a + S1x256.size a ≤ S4096x256.size a := fun v11501 k0_hw676 => k0_hw676

def k0_off1443 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4205 : BitVec 32 := 1024#32
  let v11508 : BitVec 32 := Scalar.muli v14 c1024_i32_4205
  let c668_i32 : BitVec 32 := 668#32
  let v11509 : BitVec 32 := Scalar.addi v11508 c668_i32
  let v11510 : Index := Scalar.indexCast v11509
  ![v11510.toNat]
def k0_off1444 (v11511 : BitVec 32) : Fin 2 → Nat :=
  let c4095_i32_4206 : BitVec 32 := 4095#32
  let v11512 : BitVec 32 := Scalar.andi v11511 c4095_i32_4206
  let v11513 : Index := Scalar.indexCast v11512
  let c0_4207 : Index := 0#32
  ![v11513.toNat, 0]

def k0_chk677 (v11511 : BitVec 32) : Prop :=
  (∀ a, (k0_off1444 v11511) a + S1x256.size a ≤ S4096x256.size a)
theorem k0_off1444_inb : ∀ (v11511 : BitVec 32) (k0_hw677 : k0_chk677 v11511), ∀ a, (k0_off1444 v11511) a + S1x256.size a ≤ S4096x256.size a := fun v11511 k0_hw677 => k0_hw677

def k0_off1445 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4209 : BitVec 32 := 1024#32
  let v11518 : BitVec 32 := Scalar.muli v14 c1024_i32_4209
  let c669_i32 : BitVec 32 := 669#32
  let v11519 : BitVec 32 := Scalar.addi v11518 c669_i32
  let v11520 : Index := Scalar.indexCast v11519
  ![v11520.toNat]
def k0_off1446 (v11521 : BitVec 32) : Fin 2 → Nat :=
  let c4095_i32_4210 : BitVec 32 := 4095#32
  let v11522 : BitVec 32 := Scalar.andi v11521 c4095_i32_4210
  let v11523 : Index := Scalar.indexCast v11522
  let c0_4211 : Index := 0#32
  ![v11523.toNat, 0]

def k0_chk678 (v11521 : BitVec 32) : Prop :=
  (∀ a, (k0_off1446 v11521) a + S1x256.size a ≤ S4096x256.size a)
theorem k0_off1446_inb : ∀ (v11521 : BitVec 32) (k0_hw678 : k0_chk678 v11521), ∀ a, (k0_off1446 v11521) a + S1x256.size a ≤ S4096x256.size a := fun v11521 k0_hw678 => k0_hw678

def k0_off1447 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4213 : BitVec 32 := 1024#32
  let v11528 : BitVec 32 := Scalar.muli v14 c1024_i32_4213
  let c670_i32 : BitVec 32 := 670#32
  let v11529 : BitVec 32 := Scalar.addi v11528 c670_i32
  let v11530 : Index := Scalar.indexCast v11529
  ![v11530.toNat]
def k0_off1448 (v11531 : BitVec 32) : Fin 2 → Nat :=
  let c4095_i32_4214 : BitVec 32 := 4095#32
  let v11532 : BitVec 32 := Scalar.andi v11531 c4095_i32_4214
  let v11533 : Index := Scalar.indexCast v11532
  let c0_4215 : Index := 0#32
  ![v11533.toNat, 0]

def k0_chk679 (v11531 : BitVec 32) : Prop :=
  (∀ a, (k0_off1448 v11531) a + S1x256.size a ≤ S4096x256.size a)
theorem k0_off1448_inb : ∀ (v11531 : BitVec 32) (k0_hw679 : k0_chk679 v11531), ∀ a, (k0_off1448 v11531) a + S1x256.size a ≤ S4096x256.size a := fun v11531 k0_hw679 => k0_hw679

def k0_off1449 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4217 : BitVec 32 := 1024#32
  let v11538 : BitVec 32 := Scalar.muli v14 c1024_i32_4217
  let c671_i32 : BitVec 32 := 671#32
  let v11539 : BitVec 32 := Scalar.addi v11538 c671_i32
  let v11540 : Index := Scalar.indexCast v11539
  ![v11540.toNat]
def k0_off1450 (v11541 : BitVec 32) : Fin 2 → Nat :=
  let c4095_i32_4218 : BitVec 32 := 4095#32
  let v11542 : BitVec 32 := Scalar.andi v11541 c4095_i32_4218
  let v11543 : Index := Scalar.indexCast v11542
  let c0_4219 : Index := 0#32
  ![v11543.toNat, 0]

def k0_chk680 (v11541 : BitVec 32) : Prop :=
  (∀ a, (k0_off1450 v11541) a + S1x256.size a ≤ S4096x256.size a)
theorem k0_off1450_inb : ∀ (v11541 : BitVec 32) (k0_hw680 : k0_chk680 v11541), ∀ a, (k0_off1450 v11541) a + S1x256.size a ≤ S4096x256.size a := fun v11541 k0_hw680 => k0_hw680

def k0_off1451 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4221 : BitVec 32 := 1024#32
  let v11548 : BitVec 32 := Scalar.muli v14 c1024_i32_4221
  let c672_i32 : BitVec 32 := 672#32
  let v11549 : BitVec 32 := Scalar.addi v11548 c672_i32
  let v11550 : Index := Scalar.indexCast v11549
  ![v11550.toNat]
def k0_off1452 (v11551 : BitVec 32) : Fin 2 → Nat :=
  let c4095_i32_4222 : BitVec 32 := 4095#32
  let v11552 : BitVec 32 := Scalar.andi v11551 c4095_i32_4222
  let v11553 : Index := Scalar.indexCast v11552
  let c0_4223 : Index := 0#32
  ![v11553.toNat, 0]

def k0_chk681 (v11551 : BitVec 32) : Prop :=
  (∀ a, (k0_off1452 v11551) a + S1x256.size a ≤ S4096x256.size a)
theorem k0_off1452_inb : ∀ (v11551 : BitVec 32) (k0_hw681 : k0_chk681 v11551), ∀ a, (k0_off1452 v11551) a + S1x256.size a ≤ S4096x256.size a := fun v11551 k0_hw681 => k0_hw681

def k0_off1453 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4225 : BitVec 32 := 1024#32
  let v11558 : BitVec 32 := Scalar.muli v14 c1024_i32_4225
  let c673_i32 : BitVec 32 := 673#32
  let v11559 : BitVec 32 := Scalar.addi v11558 c673_i32
  let v11560 : Index := Scalar.indexCast v11559
  ![v11560.toNat]
def k0_off1454 (v11561 : BitVec 32) : Fin 2 → Nat :=
  let c4095_i32_4226 : BitVec 32 := 4095#32
  let v11562 : BitVec 32 := Scalar.andi v11561 c4095_i32_4226
  let v11563 : Index := Scalar.indexCast v11562
  let c0_4227 : Index := 0#32
  ![v11563.toNat, 0]

def k0_chk682 (v11561 : BitVec 32) : Prop :=
  (∀ a, (k0_off1454 v11561) a + S1x256.size a ≤ S4096x256.size a)
theorem k0_off1454_inb : ∀ (v11561 : BitVec 32) (k0_hw682 : k0_chk682 v11561), ∀ a, (k0_off1454 v11561) a + S1x256.size a ≤ S4096x256.size a := fun v11561 k0_hw682 => k0_hw682

def k0_off1455 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4229 : BitVec 32 := 1024#32
  let v11568 : BitVec 32 := Scalar.muli v14 c1024_i32_4229
  let c674_i32 : BitVec 32 := 674#32
  let v11569 : BitVec 32 := Scalar.addi v11568 c674_i32
  let v11570 : Index := Scalar.indexCast v11569
  ![v11570.toNat]
def k0_off1456 (v11571 : BitVec 32) : Fin 2 → Nat :=
  let c4095_i32_4230 : BitVec 32 := 4095#32
  let v11572 : BitVec 32 := Scalar.andi v11571 c4095_i32_4230
  let v11573 : Index := Scalar.indexCast v11572
  let c0_4231 : Index := 0#32
  ![v11573.toNat, 0]

def k0_chk683 (v11571 : BitVec 32) : Prop :=
  (∀ a, (k0_off1456 v11571) a + S1x256.size a ≤ S4096x256.size a)
theorem k0_off1456_inb : ∀ (v11571 : BitVec 32) (k0_hw683 : k0_chk683 v11571), ∀ a, (k0_off1456 v11571) a + S1x256.size a ≤ S4096x256.size a := fun v11571 k0_hw683 => k0_hw683

def k0_off1457 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4233 : BitVec 32 := 1024#32
  let v11578 : BitVec 32 := Scalar.muli v14 c1024_i32_4233
  let c675_i32 : BitVec 32 := 675#32
  let v11579 : BitVec 32 := Scalar.addi v11578 c675_i32
  let v11580 : Index := Scalar.indexCast v11579
  ![v11580.toNat]
def k0_off1458 (v11581 : BitVec 32) : Fin 2 → Nat :=
  let c4095_i32_4234 : BitVec 32 := 4095#32
  let v11582 : BitVec 32 := Scalar.andi v11581 c4095_i32_4234
  let v11583 : Index := Scalar.indexCast v11582
  let c0_4235 : Index := 0#32
  ![v11583.toNat, 0]

def k0_chk684 (v11581 : BitVec 32) : Prop :=
  (∀ a, (k0_off1458 v11581) a + S1x256.size a ≤ S4096x256.size a)
theorem k0_off1458_inb : ∀ (v11581 : BitVec 32) (k0_hw684 : k0_chk684 v11581), ∀ a, (k0_off1458 v11581) a + S1x256.size a ≤ S4096x256.size a := fun v11581 k0_hw684 => k0_hw684

def k0_off1459 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4237 : BitVec 32 := 1024#32
  let v11588 : BitVec 32 := Scalar.muli v14 c1024_i32_4237
  let c676_i32 : BitVec 32 := 676#32
  let v11589 : BitVec 32 := Scalar.addi v11588 c676_i32
  let v11590 : Index := Scalar.indexCast v11589
  ![v11590.toNat]
def k0_off1460 (v11591 : BitVec 32) : Fin 2 → Nat :=
  let c4095_i32_4238 : BitVec 32 := 4095#32
  let v11592 : BitVec 32 := Scalar.andi v11591 c4095_i32_4238
  let v11593 : Index := Scalar.indexCast v11592
  let c0_4239 : Index := 0#32
  ![v11593.toNat, 0]

def k0_chk685 (v11591 : BitVec 32) : Prop :=
  (∀ a, (k0_off1460 v11591) a + S1x256.size a ≤ S4096x256.size a)
theorem k0_off1460_inb : ∀ (v11591 : BitVec 32) (k0_hw685 : k0_chk685 v11591), ∀ a, (k0_off1460 v11591) a + S1x256.size a ≤ S4096x256.size a := fun v11591 k0_hw685 => k0_hw685

def k0_off1461 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4241 : BitVec 32 := 1024#32
  let v11598 : BitVec 32 := Scalar.muli v14 c1024_i32_4241
  let c677_i32 : BitVec 32 := 677#32
  let v11599 : BitVec 32 := Scalar.addi v11598 c677_i32
  let v11600 : Index := Scalar.indexCast v11599
  ![v11600.toNat]
def k0_off1462 (v11601 : BitVec 32) : Fin 2 → Nat :=
  let c4095_i32_4242 : BitVec 32 := 4095#32
  let v11602 : BitVec 32 := Scalar.andi v11601 c4095_i32_4242
  let v11603 : Index := Scalar.indexCast v11602
  let c0_4243 : Index := 0#32
  ![v11603.toNat, 0]

def k0_chk686 (v11601 : BitVec 32) : Prop :=
  (∀ a, (k0_off1462 v11601) a + S1x256.size a ≤ S4096x256.size a)
theorem k0_off1462_inb : ∀ (v11601 : BitVec 32) (k0_hw686 : k0_chk686 v11601), ∀ a, (k0_off1462 v11601) a + S1x256.size a ≤ S4096x256.size a := fun v11601 k0_hw686 => k0_hw686

def k0_off1463 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4245 : BitVec 32 := 1024#32
  let v11608 : BitVec 32 := Scalar.muli v14 c1024_i32_4245
  let c678_i32 : BitVec 32 := 678#32
  let v11609 : BitVec 32 := Scalar.addi v11608 c678_i32
  let v11610 : Index := Scalar.indexCast v11609
  ![v11610.toNat]
def k0_off1464 (v11611 : BitVec 32) : Fin 2 → Nat :=
  let c4095_i32_4246 : BitVec 32 := 4095#32
  let v11612 : BitVec 32 := Scalar.andi v11611 c4095_i32_4246
  let v11613 : Index := Scalar.indexCast v11612
  let c0_4247 : Index := 0#32
  ![v11613.toNat, 0]

def k0_chk687 (v11611 : BitVec 32) : Prop :=
  (∀ a, (k0_off1464 v11611) a + S1x256.size a ≤ S4096x256.size a)
theorem k0_off1464_inb : ∀ (v11611 : BitVec 32) (k0_hw687 : k0_chk687 v11611), ∀ a, (k0_off1464 v11611) a + S1x256.size a ≤ S4096x256.size a := fun v11611 k0_hw687 => k0_hw687

def k0_off1465 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4249 : BitVec 32 := 1024#32
  let v11618 : BitVec 32 := Scalar.muli v14 c1024_i32_4249
  let c679_i32 : BitVec 32 := 679#32
  let v11619 : BitVec 32 := Scalar.addi v11618 c679_i32
  let v11620 : Index := Scalar.indexCast v11619
  ![v11620.toNat]
def k0_off1466 (v11621 : BitVec 32) : Fin 2 → Nat :=
  let c4095_i32_4250 : BitVec 32 := 4095#32
  let v11622 : BitVec 32 := Scalar.andi v11621 c4095_i32_4250
  let v11623 : Index := Scalar.indexCast v11622
  let c0_4251 : Index := 0#32
  ![v11623.toNat, 0]

def k0_chk688 (v11621 : BitVec 32) : Prop :=
  (∀ a, (k0_off1466 v11621) a + S1x256.size a ≤ S4096x256.size a)
theorem k0_off1466_inb : ∀ (v11621 : BitVec 32) (k0_hw688 : k0_chk688 v11621), ∀ a, (k0_off1466 v11621) a + S1x256.size a ≤ S4096x256.size a := fun v11621 k0_hw688 => k0_hw688

def k0_off1467 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4253 : BitVec 32 := 1024#32
  let v11628 : BitVec 32 := Scalar.muli v14 c1024_i32_4253
  let c680_i32 : BitVec 32 := 680#32
  let v11629 : BitVec 32 := Scalar.addi v11628 c680_i32
  let v11630 : Index := Scalar.indexCast v11629
  ![v11630.toNat]
def k0_off1468 (v11631 : BitVec 32) : Fin 2 → Nat :=
  let c4095_i32_4254 : BitVec 32 := 4095#32
  let v11632 : BitVec 32 := Scalar.andi v11631 c4095_i32_4254
  let v11633 : Index := Scalar.indexCast v11632
  let c0_4255 : Index := 0#32
  ![v11633.toNat, 0]

def k0_chk689 (v11631 : BitVec 32) : Prop :=
  (∀ a, (k0_off1468 v11631) a + S1x256.size a ≤ S4096x256.size a)
theorem k0_off1468_inb : ∀ (v11631 : BitVec 32) (k0_hw689 : k0_chk689 v11631), ∀ a, (k0_off1468 v11631) a + S1x256.size a ≤ S4096x256.size a := fun v11631 k0_hw689 => k0_hw689

def k0_off1469 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4257 : BitVec 32 := 1024#32
  let v11638 : BitVec 32 := Scalar.muli v14 c1024_i32_4257
  let c681_i32 : BitVec 32 := 681#32
  let v11639 : BitVec 32 := Scalar.addi v11638 c681_i32
  let v11640 : Index := Scalar.indexCast v11639
  ![v11640.toNat]
def k0_off1470 (v11641 : BitVec 32) : Fin 2 → Nat :=
  let c4095_i32_4258 : BitVec 32 := 4095#32
  let v11642 : BitVec 32 := Scalar.andi v11641 c4095_i32_4258
  let v11643 : Index := Scalar.indexCast v11642
  let c0_4259 : Index := 0#32
  ![v11643.toNat, 0]

def k0_chk690 (v11641 : BitVec 32) : Prop :=
  (∀ a, (k0_off1470 v11641) a + S1x256.size a ≤ S4096x256.size a)
theorem k0_off1470_inb : ∀ (v11641 : BitVec 32) (k0_hw690 : k0_chk690 v11641), ∀ a, (k0_off1470 v11641) a + S1x256.size a ≤ S4096x256.size a := fun v11641 k0_hw690 => k0_hw690

def k0_off1471 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4261 : BitVec 32 := 1024#32
  let v11648 : BitVec 32 := Scalar.muli v14 c1024_i32_4261
  let c682_i32 : BitVec 32 := 682#32
  let v11649 : BitVec 32 := Scalar.addi v11648 c682_i32
  let v11650 : Index := Scalar.indexCast v11649
  ![v11650.toNat]
def k0_off1472 (v11651 : BitVec 32) : Fin 2 → Nat :=
  let c4095_i32_4262 : BitVec 32 := 4095#32
  let v11652 : BitVec 32 := Scalar.andi v11651 c4095_i32_4262
  let v11653 : Index := Scalar.indexCast v11652
  let c0_4263 : Index := 0#32
  ![v11653.toNat, 0]

def k0_chk691 (v11651 : BitVec 32) : Prop :=
  (∀ a, (k0_off1472 v11651) a + S1x256.size a ≤ S4096x256.size a)
theorem k0_off1472_inb : ∀ (v11651 : BitVec 32) (k0_hw691 : k0_chk691 v11651), ∀ a, (k0_off1472 v11651) a + S1x256.size a ≤ S4096x256.size a := fun v11651 k0_hw691 => k0_hw691

def k0_off1473 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v11715 : Index := Scalar.indexCast v12
  let c0_4280 : Index := 0#32
  let c0_4281 : Index := 0#32
  ![v11715.toNat, 0, 0]
def k0_off1474 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v11776 : Index := Scalar.indexCast v12
  let c0_4299 : Index := 0#32
  let c256_4300 : Index := 256#32
  ![v11776.toNat, 0, 256]
def k0_off1475 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v11838 : Index := Scalar.indexCast v12
  let c0_4318 : Index := 0#32
  let c512_4319 : Index := 512#32
  ![v11838.toNat, 0, 512]
def k0_off1476 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v11900 : Index := Scalar.indexCast v12
  let c0_4337 : Index := 0#32
  let c768_4338 : Index := 768#32
  ![v11900.toNat, 0, 768]
def k0_off1477 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4344 : BitVec 32 := 1024#32
  let v11910 : BitVec 32 := Scalar.muli v14 c1024_i32_4344
  let c683_i32 : BitVec 32 := 683#32
  let v11911 : BitVec 32 := Scalar.addi v11910 c683_i32
  let v11912 : Index := Scalar.indexCast v11911
  ![v11912.toNat]
def k0_off1478 (v11913 : BitVec 32) : Fin 2 → Nat :=
  let c4095_i32_4345 : BitVec 32 := 4095#32
  let v11914 : BitVec 32 := Scalar.andi v11913 c4095_i32_4345
  let v11915 : Index := Scalar.indexCast v11914
  let c0_4346 : Index := 0#32
  ![v11915.toNat, 0]

def k0_chk692 (v11913 : BitVec 32) : Prop :=
  (∀ a, (k0_off1478 v11913) a + S1x256.size a ≤ S4096x256.size a)
theorem k0_off1478_inb : ∀ (v11913 : BitVec 32) (k0_hw692 : k0_chk692 v11913), ∀ a, (k0_off1478 v11913) a + S1x256.size a ≤ S4096x256.size a := fun v11913 k0_hw692 => k0_hw692

def k0_off1479 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4348 : BitVec 32 := 1024#32
  let v11920 : BitVec 32 := Scalar.muli v14 c1024_i32_4348
  let c684_i32 : BitVec 32 := 684#32
  let v11921 : BitVec 32 := Scalar.addi v11920 c684_i32
  let v11922 : Index := Scalar.indexCast v11921
  ![v11922.toNat]
def k0_off1480 (v11923 : BitVec 32) : Fin 2 → Nat :=
  let c4095_i32_4349 : BitVec 32 := 4095#32
  let v11924 : BitVec 32 := Scalar.andi v11923 c4095_i32_4349
  let v11925 : Index := Scalar.indexCast v11924
  let c0_4350 : Index := 0#32
  ![v11925.toNat, 0]

def k0_chk693 (v11923 : BitVec 32) : Prop :=
  (∀ a, (k0_off1480 v11923) a + S1x256.size a ≤ S4096x256.size a)
theorem k0_off1480_inb : ∀ (v11923 : BitVec 32) (k0_hw693 : k0_chk693 v11923), ∀ a, (k0_off1480 v11923) a + S1x256.size a ≤ S4096x256.size a := fun v11923 k0_hw693 => k0_hw693

def k0_off1481 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4352 : BitVec 32 := 1024#32
  let v11930 : BitVec 32 := Scalar.muli v14 c1024_i32_4352
  let c685_i32 : BitVec 32 := 685#32
  let v11931 : BitVec 32 := Scalar.addi v11930 c685_i32
  let v11932 : Index := Scalar.indexCast v11931
  ![v11932.toNat]
def k0_off1482 (v11933 : BitVec 32) : Fin 2 → Nat :=
  let c4095_i32_4353 : BitVec 32 := 4095#32
  let v11934 : BitVec 32 := Scalar.andi v11933 c4095_i32_4353
  let v11935 : Index := Scalar.indexCast v11934
  let c0_4354 : Index := 0#32
  ![v11935.toNat, 0]

def k0_chk694 (v11933 : BitVec 32) : Prop :=
  (∀ a, (k0_off1482 v11933) a + S1x256.size a ≤ S4096x256.size a)
theorem k0_off1482_inb : ∀ (v11933 : BitVec 32) (k0_hw694 : k0_chk694 v11933), ∀ a, (k0_off1482 v11933) a + S1x256.size a ≤ S4096x256.size a := fun v11933 k0_hw694 => k0_hw694

def k0_off1483 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4356 : BitVec 32 := 1024#32
  let v11940 : BitVec 32 := Scalar.muli v14 c1024_i32_4356
  let c686_i32 : BitVec 32 := 686#32
  let v11941 : BitVec 32 := Scalar.addi v11940 c686_i32
  let v11942 : Index := Scalar.indexCast v11941
  ![v11942.toNat]
def k0_off1484 (v11943 : BitVec 32) : Fin 2 → Nat :=
  let c4095_i32_4357 : BitVec 32 := 4095#32
  let v11944 : BitVec 32 := Scalar.andi v11943 c4095_i32_4357
  let v11945 : Index := Scalar.indexCast v11944
  let c0_4358 : Index := 0#32
  ![v11945.toNat, 0]

def k0_chk695 (v11943 : BitVec 32) : Prop :=
  (∀ a, (k0_off1484 v11943) a + S1x256.size a ≤ S4096x256.size a)
theorem k0_off1484_inb : ∀ (v11943 : BitVec 32) (k0_hw695 : k0_chk695 v11943), ∀ a, (k0_off1484 v11943) a + S1x256.size a ≤ S4096x256.size a := fun v11943 k0_hw695 => k0_hw695

def k0_off1485 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4360 : BitVec 32 := 1024#32
  let v11950 : BitVec 32 := Scalar.muli v14 c1024_i32_4360
  let c687_i32 : BitVec 32 := 687#32
  let v11951 : BitVec 32 := Scalar.addi v11950 c687_i32
  let v11952 : Index := Scalar.indexCast v11951
  ![v11952.toNat]
def k0_off1486 (v11953 : BitVec 32) : Fin 2 → Nat :=
  let c4095_i32_4361 : BitVec 32 := 4095#32
  let v11954 : BitVec 32 := Scalar.andi v11953 c4095_i32_4361
  let v11955 : Index := Scalar.indexCast v11954
  let c0_4362 : Index := 0#32
  ![v11955.toNat, 0]

def k0_chk696 (v11953 : BitVec 32) : Prop :=
  (∀ a, (k0_off1486 v11953) a + S1x256.size a ≤ S4096x256.size a)
theorem k0_off1486_inb : ∀ (v11953 : BitVec 32) (k0_hw696 : k0_chk696 v11953), ∀ a, (k0_off1486 v11953) a + S1x256.size a ≤ S4096x256.size a := fun v11953 k0_hw696 => k0_hw696

def k0_off1487 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4364 : BitVec 32 := 1024#32
  let v11960 : BitVec 32 := Scalar.muli v14 c1024_i32_4364
  let c688_i32 : BitVec 32 := 688#32
  let v11961 : BitVec 32 := Scalar.addi v11960 c688_i32
  let v11962 : Index := Scalar.indexCast v11961
  ![v11962.toNat]
def k0_off1488 (v11963 : BitVec 32) : Fin 2 → Nat :=
  let c4095_i32_4365 : BitVec 32 := 4095#32
  let v11964 : BitVec 32 := Scalar.andi v11963 c4095_i32_4365
  let v11965 : Index := Scalar.indexCast v11964
  let c0_4366 : Index := 0#32
  ![v11965.toNat, 0]

def k0_chk697 (v11963 : BitVec 32) : Prop :=
  (∀ a, (k0_off1488 v11963) a + S1x256.size a ≤ S4096x256.size a)
theorem k0_off1488_inb : ∀ (v11963 : BitVec 32) (k0_hw697 : k0_chk697 v11963), ∀ a, (k0_off1488 v11963) a + S1x256.size a ≤ S4096x256.size a := fun v11963 k0_hw697 => k0_hw697

def k0_off1489 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4368 : BitVec 32 := 1024#32
  let v11970 : BitVec 32 := Scalar.muli v14 c1024_i32_4368
  let c689_i32 : BitVec 32 := 689#32
  let v11971 : BitVec 32 := Scalar.addi v11970 c689_i32
  let v11972 : Index := Scalar.indexCast v11971
  ![v11972.toNat]
def k0_off1490 (v11973 : BitVec 32) : Fin 2 → Nat :=
  let c4095_i32_4369 : BitVec 32 := 4095#32
  let v11974 : BitVec 32 := Scalar.andi v11973 c4095_i32_4369
  let v11975 : Index := Scalar.indexCast v11974
  let c0_4370 : Index := 0#32
  ![v11975.toNat, 0]

def k0_chk698 (v11973 : BitVec 32) : Prop :=
  (∀ a, (k0_off1490 v11973) a + S1x256.size a ≤ S4096x256.size a)
theorem k0_off1490_inb : ∀ (v11973 : BitVec 32) (k0_hw698 : k0_chk698 v11973), ∀ a, (k0_off1490 v11973) a + S1x256.size a ≤ S4096x256.size a := fun v11973 k0_hw698 => k0_hw698

def k0_off1491 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4372 : BitVec 32 := 1024#32
  let v11980 : BitVec 32 := Scalar.muli v14 c1024_i32_4372
  let c690_i32 : BitVec 32 := 690#32
  let v11981 : BitVec 32 := Scalar.addi v11980 c690_i32
  let v11982 : Index := Scalar.indexCast v11981
  ![v11982.toNat]
def k0_off1492 (v11983 : BitVec 32) : Fin 2 → Nat :=
  let c4095_i32_4373 : BitVec 32 := 4095#32
  let v11984 : BitVec 32 := Scalar.andi v11983 c4095_i32_4373
  let v11985 : Index := Scalar.indexCast v11984
  let c0_4374 : Index := 0#32
  ![v11985.toNat, 0]

def k0_chk699 (v11983 : BitVec 32) : Prop :=
  (∀ a, (k0_off1492 v11983) a + S1x256.size a ≤ S4096x256.size a)
theorem k0_off1492_inb : ∀ (v11983 : BitVec 32) (k0_hw699 : k0_chk699 v11983), ∀ a, (k0_off1492 v11983) a + S1x256.size a ≤ S4096x256.size a := fun v11983 k0_hw699 => k0_hw699

def k0_off1493 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4376 : BitVec 32 := 1024#32
  let v11990 : BitVec 32 := Scalar.muli v14 c1024_i32_4376
  let c691_i32 : BitVec 32 := 691#32
  let v11991 : BitVec 32 := Scalar.addi v11990 c691_i32
  let v11992 : Index := Scalar.indexCast v11991
  ![v11992.toNat]
def k0_off1494 (v11993 : BitVec 32) : Fin 2 → Nat :=
  let c4095_i32_4377 : BitVec 32 := 4095#32
  let v11994 : BitVec 32 := Scalar.andi v11993 c4095_i32_4377
  let v11995 : Index := Scalar.indexCast v11994
  let c0_4378 : Index := 0#32
  ![v11995.toNat, 0]

def k0_chk700 (v11993 : BitVec 32) : Prop :=
  (∀ a, (k0_off1494 v11993) a + S1x256.size a ≤ S4096x256.size a)
theorem k0_off1494_inb : ∀ (v11993 : BitVec 32) (k0_hw700 : k0_chk700 v11993), ∀ a, (k0_off1494 v11993) a + S1x256.size a ≤ S4096x256.size a := fun v11993 k0_hw700 => k0_hw700

def k0_off1495 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4380 : BitVec 32 := 1024#32
  let v12000 : BitVec 32 := Scalar.muli v14 c1024_i32_4380
  let c692_i32 : BitVec 32 := 692#32
  let v12001 : BitVec 32 := Scalar.addi v12000 c692_i32
  let v12002 : Index := Scalar.indexCast v12001
  ![v12002.toNat]
def k0_off1496 (v12003 : BitVec 32) : Fin 2 → Nat :=
  let c4095_i32_4381 : BitVec 32 := 4095#32
  let v12004 : BitVec 32 := Scalar.andi v12003 c4095_i32_4381
  let v12005 : Index := Scalar.indexCast v12004
  let c0_4382 : Index := 0#32
  ![v12005.toNat, 0]

def k0_chk701 (v12003 : BitVec 32) : Prop :=
  (∀ a, (k0_off1496 v12003) a + S1x256.size a ≤ S4096x256.size a)
theorem k0_off1496_inb : ∀ (v12003 : BitVec 32) (k0_hw701 : k0_chk701 v12003), ∀ a, (k0_off1496 v12003) a + S1x256.size a ≤ S4096x256.size a := fun v12003 k0_hw701 => k0_hw701

def k0_off1497 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4384 : BitVec 32 := 1024#32
  let v12010 : BitVec 32 := Scalar.muli v14 c1024_i32_4384
  let c693_i32 : BitVec 32 := 693#32
  let v12011 : BitVec 32 := Scalar.addi v12010 c693_i32
  let v12012 : Index := Scalar.indexCast v12011
  ![v12012.toNat]
def k0_off1498 (v12013 : BitVec 32) : Fin 2 → Nat :=
  let c4095_i32_4385 : BitVec 32 := 4095#32
  let v12014 : BitVec 32 := Scalar.andi v12013 c4095_i32_4385
  let v12015 : Index := Scalar.indexCast v12014
  let c0_4386 : Index := 0#32
  ![v12015.toNat, 0]

def k0_chk702 (v12013 : BitVec 32) : Prop :=
  (∀ a, (k0_off1498 v12013) a + S1x256.size a ≤ S4096x256.size a)
theorem k0_off1498_inb : ∀ (v12013 : BitVec 32) (k0_hw702 : k0_chk702 v12013), ∀ a, (k0_off1498 v12013) a + S1x256.size a ≤ S4096x256.size a := fun v12013 k0_hw702 => k0_hw702

def k0_off1499 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4388 : BitVec 32 := 1024#32
  let v12020 : BitVec 32 := Scalar.muli v14 c1024_i32_4388
  let c694_i32 : BitVec 32 := 694#32
  let v12021 : BitVec 32 := Scalar.addi v12020 c694_i32
  let v12022 : Index := Scalar.indexCast v12021
  ![v12022.toNat]
def k0_off1500 (v12023 : BitVec 32) : Fin 2 → Nat :=
  let c4095_i32_4389 : BitVec 32 := 4095#32
  let v12024 : BitVec 32 := Scalar.andi v12023 c4095_i32_4389
  let v12025 : Index := Scalar.indexCast v12024
  let c0_4390 : Index := 0#32
  ![v12025.toNat, 0]

def k0_chk703 (v12023 : BitVec 32) : Prop :=
  (∀ a, (k0_off1500 v12023) a + S1x256.size a ≤ S4096x256.size a)
theorem k0_off1500_inb : ∀ (v12023 : BitVec 32) (k0_hw703 : k0_chk703 v12023), ∀ a, (k0_off1500 v12023) a + S1x256.size a ≤ S4096x256.size a := fun v12023 k0_hw703 => k0_hw703

def k0_off1501 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4392 : BitVec 32 := 1024#32
  let v12030 : BitVec 32 := Scalar.muli v14 c1024_i32_4392
  let c695_i32 : BitVec 32 := 695#32
  let v12031 : BitVec 32 := Scalar.addi v12030 c695_i32
  let v12032 : Index := Scalar.indexCast v12031
  ![v12032.toNat]
def k0_off1502 (v12033 : BitVec 32) : Fin 2 → Nat :=
  let c4095_i32_4393 : BitVec 32 := 4095#32
  let v12034 : BitVec 32 := Scalar.andi v12033 c4095_i32_4393
  let v12035 : Index := Scalar.indexCast v12034
  let c0_4394 : Index := 0#32
  ![v12035.toNat, 0]

def k0_chk704 (v12033 : BitVec 32) : Prop :=
  (∀ a, (k0_off1502 v12033) a + S1x256.size a ≤ S4096x256.size a)
theorem k0_off1502_inb : ∀ (v12033 : BitVec 32) (k0_hw704 : k0_chk704 v12033), ∀ a, (k0_off1502 v12033) a + S1x256.size a ≤ S4096x256.size a := fun v12033 k0_hw704 => k0_hw704

def k0_off1503 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4396 : BitVec 32 := 1024#32
  let v12040 : BitVec 32 := Scalar.muli v14 c1024_i32_4396
  let c696_i32 : BitVec 32 := 696#32
  let v12041 : BitVec 32 := Scalar.addi v12040 c696_i32
  let v12042 : Index := Scalar.indexCast v12041
  ![v12042.toNat]
def k0_off1504 (v12043 : BitVec 32) : Fin 2 → Nat :=
  let c4095_i32_4397 : BitVec 32 := 4095#32
  let v12044 : BitVec 32 := Scalar.andi v12043 c4095_i32_4397
  let v12045 : Index := Scalar.indexCast v12044
  let c0_4398 : Index := 0#32
  ![v12045.toNat, 0]

def k0_chk705 (v12043 : BitVec 32) : Prop :=
  (∀ a, (k0_off1504 v12043) a + S1x256.size a ≤ S4096x256.size a)
theorem k0_off1504_inb : ∀ (v12043 : BitVec 32) (k0_hw705 : k0_chk705 v12043), ∀ a, (k0_off1504 v12043) a + S1x256.size a ≤ S4096x256.size a := fun v12043 k0_hw705 => k0_hw705

def k0_off1505 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4400 : BitVec 32 := 1024#32
  let v12050 : BitVec 32 := Scalar.muli v14 c1024_i32_4400
  let c697_i32 : BitVec 32 := 697#32
  let v12051 : BitVec 32 := Scalar.addi v12050 c697_i32
  let v12052 : Index := Scalar.indexCast v12051
  ![v12052.toNat]
def k0_off1506 (v12053 : BitVec 32) : Fin 2 → Nat :=
  let c4095_i32_4401 : BitVec 32 := 4095#32
  let v12054 : BitVec 32 := Scalar.andi v12053 c4095_i32_4401
  let v12055 : Index := Scalar.indexCast v12054
  let c0_4402 : Index := 0#32
  ![v12055.toNat, 0]

def k0_chk706 (v12053 : BitVec 32) : Prop :=
  (∀ a, (k0_off1506 v12053) a + S1x256.size a ≤ S4096x256.size a)
theorem k0_off1506_inb : ∀ (v12053 : BitVec 32) (k0_hw706 : k0_chk706 v12053), ∀ a, (k0_off1506 v12053) a + S1x256.size a ≤ S4096x256.size a := fun v12053 k0_hw706 => k0_hw706

def k0_off1507 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4404 : BitVec 32 := 1024#32
  let v12060 : BitVec 32 := Scalar.muli v14 c1024_i32_4404
  let c698_i32 : BitVec 32 := 698#32
  let v12061 : BitVec 32 := Scalar.addi v12060 c698_i32
  let v12062 : Index := Scalar.indexCast v12061
  ![v12062.toNat]
def k0_off1508 (v12063 : BitVec 32) : Fin 2 → Nat :=
  let c4095_i32_4405 : BitVec 32 := 4095#32
  let v12064 : BitVec 32 := Scalar.andi v12063 c4095_i32_4405
  let v12065 : Index := Scalar.indexCast v12064
  let c0_4406 : Index := 0#32
  ![v12065.toNat, 0]

def k0_chk707 (v12063 : BitVec 32) : Prop :=
  (∀ a, (k0_off1508 v12063) a + S1x256.size a ≤ S4096x256.size a)
theorem k0_off1508_inb : ∀ (v12063 : BitVec 32) (k0_hw707 : k0_chk707 v12063), ∀ a, (k0_off1508 v12063) a + S1x256.size a ≤ S4096x256.size a := fun v12063 k0_hw707 => k0_hw707

def k0_off1509 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4408 : BitVec 32 := 1024#32
  let v12070 : BitVec 32 := Scalar.muli v14 c1024_i32_4408
  let c699_i32 : BitVec 32 := 699#32
  let v12071 : BitVec 32 := Scalar.addi v12070 c699_i32
  let v12072 : Index := Scalar.indexCast v12071
  ![v12072.toNat]
def k0_off1510 (v12073 : BitVec 32) : Fin 2 → Nat :=
  let c4095_i32_4409 : BitVec 32 := 4095#32
  let v12074 : BitVec 32 := Scalar.andi v12073 c4095_i32_4409
  let v12075 : Index := Scalar.indexCast v12074
  let c0_4410 : Index := 0#32
  ![v12075.toNat, 0]

def k0_chk708 (v12073 : BitVec 32) : Prop :=
  (∀ a, (k0_off1510 v12073) a + S1x256.size a ≤ S4096x256.size a)
theorem k0_off1510_inb : ∀ (v12073 : BitVec 32) (k0_hw708 : k0_chk708 v12073), ∀ a, (k0_off1510 v12073) a + S1x256.size a ≤ S4096x256.size a := fun v12073 k0_hw708 => k0_hw708

def k0_off1511 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4412 : BitVec 32 := 1024#32
  let v12080 : BitVec 32 := Scalar.muli v14 c1024_i32_4412
  let c700_i32 : BitVec 32 := 700#32
  let v12081 : BitVec 32 := Scalar.addi v12080 c700_i32
  let v12082 : Index := Scalar.indexCast v12081
  ![v12082.toNat]
def k0_off1512 (v12083 : BitVec 32) : Fin 2 → Nat :=
  let c4095_i32_4413 : BitVec 32 := 4095#32
  let v12084 : BitVec 32 := Scalar.andi v12083 c4095_i32_4413
  let v12085 : Index := Scalar.indexCast v12084
  let c0_4414 : Index := 0#32
  ![v12085.toNat, 0]

def k0_chk709 (v12083 : BitVec 32) : Prop :=
  (∀ a, (k0_off1512 v12083) a + S1x256.size a ≤ S4096x256.size a)
theorem k0_off1512_inb : ∀ (v12083 : BitVec 32) (k0_hw709 : k0_chk709 v12083), ∀ a, (k0_off1512 v12083) a + S1x256.size a ≤ S4096x256.size a := fun v12083 k0_hw709 => k0_hw709

def k0_off1513 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4416 : BitVec 32 := 1024#32
  let v12090 : BitVec 32 := Scalar.muli v14 c1024_i32_4416
  let c701_i32 : BitVec 32 := 701#32
  let v12091 : BitVec 32 := Scalar.addi v12090 c701_i32
  let v12092 : Index := Scalar.indexCast v12091
  ![v12092.toNat]
def k0_off1514 (v12093 : BitVec 32) : Fin 2 → Nat :=
  let c4095_i32_4417 : BitVec 32 := 4095#32
  let v12094 : BitVec 32 := Scalar.andi v12093 c4095_i32_4417
  let v12095 : Index := Scalar.indexCast v12094
  let c0_4418 : Index := 0#32
  ![v12095.toNat, 0]

def k0_chk710 (v12093 : BitVec 32) : Prop :=
  (∀ a, (k0_off1514 v12093) a + S1x256.size a ≤ S4096x256.size a)
theorem k0_off1514_inb : ∀ (v12093 : BitVec 32) (k0_hw710 : k0_chk710 v12093), ∀ a, (k0_off1514 v12093) a + S1x256.size a ≤ S4096x256.size a := fun v12093 k0_hw710 => k0_hw710

def k0_off1515 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4420 : BitVec 32 := 1024#32
  let v12100 : BitVec 32 := Scalar.muli v14 c1024_i32_4420
  let c702_i32 : BitVec 32 := 702#32
  let v12101 : BitVec 32 := Scalar.addi v12100 c702_i32
  let v12102 : Index := Scalar.indexCast v12101
  ![v12102.toNat]
def k0_off1516 (v12103 : BitVec 32) : Fin 2 → Nat :=
  let c4095_i32_4421 : BitVec 32 := 4095#32
  let v12104 : BitVec 32 := Scalar.andi v12103 c4095_i32_4421
  let v12105 : Index := Scalar.indexCast v12104
  let c0_4422 : Index := 0#32
  ![v12105.toNat, 0]

def k0_chk711 (v12103 : BitVec 32) : Prop :=
  (∀ a, (k0_off1516 v12103) a + S1x256.size a ≤ S4096x256.size a)
theorem k0_off1516_inb : ∀ (v12103 : BitVec 32) (k0_hw711 : k0_chk711 v12103), ∀ a, (k0_off1516 v12103) a + S1x256.size a ≤ S4096x256.size a := fun v12103 k0_hw711 => k0_hw711

def k0_off1517 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4424 : BitVec 32 := 1024#32
  let v12110 : BitVec 32 := Scalar.muli v14 c1024_i32_4424
  let c703_i32 : BitVec 32 := 703#32
  let v12111 : BitVec 32 := Scalar.addi v12110 c703_i32
  let v12112 : Index := Scalar.indexCast v12111
  ![v12112.toNat]
def k0_off1518 (v12113 : BitVec 32) : Fin 2 → Nat :=
  let c4095_i32_4425 : BitVec 32 := 4095#32
  let v12114 : BitVec 32 := Scalar.andi v12113 c4095_i32_4425
  let v12115 : Index := Scalar.indexCast v12114
  let c0_4426 : Index := 0#32
  ![v12115.toNat, 0]

def k0_chk712 (v12113 : BitVec 32) : Prop :=
  (∀ a, (k0_off1518 v12113) a + S1x256.size a ≤ S4096x256.size a)
theorem k0_off1518_inb : ∀ (v12113 : BitVec 32) (k0_hw712 : k0_chk712 v12113), ∀ a, (k0_off1518 v12113) a + S1x256.size a ≤ S4096x256.size a := fun v12113 k0_hw712 => k0_hw712

def k0_off1519 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4428 : BitVec 32 := 1024#32
  let v12120 : BitVec 32 := Scalar.muli v14 c1024_i32_4428
  let c704_i32 : BitVec 32 := 704#32
  let v12121 : BitVec 32 := Scalar.addi v12120 c704_i32
  let v12122 : Index := Scalar.indexCast v12121
  ![v12122.toNat]
def k0_off1520 (v12123 : BitVec 32) : Fin 2 → Nat :=
  let c4095_i32_4429 : BitVec 32 := 4095#32
  let v12124 : BitVec 32 := Scalar.andi v12123 c4095_i32_4429
  let v12125 : Index := Scalar.indexCast v12124
  let c0_4430 : Index := 0#32
  ![v12125.toNat, 0]

def k0_chk713 (v12123 : BitVec 32) : Prop :=
  (∀ a, (k0_off1520 v12123) a + S1x256.size a ≤ S4096x256.size a)
theorem k0_off1520_inb : ∀ (v12123 : BitVec 32) (k0_hw713 : k0_chk713 v12123), ∀ a, (k0_off1520 v12123) a + S1x256.size a ≤ S4096x256.size a := fun v12123 k0_hw713 => k0_hw713

def k0_off1521 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4432 : BitVec 32 := 1024#32
  let v12130 : BitVec 32 := Scalar.muli v14 c1024_i32_4432
  let c705_i32 : BitVec 32 := 705#32
  let v12131 : BitVec 32 := Scalar.addi v12130 c705_i32
  let v12132 : Index := Scalar.indexCast v12131
  ![v12132.toNat]
def k0_off1522 (v12133 : BitVec 32) : Fin 2 → Nat :=
  let c4095_i32_4433 : BitVec 32 := 4095#32
  let v12134 : BitVec 32 := Scalar.andi v12133 c4095_i32_4433
  let v12135 : Index := Scalar.indexCast v12134
  let c0_4434 : Index := 0#32
  ![v12135.toNat, 0]

def k0_chk714 (v12133 : BitVec 32) : Prop :=
  (∀ a, (k0_off1522 v12133) a + S1x256.size a ≤ S4096x256.size a)
theorem k0_off1522_inb : ∀ (v12133 : BitVec 32) (k0_hw714 : k0_chk714 v12133), ∀ a, (k0_off1522 v12133) a + S1x256.size a ≤ S4096x256.size a := fun v12133 k0_hw714 => k0_hw714

def k0_off1523 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4436 : BitVec 32 := 1024#32
  let v12140 : BitVec 32 := Scalar.muli v14 c1024_i32_4436
  let c706_i32 : BitVec 32 := 706#32
  let v12141 : BitVec 32 := Scalar.addi v12140 c706_i32
  let v12142 : Index := Scalar.indexCast v12141
  ![v12142.toNat]
def k0_off1524 (v12143 : BitVec 32) : Fin 2 → Nat :=
  let c4095_i32_4437 : BitVec 32 := 4095#32
  let v12144 : BitVec 32 := Scalar.andi v12143 c4095_i32_4437
  let v12145 : Index := Scalar.indexCast v12144
  let c0_4438 : Index := 0#32
  ![v12145.toNat, 0]

def k0_chk715 (v12143 : BitVec 32) : Prop :=
  (∀ a, (k0_off1524 v12143) a + S1x256.size a ≤ S4096x256.size a)
theorem k0_off1524_inb : ∀ (v12143 : BitVec 32) (k0_hw715 : k0_chk715 v12143), ∀ a, (k0_off1524 v12143) a + S1x256.size a ≤ S4096x256.size a := fun v12143 k0_hw715 => k0_hw715

def k0_off1525 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4440 : BitVec 32 := 1024#32
  let v12150 : BitVec 32 := Scalar.muli v14 c1024_i32_4440
  let c707_i32 : BitVec 32 := 707#32
  let v12151 : BitVec 32 := Scalar.addi v12150 c707_i32
  let v12152 : Index := Scalar.indexCast v12151
  ![v12152.toNat]
def k0_off1526 (v12153 : BitVec 32) : Fin 2 → Nat :=
  let c4095_i32_4441 : BitVec 32 := 4095#32
  let v12154 : BitVec 32 := Scalar.andi v12153 c4095_i32_4441
  let v12155 : Index := Scalar.indexCast v12154
  let c0_4442 : Index := 0#32
  ![v12155.toNat, 0]

def k0_chk716 (v12153 : BitVec 32) : Prop :=
  (∀ a, (k0_off1526 v12153) a + S1x256.size a ≤ S4096x256.size a)
theorem k0_off1526_inb : ∀ (v12153 : BitVec 32) (k0_hw716 : k0_chk716 v12153), ∀ a, (k0_off1526 v12153) a + S1x256.size a ≤ S4096x256.size a := fun v12153 k0_hw716 => k0_hw716

def k0_off1527 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4444 : BitVec 32 := 1024#32
  let v12160 : BitVec 32 := Scalar.muli v14 c1024_i32_4444
  let c708_i32 : BitVec 32 := 708#32
  let v12161 : BitVec 32 := Scalar.addi v12160 c708_i32
  let v12162 : Index := Scalar.indexCast v12161
  ![v12162.toNat]
def k0_off1528 (v12163 : BitVec 32) : Fin 2 → Nat :=
  let c4095_i32_4445 : BitVec 32 := 4095#32
  let v12164 : BitVec 32 := Scalar.andi v12163 c4095_i32_4445
  let v12165 : Index := Scalar.indexCast v12164
  let c0_4446 : Index := 0#32
  ![v12165.toNat, 0]

def k0_chk717 (v12163 : BitVec 32) : Prop :=
  (∀ a, (k0_off1528 v12163) a + S1x256.size a ≤ S4096x256.size a)
theorem k0_off1528_inb : ∀ (v12163 : BitVec 32) (k0_hw717 : k0_chk717 v12163), ∀ a, (k0_off1528 v12163) a + S1x256.size a ≤ S4096x256.size a := fun v12163 k0_hw717 => k0_hw717

def k0_off1529 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4448 : BitVec 32 := 1024#32
  let v12170 : BitVec 32 := Scalar.muli v14 c1024_i32_4448
  let c709_i32 : BitVec 32 := 709#32
  let v12171 : BitVec 32 := Scalar.addi v12170 c709_i32
  let v12172 : Index := Scalar.indexCast v12171
  ![v12172.toNat]
def k0_off1530 (v12173 : BitVec 32) : Fin 2 → Nat :=
  let c4095_i32_4449 : BitVec 32 := 4095#32
  let v12174 : BitVec 32 := Scalar.andi v12173 c4095_i32_4449
  let v12175 : Index := Scalar.indexCast v12174
  let c0_4450 : Index := 0#32
  ![v12175.toNat, 0]

def k0_chk718 (v12173 : BitVec 32) : Prop :=
  (∀ a, (k0_off1530 v12173) a + S1x256.size a ≤ S4096x256.size a)
theorem k0_off1530_inb : ∀ (v12173 : BitVec 32) (k0_hw718 : k0_chk718 v12173), ∀ a, (k0_off1530 v12173) a + S1x256.size a ≤ S4096x256.size a := fun v12173 k0_hw718 => k0_hw718

def k0_off1531 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4452 : BitVec 32 := 1024#32
  let v12180 : BitVec 32 := Scalar.muli v14 c1024_i32_4452
  let c710_i32 : BitVec 32 := 710#32
  let v12181 : BitVec 32 := Scalar.addi v12180 c710_i32
  let v12182 : Index := Scalar.indexCast v12181
  ![v12182.toNat]
def k0_off1532 (v12183 : BitVec 32) : Fin 2 → Nat :=
  let c4095_i32_4453 : BitVec 32 := 4095#32
  let v12184 : BitVec 32 := Scalar.andi v12183 c4095_i32_4453
  let v12185 : Index := Scalar.indexCast v12184
  let c0_4454 : Index := 0#32
  ![v12185.toNat, 0]

def k0_chk719 (v12183 : BitVec 32) : Prop :=
  (∀ a, (k0_off1532 v12183) a + S1x256.size a ≤ S4096x256.size a)
theorem k0_off1532_inb : ∀ (v12183 : BitVec 32) (k0_hw719 : k0_chk719 v12183), ∀ a, (k0_off1532 v12183) a + S1x256.size a ≤ S4096x256.size a := fun v12183 k0_hw719 => k0_hw719

def k0_off1533 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4456 : BitVec 32 := 1024#32
  let v12190 : BitVec 32 := Scalar.muli v14 c1024_i32_4456
  let c711_i32 : BitVec 32 := 711#32
  let v12191 : BitVec 32 := Scalar.addi v12190 c711_i32
  let v12192 : Index := Scalar.indexCast v12191
  ![v12192.toNat]
def k0_off1534 (v12193 : BitVec 32) : Fin 2 → Nat :=
  let c4095_i32_4457 : BitVec 32 := 4095#32
  let v12194 : BitVec 32 := Scalar.andi v12193 c4095_i32_4457
  let v12195 : Index := Scalar.indexCast v12194
  let c0_4458 : Index := 0#32
  ![v12195.toNat, 0]

def k0_chk720 (v12193 : BitVec 32) : Prop :=
  (∀ a, (k0_off1534 v12193) a + S1x256.size a ≤ S4096x256.size a)
theorem k0_off1534_inb : ∀ (v12193 : BitVec 32) (k0_hw720 : k0_chk720 v12193), ∀ a, (k0_off1534 v12193) a + S1x256.size a ≤ S4096x256.size a := fun v12193 k0_hw720 => k0_hw720

def k0_off1535 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4460 : BitVec 32 := 1024#32
  let v12200 : BitVec 32 := Scalar.muli v14 c1024_i32_4460
  let c712_i32 : BitVec 32 := 712#32
  let v12201 : BitVec 32 := Scalar.addi v12200 c712_i32
  let v12202 : Index := Scalar.indexCast v12201
  ![v12202.toNat]
def k0_off1536 (v12203 : BitVec 32) : Fin 2 → Nat :=
  let c4095_i32_4461 : BitVec 32 := 4095#32
  let v12204 : BitVec 32 := Scalar.andi v12203 c4095_i32_4461
  let v12205 : Index := Scalar.indexCast v12204
  let c0_4462 : Index := 0#32
  ![v12205.toNat, 0]

def k0_chk721 (v12203 : BitVec 32) : Prop :=
  (∀ a, (k0_off1536 v12203) a + S1x256.size a ≤ S4096x256.size a)
theorem k0_off1536_inb : ∀ (v12203 : BitVec 32) (k0_hw721 : k0_chk721 v12203), ∀ a, (k0_off1536 v12203) a + S1x256.size a ≤ S4096x256.size a := fun v12203 k0_hw721 => k0_hw721

def k0_off1537 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4464 : BitVec 32 := 1024#32
  let v12210 : BitVec 32 := Scalar.muli v14 c1024_i32_4464
  let c713_i32 : BitVec 32 := 713#32
  let v12211 : BitVec 32 := Scalar.addi v12210 c713_i32
  let v12212 : Index := Scalar.indexCast v12211
  ![v12212.toNat]
def k0_off1538 (v12213 : BitVec 32) : Fin 2 → Nat :=
  let c4095_i32_4465 : BitVec 32 := 4095#32
  let v12214 : BitVec 32 := Scalar.andi v12213 c4095_i32_4465
  let v12215 : Index := Scalar.indexCast v12214
  let c0_4466 : Index := 0#32
  ![v12215.toNat, 0]

def k0_chk722 (v12213 : BitVec 32) : Prop :=
  (∀ a, (k0_off1538 v12213) a + S1x256.size a ≤ S4096x256.size a)
theorem k0_off1538_inb : ∀ (v12213 : BitVec 32) (k0_hw722 : k0_chk722 v12213), ∀ a, (k0_off1538 v12213) a + S1x256.size a ≤ S4096x256.size a := fun v12213 k0_hw722 => k0_hw722

def k0_off1539 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4468 : BitVec 32 := 1024#32
  let v12220 : BitVec 32 := Scalar.muli v14 c1024_i32_4468
  let c714_i32 : BitVec 32 := 714#32
  let v12221 : BitVec 32 := Scalar.addi v12220 c714_i32
  let v12222 : Index := Scalar.indexCast v12221
  ![v12222.toNat]
def k0_off1540 (v12223 : BitVec 32) : Fin 2 → Nat :=
  let c4095_i32_4469 : BitVec 32 := 4095#32
  let v12224 : BitVec 32 := Scalar.andi v12223 c4095_i32_4469
  let v12225 : Index := Scalar.indexCast v12224
  let c0_4470 : Index := 0#32
  ![v12225.toNat, 0]

def k0_chk723 (v12223 : BitVec 32) : Prop :=
  (∀ a, (k0_off1540 v12223) a + S1x256.size a ≤ S4096x256.size a)
theorem k0_off1540_inb : ∀ (v12223 : BitVec 32) (k0_hw723 : k0_chk723 v12223), ∀ a, (k0_off1540 v12223) a + S1x256.size a ≤ S4096x256.size a := fun v12223 k0_hw723 => k0_hw723

def k0_off1541 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4472 : BitVec 32 := 1024#32
  let v12230 : BitVec 32 := Scalar.muli v14 c1024_i32_4472
  let c715_i32 : BitVec 32 := 715#32
  let v12231 : BitVec 32 := Scalar.addi v12230 c715_i32
  let v12232 : Index := Scalar.indexCast v12231
  ![v12232.toNat]
def k0_off1542 (v12233 : BitVec 32) : Fin 2 → Nat :=
  let c4095_i32_4473 : BitVec 32 := 4095#32
  let v12234 : BitVec 32 := Scalar.andi v12233 c4095_i32_4473
  let v12235 : Index := Scalar.indexCast v12234
  let c0_4474 : Index := 0#32
  ![v12235.toNat, 0]

def k0_chk724 (v12233 : BitVec 32) : Prop :=
  (∀ a, (k0_off1542 v12233) a + S1x256.size a ≤ S4096x256.size a)
theorem k0_off1542_inb : ∀ (v12233 : BitVec 32) (k0_hw724 : k0_chk724 v12233), ∀ a, (k0_off1542 v12233) a + S1x256.size a ≤ S4096x256.size a := fun v12233 k0_hw724 => k0_hw724

def k0_off1543 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4476 : BitVec 32 := 1024#32
  let v12240 : BitVec 32 := Scalar.muli v14 c1024_i32_4476
  let c716_i32 : BitVec 32 := 716#32
  let v12241 : BitVec 32 := Scalar.addi v12240 c716_i32
  let v12242 : Index := Scalar.indexCast v12241
  ![v12242.toNat]
def k0_off1544 (v12243 : BitVec 32) : Fin 2 → Nat :=
  let c4095_i32_4477 : BitVec 32 := 4095#32
  let v12244 : BitVec 32 := Scalar.andi v12243 c4095_i32_4477
  let v12245 : Index := Scalar.indexCast v12244
  let c0_4478 : Index := 0#32
  ![v12245.toNat, 0]

def k0_chk725 (v12243 : BitVec 32) : Prop :=
  (∀ a, (k0_off1544 v12243) a + S1x256.size a ≤ S4096x256.size a)
theorem k0_off1544_inb : ∀ (v12243 : BitVec 32) (k0_hw725 : k0_chk725 v12243), ∀ a, (k0_off1544 v12243) a + S1x256.size a ≤ S4096x256.size a := fun v12243 k0_hw725 => k0_hw725

def k0_off1545 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4480 : BitVec 32 := 1024#32
  let v12250 : BitVec 32 := Scalar.muli v14 c1024_i32_4480
  let c717_i32 : BitVec 32 := 717#32
  let v12251 : BitVec 32 := Scalar.addi v12250 c717_i32
  let v12252 : Index := Scalar.indexCast v12251
  ![v12252.toNat]
def k0_off1546 (v12253 : BitVec 32) : Fin 2 → Nat :=
  let c4095_i32_4481 : BitVec 32 := 4095#32
  let v12254 : BitVec 32 := Scalar.andi v12253 c4095_i32_4481
  let v12255 : Index := Scalar.indexCast v12254
  let c0_4482 : Index := 0#32
  ![v12255.toNat, 0]

def k0_chk726 (v12253 : BitVec 32) : Prop :=
  (∀ a, (k0_off1546 v12253) a + S1x256.size a ≤ S4096x256.size a)
theorem k0_off1546_inb : ∀ (v12253 : BitVec 32) (k0_hw726 : k0_chk726 v12253), ∀ a, (k0_off1546 v12253) a + S1x256.size a ≤ S4096x256.size a := fun v12253 k0_hw726 => k0_hw726

def k0_off1547 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4484 : BitVec 32 := 1024#32
  let v12260 : BitVec 32 := Scalar.muli v14 c1024_i32_4484
  let c718_i32 : BitVec 32 := 718#32
  let v12261 : BitVec 32 := Scalar.addi v12260 c718_i32
  let v12262 : Index := Scalar.indexCast v12261
  ![v12262.toNat]
def k0_off1548 (v12263 : BitVec 32) : Fin 2 → Nat :=
  let c4095_i32_4485 : BitVec 32 := 4095#32
  let v12264 : BitVec 32 := Scalar.andi v12263 c4095_i32_4485
  let v12265 : Index := Scalar.indexCast v12264
  let c0_4486 : Index := 0#32
  ![v12265.toNat, 0]

def k0_chk727 (v12263 : BitVec 32) : Prop :=
  (∀ a, (k0_off1548 v12263) a + S1x256.size a ≤ S4096x256.size a)
theorem k0_off1548_inb : ∀ (v12263 : BitVec 32) (k0_hw727 : k0_chk727 v12263), ∀ a, (k0_off1548 v12263) a + S1x256.size a ≤ S4096x256.size a := fun v12263 k0_hw727 => k0_hw727

def k0_off1549 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4488 : BitVec 32 := 1024#32
  let v12270 : BitVec 32 := Scalar.muli v14 c1024_i32_4488
  let c719_i32 : BitVec 32 := 719#32
  let v12271 : BitVec 32 := Scalar.addi v12270 c719_i32
  let v12272 : Index := Scalar.indexCast v12271
  ![v12272.toNat]
def k0_off1550 (v12273 : BitVec 32) : Fin 2 → Nat :=
  let c4095_i32_4489 : BitVec 32 := 4095#32
  let v12274 : BitVec 32 := Scalar.andi v12273 c4095_i32_4489
  let v12275 : Index := Scalar.indexCast v12274
  let c0_4490 : Index := 0#32
  ![v12275.toNat, 0]

def k0_chk728 (v12273 : BitVec 32) : Prop :=
  (∀ a, (k0_off1550 v12273) a + S1x256.size a ≤ S4096x256.size a)
theorem k0_off1550_inb : ∀ (v12273 : BitVec 32) (k0_hw728 : k0_chk728 v12273), ∀ a, (k0_off1550 v12273) a + S1x256.size a ≤ S4096x256.size a := fun v12273 k0_hw728 => k0_hw728

def k0_off1551 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4492 : BitVec 32 := 1024#32
  let v12280 : BitVec 32 := Scalar.muli v14 c1024_i32_4492
  let c720_i32 : BitVec 32 := 720#32
  let v12281 : BitVec 32 := Scalar.addi v12280 c720_i32
  let v12282 : Index := Scalar.indexCast v12281
  ![v12282.toNat]
def k0_off1552 (v12283 : BitVec 32) : Fin 2 → Nat :=
  let c4095_i32_4493 : BitVec 32 := 4095#32
  let v12284 : BitVec 32 := Scalar.andi v12283 c4095_i32_4493
  let v12285 : Index := Scalar.indexCast v12284
  let c0_4494 : Index := 0#32
  ![v12285.toNat, 0]

def k0_chk729 (v12283 : BitVec 32) : Prop :=
  (∀ a, (k0_off1552 v12283) a + S1x256.size a ≤ S4096x256.size a)
theorem k0_off1552_inb : ∀ (v12283 : BitVec 32) (k0_hw729 : k0_chk729 v12283), ∀ a, (k0_off1552 v12283) a + S1x256.size a ≤ S4096x256.size a := fun v12283 k0_hw729 => k0_hw729

def k0_off1553 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v12347 : Index := Scalar.indexCast v12
  let c0_4511 : Index := 0#32
  let c0_4512 : Index := 0#32
  ![v12347.toNat, 0, 0]
def k0_off1554 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v12408 : Index := Scalar.indexCast v12
  let c0_4530 : Index := 0#32
  let c256_4531 : Index := 256#32
  ![v12408.toNat, 0, 256]
def k0_off1555 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v12470 : Index := Scalar.indexCast v12
  let c0_4549 : Index := 0#32
  let c512_4550 : Index := 512#32
  ![v12470.toNat, 0, 512]
def k0_off1556 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v12532 : Index := Scalar.indexCast v12
  let c0_4568 : Index := 0#32
  let c768_4569 : Index := 768#32
  ![v12532.toNat, 0, 768]
def k0_off1557 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4575 : BitVec 32 := 1024#32
  let v12542 : BitVec 32 := Scalar.muli v14 c1024_i32_4575
  let c721_i32 : BitVec 32 := 721#32
  let v12543 : BitVec 32 := Scalar.addi v12542 c721_i32
  let v12544 : Index := Scalar.indexCast v12543
  ![v12544.toNat]
def k0_off1558 (v12545 : BitVec 32) : Fin 2 → Nat :=
  let c4095_i32_4576 : BitVec 32 := 4095#32
  let v12546 : BitVec 32 := Scalar.andi v12545 c4095_i32_4576
  let v12547 : Index := Scalar.indexCast v12546
  let c0_4577 : Index := 0#32
  ![v12547.toNat, 0]

def k0_chk730 (v12545 : BitVec 32) : Prop :=
  (∀ a, (k0_off1558 v12545) a + S1x256.size a ≤ S4096x256.size a)
theorem k0_off1558_inb : ∀ (v12545 : BitVec 32) (k0_hw730 : k0_chk730 v12545), ∀ a, (k0_off1558 v12545) a + S1x256.size a ≤ S4096x256.size a := fun v12545 k0_hw730 => k0_hw730

def k0_off1559 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4579 : BitVec 32 := 1024#32
  let v12552 : BitVec 32 := Scalar.muli v14 c1024_i32_4579
  let c722_i32 : BitVec 32 := 722#32
  let v12553 : BitVec 32 := Scalar.addi v12552 c722_i32
  let v12554 : Index := Scalar.indexCast v12553
  ![v12554.toNat]
def k0_off1560 (v12555 : BitVec 32) : Fin 2 → Nat :=
  let c4095_i32_4580 : BitVec 32 := 4095#32
  let v12556 : BitVec 32 := Scalar.andi v12555 c4095_i32_4580
  let v12557 : Index := Scalar.indexCast v12556
  let c0_4581 : Index := 0#32
  ![v12557.toNat, 0]

def k0_chk731 (v12555 : BitVec 32) : Prop :=
  (∀ a, (k0_off1560 v12555) a + S1x256.size a ≤ S4096x256.size a)
theorem k0_off1560_inb : ∀ (v12555 : BitVec 32) (k0_hw731 : k0_chk731 v12555), ∀ a, (k0_off1560 v12555) a + S1x256.size a ≤ S4096x256.size a := fun v12555 k0_hw731 => k0_hw731

def k0_off1561 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4583 : BitVec 32 := 1024#32
  let v12562 : BitVec 32 := Scalar.muli v14 c1024_i32_4583
  let c723_i32 : BitVec 32 := 723#32
  let v12563 : BitVec 32 := Scalar.addi v12562 c723_i32
  let v12564 : Index := Scalar.indexCast v12563
  ![v12564.toNat]
def k0_off1562 (v12565 : BitVec 32) : Fin 2 → Nat :=
  let c4095_i32_4584 : BitVec 32 := 4095#32
  let v12566 : BitVec 32 := Scalar.andi v12565 c4095_i32_4584
  let v12567 : Index := Scalar.indexCast v12566
  let c0_4585 : Index := 0#32
  ![v12567.toNat, 0]

def k0_chk732 (v12565 : BitVec 32) : Prop :=
  (∀ a, (k0_off1562 v12565) a + S1x256.size a ≤ S4096x256.size a)
theorem k0_off1562_inb : ∀ (v12565 : BitVec 32) (k0_hw732 : k0_chk732 v12565), ∀ a, (k0_off1562 v12565) a + S1x256.size a ≤ S4096x256.size a := fun v12565 k0_hw732 => k0_hw732

def k0_off1563 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4587 : BitVec 32 := 1024#32
  let v12572 : BitVec 32 := Scalar.muli v14 c1024_i32_4587
  let c724_i32 : BitVec 32 := 724#32
  let v12573 : BitVec 32 := Scalar.addi v12572 c724_i32
  let v12574 : Index := Scalar.indexCast v12573
  ![v12574.toNat]
def k0_off1564 (v12575 : BitVec 32) : Fin 2 → Nat :=
  let c4095_i32_4588 : BitVec 32 := 4095#32
  let v12576 : BitVec 32 := Scalar.andi v12575 c4095_i32_4588
  let v12577 : Index := Scalar.indexCast v12576
  let c0_4589 : Index := 0#32
  ![v12577.toNat, 0]

def k0_chk733 (v12575 : BitVec 32) : Prop :=
  (∀ a, (k0_off1564 v12575) a + S1x256.size a ≤ S4096x256.size a)
theorem k0_off1564_inb : ∀ (v12575 : BitVec 32) (k0_hw733 : k0_chk733 v12575), ∀ a, (k0_off1564 v12575) a + S1x256.size a ≤ S4096x256.size a := fun v12575 k0_hw733 => k0_hw733

def k0_off1565 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4591 : BitVec 32 := 1024#32
  let v12582 : BitVec 32 := Scalar.muli v14 c1024_i32_4591
  let c725_i32 : BitVec 32 := 725#32
  let v12583 : BitVec 32 := Scalar.addi v12582 c725_i32
  let v12584 : Index := Scalar.indexCast v12583
  ![v12584.toNat]
def k0_off1566 (v12585 : BitVec 32) : Fin 2 → Nat :=
  let c4095_i32_4592 : BitVec 32 := 4095#32
  let v12586 : BitVec 32 := Scalar.andi v12585 c4095_i32_4592
  let v12587 : Index := Scalar.indexCast v12586
  let c0_4593 : Index := 0#32
  ![v12587.toNat, 0]

def k0_chk734 (v12585 : BitVec 32) : Prop :=
  (∀ a, (k0_off1566 v12585) a + S1x256.size a ≤ S4096x256.size a)
theorem k0_off1566_inb : ∀ (v12585 : BitVec 32) (k0_hw734 : k0_chk734 v12585), ∀ a, (k0_off1566 v12585) a + S1x256.size a ≤ S4096x256.size a := fun v12585 k0_hw734 => k0_hw734

def k0_off1567 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4595 : BitVec 32 := 1024#32
  let v12592 : BitVec 32 := Scalar.muli v14 c1024_i32_4595
  let c726_i32 : BitVec 32 := 726#32
  let v12593 : BitVec 32 := Scalar.addi v12592 c726_i32
  let v12594 : Index := Scalar.indexCast v12593
  ![v12594.toNat]
def k0_off1568 (v12595 : BitVec 32) : Fin 2 → Nat :=
  let c4095_i32_4596 : BitVec 32 := 4095#32
  let v12596 : BitVec 32 := Scalar.andi v12595 c4095_i32_4596
  let v12597 : Index := Scalar.indexCast v12596
  let c0_4597 : Index := 0#32
  ![v12597.toNat, 0]

def k0_chk735 (v12595 : BitVec 32) : Prop :=
  (∀ a, (k0_off1568 v12595) a + S1x256.size a ≤ S4096x256.size a)
theorem k0_off1568_inb : ∀ (v12595 : BitVec 32) (k0_hw735 : k0_chk735 v12595), ∀ a, (k0_off1568 v12595) a + S1x256.size a ≤ S4096x256.size a := fun v12595 k0_hw735 => k0_hw735

def k0_off1569 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4599 : BitVec 32 := 1024#32
  let v12602 : BitVec 32 := Scalar.muli v14 c1024_i32_4599
  let c727_i32 : BitVec 32 := 727#32
  let v12603 : BitVec 32 := Scalar.addi v12602 c727_i32
  let v12604 : Index := Scalar.indexCast v12603
  ![v12604.toNat]
def k0_off1570 (v12605 : BitVec 32) : Fin 2 → Nat :=
  let c4095_i32_4600 : BitVec 32 := 4095#32
  let v12606 : BitVec 32 := Scalar.andi v12605 c4095_i32_4600
  let v12607 : Index := Scalar.indexCast v12606
  let c0_4601 : Index := 0#32
  ![v12607.toNat, 0]

def k0_chk736 (v12605 : BitVec 32) : Prop :=
  (∀ a, (k0_off1570 v12605) a + S1x256.size a ≤ S4096x256.size a)
theorem k0_off1570_inb : ∀ (v12605 : BitVec 32) (k0_hw736 : k0_chk736 v12605), ∀ a, (k0_off1570 v12605) a + S1x256.size a ≤ S4096x256.size a := fun v12605 k0_hw736 => k0_hw736

def k0_off1571 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4603 : BitVec 32 := 1024#32
  let v12612 : BitVec 32 := Scalar.muli v14 c1024_i32_4603
  let c728_i32 : BitVec 32 := 728#32
  let v12613 : BitVec 32 := Scalar.addi v12612 c728_i32
  let v12614 : Index := Scalar.indexCast v12613
  ![v12614.toNat]
def k0_off1572 (v12615 : BitVec 32) : Fin 2 → Nat :=
  let c4095_i32_4604 : BitVec 32 := 4095#32
  let v12616 : BitVec 32 := Scalar.andi v12615 c4095_i32_4604
  let v12617 : Index := Scalar.indexCast v12616
  let c0_4605 : Index := 0#32
  ![v12617.toNat, 0]

def k0_chk737 (v12615 : BitVec 32) : Prop :=
  (∀ a, (k0_off1572 v12615) a + S1x256.size a ≤ S4096x256.size a)
theorem k0_off1572_inb : ∀ (v12615 : BitVec 32) (k0_hw737 : k0_chk737 v12615), ∀ a, (k0_off1572 v12615) a + S1x256.size a ≤ S4096x256.size a := fun v12615 k0_hw737 => k0_hw737

def k0_off1573 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4607 : BitVec 32 := 1024#32
  let v12622 : BitVec 32 := Scalar.muli v14 c1024_i32_4607
  let c729_i32 : BitVec 32 := 729#32
  let v12623 : BitVec 32 := Scalar.addi v12622 c729_i32
  let v12624 : Index := Scalar.indexCast v12623
  ![v12624.toNat]
def k0_off1574 (v12625 : BitVec 32) : Fin 2 → Nat :=
  let c4095_i32_4608 : BitVec 32 := 4095#32
  let v12626 : BitVec 32 := Scalar.andi v12625 c4095_i32_4608
  let v12627 : Index := Scalar.indexCast v12626
  let c0_4609 : Index := 0#32
  ![v12627.toNat, 0]

def k0_chk738 (v12625 : BitVec 32) : Prop :=
  (∀ a, (k0_off1574 v12625) a + S1x256.size a ≤ S4096x256.size a)
theorem k0_off1574_inb : ∀ (v12625 : BitVec 32) (k0_hw738 : k0_chk738 v12625), ∀ a, (k0_off1574 v12625) a + S1x256.size a ≤ S4096x256.size a := fun v12625 k0_hw738 => k0_hw738

def k0_off1575 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4611 : BitVec 32 := 1024#32
  let v12632 : BitVec 32 := Scalar.muli v14 c1024_i32_4611
  let c730_i32 : BitVec 32 := 730#32
  let v12633 : BitVec 32 := Scalar.addi v12632 c730_i32
  let v12634 : Index := Scalar.indexCast v12633
  ![v12634.toNat]
def k0_off1576 (v12635 : BitVec 32) : Fin 2 → Nat :=
  let c4095_i32_4612 : BitVec 32 := 4095#32
  let v12636 : BitVec 32 := Scalar.andi v12635 c4095_i32_4612
  let v12637 : Index := Scalar.indexCast v12636
  let c0_4613 : Index := 0#32
  ![v12637.toNat, 0]

def k0_chk739 (v12635 : BitVec 32) : Prop :=
  (∀ a, (k0_off1576 v12635) a + S1x256.size a ≤ S4096x256.size a)
theorem k0_off1576_inb : ∀ (v12635 : BitVec 32) (k0_hw739 : k0_chk739 v12635), ∀ a, (k0_off1576 v12635) a + S1x256.size a ≤ S4096x256.size a := fun v12635 k0_hw739 => k0_hw739

def k0_off1577 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4615 : BitVec 32 := 1024#32
  let v12642 : BitVec 32 := Scalar.muli v14 c1024_i32_4615
  let c731_i32 : BitVec 32 := 731#32
  let v12643 : BitVec 32 := Scalar.addi v12642 c731_i32
  let v12644 : Index := Scalar.indexCast v12643
  ![v12644.toNat]
def k0_off1578 (v12645 : BitVec 32) : Fin 2 → Nat :=
  let c4095_i32_4616 : BitVec 32 := 4095#32
  let v12646 : BitVec 32 := Scalar.andi v12645 c4095_i32_4616
  let v12647 : Index := Scalar.indexCast v12646
  let c0_4617 : Index := 0#32
  ![v12647.toNat, 0]

def k0_chk740 (v12645 : BitVec 32) : Prop :=
  (∀ a, (k0_off1578 v12645) a + S1x256.size a ≤ S4096x256.size a)
theorem k0_off1578_inb : ∀ (v12645 : BitVec 32) (k0_hw740 : k0_chk740 v12645), ∀ a, (k0_off1578 v12645) a + S1x256.size a ≤ S4096x256.size a := fun v12645 k0_hw740 => k0_hw740

def k0_off1579 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4619 : BitVec 32 := 1024#32
  let v12652 : BitVec 32 := Scalar.muli v14 c1024_i32_4619
  let c732_i32 : BitVec 32 := 732#32
  let v12653 : BitVec 32 := Scalar.addi v12652 c732_i32
  let v12654 : Index := Scalar.indexCast v12653
  ![v12654.toNat]
def k0_off1580 (v12655 : BitVec 32) : Fin 2 → Nat :=
  let c4095_i32_4620 : BitVec 32 := 4095#32
  let v12656 : BitVec 32 := Scalar.andi v12655 c4095_i32_4620
  let v12657 : Index := Scalar.indexCast v12656
  let c0_4621 : Index := 0#32
  ![v12657.toNat, 0]

def k0_chk741 (v12655 : BitVec 32) : Prop :=
  (∀ a, (k0_off1580 v12655) a + S1x256.size a ≤ S4096x256.size a)
theorem k0_off1580_inb : ∀ (v12655 : BitVec 32) (k0_hw741 : k0_chk741 v12655), ∀ a, (k0_off1580 v12655) a + S1x256.size a ≤ S4096x256.size a := fun v12655 k0_hw741 => k0_hw741

def k0_off1581 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4623 : BitVec 32 := 1024#32
  let v12662 : BitVec 32 := Scalar.muli v14 c1024_i32_4623
  let c733_i32 : BitVec 32 := 733#32
  let v12663 : BitVec 32 := Scalar.addi v12662 c733_i32
  let v12664 : Index := Scalar.indexCast v12663
  ![v12664.toNat]
def k0_off1582 (v12665 : BitVec 32) : Fin 2 → Nat :=
  let c4095_i32_4624 : BitVec 32 := 4095#32
  let v12666 : BitVec 32 := Scalar.andi v12665 c4095_i32_4624
  let v12667 : Index := Scalar.indexCast v12666
  let c0_4625 : Index := 0#32
  ![v12667.toNat, 0]

def k0_chk742 (v12665 : BitVec 32) : Prop :=
  (∀ a, (k0_off1582 v12665) a + S1x256.size a ≤ S4096x256.size a)
theorem k0_off1582_inb : ∀ (v12665 : BitVec 32) (k0_hw742 : k0_chk742 v12665), ∀ a, (k0_off1582 v12665) a + S1x256.size a ≤ S4096x256.size a := fun v12665 k0_hw742 => k0_hw742

def k0_off1583 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4627 : BitVec 32 := 1024#32
  let v12672 : BitVec 32 := Scalar.muli v14 c1024_i32_4627
  let c734_i32 : BitVec 32 := 734#32
  let v12673 : BitVec 32 := Scalar.addi v12672 c734_i32
  let v12674 : Index := Scalar.indexCast v12673
  ![v12674.toNat]
def k0_off1584 (v12675 : BitVec 32) : Fin 2 → Nat :=
  let c4095_i32_4628 : BitVec 32 := 4095#32
  let v12676 : BitVec 32 := Scalar.andi v12675 c4095_i32_4628
  let v12677 : Index := Scalar.indexCast v12676
  let c0_4629 : Index := 0#32
  ![v12677.toNat, 0]

def k0_chk743 (v12675 : BitVec 32) : Prop :=
  (∀ a, (k0_off1584 v12675) a + S1x256.size a ≤ S4096x256.size a)
theorem k0_off1584_inb : ∀ (v12675 : BitVec 32) (k0_hw743 : k0_chk743 v12675), ∀ a, (k0_off1584 v12675) a + S1x256.size a ≤ S4096x256.size a := fun v12675 k0_hw743 => k0_hw743

def k0_off1585 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4631 : BitVec 32 := 1024#32
  let v12682 : BitVec 32 := Scalar.muli v14 c1024_i32_4631
  let c735_i32 : BitVec 32 := 735#32
  let v12683 : BitVec 32 := Scalar.addi v12682 c735_i32
  let v12684 : Index := Scalar.indexCast v12683
  ![v12684.toNat]
def k0_off1586 (v12685 : BitVec 32) : Fin 2 → Nat :=
  let c4095_i32_4632 : BitVec 32 := 4095#32
  let v12686 : BitVec 32 := Scalar.andi v12685 c4095_i32_4632
  let v12687 : Index := Scalar.indexCast v12686
  let c0_4633 : Index := 0#32
  ![v12687.toNat, 0]

def k0_chk744 (v12685 : BitVec 32) : Prop :=
  (∀ a, (k0_off1586 v12685) a + S1x256.size a ≤ S4096x256.size a)
theorem k0_off1586_inb : ∀ (v12685 : BitVec 32) (k0_hw744 : k0_chk744 v12685), ∀ a, (k0_off1586 v12685) a + S1x256.size a ≤ S4096x256.size a := fun v12685 k0_hw744 => k0_hw744

def k0_off1587 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4635 : BitVec 32 := 1024#32
  let v12692 : BitVec 32 := Scalar.muli v14 c1024_i32_4635
  let c736_i32 : BitVec 32 := 736#32
  let v12693 : BitVec 32 := Scalar.addi v12692 c736_i32
  let v12694 : Index := Scalar.indexCast v12693
  ![v12694.toNat]
def k0_off1588 (v12695 : BitVec 32) : Fin 2 → Nat :=
  let c4095_i32_4636 : BitVec 32 := 4095#32
  let v12696 : BitVec 32 := Scalar.andi v12695 c4095_i32_4636
  let v12697 : Index := Scalar.indexCast v12696
  let c0_4637 : Index := 0#32
  ![v12697.toNat, 0]

def k0_chk745 (v12695 : BitVec 32) : Prop :=
  (∀ a, (k0_off1588 v12695) a + S1x256.size a ≤ S4096x256.size a)
theorem k0_off1588_inb : ∀ (v12695 : BitVec 32) (k0_hw745 : k0_chk745 v12695), ∀ a, (k0_off1588 v12695) a + S1x256.size a ≤ S4096x256.size a := fun v12695 k0_hw745 => k0_hw745

def k0_off1589 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4639 : BitVec 32 := 1024#32
  let v12702 : BitVec 32 := Scalar.muli v14 c1024_i32_4639
  let c737_i32 : BitVec 32 := 737#32
  let v12703 : BitVec 32 := Scalar.addi v12702 c737_i32
  let v12704 : Index := Scalar.indexCast v12703
  ![v12704.toNat]
def k0_off1590 (v12705 : BitVec 32) : Fin 2 → Nat :=
  let c4095_i32_4640 : BitVec 32 := 4095#32
  let v12706 : BitVec 32 := Scalar.andi v12705 c4095_i32_4640
  let v12707 : Index := Scalar.indexCast v12706
  let c0_4641 : Index := 0#32
  ![v12707.toNat, 0]

def k0_chk746 (v12705 : BitVec 32) : Prop :=
  (∀ a, (k0_off1590 v12705) a + S1x256.size a ≤ S4096x256.size a)
theorem k0_off1590_inb : ∀ (v12705 : BitVec 32) (k0_hw746 : k0_chk746 v12705), ∀ a, (k0_off1590 v12705) a + S1x256.size a ≤ S4096x256.size a := fun v12705 k0_hw746 => k0_hw746

def k0_off1591 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4643 : BitVec 32 := 1024#32
  let v12712 : BitVec 32 := Scalar.muli v14 c1024_i32_4643
  let c738_i32 : BitVec 32 := 738#32
  let v12713 : BitVec 32 := Scalar.addi v12712 c738_i32
  let v12714 : Index := Scalar.indexCast v12713
  ![v12714.toNat]
def k0_off1592 (v12715 : BitVec 32) : Fin 2 → Nat :=
  let c4095_i32_4644 : BitVec 32 := 4095#32
  let v12716 : BitVec 32 := Scalar.andi v12715 c4095_i32_4644
  let v12717 : Index := Scalar.indexCast v12716
  let c0_4645 : Index := 0#32
  ![v12717.toNat, 0]

def k0_chk747 (v12715 : BitVec 32) : Prop :=
  (∀ a, (k0_off1592 v12715) a + S1x256.size a ≤ S4096x256.size a)
theorem k0_off1592_inb : ∀ (v12715 : BitVec 32) (k0_hw747 : k0_chk747 v12715), ∀ a, (k0_off1592 v12715) a + S1x256.size a ≤ S4096x256.size a := fun v12715 k0_hw747 => k0_hw747

def k0_off1593 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4647 : BitVec 32 := 1024#32
  let v12722 : BitVec 32 := Scalar.muli v14 c1024_i32_4647
  let c739_i32 : BitVec 32 := 739#32
  let v12723 : BitVec 32 := Scalar.addi v12722 c739_i32
  let v12724 : Index := Scalar.indexCast v12723
  ![v12724.toNat]
def k0_off1594 (v12725 : BitVec 32) : Fin 2 → Nat :=
  let c4095_i32_4648 : BitVec 32 := 4095#32
  let v12726 : BitVec 32 := Scalar.andi v12725 c4095_i32_4648
  let v12727 : Index := Scalar.indexCast v12726
  let c0_4649 : Index := 0#32
  ![v12727.toNat, 0]

def k0_chk748 (v12725 : BitVec 32) : Prop :=
  (∀ a, (k0_off1594 v12725) a + S1x256.size a ≤ S4096x256.size a)
theorem k0_off1594_inb : ∀ (v12725 : BitVec 32) (k0_hw748 : k0_chk748 v12725), ∀ a, (k0_off1594 v12725) a + S1x256.size a ≤ S4096x256.size a := fun v12725 k0_hw748 => k0_hw748

def k0_off1595 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4651 : BitVec 32 := 1024#32
  let v12732 : BitVec 32 := Scalar.muli v14 c1024_i32_4651
  let c740_i32 : BitVec 32 := 740#32
  let v12733 : BitVec 32 := Scalar.addi v12732 c740_i32
  let v12734 : Index := Scalar.indexCast v12733
  ![v12734.toNat]
def k0_off1596 (v12735 : BitVec 32) : Fin 2 → Nat :=
  let c4095_i32_4652 : BitVec 32 := 4095#32
  let v12736 : BitVec 32 := Scalar.andi v12735 c4095_i32_4652
  let v12737 : Index := Scalar.indexCast v12736
  let c0_4653 : Index := 0#32
  ![v12737.toNat, 0]

def k0_chk749 (v12735 : BitVec 32) : Prop :=
  (∀ a, (k0_off1596 v12735) a + S1x256.size a ≤ S4096x256.size a)
theorem k0_off1596_inb : ∀ (v12735 : BitVec 32) (k0_hw749 : k0_chk749 v12735), ∀ a, (k0_off1596 v12735) a + S1x256.size a ≤ S4096x256.size a := fun v12735 k0_hw749 => k0_hw749

def k0_off1597 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4655 : BitVec 32 := 1024#32
  let v12742 : BitVec 32 := Scalar.muli v14 c1024_i32_4655
  let c741_i32 : BitVec 32 := 741#32
  let v12743 : BitVec 32 := Scalar.addi v12742 c741_i32
  let v12744 : Index := Scalar.indexCast v12743
  ![v12744.toNat]
def k0_off1598 (v12745 : BitVec 32) : Fin 2 → Nat :=
  let c4095_i32_4656 : BitVec 32 := 4095#32
  let v12746 : BitVec 32 := Scalar.andi v12745 c4095_i32_4656
  let v12747 : Index := Scalar.indexCast v12746
  let c0_4657 : Index := 0#32
  ![v12747.toNat, 0]

def k0_chk750 (v12745 : BitVec 32) : Prop :=
  (∀ a, (k0_off1598 v12745) a + S1x256.size a ≤ S4096x256.size a)
theorem k0_off1598_inb : ∀ (v12745 : BitVec 32) (k0_hw750 : k0_chk750 v12745), ∀ a, (k0_off1598 v12745) a + S1x256.size a ≤ S4096x256.size a := fun v12745 k0_hw750 => k0_hw750

def k0_off1599 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4659 : BitVec 32 := 1024#32
  let v12752 : BitVec 32 := Scalar.muli v14 c1024_i32_4659
  let c742_i32 : BitVec 32 := 742#32
  let v12753 : BitVec 32 := Scalar.addi v12752 c742_i32
  let v12754 : Index := Scalar.indexCast v12753
  ![v12754.toNat]
def k0_off1600 (v12755 : BitVec 32) : Fin 2 → Nat :=
  let c4095_i32_4660 : BitVec 32 := 4095#32
  let v12756 : BitVec 32 := Scalar.andi v12755 c4095_i32_4660
  let v12757 : Index := Scalar.indexCast v12756
  let c0_4661 : Index := 0#32
  ![v12757.toNat, 0]

def k0_chk751 (v12755 : BitVec 32) : Prop :=
  (∀ a, (k0_off1600 v12755) a + S1x256.size a ≤ S4096x256.size a)
theorem k0_off1600_inb : ∀ (v12755 : BitVec 32) (k0_hw751 : k0_chk751 v12755), ∀ a, (k0_off1600 v12755) a + S1x256.size a ≤ S4096x256.size a := fun v12755 k0_hw751 => k0_hw751

def k0_off1601 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4663 : BitVec 32 := 1024#32
  let v12762 : BitVec 32 := Scalar.muli v14 c1024_i32_4663
  let c743_i32 : BitVec 32 := 743#32
  let v12763 : BitVec 32 := Scalar.addi v12762 c743_i32
  let v12764 : Index := Scalar.indexCast v12763
  ![v12764.toNat]
def k0_off1602 (v12765 : BitVec 32) : Fin 2 → Nat :=
  let c4095_i32_4664 : BitVec 32 := 4095#32
  let v12766 : BitVec 32 := Scalar.andi v12765 c4095_i32_4664
  let v12767 : Index := Scalar.indexCast v12766
  let c0_4665 : Index := 0#32
  ![v12767.toNat, 0]

def k0_chk752 (v12765 : BitVec 32) : Prop :=
  (∀ a, (k0_off1602 v12765) a + S1x256.size a ≤ S4096x256.size a)
theorem k0_off1602_inb : ∀ (v12765 : BitVec 32) (k0_hw752 : k0_chk752 v12765), ∀ a, (k0_off1602 v12765) a + S1x256.size a ≤ S4096x256.size a := fun v12765 k0_hw752 => k0_hw752

def k0_off1603 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4667 : BitVec 32 := 1024#32
  let v12772 : BitVec 32 := Scalar.muli v14 c1024_i32_4667
  let c744_i32 : BitVec 32 := 744#32
  let v12773 : BitVec 32 := Scalar.addi v12772 c744_i32
  let v12774 : Index := Scalar.indexCast v12773
  ![v12774.toNat]
def k0_off1604 (v12775 : BitVec 32) : Fin 2 → Nat :=
  let c4095_i32_4668 : BitVec 32 := 4095#32
  let v12776 : BitVec 32 := Scalar.andi v12775 c4095_i32_4668
  let v12777 : Index := Scalar.indexCast v12776
  let c0_4669 : Index := 0#32
  ![v12777.toNat, 0]

def k0_chk753 (v12775 : BitVec 32) : Prop :=
  (∀ a, (k0_off1604 v12775) a + S1x256.size a ≤ S4096x256.size a)
theorem k0_off1604_inb : ∀ (v12775 : BitVec 32) (k0_hw753 : k0_chk753 v12775), ∀ a, (k0_off1604 v12775) a + S1x256.size a ≤ S4096x256.size a := fun v12775 k0_hw753 => k0_hw753

def k0_off1605 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4671 : BitVec 32 := 1024#32
  let v12782 : BitVec 32 := Scalar.muli v14 c1024_i32_4671
  let c745_i32 : BitVec 32 := 745#32
  let v12783 : BitVec 32 := Scalar.addi v12782 c745_i32
  let v12784 : Index := Scalar.indexCast v12783
  ![v12784.toNat]
def k0_off1606 (v12785 : BitVec 32) : Fin 2 → Nat :=
  let c4095_i32_4672 : BitVec 32 := 4095#32
  let v12786 : BitVec 32 := Scalar.andi v12785 c4095_i32_4672
  let v12787 : Index := Scalar.indexCast v12786
  let c0_4673 : Index := 0#32
  ![v12787.toNat, 0]

def k0_chk754 (v12785 : BitVec 32) : Prop :=
  (∀ a, (k0_off1606 v12785) a + S1x256.size a ≤ S4096x256.size a)
theorem k0_off1606_inb : ∀ (v12785 : BitVec 32) (k0_hw754 : k0_chk754 v12785), ∀ a, (k0_off1606 v12785) a + S1x256.size a ≤ S4096x256.size a := fun v12785 k0_hw754 => k0_hw754

def k0_off1607 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4675 : BitVec 32 := 1024#32
  let v12792 : BitVec 32 := Scalar.muli v14 c1024_i32_4675
  let c746_i32 : BitVec 32 := 746#32
  let v12793 : BitVec 32 := Scalar.addi v12792 c746_i32
  let v12794 : Index := Scalar.indexCast v12793
  ![v12794.toNat]
def k0_off1608 (v12795 : BitVec 32) : Fin 2 → Nat :=
  let c4095_i32_4676 : BitVec 32 := 4095#32
  let v12796 : BitVec 32 := Scalar.andi v12795 c4095_i32_4676
  let v12797 : Index := Scalar.indexCast v12796
  let c0_4677 : Index := 0#32
  ![v12797.toNat, 0]

def k0_chk755 (v12795 : BitVec 32) : Prop :=
  (∀ a, (k0_off1608 v12795) a + S1x256.size a ≤ S4096x256.size a)
theorem k0_off1608_inb : ∀ (v12795 : BitVec 32) (k0_hw755 : k0_chk755 v12795), ∀ a, (k0_off1608 v12795) a + S1x256.size a ≤ S4096x256.size a := fun v12795 k0_hw755 => k0_hw755

def k0_off1609 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4679 : BitVec 32 := 1024#32
  let v12802 : BitVec 32 := Scalar.muli v14 c1024_i32_4679
  let c747_i32 : BitVec 32 := 747#32
  let v12803 : BitVec 32 := Scalar.addi v12802 c747_i32
  let v12804 : Index := Scalar.indexCast v12803
  ![v12804.toNat]
def k0_off1610 (v12805 : BitVec 32) : Fin 2 → Nat :=
  let c4095_i32_4680 : BitVec 32 := 4095#32
  let v12806 : BitVec 32 := Scalar.andi v12805 c4095_i32_4680
  let v12807 : Index := Scalar.indexCast v12806
  let c0_4681 : Index := 0#32
  ![v12807.toNat, 0]

def k0_chk756 (v12805 : BitVec 32) : Prop :=
  (∀ a, (k0_off1610 v12805) a + S1x256.size a ≤ S4096x256.size a)
theorem k0_off1610_inb : ∀ (v12805 : BitVec 32) (k0_hw756 : k0_chk756 v12805), ∀ a, (k0_off1610 v12805) a + S1x256.size a ≤ S4096x256.size a := fun v12805 k0_hw756 => k0_hw756

def k0_off1611 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4683 : BitVec 32 := 1024#32
  let v12812 : BitVec 32 := Scalar.muli v14 c1024_i32_4683
  let c748_i32 : BitVec 32 := 748#32
  let v12813 : BitVec 32 := Scalar.addi v12812 c748_i32
  let v12814 : Index := Scalar.indexCast v12813
  ![v12814.toNat]
def k0_off1612 (v12815 : BitVec 32) : Fin 2 → Nat :=
  let c4095_i32_4684 : BitVec 32 := 4095#32
  let v12816 : BitVec 32 := Scalar.andi v12815 c4095_i32_4684
  let v12817 : Index := Scalar.indexCast v12816
  let c0_4685 : Index := 0#32
  ![v12817.toNat, 0]

def k0_chk757 (v12815 : BitVec 32) : Prop :=
  (∀ a, (k0_off1612 v12815) a + S1x256.size a ≤ S4096x256.size a)
theorem k0_off1612_inb : ∀ (v12815 : BitVec 32) (k0_hw757 : k0_chk757 v12815), ∀ a, (k0_off1612 v12815) a + S1x256.size a ≤ S4096x256.size a := fun v12815 k0_hw757 => k0_hw757

def k0_off1613 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4687 : BitVec 32 := 1024#32
  let v12822 : BitVec 32 := Scalar.muli v14 c1024_i32_4687
  let c749_i32 : BitVec 32 := 749#32
  let v12823 : BitVec 32 := Scalar.addi v12822 c749_i32
  let v12824 : Index := Scalar.indexCast v12823
  ![v12824.toNat]
def k0_off1614 (v12825 : BitVec 32) : Fin 2 → Nat :=
  let c4095_i32_4688 : BitVec 32 := 4095#32
  let v12826 : BitVec 32 := Scalar.andi v12825 c4095_i32_4688
  let v12827 : Index := Scalar.indexCast v12826
  let c0_4689 : Index := 0#32
  ![v12827.toNat, 0]

def k0_chk758 (v12825 : BitVec 32) : Prop :=
  (∀ a, (k0_off1614 v12825) a + S1x256.size a ≤ S4096x256.size a)
theorem k0_off1614_inb : ∀ (v12825 : BitVec 32) (k0_hw758 : k0_chk758 v12825), ∀ a, (k0_off1614 v12825) a + S1x256.size a ≤ S4096x256.size a := fun v12825 k0_hw758 => k0_hw758

def k0_off1615 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4691 : BitVec 32 := 1024#32
  let v12832 : BitVec 32 := Scalar.muli v14 c1024_i32_4691
  let c750_i32 : BitVec 32 := 750#32
  let v12833 : BitVec 32 := Scalar.addi v12832 c750_i32
  let v12834 : Index := Scalar.indexCast v12833
  ![v12834.toNat]
def k0_off1616 (v12835 : BitVec 32) : Fin 2 → Nat :=
  let c4095_i32_4692 : BitVec 32 := 4095#32
  let v12836 : BitVec 32 := Scalar.andi v12835 c4095_i32_4692
  let v12837 : Index := Scalar.indexCast v12836
  let c0_4693 : Index := 0#32
  ![v12837.toNat, 0]

def k0_chk759 (v12835 : BitVec 32) : Prop :=
  (∀ a, (k0_off1616 v12835) a + S1x256.size a ≤ S4096x256.size a)
theorem k0_off1616_inb : ∀ (v12835 : BitVec 32) (k0_hw759 : k0_chk759 v12835), ∀ a, (k0_off1616 v12835) a + S1x256.size a ≤ S4096x256.size a := fun v12835 k0_hw759 => k0_hw759

def k0_off1617 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4695 : BitVec 32 := 1024#32
  let v12842 : BitVec 32 := Scalar.muli v14 c1024_i32_4695
  let c751_i32 : BitVec 32 := 751#32
  let v12843 : BitVec 32 := Scalar.addi v12842 c751_i32
  let v12844 : Index := Scalar.indexCast v12843
  ![v12844.toNat]
def k0_off1618 (v12845 : BitVec 32) : Fin 2 → Nat :=
  let c4095_i32_4696 : BitVec 32 := 4095#32
  let v12846 : BitVec 32 := Scalar.andi v12845 c4095_i32_4696
  let v12847 : Index := Scalar.indexCast v12846
  let c0_4697 : Index := 0#32
  ![v12847.toNat, 0]

def k0_chk760 (v12845 : BitVec 32) : Prop :=
  (∀ a, (k0_off1618 v12845) a + S1x256.size a ≤ S4096x256.size a)
theorem k0_off1618_inb : ∀ (v12845 : BitVec 32) (k0_hw760 : k0_chk760 v12845), ∀ a, (k0_off1618 v12845) a + S1x256.size a ≤ S4096x256.size a := fun v12845 k0_hw760 => k0_hw760

def k0_off1619 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4699 : BitVec 32 := 1024#32
  let v12852 : BitVec 32 := Scalar.muli v14 c1024_i32_4699
  let c752_i32 : BitVec 32 := 752#32
  let v12853 : BitVec 32 := Scalar.addi v12852 c752_i32
  let v12854 : Index := Scalar.indexCast v12853
  ![v12854.toNat]
def k0_off1620 (v12855 : BitVec 32) : Fin 2 → Nat :=
  let c4095_i32_4700 : BitVec 32 := 4095#32
  let v12856 : BitVec 32 := Scalar.andi v12855 c4095_i32_4700
  let v12857 : Index := Scalar.indexCast v12856
  let c0_4701 : Index := 0#32
  ![v12857.toNat, 0]

def k0_chk761 (v12855 : BitVec 32) : Prop :=
  (∀ a, (k0_off1620 v12855) a + S1x256.size a ≤ S4096x256.size a)
theorem k0_off1620_inb : ∀ (v12855 : BitVec 32) (k0_hw761 : k0_chk761 v12855), ∀ a, (k0_off1620 v12855) a + S1x256.size a ≤ S4096x256.size a := fun v12855 k0_hw761 => k0_hw761

def k0_off1621 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4703 : BitVec 32 := 1024#32
  let v12862 : BitVec 32 := Scalar.muli v14 c1024_i32_4703
  let c753_i32 : BitVec 32 := 753#32
  let v12863 : BitVec 32 := Scalar.addi v12862 c753_i32
  let v12864 : Index := Scalar.indexCast v12863
  ![v12864.toNat]
def k0_off1622 (v12865 : BitVec 32) : Fin 2 → Nat :=
  let c4095_i32_4704 : BitVec 32 := 4095#32
  let v12866 : BitVec 32 := Scalar.andi v12865 c4095_i32_4704
  let v12867 : Index := Scalar.indexCast v12866
  let c0_4705 : Index := 0#32
  ![v12867.toNat, 0]

def k0_chk762 (v12865 : BitVec 32) : Prop :=
  (∀ a, (k0_off1622 v12865) a + S1x256.size a ≤ S4096x256.size a)
theorem k0_off1622_inb : ∀ (v12865 : BitVec 32) (k0_hw762 : k0_chk762 v12865), ∀ a, (k0_off1622 v12865) a + S1x256.size a ≤ S4096x256.size a := fun v12865 k0_hw762 => k0_hw762

def k0_off1623 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4707 : BitVec 32 := 1024#32
  let v12872 : BitVec 32 := Scalar.muli v14 c1024_i32_4707
  let c754_i32 : BitVec 32 := 754#32
  let v12873 : BitVec 32 := Scalar.addi v12872 c754_i32
  let v12874 : Index := Scalar.indexCast v12873
  ![v12874.toNat]
def k0_off1624 (v12875 : BitVec 32) : Fin 2 → Nat :=
  let c4095_i32_4708 : BitVec 32 := 4095#32
  let v12876 : BitVec 32 := Scalar.andi v12875 c4095_i32_4708
  let v12877 : Index := Scalar.indexCast v12876
  let c0_4709 : Index := 0#32
  ![v12877.toNat, 0]

def k0_chk763 (v12875 : BitVec 32) : Prop :=
  (∀ a, (k0_off1624 v12875) a + S1x256.size a ≤ S4096x256.size a)
theorem k0_off1624_inb : ∀ (v12875 : BitVec 32) (k0_hw763 : k0_chk763 v12875), ∀ a, (k0_off1624 v12875) a + S1x256.size a ≤ S4096x256.size a := fun v12875 k0_hw763 => k0_hw763

def k0_off1625 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4711 : BitVec 32 := 1024#32
  let v12882 : BitVec 32 := Scalar.muli v14 c1024_i32_4711
  let c755_i32 : BitVec 32 := 755#32
  let v12883 : BitVec 32 := Scalar.addi v12882 c755_i32
  let v12884 : Index := Scalar.indexCast v12883
  ![v12884.toNat]
def k0_off1626 (v12885 : BitVec 32) : Fin 2 → Nat :=
  let c4095_i32_4712 : BitVec 32 := 4095#32
  let v12886 : BitVec 32 := Scalar.andi v12885 c4095_i32_4712
  let v12887 : Index := Scalar.indexCast v12886
  let c0_4713 : Index := 0#32
  ![v12887.toNat, 0]

def k0_chk764 (v12885 : BitVec 32) : Prop :=
  (∀ a, (k0_off1626 v12885) a + S1x256.size a ≤ S4096x256.size a)
theorem k0_off1626_inb : ∀ (v12885 : BitVec 32) (k0_hw764 : k0_chk764 v12885), ∀ a, (k0_off1626 v12885) a + S1x256.size a ≤ S4096x256.size a := fun v12885 k0_hw764 => k0_hw764

def k0_off1627 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4715 : BitVec 32 := 1024#32
  let v12892 : BitVec 32 := Scalar.muli v14 c1024_i32_4715
  let c756_i32 : BitVec 32 := 756#32
  let v12893 : BitVec 32 := Scalar.addi v12892 c756_i32
  let v12894 : Index := Scalar.indexCast v12893
  ![v12894.toNat]
def k0_off1628 (v12895 : BitVec 32) : Fin 2 → Nat :=
  let c4095_i32_4716 : BitVec 32 := 4095#32
  let v12896 : BitVec 32 := Scalar.andi v12895 c4095_i32_4716
  let v12897 : Index := Scalar.indexCast v12896
  let c0_4717 : Index := 0#32
  ![v12897.toNat, 0]

def k0_chk765 (v12895 : BitVec 32) : Prop :=
  (∀ a, (k0_off1628 v12895) a + S1x256.size a ≤ S4096x256.size a)
theorem k0_off1628_inb : ∀ (v12895 : BitVec 32) (k0_hw765 : k0_chk765 v12895), ∀ a, (k0_off1628 v12895) a + S1x256.size a ≤ S4096x256.size a := fun v12895 k0_hw765 => k0_hw765

def k0_off1629 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4719 : BitVec 32 := 1024#32
  let v12902 : BitVec 32 := Scalar.muli v14 c1024_i32_4719
  let c757_i32 : BitVec 32 := 757#32
  let v12903 : BitVec 32 := Scalar.addi v12902 c757_i32
  let v12904 : Index := Scalar.indexCast v12903
  ![v12904.toNat]
def k0_off1630 (v12905 : BitVec 32) : Fin 2 → Nat :=
  let c4095_i32_4720 : BitVec 32 := 4095#32
  let v12906 : BitVec 32 := Scalar.andi v12905 c4095_i32_4720
  let v12907 : Index := Scalar.indexCast v12906
  let c0_4721 : Index := 0#32
  ![v12907.toNat, 0]

def k0_chk766 (v12905 : BitVec 32) : Prop :=
  (∀ a, (k0_off1630 v12905) a + S1x256.size a ≤ S4096x256.size a)
theorem k0_off1630_inb : ∀ (v12905 : BitVec 32) (k0_hw766 : k0_chk766 v12905), ∀ a, (k0_off1630 v12905) a + S1x256.size a ≤ S4096x256.size a := fun v12905 k0_hw766 => k0_hw766

def k0_off1631 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4723 : BitVec 32 := 1024#32
  let v12912 : BitVec 32 := Scalar.muli v14 c1024_i32_4723
  let c758_i32 : BitVec 32 := 758#32
  let v12913 : BitVec 32 := Scalar.addi v12912 c758_i32
  let v12914 : Index := Scalar.indexCast v12913
  ![v12914.toNat]
def k0_off1632 (v12915 : BitVec 32) : Fin 2 → Nat :=
  let c4095_i32_4724 : BitVec 32 := 4095#32
  let v12916 : BitVec 32 := Scalar.andi v12915 c4095_i32_4724
  let v12917 : Index := Scalar.indexCast v12916
  let c0_4725 : Index := 0#32
  ![v12917.toNat, 0]

def k0_chk767 (v12915 : BitVec 32) : Prop :=
  (∀ a, (k0_off1632 v12915) a + S1x256.size a ≤ S4096x256.size a)
theorem k0_off1632_inb : ∀ (v12915 : BitVec 32) (k0_hw767 : k0_chk767 v12915), ∀ a, (k0_off1632 v12915) a + S1x256.size a ≤ S4096x256.size a := fun v12915 k0_hw767 => k0_hw767

def k0_off1633 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v12979 : Index := Scalar.indexCast v12
  let c0_4742 : Index := 0#32
  let c0_4743 : Index := 0#32
  ![v12979.toNat, 0, 0]
def k0_off1634 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v13040 : Index := Scalar.indexCast v12
  let c0_4761 : Index := 0#32
  let c256_4762 : Index := 256#32
  ![v13040.toNat, 0, 256]
def k0_off1635 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v13102 : Index := Scalar.indexCast v12
  let c0_4780 : Index := 0#32
  let c512_4781 : Index := 512#32
  ![v13102.toNat, 0, 512]
def k0_off1636 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v13164 : Index := Scalar.indexCast v12
  let c0_4799 : Index := 0#32
  let c768_4800 : Index := 768#32
  ![v13164.toNat, 0, 768]
def k0_off1637 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4806 : BitVec 32 := 1024#32
  let v13174 : BitVec 32 := Scalar.muli v14 c1024_i32_4806
  let c759_i32 : BitVec 32 := 759#32
  let v13175 : BitVec 32 := Scalar.addi v13174 c759_i32
  let v13176 : Index := Scalar.indexCast v13175
  ![v13176.toNat]
def k0_off1638 (v13177 : BitVec 32) : Fin 2 → Nat :=
  let c4095_i32_4807 : BitVec 32 := 4095#32
  let v13178 : BitVec 32 := Scalar.andi v13177 c4095_i32_4807
  let v13179 : Index := Scalar.indexCast v13178
  let c0_4808 : Index := 0#32
  ![v13179.toNat, 0]

def k0_chk768 (v13177 : BitVec 32) : Prop :=
  (∀ a, (k0_off1638 v13177) a + S1x256.size a ≤ S4096x256.size a)
theorem k0_off1638_inb : ∀ (v13177 : BitVec 32) (k0_hw768 : k0_chk768 v13177), ∀ a, (k0_off1638 v13177) a + S1x256.size a ≤ S4096x256.size a := fun v13177 k0_hw768 => k0_hw768

def k0_off1639 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4810 : BitVec 32 := 1024#32
  let v13184 : BitVec 32 := Scalar.muli v14 c1024_i32_4810
  let c760_i32 : BitVec 32 := 760#32
  let v13185 : BitVec 32 := Scalar.addi v13184 c760_i32
  let v13186 : Index := Scalar.indexCast v13185
  ![v13186.toNat]
def k0_off1640 (v13187 : BitVec 32) : Fin 2 → Nat :=
  let c4095_i32_4811 : BitVec 32 := 4095#32
  let v13188 : BitVec 32 := Scalar.andi v13187 c4095_i32_4811
  let v13189 : Index := Scalar.indexCast v13188
  let c0_4812 : Index := 0#32
  ![v13189.toNat, 0]

def k0_chk769 (v13187 : BitVec 32) : Prop :=
  (∀ a, (k0_off1640 v13187) a + S1x256.size a ≤ S4096x256.size a)
theorem k0_off1640_inb : ∀ (v13187 : BitVec 32) (k0_hw769 : k0_chk769 v13187), ∀ a, (k0_off1640 v13187) a + S1x256.size a ≤ S4096x256.size a := fun v13187 k0_hw769 => k0_hw769

def k0_off1641 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4814 : BitVec 32 := 1024#32
  let v13194 : BitVec 32 := Scalar.muli v14 c1024_i32_4814
  let c761_i32 : BitVec 32 := 761#32
  let v13195 : BitVec 32 := Scalar.addi v13194 c761_i32
  let v13196 : Index := Scalar.indexCast v13195
  ![v13196.toNat]
def k0_off1642 (v13197 : BitVec 32) : Fin 2 → Nat :=
  let c4095_i32_4815 : BitVec 32 := 4095#32
  let v13198 : BitVec 32 := Scalar.andi v13197 c4095_i32_4815
  let v13199 : Index := Scalar.indexCast v13198
  let c0_4816 : Index := 0#32
  ![v13199.toNat, 0]

def k0_chk770 (v13197 : BitVec 32) : Prop :=
  (∀ a, (k0_off1642 v13197) a + S1x256.size a ≤ S4096x256.size a)
theorem k0_off1642_inb : ∀ (v13197 : BitVec 32) (k0_hw770 : k0_chk770 v13197), ∀ a, (k0_off1642 v13197) a + S1x256.size a ≤ S4096x256.size a := fun v13197 k0_hw770 => k0_hw770

def k0_off1643 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4818 : BitVec 32 := 1024#32
  let v13204 : BitVec 32 := Scalar.muli v14 c1024_i32_4818
  let c762_i32 : BitVec 32 := 762#32
  let v13205 : BitVec 32 := Scalar.addi v13204 c762_i32
  let v13206 : Index := Scalar.indexCast v13205
  ![v13206.toNat]
def k0_off1644 (v13207 : BitVec 32) : Fin 2 → Nat :=
  let c4095_i32_4819 : BitVec 32 := 4095#32
  let v13208 : BitVec 32 := Scalar.andi v13207 c4095_i32_4819
  let v13209 : Index := Scalar.indexCast v13208
  let c0_4820 : Index := 0#32
  ![v13209.toNat, 0]

def k0_chk771 (v13207 : BitVec 32) : Prop :=
  (∀ a, (k0_off1644 v13207) a + S1x256.size a ≤ S4096x256.size a)
theorem k0_off1644_inb : ∀ (v13207 : BitVec 32) (k0_hw771 : k0_chk771 v13207), ∀ a, (k0_off1644 v13207) a + S1x256.size a ≤ S4096x256.size a := fun v13207 k0_hw771 => k0_hw771

def k0_off1645 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4822 : BitVec 32 := 1024#32
  let v13214 : BitVec 32 := Scalar.muli v14 c1024_i32_4822
  let c763_i32 : BitVec 32 := 763#32
  let v13215 : BitVec 32 := Scalar.addi v13214 c763_i32
  let v13216 : Index := Scalar.indexCast v13215
  ![v13216.toNat]
def k0_off1646 (v13217 : BitVec 32) : Fin 2 → Nat :=
  let c4095_i32_4823 : BitVec 32 := 4095#32
  let v13218 : BitVec 32 := Scalar.andi v13217 c4095_i32_4823
  let v13219 : Index := Scalar.indexCast v13218
  let c0_4824 : Index := 0#32
  ![v13219.toNat, 0]

def k0_chk772 (v13217 : BitVec 32) : Prop :=
  (∀ a, (k0_off1646 v13217) a + S1x256.size a ≤ S4096x256.size a)
theorem k0_off1646_inb : ∀ (v13217 : BitVec 32) (k0_hw772 : k0_chk772 v13217), ∀ a, (k0_off1646 v13217) a + S1x256.size a ≤ S4096x256.size a := fun v13217 k0_hw772 => k0_hw772

def k0_off1647 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4826 : BitVec 32 := 1024#32
  let v13224 : BitVec 32 := Scalar.muli v14 c1024_i32_4826
  let c764_i32 : BitVec 32 := 764#32
  let v13225 : BitVec 32 := Scalar.addi v13224 c764_i32
  let v13226 : Index := Scalar.indexCast v13225
  ![v13226.toNat]
def k0_off1648 (v13227 : BitVec 32) : Fin 2 → Nat :=
  let c4095_i32_4827 : BitVec 32 := 4095#32
  let v13228 : BitVec 32 := Scalar.andi v13227 c4095_i32_4827
  let v13229 : Index := Scalar.indexCast v13228
  let c0_4828 : Index := 0#32
  ![v13229.toNat, 0]

def k0_chk773 (v13227 : BitVec 32) : Prop :=
  (∀ a, (k0_off1648 v13227) a + S1x256.size a ≤ S4096x256.size a)
theorem k0_off1648_inb : ∀ (v13227 : BitVec 32) (k0_hw773 : k0_chk773 v13227), ∀ a, (k0_off1648 v13227) a + S1x256.size a ≤ S4096x256.size a := fun v13227 k0_hw773 => k0_hw773

def k0_off1649 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4830 : BitVec 32 := 1024#32
  let v13234 : BitVec 32 := Scalar.muli v14 c1024_i32_4830
  let c765_i32 : BitVec 32 := 765#32
  let v13235 : BitVec 32 := Scalar.addi v13234 c765_i32
  let v13236 : Index := Scalar.indexCast v13235
  ![v13236.toNat]
def k0_off1650 (v13237 : BitVec 32) : Fin 2 → Nat :=
  let c4095_i32_4831 : BitVec 32 := 4095#32
  let v13238 : BitVec 32 := Scalar.andi v13237 c4095_i32_4831
  let v13239 : Index := Scalar.indexCast v13238
  let c0_4832 : Index := 0#32
  ![v13239.toNat, 0]

def k0_chk774 (v13237 : BitVec 32) : Prop :=
  (∀ a, (k0_off1650 v13237) a + S1x256.size a ≤ S4096x256.size a)
theorem k0_off1650_inb : ∀ (v13237 : BitVec 32) (k0_hw774 : k0_chk774 v13237), ∀ a, (k0_off1650 v13237) a + S1x256.size a ≤ S4096x256.size a := fun v13237 k0_hw774 => k0_hw774

def k0_off1651 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4834 : BitVec 32 := 1024#32
  let v13244 : BitVec 32 := Scalar.muli v14 c1024_i32_4834
  let c766_i32 : BitVec 32 := 766#32
  let v13245 : BitVec 32 := Scalar.addi v13244 c766_i32
  let v13246 : Index := Scalar.indexCast v13245
  ![v13246.toNat]
def k0_off1652 (v13247 : BitVec 32) : Fin 2 → Nat :=
  let c4095_i32_4835 : BitVec 32 := 4095#32
  let v13248 : BitVec 32 := Scalar.andi v13247 c4095_i32_4835
  let v13249 : Index := Scalar.indexCast v13248
  let c0_4836 : Index := 0#32
  ![v13249.toNat, 0]

def k0_chk775 (v13247 : BitVec 32) : Prop :=
  (∀ a, (k0_off1652 v13247) a + S1x256.size a ≤ S4096x256.size a)
theorem k0_off1652_inb : ∀ (v13247 : BitVec 32) (k0_hw775 : k0_chk775 v13247), ∀ a, (k0_off1652 v13247) a + S1x256.size a ≤ S4096x256.size a := fun v13247 k0_hw775 => k0_hw775

def k0_off1653 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4838 : BitVec 32 := 1024#32
  let v13254 : BitVec 32 := Scalar.muli v14 c1024_i32_4838
  let c767_i32 : BitVec 32 := 767#32
  let v13255 : BitVec 32 := Scalar.addi v13254 c767_i32
  let v13256 : Index := Scalar.indexCast v13255
  ![v13256.toNat]
def k0_off1654 (v13257 : BitVec 32) : Fin 2 → Nat :=
  let c4095_i32_4839 : BitVec 32 := 4095#32
  let v13258 : BitVec 32 := Scalar.andi v13257 c4095_i32_4839
  let v13259 : Index := Scalar.indexCast v13258
  let c0_4840 : Index := 0#32
  ![v13259.toNat, 0]

def k0_chk776 (v13257 : BitVec 32) : Prop :=
  (∀ a, (k0_off1654 v13257) a + S1x256.size a ≤ S4096x256.size a)
theorem k0_off1654_inb : ∀ (v13257 : BitVec 32) (k0_hw776 : k0_chk776 v13257), ∀ a, (k0_off1654 v13257) a + S1x256.size a ≤ S4096x256.size a := fun v13257 k0_hw776 => k0_hw776

def k0_off1655 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4842 : BitVec 32 := 1024#32
  let v13264 : BitVec 32 := Scalar.muli v14 c1024_i32_4842
  let c768_i32 : BitVec 32 := 768#32
  let v13265 : BitVec 32 := Scalar.addi v13264 c768_i32
  let v13266 : Index := Scalar.indexCast v13265
  ![v13266.toNat]
def k0_off1656 (v13267 : BitVec 32) : Fin 2 → Nat :=
  let c4095_i32_4843 : BitVec 32 := 4095#32
  let v13268 : BitVec 32 := Scalar.andi v13267 c4095_i32_4843
  let v13269 : Index := Scalar.indexCast v13268
  let c0_4844 : Index := 0#32
  ![v13269.toNat, 0]

def k0_chk777 (v13267 : BitVec 32) : Prop :=
  (∀ a, (k0_off1656 v13267) a + S1x256.size a ≤ S4096x256.size a)
theorem k0_off1656_inb : ∀ (v13267 : BitVec 32) (k0_hw777 : k0_chk777 v13267), ∀ a, (k0_off1656 v13267) a + S1x256.size a ≤ S4096x256.size a := fun v13267 k0_hw777 => k0_hw777

def k0_off1657 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4847 : BitVec 32 := 1024#32
  let v13274 : BitVec 32 := Scalar.muli v14 c1024_i32_4847
  let c769_i32 : BitVec 32 := 769#32
  let v13275 : BitVec 32 := Scalar.addi v13274 c769_i32
  let v13276 : Index := Scalar.indexCast v13275
  ![v13276.toNat]
def k0_off1658 (v13277 : BitVec 32) : Fin 2 → Nat :=
  let c4095_i32_4848 : BitVec 32 := 4095#32
  let v13278 : BitVec 32 := Scalar.andi v13277 c4095_i32_4848
  let v13279 : Index := Scalar.indexCast v13278
  let c0_4849 : Index := 0#32
  ![v13279.toNat, 0]

def k0_chk778 (v13277 : BitVec 32) : Prop :=
  (∀ a, (k0_off1658 v13277) a + S1x256.size a ≤ S4096x256.size a)
theorem k0_off1658_inb : ∀ (v13277 : BitVec 32) (k0_hw778 : k0_chk778 v13277), ∀ a, (k0_off1658 v13277) a + S1x256.size a ≤ S4096x256.size a := fun v13277 k0_hw778 => k0_hw778

def k0_off1659 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4851 : BitVec 32 := 1024#32
  let v13284 : BitVec 32 := Scalar.muli v14 c1024_i32_4851
  let c770_i32 : BitVec 32 := 770#32
  let v13285 : BitVec 32 := Scalar.addi v13284 c770_i32
  let v13286 : Index := Scalar.indexCast v13285
  ![v13286.toNat]
def k0_off1660 (v13287 : BitVec 32) : Fin 2 → Nat :=
  let c4095_i32_4852 : BitVec 32 := 4095#32
  let v13288 : BitVec 32 := Scalar.andi v13287 c4095_i32_4852
  let v13289 : Index := Scalar.indexCast v13288
  let c0_4853 : Index := 0#32
  ![v13289.toNat, 0]

def k0_chk779 (v13287 : BitVec 32) : Prop :=
  (∀ a, (k0_off1660 v13287) a + S1x256.size a ≤ S4096x256.size a)
theorem k0_off1660_inb : ∀ (v13287 : BitVec 32) (k0_hw779 : k0_chk779 v13287), ∀ a, (k0_off1660 v13287) a + S1x256.size a ≤ S4096x256.size a := fun v13287 k0_hw779 => k0_hw779

def k0_off1661 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4855 : BitVec 32 := 1024#32
  let v13294 : BitVec 32 := Scalar.muli v14 c1024_i32_4855
  let c771_i32 : BitVec 32 := 771#32
  let v13295 : BitVec 32 := Scalar.addi v13294 c771_i32
  let v13296 : Index := Scalar.indexCast v13295
  ![v13296.toNat]
def k0_off1662 (v13297 : BitVec 32) : Fin 2 → Nat :=
  let c4095_i32_4856 : BitVec 32 := 4095#32
  let v13298 : BitVec 32 := Scalar.andi v13297 c4095_i32_4856
  let v13299 : Index := Scalar.indexCast v13298
  let c0_4857 : Index := 0#32
  ![v13299.toNat, 0]

def k0_chk780 (v13297 : BitVec 32) : Prop :=
  (∀ a, (k0_off1662 v13297) a + S1x256.size a ≤ S4096x256.size a)
theorem k0_off1662_inb : ∀ (v13297 : BitVec 32) (k0_hw780 : k0_chk780 v13297), ∀ a, (k0_off1662 v13297) a + S1x256.size a ≤ S4096x256.size a := fun v13297 k0_hw780 => k0_hw780

def k0_off1663 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4859 : BitVec 32 := 1024#32
  let v13304 : BitVec 32 := Scalar.muli v14 c1024_i32_4859
  let c772_i32 : BitVec 32 := 772#32
  let v13305 : BitVec 32 := Scalar.addi v13304 c772_i32
  let v13306 : Index := Scalar.indexCast v13305
  ![v13306.toNat]
def k0_off1664 (v13307 : BitVec 32) : Fin 2 → Nat :=
  let c4095_i32_4860 : BitVec 32 := 4095#32
  let v13308 : BitVec 32 := Scalar.andi v13307 c4095_i32_4860
  let v13309 : Index := Scalar.indexCast v13308
  let c0_4861 : Index := 0#32
  ![v13309.toNat, 0]

def k0_chk781 (v13307 : BitVec 32) : Prop :=
  (∀ a, (k0_off1664 v13307) a + S1x256.size a ≤ S4096x256.size a)
theorem k0_off1664_inb : ∀ (v13307 : BitVec 32) (k0_hw781 : k0_chk781 v13307), ∀ a, (k0_off1664 v13307) a + S1x256.size a ≤ S4096x256.size a := fun v13307 k0_hw781 => k0_hw781

def k0_off1665 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4863 : BitVec 32 := 1024#32
  let v13314 : BitVec 32 := Scalar.muli v14 c1024_i32_4863
  let c773_i32 : BitVec 32 := 773#32
  let v13315 : BitVec 32 := Scalar.addi v13314 c773_i32
  let v13316 : Index := Scalar.indexCast v13315
  ![v13316.toNat]
def k0_off1666 (v13317 : BitVec 32) : Fin 2 → Nat :=
  let c4095_i32_4864 : BitVec 32 := 4095#32
  let v13318 : BitVec 32 := Scalar.andi v13317 c4095_i32_4864
  let v13319 : Index := Scalar.indexCast v13318
  let c0_4865 : Index := 0#32
  ![v13319.toNat, 0]

def k0_chk782 (v13317 : BitVec 32) : Prop :=
  (∀ a, (k0_off1666 v13317) a + S1x256.size a ≤ S4096x256.size a)
theorem k0_off1666_inb : ∀ (v13317 : BitVec 32) (k0_hw782 : k0_chk782 v13317), ∀ a, (k0_off1666 v13317) a + S1x256.size a ≤ S4096x256.size a := fun v13317 k0_hw782 => k0_hw782

def k0_off1667 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4867 : BitVec 32 := 1024#32
  let v13324 : BitVec 32 := Scalar.muli v14 c1024_i32_4867
  let c774_i32 : BitVec 32 := 774#32
  let v13325 : BitVec 32 := Scalar.addi v13324 c774_i32
  let v13326 : Index := Scalar.indexCast v13325
  ![v13326.toNat]
def k0_off1668 (v13327 : BitVec 32) : Fin 2 → Nat :=
  let c4095_i32_4868 : BitVec 32 := 4095#32
  let v13328 : BitVec 32 := Scalar.andi v13327 c4095_i32_4868
  let v13329 : Index := Scalar.indexCast v13328
  let c0_4869 : Index := 0#32
  ![v13329.toNat, 0]

def k0_chk783 (v13327 : BitVec 32) : Prop :=
  (∀ a, (k0_off1668 v13327) a + S1x256.size a ≤ S4096x256.size a)
theorem k0_off1668_inb : ∀ (v13327 : BitVec 32) (k0_hw783 : k0_chk783 v13327), ∀ a, (k0_off1668 v13327) a + S1x256.size a ≤ S4096x256.size a := fun v13327 k0_hw783 => k0_hw783

def k0_off1669 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4871 : BitVec 32 := 1024#32
  let v13334 : BitVec 32 := Scalar.muli v14 c1024_i32_4871
  let c775_i32 : BitVec 32 := 775#32
  let v13335 : BitVec 32 := Scalar.addi v13334 c775_i32
  let v13336 : Index := Scalar.indexCast v13335
  ![v13336.toNat]
def k0_off1670 (v13337 : BitVec 32) : Fin 2 → Nat :=
  let c4095_i32_4872 : BitVec 32 := 4095#32
  let v13338 : BitVec 32 := Scalar.andi v13337 c4095_i32_4872
  let v13339 : Index := Scalar.indexCast v13338
  let c0_4873 : Index := 0#32
  ![v13339.toNat, 0]

def k0_chk784 (v13337 : BitVec 32) : Prop :=
  (∀ a, (k0_off1670 v13337) a + S1x256.size a ≤ S4096x256.size a)
theorem k0_off1670_inb : ∀ (v13337 : BitVec 32) (k0_hw784 : k0_chk784 v13337), ∀ a, (k0_off1670 v13337) a + S1x256.size a ≤ S4096x256.size a := fun v13337 k0_hw784 => k0_hw784

def k0_off1671 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4875 : BitVec 32 := 1024#32
  let v13344 : BitVec 32 := Scalar.muli v14 c1024_i32_4875
  let c776_i32 : BitVec 32 := 776#32
  let v13345 : BitVec 32 := Scalar.addi v13344 c776_i32
  let v13346 : Index := Scalar.indexCast v13345
  ![v13346.toNat]
def k0_off1672 (v13347 : BitVec 32) : Fin 2 → Nat :=
  let c4095_i32_4876 : BitVec 32 := 4095#32
  let v13348 : BitVec 32 := Scalar.andi v13347 c4095_i32_4876
  let v13349 : Index := Scalar.indexCast v13348
  let c0_4877 : Index := 0#32
  ![v13349.toNat, 0]

def k0_chk785 (v13347 : BitVec 32) : Prop :=
  (∀ a, (k0_off1672 v13347) a + S1x256.size a ≤ S4096x256.size a)
theorem k0_off1672_inb : ∀ (v13347 : BitVec 32) (k0_hw785 : k0_chk785 v13347), ∀ a, (k0_off1672 v13347) a + S1x256.size a ≤ S4096x256.size a := fun v13347 k0_hw785 => k0_hw785

def k0_off1673 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4879 : BitVec 32 := 1024#32
  let v13354 : BitVec 32 := Scalar.muli v14 c1024_i32_4879
  let c777_i32 : BitVec 32 := 777#32
  let v13355 : BitVec 32 := Scalar.addi v13354 c777_i32
  let v13356 : Index := Scalar.indexCast v13355
  ![v13356.toNat]
def k0_off1674 (v13357 : BitVec 32) : Fin 2 → Nat :=
  let c4095_i32_4880 : BitVec 32 := 4095#32
  let v13358 : BitVec 32 := Scalar.andi v13357 c4095_i32_4880
  let v13359 : Index := Scalar.indexCast v13358
  let c0_4881 : Index := 0#32
  ![v13359.toNat, 0]

def k0_chk786 (v13357 : BitVec 32) : Prop :=
  (∀ a, (k0_off1674 v13357) a + S1x256.size a ≤ S4096x256.size a)
theorem k0_off1674_inb : ∀ (v13357 : BitVec 32) (k0_hw786 : k0_chk786 v13357), ∀ a, (k0_off1674 v13357) a + S1x256.size a ≤ S4096x256.size a := fun v13357 k0_hw786 => k0_hw786

def k0_off1675 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4883 : BitVec 32 := 1024#32
  let v13364 : BitVec 32 := Scalar.muli v14 c1024_i32_4883
  let c778_i32 : BitVec 32 := 778#32
  let v13365 : BitVec 32 := Scalar.addi v13364 c778_i32
  let v13366 : Index := Scalar.indexCast v13365
  ![v13366.toNat]
def k0_off1676 (v13367 : BitVec 32) : Fin 2 → Nat :=
  let c4095_i32_4884 : BitVec 32 := 4095#32
  let v13368 : BitVec 32 := Scalar.andi v13367 c4095_i32_4884
  let v13369 : Index := Scalar.indexCast v13368
  let c0_4885 : Index := 0#32
  ![v13369.toNat, 0]

def k0_chk787 (v13367 : BitVec 32) : Prop :=
  (∀ a, (k0_off1676 v13367) a + S1x256.size a ≤ S4096x256.size a)
theorem k0_off1676_inb : ∀ (v13367 : BitVec 32) (k0_hw787 : k0_chk787 v13367), ∀ a, (k0_off1676 v13367) a + S1x256.size a ≤ S4096x256.size a := fun v13367 k0_hw787 => k0_hw787

def k0_off1677 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4887 : BitVec 32 := 1024#32
  let v13374 : BitVec 32 := Scalar.muli v14 c1024_i32_4887
  let c779_i32 : BitVec 32 := 779#32
  let v13375 : BitVec 32 := Scalar.addi v13374 c779_i32
  let v13376 : Index := Scalar.indexCast v13375
  ![v13376.toNat]
def k0_off1678 (v13377 : BitVec 32) : Fin 2 → Nat :=
  let c4095_i32_4888 : BitVec 32 := 4095#32
  let v13378 : BitVec 32 := Scalar.andi v13377 c4095_i32_4888
  let v13379 : Index := Scalar.indexCast v13378
  let c0_4889 : Index := 0#32
  ![v13379.toNat, 0]

def k0_chk788 (v13377 : BitVec 32) : Prop :=
  (∀ a, (k0_off1678 v13377) a + S1x256.size a ≤ S4096x256.size a)
theorem k0_off1678_inb : ∀ (v13377 : BitVec 32) (k0_hw788 : k0_chk788 v13377), ∀ a, (k0_off1678 v13377) a + S1x256.size a ≤ S4096x256.size a := fun v13377 k0_hw788 => k0_hw788

def k0_off1679 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4891 : BitVec 32 := 1024#32
  let v13384 : BitVec 32 := Scalar.muli v14 c1024_i32_4891
  let c780_i32 : BitVec 32 := 780#32
  let v13385 : BitVec 32 := Scalar.addi v13384 c780_i32
  let v13386 : Index := Scalar.indexCast v13385
  ![v13386.toNat]
def k0_off1680 (v13387 : BitVec 32) : Fin 2 → Nat :=
  let c4095_i32_4892 : BitVec 32 := 4095#32
  let v13388 : BitVec 32 := Scalar.andi v13387 c4095_i32_4892
  let v13389 : Index := Scalar.indexCast v13388
  let c0_4893 : Index := 0#32
  ![v13389.toNat, 0]

def k0_chk789 (v13387 : BitVec 32) : Prop :=
  (∀ a, (k0_off1680 v13387) a + S1x256.size a ≤ S4096x256.size a)
theorem k0_off1680_inb : ∀ (v13387 : BitVec 32) (k0_hw789 : k0_chk789 v13387), ∀ a, (k0_off1680 v13387) a + S1x256.size a ≤ S4096x256.size a := fun v13387 k0_hw789 => k0_hw789

def k0_off1681 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4895 : BitVec 32 := 1024#32
  let v13394 : BitVec 32 := Scalar.muli v14 c1024_i32_4895
  let c781_i32 : BitVec 32 := 781#32
  let v13395 : BitVec 32 := Scalar.addi v13394 c781_i32
  let v13396 : Index := Scalar.indexCast v13395
  ![v13396.toNat]
def k0_off1682 (v13397 : BitVec 32) : Fin 2 → Nat :=
  let c4095_i32_4896 : BitVec 32 := 4095#32
  let v13398 : BitVec 32 := Scalar.andi v13397 c4095_i32_4896
  let v13399 : Index := Scalar.indexCast v13398
  let c0_4897 : Index := 0#32
  ![v13399.toNat, 0]

def k0_chk790 (v13397 : BitVec 32) : Prop :=
  (∀ a, (k0_off1682 v13397) a + S1x256.size a ≤ S4096x256.size a)
theorem k0_off1682_inb : ∀ (v13397 : BitVec 32) (k0_hw790 : k0_chk790 v13397), ∀ a, (k0_off1682 v13397) a + S1x256.size a ≤ S4096x256.size a := fun v13397 k0_hw790 => k0_hw790

def k0_off1683 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4899 : BitVec 32 := 1024#32
  let v13404 : BitVec 32 := Scalar.muli v14 c1024_i32_4899
  let c782_i32 : BitVec 32 := 782#32
  let v13405 : BitVec 32 := Scalar.addi v13404 c782_i32
  let v13406 : Index := Scalar.indexCast v13405
  ![v13406.toNat]
def k0_off1684 (v13407 : BitVec 32) : Fin 2 → Nat :=
  let c4095_i32_4900 : BitVec 32 := 4095#32
  let v13408 : BitVec 32 := Scalar.andi v13407 c4095_i32_4900
  let v13409 : Index := Scalar.indexCast v13408
  let c0_4901 : Index := 0#32
  ![v13409.toNat, 0]

def k0_chk791 (v13407 : BitVec 32) : Prop :=
  (∀ a, (k0_off1684 v13407) a + S1x256.size a ≤ S4096x256.size a)
theorem k0_off1684_inb : ∀ (v13407 : BitVec 32) (k0_hw791 : k0_chk791 v13407), ∀ a, (k0_off1684 v13407) a + S1x256.size a ≤ S4096x256.size a := fun v13407 k0_hw791 => k0_hw791

def k0_off1685 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4903 : BitVec 32 := 1024#32
  let v13414 : BitVec 32 := Scalar.muli v14 c1024_i32_4903
  let c783_i32 : BitVec 32 := 783#32
  let v13415 : BitVec 32 := Scalar.addi v13414 c783_i32
  let v13416 : Index := Scalar.indexCast v13415
  ![v13416.toNat]
def k0_off1686 (v13417 : BitVec 32) : Fin 2 → Nat :=
  let c4095_i32_4904 : BitVec 32 := 4095#32
  let v13418 : BitVec 32 := Scalar.andi v13417 c4095_i32_4904
  let v13419 : Index := Scalar.indexCast v13418
  let c0_4905 : Index := 0#32
  ![v13419.toNat, 0]

def k0_chk792 (v13417 : BitVec 32) : Prop :=
  (∀ a, (k0_off1686 v13417) a + S1x256.size a ≤ S4096x256.size a)
theorem k0_off1686_inb : ∀ (v13417 : BitVec 32) (k0_hw792 : k0_chk792 v13417), ∀ a, (k0_off1686 v13417) a + S1x256.size a ≤ S4096x256.size a := fun v13417 k0_hw792 => k0_hw792

def k0_off1687 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4907 : BitVec 32 := 1024#32
  let v13424 : BitVec 32 := Scalar.muli v14 c1024_i32_4907
  let c784_i32 : BitVec 32 := 784#32
  let v13425 : BitVec 32 := Scalar.addi v13424 c784_i32
  let v13426 : Index := Scalar.indexCast v13425
  ![v13426.toNat]
def k0_off1688 (v13427 : BitVec 32) : Fin 2 → Nat :=
  let c4095_i32_4908 : BitVec 32 := 4095#32
  let v13428 : BitVec 32 := Scalar.andi v13427 c4095_i32_4908
  let v13429 : Index := Scalar.indexCast v13428
  let c0_4909 : Index := 0#32
  ![v13429.toNat, 0]

def k0_chk793 (v13427 : BitVec 32) : Prop :=
  (∀ a, (k0_off1688 v13427) a + S1x256.size a ≤ S4096x256.size a)
theorem k0_off1688_inb : ∀ (v13427 : BitVec 32) (k0_hw793 : k0_chk793 v13427), ∀ a, (k0_off1688 v13427) a + S1x256.size a ≤ S4096x256.size a := fun v13427 k0_hw793 => k0_hw793

def k0_off1689 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4911 : BitVec 32 := 1024#32
  let v13434 : BitVec 32 := Scalar.muli v14 c1024_i32_4911
  let c785_i32 : BitVec 32 := 785#32
  let v13435 : BitVec 32 := Scalar.addi v13434 c785_i32
  let v13436 : Index := Scalar.indexCast v13435
  ![v13436.toNat]
def k0_off1690 (v13437 : BitVec 32) : Fin 2 → Nat :=
  let c4095_i32_4912 : BitVec 32 := 4095#32
  let v13438 : BitVec 32 := Scalar.andi v13437 c4095_i32_4912
  let v13439 : Index := Scalar.indexCast v13438
  let c0_4913 : Index := 0#32
  ![v13439.toNat, 0]

def k0_chk794 (v13437 : BitVec 32) : Prop :=
  (∀ a, (k0_off1690 v13437) a + S1x256.size a ≤ S4096x256.size a)
theorem k0_off1690_inb : ∀ (v13437 : BitVec 32) (k0_hw794 : k0_chk794 v13437), ∀ a, (k0_off1690 v13437) a + S1x256.size a ≤ S4096x256.size a := fun v13437 k0_hw794 => k0_hw794

def k0_off1691 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4915 : BitVec 32 := 1024#32
  let v13444 : BitVec 32 := Scalar.muli v14 c1024_i32_4915
  let c786_i32 : BitVec 32 := 786#32
  let v13445 : BitVec 32 := Scalar.addi v13444 c786_i32
  let v13446 : Index := Scalar.indexCast v13445
  ![v13446.toNat]
def k0_off1692 (v13447 : BitVec 32) : Fin 2 → Nat :=
  let c4095_i32_4916 : BitVec 32 := 4095#32
  let v13448 : BitVec 32 := Scalar.andi v13447 c4095_i32_4916
  let v13449 : Index := Scalar.indexCast v13448
  let c0_4917 : Index := 0#32
  ![v13449.toNat, 0]

def k0_chk795 (v13447 : BitVec 32) : Prop :=
  (∀ a, (k0_off1692 v13447) a + S1x256.size a ≤ S4096x256.size a)
theorem k0_off1692_inb : ∀ (v13447 : BitVec 32) (k0_hw795 : k0_chk795 v13447), ∀ a, (k0_off1692 v13447) a + S1x256.size a ≤ S4096x256.size a := fun v13447 k0_hw795 => k0_hw795

def k0_off1693 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4919 : BitVec 32 := 1024#32
  let v13454 : BitVec 32 := Scalar.muli v14 c1024_i32_4919
  let c787_i32 : BitVec 32 := 787#32
  let v13455 : BitVec 32 := Scalar.addi v13454 c787_i32
  let v13456 : Index := Scalar.indexCast v13455
  ![v13456.toNat]
def k0_off1694 (v13457 : BitVec 32) : Fin 2 → Nat :=
  let c4095_i32_4920 : BitVec 32 := 4095#32
  let v13458 : BitVec 32 := Scalar.andi v13457 c4095_i32_4920
  let v13459 : Index := Scalar.indexCast v13458
  let c0_4921 : Index := 0#32
  ![v13459.toNat, 0]

def k0_chk796 (v13457 : BitVec 32) : Prop :=
  (∀ a, (k0_off1694 v13457) a + S1x256.size a ≤ S4096x256.size a)
theorem k0_off1694_inb : ∀ (v13457 : BitVec 32) (k0_hw796 : k0_chk796 v13457), ∀ a, (k0_off1694 v13457) a + S1x256.size a ≤ S4096x256.size a := fun v13457 k0_hw796 => k0_hw796

def k0_off1695 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4923 : BitVec 32 := 1024#32
  let v13464 : BitVec 32 := Scalar.muli v14 c1024_i32_4923
  let c788_i32 : BitVec 32 := 788#32
  let v13465 : BitVec 32 := Scalar.addi v13464 c788_i32
  let v13466 : Index := Scalar.indexCast v13465
  ![v13466.toNat]
def k0_off1696 (v13467 : BitVec 32) : Fin 2 → Nat :=
  let c4095_i32_4924 : BitVec 32 := 4095#32
  let v13468 : BitVec 32 := Scalar.andi v13467 c4095_i32_4924
  let v13469 : Index := Scalar.indexCast v13468
  let c0_4925 : Index := 0#32
  ![v13469.toNat, 0]

def k0_chk797 (v13467 : BitVec 32) : Prop :=
  (∀ a, (k0_off1696 v13467) a + S1x256.size a ≤ S4096x256.size a)
theorem k0_off1696_inb : ∀ (v13467 : BitVec 32) (k0_hw797 : k0_chk797 v13467), ∀ a, (k0_off1696 v13467) a + S1x256.size a ≤ S4096x256.size a := fun v13467 k0_hw797 => k0_hw797

def k0_off1697 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4927 : BitVec 32 := 1024#32
  let v13474 : BitVec 32 := Scalar.muli v14 c1024_i32_4927
  let c789_i32 : BitVec 32 := 789#32
  let v13475 : BitVec 32 := Scalar.addi v13474 c789_i32
  let v13476 : Index := Scalar.indexCast v13475
  ![v13476.toNat]
def k0_off1698 (v13477 : BitVec 32) : Fin 2 → Nat :=
  let c4095_i32_4928 : BitVec 32 := 4095#32
  let v13478 : BitVec 32 := Scalar.andi v13477 c4095_i32_4928
  let v13479 : Index := Scalar.indexCast v13478
  let c0_4929 : Index := 0#32
  ![v13479.toNat, 0]

def k0_chk798 (v13477 : BitVec 32) : Prop :=
  (∀ a, (k0_off1698 v13477) a + S1x256.size a ≤ S4096x256.size a)
theorem k0_off1698_inb : ∀ (v13477 : BitVec 32) (k0_hw798 : k0_chk798 v13477), ∀ a, (k0_off1698 v13477) a + S1x256.size a ≤ S4096x256.size a := fun v13477 k0_hw798 => k0_hw798

def k0_off1699 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4931 : BitVec 32 := 1024#32
  let v13484 : BitVec 32 := Scalar.muli v14 c1024_i32_4931
  let c790_i32 : BitVec 32 := 790#32
  let v13485 : BitVec 32 := Scalar.addi v13484 c790_i32
  let v13486 : Index := Scalar.indexCast v13485
  ![v13486.toNat]
def k0_off1700 (v13487 : BitVec 32) : Fin 2 → Nat :=
  let c4095_i32_4932 : BitVec 32 := 4095#32
  let v13488 : BitVec 32 := Scalar.andi v13487 c4095_i32_4932
  let v13489 : Index := Scalar.indexCast v13488
  let c0_4933 : Index := 0#32
  ![v13489.toNat, 0]

def k0_chk799 (v13487 : BitVec 32) : Prop :=
  (∀ a, (k0_off1700 v13487) a + S1x256.size a ≤ S4096x256.size a)
theorem k0_off1700_inb : ∀ (v13487 : BitVec 32) (k0_hw799 : k0_chk799 v13487), ∀ a, (k0_off1700 v13487) a + S1x256.size a ≤ S4096x256.size a := fun v13487 k0_hw799 => k0_hw799

def k0_off1701 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4935 : BitVec 32 := 1024#32
  let v13494 : BitVec 32 := Scalar.muli v14 c1024_i32_4935
  let c791_i32 : BitVec 32 := 791#32
  let v13495 : BitVec 32 := Scalar.addi v13494 c791_i32
  let v13496 : Index := Scalar.indexCast v13495
  ![v13496.toNat]
def k0_off1702 (v13497 : BitVec 32) : Fin 2 → Nat :=
  let c4095_i32_4936 : BitVec 32 := 4095#32
  let v13498 : BitVec 32 := Scalar.andi v13497 c4095_i32_4936
  let v13499 : Index := Scalar.indexCast v13498
  let c0_4937 : Index := 0#32
  ![v13499.toNat, 0]

def k0_chk800 (v13497 : BitVec 32) : Prop :=
  (∀ a, (k0_off1702 v13497) a + S1x256.size a ≤ S4096x256.size a)
theorem k0_off1702_inb : ∀ (v13497 : BitVec 32) (k0_hw800 : k0_chk800 v13497), ∀ a, (k0_off1702 v13497) a + S1x256.size a ≤ S4096x256.size a := fun v13497 k0_hw800 => k0_hw800

def k0_off1703 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4939 : BitVec 32 := 1024#32
  let v13504 : BitVec 32 := Scalar.muli v14 c1024_i32_4939
  let c792_i32 : BitVec 32 := 792#32
  let v13505 : BitVec 32 := Scalar.addi v13504 c792_i32
  let v13506 : Index := Scalar.indexCast v13505
  ![v13506.toNat]
def k0_off1704 (v13507 : BitVec 32) : Fin 2 → Nat :=
  let c4095_i32_4940 : BitVec 32 := 4095#32
  let v13508 : BitVec 32 := Scalar.andi v13507 c4095_i32_4940
  let v13509 : Index := Scalar.indexCast v13508
  let c0_4941 : Index := 0#32
  ![v13509.toNat, 0]

def k0_chk801 (v13507 : BitVec 32) : Prop :=
  (∀ a, (k0_off1704 v13507) a + S1x256.size a ≤ S4096x256.size a)
theorem k0_off1704_inb : ∀ (v13507 : BitVec 32) (k0_hw801 : k0_chk801 v13507), ∀ a, (k0_off1704 v13507) a + S1x256.size a ≤ S4096x256.size a := fun v13507 k0_hw801 => k0_hw801

def k0_off1705 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4943 : BitVec 32 := 1024#32
  let v13514 : BitVec 32 := Scalar.muli v14 c1024_i32_4943
  let c793_i32 : BitVec 32 := 793#32
  let v13515 : BitVec 32 := Scalar.addi v13514 c793_i32
  let v13516 : Index := Scalar.indexCast v13515
  ![v13516.toNat]
def k0_off1706 (v13517 : BitVec 32) : Fin 2 → Nat :=
  let c4095_i32_4944 : BitVec 32 := 4095#32
  let v13518 : BitVec 32 := Scalar.andi v13517 c4095_i32_4944
  let v13519 : Index := Scalar.indexCast v13518
  let c0_4945 : Index := 0#32
  ![v13519.toNat, 0]

def k0_chk802 (v13517 : BitVec 32) : Prop :=
  (∀ a, (k0_off1706 v13517) a + S1x256.size a ≤ S4096x256.size a)
theorem k0_off1706_inb : ∀ (v13517 : BitVec 32) (k0_hw802 : k0_chk802 v13517), ∀ a, (k0_off1706 v13517) a + S1x256.size a ≤ S4096x256.size a := fun v13517 k0_hw802 => k0_hw802

def k0_off1707 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4947 : BitVec 32 := 1024#32
  let v13524 : BitVec 32 := Scalar.muli v14 c1024_i32_4947
  let c794_i32 : BitVec 32 := 794#32
  let v13525 : BitVec 32 := Scalar.addi v13524 c794_i32
  let v13526 : Index := Scalar.indexCast v13525
  ![v13526.toNat]
def k0_off1708 (v13527 : BitVec 32) : Fin 2 → Nat :=
  let c4095_i32_4948 : BitVec 32 := 4095#32
  let v13528 : BitVec 32 := Scalar.andi v13527 c4095_i32_4948
  let v13529 : Index := Scalar.indexCast v13528
  let c0_4949 : Index := 0#32
  ![v13529.toNat, 0]

def k0_chk803 (v13527 : BitVec 32) : Prop :=
  (∀ a, (k0_off1708 v13527) a + S1x256.size a ≤ S4096x256.size a)
theorem k0_off1708_inb : ∀ (v13527 : BitVec 32) (k0_hw803 : k0_chk803 v13527), ∀ a, (k0_off1708 v13527) a + S1x256.size a ≤ S4096x256.size a := fun v13527 k0_hw803 => k0_hw803

def k0_off1709 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4951 : BitVec 32 := 1024#32
  let v13534 : BitVec 32 := Scalar.muli v14 c1024_i32_4951
  let c795_i32 : BitVec 32 := 795#32
  let v13535 : BitVec 32 := Scalar.addi v13534 c795_i32
  let v13536 : Index := Scalar.indexCast v13535
  ![v13536.toNat]
def k0_off1710 (v13537 : BitVec 32) : Fin 2 → Nat :=
  let c4095_i32_4952 : BitVec 32 := 4095#32
  let v13538 : BitVec 32 := Scalar.andi v13537 c4095_i32_4952
  let v13539 : Index := Scalar.indexCast v13538
  let c0_4953 : Index := 0#32
  ![v13539.toNat, 0]

def k0_chk804 (v13537 : BitVec 32) : Prop :=
  (∀ a, (k0_off1710 v13537) a + S1x256.size a ≤ S4096x256.size a)
theorem k0_off1710_inb : ∀ (v13537 : BitVec 32) (k0_hw804 : k0_chk804 v13537), ∀ a, (k0_off1710 v13537) a + S1x256.size a ≤ S4096x256.size a := fun v13537 k0_hw804 => k0_hw804

def k0_off1711 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_4955 : BitVec 32 := 1024#32
  let v13544 : BitVec 32 := Scalar.muli v14 c1024_i32_4955
  let c796_i32 : BitVec 32 := 796#32
  let v13545 : BitVec 32 := Scalar.addi v13544 c796_i32
  let v13546 : Index := Scalar.indexCast v13545
  ![v13546.toNat]
def k0_off1712 (v13547 : BitVec 32) : Fin 2 → Nat :=
  let c4095_i32_4956 : BitVec 32 := 4095#32
  let v13548 : BitVec 32 := Scalar.andi v13547 c4095_i32_4956
  let v13549 : Index := Scalar.indexCast v13548
  let c0_4957 : Index := 0#32
  ![v13549.toNat, 0]

def k0_chk805 (v13547 : BitVec 32) : Prop :=
  (∀ a, (k0_off1712 v13547) a + S1x256.size a ≤ S4096x256.size a)
theorem k0_off1712_inb : ∀ (v13547 : BitVec 32) (k0_hw805 : k0_chk805 v13547), ∀ a, (k0_off1712 v13547) a + S1x256.size a ≤ S4096x256.size a := fun v13547 k0_hw805 => k0_hw805

def k0_off1713 (i : grid0.Coords) : Fin 2 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c8_i32_4962 : BitVec 32 := 8#32
  let v13557 : BitVec 32 := Scalar.muli v14 c8_i32_4962
  let c5_i32_4963 : BitVec 32 := 5#32
  let v13558 : BitVec 32 := Scalar.addi v13557 c5_i32_4963
  let v13559 : Index := Scalar.indexCast v13558
  let c0_4964 : Index := 0#32
  ![v13559.toNat, 0]
def k0_off1714 (i : grid0.Coords) : Fin 3 → Nat :=
  let c1_i32_4959 : BitVec 32 := 1#32
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v13554 : BitVec 32 := Scalar.subi c1_i32_4959 v12
  let v13602 : Index := Scalar.indexCast v13554
  let c0_4975 : Index := 0#32
  let c640_4976 : Index := 640#32
  ![v13602.toNat, 0, 640]
def k0_off1715 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v13663 : Index := Scalar.indexCast v12
  let c0_4992 : Index := 0#32
  let c0_4993 : Index := 0#32
  ![v13663.toNat, 0, 0]
def k0_off1716 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v13724 : Index := Scalar.indexCast v12
  let c0_5011 : Index := 0#32
  let c256_5012 : Index := 256#32
  ![v13724.toNat, 0, 256]
def k0_off1717 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v13786 : Index := Scalar.indexCast v12
  let c0_5030 : Index := 0#32
  let c512_5031 : Index := 512#32
  ![v13786.toNat, 0, 512]
def k0_off1718 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v13848 : Index := Scalar.indexCast v12
  let c0_5049 : Index := 0#32
  let c768_5050 : Index := 768#32
  ![v13848.toNat, 0, 768]
def k0_off1719 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5056 : BitVec 32 := 1024#32
  let v13858 : BitVec 32 := Scalar.muli v14 c1024_i32_5056
  let c797_i32 : BitVec 32 := 797#32
  let v13859 : BitVec 32 := Scalar.addi v13858 c797_i32
  let v13860 : Index := Scalar.indexCast v13859
  ![v13860.toNat]
def k0_off1720 (v13861 : BitVec 32) : Fin 2 → Nat :=
  let c4095_i32_5057 : BitVec 32 := 4095#32
  let v13862 : BitVec 32 := Scalar.andi v13861 c4095_i32_5057
  let v13863 : Index := Scalar.indexCast v13862
  let c0_5058 : Index := 0#32
  ![v13863.toNat, 0]

def k0_chk806 (v13861 : BitVec 32) : Prop :=
  (∀ a, (k0_off1720 v13861) a + S1x256.size a ≤ S4096x256.size a)
theorem k0_off1720_inb : ∀ (v13861 : BitVec 32) (k0_hw806 : k0_chk806 v13861), ∀ a, (k0_off1720 v13861) a + S1x256.size a ≤ S4096x256.size a := fun v13861 k0_hw806 => k0_hw806

def k0_off1721 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5060 : BitVec 32 := 1024#32
  let v13868 : BitVec 32 := Scalar.muli v14 c1024_i32_5060
  let c798_i32 : BitVec 32 := 798#32
  let v13869 : BitVec 32 := Scalar.addi v13868 c798_i32
  let v13870 : Index := Scalar.indexCast v13869
  ![v13870.toNat]
def k0_off1722 (v13871 : BitVec 32) : Fin 2 → Nat :=
  let c4095_i32_5061 : BitVec 32 := 4095#32
  let v13872 : BitVec 32 := Scalar.andi v13871 c4095_i32_5061
  let v13873 : Index := Scalar.indexCast v13872
  let c0_5062 : Index := 0#32
  ![v13873.toNat, 0]

def k0_chk807 (v13871 : BitVec 32) : Prop :=
  (∀ a, (k0_off1722 v13871) a + S1x256.size a ≤ S4096x256.size a)
theorem k0_off1722_inb : ∀ (v13871 : BitVec 32) (k0_hw807 : k0_chk807 v13871), ∀ a, (k0_off1722 v13871) a + S1x256.size a ≤ S4096x256.size a := fun v13871 k0_hw807 => k0_hw807

def k0_off1723 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5064 : BitVec 32 := 1024#32
  let v13878 : BitVec 32 := Scalar.muli v14 c1024_i32_5064
  let c799_i32 : BitVec 32 := 799#32
  let v13879 : BitVec 32 := Scalar.addi v13878 c799_i32
  let v13880 : Index := Scalar.indexCast v13879
  ![v13880.toNat]
def k0_off1724 (v13881 : BitVec 32) : Fin 2 → Nat :=
  let c4095_i32_5065 : BitVec 32 := 4095#32
  let v13882 : BitVec 32 := Scalar.andi v13881 c4095_i32_5065
  let v13883 : Index := Scalar.indexCast v13882
  let c0_5066 : Index := 0#32
  ![v13883.toNat, 0]

def k0_chk808 (v13881 : BitVec 32) : Prop :=
  (∀ a, (k0_off1724 v13881) a + S1x256.size a ≤ S4096x256.size a)
theorem k0_off1724_inb : ∀ (v13881 : BitVec 32) (k0_hw808 : k0_chk808 v13881), ∀ a, (k0_off1724 v13881) a + S1x256.size a ≤ S4096x256.size a := fun v13881 k0_hw808 => k0_hw808

def k0_off1725 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5068 : BitVec 32 := 1024#32
  let v13888 : BitVec 32 := Scalar.muli v14 c1024_i32_5068
  let c800_i32 : BitVec 32 := 800#32
  let v13889 : BitVec 32 := Scalar.addi v13888 c800_i32
  let v13890 : Index := Scalar.indexCast v13889
  ![v13890.toNat]
def k0_off1726 (v13891 : BitVec 32) : Fin 2 → Nat :=
  let c4095_i32_5069 : BitVec 32 := 4095#32
  let v13892 : BitVec 32 := Scalar.andi v13891 c4095_i32_5069
  let v13893 : Index := Scalar.indexCast v13892
  let c0_5070 : Index := 0#32
  ![v13893.toNat, 0]

def k0_chk809 (v13891 : BitVec 32) : Prop :=
  (∀ a, (k0_off1726 v13891) a + S1x256.size a ≤ S4096x256.size a)
theorem k0_off1726_inb : ∀ (v13891 : BitVec 32) (k0_hw809 : k0_chk809 v13891), ∀ a, (k0_off1726 v13891) a + S1x256.size a ≤ S4096x256.size a := fun v13891 k0_hw809 => k0_hw809

def k0_off1727 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5072 : BitVec 32 := 1024#32
  let v13898 : BitVec 32 := Scalar.muli v14 c1024_i32_5072
  let c801_i32 : BitVec 32 := 801#32
  let v13899 : BitVec 32 := Scalar.addi v13898 c801_i32
  let v13900 : Index := Scalar.indexCast v13899
  ![v13900.toNat]
def k0_off1728 (v13901 : BitVec 32) : Fin 2 → Nat :=
  let c4095_i32_5073 : BitVec 32 := 4095#32
  let v13902 : BitVec 32 := Scalar.andi v13901 c4095_i32_5073
  let v13903 : Index := Scalar.indexCast v13902
  let c0_5074 : Index := 0#32
  ![v13903.toNat, 0]

def k0_chk810 (v13901 : BitVec 32) : Prop :=
  (∀ a, (k0_off1728 v13901) a + S1x256.size a ≤ S4096x256.size a)
theorem k0_off1728_inb : ∀ (v13901 : BitVec 32) (k0_hw810 : k0_chk810 v13901), ∀ a, (k0_off1728 v13901) a + S1x256.size a ≤ S4096x256.size a := fun v13901 k0_hw810 => k0_hw810

def k0_off1729 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5076 : BitVec 32 := 1024#32
  let v13908 : BitVec 32 := Scalar.muli v14 c1024_i32_5076
  let c802_i32 : BitVec 32 := 802#32
  let v13909 : BitVec 32 := Scalar.addi v13908 c802_i32
  let v13910 : Index := Scalar.indexCast v13909
  ![v13910.toNat]
def k0_off1730 (v13911 : BitVec 32) : Fin 2 → Nat :=
  let c4095_i32_5077 : BitVec 32 := 4095#32
  let v13912 : BitVec 32 := Scalar.andi v13911 c4095_i32_5077
  let v13913 : Index := Scalar.indexCast v13912
  let c0_5078 : Index := 0#32
  ![v13913.toNat, 0]

def k0_chk811 (v13911 : BitVec 32) : Prop :=
  (∀ a, (k0_off1730 v13911) a + S1x256.size a ≤ S4096x256.size a)
theorem k0_off1730_inb : ∀ (v13911 : BitVec 32) (k0_hw811 : k0_chk811 v13911), ∀ a, (k0_off1730 v13911) a + S1x256.size a ≤ S4096x256.size a := fun v13911 k0_hw811 => k0_hw811

def k0_off1731 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5080 : BitVec 32 := 1024#32
  let v13918 : BitVec 32 := Scalar.muli v14 c1024_i32_5080
  let c803_i32 : BitVec 32 := 803#32
  let v13919 : BitVec 32 := Scalar.addi v13918 c803_i32
  let v13920 : Index := Scalar.indexCast v13919
  ![v13920.toNat]
def k0_off1732 (v13921 : BitVec 32) : Fin 2 → Nat :=
  let c4095_i32_5081 : BitVec 32 := 4095#32
  let v13922 : BitVec 32 := Scalar.andi v13921 c4095_i32_5081
  let v13923 : Index := Scalar.indexCast v13922
  let c0_5082 : Index := 0#32
  ![v13923.toNat, 0]

def k0_chk812 (v13921 : BitVec 32) : Prop :=
  (∀ a, (k0_off1732 v13921) a + S1x256.size a ≤ S4096x256.size a)
theorem k0_off1732_inb : ∀ (v13921 : BitVec 32) (k0_hw812 : k0_chk812 v13921), ∀ a, (k0_off1732 v13921) a + S1x256.size a ≤ S4096x256.size a := fun v13921 k0_hw812 => k0_hw812

def k0_off1733 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5084 : BitVec 32 := 1024#32
  let v13928 : BitVec 32 := Scalar.muli v14 c1024_i32_5084
  let c804_i32 : BitVec 32 := 804#32
  let v13929 : BitVec 32 := Scalar.addi v13928 c804_i32
  let v13930 : Index := Scalar.indexCast v13929
  ![v13930.toNat]
def k0_off1734 (v13931 : BitVec 32) : Fin 2 → Nat :=
  let c4095_i32_5085 : BitVec 32 := 4095#32
  let v13932 : BitVec 32 := Scalar.andi v13931 c4095_i32_5085
  let v13933 : Index := Scalar.indexCast v13932
  let c0_5086 : Index := 0#32
  ![v13933.toNat, 0]

def k0_chk813 (v13931 : BitVec 32) : Prop :=
  (∀ a, (k0_off1734 v13931) a + S1x256.size a ≤ S4096x256.size a)
theorem k0_off1734_inb : ∀ (v13931 : BitVec 32) (k0_hw813 : k0_chk813 v13931), ∀ a, (k0_off1734 v13931) a + S1x256.size a ≤ S4096x256.size a := fun v13931 k0_hw813 => k0_hw813

def k0_off1735 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5088 : BitVec 32 := 1024#32
  let v13938 : BitVec 32 := Scalar.muli v14 c1024_i32_5088
  let c805_i32 : BitVec 32 := 805#32
  let v13939 : BitVec 32 := Scalar.addi v13938 c805_i32
  let v13940 : Index := Scalar.indexCast v13939
  ![v13940.toNat]
def k0_off1736 (v13941 : BitVec 32) : Fin 2 → Nat :=
  let c4095_i32_5089 : BitVec 32 := 4095#32
  let v13942 : BitVec 32 := Scalar.andi v13941 c4095_i32_5089
  let v13943 : Index := Scalar.indexCast v13942
  let c0_5090 : Index := 0#32
  ![v13943.toNat, 0]

def k0_chk814 (v13941 : BitVec 32) : Prop :=
  (∀ a, (k0_off1736 v13941) a + S1x256.size a ≤ S4096x256.size a)
theorem k0_off1736_inb : ∀ (v13941 : BitVec 32) (k0_hw814 : k0_chk814 v13941), ∀ a, (k0_off1736 v13941) a + S1x256.size a ≤ S4096x256.size a := fun v13941 k0_hw814 => k0_hw814

def k0_off1737 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5092 : BitVec 32 := 1024#32
  let v13948 : BitVec 32 := Scalar.muli v14 c1024_i32_5092
  let c806_i32 : BitVec 32 := 806#32
  let v13949 : BitVec 32 := Scalar.addi v13948 c806_i32
  let v13950 : Index := Scalar.indexCast v13949
  ![v13950.toNat]
def k0_off1738 (v13951 : BitVec 32) : Fin 2 → Nat :=
  let c4095_i32_5093 : BitVec 32 := 4095#32
  let v13952 : BitVec 32 := Scalar.andi v13951 c4095_i32_5093
  let v13953 : Index := Scalar.indexCast v13952
  let c0_5094 : Index := 0#32
  ![v13953.toNat, 0]

def k0_chk815 (v13951 : BitVec 32) : Prop :=
  (∀ a, (k0_off1738 v13951) a + S1x256.size a ≤ S4096x256.size a)
theorem k0_off1738_inb : ∀ (v13951 : BitVec 32) (k0_hw815 : k0_chk815 v13951), ∀ a, (k0_off1738 v13951) a + S1x256.size a ≤ S4096x256.size a := fun v13951 k0_hw815 => k0_hw815

def k0_off1739 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5096 : BitVec 32 := 1024#32
  let v13958 : BitVec 32 := Scalar.muli v14 c1024_i32_5096
  let c807_i32 : BitVec 32 := 807#32
  let v13959 : BitVec 32 := Scalar.addi v13958 c807_i32
  let v13960 : Index := Scalar.indexCast v13959
  ![v13960.toNat]
def k0_off1740 (v13961 : BitVec 32) : Fin 2 → Nat :=
  let c4095_i32_5097 : BitVec 32 := 4095#32
  let v13962 : BitVec 32 := Scalar.andi v13961 c4095_i32_5097
  let v13963 : Index := Scalar.indexCast v13962
  let c0_5098 : Index := 0#32
  ![v13963.toNat, 0]

def k0_chk816 (v13961 : BitVec 32) : Prop :=
  (∀ a, (k0_off1740 v13961) a + S1x256.size a ≤ S4096x256.size a)
theorem k0_off1740_inb : ∀ (v13961 : BitVec 32) (k0_hw816 : k0_chk816 v13961), ∀ a, (k0_off1740 v13961) a + S1x256.size a ≤ S4096x256.size a := fun v13961 k0_hw816 => k0_hw816

def k0_off1741 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5100 : BitVec 32 := 1024#32
  let v13968 : BitVec 32 := Scalar.muli v14 c1024_i32_5100
  let c808_i32 : BitVec 32 := 808#32
  let v13969 : BitVec 32 := Scalar.addi v13968 c808_i32
  let v13970 : Index := Scalar.indexCast v13969
  ![v13970.toNat]
def k0_off1742 (v13971 : BitVec 32) : Fin 2 → Nat :=
  let c4095_i32_5101 : BitVec 32 := 4095#32
  let v13972 : BitVec 32 := Scalar.andi v13971 c4095_i32_5101
  let v13973 : Index := Scalar.indexCast v13972
  let c0_5102 : Index := 0#32
  ![v13973.toNat, 0]

def k0_chk817 (v13971 : BitVec 32) : Prop :=
  (∀ a, (k0_off1742 v13971) a + S1x256.size a ≤ S4096x256.size a)
theorem k0_off1742_inb : ∀ (v13971 : BitVec 32) (k0_hw817 : k0_chk817 v13971), ∀ a, (k0_off1742 v13971) a + S1x256.size a ≤ S4096x256.size a := fun v13971 k0_hw817 => k0_hw817

def k0_off1743 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5104 : BitVec 32 := 1024#32
  let v13978 : BitVec 32 := Scalar.muli v14 c1024_i32_5104
  let c809_i32 : BitVec 32 := 809#32
  let v13979 : BitVec 32 := Scalar.addi v13978 c809_i32
  let v13980 : Index := Scalar.indexCast v13979
  ![v13980.toNat]
def k0_off1744 (v13981 : BitVec 32) : Fin 2 → Nat :=
  let c4095_i32_5105 : BitVec 32 := 4095#32
  let v13982 : BitVec 32 := Scalar.andi v13981 c4095_i32_5105
  let v13983 : Index := Scalar.indexCast v13982
  let c0_5106 : Index := 0#32
  ![v13983.toNat, 0]

def k0_chk818 (v13981 : BitVec 32) : Prop :=
  (∀ a, (k0_off1744 v13981) a + S1x256.size a ≤ S4096x256.size a)
theorem k0_off1744_inb : ∀ (v13981 : BitVec 32) (k0_hw818 : k0_chk818 v13981), ∀ a, (k0_off1744 v13981) a + S1x256.size a ≤ S4096x256.size a := fun v13981 k0_hw818 => k0_hw818

def k0_off1745 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5108 : BitVec 32 := 1024#32
  let v13988 : BitVec 32 := Scalar.muli v14 c1024_i32_5108
  let c810_i32 : BitVec 32 := 810#32
  let v13989 : BitVec 32 := Scalar.addi v13988 c810_i32
  let v13990 : Index := Scalar.indexCast v13989
  ![v13990.toNat]
def k0_off1746 (v13991 : BitVec 32) : Fin 2 → Nat :=
  let c4095_i32_5109 : BitVec 32 := 4095#32
  let v13992 : BitVec 32 := Scalar.andi v13991 c4095_i32_5109
  let v13993 : Index := Scalar.indexCast v13992
  let c0_5110 : Index := 0#32
  ![v13993.toNat, 0]

def k0_chk819 (v13991 : BitVec 32) : Prop :=
  (∀ a, (k0_off1746 v13991) a + S1x256.size a ≤ S4096x256.size a)
theorem k0_off1746_inb : ∀ (v13991 : BitVec 32) (k0_hw819 : k0_chk819 v13991), ∀ a, (k0_off1746 v13991) a + S1x256.size a ≤ S4096x256.size a := fun v13991 k0_hw819 => k0_hw819

def k0_off1747 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5112 : BitVec 32 := 1024#32
  let v13998 : BitVec 32 := Scalar.muli v14 c1024_i32_5112
  let c811_i32 : BitVec 32 := 811#32
  let v13999 : BitVec 32 := Scalar.addi v13998 c811_i32
  let v14000 : Index := Scalar.indexCast v13999
  ![v14000.toNat]
def k0_off1748 (v14001 : BitVec 32) : Fin 2 → Nat :=
  let c4095_i32_5113 : BitVec 32 := 4095#32
  let v14002 : BitVec 32 := Scalar.andi v14001 c4095_i32_5113
  let v14003 : Index := Scalar.indexCast v14002
  let c0_5114 : Index := 0#32
  ![v14003.toNat, 0]

def k0_chk820 (v14001 : BitVec 32) : Prop :=
  (∀ a, (k0_off1748 v14001) a + S1x256.size a ≤ S4096x256.size a)
theorem k0_off1748_inb : ∀ (v14001 : BitVec 32) (k0_hw820 : k0_chk820 v14001), ∀ a, (k0_off1748 v14001) a + S1x256.size a ≤ S4096x256.size a := fun v14001 k0_hw820 => k0_hw820

def k0_off1749 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5116 : BitVec 32 := 1024#32
  let v14008 : BitVec 32 := Scalar.muli v14 c1024_i32_5116
  let c812_i32 : BitVec 32 := 812#32
  let v14009 : BitVec 32 := Scalar.addi v14008 c812_i32
  let v14010 : Index := Scalar.indexCast v14009
  ![v14010.toNat]
def k0_off1750 (v14011 : BitVec 32) : Fin 2 → Nat :=
  let c4095_i32_5117 : BitVec 32 := 4095#32
  let v14012 : BitVec 32 := Scalar.andi v14011 c4095_i32_5117
  let v14013 : Index := Scalar.indexCast v14012
  let c0_5118 : Index := 0#32
  ![v14013.toNat, 0]

def k0_chk821 (v14011 : BitVec 32) : Prop :=
  (∀ a, (k0_off1750 v14011) a + S1x256.size a ≤ S4096x256.size a)
theorem k0_off1750_inb : ∀ (v14011 : BitVec 32) (k0_hw821 : k0_chk821 v14011), ∀ a, (k0_off1750 v14011) a + S1x256.size a ≤ S4096x256.size a := fun v14011 k0_hw821 => k0_hw821

def k0_off1751 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5120 : BitVec 32 := 1024#32
  let v14018 : BitVec 32 := Scalar.muli v14 c1024_i32_5120
  let c813_i32 : BitVec 32 := 813#32
  let v14019 : BitVec 32 := Scalar.addi v14018 c813_i32
  let v14020 : Index := Scalar.indexCast v14019
  ![v14020.toNat]
def k0_off1752 (v14021 : BitVec 32) : Fin 2 → Nat :=
  let c4095_i32_5121 : BitVec 32 := 4095#32
  let v14022 : BitVec 32 := Scalar.andi v14021 c4095_i32_5121
  let v14023 : Index := Scalar.indexCast v14022
  let c0_5122 : Index := 0#32
  ![v14023.toNat, 0]

def k0_chk822 (v14021 : BitVec 32) : Prop :=
  (∀ a, (k0_off1752 v14021) a + S1x256.size a ≤ S4096x256.size a)
theorem k0_off1752_inb : ∀ (v14021 : BitVec 32) (k0_hw822 : k0_chk822 v14021), ∀ a, (k0_off1752 v14021) a + S1x256.size a ≤ S4096x256.size a := fun v14021 k0_hw822 => k0_hw822

def k0_off1753 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5124 : BitVec 32 := 1024#32
  let v14028 : BitVec 32 := Scalar.muli v14 c1024_i32_5124
  let c814_i32 : BitVec 32 := 814#32
  let v14029 : BitVec 32 := Scalar.addi v14028 c814_i32
  let v14030 : Index := Scalar.indexCast v14029
  ![v14030.toNat]
def k0_off1754 (v14031 : BitVec 32) : Fin 2 → Nat :=
  let c4095_i32_5125 : BitVec 32 := 4095#32
  let v14032 : BitVec 32 := Scalar.andi v14031 c4095_i32_5125
  let v14033 : Index := Scalar.indexCast v14032
  let c0_5126 : Index := 0#32
  ![v14033.toNat, 0]

def k0_chk823 (v14031 : BitVec 32) : Prop :=
  (∀ a, (k0_off1754 v14031) a + S1x256.size a ≤ S4096x256.size a)
theorem k0_off1754_inb : ∀ (v14031 : BitVec 32) (k0_hw823 : k0_chk823 v14031), ∀ a, (k0_off1754 v14031) a + S1x256.size a ≤ S4096x256.size a := fun v14031 k0_hw823 => k0_hw823

def k0_off1755 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5128 : BitVec 32 := 1024#32
  let v14038 : BitVec 32 := Scalar.muli v14 c1024_i32_5128
  let c815_i32 : BitVec 32 := 815#32
  let v14039 : BitVec 32 := Scalar.addi v14038 c815_i32
  let v14040 : Index := Scalar.indexCast v14039
  ![v14040.toNat]
def k0_off1756 (v14041 : BitVec 32) : Fin 2 → Nat :=
  let c4095_i32_5129 : BitVec 32 := 4095#32
  let v14042 : BitVec 32 := Scalar.andi v14041 c4095_i32_5129
  let v14043 : Index := Scalar.indexCast v14042
  let c0_5130 : Index := 0#32
  ![v14043.toNat, 0]

def k0_chk824 (v14041 : BitVec 32) : Prop :=
  (∀ a, (k0_off1756 v14041) a + S1x256.size a ≤ S4096x256.size a)
theorem k0_off1756_inb : ∀ (v14041 : BitVec 32) (k0_hw824 : k0_chk824 v14041), ∀ a, (k0_off1756 v14041) a + S1x256.size a ≤ S4096x256.size a := fun v14041 k0_hw824 => k0_hw824

def k0_off1757 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5132 : BitVec 32 := 1024#32
  let v14048 : BitVec 32 := Scalar.muli v14 c1024_i32_5132
  let c816_i32 : BitVec 32 := 816#32
  let v14049 : BitVec 32 := Scalar.addi v14048 c816_i32
  let v14050 : Index := Scalar.indexCast v14049
  ![v14050.toNat]
def k0_off1758 (v14051 : BitVec 32) : Fin 2 → Nat :=
  let c4095_i32_5133 : BitVec 32 := 4095#32
  let v14052 : BitVec 32 := Scalar.andi v14051 c4095_i32_5133
  let v14053 : Index := Scalar.indexCast v14052
  let c0_5134 : Index := 0#32
  ![v14053.toNat, 0]

def k0_chk825 (v14051 : BitVec 32) : Prop :=
  (∀ a, (k0_off1758 v14051) a + S1x256.size a ≤ S4096x256.size a)
theorem k0_off1758_inb : ∀ (v14051 : BitVec 32) (k0_hw825 : k0_chk825 v14051), ∀ a, (k0_off1758 v14051) a + S1x256.size a ≤ S4096x256.size a := fun v14051 k0_hw825 => k0_hw825

def k0_off1759 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5136 : BitVec 32 := 1024#32
  let v14058 : BitVec 32 := Scalar.muli v14 c1024_i32_5136
  let c817_i32 : BitVec 32 := 817#32
  let v14059 : BitVec 32 := Scalar.addi v14058 c817_i32
  let v14060 : Index := Scalar.indexCast v14059
  ![v14060.toNat]
def k0_off1760 (v14061 : BitVec 32) : Fin 2 → Nat :=
  let c4095_i32_5137 : BitVec 32 := 4095#32
  let v14062 : BitVec 32 := Scalar.andi v14061 c4095_i32_5137
  let v14063 : Index := Scalar.indexCast v14062
  let c0_5138 : Index := 0#32
  ![v14063.toNat, 0]

def k0_chk826 (v14061 : BitVec 32) : Prop :=
  (∀ a, (k0_off1760 v14061) a + S1x256.size a ≤ S4096x256.size a)
theorem k0_off1760_inb : ∀ (v14061 : BitVec 32) (k0_hw826 : k0_chk826 v14061), ∀ a, (k0_off1760 v14061) a + S1x256.size a ≤ S4096x256.size a := fun v14061 k0_hw826 => k0_hw826

def k0_off1761 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5140 : BitVec 32 := 1024#32
  let v14068 : BitVec 32 := Scalar.muli v14 c1024_i32_5140
  let c818_i32 : BitVec 32 := 818#32
  let v14069 : BitVec 32 := Scalar.addi v14068 c818_i32
  let v14070 : Index := Scalar.indexCast v14069
  ![v14070.toNat]
def k0_off1762 (v14071 : BitVec 32) : Fin 2 → Nat :=
  let c4095_i32_5141 : BitVec 32 := 4095#32
  let v14072 : BitVec 32 := Scalar.andi v14071 c4095_i32_5141
  let v14073 : Index := Scalar.indexCast v14072
  let c0_5142 : Index := 0#32
  ![v14073.toNat, 0]

def k0_chk827 (v14071 : BitVec 32) : Prop :=
  (∀ a, (k0_off1762 v14071) a + S1x256.size a ≤ S4096x256.size a)
theorem k0_off1762_inb : ∀ (v14071 : BitVec 32) (k0_hw827 : k0_chk827 v14071), ∀ a, (k0_off1762 v14071) a + S1x256.size a ≤ S4096x256.size a := fun v14071 k0_hw827 => k0_hw827

def k0_off1763 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5144 : BitVec 32 := 1024#32
  let v14078 : BitVec 32 := Scalar.muli v14 c1024_i32_5144
  let c819_i32 : BitVec 32 := 819#32
  let v14079 : BitVec 32 := Scalar.addi v14078 c819_i32
  let v14080 : Index := Scalar.indexCast v14079
  ![v14080.toNat]
def k0_off1764 (v14081 : BitVec 32) : Fin 2 → Nat :=
  let c4095_i32_5145 : BitVec 32 := 4095#32
  let v14082 : BitVec 32 := Scalar.andi v14081 c4095_i32_5145
  let v14083 : Index := Scalar.indexCast v14082
  let c0_5146 : Index := 0#32
  ![v14083.toNat, 0]

def k0_chk828 (v14081 : BitVec 32) : Prop :=
  (∀ a, (k0_off1764 v14081) a + S1x256.size a ≤ S4096x256.size a)
theorem k0_off1764_inb : ∀ (v14081 : BitVec 32) (k0_hw828 : k0_chk828 v14081), ∀ a, (k0_off1764 v14081) a + S1x256.size a ≤ S4096x256.size a := fun v14081 k0_hw828 => k0_hw828

def k0_off1765 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5148 : BitVec 32 := 1024#32
  let v14088 : BitVec 32 := Scalar.muli v14 c1024_i32_5148
  let c820_i32 : BitVec 32 := 820#32
  let v14089 : BitVec 32 := Scalar.addi v14088 c820_i32
  let v14090 : Index := Scalar.indexCast v14089
  ![v14090.toNat]
def k0_off1766 (v14091 : BitVec 32) : Fin 2 → Nat :=
  let c4095_i32_5149 : BitVec 32 := 4095#32
  let v14092 : BitVec 32 := Scalar.andi v14091 c4095_i32_5149
  let v14093 : Index := Scalar.indexCast v14092
  let c0_5150 : Index := 0#32
  ![v14093.toNat, 0]

def k0_chk829 (v14091 : BitVec 32) : Prop :=
  (∀ a, (k0_off1766 v14091) a + S1x256.size a ≤ S4096x256.size a)
theorem k0_off1766_inb : ∀ (v14091 : BitVec 32) (k0_hw829 : k0_chk829 v14091), ∀ a, (k0_off1766 v14091) a + S1x256.size a ≤ S4096x256.size a := fun v14091 k0_hw829 => k0_hw829

def k0_off1767 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5152 : BitVec 32 := 1024#32
  let v14098 : BitVec 32 := Scalar.muli v14 c1024_i32_5152
  let c821_i32 : BitVec 32 := 821#32
  let v14099 : BitVec 32 := Scalar.addi v14098 c821_i32
  let v14100 : Index := Scalar.indexCast v14099
  ![v14100.toNat]
def k0_off1768 (v14101 : BitVec 32) : Fin 2 → Nat :=
  let c4095_i32_5153 : BitVec 32 := 4095#32
  let v14102 : BitVec 32 := Scalar.andi v14101 c4095_i32_5153
  let v14103 : Index := Scalar.indexCast v14102
  let c0_5154 : Index := 0#32
  ![v14103.toNat, 0]

def k0_chk830 (v14101 : BitVec 32) : Prop :=
  (∀ a, (k0_off1768 v14101) a + S1x256.size a ≤ S4096x256.size a)
theorem k0_off1768_inb : ∀ (v14101 : BitVec 32) (k0_hw830 : k0_chk830 v14101), ∀ a, (k0_off1768 v14101) a + S1x256.size a ≤ S4096x256.size a := fun v14101 k0_hw830 => k0_hw830

def k0_off1769 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5156 : BitVec 32 := 1024#32
  let v14108 : BitVec 32 := Scalar.muli v14 c1024_i32_5156
  let c822_i32 : BitVec 32 := 822#32
  let v14109 : BitVec 32 := Scalar.addi v14108 c822_i32
  let v14110 : Index := Scalar.indexCast v14109
  ![v14110.toNat]
def k0_off1770 (v14111 : BitVec 32) : Fin 2 → Nat :=
  let c4095_i32_5157 : BitVec 32 := 4095#32
  let v14112 : BitVec 32 := Scalar.andi v14111 c4095_i32_5157
  let v14113 : Index := Scalar.indexCast v14112
  let c0_5158 : Index := 0#32
  ![v14113.toNat, 0]

def k0_chk831 (v14111 : BitVec 32) : Prop :=
  (∀ a, (k0_off1770 v14111) a + S1x256.size a ≤ S4096x256.size a)
theorem k0_off1770_inb : ∀ (v14111 : BitVec 32) (k0_hw831 : k0_chk831 v14111), ∀ a, (k0_off1770 v14111) a + S1x256.size a ≤ S4096x256.size a := fun v14111 k0_hw831 => k0_hw831

def k0_off1771 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5160 : BitVec 32 := 1024#32
  let v14118 : BitVec 32 := Scalar.muli v14 c1024_i32_5160
  let c823_i32 : BitVec 32 := 823#32
  let v14119 : BitVec 32 := Scalar.addi v14118 c823_i32
  let v14120 : Index := Scalar.indexCast v14119
  ![v14120.toNat]
def k0_off1772 (v14121 : BitVec 32) : Fin 2 → Nat :=
  let c4095_i32_5161 : BitVec 32 := 4095#32
  let v14122 : BitVec 32 := Scalar.andi v14121 c4095_i32_5161
  let v14123 : Index := Scalar.indexCast v14122
  let c0_5162 : Index := 0#32
  ![v14123.toNat, 0]

def k0_chk832 (v14121 : BitVec 32) : Prop :=
  (∀ a, (k0_off1772 v14121) a + S1x256.size a ≤ S4096x256.size a)
theorem k0_off1772_inb : ∀ (v14121 : BitVec 32) (k0_hw832 : k0_chk832 v14121), ∀ a, (k0_off1772 v14121) a + S1x256.size a ≤ S4096x256.size a := fun v14121 k0_hw832 => k0_hw832

def k0_off1773 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5164 : BitVec 32 := 1024#32
  let v14128 : BitVec 32 := Scalar.muli v14 c1024_i32_5164
  let c824_i32 : BitVec 32 := 824#32
  let v14129 : BitVec 32 := Scalar.addi v14128 c824_i32
  let v14130 : Index := Scalar.indexCast v14129
  ![v14130.toNat]
def k0_off1774 (v14131 : BitVec 32) : Fin 2 → Nat :=
  let c4095_i32_5165 : BitVec 32 := 4095#32
  let v14132 : BitVec 32 := Scalar.andi v14131 c4095_i32_5165
  let v14133 : Index := Scalar.indexCast v14132
  let c0_5166 : Index := 0#32
  ![v14133.toNat, 0]

def k0_chk833 (v14131 : BitVec 32) : Prop :=
  (∀ a, (k0_off1774 v14131) a + S1x256.size a ≤ S4096x256.size a)
theorem k0_off1774_inb : ∀ (v14131 : BitVec 32) (k0_hw833 : k0_chk833 v14131), ∀ a, (k0_off1774 v14131) a + S1x256.size a ≤ S4096x256.size a := fun v14131 k0_hw833 => k0_hw833

def k0_off1775 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5168 : BitVec 32 := 1024#32
  let v14138 : BitVec 32 := Scalar.muli v14 c1024_i32_5168
  let c825_i32 : BitVec 32 := 825#32
  let v14139 : BitVec 32 := Scalar.addi v14138 c825_i32
  let v14140 : Index := Scalar.indexCast v14139
  ![v14140.toNat]
def k0_off1776 (v14141 : BitVec 32) : Fin 2 → Nat :=
  let c4095_i32_5169 : BitVec 32 := 4095#32
  let v14142 : BitVec 32 := Scalar.andi v14141 c4095_i32_5169
  let v14143 : Index := Scalar.indexCast v14142
  let c0_5170 : Index := 0#32
  ![v14143.toNat, 0]

def k0_chk834 (v14141 : BitVec 32) : Prop :=
  (∀ a, (k0_off1776 v14141) a + S1x256.size a ≤ S4096x256.size a)
theorem k0_off1776_inb : ∀ (v14141 : BitVec 32) (k0_hw834 : k0_chk834 v14141), ∀ a, (k0_off1776 v14141) a + S1x256.size a ≤ S4096x256.size a := fun v14141 k0_hw834 => k0_hw834

def k0_off1777 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5172 : BitVec 32 := 1024#32
  let v14148 : BitVec 32 := Scalar.muli v14 c1024_i32_5172
  let c826_i32 : BitVec 32 := 826#32
  let v14149 : BitVec 32 := Scalar.addi v14148 c826_i32
  let v14150 : Index := Scalar.indexCast v14149
  ![v14150.toNat]
def k0_off1778 (v14151 : BitVec 32) : Fin 2 → Nat :=
  let c4095_i32_5173 : BitVec 32 := 4095#32
  let v14152 : BitVec 32 := Scalar.andi v14151 c4095_i32_5173
  let v14153 : Index := Scalar.indexCast v14152
  let c0_5174 : Index := 0#32
  ![v14153.toNat, 0]

def k0_chk835 (v14151 : BitVec 32) : Prop :=
  (∀ a, (k0_off1778 v14151) a + S1x256.size a ≤ S4096x256.size a)
theorem k0_off1778_inb : ∀ (v14151 : BitVec 32) (k0_hw835 : k0_chk835 v14151), ∀ a, (k0_off1778 v14151) a + S1x256.size a ≤ S4096x256.size a := fun v14151 k0_hw835 => k0_hw835

def k0_off1779 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5176 : BitVec 32 := 1024#32
  let v14158 : BitVec 32 := Scalar.muli v14 c1024_i32_5176
  let c827_i32 : BitVec 32 := 827#32
  let v14159 : BitVec 32 := Scalar.addi v14158 c827_i32
  let v14160 : Index := Scalar.indexCast v14159
  ![v14160.toNat]
def k0_off1780 (v14161 : BitVec 32) : Fin 2 → Nat :=
  let c4095_i32_5177 : BitVec 32 := 4095#32
  let v14162 : BitVec 32 := Scalar.andi v14161 c4095_i32_5177
  let v14163 : Index := Scalar.indexCast v14162
  let c0_5178 : Index := 0#32
  ![v14163.toNat, 0]

def k0_chk836 (v14161 : BitVec 32) : Prop :=
  (∀ a, (k0_off1780 v14161) a + S1x256.size a ≤ S4096x256.size a)
theorem k0_off1780_inb : ∀ (v14161 : BitVec 32) (k0_hw836 : k0_chk836 v14161), ∀ a, (k0_off1780 v14161) a + S1x256.size a ≤ S4096x256.size a := fun v14161 k0_hw836 => k0_hw836

def k0_off1781 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5180 : BitVec 32 := 1024#32
  let v14168 : BitVec 32 := Scalar.muli v14 c1024_i32_5180
  let c828_i32 : BitVec 32 := 828#32
  let v14169 : BitVec 32 := Scalar.addi v14168 c828_i32
  let v14170 : Index := Scalar.indexCast v14169
  ![v14170.toNat]
def k0_off1782 (v14171 : BitVec 32) : Fin 2 → Nat :=
  let c4095_i32_5181 : BitVec 32 := 4095#32
  let v14172 : BitVec 32 := Scalar.andi v14171 c4095_i32_5181
  let v14173 : Index := Scalar.indexCast v14172
  let c0_5182 : Index := 0#32
  ![v14173.toNat, 0]

def k0_chk837 (v14171 : BitVec 32) : Prop :=
  (∀ a, (k0_off1782 v14171) a + S1x256.size a ≤ S4096x256.size a)
theorem k0_off1782_inb : ∀ (v14171 : BitVec 32) (k0_hw837 : k0_chk837 v14171), ∀ a, (k0_off1782 v14171) a + S1x256.size a ≤ S4096x256.size a := fun v14171 k0_hw837 => k0_hw837

def k0_off1783 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5184 : BitVec 32 := 1024#32
  let v14178 : BitVec 32 := Scalar.muli v14 c1024_i32_5184
  let c829_i32 : BitVec 32 := 829#32
  let v14179 : BitVec 32 := Scalar.addi v14178 c829_i32
  let v14180 : Index := Scalar.indexCast v14179
  ![v14180.toNat]
def k0_off1784 (v14181 : BitVec 32) : Fin 2 → Nat :=
  let c4095_i32_5185 : BitVec 32 := 4095#32
  let v14182 : BitVec 32 := Scalar.andi v14181 c4095_i32_5185
  let v14183 : Index := Scalar.indexCast v14182
  let c0_5186 : Index := 0#32
  ![v14183.toNat, 0]

def k0_chk838 (v14181 : BitVec 32) : Prop :=
  (∀ a, (k0_off1784 v14181) a + S1x256.size a ≤ S4096x256.size a)
theorem k0_off1784_inb : ∀ (v14181 : BitVec 32) (k0_hw838 : k0_chk838 v14181), ∀ a, (k0_off1784 v14181) a + S1x256.size a ≤ S4096x256.size a := fun v14181 k0_hw838 => k0_hw838

def k0_off1785 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5188 : BitVec 32 := 1024#32
  let v14188 : BitVec 32 := Scalar.muli v14 c1024_i32_5188
  let c830_i32 : BitVec 32 := 830#32
  let v14189 : BitVec 32 := Scalar.addi v14188 c830_i32
  let v14190 : Index := Scalar.indexCast v14189
  ![v14190.toNat]
def k0_off1786 (v14191 : BitVec 32) : Fin 2 → Nat :=
  let c4095_i32_5189 : BitVec 32 := 4095#32
  let v14192 : BitVec 32 := Scalar.andi v14191 c4095_i32_5189
  let v14193 : Index := Scalar.indexCast v14192
  let c0_5190 : Index := 0#32
  ![v14193.toNat, 0]

def k0_chk839 (v14191 : BitVec 32) : Prop :=
  (∀ a, (k0_off1786 v14191) a + S1x256.size a ≤ S4096x256.size a)
theorem k0_off1786_inb : ∀ (v14191 : BitVec 32) (k0_hw839 : k0_chk839 v14191), ∀ a, (k0_off1786 v14191) a + S1x256.size a ≤ S4096x256.size a := fun v14191 k0_hw839 => k0_hw839

def k0_off1787 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5192 : BitVec 32 := 1024#32
  let v14198 : BitVec 32 := Scalar.muli v14 c1024_i32_5192
  let c831_i32 : BitVec 32 := 831#32
  let v14199 : BitVec 32 := Scalar.addi v14198 c831_i32
  let v14200 : Index := Scalar.indexCast v14199
  ![v14200.toNat]
def k0_off1788 (v14201 : BitVec 32) : Fin 2 → Nat :=
  let c4095_i32_5193 : BitVec 32 := 4095#32
  let v14202 : BitVec 32 := Scalar.andi v14201 c4095_i32_5193
  let v14203 : Index := Scalar.indexCast v14202
  let c0_5194 : Index := 0#32
  ![v14203.toNat, 0]

def k0_chk840 (v14201 : BitVec 32) : Prop :=
  (∀ a, (k0_off1788 v14201) a + S1x256.size a ≤ S4096x256.size a)
theorem k0_off1788_inb : ∀ (v14201 : BitVec 32) (k0_hw840 : k0_chk840 v14201), ∀ a, (k0_off1788 v14201) a + S1x256.size a ≤ S4096x256.size a := fun v14201 k0_hw840 => k0_hw840

def k0_off1789 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5196 : BitVec 32 := 1024#32
  let v14208 : BitVec 32 := Scalar.muli v14 c1024_i32_5196
  let c832_i32 : BitVec 32 := 832#32
  let v14209 : BitVec 32 := Scalar.addi v14208 c832_i32
  let v14210 : Index := Scalar.indexCast v14209
  ![v14210.toNat]
def k0_off1790 (v14211 : BitVec 32) : Fin 2 → Nat :=
  let c4095_i32_5197 : BitVec 32 := 4095#32
  let v14212 : BitVec 32 := Scalar.andi v14211 c4095_i32_5197
  let v14213 : Index := Scalar.indexCast v14212
  let c0_5198 : Index := 0#32
  ![v14213.toNat, 0]

def k0_chk841 (v14211 : BitVec 32) : Prop :=
  (∀ a, (k0_off1790 v14211) a + S1x256.size a ≤ S4096x256.size a)
theorem k0_off1790_inb : ∀ (v14211 : BitVec 32) (k0_hw841 : k0_chk841 v14211), ∀ a, (k0_off1790 v14211) a + S1x256.size a ≤ S4096x256.size a := fun v14211 k0_hw841 => k0_hw841

def k0_off1791 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5200 : BitVec 32 := 1024#32
  let v14218 : BitVec 32 := Scalar.muli v14 c1024_i32_5200
  let c833_i32 : BitVec 32 := 833#32
  let v14219 : BitVec 32 := Scalar.addi v14218 c833_i32
  let v14220 : Index := Scalar.indexCast v14219
  ![v14220.toNat]
def k0_off1792 (v14221 : BitVec 32) : Fin 2 → Nat :=
  let c4095_i32_5201 : BitVec 32 := 4095#32
  let v14222 : BitVec 32 := Scalar.andi v14221 c4095_i32_5201
  let v14223 : Index := Scalar.indexCast v14222
  let c0_5202 : Index := 0#32
  ![v14223.toNat, 0]

def k0_chk842 (v14221 : BitVec 32) : Prop :=
  (∀ a, (k0_off1792 v14221) a + S1x256.size a ≤ S4096x256.size a)
theorem k0_off1792_inb : ∀ (v14221 : BitVec 32) (k0_hw842 : k0_chk842 v14221), ∀ a, (k0_off1792 v14221) a + S1x256.size a ≤ S4096x256.size a := fun v14221 k0_hw842 => k0_hw842

def k0_off1793 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5204 : BitVec 32 := 1024#32
  let v14228 : BitVec 32 := Scalar.muli v14 c1024_i32_5204
  let c834_i32 : BitVec 32 := 834#32
  let v14229 : BitVec 32 := Scalar.addi v14228 c834_i32
  let v14230 : Index := Scalar.indexCast v14229
  ![v14230.toNat]
def k0_off1794 (v14231 : BitVec 32) : Fin 2 → Nat :=
  let c4095_i32_5205 : BitVec 32 := 4095#32
  let v14232 : BitVec 32 := Scalar.andi v14231 c4095_i32_5205
  let v14233 : Index := Scalar.indexCast v14232
  let c0_5206 : Index := 0#32
  ![v14233.toNat, 0]

def k0_chk843 (v14231 : BitVec 32) : Prop :=
  (∀ a, (k0_off1794 v14231) a + S1x256.size a ≤ S4096x256.size a)
theorem k0_off1794_inb : ∀ (v14231 : BitVec 32) (k0_hw843 : k0_chk843 v14231), ∀ a, (k0_off1794 v14231) a + S1x256.size a ≤ S4096x256.size a := fun v14231 k0_hw843 => k0_hw843

def k0_off1795 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v14295 : Index := Scalar.indexCast v12
  let c0_5223 : Index := 0#32
  let c0_5224 : Index := 0#32
  ![v14295.toNat, 0, 0]
def k0_off1796 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v14356 : Index := Scalar.indexCast v12
  let c0_5242 : Index := 0#32
  let c256_5243 : Index := 256#32
  ![v14356.toNat, 0, 256]
def k0_off1797 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v14418 : Index := Scalar.indexCast v12
  let c0_5261 : Index := 0#32
  let c512_5262 : Index := 512#32
  ![v14418.toNat, 0, 512]
def k0_off1798 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v14480 : Index := Scalar.indexCast v12
  let c0_5280 : Index := 0#32
  let c768_5281 : Index := 768#32
  ![v14480.toNat, 0, 768]
def k0_off1799 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5287 : BitVec 32 := 1024#32
  let v14490 : BitVec 32 := Scalar.muli v14 c1024_i32_5287
  let c835_i32 : BitVec 32 := 835#32
  let v14491 : BitVec 32 := Scalar.addi v14490 c835_i32
  let v14492 : Index := Scalar.indexCast v14491
  ![v14492.toNat]
def k0_off1800 (v14493 : BitVec 32) : Fin 2 → Nat :=
  let c4095_i32_5288 : BitVec 32 := 4095#32
  let v14494 : BitVec 32 := Scalar.andi v14493 c4095_i32_5288
  let v14495 : Index := Scalar.indexCast v14494
  let c0_5289 : Index := 0#32
  ![v14495.toNat, 0]

def k0_chk844 (v14493 : BitVec 32) : Prop :=
  (∀ a, (k0_off1800 v14493) a + S1x256.size a ≤ S4096x256.size a)
theorem k0_off1800_inb : ∀ (v14493 : BitVec 32) (k0_hw844 : k0_chk844 v14493), ∀ a, (k0_off1800 v14493) a + S1x256.size a ≤ S4096x256.size a := fun v14493 k0_hw844 => k0_hw844

def k0_off1801 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5291 : BitVec 32 := 1024#32
  let v14500 : BitVec 32 := Scalar.muli v14 c1024_i32_5291
  let c836_i32 : BitVec 32 := 836#32
  let v14501 : BitVec 32 := Scalar.addi v14500 c836_i32
  let v14502 : Index := Scalar.indexCast v14501
  ![v14502.toNat]
def k0_off1802 (v14503 : BitVec 32) : Fin 2 → Nat :=
  let c4095_i32_5292 : BitVec 32 := 4095#32
  let v14504 : BitVec 32 := Scalar.andi v14503 c4095_i32_5292
  let v14505 : Index := Scalar.indexCast v14504
  let c0_5293 : Index := 0#32
  ![v14505.toNat, 0]

def k0_chk845 (v14503 : BitVec 32) : Prop :=
  (∀ a, (k0_off1802 v14503) a + S1x256.size a ≤ S4096x256.size a)
theorem k0_off1802_inb : ∀ (v14503 : BitVec 32) (k0_hw845 : k0_chk845 v14503), ∀ a, (k0_off1802 v14503) a + S1x256.size a ≤ S4096x256.size a := fun v14503 k0_hw845 => k0_hw845

def k0_off1803 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5295 : BitVec 32 := 1024#32
  let v14510 : BitVec 32 := Scalar.muli v14 c1024_i32_5295
  let c837_i32 : BitVec 32 := 837#32
  let v14511 : BitVec 32 := Scalar.addi v14510 c837_i32
  let v14512 : Index := Scalar.indexCast v14511
  ![v14512.toNat]
def k0_off1804 (v14513 : BitVec 32) : Fin 2 → Nat :=
  let c4095_i32_5296 : BitVec 32 := 4095#32
  let v14514 : BitVec 32 := Scalar.andi v14513 c4095_i32_5296
  let v14515 : Index := Scalar.indexCast v14514
  let c0_5297 : Index := 0#32
  ![v14515.toNat, 0]

def k0_chk846 (v14513 : BitVec 32) : Prop :=
  (∀ a, (k0_off1804 v14513) a + S1x256.size a ≤ S4096x256.size a)
theorem k0_off1804_inb : ∀ (v14513 : BitVec 32) (k0_hw846 : k0_chk846 v14513), ∀ a, (k0_off1804 v14513) a + S1x256.size a ≤ S4096x256.size a := fun v14513 k0_hw846 => k0_hw846

def k0_off1805 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5299 : BitVec 32 := 1024#32
  let v14520 : BitVec 32 := Scalar.muli v14 c1024_i32_5299
  let c838_i32 : BitVec 32 := 838#32
  let v14521 : BitVec 32 := Scalar.addi v14520 c838_i32
  let v14522 : Index := Scalar.indexCast v14521
  ![v14522.toNat]
def k0_off1806 (v14523 : BitVec 32) : Fin 2 → Nat :=
  let c4095_i32_5300 : BitVec 32 := 4095#32
  let v14524 : BitVec 32 := Scalar.andi v14523 c4095_i32_5300
  let v14525 : Index := Scalar.indexCast v14524
  let c0_5301 : Index := 0#32
  ![v14525.toNat, 0]

def k0_chk847 (v14523 : BitVec 32) : Prop :=
  (∀ a, (k0_off1806 v14523) a + S1x256.size a ≤ S4096x256.size a)
theorem k0_off1806_inb : ∀ (v14523 : BitVec 32) (k0_hw847 : k0_chk847 v14523), ∀ a, (k0_off1806 v14523) a + S1x256.size a ≤ S4096x256.size a := fun v14523 k0_hw847 => k0_hw847

def k0_off1807 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5303 : BitVec 32 := 1024#32
  let v14530 : BitVec 32 := Scalar.muli v14 c1024_i32_5303
  let c839_i32 : BitVec 32 := 839#32
  let v14531 : BitVec 32 := Scalar.addi v14530 c839_i32
  let v14532 : Index := Scalar.indexCast v14531
  ![v14532.toNat]
def k0_off1808 (v14533 : BitVec 32) : Fin 2 → Nat :=
  let c4095_i32_5304 : BitVec 32 := 4095#32
  let v14534 : BitVec 32 := Scalar.andi v14533 c4095_i32_5304
  let v14535 : Index := Scalar.indexCast v14534
  let c0_5305 : Index := 0#32
  ![v14535.toNat, 0]

def k0_chk848 (v14533 : BitVec 32) : Prop :=
  (∀ a, (k0_off1808 v14533) a + S1x256.size a ≤ S4096x256.size a)
theorem k0_off1808_inb : ∀ (v14533 : BitVec 32) (k0_hw848 : k0_chk848 v14533), ∀ a, (k0_off1808 v14533) a + S1x256.size a ≤ S4096x256.size a := fun v14533 k0_hw848 => k0_hw848

def k0_off1809 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5307 : BitVec 32 := 1024#32
  let v14540 : BitVec 32 := Scalar.muli v14 c1024_i32_5307
  let c840_i32 : BitVec 32 := 840#32
  let v14541 : BitVec 32 := Scalar.addi v14540 c840_i32
  let v14542 : Index := Scalar.indexCast v14541
  ![v14542.toNat]
def k0_off1810 (v14543 : BitVec 32) : Fin 2 → Nat :=
  let c4095_i32_5308 : BitVec 32 := 4095#32
  let v14544 : BitVec 32 := Scalar.andi v14543 c4095_i32_5308
  let v14545 : Index := Scalar.indexCast v14544
  let c0_5309 : Index := 0#32
  ![v14545.toNat, 0]

def k0_chk849 (v14543 : BitVec 32) : Prop :=
  (∀ a, (k0_off1810 v14543) a + S1x256.size a ≤ S4096x256.size a)
theorem k0_off1810_inb : ∀ (v14543 : BitVec 32) (k0_hw849 : k0_chk849 v14543), ∀ a, (k0_off1810 v14543) a + S1x256.size a ≤ S4096x256.size a := fun v14543 k0_hw849 => k0_hw849

def k0_off1811 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5311 : BitVec 32 := 1024#32
  let v14550 : BitVec 32 := Scalar.muli v14 c1024_i32_5311
  let c841_i32 : BitVec 32 := 841#32
  let v14551 : BitVec 32 := Scalar.addi v14550 c841_i32
  let v14552 : Index := Scalar.indexCast v14551
  ![v14552.toNat]
def k0_off1812 (v14553 : BitVec 32) : Fin 2 → Nat :=
  let c4095_i32_5312 : BitVec 32 := 4095#32
  let v14554 : BitVec 32 := Scalar.andi v14553 c4095_i32_5312
  let v14555 : Index := Scalar.indexCast v14554
  let c0_5313 : Index := 0#32
  ![v14555.toNat, 0]

def k0_chk850 (v14553 : BitVec 32) : Prop :=
  (∀ a, (k0_off1812 v14553) a + S1x256.size a ≤ S4096x256.size a)
theorem k0_off1812_inb : ∀ (v14553 : BitVec 32) (k0_hw850 : k0_chk850 v14553), ∀ a, (k0_off1812 v14553) a + S1x256.size a ≤ S4096x256.size a := fun v14553 k0_hw850 => k0_hw850

def k0_off1813 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5315 : BitVec 32 := 1024#32
  let v14560 : BitVec 32 := Scalar.muli v14 c1024_i32_5315
  let c842_i32 : BitVec 32 := 842#32
  let v14561 : BitVec 32 := Scalar.addi v14560 c842_i32
  let v14562 : Index := Scalar.indexCast v14561
  ![v14562.toNat]
def k0_off1814 (v14563 : BitVec 32) : Fin 2 → Nat :=
  let c4095_i32_5316 : BitVec 32 := 4095#32
  let v14564 : BitVec 32 := Scalar.andi v14563 c4095_i32_5316
  let v14565 : Index := Scalar.indexCast v14564
  let c0_5317 : Index := 0#32
  ![v14565.toNat, 0]

def k0_chk851 (v14563 : BitVec 32) : Prop :=
  (∀ a, (k0_off1814 v14563) a + S1x256.size a ≤ S4096x256.size a)
theorem k0_off1814_inb : ∀ (v14563 : BitVec 32) (k0_hw851 : k0_chk851 v14563), ∀ a, (k0_off1814 v14563) a + S1x256.size a ≤ S4096x256.size a := fun v14563 k0_hw851 => k0_hw851

def k0_off1815 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5319 : BitVec 32 := 1024#32
  let v14570 : BitVec 32 := Scalar.muli v14 c1024_i32_5319
  let c843_i32 : BitVec 32 := 843#32
  let v14571 : BitVec 32 := Scalar.addi v14570 c843_i32
  let v14572 : Index := Scalar.indexCast v14571
  ![v14572.toNat]
def k0_off1816 (v14573 : BitVec 32) : Fin 2 → Nat :=
  let c4095_i32_5320 : BitVec 32 := 4095#32
  let v14574 : BitVec 32 := Scalar.andi v14573 c4095_i32_5320
  let v14575 : Index := Scalar.indexCast v14574
  let c0_5321 : Index := 0#32
  ![v14575.toNat, 0]

def k0_chk852 (v14573 : BitVec 32) : Prop :=
  (∀ a, (k0_off1816 v14573) a + S1x256.size a ≤ S4096x256.size a)
theorem k0_off1816_inb : ∀ (v14573 : BitVec 32) (k0_hw852 : k0_chk852 v14573), ∀ a, (k0_off1816 v14573) a + S1x256.size a ≤ S4096x256.size a := fun v14573 k0_hw852 => k0_hw852

def k0_off1817 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5323 : BitVec 32 := 1024#32
  let v14580 : BitVec 32 := Scalar.muli v14 c1024_i32_5323
  let c844_i32 : BitVec 32 := 844#32
  let v14581 : BitVec 32 := Scalar.addi v14580 c844_i32
  let v14582 : Index := Scalar.indexCast v14581
  ![v14582.toNat]
def k0_off1818 (v14583 : BitVec 32) : Fin 2 → Nat :=
  let c4095_i32_5324 : BitVec 32 := 4095#32
  let v14584 : BitVec 32 := Scalar.andi v14583 c4095_i32_5324
  let v14585 : Index := Scalar.indexCast v14584
  let c0_5325 : Index := 0#32
  ![v14585.toNat, 0]

def k0_chk853 (v14583 : BitVec 32) : Prop :=
  (∀ a, (k0_off1818 v14583) a + S1x256.size a ≤ S4096x256.size a)
theorem k0_off1818_inb : ∀ (v14583 : BitVec 32) (k0_hw853 : k0_chk853 v14583), ∀ a, (k0_off1818 v14583) a + S1x256.size a ≤ S4096x256.size a := fun v14583 k0_hw853 => k0_hw853

def k0_off1819 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5327 : BitVec 32 := 1024#32
  let v14590 : BitVec 32 := Scalar.muli v14 c1024_i32_5327
  let c845_i32 : BitVec 32 := 845#32
  let v14591 : BitVec 32 := Scalar.addi v14590 c845_i32
  let v14592 : Index := Scalar.indexCast v14591
  ![v14592.toNat]
def k0_off1820 (v14593 : BitVec 32) : Fin 2 → Nat :=
  let c4095_i32_5328 : BitVec 32 := 4095#32
  let v14594 : BitVec 32 := Scalar.andi v14593 c4095_i32_5328
  let v14595 : Index := Scalar.indexCast v14594
  let c0_5329 : Index := 0#32
  ![v14595.toNat, 0]

def k0_chk854 (v14593 : BitVec 32) : Prop :=
  (∀ a, (k0_off1820 v14593) a + S1x256.size a ≤ S4096x256.size a)
theorem k0_off1820_inb : ∀ (v14593 : BitVec 32) (k0_hw854 : k0_chk854 v14593), ∀ a, (k0_off1820 v14593) a + S1x256.size a ≤ S4096x256.size a := fun v14593 k0_hw854 => k0_hw854

def k0_off1821 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5331 : BitVec 32 := 1024#32
  let v14600 : BitVec 32 := Scalar.muli v14 c1024_i32_5331
  let c846_i32 : BitVec 32 := 846#32
  let v14601 : BitVec 32 := Scalar.addi v14600 c846_i32
  let v14602 : Index := Scalar.indexCast v14601
  ![v14602.toNat]
def k0_off1822 (v14603 : BitVec 32) : Fin 2 → Nat :=
  let c4095_i32_5332 : BitVec 32 := 4095#32
  let v14604 : BitVec 32 := Scalar.andi v14603 c4095_i32_5332
  let v14605 : Index := Scalar.indexCast v14604
  let c0_5333 : Index := 0#32
  ![v14605.toNat, 0]

def k0_chk855 (v14603 : BitVec 32) : Prop :=
  (∀ a, (k0_off1822 v14603) a + S1x256.size a ≤ S4096x256.size a)
theorem k0_off1822_inb : ∀ (v14603 : BitVec 32) (k0_hw855 : k0_chk855 v14603), ∀ a, (k0_off1822 v14603) a + S1x256.size a ≤ S4096x256.size a := fun v14603 k0_hw855 => k0_hw855

def k0_off1823 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5335 : BitVec 32 := 1024#32
  let v14610 : BitVec 32 := Scalar.muli v14 c1024_i32_5335
  let c847_i32 : BitVec 32 := 847#32
  let v14611 : BitVec 32 := Scalar.addi v14610 c847_i32
  let v14612 : Index := Scalar.indexCast v14611
  ![v14612.toNat]
def k0_off1824 (v14613 : BitVec 32) : Fin 2 → Nat :=
  let c4095_i32_5336 : BitVec 32 := 4095#32
  let v14614 : BitVec 32 := Scalar.andi v14613 c4095_i32_5336
  let v14615 : Index := Scalar.indexCast v14614
  let c0_5337 : Index := 0#32
  ![v14615.toNat, 0]

def k0_chk856 (v14613 : BitVec 32) : Prop :=
  (∀ a, (k0_off1824 v14613) a + S1x256.size a ≤ S4096x256.size a)
theorem k0_off1824_inb : ∀ (v14613 : BitVec 32) (k0_hw856 : k0_chk856 v14613), ∀ a, (k0_off1824 v14613) a + S1x256.size a ≤ S4096x256.size a := fun v14613 k0_hw856 => k0_hw856

def k0_off1825 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5339 : BitVec 32 := 1024#32
  let v14620 : BitVec 32 := Scalar.muli v14 c1024_i32_5339
  let c848_i32 : BitVec 32 := 848#32
  let v14621 : BitVec 32 := Scalar.addi v14620 c848_i32
  let v14622 : Index := Scalar.indexCast v14621
  ![v14622.toNat]
def k0_off1826 (v14623 : BitVec 32) : Fin 2 → Nat :=
  let c4095_i32_5340 : BitVec 32 := 4095#32
  let v14624 : BitVec 32 := Scalar.andi v14623 c4095_i32_5340
  let v14625 : Index := Scalar.indexCast v14624
  let c0_5341 : Index := 0#32
  ![v14625.toNat, 0]

def k0_chk857 (v14623 : BitVec 32) : Prop :=
  (∀ a, (k0_off1826 v14623) a + S1x256.size a ≤ S4096x256.size a)
theorem k0_off1826_inb : ∀ (v14623 : BitVec 32) (k0_hw857 : k0_chk857 v14623), ∀ a, (k0_off1826 v14623) a + S1x256.size a ≤ S4096x256.size a := fun v14623 k0_hw857 => k0_hw857

def k0_off1827 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5343 : BitVec 32 := 1024#32
  let v14630 : BitVec 32 := Scalar.muli v14 c1024_i32_5343
  let c849_i32 : BitVec 32 := 849#32
  let v14631 : BitVec 32 := Scalar.addi v14630 c849_i32
  let v14632 : Index := Scalar.indexCast v14631
  ![v14632.toNat]
def k0_off1828 (v14633 : BitVec 32) : Fin 2 → Nat :=
  let c4095_i32_5344 : BitVec 32 := 4095#32
  let v14634 : BitVec 32 := Scalar.andi v14633 c4095_i32_5344
  let v14635 : Index := Scalar.indexCast v14634
  let c0_5345 : Index := 0#32
  ![v14635.toNat, 0]

def k0_chk858 (v14633 : BitVec 32) : Prop :=
  (∀ a, (k0_off1828 v14633) a + S1x256.size a ≤ S4096x256.size a)
theorem k0_off1828_inb : ∀ (v14633 : BitVec 32) (k0_hw858 : k0_chk858 v14633), ∀ a, (k0_off1828 v14633) a + S1x256.size a ≤ S4096x256.size a := fun v14633 k0_hw858 => k0_hw858

def k0_off1829 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5347 : BitVec 32 := 1024#32
  let v14640 : BitVec 32 := Scalar.muli v14 c1024_i32_5347
  let c850_i32 : BitVec 32 := 850#32
  let v14641 : BitVec 32 := Scalar.addi v14640 c850_i32
  let v14642 : Index := Scalar.indexCast v14641
  ![v14642.toNat]
def k0_off1830 (v14643 : BitVec 32) : Fin 2 → Nat :=
  let c4095_i32_5348 : BitVec 32 := 4095#32
  let v14644 : BitVec 32 := Scalar.andi v14643 c4095_i32_5348
  let v14645 : Index := Scalar.indexCast v14644
  let c0_5349 : Index := 0#32
  ![v14645.toNat, 0]

def k0_chk859 (v14643 : BitVec 32) : Prop :=
  (∀ a, (k0_off1830 v14643) a + S1x256.size a ≤ S4096x256.size a)
theorem k0_off1830_inb : ∀ (v14643 : BitVec 32) (k0_hw859 : k0_chk859 v14643), ∀ a, (k0_off1830 v14643) a + S1x256.size a ≤ S4096x256.size a := fun v14643 k0_hw859 => k0_hw859

def k0_off1831 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5351 : BitVec 32 := 1024#32
  let v14650 : BitVec 32 := Scalar.muli v14 c1024_i32_5351
  let c851_i32 : BitVec 32 := 851#32
  let v14651 : BitVec 32 := Scalar.addi v14650 c851_i32
  let v14652 : Index := Scalar.indexCast v14651
  ![v14652.toNat]
def k0_off1832 (v14653 : BitVec 32) : Fin 2 → Nat :=
  let c4095_i32_5352 : BitVec 32 := 4095#32
  let v14654 : BitVec 32 := Scalar.andi v14653 c4095_i32_5352
  let v14655 : Index := Scalar.indexCast v14654
  let c0_5353 : Index := 0#32
  ![v14655.toNat, 0]

def k0_chk860 (v14653 : BitVec 32) : Prop :=
  (∀ a, (k0_off1832 v14653) a + S1x256.size a ≤ S4096x256.size a)
theorem k0_off1832_inb : ∀ (v14653 : BitVec 32) (k0_hw860 : k0_chk860 v14653), ∀ a, (k0_off1832 v14653) a + S1x256.size a ≤ S4096x256.size a := fun v14653 k0_hw860 => k0_hw860

def k0_off1833 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5355 : BitVec 32 := 1024#32
  let v14660 : BitVec 32 := Scalar.muli v14 c1024_i32_5355
  let c852_i32 : BitVec 32 := 852#32
  let v14661 : BitVec 32 := Scalar.addi v14660 c852_i32
  let v14662 : Index := Scalar.indexCast v14661
  ![v14662.toNat]
def k0_off1834 (v14663 : BitVec 32) : Fin 2 → Nat :=
  let c4095_i32_5356 : BitVec 32 := 4095#32
  let v14664 : BitVec 32 := Scalar.andi v14663 c4095_i32_5356
  let v14665 : Index := Scalar.indexCast v14664
  let c0_5357 : Index := 0#32
  ![v14665.toNat, 0]

def k0_chk861 (v14663 : BitVec 32) : Prop :=
  (∀ a, (k0_off1834 v14663) a + S1x256.size a ≤ S4096x256.size a)
theorem k0_off1834_inb : ∀ (v14663 : BitVec 32) (k0_hw861 : k0_chk861 v14663), ∀ a, (k0_off1834 v14663) a + S1x256.size a ≤ S4096x256.size a := fun v14663 k0_hw861 => k0_hw861

def k0_off1835 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5359 : BitVec 32 := 1024#32
  let v14670 : BitVec 32 := Scalar.muli v14 c1024_i32_5359
  let c853_i32 : BitVec 32 := 853#32
  let v14671 : BitVec 32 := Scalar.addi v14670 c853_i32
  let v14672 : Index := Scalar.indexCast v14671
  ![v14672.toNat]
def k0_off1836 (v14673 : BitVec 32) : Fin 2 → Nat :=
  let c4095_i32_5360 : BitVec 32 := 4095#32
  let v14674 : BitVec 32 := Scalar.andi v14673 c4095_i32_5360
  let v14675 : Index := Scalar.indexCast v14674
  let c0_5361 : Index := 0#32
  ![v14675.toNat, 0]

def k0_chk862 (v14673 : BitVec 32) : Prop :=
  (∀ a, (k0_off1836 v14673) a + S1x256.size a ≤ S4096x256.size a)
theorem k0_off1836_inb : ∀ (v14673 : BitVec 32) (k0_hw862 : k0_chk862 v14673), ∀ a, (k0_off1836 v14673) a + S1x256.size a ≤ S4096x256.size a := fun v14673 k0_hw862 => k0_hw862

def k0_off1837 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5363 : BitVec 32 := 1024#32
  let v14680 : BitVec 32 := Scalar.muli v14 c1024_i32_5363
  let c854_i32 : BitVec 32 := 854#32
  let v14681 : BitVec 32 := Scalar.addi v14680 c854_i32
  let v14682 : Index := Scalar.indexCast v14681
  ![v14682.toNat]
def k0_off1838 (v14683 : BitVec 32) : Fin 2 → Nat :=
  let c4095_i32_5364 : BitVec 32 := 4095#32
  let v14684 : BitVec 32 := Scalar.andi v14683 c4095_i32_5364
  let v14685 : Index := Scalar.indexCast v14684
  let c0_5365 : Index := 0#32
  ![v14685.toNat, 0]

def k0_chk863 (v14683 : BitVec 32) : Prop :=
  (∀ a, (k0_off1838 v14683) a + S1x256.size a ≤ S4096x256.size a)
theorem k0_off1838_inb : ∀ (v14683 : BitVec 32) (k0_hw863 : k0_chk863 v14683), ∀ a, (k0_off1838 v14683) a + S1x256.size a ≤ S4096x256.size a := fun v14683 k0_hw863 => k0_hw863

def k0_off1839 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5367 : BitVec 32 := 1024#32
  let v14690 : BitVec 32 := Scalar.muli v14 c1024_i32_5367
  let c855_i32 : BitVec 32 := 855#32
  let v14691 : BitVec 32 := Scalar.addi v14690 c855_i32
  let v14692 : Index := Scalar.indexCast v14691
  ![v14692.toNat]
def k0_off1840 (v14693 : BitVec 32) : Fin 2 → Nat :=
  let c4095_i32_5368 : BitVec 32 := 4095#32
  let v14694 : BitVec 32 := Scalar.andi v14693 c4095_i32_5368
  let v14695 : Index := Scalar.indexCast v14694
  let c0_5369 : Index := 0#32
  ![v14695.toNat, 0]

def k0_chk864 (v14693 : BitVec 32) : Prop :=
  (∀ a, (k0_off1840 v14693) a + S1x256.size a ≤ S4096x256.size a)
theorem k0_off1840_inb : ∀ (v14693 : BitVec 32) (k0_hw864 : k0_chk864 v14693), ∀ a, (k0_off1840 v14693) a + S1x256.size a ≤ S4096x256.size a := fun v14693 k0_hw864 => k0_hw864

def k0_off1841 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5371 : BitVec 32 := 1024#32
  let v14700 : BitVec 32 := Scalar.muli v14 c1024_i32_5371
  let c856_i32 : BitVec 32 := 856#32
  let v14701 : BitVec 32 := Scalar.addi v14700 c856_i32
  let v14702 : Index := Scalar.indexCast v14701
  ![v14702.toNat]
def k0_off1842 (v14703 : BitVec 32) : Fin 2 → Nat :=
  let c4095_i32_5372 : BitVec 32 := 4095#32
  let v14704 : BitVec 32 := Scalar.andi v14703 c4095_i32_5372
  let v14705 : Index := Scalar.indexCast v14704
  let c0_5373 : Index := 0#32
  ![v14705.toNat, 0]

def k0_chk865 (v14703 : BitVec 32) : Prop :=
  (∀ a, (k0_off1842 v14703) a + S1x256.size a ≤ S4096x256.size a)
theorem k0_off1842_inb : ∀ (v14703 : BitVec 32) (k0_hw865 : k0_chk865 v14703), ∀ a, (k0_off1842 v14703) a + S1x256.size a ≤ S4096x256.size a := fun v14703 k0_hw865 => k0_hw865

def k0_off1843 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5375 : BitVec 32 := 1024#32
  let v14710 : BitVec 32 := Scalar.muli v14 c1024_i32_5375
  let c857_i32 : BitVec 32 := 857#32
  let v14711 : BitVec 32 := Scalar.addi v14710 c857_i32
  let v14712 : Index := Scalar.indexCast v14711
  ![v14712.toNat]
def k0_off1844 (v14713 : BitVec 32) : Fin 2 → Nat :=
  let c4095_i32_5376 : BitVec 32 := 4095#32
  let v14714 : BitVec 32 := Scalar.andi v14713 c4095_i32_5376
  let v14715 : Index := Scalar.indexCast v14714
  let c0_5377 : Index := 0#32
  ![v14715.toNat, 0]

def k0_chk866 (v14713 : BitVec 32) : Prop :=
  (∀ a, (k0_off1844 v14713) a + S1x256.size a ≤ S4096x256.size a)
theorem k0_off1844_inb : ∀ (v14713 : BitVec 32) (k0_hw866 : k0_chk866 v14713), ∀ a, (k0_off1844 v14713) a + S1x256.size a ≤ S4096x256.size a := fun v14713 k0_hw866 => k0_hw866

def k0_off1845 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5379 : BitVec 32 := 1024#32
  let v14720 : BitVec 32 := Scalar.muli v14 c1024_i32_5379
  let c858_i32 : BitVec 32 := 858#32
  let v14721 : BitVec 32 := Scalar.addi v14720 c858_i32
  let v14722 : Index := Scalar.indexCast v14721
  ![v14722.toNat]
def k0_off1846 (v14723 : BitVec 32) : Fin 2 → Nat :=
  let c4095_i32_5380 : BitVec 32 := 4095#32
  let v14724 : BitVec 32 := Scalar.andi v14723 c4095_i32_5380
  let v14725 : Index := Scalar.indexCast v14724
  let c0_5381 : Index := 0#32
  ![v14725.toNat, 0]

def k0_chk867 (v14723 : BitVec 32) : Prop :=
  (∀ a, (k0_off1846 v14723) a + S1x256.size a ≤ S4096x256.size a)
theorem k0_off1846_inb : ∀ (v14723 : BitVec 32) (k0_hw867 : k0_chk867 v14723), ∀ a, (k0_off1846 v14723) a + S1x256.size a ≤ S4096x256.size a := fun v14723 k0_hw867 => k0_hw867

def k0_off1847 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5383 : BitVec 32 := 1024#32
  let v14730 : BitVec 32 := Scalar.muli v14 c1024_i32_5383
  let c859_i32 : BitVec 32 := 859#32
  let v14731 : BitVec 32 := Scalar.addi v14730 c859_i32
  let v14732 : Index := Scalar.indexCast v14731
  ![v14732.toNat]
def k0_off1848 (v14733 : BitVec 32) : Fin 2 → Nat :=
  let c4095_i32_5384 : BitVec 32 := 4095#32
  let v14734 : BitVec 32 := Scalar.andi v14733 c4095_i32_5384
  let v14735 : Index := Scalar.indexCast v14734
  let c0_5385 : Index := 0#32
  ![v14735.toNat, 0]

def k0_chk868 (v14733 : BitVec 32) : Prop :=
  (∀ a, (k0_off1848 v14733) a + S1x256.size a ≤ S4096x256.size a)
theorem k0_off1848_inb : ∀ (v14733 : BitVec 32) (k0_hw868 : k0_chk868 v14733), ∀ a, (k0_off1848 v14733) a + S1x256.size a ≤ S4096x256.size a := fun v14733 k0_hw868 => k0_hw868

def k0_off1849 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5387 : BitVec 32 := 1024#32
  let v14740 : BitVec 32 := Scalar.muli v14 c1024_i32_5387
  let c860_i32 : BitVec 32 := 860#32
  let v14741 : BitVec 32 := Scalar.addi v14740 c860_i32
  let v14742 : Index := Scalar.indexCast v14741
  ![v14742.toNat]
def k0_off1850 (v14743 : BitVec 32) : Fin 2 → Nat :=
  let c4095_i32_5388 : BitVec 32 := 4095#32
  let v14744 : BitVec 32 := Scalar.andi v14743 c4095_i32_5388
  let v14745 : Index := Scalar.indexCast v14744
  let c0_5389 : Index := 0#32
  ![v14745.toNat, 0]

def k0_chk869 (v14743 : BitVec 32) : Prop :=
  (∀ a, (k0_off1850 v14743) a + S1x256.size a ≤ S4096x256.size a)
theorem k0_off1850_inb : ∀ (v14743 : BitVec 32) (k0_hw869 : k0_chk869 v14743), ∀ a, (k0_off1850 v14743) a + S1x256.size a ≤ S4096x256.size a := fun v14743 k0_hw869 => k0_hw869

def k0_off1851 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5391 : BitVec 32 := 1024#32
  let v14750 : BitVec 32 := Scalar.muli v14 c1024_i32_5391
  let c861_i32 : BitVec 32 := 861#32
  let v14751 : BitVec 32 := Scalar.addi v14750 c861_i32
  let v14752 : Index := Scalar.indexCast v14751
  ![v14752.toNat]
def k0_off1852 (v14753 : BitVec 32) : Fin 2 → Nat :=
  let c4095_i32_5392 : BitVec 32 := 4095#32
  let v14754 : BitVec 32 := Scalar.andi v14753 c4095_i32_5392
  let v14755 : Index := Scalar.indexCast v14754
  let c0_5393 : Index := 0#32
  ![v14755.toNat, 0]

def k0_chk870 (v14753 : BitVec 32) : Prop :=
  (∀ a, (k0_off1852 v14753) a + S1x256.size a ≤ S4096x256.size a)
theorem k0_off1852_inb : ∀ (v14753 : BitVec 32) (k0_hw870 : k0_chk870 v14753), ∀ a, (k0_off1852 v14753) a + S1x256.size a ≤ S4096x256.size a := fun v14753 k0_hw870 => k0_hw870

def k0_off1853 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5395 : BitVec 32 := 1024#32
  let v14760 : BitVec 32 := Scalar.muli v14 c1024_i32_5395
  let c862_i32 : BitVec 32 := 862#32
  let v14761 : BitVec 32 := Scalar.addi v14760 c862_i32
  let v14762 : Index := Scalar.indexCast v14761
  ![v14762.toNat]
def k0_off1854 (v14763 : BitVec 32) : Fin 2 → Nat :=
  let c4095_i32_5396 : BitVec 32 := 4095#32
  let v14764 : BitVec 32 := Scalar.andi v14763 c4095_i32_5396
  let v14765 : Index := Scalar.indexCast v14764
  let c0_5397 : Index := 0#32
  ![v14765.toNat, 0]

def k0_chk871 (v14763 : BitVec 32) : Prop :=
  (∀ a, (k0_off1854 v14763) a + S1x256.size a ≤ S4096x256.size a)
theorem k0_off1854_inb : ∀ (v14763 : BitVec 32) (k0_hw871 : k0_chk871 v14763), ∀ a, (k0_off1854 v14763) a + S1x256.size a ≤ S4096x256.size a := fun v14763 k0_hw871 => k0_hw871

def k0_off1855 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5399 : BitVec 32 := 1024#32
  let v14770 : BitVec 32 := Scalar.muli v14 c1024_i32_5399
  let c863_i32 : BitVec 32 := 863#32
  let v14771 : BitVec 32 := Scalar.addi v14770 c863_i32
  let v14772 : Index := Scalar.indexCast v14771
  ![v14772.toNat]
def k0_off1856 (v14773 : BitVec 32) : Fin 2 → Nat :=
  let c4095_i32_5400 : BitVec 32 := 4095#32
  let v14774 : BitVec 32 := Scalar.andi v14773 c4095_i32_5400
  let v14775 : Index := Scalar.indexCast v14774
  let c0_5401 : Index := 0#32
  ![v14775.toNat, 0]

def k0_chk872 (v14773 : BitVec 32) : Prop :=
  (∀ a, (k0_off1856 v14773) a + S1x256.size a ≤ S4096x256.size a)
theorem k0_off1856_inb : ∀ (v14773 : BitVec 32) (k0_hw872 : k0_chk872 v14773), ∀ a, (k0_off1856 v14773) a + S1x256.size a ≤ S4096x256.size a := fun v14773 k0_hw872 => k0_hw872

def k0_off1857 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5403 : BitVec 32 := 1024#32
  let v14780 : BitVec 32 := Scalar.muli v14 c1024_i32_5403
  let c864_i32 : BitVec 32 := 864#32
  let v14781 : BitVec 32 := Scalar.addi v14780 c864_i32
  let v14782 : Index := Scalar.indexCast v14781
  ![v14782.toNat]
def k0_off1858 (v14783 : BitVec 32) : Fin 2 → Nat :=
  let c4095_i32_5404 : BitVec 32 := 4095#32
  let v14784 : BitVec 32 := Scalar.andi v14783 c4095_i32_5404
  let v14785 : Index := Scalar.indexCast v14784
  let c0_5405 : Index := 0#32
  ![v14785.toNat, 0]

def k0_chk873 (v14783 : BitVec 32) : Prop :=
  (∀ a, (k0_off1858 v14783) a + S1x256.size a ≤ S4096x256.size a)
theorem k0_off1858_inb : ∀ (v14783 : BitVec 32) (k0_hw873 : k0_chk873 v14783), ∀ a, (k0_off1858 v14783) a + S1x256.size a ≤ S4096x256.size a := fun v14783 k0_hw873 => k0_hw873

def k0_off1859 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5407 : BitVec 32 := 1024#32
  let v14790 : BitVec 32 := Scalar.muli v14 c1024_i32_5407
  let c865_i32 : BitVec 32 := 865#32
  let v14791 : BitVec 32 := Scalar.addi v14790 c865_i32
  let v14792 : Index := Scalar.indexCast v14791
  ![v14792.toNat]
def k0_off1860 (v14793 : BitVec 32) : Fin 2 → Nat :=
  let c4095_i32_5408 : BitVec 32 := 4095#32
  let v14794 : BitVec 32 := Scalar.andi v14793 c4095_i32_5408
  let v14795 : Index := Scalar.indexCast v14794
  let c0_5409 : Index := 0#32
  ![v14795.toNat, 0]

def k0_chk874 (v14793 : BitVec 32) : Prop :=
  (∀ a, (k0_off1860 v14793) a + S1x256.size a ≤ S4096x256.size a)
theorem k0_off1860_inb : ∀ (v14793 : BitVec 32) (k0_hw874 : k0_chk874 v14793), ∀ a, (k0_off1860 v14793) a + S1x256.size a ≤ S4096x256.size a := fun v14793 k0_hw874 => k0_hw874

def k0_off1861 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5411 : BitVec 32 := 1024#32
  let v14800 : BitVec 32 := Scalar.muli v14 c1024_i32_5411
  let c866_i32 : BitVec 32 := 866#32
  let v14801 : BitVec 32 := Scalar.addi v14800 c866_i32
  let v14802 : Index := Scalar.indexCast v14801
  ![v14802.toNat]
def k0_off1862 (v14803 : BitVec 32) : Fin 2 → Nat :=
  let c4095_i32_5412 : BitVec 32 := 4095#32
  let v14804 : BitVec 32 := Scalar.andi v14803 c4095_i32_5412
  let v14805 : Index := Scalar.indexCast v14804
  let c0_5413 : Index := 0#32
  ![v14805.toNat, 0]

def k0_chk875 (v14803 : BitVec 32) : Prop :=
  (∀ a, (k0_off1862 v14803) a + S1x256.size a ≤ S4096x256.size a)
theorem k0_off1862_inb : ∀ (v14803 : BitVec 32) (k0_hw875 : k0_chk875 v14803), ∀ a, (k0_off1862 v14803) a + S1x256.size a ≤ S4096x256.size a := fun v14803 k0_hw875 => k0_hw875

def k0_off1863 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5415 : BitVec 32 := 1024#32
  let v14810 : BitVec 32 := Scalar.muli v14 c1024_i32_5415
  let c867_i32 : BitVec 32 := 867#32
  let v14811 : BitVec 32 := Scalar.addi v14810 c867_i32
  let v14812 : Index := Scalar.indexCast v14811
  ![v14812.toNat]
def k0_off1864 (v14813 : BitVec 32) : Fin 2 → Nat :=
  let c4095_i32_5416 : BitVec 32 := 4095#32
  let v14814 : BitVec 32 := Scalar.andi v14813 c4095_i32_5416
  let v14815 : Index := Scalar.indexCast v14814
  let c0_5417 : Index := 0#32
  ![v14815.toNat, 0]

def k0_chk876 (v14813 : BitVec 32) : Prop :=
  (∀ a, (k0_off1864 v14813) a + S1x256.size a ≤ S4096x256.size a)
theorem k0_off1864_inb : ∀ (v14813 : BitVec 32) (k0_hw876 : k0_chk876 v14813), ∀ a, (k0_off1864 v14813) a + S1x256.size a ≤ S4096x256.size a := fun v14813 k0_hw876 => k0_hw876

def k0_off1865 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5419 : BitVec 32 := 1024#32
  let v14820 : BitVec 32 := Scalar.muli v14 c1024_i32_5419
  let c868_i32 : BitVec 32 := 868#32
  let v14821 : BitVec 32 := Scalar.addi v14820 c868_i32
  let v14822 : Index := Scalar.indexCast v14821
  ![v14822.toNat]
def k0_off1866 (v14823 : BitVec 32) : Fin 2 → Nat :=
  let c4095_i32_5420 : BitVec 32 := 4095#32
  let v14824 : BitVec 32 := Scalar.andi v14823 c4095_i32_5420
  let v14825 : Index := Scalar.indexCast v14824
  let c0_5421 : Index := 0#32
  ![v14825.toNat, 0]

def k0_chk877 (v14823 : BitVec 32) : Prop :=
  (∀ a, (k0_off1866 v14823) a + S1x256.size a ≤ S4096x256.size a)
theorem k0_off1866_inb : ∀ (v14823 : BitVec 32) (k0_hw877 : k0_chk877 v14823), ∀ a, (k0_off1866 v14823) a + S1x256.size a ≤ S4096x256.size a := fun v14823 k0_hw877 => k0_hw877

def k0_off1867 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5423 : BitVec 32 := 1024#32
  let v14830 : BitVec 32 := Scalar.muli v14 c1024_i32_5423
  let c869_i32 : BitVec 32 := 869#32
  let v14831 : BitVec 32 := Scalar.addi v14830 c869_i32
  let v14832 : Index := Scalar.indexCast v14831
  ![v14832.toNat]
def k0_off1868 (v14833 : BitVec 32) : Fin 2 → Nat :=
  let c4095_i32_5424 : BitVec 32 := 4095#32
  let v14834 : BitVec 32 := Scalar.andi v14833 c4095_i32_5424
  let v14835 : Index := Scalar.indexCast v14834
  let c0_5425 : Index := 0#32
  ![v14835.toNat, 0]

def k0_chk878 (v14833 : BitVec 32) : Prop :=
  (∀ a, (k0_off1868 v14833) a + S1x256.size a ≤ S4096x256.size a)
theorem k0_off1868_inb : ∀ (v14833 : BitVec 32) (k0_hw878 : k0_chk878 v14833), ∀ a, (k0_off1868 v14833) a + S1x256.size a ≤ S4096x256.size a := fun v14833 k0_hw878 => k0_hw878

def k0_off1869 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5427 : BitVec 32 := 1024#32
  let v14840 : BitVec 32 := Scalar.muli v14 c1024_i32_5427
  let c870_i32 : BitVec 32 := 870#32
  let v14841 : BitVec 32 := Scalar.addi v14840 c870_i32
  let v14842 : Index := Scalar.indexCast v14841
  ![v14842.toNat]
def k0_off1870 (v14843 : BitVec 32) : Fin 2 → Nat :=
  let c4095_i32_5428 : BitVec 32 := 4095#32
  let v14844 : BitVec 32 := Scalar.andi v14843 c4095_i32_5428
  let v14845 : Index := Scalar.indexCast v14844
  let c0_5429 : Index := 0#32
  ![v14845.toNat, 0]

def k0_chk879 (v14843 : BitVec 32) : Prop :=
  (∀ a, (k0_off1870 v14843) a + S1x256.size a ≤ S4096x256.size a)
theorem k0_off1870_inb : ∀ (v14843 : BitVec 32) (k0_hw879 : k0_chk879 v14843), ∀ a, (k0_off1870 v14843) a + S1x256.size a ≤ S4096x256.size a := fun v14843 k0_hw879 => k0_hw879

def k0_off1871 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5431 : BitVec 32 := 1024#32
  let v14850 : BitVec 32 := Scalar.muli v14 c1024_i32_5431
  let c871_i32 : BitVec 32 := 871#32
  let v14851 : BitVec 32 := Scalar.addi v14850 c871_i32
  let v14852 : Index := Scalar.indexCast v14851
  ![v14852.toNat]
def k0_off1872 (v14853 : BitVec 32) : Fin 2 → Nat :=
  let c4095_i32_5432 : BitVec 32 := 4095#32
  let v14854 : BitVec 32 := Scalar.andi v14853 c4095_i32_5432
  let v14855 : Index := Scalar.indexCast v14854
  let c0_5433 : Index := 0#32
  ![v14855.toNat, 0]

def k0_chk880 (v14853 : BitVec 32) : Prop :=
  (∀ a, (k0_off1872 v14853) a + S1x256.size a ≤ S4096x256.size a)
theorem k0_off1872_inb : ∀ (v14853 : BitVec 32) (k0_hw880 : k0_chk880 v14853), ∀ a, (k0_off1872 v14853) a + S1x256.size a ≤ S4096x256.size a := fun v14853 k0_hw880 => k0_hw880

def k0_off1873 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5435 : BitVec 32 := 1024#32
  let v14860 : BitVec 32 := Scalar.muli v14 c1024_i32_5435
  let c872_i32 : BitVec 32 := 872#32
  let v14861 : BitVec 32 := Scalar.addi v14860 c872_i32
  let v14862 : Index := Scalar.indexCast v14861
  ![v14862.toNat]
def k0_off1874 (v14863 : BitVec 32) : Fin 2 → Nat :=
  let c4095_i32_5436 : BitVec 32 := 4095#32
  let v14864 : BitVec 32 := Scalar.andi v14863 c4095_i32_5436
  let v14865 : Index := Scalar.indexCast v14864
  let c0_5437 : Index := 0#32
  ![v14865.toNat, 0]

def k0_chk881 (v14863 : BitVec 32) : Prop :=
  (∀ a, (k0_off1874 v14863) a + S1x256.size a ≤ S4096x256.size a)
theorem k0_off1874_inb : ∀ (v14863 : BitVec 32) (k0_hw881 : k0_chk881 v14863), ∀ a, (k0_off1874 v14863) a + S1x256.size a ≤ S4096x256.size a := fun v14863 k0_hw881 => k0_hw881

def k0_off1875 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v14927 : Index := Scalar.indexCast v12
  let c0_5454 : Index := 0#32
  let c0_5455 : Index := 0#32
  ![v14927.toNat, 0, 0]
def k0_off1876 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v14988 : Index := Scalar.indexCast v12
  let c0_5473 : Index := 0#32
  let c256_5474 : Index := 256#32
  ![v14988.toNat, 0, 256]
def k0_off1877 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v15050 : Index := Scalar.indexCast v12
  let c0_5492 : Index := 0#32
  let c512_5493 : Index := 512#32
  ![v15050.toNat, 0, 512]
def k0_off1878 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v15112 : Index := Scalar.indexCast v12
  let c0_5511 : Index := 0#32
  let c768_5512 : Index := 768#32
  ![v15112.toNat, 0, 768]
def k0_off1879 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5518 : BitVec 32 := 1024#32
  let v15122 : BitVec 32 := Scalar.muli v14 c1024_i32_5518
  let c873_i32 : BitVec 32 := 873#32
  let v15123 : BitVec 32 := Scalar.addi v15122 c873_i32
  let v15124 : Index := Scalar.indexCast v15123
  ![v15124.toNat]
def k0_off1880 (v15125 : BitVec 32) : Fin 2 → Nat :=
  let c4095_i32_5519 : BitVec 32 := 4095#32
  let v15126 : BitVec 32 := Scalar.andi v15125 c4095_i32_5519
  let v15127 : Index := Scalar.indexCast v15126
  let c0_5520 : Index := 0#32
  ![v15127.toNat, 0]

def k0_chk882 (v15125 : BitVec 32) : Prop :=
  (∀ a, (k0_off1880 v15125) a + S1x256.size a ≤ S4096x256.size a)
theorem k0_off1880_inb : ∀ (v15125 : BitVec 32) (k0_hw882 : k0_chk882 v15125), ∀ a, (k0_off1880 v15125) a + S1x256.size a ≤ S4096x256.size a := fun v15125 k0_hw882 => k0_hw882

def k0_off1881 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5522 : BitVec 32 := 1024#32
  let v15132 : BitVec 32 := Scalar.muli v14 c1024_i32_5522
  let c874_i32 : BitVec 32 := 874#32
  let v15133 : BitVec 32 := Scalar.addi v15132 c874_i32
  let v15134 : Index := Scalar.indexCast v15133
  ![v15134.toNat]
def k0_off1882 (v15135 : BitVec 32) : Fin 2 → Nat :=
  let c4095_i32_5523 : BitVec 32 := 4095#32
  let v15136 : BitVec 32 := Scalar.andi v15135 c4095_i32_5523
  let v15137 : Index := Scalar.indexCast v15136
  let c0_5524 : Index := 0#32
  ![v15137.toNat, 0]

def k0_chk883 (v15135 : BitVec 32) : Prop :=
  (∀ a, (k0_off1882 v15135) a + S1x256.size a ≤ S4096x256.size a)
theorem k0_off1882_inb : ∀ (v15135 : BitVec 32) (k0_hw883 : k0_chk883 v15135), ∀ a, (k0_off1882 v15135) a + S1x256.size a ≤ S4096x256.size a := fun v15135 k0_hw883 => k0_hw883

def k0_off1883 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5526 : BitVec 32 := 1024#32
  let v15142 : BitVec 32 := Scalar.muli v14 c1024_i32_5526
  let c875_i32 : BitVec 32 := 875#32
  let v15143 : BitVec 32 := Scalar.addi v15142 c875_i32
  let v15144 : Index := Scalar.indexCast v15143
  ![v15144.toNat]
def k0_off1884 (v15145 : BitVec 32) : Fin 2 → Nat :=
  let c4095_i32_5527 : BitVec 32 := 4095#32
  let v15146 : BitVec 32 := Scalar.andi v15145 c4095_i32_5527
  let v15147 : Index := Scalar.indexCast v15146
  let c0_5528 : Index := 0#32
  ![v15147.toNat, 0]

def k0_chk884 (v15145 : BitVec 32) : Prop :=
  (∀ a, (k0_off1884 v15145) a + S1x256.size a ≤ S4096x256.size a)
theorem k0_off1884_inb : ∀ (v15145 : BitVec 32) (k0_hw884 : k0_chk884 v15145), ∀ a, (k0_off1884 v15145) a + S1x256.size a ≤ S4096x256.size a := fun v15145 k0_hw884 => k0_hw884

def k0_off1885 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5530 : BitVec 32 := 1024#32
  let v15152 : BitVec 32 := Scalar.muli v14 c1024_i32_5530
  let c876_i32 : BitVec 32 := 876#32
  let v15153 : BitVec 32 := Scalar.addi v15152 c876_i32
  let v15154 : Index := Scalar.indexCast v15153
  ![v15154.toNat]
def k0_off1886 (v15155 : BitVec 32) : Fin 2 → Nat :=
  let c4095_i32_5531 : BitVec 32 := 4095#32
  let v15156 : BitVec 32 := Scalar.andi v15155 c4095_i32_5531
  let v15157 : Index := Scalar.indexCast v15156
  let c0_5532 : Index := 0#32
  ![v15157.toNat, 0]

def k0_chk885 (v15155 : BitVec 32) : Prop :=
  (∀ a, (k0_off1886 v15155) a + S1x256.size a ≤ S4096x256.size a)
theorem k0_off1886_inb : ∀ (v15155 : BitVec 32) (k0_hw885 : k0_chk885 v15155), ∀ a, (k0_off1886 v15155) a + S1x256.size a ≤ S4096x256.size a := fun v15155 k0_hw885 => k0_hw885

def k0_off1887 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5534 : BitVec 32 := 1024#32
  let v15162 : BitVec 32 := Scalar.muli v14 c1024_i32_5534
  let c877_i32 : BitVec 32 := 877#32
  let v15163 : BitVec 32 := Scalar.addi v15162 c877_i32
  let v15164 : Index := Scalar.indexCast v15163
  ![v15164.toNat]
def k0_off1888 (v15165 : BitVec 32) : Fin 2 → Nat :=
  let c4095_i32_5535 : BitVec 32 := 4095#32
  let v15166 : BitVec 32 := Scalar.andi v15165 c4095_i32_5535
  let v15167 : Index := Scalar.indexCast v15166
  let c0_5536 : Index := 0#32
  ![v15167.toNat, 0]

def k0_chk886 (v15165 : BitVec 32) : Prop :=
  (∀ a, (k0_off1888 v15165) a + S1x256.size a ≤ S4096x256.size a)
theorem k0_off1888_inb : ∀ (v15165 : BitVec 32) (k0_hw886 : k0_chk886 v15165), ∀ a, (k0_off1888 v15165) a + S1x256.size a ≤ S4096x256.size a := fun v15165 k0_hw886 => k0_hw886

def k0_off1889 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5538 : BitVec 32 := 1024#32
  let v15172 : BitVec 32 := Scalar.muli v14 c1024_i32_5538
  let c878_i32 : BitVec 32 := 878#32
  let v15173 : BitVec 32 := Scalar.addi v15172 c878_i32
  let v15174 : Index := Scalar.indexCast v15173
  ![v15174.toNat]
def k0_off1890 (v15175 : BitVec 32) : Fin 2 → Nat :=
  let c4095_i32_5539 : BitVec 32 := 4095#32
  let v15176 : BitVec 32 := Scalar.andi v15175 c4095_i32_5539
  let v15177 : Index := Scalar.indexCast v15176
  let c0_5540 : Index := 0#32
  ![v15177.toNat, 0]

def k0_chk887 (v15175 : BitVec 32) : Prop :=
  (∀ a, (k0_off1890 v15175) a + S1x256.size a ≤ S4096x256.size a)
theorem k0_off1890_inb : ∀ (v15175 : BitVec 32) (k0_hw887 : k0_chk887 v15175), ∀ a, (k0_off1890 v15175) a + S1x256.size a ≤ S4096x256.size a := fun v15175 k0_hw887 => k0_hw887

def k0_off1891 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5542 : BitVec 32 := 1024#32
  let v15182 : BitVec 32 := Scalar.muli v14 c1024_i32_5542
  let c879_i32 : BitVec 32 := 879#32
  let v15183 : BitVec 32 := Scalar.addi v15182 c879_i32
  let v15184 : Index := Scalar.indexCast v15183
  ![v15184.toNat]
def k0_off1892 (v15185 : BitVec 32) : Fin 2 → Nat :=
  let c4095_i32_5543 : BitVec 32 := 4095#32
  let v15186 : BitVec 32 := Scalar.andi v15185 c4095_i32_5543
  let v15187 : Index := Scalar.indexCast v15186
  let c0_5544 : Index := 0#32
  ![v15187.toNat, 0]

def k0_chk888 (v15185 : BitVec 32) : Prop :=
  (∀ a, (k0_off1892 v15185) a + S1x256.size a ≤ S4096x256.size a)
theorem k0_off1892_inb : ∀ (v15185 : BitVec 32) (k0_hw888 : k0_chk888 v15185), ∀ a, (k0_off1892 v15185) a + S1x256.size a ≤ S4096x256.size a := fun v15185 k0_hw888 => k0_hw888

def k0_off1893 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5546 : BitVec 32 := 1024#32
  let v15192 : BitVec 32 := Scalar.muli v14 c1024_i32_5546
  let c880_i32 : BitVec 32 := 880#32
  let v15193 : BitVec 32 := Scalar.addi v15192 c880_i32
  let v15194 : Index := Scalar.indexCast v15193
  ![v15194.toNat]
def k0_off1894 (v15195 : BitVec 32) : Fin 2 → Nat :=
  let c4095_i32_5547 : BitVec 32 := 4095#32
  let v15196 : BitVec 32 := Scalar.andi v15195 c4095_i32_5547
  let v15197 : Index := Scalar.indexCast v15196
  let c0_5548 : Index := 0#32
  ![v15197.toNat, 0]

def k0_chk889 (v15195 : BitVec 32) : Prop :=
  (∀ a, (k0_off1894 v15195) a + S1x256.size a ≤ S4096x256.size a)
theorem k0_off1894_inb : ∀ (v15195 : BitVec 32) (k0_hw889 : k0_chk889 v15195), ∀ a, (k0_off1894 v15195) a + S1x256.size a ≤ S4096x256.size a := fun v15195 k0_hw889 => k0_hw889

def k0_off1895 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5550 : BitVec 32 := 1024#32
  let v15202 : BitVec 32 := Scalar.muli v14 c1024_i32_5550
  let c881_i32 : BitVec 32 := 881#32
  let v15203 : BitVec 32 := Scalar.addi v15202 c881_i32
  let v15204 : Index := Scalar.indexCast v15203
  ![v15204.toNat]
def k0_off1896 (v15205 : BitVec 32) : Fin 2 → Nat :=
  let c4095_i32_5551 : BitVec 32 := 4095#32
  let v15206 : BitVec 32 := Scalar.andi v15205 c4095_i32_5551
  let v15207 : Index := Scalar.indexCast v15206
  let c0_5552 : Index := 0#32
  ![v15207.toNat, 0]

def k0_chk890 (v15205 : BitVec 32) : Prop :=
  (∀ a, (k0_off1896 v15205) a + S1x256.size a ≤ S4096x256.size a)
theorem k0_off1896_inb : ∀ (v15205 : BitVec 32) (k0_hw890 : k0_chk890 v15205), ∀ a, (k0_off1896 v15205) a + S1x256.size a ≤ S4096x256.size a := fun v15205 k0_hw890 => k0_hw890

def k0_off1897 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5554 : BitVec 32 := 1024#32
  let v15212 : BitVec 32 := Scalar.muli v14 c1024_i32_5554
  let c882_i32 : BitVec 32 := 882#32
  let v15213 : BitVec 32 := Scalar.addi v15212 c882_i32
  let v15214 : Index := Scalar.indexCast v15213
  ![v15214.toNat]
def k0_off1898 (v15215 : BitVec 32) : Fin 2 → Nat :=
  let c4095_i32_5555 : BitVec 32 := 4095#32
  let v15216 : BitVec 32 := Scalar.andi v15215 c4095_i32_5555
  let v15217 : Index := Scalar.indexCast v15216
  let c0_5556 : Index := 0#32
  ![v15217.toNat, 0]

def k0_chk891 (v15215 : BitVec 32) : Prop :=
  (∀ a, (k0_off1898 v15215) a + S1x256.size a ≤ S4096x256.size a)
theorem k0_off1898_inb : ∀ (v15215 : BitVec 32) (k0_hw891 : k0_chk891 v15215), ∀ a, (k0_off1898 v15215) a + S1x256.size a ≤ S4096x256.size a := fun v15215 k0_hw891 => k0_hw891

def k0_off1899 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5558 : BitVec 32 := 1024#32
  let v15222 : BitVec 32 := Scalar.muli v14 c1024_i32_5558
  let c883_i32 : BitVec 32 := 883#32
  let v15223 : BitVec 32 := Scalar.addi v15222 c883_i32
  let v15224 : Index := Scalar.indexCast v15223
  ![v15224.toNat]
def k0_off1900 (v15225 : BitVec 32) : Fin 2 → Nat :=
  let c4095_i32_5559 : BitVec 32 := 4095#32
  let v15226 : BitVec 32 := Scalar.andi v15225 c4095_i32_5559
  let v15227 : Index := Scalar.indexCast v15226
  let c0_5560 : Index := 0#32
  ![v15227.toNat, 0]

def k0_chk892 (v15225 : BitVec 32) : Prop :=
  (∀ a, (k0_off1900 v15225) a + S1x256.size a ≤ S4096x256.size a)
theorem k0_off1900_inb : ∀ (v15225 : BitVec 32) (k0_hw892 : k0_chk892 v15225), ∀ a, (k0_off1900 v15225) a + S1x256.size a ≤ S4096x256.size a := fun v15225 k0_hw892 => k0_hw892

def k0_off1901 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5562 : BitVec 32 := 1024#32
  let v15232 : BitVec 32 := Scalar.muli v14 c1024_i32_5562
  let c884_i32 : BitVec 32 := 884#32
  let v15233 : BitVec 32 := Scalar.addi v15232 c884_i32
  let v15234 : Index := Scalar.indexCast v15233
  ![v15234.toNat]
def k0_off1902 (v15235 : BitVec 32) : Fin 2 → Nat :=
  let c4095_i32_5563 : BitVec 32 := 4095#32
  let v15236 : BitVec 32 := Scalar.andi v15235 c4095_i32_5563
  let v15237 : Index := Scalar.indexCast v15236
  let c0_5564 : Index := 0#32
  ![v15237.toNat, 0]

def k0_chk893 (v15235 : BitVec 32) : Prop :=
  (∀ a, (k0_off1902 v15235) a + S1x256.size a ≤ S4096x256.size a)
theorem k0_off1902_inb : ∀ (v15235 : BitVec 32) (k0_hw893 : k0_chk893 v15235), ∀ a, (k0_off1902 v15235) a + S1x256.size a ≤ S4096x256.size a := fun v15235 k0_hw893 => k0_hw893

def k0_off1903 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5566 : BitVec 32 := 1024#32
  let v15242 : BitVec 32 := Scalar.muli v14 c1024_i32_5566
  let c885_i32 : BitVec 32 := 885#32
  let v15243 : BitVec 32 := Scalar.addi v15242 c885_i32
  let v15244 : Index := Scalar.indexCast v15243
  ![v15244.toNat]
def k0_off1904 (v15245 : BitVec 32) : Fin 2 → Nat :=
  let c4095_i32_5567 : BitVec 32 := 4095#32
  let v15246 : BitVec 32 := Scalar.andi v15245 c4095_i32_5567
  let v15247 : Index := Scalar.indexCast v15246
  let c0_5568 : Index := 0#32
  ![v15247.toNat, 0]

def k0_chk894 (v15245 : BitVec 32) : Prop :=
  (∀ a, (k0_off1904 v15245) a + S1x256.size a ≤ S4096x256.size a)
theorem k0_off1904_inb : ∀ (v15245 : BitVec 32) (k0_hw894 : k0_chk894 v15245), ∀ a, (k0_off1904 v15245) a + S1x256.size a ≤ S4096x256.size a := fun v15245 k0_hw894 => k0_hw894

def k0_off1905 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5570 : BitVec 32 := 1024#32
  let v15252 : BitVec 32 := Scalar.muli v14 c1024_i32_5570
  let c886_i32 : BitVec 32 := 886#32
  let v15253 : BitVec 32 := Scalar.addi v15252 c886_i32
  let v15254 : Index := Scalar.indexCast v15253
  ![v15254.toNat]
def k0_off1906 (v15255 : BitVec 32) : Fin 2 → Nat :=
  let c4095_i32_5571 : BitVec 32 := 4095#32
  let v15256 : BitVec 32 := Scalar.andi v15255 c4095_i32_5571
  let v15257 : Index := Scalar.indexCast v15256
  let c0_5572 : Index := 0#32
  ![v15257.toNat, 0]

def k0_chk895 (v15255 : BitVec 32) : Prop :=
  (∀ a, (k0_off1906 v15255) a + S1x256.size a ≤ S4096x256.size a)
theorem k0_off1906_inb : ∀ (v15255 : BitVec 32) (k0_hw895 : k0_chk895 v15255), ∀ a, (k0_off1906 v15255) a + S1x256.size a ≤ S4096x256.size a := fun v15255 k0_hw895 => k0_hw895

def k0_off1907 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5574 : BitVec 32 := 1024#32
  let v15262 : BitVec 32 := Scalar.muli v14 c1024_i32_5574
  let c887_i32 : BitVec 32 := 887#32
  let v15263 : BitVec 32 := Scalar.addi v15262 c887_i32
  let v15264 : Index := Scalar.indexCast v15263
  ![v15264.toNat]
def k0_off1908 (v15265 : BitVec 32) : Fin 2 → Nat :=
  let c4095_i32_5575 : BitVec 32 := 4095#32
  let v15266 : BitVec 32 := Scalar.andi v15265 c4095_i32_5575
  let v15267 : Index := Scalar.indexCast v15266
  let c0_5576 : Index := 0#32
  ![v15267.toNat, 0]

def k0_chk896 (v15265 : BitVec 32) : Prop :=
  (∀ a, (k0_off1908 v15265) a + S1x256.size a ≤ S4096x256.size a)
theorem k0_off1908_inb : ∀ (v15265 : BitVec 32) (k0_hw896 : k0_chk896 v15265), ∀ a, (k0_off1908 v15265) a + S1x256.size a ≤ S4096x256.size a := fun v15265 k0_hw896 => k0_hw896

def k0_off1909 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5578 : BitVec 32 := 1024#32
  let v15272 : BitVec 32 := Scalar.muli v14 c1024_i32_5578
  let c888_i32 : BitVec 32 := 888#32
  let v15273 : BitVec 32 := Scalar.addi v15272 c888_i32
  let v15274 : Index := Scalar.indexCast v15273
  ![v15274.toNat]
def k0_off1910 (v15275 : BitVec 32) : Fin 2 → Nat :=
  let c4095_i32_5579 : BitVec 32 := 4095#32
  let v15276 : BitVec 32 := Scalar.andi v15275 c4095_i32_5579
  let v15277 : Index := Scalar.indexCast v15276
  let c0_5580 : Index := 0#32
  ![v15277.toNat, 0]

def k0_chk897 (v15275 : BitVec 32) : Prop :=
  (∀ a, (k0_off1910 v15275) a + S1x256.size a ≤ S4096x256.size a)
theorem k0_off1910_inb : ∀ (v15275 : BitVec 32) (k0_hw897 : k0_chk897 v15275), ∀ a, (k0_off1910 v15275) a + S1x256.size a ≤ S4096x256.size a := fun v15275 k0_hw897 => k0_hw897

def k0_off1911 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5582 : BitVec 32 := 1024#32
  let v15282 : BitVec 32 := Scalar.muli v14 c1024_i32_5582
  let c889_i32 : BitVec 32 := 889#32
  let v15283 : BitVec 32 := Scalar.addi v15282 c889_i32
  let v15284 : Index := Scalar.indexCast v15283
  ![v15284.toNat]
def k0_off1912 (v15285 : BitVec 32) : Fin 2 → Nat :=
  let c4095_i32_5583 : BitVec 32 := 4095#32
  let v15286 : BitVec 32 := Scalar.andi v15285 c4095_i32_5583
  let v15287 : Index := Scalar.indexCast v15286
  let c0_5584 : Index := 0#32
  ![v15287.toNat, 0]

def k0_chk898 (v15285 : BitVec 32) : Prop :=
  (∀ a, (k0_off1912 v15285) a + S1x256.size a ≤ S4096x256.size a)
theorem k0_off1912_inb : ∀ (v15285 : BitVec 32) (k0_hw898 : k0_chk898 v15285), ∀ a, (k0_off1912 v15285) a + S1x256.size a ≤ S4096x256.size a := fun v15285 k0_hw898 => k0_hw898

def k0_off1913 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5586 : BitVec 32 := 1024#32
  let v15292 : BitVec 32 := Scalar.muli v14 c1024_i32_5586
  let c890_i32 : BitVec 32 := 890#32
  let v15293 : BitVec 32 := Scalar.addi v15292 c890_i32
  let v15294 : Index := Scalar.indexCast v15293
  ![v15294.toNat]
def k0_off1914 (v15295 : BitVec 32) : Fin 2 → Nat :=
  let c4095_i32_5587 : BitVec 32 := 4095#32
  let v15296 : BitVec 32 := Scalar.andi v15295 c4095_i32_5587
  let v15297 : Index := Scalar.indexCast v15296
  let c0_5588 : Index := 0#32
  ![v15297.toNat, 0]

def k0_chk899 (v15295 : BitVec 32) : Prop :=
  (∀ a, (k0_off1914 v15295) a + S1x256.size a ≤ S4096x256.size a)
theorem k0_off1914_inb : ∀ (v15295 : BitVec 32) (k0_hw899 : k0_chk899 v15295), ∀ a, (k0_off1914 v15295) a + S1x256.size a ≤ S4096x256.size a := fun v15295 k0_hw899 => k0_hw899

def k0_off1915 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5590 : BitVec 32 := 1024#32
  let v15302 : BitVec 32 := Scalar.muli v14 c1024_i32_5590
  let c891_i32 : BitVec 32 := 891#32
  let v15303 : BitVec 32 := Scalar.addi v15302 c891_i32
  let v15304 : Index := Scalar.indexCast v15303
  ![v15304.toNat]
def k0_off1916 (v15305 : BitVec 32) : Fin 2 → Nat :=
  let c4095_i32_5591 : BitVec 32 := 4095#32
  let v15306 : BitVec 32 := Scalar.andi v15305 c4095_i32_5591
  let v15307 : Index := Scalar.indexCast v15306
  let c0_5592 : Index := 0#32
  ![v15307.toNat, 0]

def k0_chk900 (v15305 : BitVec 32) : Prop :=
  (∀ a, (k0_off1916 v15305) a + S1x256.size a ≤ S4096x256.size a)
theorem k0_off1916_inb : ∀ (v15305 : BitVec 32) (k0_hw900 : k0_chk900 v15305), ∀ a, (k0_off1916 v15305) a + S1x256.size a ≤ S4096x256.size a := fun v15305 k0_hw900 => k0_hw900

def k0_off1917 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5594 : BitVec 32 := 1024#32
  let v15312 : BitVec 32 := Scalar.muli v14 c1024_i32_5594
  let c892_i32 : BitVec 32 := 892#32
  let v15313 : BitVec 32 := Scalar.addi v15312 c892_i32
  let v15314 : Index := Scalar.indexCast v15313
  ![v15314.toNat]
def k0_off1918 (v15315 : BitVec 32) : Fin 2 → Nat :=
  let c4095_i32_5595 : BitVec 32 := 4095#32
  let v15316 : BitVec 32 := Scalar.andi v15315 c4095_i32_5595
  let v15317 : Index := Scalar.indexCast v15316
  let c0_5596 : Index := 0#32
  ![v15317.toNat, 0]

def k0_chk901 (v15315 : BitVec 32) : Prop :=
  (∀ a, (k0_off1918 v15315) a + S1x256.size a ≤ S4096x256.size a)
theorem k0_off1918_inb : ∀ (v15315 : BitVec 32) (k0_hw901 : k0_chk901 v15315), ∀ a, (k0_off1918 v15315) a + S1x256.size a ≤ S4096x256.size a := fun v15315 k0_hw901 => k0_hw901

def k0_off1919 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5598 : BitVec 32 := 1024#32
  let v15322 : BitVec 32 := Scalar.muli v14 c1024_i32_5598
  let c893_i32 : BitVec 32 := 893#32
  let v15323 : BitVec 32 := Scalar.addi v15322 c893_i32
  let v15324 : Index := Scalar.indexCast v15323
  ![v15324.toNat]
def k0_off1920 (v15325 : BitVec 32) : Fin 2 → Nat :=
  let c4095_i32_5599 : BitVec 32 := 4095#32
  let v15326 : BitVec 32 := Scalar.andi v15325 c4095_i32_5599
  let v15327 : Index := Scalar.indexCast v15326
  let c0_5600 : Index := 0#32
  ![v15327.toNat, 0]

def k0_chk902 (v15325 : BitVec 32) : Prop :=
  (∀ a, (k0_off1920 v15325) a + S1x256.size a ≤ S4096x256.size a)
theorem k0_off1920_inb : ∀ (v15325 : BitVec 32) (k0_hw902 : k0_chk902 v15325), ∀ a, (k0_off1920 v15325) a + S1x256.size a ≤ S4096x256.size a := fun v15325 k0_hw902 => k0_hw902

def k0_off1921 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5602 : BitVec 32 := 1024#32
  let v15332 : BitVec 32 := Scalar.muli v14 c1024_i32_5602
  let c894_i32 : BitVec 32 := 894#32
  let v15333 : BitVec 32 := Scalar.addi v15332 c894_i32
  let v15334 : Index := Scalar.indexCast v15333
  ![v15334.toNat]
def k0_off1922 (v15335 : BitVec 32) : Fin 2 → Nat :=
  let c4095_i32_5603 : BitVec 32 := 4095#32
  let v15336 : BitVec 32 := Scalar.andi v15335 c4095_i32_5603
  let v15337 : Index := Scalar.indexCast v15336
  let c0_5604 : Index := 0#32
  ![v15337.toNat, 0]

def k0_chk903 (v15335 : BitVec 32) : Prop :=
  (∀ a, (k0_off1922 v15335) a + S1x256.size a ≤ S4096x256.size a)
theorem k0_off1922_inb : ∀ (v15335 : BitVec 32) (k0_hw903 : k0_chk903 v15335), ∀ a, (k0_off1922 v15335) a + S1x256.size a ≤ S4096x256.size a := fun v15335 k0_hw903 => k0_hw903

def k0_off1923 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5606 : BitVec 32 := 1024#32
  let v15342 : BitVec 32 := Scalar.muli v14 c1024_i32_5606
  let c895_i32 : BitVec 32 := 895#32
  let v15343 : BitVec 32 := Scalar.addi v15342 c895_i32
  let v15344 : Index := Scalar.indexCast v15343
  ![v15344.toNat]
def k0_off1924 (v15345 : BitVec 32) : Fin 2 → Nat :=
  let c4095_i32_5607 : BitVec 32 := 4095#32
  let v15346 : BitVec 32 := Scalar.andi v15345 c4095_i32_5607
  let v15347 : Index := Scalar.indexCast v15346
  let c0_5608 : Index := 0#32
  ![v15347.toNat, 0]

def k0_chk904 (v15345 : BitVec 32) : Prop :=
  (∀ a, (k0_off1924 v15345) a + S1x256.size a ≤ S4096x256.size a)
theorem k0_off1924_inb : ∀ (v15345 : BitVec 32) (k0_hw904 : k0_chk904 v15345), ∀ a, (k0_off1924 v15345) a + S1x256.size a ≤ S4096x256.size a := fun v15345 k0_hw904 => k0_hw904

def k0_off1925 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5610 : BitVec 32 := 1024#32
  let v15352 : BitVec 32 := Scalar.muli v14 c1024_i32_5610
  let c896_i32 : BitVec 32 := 896#32
  let v15353 : BitVec 32 := Scalar.addi v15352 c896_i32
  let v15354 : Index := Scalar.indexCast v15353
  ![v15354.toNat]
def k0_off1926 (v15355 : BitVec 32) : Fin 2 → Nat :=
  let c4095_i32_5611 : BitVec 32 := 4095#32
  let v15356 : BitVec 32 := Scalar.andi v15355 c4095_i32_5611
  let v15357 : Index := Scalar.indexCast v15356
  let c0_5612 : Index := 0#32
  ![v15357.toNat, 0]

def k0_chk905 (v15355 : BitVec 32) : Prop :=
  (∀ a, (k0_off1926 v15355) a + S1x256.size a ≤ S4096x256.size a)
theorem k0_off1926_inb : ∀ (v15355 : BitVec 32) (k0_hw905 : k0_chk905 v15355), ∀ a, (k0_off1926 v15355) a + S1x256.size a ≤ S4096x256.size a := fun v15355 k0_hw905 => k0_hw905

def k0_off1927 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5614 : BitVec 32 := 1024#32
  let v15362 : BitVec 32 := Scalar.muli v14 c1024_i32_5614
  let c897_i32 : BitVec 32 := 897#32
  let v15363 : BitVec 32 := Scalar.addi v15362 c897_i32
  let v15364 : Index := Scalar.indexCast v15363
  ![v15364.toNat]
def k0_off1928 (v15365 : BitVec 32) : Fin 2 → Nat :=
  let c4095_i32_5615 : BitVec 32 := 4095#32
  let v15366 : BitVec 32 := Scalar.andi v15365 c4095_i32_5615
  let v15367 : Index := Scalar.indexCast v15366
  let c0_5616 : Index := 0#32
  ![v15367.toNat, 0]

def k0_chk906 (v15365 : BitVec 32) : Prop :=
  (∀ a, (k0_off1928 v15365) a + S1x256.size a ≤ S4096x256.size a)
theorem k0_off1928_inb : ∀ (v15365 : BitVec 32) (k0_hw906 : k0_chk906 v15365), ∀ a, (k0_off1928 v15365) a + S1x256.size a ≤ S4096x256.size a := fun v15365 k0_hw906 => k0_hw906

def k0_off1929 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5618 : BitVec 32 := 1024#32
  let v15372 : BitVec 32 := Scalar.muli v14 c1024_i32_5618
  let c898_i32 : BitVec 32 := 898#32
  let v15373 : BitVec 32 := Scalar.addi v15372 c898_i32
  let v15374 : Index := Scalar.indexCast v15373
  ![v15374.toNat]
def k0_off1930 (v15375 : BitVec 32) : Fin 2 → Nat :=
  let c4095_i32_5619 : BitVec 32 := 4095#32
  let v15376 : BitVec 32 := Scalar.andi v15375 c4095_i32_5619
  let v15377 : Index := Scalar.indexCast v15376
  let c0_5620 : Index := 0#32
  ![v15377.toNat, 0]

def k0_chk907 (v15375 : BitVec 32) : Prop :=
  (∀ a, (k0_off1930 v15375) a + S1x256.size a ≤ S4096x256.size a)
theorem k0_off1930_inb : ∀ (v15375 : BitVec 32) (k0_hw907 : k0_chk907 v15375), ∀ a, (k0_off1930 v15375) a + S1x256.size a ≤ S4096x256.size a := fun v15375 k0_hw907 => k0_hw907

def k0_off1931 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5622 : BitVec 32 := 1024#32
  let v15382 : BitVec 32 := Scalar.muli v14 c1024_i32_5622
  let c899_i32 : BitVec 32 := 899#32
  let v15383 : BitVec 32 := Scalar.addi v15382 c899_i32
  let v15384 : Index := Scalar.indexCast v15383
  ![v15384.toNat]
def k0_off1932 (v15385 : BitVec 32) : Fin 2 → Nat :=
  let c4095_i32_5623 : BitVec 32 := 4095#32
  let v15386 : BitVec 32 := Scalar.andi v15385 c4095_i32_5623
  let v15387 : Index := Scalar.indexCast v15386
  let c0_5624 : Index := 0#32
  ![v15387.toNat, 0]

def k0_chk908 (v15385 : BitVec 32) : Prop :=
  (∀ a, (k0_off1932 v15385) a + S1x256.size a ≤ S4096x256.size a)
theorem k0_off1932_inb : ∀ (v15385 : BitVec 32) (k0_hw908 : k0_chk908 v15385), ∀ a, (k0_off1932 v15385) a + S1x256.size a ≤ S4096x256.size a := fun v15385 k0_hw908 => k0_hw908

def k0_off1933 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5626 : BitVec 32 := 1024#32
  let v15392 : BitVec 32 := Scalar.muli v14 c1024_i32_5626
  let c900_i32 : BitVec 32 := 900#32
  let v15393 : BitVec 32 := Scalar.addi v15392 c900_i32
  let v15394 : Index := Scalar.indexCast v15393
  ![v15394.toNat]
def k0_off1934 (v15395 : BitVec 32) : Fin 2 → Nat :=
  let c4095_i32_5627 : BitVec 32 := 4095#32
  let v15396 : BitVec 32 := Scalar.andi v15395 c4095_i32_5627
  let v15397 : Index := Scalar.indexCast v15396
  let c0_5628 : Index := 0#32
  ![v15397.toNat, 0]

def k0_chk909 (v15395 : BitVec 32) : Prop :=
  (∀ a, (k0_off1934 v15395) a + S1x256.size a ≤ S4096x256.size a)
theorem k0_off1934_inb : ∀ (v15395 : BitVec 32) (k0_hw909 : k0_chk909 v15395), ∀ a, (k0_off1934 v15395) a + S1x256.size a ≤ S4096x256.size a := fun v15395 k0_hw909 => k0_hw909

def k0_off1935 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5630 : BitVec 32 := 1024#32
  let v15402 : BitVec 32 := Scalar.muli v14 c1024_i32_5630
  let c901_i32 : BitVec 32 := 901#32
  let v15403 : BitVec 32 := Scalar.addi v15402 c901_i32
  let v15404 : Index := Scalar.indexCast v15403
  ![v15404.toNat]
def k0_off1936 (v15405 : BitVec 32) : Fin 2 → Nat :=
  let c4095_i32_5631 : BitVec 32 := 4095#32
  let v15406 : BitVec 32 := Scalar.andi v15405 c4095_i32_5631
  let v15407 : Index := Scalar.indexCast v15406
  let c0_5632 : Index := 0#32
  ![v15407.toNat, 0]

def k0_chk910 (v15405 : BitVec 32) : Prop :=
  (∀ a, (k0_off1936 v15405) a + S1x256.size a ≤ S4096x256.size a)
theorem k0_off1936_inb : ∀ (v15405 : BitVec 32) (k0_hw910 : k0_chk910 v15405), ∀ a, (k0_off1936 v15405) a + S1x256.size a ≤ S4096x256.size a := fun v15405 k0_hw910 => k0_hw910

def k0_off1937 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5634 : BitVec 32 := 1024#32
  let v15412 : BitVec 32 := Scalar.muli v14 c1024_i32_5634
  let c902_i32 : BitVec 32 := 902#32
  let v15413 : BitVec 32 := Scalar.addi v15412 c902_i32
  let v15414 : Index := Scalar.indexCast v15413
  ![v15414.toNat]
def k0_off1938 (v15415 : BitVec 32) : Fin 2 → Nat :=
  let c4095_i32_5635 : BitVec 32 := 4095#32
  let v15416 : BitVec 32 := Scalar.andi v15415 c4095_i32_5635
  let v15417 : Index := Scalar.indexCast v15416
  let c0_5636 : Index := 0#32
  ![v15417.toNat, 0]

def k0_chk911 (v15415 : BitVec 32) : Prop :=
  (∀ a, (k0_off1938 v15415) a + S1x256.size a ≤ S4096x256.size a)
theorem k0_off1938_inb : ∀ (v15415 : BitVec 32) (k0_hw911 : k0_chk911 v15415), ∀ a, (k0_off1938 v15415) a + S1x256.size a ≤ S4096x256.size a := fun v15415 k0_hw911 => k0_hw911

def k0_off1939 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5638 : BitVec 32 := 1024#32
  let v15422 : BitVec 32 := Scalar.muli v14 c1024_i32_5638
  let c903_i32 : BitVec 32 := 903#32
  let v15423 : BitVec 32 := Scalar.addi v15422 c903_i32
  let v15424 : Index := Scalar.indexCast v15423
  ![v15424.toNat]
def k0_off1940 (v15425 : BitVec 32) : Fin 2 → Nat :=
  let c4095_i32_5639 : BitVec 32 := 4095#32
  let v15426 : BitVec 32 := Scalar.andi v15425 c4095_i32_5639
  let v15427 : Index := Scalar.indexCast v15426
  let c0_5640 : Index := 0#32
  ![v15427.toNat, 0]

def k0_chk912 (v15425 : BitVec 32) : Prop :=
  (∀ a, (k0_off1940 v15425) a + S1x256.size a ≤ S4096x256.size a)
theorem k0_off1940_inb : ∀ (v15425 : BitVec 32) (k0_hw912 : k0_chk912 v15425), ∀ a, (k0_off1940 v15425) a + S1x256.size a ≤ S4096x256.size a := fun v15425 k0_hw912 => k0_hw912

def k0_off1941 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5642 : BitVec 32 := 1024#32
  let v15432 : BitVec 32 := Scalar.muli v14 c1024_i32_5642
  let c904_i32 : BitVec 32 := 904#32
  let v15433 : BitVec 32 := Scalar.addi v15432 c904_i32
  let v15434 : Index := Scalar.indexCast v15433
  ![v15434.toNat]
def k0_off1942 (v15435 : BitVec 32) : Fin 2 → Nat :=
  let c4095_i32_5643 : BitVec 32 := 4095#32
  let v15436 : BitVec 32 := Scalar.andi v15435 c4095_i32_5643
  let v15437 : Index := Scalar.indexCast v15436
  let c0_5644 : Index := 0#32
  ![v15437.toNat, 0]

def k0_chk913 (v15435 : BitVec 32) : Prop :=
  (∀ a, (k0_off1942 v15435) a + S1x256.size a ≤ S4096x256.size a)
theorem k0_off1942_inb : ∀ (v15435 : BitVec 32) (k0_hw913 : k0_chk913 v15435), ∀ a, (k0_off1942 v15435) a + S1x256.size a ≤ S4096x256.size a := fun v15435 k0_hw913 => k0_hw913

def k0_off1943 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5646 : BitVec 32 := 1024#32
  let v15442 : BitVec 32 := Scalar.muli v14 c1024_i32_5646
  let c905_i32 : BitVec 32 := 905#32
  let v15443 : BitVec 32 := Scalar.addi v15442 c905_i32
  let v15444 : Index := Scalar.indexCast v15443
  ![v15444.toNat]
def k0_off1944 (v15445 : BitVec 32) : Fin 2 → Nat :=
  let c4095_i32_5647 : BitVec 32 := 4095#32
  let v15446 : BitVec 32 := Scalar.andi v15445 c4095_i32_5647
  let v15447 : Index := Scalar.indexCast v15446
  let c0_5648 : Index := 0#32
  ![v15447.toNat, 0]

def k0_chk914 (v15445 : BitVec 32) : Prop :=
  (∀ a, (k0_off1944 v15445) a + S1x256.size a ≤ S4096x256.size a)
theorem k0_off1944_inb : ∀ (v15445 : BitVec 32) (k0_hw914 : k0_chk914 v15445), ∀ a, (k0_off1944 v15445) a + S1x256.size a ≤ S4096x256.size a := fun v15445 k0_hw914 => k0_hw914

def k0_off1945 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5650 : BitVec 32 := 1024#32
  let v15452 : BitVec 32 := Scalar.muli v14 c1024_i32_5650
  let c906_i32 : BitVec 32 := 906#32
  let v15453 : BitVec 32 := Scalar.addi v15452 c906_i32
  let v15454 : Index := Scalar.indexCast v15453
  ![v15454.toNat]
def k0_off1946 (v15455 : BitVec 32) : Fin 2 → Nat :=
  let c4095_i32_5651 : BitVec 32 := 4095#32
  let v15456 : BitVec 32 := Scalar.andi v15455 c4095_i32_5651
  let v15457 : Index := Scalar.indexCast v15456
  let c0_5652 : Index := 0#32
  ![v15457.toNat, 0]

def k0_chk915 (v15455 : BitVec 32) : Prop :=
  (∀ a, (k0_off1946 v15455) a + S1x256.size a ≤ S4096x256.size a)
theorem k0_off1946_inb : ∀ (v15455 : BitVec 32) (k0_hw915 : k0_chk915 v15455), ∀ a, (k0_off1946 v15455) a + S1x256.size a ≤ S4096x256.size a := fun v15455 k0_hw915 => k0_hw915

def k0_off1947 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5654 : BitVec 32 := 1024#32
  let v15462 : BitVec 32 := Scalar.muli v14 c1024_i32_5654
  let c907_i32 : BitVec 32 := 907#32
  let v15463 : BitVec 32 := Scalar.addi v15462 c907_i32
  let v15464 : Index := Scalar.indexCast v15463
  ![v15464.toNat]
def k0_off1948 (v15465 : BitVec 32) : Fin 2 → Nat :=
  let c4095_i32_5655 : BitVec 32 := 4095#32
  let v15466 : BitVec 32 := Scalar.andi v15465 c4095_i32_5655
  let v15467 : Index := Scalar.indexCast v15466
  let c0_5656 : Index := 0#32
  ![v15467.toNat, 0]

def k0_chk916 (v15465 : BitVec 32) : Prop :=
  (∀ a, (k0_off1948 v15465) a + S1x256.size a ≤ S4096x256.size a)
theorem k0_off1948_inb : ∀ (v15465 : BitVec 32) (k0_hw916 : k0_chk916 v15465), ∀ a, (k0_off1948 v15465) a + S1x256.size a ≤ S4096x256.size a := fun v15465 k0_hw916 => k0_hw916

def k0_off1949 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5658 : BitVec 32 := 1024#32
  let v15472 : BitVec 32 := Scalar.muli v14 c1024_i32_5658
  let c908_i32 : BitVec 32 := 908#32
  let v15473 : BitVec 32 := Scalar.addi v15472 c908_i32
  let v15474 : Index := Scalar.indexCast v15473
  ![v15474.toNat]
def k0_off1950 (v15475 : BitVec 32) : Fin 2 → Nat :=
  let c4095_i32_5659 : BitVec 32 := 4095#32
  let v15476 : BitVec 32 := Scalar.andi v15475 c4095_i32_5659
  let v15477 : Index := Scalar.indexCast v15476
  let c0_5660 : Index := 0#32
  ![v15477.toNat, 0]

def k0_chk917 (v15475 : BitVec 32) : Prop :=
  (∀ a, (k0_off1950 v15475) a + S1x256.size a ≤ S4096x256.size a)
theorem k0_off1950_inb : ∀ (v15475 : BitVec 32) (k0_hw917 : k0_chk917 v15475), ∀ a, (k0_off1950 v15475) a + S1x256.size a ≤ S4096x256.size a := fun v15475 k0_hw917 => k0_hw917

def k0_off1951 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5662 : BitVec 32 := 1024#32
  let v15482 : BitVec 32 := Scalar.muli v14 c1024_i32_5662
  let c909_i32 : BitVec 32 := 909#32
  let v15483 : BitVec 32 := Scalar.addi v15482 c909_i32
  let v15484 : Index := Scalar.indexCast v15483
  ![v15484.toNat]
def k0_off1952 (v15485 : BitVec 32) : Fin 2 → Nat :=
  let c4095_i32_5663 : BitVec 32 := 4095#32
  let v15486 : BitVec 32 := Scalar.andi v15485 c4095_i32_5663
  let v15487 : Index := Scalar.indexCast v15486
  let c0_5664 : Index := 0#32
  ![v15487.toNat, 0]

def k0_chk918 (v15485 : BitVec 32) : Prop :=
  (∀ a, (k0_off1952 v15485) a + S1x256.size a ≤ S4096x256.size a)
theorem k0_off1952_inb : ∀ (v15485 : BitVec 32) (k0_hw918 : k0_chk918 v15485), ∀ a, (k0_off1952 v15485) a + S1x256.size a ≤ S4096x256.size a := fun v15485 k0_hw918 => k0_hw918

def k0_off1953 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5666 : BitVec 32 := 1024#32
  let v15492 : BitVec 32 := Scalar.muli v14 c1024_i32_5666
  let c910_i32 : BitVec 32 := 910#32
  let v15493 : BitVec 32 := Scalar.addi v15492 c910_i32
  let v15494 : Index := Scalar.indexCast v15493
  ![v15494.toNat]
def k0_off1954 (v15495 : BitVec 32) : Fin 2 → Nat :=
  let c4095_i32_5667 : BitVec 32 := 4095#32
  let v15496 : BitVec 32 := Scalar.andi v15495 c4095_i32_5667
  let v15497 : Index := Scalar.indexCast v15496
  let c0_5668 : Index := 0#32
  ![v15497.toNat, 0]

def k0_chk919 (v15495 : BitVec 32) : Prop :=
  (∀ a, (k0_off1954 v15495) a + S1x256.size a ≤ S4096x256.size a)
theorem k0_off1954_inb : ∀ (v15495 : BitVec 32) (k0_hw919 : k0_chk919 v15495), ∀ a, (k0_off1954 v15495) a + S1x256.size a ≤ S4096x256.size a := fun v15495 k0_hw919 => k0_hw919

def k0_off1955 (i : grid0.Coords) : Fin 2 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c8_i32_5673 : BitVec 32 := 8#32
  let v15505 : BitVec 32 := Scalar.muli v14 c8_i32_5673
  let c6_i32_5674 : BitVec 32 := 6#32
  let v15506 : BitVec 32 := Scalar.addi v15505 c6_i32_5674
  let v15507 : Index := Scalar.indexCast v15506
  let c0_5675 : Index := 0#32
  ![v15507.toNat, 0]
def k0_off1956 (i : grid0.Coords) : Fin 3 → Nat :=
  let c1_i32_5670 : BitVec 32 := 1#32
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v15502 : BitVec 32 := Scalar.subi c1_i32_5670 v12
  let v15550 : Index := Scalar.indexCast v15502
  let c0_5686 : Index := 0#32
  let c768_5687 : Index := 768#32
  ![v15550.toNat, 0, 768]
def k0_off1957 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v15611 : Index := Scalar.indexCast v12
  let c0_5703 : Index := 0#32
  let c0_5704 : Index := 0#32
  ![v15611.toNat, 0, 0]
def k0_off1958 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v15672 : Index := Scalar.indexCast v12
  let c0_5722 : Index := 0#32
  let c256_5723 : Index := 256#32
  ![v15672.toNat, 0, 256]
def k0_off1959 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v15734 : Index := Scalar.indexCast v12
  let c0_5741 : Index := 0#32
  let c512_5742 : Index := 512#32
  ![v15734.toNat, 0, 512]
def k0_off1960 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v15796 : Index := Scalar.indexCast v12
  let c0_5760 : Index := 0#32
  let c768_5761 : Index := 768#32
  ![v15796.toNat, 0, 768]
def k0_off1961 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5767 : BitVec 32 := 1024#32
  let v15806 : BitVec 32 := Scalar.muli v14 c1024_i32_5767
  let c911_i32 : BitVec 32 := 911#32
  let v15807 : BitVec 32 := Scalar.addi v15806 c911_i32
  let v15808 : Index := Scalar.indexCast v15807
  ![v15808.toNat]
def k0_off1962 (v15809 : BitVec 32) : Fin 2 → Nat :=
  let c4095_i32_5768 : BitVec 32 := 4095#32
  let v15810 : BitVec 32 := Scalar.andi v15809 c4095_i32_5768
  let v15811 : Index := Scalar.indexCast v15810
  let c0_5769 : Index := 0#32
  ![v15811.toNat, 0]

def k0_chk920 (v15809 : BitVec 32) : Prop :=
  (∀ a, (k0_off1962 v15809) a + S1x256.size a ≤ S4096x256.size a)
theorem k0_off1962_inb : ∀ (v15809 : BitVec 32) (k0_hw920 : k0_chk920 v15809), ∀ a, (k0_off1962 v15809) a + S1x256.size a ≤ S4096x256.size a := fun v15809 k0_hw920 => k0_hw920

def k0_off1963 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5771 : BitVec 32 := 1024#32
  let v15816 : BitVec 32 := Scalar.muli v14 c1024_i32_5771
  let c912_i32 : BitVec 32 := 912#32
  let v15817 : BitVec 32 := Scalar.addi v15816 c912_i32
  let v15818 : Index := Scalar.indexCast v15817
  ![v15818.toNat]
def k0_off1964 (v15819 : BitVec 32) : Fin 2 → Nat :=
  let c4095_i32_5772 : BitVec 32 := 4095#32
  let v15820 : BitVec 32 := Scalar.andi v15819 c4095_i32_5772
  let v15821 : Index := Scalar.indexCast v15820
  let c0_5773 : Index := 0#32
  ![v15821.toNat, 0]

def k0_chk921 (v15819 : BitVec 32) : Prop :=
  (∀ a, (k0_off1964 v15819) a + S1x256.size a ≤ S4096x256.size a)
theorem k0_off1964_inb : ∀ (v15819 : BitVec 32) (k0_hw921 : k0_chk921 v15819), ∀ a, (k0_off1964 v15819) a + S1x256.size a ≤ S4096x256.size a := fun v15819 k0_hw921 => k0_hw921

def k0_off1965 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5775 : BitVec 32 := 1024#32
  let v15826 : BitVec 32 := Scalar.muli v14 c1024_i32_5775
  let c913_i32 : BitVec 32 := 913#32
  let v15827 : BitVec 32 := Scalar.addi v15826 c913_i32
  let v15828 : Index := Scalar.indexCast v15827
  ![v15828.toNat]
def k0_off1966 (v15829 : BitVec 32) : Fin 2 → Nat :=
  let c4095_i32_5776 : BitVec 32 := 4095#32
  let v15830 : BitVec 32 := Scalar.andi v15829 c4095_i32_5776
  let v15831 : Index := Scalar.indexCast v15830
  let c0_5777 : Index := 0#32
  ![v15831.toNat, 0]

def k0_chk922 (v15829 : BitVec 32) : Prop :=
  (∀ a, (k0_off1966 v15829) a + S1x256.size a ≤ S4096x256.size a)
theorem k0_off1966_inb : ∀ (v15829 : BitVec 32) (k0_hw922 : k0_chk922 v15829), ∀ a, (k0_off1966 v15829) a + S1x256.size a ≤ S4096x256.size a := fun v15829 k0_hw922 => k0_hw922

def k0_off1967 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5779 : BitVec 32 := 1024#32
  let v15836 : BitVec 32 := Scalar.muli v14 c1024_i32_5779
  let c914_i32 : BitVec 32 := 914#32
  let v15837 : BitVec 32 := Scalar.addi v15836 c914_i32
  let v15838 : Index := Scalar.indexCast v15837
  ![v15838.toNat]
def k0_off1968 (v15839 : BitVec 32) : Fin 2 → Nat :=
  let c4095_i32_5780 : BitVec 32 := 4095#32
  let v15840 : BitVec 32 := Scalar.andi v15839 c4095_i32_5780
  let v15841 : Index := Scalar.indexCast v15840
  let c0_5781 : Index := 0#32
  ![v15841.toNat, 0]

def k0_chk923 (v15839 : BitVec 32) : Prop :=
  (∀ a, (k0_off1968 v15839) a + S1x256.size a ≤ S4096x256.size a)
theorem k0_off1968_inb : ∀ (v15839 : BitVec 32) (k0_hw923 : k0_chk923 v15839), ∀ a, (k0_off1968 v15839) a + S1x256.size a ≤ S4096x256.size a := fun v15839 k0_hw923 => k0_hw923

def k0_off1969 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5783 : BitVec 32 := 1024#32
  let v15846 : BitVec 32 := Scalar.muli v14 c1024_i32_5783
  let c915_i32 : BitVec 32 := 915#32
  let v15847 : BitVec 32 := Scalar.addi v15846 c915_i32
  let v15848 : Index := Scalar.indexCast v15847
  ![v15848.toNat]
def k0_off1970 (v15849 : BitVec 32) : Fin 2 → Nat :=
  let c4095_i32_5784 : BitVec 32 := 4095#32
  let v15850 : BitVec 32 := Scalar.andi v15849 c4095_i32_5784
  let v15851 : Index := Scalar.indexCast v15850
  let c0_5785 : Index := 0#32
  ![v15851.toNat, 0]

def k0_chk924 (v15849 : BitVec 32) : Prop :=
  (∀ a, (k0_off1970 v15849) a + S1x256.size a ≤ S4096x256.size a)
theorem k0_off1970_inb : ∀ (v15849 : BitVec 32) (k0_hw924 : k0_chk924 v15849), ∀ a, (k0_off1970 v15849) a + S1x256.size a ≤ S4096x256.size a := fun v15849 k0_hw924 => k0_hw924

def k0_off1971 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5787 : BitVec 32 := 1024#32
  let v15856 : BitVec 32 := Scalar.muli v14 c1024_i32_5787
  let c916_i32 : BitVec 32 := 916#32
  let v15857 : BitVec 32 := Scalar.addi v15856 c916_i32
  let v15858 : Index := Scalar.indexCast v15857
  ![v15858.toNat]
def k0_off1972 (v15859 : BitVec 32) : Fin 2 → Nat :=
  let c4095_i32_5788 : BitVec 32 := 4095#32
  let v15860 : BitVec 32 := Scalar.andi v15859 c4095_i32_5788
  let v15861 : Index := Scalar.indexCast v15860
  let c0_5789 : Index := 0#32
  ![v15861.toNat, 0]

def k0_chk925 (v15859 : BitVec 32) : Prop :=
  (∀ a, (k0_off1972 v15859) a + S1x256.size a ≤ S4096x256.size a)
theorem k0_off1972_inb : ∀ (v15859 : BitVec 32) (k0_hw925 : k0_chk925 v15859), ∀ a, (k0_off1972 v15859) a + S1x256.size a ≤ S4096x256.size a := fun v15859 k0_hw925 => k0_hw925

def k0_off1973 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5791 : BitVec 32 := 1024#32
  let v15866 : BitVec 32 := Scalar.muli v14 c1024_i32_5791
  let c917_i32 : BitVec 32 := 917#32
  let v15867 : BitVec 32 := Scalar.addi v15866 c917_i32
  let v15868 : Index := Scalar.indexCast v15867
  ![v15868.toNat]
def k0_off1974 (v15869 : BitVec 32) : Fin 2 → Nat :=
  let c4095_i32_5792 : BitVec 32 := 4095#32
  let v15870 : BitVec 32 := Scalar.andi v15869 c4095_i32_5792
  let v15871 : Index := Scalar.indexCast v15870
  let c0_5793 : Index := 0#32
  ![v15871.toNat, 0]

def k0_chk926 (v15869 : BitVec 32) : Prop :=
  (∀ a, (k0_off1974 v15869) a + S1x256.size a ≤ S4096x256.size a)
theorem k0_off1974_inb : ∀ (v15869 : BitVec 32) (k0_hw926 : k0_chk926 v15869), ∀ a, (k0_off1974 v15869) a + S1x256.size a ≤ S4096x256.size a := fun v15869 k0_hw926 => k0_hw926

def k0_off1975 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5795 : BitVec 32 := 1024#32
  let v15876 : BitVec 32 := Scalar.muli v14 c1024_i32_5795
  let c918_i32 : BitVec 32 := 918#32
  let v15877 : BitVec 32 := Scalar.addi v15876 c918_i32
  let v15878 : Index := Scalar.indexCast v15877
  ![v15878.toNat]
def k0_off1976 (v15879 : BitVec 32) : Fin 2 → Nat :=
  let c4095_i32_5796 : BitVec 32 := 4095#32
  let v15880 : BitVec 32 := Scalar.andi v15879 c4095_i32_5796
  let v15881 : Index := Scalar.indexCast v15880
  let c0_5797 : Index := 0#32
  ![v15881.toNat, 0]

def k0_chk927 (v15879 : BitVec 32) : Prop :=
  (∀ a, (k0_off1976 v15879) a + S1x256.size a ≤ S4096x256.size a)
theorem k0_off1976_inb : ∀ (v15879 : BitVec 32) (k0_hw927 : k0_chk927 v15879), ∀ a, (k0_off1976 v15879) a + S1x256.size a ≤ S4096x256.size a := fun v15879 k0_hw927 => k0_hw927

def k0_off1977 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5799 : BitVec 32 := 1024#32
  let v15886 : BitVec 32 := Scalar.muli v14 c1024_i32_5799
  let c919_i32 : BitVec 32 := 919#32
  let v15887 : BitVec 32 := Scalar.addi v15886 c919_i32
  let v15888 : Index := Scalar.indexCast v15887
  ![v15888.toNat]
def k0_off1978 (v15889 : BitVec 32) : Fin 2 → Nat :=
  let c4095_i32_5800 : BitVec 32 := 4095#32
  let v15890 : BitVec 32 := Scalar.andi v15889 c4095_i32_5800
  let v15891 : Index := Scalar.indexCast v15890
  let c0_5801 : Index := 0#32
  ![v15891.toNat, 0]

def k0_chk928 (v15889 : BitVec 32) : Prop :=
  (∀ a, (k0_off1978 v15889) a + S1x256.size a ≤ S4096x256.size a)
theorem k0_off1978_inb : ∀ (v15889 : BitVec 32) (k0_hw928 : k0_chk928 v15889), ∀ a, (k0_off1978 v15889) a + S1x256.size a ≤ S4096x256.size a := fun v15889 k0_hw928 => k0_hw928

def k0_off1979 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5803 : BitVec 32 := 1024#32
  let v15896 : BitVec 32 := Scalar.muli v14 c1024_i32_5803
  let c920_i32 : BitVec 32 := 920#32
  let v15897 : BitVec 32 := Scalar.addi v15896 c920_i32
  let v15898 : Index := Scalar.indexCast v15897
  ![v15898.toNat]
def k0_off1980 (v15899 : BitVec 32) : Fin 2 → Nat :=
  let c4095_i32_5804 : BitVec 32 := 4095#32
  let v15900 : BitVec 32 := Scalar.andi v15899 c4095_i32_5804
  let v15901 : Index := Scalar.indexCast v15900
  let c0_5805 : Index := 0#32
  ![v15901.toNat, 0]

def k0_chk929 (v15899 : BitVec 32) : Prop :=
  (∀ a, (k0_off1980 v15899) a + S1x256.size a ≤ S4096x256.size a)
theorem k0_off1980_inb : ∀ (v15899 : BitVec 32) (k0_hw929 : k0_chk929 v15899), ∀ a, (k0_off1980 v15899) a + S1x256.size a ≤ S4096x256.size a := fun v15899 k0_hw929 => k0_hw929

def k0_off1981 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5807 : BitVec 32 := 1024#32
  let v15906 : BitVec 32 := Scalar.muli v14 c1024_i32_5807
  let c921_i32 : BitVec 32 := 921#32
  let v15907 : BitVec 32 := Scalar.addi v15906 c921_i32
  let v15908 : Index := Scalar.indexCast v15907
  ![v15908.toNat]
def k0_off1982 (v15909 : BitVec 32) : Fin 2 → Nat :=
  let c4095_i32_5808 : BitVec 32 := 4095#32
  let v15910 : BitVec 32 := Scalar.andi v15909 c4095_i32_5808
  let v15911 : Index := Scalar.indexCast v15910
  let c0_5809 : Index := 0#32
  ![v15911.toNat, 0]

def k0_chk930 (v15909 : BitVec 32) : Prop :=
  (∀ a, (k0_off1982 v15909) a + S1x256.size a ≤ S4096x256.size a)
theorem k0_off1982_inb : ∀ (v15909 : BitVec 32) (k0_hw930 : k0_chk930 v15909), ∀ a, (k0_off1982 v15909) a + S1x256.size a ≤ S4096x256.size a := fun v15909 k0_hw930 => k0_hw930

def k0_off1983 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5811 : BitVec 32 := 1024#32
  let v15916 : BitVec 32 := Scalar.muli v14 c1024_i32_5811
  let c922_i32 : BitVec 32 := 922#32
  let v15917 : BitVec 32 := Scalar.addi v15916 c922_i32
  let v15918 : Index := Scalar.indexCast v15917
  ![v15918.toNat]
def k0_off1984 (v15919 : BitVec 32) : Fin 2 → Nat :=
  let c4095_i32_5812 : BitVec 32 := 4095#32
  let v15920 : BitVec 32 := Scalar.andi v15919 c4095_i32_5812
  let v15921 : Index := Scalar.indexCast v15920
  let c0_5813 : Index := 0#32
  ![v15921.toNat, 0]

def k0_chk931 (v15919 : BitVec 32) : Prop :=
  (∀ a, (k0_off1984 v15919) a + S1x256.size a ≤ S4096x256.size a)
theorem k0_off1984_inb : ∀ (v15919 : BitVec 32) (k0_hw931 : k0_chk931 v15919), ∀ a, (k0_off1984 v15919) a + S1x256.size a ≤ S4096x256.size a := fun v15919 k0_hw931 => k0_hw931

def k0_off1985 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5815 : BitVec 32 := 1024#32
  let v15926 : BitVec 32 := Scalar.muli v14 c1024_i32_5815
  let c923_i32 : BitVec 32 := 923#32
  let v15927 : BitVec 32 := Scalar.addi v15926 c923_i32
  let v15928 : Index := Scalar.indexCast v15927
  ![v15928.toNat]
def k0_off1986 (v15929 : BitVec 32) : Fin 2 → Nat :=
  let c4095_i32_5816 : BitVec 32 := 4095#32
  let v15930 : BitVec 32 := Scalar.andi v15929 c4095_i32_5816
  let v15931 : Index := Scalar.indexCast v15930
  let c0_5817 : Index := 0#32
  ![v15931.toNat, 0]

def k0_chk932 (v15929 : BitVec 32) : Prop :=
  (∀ a, (k0_off1986 v15929) a + S1x256.size a ≤ S4096x256.size a)
theorem k0_off1986_inb : ∀ (v15929 : BitVec 32) (k0_hw932 : k0_chk932 v15929), ∀ a, (k0_off1986 v15929) a + S1x256.size a ≤ S4096x256.size a := fun v15929 k0_hw932 => k0_hw932

def k0_off1987 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5819 : BitVec 32 := 1024#32
  let v15936 : BitVec 32 := Scalar.muli v14 c1024_i32_5819
  let c924_i32 : BitVec 32 := 924#32
  let v15937 : BitVec 32 := Scalar.addi v15936 c924_i32
  let v15938 : Index := Scalar.indexCast v15937
  ![v15938.toNat]
def k0_off1988 (v15939 : BitVec 32) : Fin 2 → Nat :=
  let c4095_i32_5820 : BitVec 32 := 4095#32
  let v15940 : BitVec 32 := Scalar.andi v15939 c4095_i32_5820
  let v15941 : Index := Scalar.indexCast v15940
  let c0_5821 : Index := 0#32
  ![v15941.toNat, 0]

def k0_chk933 (v15939 : BitVec 32) : Prop :=
  (∀ a, (k0_off1988 v15939) a + S1x256.size a ≤ S4096x256.size a)
theorem k0_off1988_inb : ∀ (v15939 : BitVec 32) (k0_hw933 : k0_chk933 v15939), ∀ a, (k0_off1988 v15939) a + S1x256.size a ≤ S4096x256.size a := fun v15939 k0_hw933 => k0_hw933

def k0_off1989 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5823 : BitVec 32 := 1024#32
  let v15946 : BitVec 32 := Scalar.muli v14 c1024_i32_5823
  let c925_i32 : BitVec 32 := 925#32
  let v15947 : BitVec 32 := Scalar.addi v15946 c925_i32
  let v15948 : Index := Scalar.indexCast v15947
  ![v15948.toNat]
def k0_off1990 (v15949 : BitVec 32) : Fin 2 → Nat :=
  let c4095_i32_5824 : BitVec 32 := 4095#32
  let v15950 : BitVec 32 := Scalar.andi v15949 c4095_i32_5824
  let v15951 : Index := Scalar.indexCast v15950
  let c0_5825 : Index := 0#32
  ![v15951.toNat, 0]

def k0_chk934 (v15949 : BitVec 32) : Prop :=
  (∀ a, (k0_off1990 v15949) a + S1x256.size a ≤ S4096x256.size a)
theorem k0_off1990_inb : ∀ (v15949 : BitVec 32) (k0_hw934 : k0_chk934 v15949), ∀ a, (k0_off1990 v15949) a + S1x256.size a ≤ S4096x256.size a := fun v15949 k0_hw934 => k0_hw934

def k0_off1991 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5827 : BitVec 32 := 1024#32
  let v15956 : BitVec 32 := Scalar.muli v14 c1024_i32_5827
  let c926_i32 : BitVec 32 := 926#32
  let v15957 : BitVec 32 := Scalar.addi v15956 c926_i32
  let v15958 : Index := Scalar.indexCast v15957
  ![v15958.toNat]
def k0_off1992 (v15959 : BitVec 32) : Fin 2 → Nat :=
  let c4095_i32_5828 : BitVec 32 := 4095#32
  let v15960 : BitVec 32 := Scalar.andi v15959 c4095_i32_5828
  let v15961 : Index := Scalar.indexCast v15960
  let c0_5829 : Index := 0#32
  ![v15961.toNat, 0]

def k0_chk935 (v15959 : BitVec 32) : Prop :=
  (∀ a, (k0_off1992 v15959) a + S1x256.size a ≤ S4096x256.size a)
theorem k0_off1992_inb : ∀ (v15959 : BitVec 32) (k0_hw935 : k0_chk935 v15959), ∀ a, (k0_off1992 v15959) a + S1x256.size a ≤ S4096x256.size a := fun v15959 k0_hw935 => k0_hw935

def k0_off1993 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5831 : BitVec 32 := 1024#32
  let v15966 : BitVec 32 := Scalar.muli v14 c1024_i32_5831
  let c927_i32 : BitVec 32 := 927#32
  let v15967 : BitVec 32 := Scalar.addi v15966 c927_i32
  let v15968 : Index := Scalar.indexCast v15967
  ![v15968.toNat]
def k0_off1994 (v15969 : BitVec 32) : Fin 2 → Nat :=
  let c4095_i32_5832 : BitVec 32 := 4095#32
  let v15970 : BitVec 32 := Scalar.andi v15969 c4095_i32_5832
  let v15971 : Index := Scalar.indexCast v15970
  let c0_5833 : Index := 0#32
  ![v15971.toNat, 0]

def k0_chk936 (v15969 : BitVec 32) : Prop :=
  (∀ a, (k0_off1994 v15969) a + S1x256.size a ≤ S4096x256.size a)
theorem k0_off1994_inb : ∀ (v15969 : BitVec 32) (k0_hw936 : k0_chk936 v15969), ∀ a, (k0_off1994 v15969) a + S1x256.size a ≤ S4096x256.size a := fun v15969 k0_hw936 => k0_hw936

def k0_off1995 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5835 : BitVec 32 := 1024#32
  let v15976 : BitVec 32 := Scalar.muli v14 c1024_i32_5835
  let c928_i32 : BitVec 32 := 928#32
  let v15977 : BitVec 32 := Scalar.addi v15976 c928_i32
  let v15978 : Index := Scalar.indexCast v15977
  ![v15978.toNat]
def k0_off1996 (v15979 : BitVec 32) : Fin 2 → Nat :=
  let c4095_i32_5836 : BitVec 32 := 4095#32
  let v15980 : BitVec 32 := Scalar.andi v15979 c4095_i32_5836
  let v15981 : Index := Scalar.indexCast v15980
  let c0_5837 : Index := 0#32
  ![v15981.toNat, 0]

def k0_chk937 (v15979 : BitVec 32) : Prop :=
  (∀ a, (k0_off1996 v15979) a + S1x256.size a ≤ S4096x256.size a)
theorem k0_off1996_inb : ∀ (v15979 : BitVec 32) (k0_hw937 : k0_chk937 v15979), ∀ a, (k0_off1996 v15979) a + S1x256.size a ≤ S4096x256.size a := fun v15979 k0_hw937 => k0_hw937

def k0_off1997 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5839 : BitVec 32 := 1024#32
  let v15986 : BitVec 32 := Scalar.muli v14 c1024_i32_5839
  let c929_i32 : BitVec 32 := 929#32
  let v15987 : BitVec 32 := Scalar.addi v15986 c929_i32
  let v15988 : Index := Scalar.indexCast v15987
  ![v15988.toNat]
def k0_off1998 (v15989 : BitVec 32) : Fin 2 → Nat :=
  let c4095_i32_5840 : BitVec 32 := 4095#32
  let v15990 : BitVec 32 := Scalar.andi v15989 c4095_i32_5840
  let v15991 : Index := Scalar.indexCast v15990
  let c0_5841 : Index := 0#32
  ![v15991.toNat, 0]

def k0_chk938 (v15989 : BitVec 32) : Prop :=
  (∀ a, (k0_off1998 v15989) a + S1x256.size a ≤ S4096x256.size a)
theorem k0_off1998_inb : ∀ (v15989 : BitVec 32) (k0_hw938 : k0_chk938 v15989), ∀ a, (k0_off1998 v15989) a + S1x256.size a ≤ S4096x256.size a := fun v15989 k0_hw938 => k0_hw938

def k0_off1999 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5843 : BitVec 32 := 1024#32
  let v15996 : BitVec 32 := Scalar.muli v14 c1024_i32_5843
  let c930_i32 : BitVec 32 := 930#32
  let v15997 : BitVec 32 := Scalar.addi v15996 c930_i32
  let v15998 : Index := Scalar.indexCast v15997
  ![v15998.toNat]
def k0_off2000 (v15999 : BitVec 32) : Fin 2 → Nat :=
  let c4095_i32_5844 : BitVec 32 := 4095#32
  let v16000 : BitVec 32 := Scalar.andi v15999 c4095_i32_5844
  let v16001 : Index := Scalar.indexCast v16000
  let c0_5845 : Index := 0#32
  ![v16001.toNat, 0]

def k0_chk939 (v15999 : BitVec 32) : Prop :=
  (∀ a, (k0_off2000 v15999) a + S1x256.size a ≤ S4096x256.size a)
theorem k0_off2000_inb : ∀ (v15999 : BitVec 32) (k0_hw939 : k0_chk939 v15999), ∀ a, (k0_off2000 v15999) a + S1x256.size a ≤ S4096x256.size a := fun v15999 k0_hw939 => k0_hw939

def k0_off2001 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5847 : BitVec 32 := 1024#32
  let v16006 : BitVec 32 := Scalar.muli v14 c1024_i32_5847
  let c931_i32 : BitVec 32 := 931#32
  let v16007 : BitVec 32 := Scalar.addi v16006 c931_i32
  let v16008 : Index := Scalar.indexCast v16007
  ![v16008.toNat]
def k0_off2002 (v16009 : BitVec 32) : Fin 2 → Nat :=
  let c4095_i32_5848 : BitVec 32 := 4095#32
  let v16010 : BitVec 32 := Scalar.andi v16009 c4095_i32_5848
  let v16011 : Index := Scalar.indexCast v16010
  let c0_5849 : Index := 0#32
  ![v16011.toNat, 0]

def k0_chk940 (v16009 : BitVec 32) : Prop :=
  (∀ a, (k0_off2002 v16009) a + S1x256.size a ≤ S4096x256.size a)
theorem k0_off2002_inb : ∀ (v16009 : BitVec 32) (k0_hw940 : k0_chk940 v16009), ∀ a, (k0_off2002 v16009) a + S1x256.size a ≤ S4096x256.size a := fun v16009 k0_hw940 => k0_hw940

def k0_off2003 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5851 : BitVec 32 := 1024#32
  let v16016 : BitVec 32 := Scalar.muli v14 c1024_i32_5851
  let c932_i32 : BitVec 32 := 932#32
  let v16017 : BitVec 32 := Scalar.addi v16016 c932_i32
  let v16018 : Index := Scalar.indexCast v16017
  ![v16018.toNat]
def k0_off2004 (v16019 : BitVec 32) : Fin 2 → Nat :=
  let c4095_i32_5852 : BitVec 32 := 4095#32
  let v16020 : BitVec 32 := Scalar.andi v16019 c4095_i32_5852
  let v16021 : Index := Scalar.indexCast v16020
  let c0_5853 : Index := 0#32
  ![v16021.toNat, 0]

def k0_chk941 (v16019 : BitVec 32) : Prop :=
  (∀ a, (k0_off2004 v16019) a + S1x256.size a ≤ S4096x256.size a)
theorem k0_off2004_inb : ∀ (v16019 : BitVec 32) (k0_hw941 : k0_chk941 v16019), ∀ a, (k0_off2004 v16019) a + S1x256.size a ≤ S4096x256.size a := fun v16019 k0_hw941 => k0_hw941

def k0_off2005 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5855 : BitVec 32 := 1024#32
  let v16026 : BitVec 32 := Scalar.muli v14 c1024_i32_5855
  let c933_i32 : BitVec 32 := 933#32
  let v16027 : BitVec 32 := Scalar.addi v16026 c933_i32
  let v16028 : Index := Scalar.indexCast v16027
  ![v16028.toNat]
def k0_off2006 (v16029 : BitVec 32) : Fin 2 → Nat :=
  let c4095_i32_5856 : BitVec 32 := 4095#32
  let v16030 : BitVec 32 := Scalar.andi v16029 c4095_i32_5856
  let v16031 : Index := Scalar.indexCast v16030
  let c0_5857 : Index := 0#32
  ![v16031.toNat, 0]

def k0_chk942 (v16029 : BitVec 32) : Prop :=
  (∀ a, (k0_off2006 v16029) a + S1x256.size a ≤ S4096x256.size a)
theorem k0_off2006_inb : ∀ (v16029 : BitVec 32) (k0_hw942 : k0_chk942 v16029), ∀ a, (k0_off2006 v16029) a + S1x256.size a ≤ S4096x256.size a := fun v16029 k0_hw942 => k0_hw942

def k0_off2007 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5859 : BitVec 32 := 1024#32
  let v16036 : BitVec 32 := Scalar.muli v14 c1024_i32_5859
  let c934_i32 : BitVec 32 := 934#32
  let v16037 : BitVec 32 := Scalar.addi v16036 c934_i32
  let v16038 : Index := Scalar.indexCast v16037
  ![v16038.toNat]
def k0_off2008 (v16039 : BitVec 32) : Fin 2 → Nat :=
  let c4095_i32_5860 : BitVec 32 := 4095#32
  let v16040 : BitVec 32 := Scalar.andi v16039 c4095_i32_5860
  let v16041 : Index := Scalar.indexCast v16040
  let c0_5861 : Index := 0#32
  ![v16041.toNat, 0]

def k0_chk943 (v16039 : BitVec 32) : Prop :=
  (∀ a, (k0_off2008 v16039) a + S1x256.size a ≤ S4096x256.size a)
theorem k0_off2008_inb : ∀ (v16039 : BitVec 32) (k0_hw943 : k0_chk943 v16039), ∀ a, (k0_off2008 v16039) a + S1x256.size a ≤ S4096x256.size a := fun v16039 k0_hw943 => k0_hw943

def k0_off2009 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5863 : BitVec 32 := 1024#32
  let v16046 : BitVec 32 := Scalar.muli v14 c1024_i32_5863
  let c935_i32 : BitVec 32 := 935#32
  let v16047 : BitVec 32 := Scalar.addi v16046 c935_i32
  let v16048 : Index := Scalar.indexCast v16047
  ![v16048.toNat]
def k0_off2010 (v16049 : BitVec 32) : Fin 2 → Nat :=
  let c4095_i32_5864 : BitVec 32 := 4095#32
  let v16050 : BitVec 32 := Scalar.andi v16049 c4095_i32_5864
  let v16051 : Index := Scalar.indexCast v16050
  let c0_5865 : Index := 0#32
  ![v16051.toNat, 0]

def k0_chk944 (v16049 : BitVec 32) : Prop :=
  (∀ a, (k0_off2010 v16049) a + S1x256.size a ≤ S4096x256.size a)
theorem k0_off2010_inb : ∀ (v16049 : BitVec 32) (k0_hw944 : k0_chk944 v16049), ∀ a, (k0_off2010 v16049) a + S1x256.size a ≤ S4096x256.size a := fun v16049 k0_hw944 => k0_hw944

def k0_off2011 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5867 : BitVec 32 := 1024#32
  let v16056 : BitVec 32 := Scalar.muli v14 c1024_i32_5867
  let c936_i32 : BitVec 32 := 936#32
  let v16057 : BitVec 32 := Scalar.addi v16056 c936_i32
  let v16058 : Index := Scalar.indexCast v16057
  ![v16058.toNat]
def k0_off2012 (v16059 : BitVec 32) : Fin 2 → Nat :=
  let c4095_i32_5868 : BitVec 32 := 4095#32
  let v16060 : BitVec 32 := Scalar.andi v16059 c4095_i32_5868
  let v16061 : Index := Scalar.indexCast v16060
  let c0_5869 : Index := 0#32
  ![v16061.toNat, 0]

def k0_chk945 (v16059 : BitVec 32) : Prop :=
  (∀ a, (k0_off2012 v16059) a + S1x256.size a ≤ S4096x256.size a)
theorem k0_off2012_inb : ∀ (v16059 : BitVec 32) (k0_hw945 : k0_chk945 v16059), ∀ a, (k0_off2012 v16059) a + S1x256.size a ≤ S4096x256.size a := fun v16059 k0_hw945 => k0_hw945

def k0_off2013 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5871 : BitVec 32 := 1024#32
  let v16066 : BitVec 32 := Scalar.muli v14 c1024_i32_5871
  let c937_i32 : BitVec 32 := 937#32
  let v16067 : BitVec 32 := Scalar.addi v16066 c937_i32
  let v16068 : Index := Scalar.indexCast v16067
  ![v16068.toNat]
def k0_off2014 (v16069 : BitVec 32) : Fin 2 → Nat :=
  let c4095_i32_5872 : BitVec 32 := 4095#32
  let v16070 : BitVec 32 := Scalar.andi v16069 c4095_i32_5872
  let v16071 : Index := Scalar.indexCast v16070
  let c0_5873 : Index := 0#32
  ![v16071.toNat, 0]

def k0_chk946 (v16069 : BitVec 32) : Prop :=
  (∀ a, (k0_off2014 v16069) a + S1x256.size a ≤ S4096x256.size a)
theorem k0_off2014_inb : ∀ (v16069 : BitVec 32) (k0_hw946 : k0_chk946 v16069), ∀ a, (k0_off2014 v16069) a + S1x256.size a ≤ S4096x256.size a := fun v16069 k0_hw946 => k0_hw946

def k0_off2015 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5875 : BitVec 32 := 1024#32
  let v16076 : BitVec 32 := Scalar.muli v14 c1024_i32_5875
  let c938_i32 : BitVec 32 := 938#32
  let v16077 : BitVec 32 := Scalar.addi v16076 c938_i32
  let v16078 : Index := Scalar.indexCast v16077
  ![v16078.toNat]
def k0_off2016 (v16079 : BitVec 32) : Fin 2 → Nat :=
  let c4095_i32_5876 : BitVec 32 := 4095#32
  let v16080 : BitVec 32 := Scalar.andi v16079 c4095_i32_5876
  let v16081 : Index := Scalar.indexCast v16080
  let c0_5877 : Index := 0#32
  ![v16081.toNat, 0]

def k0_chk947 (v16079 : BitVec 32) : Prop :=
  (∀ a, (k0_off2016 v16079) a + S1x256.size a ≤ S4096x256.size a)
theorem k0_off2016_inb : ∀ (v16079 : BitVec 32) (k0_hw947 : k0_chk947 v16079), ∀ a, (k0_off2016 v16079) a + S1x256.size a ≤ S4096x256.size a := fun v16079 k0_hw947 => k0_hw947

def k0_off2017 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5879 : BitVec 32 := 1024#32
  let v16086 : BitVec 32 := Scalar.muli v14 c1024_i32_5879
  let c939_i32 : BitVec 32 := 939#32
  let v16087 : BitVec 32 := Scalar.addi v16086 c939_i32
  let v16088 : Index := Scalar.indexCast v16087
  ![v16088.toNat]
def k0_off2018 (v16089 : BitVec 32) : Fin 2 → Nat :=
  let c4095_i32_5880 : BitVec 32 := 4095#32
  let v16090 : BitVec 32 := Scalar.andi v16089 c4095_i32_5880
  let v16091 : Index := Scalar.indexCast v16090
  let c0_5881 : Index := 0#32
  ![v16091.toNat, 0]

def k0_chk948 (v16089 : BitVec 32) : Prop :=
  (∀ a, (k0_off2018 v16089) a + S1x256.size a ≤ S4096x256.size a)
theorem k0_off2018_inb : ∀ (v16089 : BitVec 32) (k0_hw948 : k0_chk948 v16089), ∀ a, (k0_off2018 v16089) a + S1x256.size a ≤ S4096x256.size a := fun v16089 k0_hw948 => k0_hw948

def k0_off2019 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5883 : BitVec 32 := 1024#32
  let v16096 : BitVec 32 := Scalar.muli v14 c1024_i32_5883
  let c940_i32 : BitVec 32 := 940#32
  let v16097 : BitVec 32 := Scalar.addi v16096 c940_i32
  let v16098 : Index := Scalar.indexCast v16097
  ![v16098.toNat]
def k0_off2020 (v16099 : BitVec 32) : Fin 2 → Nat :=
  let c4095_i32_5884 : BitVec 32 := 4095#32
  let v16100 : BitVec 32 := Scalar.andi v16099 c4095_i32_5884
  let v16101 : Index := Scalar.indexCast v16100
  let c0_5885 : Index := 0#32
  ![v16101.toNat, 0]

def k0_chk949 (v16099 : BitVec 32) : Prop :=
  (∀ a, (k0_off2020 v16099) a + S1x256.size a ≤ S4096x256.size a)
theorem k0_off2020_inb : ∀ (v16099 : BitVec 32) (k0_hw949 : k0_chk949 v16099), ∀ a, (k0_off2020 v16099) a + S1x256.size a ≤ S4096x256.size a := fun v16099 k0_hw949 => k0_hw949

def k0_off2021 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5887 : BitVec 32 := 1024#32
  let v16106 : BitVec 32 := Scalar.muli v14 c1024_i32_5887
  let c941_i32 : BitVec 32 := 941#32
  let v16107 : BitVec 32 := Scalar.addi v16106 c941_i32
  let v16108 : Index := Scalar.indexCast v16107
  ![v16108.toNat]
def k0_off2022 (v16109 : BitVec 32) : Fin 2 → Nat :=
  let c4095_i32_5888 : BitVec 32 := 4095#32
  let v16110 : BitVec 32 := Scalar.andi v16109 c4095_i32_5888
  let v16111 : Index := Scalar.indexCast v16110
  let c0_5889 : Index := 0#32
  ![v16111.toNat, 0]

def k0_chk950 (v16109 : BitVec 32) : Prop :=
  (∀ a, (k0_off2022 v16109) a + S1x256.size a ≤ S4096x256.size a)
theorem k0_off2022_inb : ∀ (v16109 : BitVec 32) (k0_hw950 : k0_chk950 v16109), ∀ a, (k0_off2022 v16109) a + S1x256.size a ≤ S4096x256.size a := fun v16109 k0_hw950 => k0_hw950

def k0_off2023 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5891 : BitVec 32 := 1024#32
  let v16116 : BitVec 32 := Scalar.muli v14 c1024_i32_5891
  let c942_i32 : BitVec 32 := 942#32
  let v16117 : BitVec 32 := Scalar.addi v16116 c942_i32
  let v16118 : Index := Scalar.indexCast v16117
  ![v16118.toNat]
def k0_off2024 (v16119 : BitVec 32) : Fin 2 → Nat :=
  let c4095_i32_5892 : BitVec 32 := 4095#32
  let v16120 : BitVec 32 := Scalar.andi v16119 c4095_i32_5892
  let v16121 : Index := Scalar.indexCast v16120
  let c0_5893 : Index := 0#32
  ![v16121.toNat, 0]

def k0_chk951 (v16119 : BitVec 32) : Prop :=
  (∀ a, (k0_off2024 v16119) a + S1x256.size a ≤ S4096x256.size a)
theorem k0_off2024_inb : ∀ (v16119 : BitVec 32) (k0_hw951 : k0_chk951 v16119), ∀ a, (k0_off2024 v16119) a + S1x256.size a ≤ S4096x256.size a := fun v16119 k0_hw951 => k0_hw951

def k0_off2025 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5895 : BitVec 32 := 1024#32
  let v16126 : BitVec 32 := Scalar.muli v14 c1024_i32_5895
  let c943_i32 : BitVec 32 := 943#32
  let v16127 : BitVec 32 := Scalar.addi v16126 c943_i32
  let v16128 : Index := Scalar.indexCast v16127
  ![v16128.toNat]
def k0_off2026 (v16129 : BitVec 32) : Fin 2 → Nat :=
  let c4095_i32_5896 : BitVec 32 := 4095#32
  let v16130 : BitVec 32 := Scalar.andi v16129 c4095_i32_5896
  let v16131 : Index := Scalar.indexCast v16130
  let c0_5897 : Index := 0#32
  ![v16131.toNat, 0]

def k0_chk952 (v16129 : BitVec 32) : Prop :=
  (∀ a, (k0_off2026 v16129) a + S1x256.size a ≤ S4096x256.size a)
theorem k0_off2026_inb : ∀ (v16129 : BitVec 32) (k0_hw952 : k0_chk952 v16129), ∀ a, (k0_off2026 v16129) a + S1x256.size a ≤ S4096x256.size a := fun v16129 k0_hw952 => k0_hw952

def k0_off2027 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5899 : BitVec 32 := 1024#32
  let v16136 : BitVec 32 := Scalar.muli v14 c1024_i32_5899
  let c944_i32 : BitVec 32 := 944#32
  let v16137 : BitVec 32 := Scalar.addi v16136 c944_i32
  let v16138 : Index := Scalar.indexCast v16137
  ![v16138.toNat]
def k0_off2028 (v16139 : BitVec 32) : Fin 2 → Nat :=
  let c4095_i32_5900 : BitVec 32 := 4095#32
  let v16140 : BitVec 32 := Scalar.andi v16139 c4095_i32_5900
  let v16141 : Index := Scalar.indexCast v16140
  let c0_5901 : Index := 0#32
  ![v16141.toNat, 0]

def k0_chk953 (v16139 : BitVec 32) : Prop :=
  (∀ a, (k0_off2028 v16139) a + S1x256.size a ≤ S4096x256.size a)
theorem k0_off2028_inb : ∀ (v16139 : BitVec 32) (k0_hw953 : k0_chk953 v16139), ∀ a, (k0_off2028 v16139) a + S1x256.size a ≤ S4096x256.size a := fun v16139 k0_hw953 => k0_hw953

def k0_off2029 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5903 : BitVec 32 := 1024#32
  let v16146 : BitVec 32 := Scalar.muli v14 c1024_i32_5903
  let c945_i32 : BitVec 32 := 945#32
  let v16147 : BitVec 32 := Scalar.addi v16146 c945_i32
  let v16148 : Index := Scalar.indexCast v16147
  ![v16148.toNat]
def k0_off2030 (v16149 : BitVec 32) : Fin 2 → Nat :=
  let c4095_i32_5904 : BitVec 32 := 4095#32
  let v16150 : BitVec 32 := Scalar.andi v16149 c4095_i32_5904
  let v16151 : Index := Scalar.indexCast v16150
  let c0_5905 : Index := 0#32
  ![v16151.toNat, 0]

def k0_chk954 (v16149 : BitVec 32) : Prop :=
  (∀ a, (k0_off2030 v16149) a + S1x256.size a ≤ S4096x256.size a)
theorem k0_off2030_inb : ∀ (v16149 : BitVec 32) (k0_hw954 : k0_chk954 v16149), ∀ a, (k0_off2030 v16149) a + S1x256.size a ≤ S4096x256.size a := fun v16149 k0_hw954 => k0_hw954

def k0_off2031 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5907 : BitVec 32 := 1024#32
  let v16156 : BitVec 32 := Scalar.muli v14 c1024_i32_5907
  let c946_i32 : BitVec 32 := 946#32
  let v16157 : BitVec 32 := Scalar.addi v16156 c946_i32
  let v16158 : Index := Scalar.indexCast v16157
  ![v16158.toNat]
def k0_off2032 (v16159 : BitVec 32) : Fin 2 → Nat :=
  let c4095_i32_5908 : BitVec 32 := 4095#32
  let v16160 : BitVec 32 := Scalar.andi v16159 c4095_i32_5908
  let v16161 : Index := Scalar.indexCast v16160
  let c0_5909 : Index := 0#32
  ![v16161.toNat, 0]

def k0_chk955 (v16159 : BitVec 32) : Prop :=
  (∀ a, (k0_off2032 v16159) a + S1x256.size a ≤ S4096x256.size a)
theorem k0_off2032_inb : ∀ (v16159 : BitVec 32) (k0_hw955 : k0_chk955 v16159), ∀ a, (k0_off2032 v16159) a + S1x256.size a ≤ S4096x256.size a := fun v16159 k0_hw955 => k0_hw955

def k0_off2033 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5911 : BitVec 32 := 1024#32
  let v16166 : BitVec 32 := Scalar.muli v14 c1024_i32_5911
  let c947_i32 : BitVec 32 := 947#32
  let v16167 : BitVec 32 := Scalar.addi v16166 c947_i32
  let v16168 : Index := Scalar.indexCast v16167
  ![v16168.toNat]
def k0_off2034 (v16169 : BitVec 32) : Fin 2 → Nat :=
  let c4095_i32_5912 : BitVec 32 := 4095#32
  let v16170 : BitVec 32 := Scalar.andi v16169 c4095_i32_5912
  let v16171 : Index := Scalar.indexCast v16170
  let c0_5913 : Index := 0#32
  ![v16171.toNat, 0]

def k0_chk956 (v16169 : BitVec 32) : Prop :=
  (∀ a, (k0_off2034 v16169) a + S1x256.size a ≤ S4096x256.size a)
theorem k0_off2034_inb : ∀ (v16169 : BitVec 32) (k0_hw956 : k0_chk956 v16169), ∀ a, (k0_off2034 v16169) a + S1x256.size a ≤ S4096x256.size a := fun v16169 k0_hw956 => k0_hw956

def k0_off2035 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5915 : BitVec 32 := 1024#32
  let v16176 : BitVec 32 := Scalar.muli v14 c1024_i32_5915
  let c948_i32 : BitVec 32 := 948#32
  let v16177 : BitVec 32 := Scalar.addi v16176 c948_i32
  let v16178 : Index := Scalar.indexCast v16177
  ![v16178.toNat]
def k0_off2036 (v16179 : BitVec 32) : Fin 2 → Nat :=
  let c4095_i32_5916 : BitVec 32 := 4095#32
  let v16180 : BitVec 32 := Scalar.andi v16179 c4095_i32_5916
  let v16181 : Index := Scalar.indexCast v16180
  let c0_5917 : Index := 0#32
  ![v16181.toNat, 0]

def k0_chk957 (v16179 : BitVec 32) : Prop :=
  (∀ a, (k0_off2036 v16179) a + S1x256.size a ≤ S4096x256.size a)
theorem k0_off2036_inb : ∀ (v16179 : BitVec 32) (k0_hw957 : k0_chk957 v16179), ∀ a, (k0_off2036 v16179) a + S1x256.size a ≤ S4096x256.size a := fun v16179 k0_hw957 => k0_hw957

def k0_off2037 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v16243 : Index := Scalar.indexCast v12
  let c0_5934 : Index := 0#32
  let c0_5935 : Index := 0#32
  ![v16243.toNat, 0, 0]
def k0_off2038 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v16304 : Index := Scalar.indexCast v12
  let c0_5953 : Index := 0#32
  let c256_5954 : Index := 256#32
  ![v16304.toNat, 0, 256]
def k0_off2039 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v16366 : Index := Scalar.indexCast v12
  let c0_5972 : Index := 0#32
  let c512_5973 : Index := 512#32
  ![v16366.toNat, 0, 512]
def k0_off2040 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v16428 : Index := Scalar.indexCast v12
  let c0_5991 : Index := 0#32
  let c768_5992 : Index := 768#32
  ![v16428.toNat, 0, 768]
def k0_off2041 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_5998 : BitVec 32 := 1024#32
  let v16438 : BitVec 32 := Scalar.muli v14 c1024_i32_5998
  let c949_i32 : BitVec 32 := 949#32
  let v16439 : BitVec 32 := Scalar.addi v16438 c949_i32
  let v16440 : Index := Scalar.indexCast v16439
  ![v16440.toNat]
def k0_off2042 (v16441 : BitVec 32) : Fin 2 → Nat :=
  let c4095_i32_5999 : BitVec 32 := 4095#32
  let v16442 : BitVec 32 := Scalar.andi v16441 c4095_i32_5999
  let v16443 : Index := Scalar.indexCast v16442
  let c0_6000 : Index := 0#32
  ![v16443.toNat, 0]

def k0_chk958 (v16441 : BitVec 32) : Prop :=
  (∀ a, (k0_off2042 v16441) a + S1x256.size a ≤ S4096x256.size a)
theorem k0_off2042_inb : ∀ (v16441 : BitVec 32) (k0_hw958 : k0_chk958 v16441), ∀ a, (k0_off2042 v16441) a + S1x256.size a ≤ S4096x256.size a := fun v16441 k0_hw958 => k0_hw958

def k0_off2043 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6002 : BitVec 32 := 1024#32
  let v16448 : BitVec 32 := Scalar.muli v14 c1024_i32_6002
  let c950_i32 : BitVec 32 := 950#32
  let v16449 : BitVec 32 := Scalar.addi v16448 c950_i32
  let v16450 : Index := Scalar.indexCast v16449
  ![v16450.toNat]
def k0_off2044 (v16451 : BitVec 32) : Fin 2 → Nat :=
  let c4095_i32_6003 : BitVec 32 := 4095#32
  let v16452 : BitVec 32 := Scalar.andi v16451 c4095_i32_6003
  let v16453 : Index := Scalar.indexCast v16452
  let c0_6004 : Index := 0#32
  ![v16453.toNat, 0]

def k0_chk959 (v16451 : BitVec 32) : Prop :=
  (∀ a, (k0_off2044 v16451) a + S1x256.size a ≤ S4096x256.size a)
theorem k0_off2044_inb : ∀ (v16451 : BitVec 32) (k0_hw959 : k0_chk959 v16451), ∀ a, (k0_off2044 v16451) a + S1x256.size a ≤ S4096x256.size a := fun v16451 k0_hw959 => k0_hw959

def k0_off2045 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6006 : BitVec 32 := 1024#32
  let v16458 : BitVec 32 := Scalar.muli v14 c1024_i32_6006
  let c951_i32 : BitVec 32 := 951#32
  let v16459 : BitVec 32 := Scalar.addi v16458 c951_i32
  let v16460 : Index := Scalar.indexCast v16459
  ![v16460.toNat]
def k0_off2046 (v16461 : BitVec 32) : Fin 2 → Nat :=
  let c4095_i32_6007 : BitVec 32 := 4095#32
  let v16462 : BitVec 32 := Scalar.andi v16461 c4095_i32_6007
  let v16463 : Index := Scalar.indexCast v16462
  let c0_6008 : Index := 0#32
  ![v16463.toNat, 0]

def k0_chk960 (v16461 : BitVec 32) : Prop :=
  (∀ a, (k0_off2046 v16461) a + S1x256.size a ≤ S4096x256.size a)
theorem k0_off2046_inb : ∀ (v16461 : BitVec 32) (k0_hw960 : k0_chk960 v16461), ∀ a, (k0_off2046 v16461) a + S1x256.size a ≤ S4096x256.size a := fun v16461 k0_hw960 => k0_hw960

def k0_off2047 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6010 : BitVec 32 := 1024#32
  let v16468 : BitVec 32 := Scalar.muli v14 c1024_i32_6010
  let c952_i32 : BitVec 32 := 952#32
  let v16469 : BitVec 32 := Scalar.addi v16468 c952_i32
  let v16470 : Index := Scalar.indexCast v16469
  ![v16470.toNat]
def k0_off2048 (v16471 : BitVec 32) : Fin 2 → Nat :=
  let c4095_i32_6011 : BitVec 32 := 4095#32
  let v16472 : BitVec 32 := Scalar.andi v16471 c4095_i32_6011
  let v16473 : Index := Scalar.indexCast v16472
  let c0_6012 : Index := 0#32
  ![v16473.toNat, 0]

def k0_chk961 (v16471 : BitVec 32) : Prop :=
  (∀ a, (k0_off2048 v16471) a + S1x256.size a ≤ S4096x256.size a)
theorem k0_off2048_inb : ∀ (v16471 : BitVec 32) (k0_hw961 : k0_chk961 v16471), ∀ a, (k0_off2048 v16471) a + S1x256.size a ≤ S4096x256.size a := fun v16471 k0_hw961 => k0_hw961

def k0_off2049 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6014 : BitVec 32 := 1024#32
  let v16478 : BitVec 32 := Scalar.muli v14 c1024_i32_6014
  let c953_i32 : BitVec 32 := 953#32
  let v16479 : BitVec 32 := Scalar.addi v16478 c953_i32
  let v16480 : Index := Scalar.indexCast v16479
  ![v16480.toNat]
def k0_off2050 (v16481 : BitVec 32) : Fin 2 → Nat :=
  let c4095_i32_6015 : BitVec 32 := 4095#32
  let v16482 : BitVec 32 := Scalar.andi v16481 c4095_i32_6015
  let v16483 : Index := Scalar.indexCast v16482
  let c0_6016 : Index := 0#32
  ![v16483.toNat, 0]

def k0_chk962 (v16481 : BitVec 32) : Prop :=
  (∀ a, (k0_off2050 v16481) a + S1x256.size a ≤ S4096x256.size a)
theorem k0_off2050_inb : ∀ (v16481 : BitVec 32) (k0_hw962 : k0_chk962 v16481), ∀ a, (k0_off2050 v16481) a + S1x256.size a ≤ S4096x256.size a := fun v16481 k0_hw962 => k0_hw962

def k0_off2051 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6018 : BitVec 32 := 1024#32
  let v16488 : BitVec 32 := Scalar.muli v14 c1024_i32_6018
  let c954_i32 : BitVec 32 := 954#32
  let v16489 : BitVec 32 := Scalar.addi v16488 c954_i32
  let v16490 : Index := Scalar.indexCast v16489
  ![v16490.toNat]
def k0_off2052 (v16491 : BitVec 32) : Fin 2 → Nat :=
  let c4095_i32_6019 : BitVec 32 := 4095#32
  let v16492 : BitVec 32 := Scalar.andi v16491 c4095_i32_6019
  let v16493 : Index := Scalar.indexCast v16492
  let c0_6020 : Index := 0#32
  ![v16493.toNat, 0]

def k0_chk963 (v16491 : BitVec 32) : Prop :=
  (∀ a, (k0_off2052 v16491) a + S1x256.size a ≤ S4096x256.size a)
theorem k0_off2052_inb : ∀ (v16491 : BitVec 32) (k0_hw963 : k0_chk963 v16491), ∀ a, (k0_off2052 v16491) a + S1x256.size a ≤ S4096x256.size a := fun v16491 k0_hw963 => k0_hw963

def k0_off2053 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6022 : BitVec 32 := 1024#32
  let v16498 : BitVec 32 := Scalar.muli v14 c1024_i32_6022
  let c955_i32 : BitVec 32 := 955#32
  let v16499 : BitVec 32 := Scalar.addi v16498 c955_i32
  let v16500 : Index := Scalar.indexCast v16499
  ![v16500.toNat]
def k0_off2054 (v16501 : BitVec 32) : Fin 2 → Nat :=
  let c4095_i32_6023 : BitVec 32 := 4095#32
  let v16502 : BitVec 32 := Scalar.andi v16501 c4095_i32_6023
  let v16503 : Index := Scalar.indexCast v16502
  let c0_6024 : Index := 0#32
  ![v16503.toNat, 0]

def k0_chk964 (v16501 : BitVec 32) : Prop :=
  (∀ a, (k0_off2054 v16501) a + S1x256.size a ≤ S4096x256.size a)
theorem k0_off2054_inb : ∀ (v16501 : BitVec 32) (k0_hw964 : k0_chk964 v16501), ∀ a, (k0_off2054 v16501) a + S1x256.size a ≤ S4096x256.size a := fun v16501 k0_hw964 => k0_hw964

def k0_off2055 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6026 : BitVec 32 := 1024#32
  let v16508 : BitVec 32 := Scalar.muli v14 c1024_i32_6026
  let c956_i32 : BitVec 32 := 956#32
  let v16509 : BitVec 32 := Scalar.addi v16508 c956_i32
  let v16510 : Index := Scalar.indexCast v16509
  ![v16510.toNat]
def k0_off2056 (v16511 : BitVec 32) : Fin 2 → Nat :=
  let c4095_i32_6027 : BitVec 32 := 4095#32
  let v16512 : BitVec 32 := Scalar.andi v16511 c4095_i32_6027
  let v16513 : Index := Scalar.indexCast v16512
  let c0_6028 : Index := 0#32
  ![v16513.toNat, 0]

def k0_chk965 (v16511 : BitVec 32) : Prop :=
  (∀ a, (k0_off2056 v16511) a + S1x256.size a ≤ S4096x256.size a)
theorem k0_off2056_inb : ∀ (v16511 : BitVec 32) (k0_hw965 : k0_chk965 v16511), ∀ a, (k0_off2056 v16511) a + S1x256.size a ≤ S4096x256.size a := fun v16511 k0_hw965 => k0_hw965

def k0_off2057 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6030 : BitVec 32 := 1024#32
  let v16518 : BitVec 32 := Scalar.muli v14 c1024_i32_6030
  let c957_i32 : BitVec 32 := 957#32
  let v16519 : BitVec 32 := Scalar.addi v16518 c957_i32
  let v16520 : Index := Scalar.indexCast v16519
  ![v16520.toNat]
def k0_off2058 (v16521 : BitVec 32) : Fin 2 → Nat :=
  let c4095_i32_6031 : BitVec 32 := 4095#32
  let v16522 : BitVec 32 := Scalar.andi v16521 c4095_i32_6031
  let v16523 : Index := Scalar.indexCast v16522
  let c0_6032 : Index := 0#32
  ![v16523.toNat, 0]

def k0_chk966 (v16521 : BitVec 32) : Prop :=
  (∀ a, (k0_off2058 v16521) a + S1x256.size a ≤ S4096x256.size a)
theorem k0_off2058_inb : ∀ (v16521 : BitVec 32) (k0_hw966 : k0_chk966 v16521), ∀ a, (k0_off2058 v16521) a + S1x256.size a ≤ S4096x256.size a := fun v16521 k0_hw966 => k0_hw966

def k0_off2059 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6034 : BitVec 32 := 1024#32
  let v16528 : BitVec 32 := Scalar.muli v14 c1024_i32_6034
  let c958_i32 : BitVec 32 := 958#32
  let v16529 : BitVec 32 := Scalar.addi v16528 c958_i32
  let v16530 : Index := Scalar.indexCast v16529
  ![v16530.toNat]
def k0_off2060 (v16531 : BitVec 32) : Fin 2 → Nat :=
  let c4095_i32_6035 : BitVec 32 := 4095#32
  let v16532 : BitVec 32 := Scalar.andi v16531 c4095_i32_6035
  let v16533 : Index := Scalar.indexCast v16532
  let c0_6036 : Index := 0#32
  ![v16533.toNat, 0]

def k0_chk967 (v16531 : BitVec 32) : Prop :=
  (∀ a, (k0_off2060 v16531) a + S1x256.size a ≤ S4096x256.size a)
theorem k0_off2060_inb : ∀ (v16531 : BitVec 32) (k0_hw967 : k0_chk967 v16531), ∀ a, (k0_off2060 v16531) a + S1x256.size a ≤ S4096x256.size a := fun v16531 k0_hw967 => k0_hw967

def k0_off2061 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6038 : BitVec 32 := 1024#32
  let v16538 : BitVec 32 := Scalar.muli v14 c1024_i32_6038
  let c959_i32 : BitVec 32 := 959#32
  let v16539 : BitVec 32 := Scalar.addi v16538 c959_i32
  let v16540 : Index := Scalar.indexCast v16539
  ![v16540.toNat]
def k0_off2062 (v16541 : BitVec 32) : Fin 2 → Nat :=
  let c4095_i32_6039 : BitVec 32 := 4095#32
  let v16542 : BitVec 32 := Scalar.andi v16541 c4095_i32_6039
  let v16543 : Index := Scalar.indexCast v16542
  let c0_6040 : Index := 0#32
  ![v16543.toNat, 0]

def k0_chk968 (v16541 : BitVec 32) : Prop :=
  (∀ a, (k0_off2062 v16541) a + S1x256.size a ≤ S4096x256.size a)
theorem k0_off2062_inb : ∀ (v16541 : BitVec 32) (k0_hw968 : k0_chk968 v16541), ∀ a, (k0_off2062 v16541) a + S1x256.size a ≤ S4096x256.size a := fun v16541 k0_hw968 => k0_hw968

def k0_off2063 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6042 : BitVec 32 := 1024#32
  let v16548 : BitVec 32 := Scalar.muli v14 c1024_i32_6042
  let c960_i32 : BitVec 32 := 960#32
  let v16549 : BitVec 32 := Scalar.addi v16548 c960_i32
  let v16550 : Index := Scalar.indexCast v16549
  ![v16550.toNat]
def k0_off2064 (v16551 : BitVec 32) : Fin 2 → Nat :=
  let c4095_i32_6043 : BitVec 32 := 4095#32
  let v16552 : BitVec 32 := Scalar.andi v16551 c4095_i32_6043
  let v16553 : Index := Scalar.indexCast v16552
  let c0_6044 : Index := 0#32
  ![v16553.toNat, 0]

def k0_chk969 (v16551 : BitVec 32) : Prop :=
  (∀ a, (k0_off2064 v16551) a + S1x256.size a ≤ S4096x256.size a)
theorem k0_off2064_inb : ∀ (v16551 : BitVec 32) (k0_hw969 : k0_chk969 v16551), ∀ a, (k0_off2064 v16551) a + S1x256.size a ≤ S4096x256.size a := fun v16551 k0_hw969 => k0_hw969

variable {F : FTy → Type} [FloatOps F]

def k0_off2065 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6046 : BitVec 32 := 1024#32
  let v16558 : BitVec 32 := Scalar.muli v14 c1024_i32_6046
  let c961_i32 : BitVec 32 := 961#32
  let v16559 : BitVec 32 := Scalar.addi v16558 c961_i32
  let v16560 : Index := Scalar.indexCast v16559
  ![v16560.toNat]
def k0_off2066 (v16561 : BitVec 32) : Fin 2 → Nat :=
  let c4095_i32_6047 : BitVec 32 := 4095#32
  let v16562 : BitVec 32 := Scalar.andi v16561 c4095_i32_6047
  let v16563 : Index := Scalar.indexCast v16562
  let c0_6048 : Index := 0#32
  ![v16563.toNat, 0]

def k0_chk970 (v16561 : BitVec 32) : Prop :=
  (∀ a, (k0_off2066 v16561) a + S1x256.size a ≤ S4096x256.size a)
theorem k0_off2066_inb : ∀ (v16561 : BitVec 32) (k0_hw970 : k0_chk970 v16561), ∀ a, (k0_off2066 v16561) a + S1x256.size a ≤ S4096x256.size a := fun v16561 k0_hw970 => k0_hw970

def k0_off2067 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6050 : BitVec 32 := 1024#32
  let v16568 : BitVec 32 := Scalar.muli v14 c1024_i32_6050
  let c962_i32 : BitVec 32 := 962#32
  let v16569 : BitVec 32 := Scalar.addi v16568 c962_i32
  let v16570 : Index := Scalar.indexCast v16569
  ![v16570.toNat]
def k0_off2068 (v16571 : BitVec 32) : Fin 2 → Nat :=
  let c4095_i32_6051 : BitVec 32 := 4095#32
  let v16572 : BitVec 32 := Scalar.andi v16571 c4095_i32_6051
  let v16573 : Index := Scalar.indexCast v16572
  let c0_6052 : Index := 0#32
  ![v16573.toNat, 0]

def k0_chk971 (v16571 : BitVec 32) : Prop :=
  (∀ a, (k0_off2068 v16571) a + S1x256.size a ≤ S4096x256.size a)
theorem k0_off2068_inb : ∀ (v16571 : BitVec 32) (k0_hw971 : k0_chk971 v16571), ∀ a, (k0_off2068 v16571) a + S1x256.size a ≤ S4096x256.size a := fun v16571 k0_hw971 => k0_hw971

def k0_off2069 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6054 : BitVec 32 := 1024#32
  let v16578 : BitVec 32 := Scalar.muli v14 c1024_i32_6054
  let c963_i32 : BitVec 32 := 963#32
  let v16579 : BitVec 32 := Scalar.addi v16578 c963_i32
  let v16580 : Index := Scalar.indexCast v16579
  ![v16580.toNat]
def k0_off2070 (v16581 : BitVec 32) : Fin 2 → Nat :=
  let c4095_i32_6055 : BitVec 32 := 4095#32
  let v16582 : BitVec 32 := Scalar.andi v16581 c4095_i32_6055
  let v16583 : Index := Scalar.indexCast v16582
  let c0_6056 : Index := 0#32
  ![v16583.toNat, 0]

def k0_chk972 (v16581 : BitVec 32) : Prop :=
  (∀ a, (k0_off2070 v16581) a + S1x256.size a ≤ S4096x256.size a)
theorem k0_off2070_inb : ∀ (v16581 : BitVec 32) (k0_hw972 : k0_chk972 v16581), ∀ a, (k0_off2070 v16581) a + S1x256.size a ≤ S4096x256.size a := fun v16581 k0_hw972 => k0_hw972

def k0_off2071 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6058 : BitVec 32 := 1024#32
  let v16588 : BitVec 32 := Scalar.muli v14 c1024_i32_6058
  let c964_i32 : BitVec 32 := 964#32
  let v16589 : BitVec 32 := Scalar.addi v16588 c964_i32
  let v16590 : Index := Scalar.indexCast v16589
  ![v16590.toNat]
def k0_off2072 (v16591 : BitVec 32) : Fin 2 → Nat :=
  let c4095_i32_6059 : BitVec 32 := 4095#32
  let v16592 : BitVec 32 := Scalar.andi v16591 c4095_i32_6059
  let v16593 : Index := Scalar.indexCast v16592
  let c0_6060 : Index := 0#32
  ![v16593.toNat, 0]

def k0_chk973 (v16591 : BitVec 32) : Prop :=
  (∀ a, (k0_off2072 v16591) a + S1x256.size a ≤ S4096x256.size a)
theorem k0_off2072_inb : ∀ (v16591 : BitVec 32) (k0_hw973 : k0_chk973 v16591), ∀ a, (k0_off2072 v16591) a + S1x256.size a ≤ S4096x256.size a := fun v16591 k0_hw973 => k0_hw973

def k0_off2073 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6062 : BitVec 32 := 1024#32
  let v16598 : BitVec 32 := Scalar.muli v14 c1024_i32_6062
  let c965_i32 : BitVec 32 := 965#32
  let v16599 : BitVec 32 := Scalar.addi v16598 c965_i32
  let v16600 : Index := Scalar.indexCast v16599
  ![v16600.toNat]
def k0_off2074 (v16601 : BitVec 32) : Fin 2 → Nat :=
  let c4095_i32_6063 : BitVec 32 := 4095#32
  let v16602 : BitVec 32 := Scalar.andi v16601 c4095_i32_6063
  let v16603 : Index := Scalar.indexCast v16602
  let c0_6064 : Index := 0#32
  ![v16603.toNat, 0]

def k0_chk974 (v16601 : BitVec 32) : Prop :=
  (∀ a, (k0_off2074 v16601) a + S1x256.size a ≤ S4096x256.size a)
theorem k0_off2074_inb : ∀ (v16601 : BitVec 32) (k0_hw974 : k0_chk974 v16601), ∀ a, (k0_off2074 v16601) a + S1x256.size a ≤ S4096x256.size a := fun v16601 k0_hw974 => k0_hw974

def k0_off2075 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6066 : BitVec 32 := 1024#32
  let v16608 : BitVec 32 := Scalar.muli v14 c1024_i32_6066
  let c966_i32 : BitVec 32 := 966#32
  let v16609 : BitVec 32 := Scalar.addi v16608 c966_i32
  let v16610 : Index := Scalar.indexCast v16609
  ![v16610.toNat]
def k0_off2076 (v16611 : BitVec 32) : Fin 2 → Nat :=
  let c4095_i32_6067 : BitVec 32 := 4095#32
  let v16612 : BitVec 32 := Scalar.andi v16611 c4095_i32_6067
  let v16613 : Index := Scalar.indexCast v16612
  let c0_6068 : Index := 0#32
  ![v16613.toNat, 0]

def k0_chk975 (v16611 : BitVec 32) : Prop :=
  (∀ a, (k0_off2076 v16611) a + S1x256.size a ≤ S4096x256.size a)
theorem k0_off2076_inb : ∀ (v16611 : BitVec 32) (k0_hw975 : k0_chk975 v16611), ∀ a, (k0_off2076 v16611) a + S1x256.size a ≤ S4096x256.size a := fun v16611 k0_hw975 => k0_hw975

def k0_off2077 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6070 : BitVec 32 := 1024#32
  let v16618 : BitVec 32 := Scalar.muli v14 c1024_i32_6070
  let c967_i32 : BitVec 32 := 967#32
  let v16619 : BitVec 32 := Scalar.addi v16618 c967_i32
  let v16620 : Index := Scalar.indexCast v16619
  ![v16620.toNat]
def k0_off2078 (v16621 : BitVec 32) : Fin 2 → Nat :=
  let c4095_i32_6071 : BitVec 32 := 4095#32
  let v16622 : BitVec 32 := Scalar.andi v16621 c4095_i32_6071
  let v16623 : Index := Scalar.indexCast v16622
  let c0_6072 : Index := 0#32
  ![v16623.toNat, 0]

def k0_chk976 (v16621 : BitVec 32) : Prop :=
  (∀ a, (k0_off2078 v16621) a + S1x256.size a ≤ S4096x256.size a)
theorem k0_off2078_inb : ∀ (v16621 : BitVec 32) (k0_hw976 : k0_chk976 v16621), ∀ a, (k0_off2078 v16621) a + S1x256.size a ≤ S4096x256.size a := fun v16621 k0_hw976 => k0_hw976

def k0_off2079 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6074 : BitVec 32 := 1024#32
  let v16628 : BitVec 32 := Scalar.muli v14 c1024_i32_6074
  let c968_i32 : BitVec 32 := 968#32
  let v16629 : BitVec 32 := Scalar.addi v16628 c968_i32
  let v16630 : Index := Scalar.indexCast v16629
  ![v16630.toNat]
def k0_off2080 (v16631 : BitVec 32) : Fin 2 → Nat :=
  let c4095_i32_6075 : BitVec 32 := 4095#32
  let v16632 : BitVec 32 := Scalar.andi v16631 c4095_i32_6075
  let v16633 : Index := Scalar.indexCast v16632
  let c0_6076 : Index := 0#32
  ![v16633.toNat, 0]

def k0_chk977 (v16631 : BitVec 32) : Prop :=
  (∀ a, (k0_off2080 v16631) a + S1x256.size a ≤ S4096x256.size a)
theorem k0_off2080_inb : ∀ (v16631 : BitVec 32) (k0_hw977 : k0_chk977 v16631), ∀ a, (k0_off2080 v16631) a + S1x256.size a ≤ S4096x256.size a := fun v16631 k0_hw977 => k0_hw977

def k0_off2081 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6078 : BitVec 32 := 1024#32
  let v16638 : BitVec 32 := Scalar.muli v14 c1024_i32_6078
  let c969_i32 : BitVec 32 := 969#32
  let v16639 : BitVec 32 := Scalar.addi v16638 c969_i32
  let v16640 : Index := Scalar.indexCast v16639
  ![v16640.toNat]
def k0_off2082 (v16641 : BitVec 32) : Fin 2 → Nat :=
  let c4095_i32_6079 : BitVec 32 := 4095#32
  let v16642 : BitVec 32 := Scalar.andi v16641 c4095_i32_6079
  let v16643 : Index := Scalar.indexCast v16642
  let c0_6080 : Index := 0#32
  ![v16643.toNat, 0]

def k0_chk978 (v16641 : BitVec 32) : Prop :=
  (∀ a, (k0_off2082 v16641) a + S1x256.size a ≤ S4096x256.size a)
theorem k0_off2082_inb : ∀ (v16641 : BitVec 32) (k0_hw978 : k0_chk978 v16641), ∀ a, (k0_off2082 v16641) a + S1x256.size a ≤ S4096x256.size a := fun v16641 k0_hw978 => k0_hw978

def k0_off2083 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6082 : BitVec 32 := 1024#32
  let v16648 : BitVec 32 := Scalar.muli v14 c1024_i32_6082
  let c970_i32 : BitVec 32 := 970#32
  let v16649 : BitVec 32 := Scalar.addi v16648 c970_i32
  let v16650 : Index := Scalar.indexCast v16649
  ![v16650.toNat]
def k0_off2084 (v16651 : BitVec 32) : Fin 2 → Nat :=
  let c4095_i32_6083 : BitVec 32 := 4095#32
  let v16652 : BitVec 32 := Scalar.andi v16651 c4095_i32_6083
  let v16653 : Index := Scalar.indexCast v16652
  let c0_6084 : Index := 0#32
  ![v16653.toNat, 0]

def k0_chk979 (v16651 : BitVec 32) : Prop :=
  (∀ a, (k0_off2084 v16651) a + S1x256.size a ≤ S4096x256.size a)
theorem k0_off2084_inb : ∀ (v16651 : BitVec 32) (k0_hw979 : k0_chk979 v16651), ∀ a, (k0_off2084 v16651) a + S1x256.size a ≤ S4096x256.size a := fun v16651 k0_hw979 => k0_hw979

def k0_off2085 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6086 : BitVec 32 := 1024#32
  let v16658 : BitVec 32 := Scalar.muli v14 c1024_i32_6086
  let c971_i32 : BitVec 32 := 971#32
  let v16659 : BitVec 32 := Scalar.addi v16658 c971_i32
  let v16660 : Index := Scalar.indexCast v16659
  ![v16660.toNat]
def k0_off2086 (v16661 : BitVec 32) : Fin 2 → Nat :=
  let c4095_i32_6087 : BitVec 32 := 4095#32
  let v16662 : BitVec 32 := Scalar.andi v16661 c4095_i32_6087
  let v16663 : Index := Scalar.indexCast v16662
  let c0_6088 : Index := 0#32
  ![v16663.toNat, 0]

def k0_chk980 (v16661 : BitVec 32) : Prop :=
  (∀ a, (k0_off2086 v16661) a + S1x256.size a ≤ S4096x256.size a)
theorem k0_off2086_inb : ∀ (v16661 : BitVec 32) (k0_hw980 : k0_chk980 v16661), ∀ a, (k0_off2086 v16661) a + S1x256.size a ≤ S4096x256.size a := fun v16661 k0_hw980 => k0_hw980

def k0_off2087 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6090 : BitVec 32 := 1024#32
  let v16668 : BitVec 32 := Scalar.muli v14 c1024_i32_6090
  let c972_i32 : BitVec 32 := 972#32
  let v16669 : BitVec 32 := Scalar.addi v16668 c972_i32
  let v16670 : Index := Scalar.indexCast v16669
  ![v16670.toNat]
def k0_off2088 (v16671 : BitVec 32) : Fin 2 → Nat :=
  let c4095_i32_6091 : BitVec 32 := 4095#32
  let v16672 : BitVec 32 := Scalar.andi v16671 c4095_i32_6091
  let v16673 : Index := Scalar.indexCast v16672
  let c0_6092 : Index := 0#32
  ![v16673.toNat, 0]

def k0_chk981 (v16671 : BitVec 32) : Prop :=
  (∀ a, (k0_off2088 v16671) a + S1x256.size a ≤ S4096x256.size a)
theorem k0_off2088_inb : ∀ (v16671 : BitVec 32) (k0_hw981 : k0_chk981 v16671), ∀ a, (k0_off2088 v16671) a + S1x256.size a ≤ S4096x256.size a := fun v16671 k0_hw981 => k0_hw981

def k0_off2089 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6094 : BitVec 32 := 1024#32
  let v16678 : BitVec 32 := Scalar.muli v14 c1024_i32_6094
  let c973_i32 : BitVec 32 := 973#32
  let v16679 : BitVec 32 := Scalar.addi v16678 c973_i32
  let v16680 : Index := Scalar.indexCast v16679
  ![v16680.toNat]
def k0_off2090 (v16681 : BitVec 32) : Fin 2 → Nat :=
  let c4095_i32_6095 : BitVec 32 := 4095#32
  let v16682 : BitVec 32 := Scalar.andi v16681 c4095_i32_6095
  let v16683 : Index := Scalar.indexCast v16682
  let c0_6096 : Index := 0#32
  ![v16683.toNat, 0]

def k0_chk982 (v16681 : BitVec 32) : Prop :=
  (∀ a, (k0_off2090 v16681) a + S1x256.size a ≤ S4096x256.size a)
theorem k0_off2090_inb : ∀ (v16681 : BitVec 32) (k0_hw982 : k0_chk982 v16681), ∀ a, (k0_off2090 v16681) a + S1x256.size a ≤ S4096x256.size a := fun v16681 k0_hw982 => k0_hw982

def k0_off2091 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6098 : BitVec 32 := 1024#32
  let v16688 : BitVec 32 := Scalar.muli v14 c1024_i32_6098
  let c974_i32 : BitVec 32 := 974#32
  let v16689 : BitVec 32 := Scalar.addi v16688 c974_i32
  let v16690 : Index := Scalar.indexCast v16689
  ![v16690.toNat]
def k0_off2092 (v16691 : BitVec 32) : Fin 2 → Nat :=
  let c4095_i32_6099 : BitVec 32 := 4095#32
  let v16692 : BitVec 32 := Scalar.andi v16691 c4095_i32_6099
  let v16693 : Index := Scalar.indexCast v16692
  let c0_6100 : Index := 0#32
  ![v16693.toNat, 0]

def k0_chk983 (v16691 : BitVec 32) : Prop :=
  (∀ a, (k0_off2092 v16691) a + S1x256.size a ≤ S4096x256.size a)
theorem k0_off2092_inb : ∀ (v16691 : BitVec 32) (k0_hw983 : k0_chk983 v16691), ∀ a, (k0_off2092 v16691) a + S1x256.size a ≤ S4096x256.size a := fun v16691 k0_hw983 => k0_hw983

def k0_off2093 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6102 : BitVec 32 := 1024#32
  let v16698 : BitVec 32 := Scalar.muli v14 c1024_i32_6102
  let c975_i32 : BitVec 32 := 975#32
  let v16699 : BitVec 32 := Scalar.addi v16698 c975_i32
  let v16700 : Index := Scalar.indexCast v16699
  ![v16700.toNat]
def k0_off2094 (v16701 : BitVec 32) : Fin 2 → Nat :=
  let c4095_i32_6103 : BitVec 32 := 4095#32
  let v16702 : BitVec 32 := Scalar.andi v16701 c4095_i32_6103
  let v16703 : Index := Scalar.indexCast v16702
  let c0_6104 : Index := 0#32
  ![v16703.toNat, 0]

def k0_chk984 (v16701 : BitVec 32) : Prop :=
  (∀ a, (k0_off2094 v16701) a + S1x256.size a ≤ S4096x256.size a)
theorem k0_off2094_inb : ∀ (v16701 : BitVec 32) (k0_hw984 : k0_chk984 v16701), ∀ a, (k0_off2094 v16701) a + S1x256.size a ≤ S4096x256.size a := fun v16701 k0_hw984 => k0_hw984

def k0_off2095 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6106 : BitVec 32 := 1024#32
  let v16708 : BitVec 32 := Scalar.muli v14 c1024_i32_6106
  let c976_i32 : BitVec 32 := 976#32
  let v16709 : BitVec 32 := Scalar.addi v16708 c976_i32
  let v16710 : Index := Scalar.indexCast v16709
  ![v16710.toNat]
def k0_off2096 (v16711 : BitVec 32) : Fin 2 → Nat :=
  let c4095_i32_6107 : BitVec 32 := 4095#32
  let v16712 : BitVec 32 := Scalar.andi v16711 c4095_i32_6107
  let v16713 : Index := Scalar.indexCast v16712
  let c0_6108 : Index := 0#32
  ![v16713.toNat, 0]

def k0_chk985 (v16711 : BitVec 32) : Prop :=
  (∀ a, (k0_off2096 v16711) a + S1x256.size a ≤ S4096x256.size a)
theorem k0_off2096_inb : ∀ (v16711 : BitVec 32) (k0_hw985 : k0_chk985 v16711), ∀ a, (k0_off2096 v16711) a + S1x256.size a ≤ S4096x256.size a := fun v16711 k0_hw985 => k0_hw985

def k0_off2097 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6110 : BitVec 32 := 1024#32
  let v16718 : BitVec 32 := Scalar.muli v14 c1024_i32_6110
  let c977_i32 : BitVec 32 := 977#32
  let v16719 : BitVec 32 := Scalar.addi v16718 c977_i32
  let v16720 : Index := Scalar.indexCast v16719
  ![v16720.toNat]
def k0_off2098 (v16721 : BitVec 32) : Fin 2 → Nat :=
  let c4095_i32_6111 : BitVec 32 := 4095#32
  let v16722 : BitVec 32 := Scalar.andi v16721 c4095_i32_6111
  let v16723 : Index := Scalar.indexCast v16722
  let c0_6112 : Index := 0#32
  ![v16723.toNat, 0]

def k0_chk986 (v16721 : BitVec 32) : Prop :=
  (∀ a, (k0_off2098 v16721) a + S1x256.size a ≤ S4096x256.size a)
theorem k0_off2098_inb : ∀ (v16721 : BitVec 32) (k0_hw986 : k0_chk986 v16721), ∀ a, (k0_off2098 v16721) a + S1x256.size a ≤ S4096x256.size a := fun v16721 k0_hw986 => k0_hw986

def k0_off2099 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6114 : BitVec 32 := 1024#32
  let v16728 : BitVec 32 := Scalar.muli v14 c1024_i32_6114
  let c978_i32 : BitVec 32 := 978#32
  let v16729 : BitVec 32 := Scalar.addi v16728 c978_i32
  let v16730 : Index := Scalar.indexCast v16729
  ![v16730.toNat]
def k0_off2100 (v16731 : BitVec 32) : Fin 2 → Nat :=
  let c4095_i32_6115 : BitVec 32 := 4095#32
  let v16732 : BitVec 32 := Scalar.andi v16731 c4095_i32_6115
  let v16733 : Index := Scalar.indexCast v16732
  let c0_6116 : Index := 0#32
  ![v16733.toNat, 0]

def k0_chk987 (v16731 : BitVec 32) : Prop :=
  (∀ a, (k0_off2100 v16731) a + S1x256.size a ≤ S4096x256.size a)
theorem k0_off2100_inb : ∀ (v16731 : BitVec 32) (k0_hw987 : k0_chk987 v16731), ∀ a, (k0_off2100 v16731) a + S1x256.size a ≤ S4096x256.size a := fun v16731 k0_hw987 => k0_hw987

def k0_off2101 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6118 : BitVec 32 := 1024#32
  let v16738 : BitVec 32 := Scalar.muli v14 c1024_i32_6118
  let c979_i32 : BitVec 32 := 979#32
  let v16739 : BitVec 32 := Scalar.addi v16738 c979_i32
  let v16740 : Index := Scalar.indexCast v16739
  ![v16740.toNat]
def k0_off2102 (v16741 : BitVec 32) : Fin 2 → Nat :=
  let c4095_i32_6119 : BitVec 32 := 4095#32
  let v16742 : BitVec 32 := Scalar.andi v16741 c4095_i32_6119
  let v16743 : Index := Scalar.indexCast v16742
  let c0_6120 : Index := 0#32
  ![v16743.toNat, 0]

def k0_chk988 (v16741 : BitVec 32) : Prop :=
  (∀ a, (k0_off2102 v16741) a + S1x256.size a ≤ S4096x256.size a)
theorem k0_off2102_inb : ∀ (v16741 : BitVec 32) (k0_hw988 : k0_chk988 v16741), ∀ a, (k0_off2102 v16741) a + S1x256.size a ≤ S4096x256.size a := fun v16741 k0_hw988 => k0_hw988

def k0_off2103 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6122 : BitVec 32 := 1024#32
  let v16748 : BitVec 32 := Scalar.muli v14 c1024_i32_6122
  let c980_i32 : BitVec 32 := 980#32
  let v16749 : BitVec 32 := Scalar.addi v16748 c980_i32
  let v16750 : Index := Scalar.indexCast v16749
  ![v16750.toNat]
def k0_off2104 (v16751 : BitVec 32) : Fin 2 → Nat :=
  let c4095_i32_6123 : BitVec 32 := 4095#32
  let v16752 : BitVec 32 := Scalar.andi v16751 c4095_i32_6123
  let v16753 : Index := Scalar.indexCast v16752
  let c0_6124 : Index := 0#32
  ![v16753.toNat, 0]

def k0_chk989 (v16751 : BitVec 32) : Prop :=
  (∀ a, (k0_off2104 v16751) a + S1x256.size a ≤ S4096x256.size a)
theorem k0_off2104_inb : ∀ (v16751 : BitVec 32) (k0_hw989 : k0_chk989 v16751), ∀ a, (k0_off2104 v16751) a + S1x256.size a ≤ S4096x256.size a := fun v16751 k0_hw989 => k0_hw989

def k0_off2105 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6126 : BitVec 32 := 1024#32
  let v16758 : BitVec 32 := Scalar.muli v14 c1024_i32_6126
  let c981_i32 : BitVec 32 := 981#32
  let v16759 : BitVec 32 := Scalar.addi v16758 c981_i32
  let v16760 : Index := Scalar.indexCast v16759
  ![v16760.toNat]
def k0_off2106 (v16761 : BitVec 32) : Fin 2 → Nat :=
  let c4095_i32_6127 : BitVec 32 := 4095#32
  let v16762 : BitVec 32 := Scalar.andi v16761 c4095_i32_6127
  let v16763 : Index := Scalar.indexCast v16762
  let c0_6128 : Index := 0#32
  ![v16763.toNat, 0]

def k0_chk990 (v16761 : BitVec 32) : Prop :=
  (∀ a, (k0_off2106 v16761) a + S1x256.size a ≤ S4096x256.size a)
theorem k0_off2106_inb : ∀ (v16761 : BitVec 32) (k0_hw990 : k0_chk990 v16761), ∀ a, (k0_off2106 v16761) a + S1x256.size a ≤ S4096x256.size a := fun v16761 k0_hw990 => k0_hw990

def k0_off2107 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6130 : BitVec 32 := 1024#32
  let v16768 : BitVec 32 := Scalar.muli v14 c1024_i32_6130
  let c982_i32 : BitVec 32 := 982#32
  let v16769 : BitVec 32 := Scalar.addi v16768 c982_i32
  let v16770 : Index := Scalar.indexCast v16769
  ![v16770.toNat]
def k0_off2108 (v16771 : BitVec 32) : Fin 2 → Nat :=
  let c4095_i32_6131 : BitVec 32 := 4095#32
  let v16772 : BitVec 32 := Scalar.andi v16771 c4095_i32_6131
  let v16773 : Index := Scalar.indexCast v16772
  let c0_6132 : Index := 0#32
  ![v16773.toNat, 0]

def k0_chk991 (v16771 : BitVec 32) : Prop :=
  (∀ a, (k0_off2108 v16771) a + S1x256.size a ≤ S4096x256.size a)
theorem k0_off2108_inb : ∀ (v16771 : BitVec 32) (k0_hw991 : k0_chk991 v16771), ∀ a, (k0_off2108 v16771) a + S1x256.size a ≤ S4096x256.size a := fun v16771 k0_hw991 => k0_hw991

def k0_off2109 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6134 : BitVec 32 := 1024#32
  let v16778 : BitVec 32 := Scalar.muli v14 c1024_i32_6134
  let c983_i32 : BitVec 32 := 983#32
  let v16779 : BitVec 32 := Scalar.addi v16778 c983_i32
  let v16780 : Index := Scalar.indexCast v16779
  ![v16780.toNat]
def k0_off2110 (v16781 : BitVec 32) : Fin 2 → Nat :=
  let c4095_i32_6135 : BitVec 32 := 4095#32
  let v16782 : BitVec 32 := Scalar.andi v16781 c4095_i32_6135
  let v16783 : Index := Scalar.indexCast v16782
  let c0_6136 : Index := 0#32
  ![v16783.toNat, 0]

def k0_chk992 (v16781 : BitVec 32) : Prop :=
  (∀ a, (k0_off2110 v16781) a + S1x256.size a ≤ S4096x256.size a)
theorem k0_off2110_inb : ∀ (v16781 : BitVec 32) (k0_hw992 : k0_chk992 v16781), ∀ a, (k0_off2110 v16781) a + S1x256.size a ≤ S4096x256.size a := fun v16781 k0_hw992 => k0_hw992

def k0_off2111 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6138 : BitVec 32 := 1024#32
  let v16788 : BitVec 32 := Scalar.muli v14 c1024_i32_6138
  let c984_i32 : BitVec 32 := 984#32
  let v16789 : BitVec 32 := Scalar.addi v16788 c984_i32
  let v16790 : Index := Scalar.indexCast v16789
  ![v16790.toNat]
def k0_off2112 (v16791 : BitVec 32) : Fin 2 → Nat :=
  let c4095_i32_6139 : BitVec 32 := 4095#32
  let v16792 : BitVec 32 := Scalar.andi v16791 c4095_i32_6139
  let v16793 : Index := Scalar.indexCast v16792
  let c0_6140 : Index := 0#32
  ![v16793.toNat, 0]

def k0_chk993 (v16791 : BitVec 32) : Prop :=
  (∀ a, (k0_off2112 v16791) a + S1x256.size a ≤ S4096x256.size a)
theorem k0_off2112_inb : ∀ (v16791 : BitVec 32) (k0_hw993 : k0_chk993 v16791), ∀ a, (k0_off2112 v16791) a + S1x256.size a ≤ S4096x256.size a := fun v16791 k0_hw993 => k0_hw993

def k0_off2113 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6142 : BitVec 32 := 1024#32
  let v16798 : BitVec 32 := Scalar.muli v14 c1024_i32_6142
  let c985_i32 : BitVec 32 := 985#32
  let v16799 : BitVec 32 := Scalar.addi v16798 c985_i32
  let v16800 : Index := Scalar.indexCast v16799
  ![v16800.toNat]
def k0_off2114 (v16801 : BitVec 32) : Fin 2 → Nat :=
  let c4095_i32_6143 : BitVec 32 := 4095#32
  let v16802 : BitVec 32 := Scalar.andi v16801 c4095_i32_6143
  let v16803 : Index := Scalar.indexCast v16802
  let c0_6144 : Index := 0#32
  ![v16803.toNat, 0]

def k0_chk994 (v16801 : BitVec 32) : Prop :=
  (∀ a, (k0_off2114 v16801) a + S1x256.size a ≤ S4096x256.size a)
theorem k0_off2114_inb : ∀ (v16801 : BitVec 32) (k0_hw994 : k0_chk994 v16801), ∀ a, (k0_off2114 v16801) a + S1x256.size a ≤ S4096x256.size a := fun v16801 k0_hw994 => k0_hw994

def k0_off2115 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6146 : BitVec 32 := 1024#32
  let v16808 : BitVec 32 := Scalar.muli v14 c1024_i32_6146
  let c986_i32 : BitVec 32 := 986#32
  let v16809 : BitVec 32 := Scalar.addi v16808 c986_i32
  let v16810 : Index := Scalar.indexCast v16809
  ![v16810.toNat]
def k0_off2116 (v16811 : BitVec 32) : Fin 2 → Nat :=
  let c4095_i32_6147 : BitVec 32 := 4095#32
  let v16812 : BitVec 32 := Scalar.andi v16811 c4095_i32_6147
  let v16813 : Index := Scalar.indexCast v16812
  let c0_6148 : Index := 0#32
  ![v16813.toNat, 0]

def k0_chk995 (v16811 : BitVec 32) : Prop :=
  (∀ a, (k0_off2116 v16811) a + S1x256.size a ≤ S4096x256.size a)
theorem k0_off2116_inb : ∀ (v16811 : BitVec 32) (k0_hw995 : k0_chk995 v16811), ∀ a, (k0_off2116 v16811) a + S1x256.size a ≤ S4096x256.size a := fun v16811 k0_hw995 => k0_hw995

def k0_off2117 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v16875 : Index := Scalar.indexCast v12
  let c0_6165 : Index := 0#32
  let c0_6166 : Index := 0#32
  ![v16875.toNat, 0, 0]
def k0_off2118 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v16936 : Index := Scalar.indexCast v12
  let c0_6184 : Index := 0#32
  let c256_6185 : Index := 256#32
  ![v16936.toNat, 0, 256]
def k0_off2119 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v16998 : Index := Scalar.indexCast v12
  let c0_6203 : Index := 0#32
  let c512_6204 : Index := 512#32
  ![v16998.toNat, 0, 512]
def k0_off2120 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v17060 : Index := Scalar.indexCast v12
  let c0_6222 : Index := 0#32
  let c768_6223 : Index := 768#32
  ![v17060.toNat, 0, 768]
def k0_off2121 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6229 : BitVec 32 := 1024#32
  let v17070 : BitVec 32 := Scalar.muli v14 c1024_i32_6229
  let c987_i32 : BitVec 32 := 987#32
  let v17071 : BitVec 32 := Scalar.addi v17070 c987_i32
  let v17072 : Index := Scalar.indexCast v17071
  ![v17072.toNat]
def k0_off2122 (v17073 : BitVec 32) : Fin 2 → Nat :=
  let c4095_i32_6230 : BitVec 32 := 4095#32
  let v17074 : BitVec 32 := Scalar.andi v17073 c4095_i32_6230
  let v17075 : Index := Scalar.indexCast v17074
  let c0_6231 : Index := 0#32
  ![v17075.toNat, 0]

def k0_chk996 (v17073 : BitVec 32) : Prop :=
  (∀ a, (k0_off2122 v17073) a + S1x256.size a ≤ S4096x256.size a)
theorem k0_off2122_inb : ∀ (v17073 : BitVec 32) (k0_hw996 : k0_chk996 v17073), ∀ a, (k0_off2122 v17073) a + S1x256.size a ≤ S4096x256.size a := fun v17073 k0_hw996 => k0_hw996

def k0_off2123 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6233 : BitVec 32 := 1024#32
  let v17080 : BitVec 32 := Scalar.muli v14 c1024_i32_6233
  let c988_i32 : BitVec 32 := 988#32
  let v17081 : BitVec 32 := Scalar.addi v17080 c988_i32
  let v17082 : Index := Scalar.indexCast v17081
  ![v17082.toNat]
def k0_off2124 (v17083 : BitVec 32) : Fin 2 → Nat :=
  let c4095_i32_6234 : BitVec 32 := 4095#32
  let v17084 : BitVec 32 := Scalar.andi v17083 c4095_i32_6234
  let v17085 : Index := Scalar.indexCast v17084
  let c0_6235 : Index := 0#32
  ![v17085.toNat, 0]

def k0_chk997 (v17083 : BitVec 32) : Prop :=
  (∀ a, (k0_off2124 v17083) a + S1x256.size a ≤ S4096x256.size a)
theorem k0_off2124_inb : ∀ (v17083 : BitVec 32) (k0_hw997 : k0_chk997 v17083), ∀ a, (k0_off2124 v17083) a + S1x256.size a ≤ S4096x256.size a := fun v17083 k0_hw997 => k0_hw997

def k0_off2125 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6237 : BitVec 32 := 1024#32
  let v17090 : BitVec 32 := Scalar.muli v14 c1024_i32_6237
  let c989_i32 : BitVec 32 := 989#32
  let v17091 : BitVec 32 := Scalar.addi v17090 c989_i32
  let v17092 : Index := Scalar.indexCast v17091
  ![v17092.toNat]
def k0_off2126 (v17093 : BitVec 32) : Fin 2 → Nat :=
  let c4095_i32_6238 : BitVec 32 := 4095#32
  let v17094 : BitVec 32 := Scalar.andi v17093 c4095_i32_6238
  let v17095 : Index := Scalar.indexCast v17094
  let c0_6239 : Index := 0#32
  ![v17095.toNat, 0]

def k0_chk998 (v17093 : BitVec 32) : Prop :=
  (∀ a, (k0_off2126 v17093) a + S1x256.size a ≤ S4096x256.size a)
theorem k0_off2126_inb : ∀ (v17093 : BitVec 32) (k0_hw998 : k0_chk998 v17093), ∀ a, (k0_off2126 v17093) a + S1x256.size a ≤ S4096x256.size a := fun v17093 k0_hw998 => k0_hw998

def k0_off2127 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6241 : BitVec 32 := 1024#32
  let v17100 : BitVec 32 := Scalar.muli v14 c1024_i32_6241
  let c990_i32 : BitVec 32 := 990#32
  let v17101 : BitVec 32 := Scalar.addi v17100 c990_i32
  let v17102 : Index := Scalar.indexCast v17101
  ![v17102.toNat]
def k0_off2128 (v17103 : BitVec 32) : Fin 2 → Nat :=
  let c4095_i32_6242 : BitVec 32 := 4095#32
  let v17104 : BitVec 32 := Scalar.andi v17103 c4095_i32_6242
  let v17105 : Index := Scalar.indexCast v17104
  let c0_6243 : Index := 0#32
  ![v17105.toNat, 0]

def k0_chk999 (v17103 : BitVec 32) : Prop :=
  (∀ a, (k0_off2128 v17103) a + S1x256.size a ≤ S4096x256.size a)
theorem k0_off2128_inb : ∀ (v17103 : BitVec 32) (k0_hw999 : k0_chk999 v17103), ∀ a, (k0_off2128 v17103) a + S1x256.size a ≤ S4096x256.size a := fun v17103 k0_hw999 => k0_hw999

def k0_off2129 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6245 : BitVec 32 := 1024#32
  let v17110 : BitVec 32 := Scalar.muli v14 c1024_i32_6245
  let c991_i32 : BitVec 32 := 991#32
  let v17111 : BitVec 32 := Scalar.addi v17110 c991_i32
  let v17112 : Index := Scalar.indexCast v17111
  ![v17112.toNat]
def k0_off2130 (v17113 : BitVec 32) : Fin 2 → Nat :=
  let c4095_i32_6246 : BitVec 32 := 4095#32
  let v17114 : BitVec 32 := Scalar.andi v17113 c4095_i32_6246
  let v17115 : Index := Scalar.indexCast v17114
  let c0_6247 : Index := 0#32
  ![v17115.toNat, 0]

def k0_chk1000 (v17113 : BitVec 32) : Prop :=
  (∀ a, (k0_off2130 v17113) a + S1x256.size a ≤ S4096x256.size a)
theorem k0_off2130_inb : ∀ (v17113 : BitVec 32) (k0_hw1000 : k0_chk1000 v17113), ∀ a, (k0_off2130 v17113) a + S1x256.size a ≤ S4096x256.size a := fun v17113 k0_hw1000 => k0_hw1000

def k0_off2131 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6249 : BitVec 32 := 1024#32
  let v17120 : BitVec 32 := Scalar.muli v14 c1024_i32_6249
  let c992_i32 : BitVec 32 := 992#32
  let v17121 : BitVec 32 := Scalar.addi v17120 c992_i32
  let v17122 : Index := Scalar.indexCast v17121
  ![v17122.toNat]
def k0_off2132 (v17123 : BitVec 32) : Fin 2 → Nat :=
  let c4095_i32_6250 : BitVec 32 := 4095#32
  let v17124 : BitVec 32 := Scalar.andi v17123 c4095_i32_6250
  let v17125 : Index := Scalar.indexCast v17124
  let c0_6251 : Index := 0#32
  ![v17125.toNat, 0]

def k0_chk1001 (v17123 : BitVec 32) : Prop :=
  (∀ a, (k0_off2132 v17123) a + S1x256.size a ≤ S4096x256.size a)
theorem k0_off2132_inb : ∀ (v17123 : BitVec 32) (k0_hw1001 : k0_chk1001 v17123), ∀ a, (k0_off2132 v17123) a + S1x256.size a ≤ S4096x256.size a := fun v17123 k0_hw1001 => k0_hw1001

def k0_off2133 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6253 : BitVec 32 := 1024#32
  let v17130 : BitVec 32 := Scalar.muli v14 c1024_i32_6253
  let c993_i32 : BitVec 32 := 993#32
  let v17131 : BitVec 32 := Scalar.addi v17130 c993_i32
  let v17132 : Index := Scalar.indexCast v17131
  ![v17132.toNat]
def k0_off2134 (v17133 : BitVec 32) : Fin 2 → Nat :=
  let c4095_i32_6254 : BitVec 32 := 4095#32
  let v17134 : BitVec 32 := Scalar.andi v17133 c4095_i32_6254
  let v17135 : Index := Scalar.indexCast v17134
  let c0_6255 : Index := 0#32
  ![v17135.toNat, 0]

def k0_chk1002 (v17133 : BitVec 32) : Prop :=
  (∀ a, (k0_off2134 v17133) a + S1x256.size a ≤ S4096x256.size a)
theorem k0_off2134_inb : ∀ (v17133 : BitVec 32) (k0_hw1002 : k0_chk1002 v17133), ∀ a, (k0_off2134 v17133) a + S1x256.size a ≤ S4096x256.size a := fun v17133 k0_hw1002 => k0_hw1002

def k0_off2135 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6257 : BitVec 32 := 1024#32
  let v17140 : BitVec 32 := Scalar.muli v14 c1024_i32_6257
  let c994_i32 : BitVec 32 := 994#32
  let v17141 : BitVec 32 := Scalar.addi v17140 c994_i32
  let v17142 : Index := Scalar.indexCast v17141
  ![v17142.toNat]
def k0_off2136 (v17143 : BitVec 32) : Fin 2 → Nat :=
  let c4095_i32_6258 : BitVec 32 := 4095#32
  let v17144 : BitVec 32 := Scalar.andi v17143 c4095_i32_6258
  let v17145 : Index := Scalar.indexCast v17144
  let c0_6259 : Index := 0#32
  ![v17145.toNat, 0]

def k0_chk1003 (v17143 : BitVec 32) : Prop :=
  (∀ a, (k0_off2136 v17143) a + S1x256.size a ≤ S4096x256.size a)
theorem k0_off2136_inb : ∀ (v17143 : BitVec 32) (k0_hw1003 : k0_chk1003 v17143), ∀ a, (k0_off2136 v17143) a + S1x256.size a ≤ S4096x256.size a := fun v17143 k0_hw1003 => k0_hw1003

def k0_off2137 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6261 : BitVec 32 := 1024#32
  let v17150 : BitVec 32 := Scalar.muli v14 c1024_i32_6261
  let c995_i32 : BitVec 32 := 995#32
  let v17151 : BitVec 32 := Scalar.addi v17150 c995_i32
  let v17152 : Index := Scalar.indexCast v17151
  ![v17152.toNat]
def k0_off2138 (v17153 : BitVec 32) : Fin 2 → Nat :=
  let c4095_i32_6262 : BitVec 32 := 4095#32
  let v17154 : BitVec 32 := Scalar.andi v17153 c4095_i32_6262
  let v17155 : Index := Scalar.indexCast v17154
  let c0_6263 : Index := 0#32
  ![v17155.toNat, 0]

def k0_chk1004 (v17153 : BitVec 32) : Prop :=
  (∀ a, (k0_off2138 v17153) a + S1x256.size a ≤ S4096x256.size a)
theorem k0_off2138_inb : ∀ (v17153 : BitVec 32) (k0_hw1004 : k0_chk1004 v17153), ∀ a, (k0_off2138 v17153) a + S1x256.size a ≤ S4096x256.size a := fun v17153 k0_hw1004 => k0_hw1004

def k0_off2139 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6265 : BitVec 32 := 1024#32
  let v17160 : BitVec 32 := Scalar.muli v14 c1024_i32_6265
  let c996_i32 : BitVec 32 := 996#32
  let v17161 : BitVec 32 := Scalar.addi v17160 c996_i32
  let v17162 : Index := Scalar.indexCast v17161
  ![v17162.toNat]
def k0_off2140 (v17163 : BitVec 32) : Fin 2 → Nat :=
  let c4095_i32_6266 : BitVec 32 := 4095#32
  let v17164 : BitVec 32 := Scalar.andi v17163 c4095_i32_6266
  let v17165 : Index := Scalar.indexCast v17164
  let c0_6267 : Index := 0#32
  ![v17165.toNat, 0]

def k0_chk1005 (v17163 : BitVec 32) : Prop :=
  (∀ a, (k0_off2140 v17163) a + S1x256.size a ≤ S4096x256.size a)
theorem k0_off2140_inb : ∀ (v17163 : BitVec 32) (k0_hw1005 : k0_chk1005 v17163), ∀ a, (k0_off2140 v17163) a + S1x256.size a ≤ S4096x256.size a := fun v17163 k0_hw1005 => k0_hw1005

def k0_off2141 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6269 : BitVec 32 := 1024#32
  let v17170 : BitVec 32 := Scalar.muli v14 c1024_i32_6269
  let c997_i32 : BitVec 32 := 997#32
  let v17171 : BitVec 32 := Scalar.addi v17170 c997_i32
  let v17172 : Index := Scalar.indexCast v17171
  ![v17172.toNat]
def k0_off2142 (v17173 : BitVec 32) : Fin 2 → Nat :=
  let c4095_i32_6270 : BitVec 32 := 4095#32
  let v17174 : BitVec 32 := Scalar.andi v17173 c4095_i32_6270
  let v17175 : Index := Scalar.indexCast v17174
  let c0_6271 : Index := 0#32
  ![v17175.toNat, 0]

def k0_chk1006 (v17173 : BitVec 32) : Prop :=
  (∀ a, (k0_off2142 v17173) a + S1x256.size a ≤ S4096x256.size a)
theorem k0_off2142_inb : ∀ (v17173 : BitVec 32) (k0_hw1006 : k0_chk1006 v17173), ∀ a, (k0_off2142 v17173) a + S1x256.size a ≤ S4096x256.size a := fun v17173 k0_hw1006 => k0_hw1006

def k0_off2143 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6273 : BitVec 32 := 1024#32
  let v17180 : BitVec 32 := Scalar.muli v14 c1024_i32_6273
  let c998_i32 : BitVec 32 := 998#32
  let v17181 : BitVec 32 := Scalar.addi v17180 c998_i32
  let v17182 : Index := Scalar.indexCast v17181
  ![v17182.toNat]
def k0_off2144 (v17183 : BitVec 32) : Fin 2 → Nat :=
  let c4095_i32_6274 : BitVec 32 := 4095#32
  let v17184 : BitVec 32 := Scalar.andi v17183 c4095_i32_6274
  let v17185 : Index := Scalar.indexCast v17184
  let c0_6275 : Index := 0#32
  ![v17185.toNat, 0]

def k0_chk1007 (v17183 : BitVec 32) : Prop :=
  (∀ a, (k0_off2144 v17183) a + S1x256.size a ≤ S4096x256.size a)
theorem k0_off2144_inb : ∀ (v17183 : BitVec 32) (k0_hw1007 : k0_chk1007 v17183), ∀ a, (k0_off2144 v17183) a + S1x256.size a ≤ S4096x256.size a := fun v17183 k0_hw1007 => k0_hw1007

def k0_off2145 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6277 : BitVec 32 := 1024#32
  let v17190 : BitVec 32 := Scalar.muli v14 c1024_i32_6277
  let c999_i32 : BitVec 32 := 999#32
  let v17191 : BitVec 32 := Scalar.addi v17190 c999_i32
  let v17192 : Index := Scalar.indexCast v17191
  ![v17192.toNat]
def k0_off2146 (v17193 : BitVec 32) : Fin 2 → Nat :=
  let c4095_i32_6278 : BitVec 32 := 4095#32
  let v17194 : BitVec 32 := Scalar.andi v17193 c4095_i32_6278
  let v17195 : Index := Scalar.indexCast v17194
  let c0_6279 : Index := 0#32
  ![v17195.toNat, 0]

def k0_chk1008 (v17193 : BitVec 32) : Prop :=
  (∀ a, (k0_off2146 v17193) a + S1x256.size a ≤ S4096x256.size a)
theorem k0_off2146_inb : ∀ (v17193 : BitVec 32) (k0_hw1008 : k0_chk1008 v17193), ∀ a, (k0_off2146 v17193) a + S1x256.size a ≤ S4096x256.size a := fun v17193 k0_hw1008 => k0_hw1008

def k0_off2147 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6281 : BitVec 32 := 1024#32
  let v17200 : BitVec 32 := Scalar.muli v14 c1024_i32_6281
  let c1000_i32 : BitVec 32 := 1000#32
  let v17201 : BitVec 32 := Scalar.addi v17200 c1000_i32
  let v17202 : Index := Scalar.indexCast v17201
  ![v17202.toNat]
def k0_off2148 (v17203 : BitVec 32) : Fin 2 → Nat :=
  let c4095_i32_6282 : BitVec 32 := 4095#32
  let v17204 : BitVec 32 := Scalar.andi v17203 c4095_i32_6282
  let v17205 : Index := Scalar.indexCast v17204
  let c0_6283 : Index := 0#32
  ![v17205.toNat, 0]

def k0_chk1009 (v17203 : BitVec 32) : Prop :=
  (∀ a, (k0_off2148 v17203) a + S1x256.size a ≤ S4096x256.size a)
theorem k0_off2148_inb : ∀ (v17203 : BitVec 32) (k0_hw1009 : k0_chk1009 v17203), ∀ a, (k0_off2148 v17203) a + S1x256.size a ≤ S4096x256.size a := fun v17203 k0_hw1009 => k0_hw1009

def k0_off2149 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6285 : BitVec 32 := 1024#32
  let v17210 : BitVec 32 := Scalar.muli v14 c1024_i32_6285
  let c1001_i32 : BitVec 32 := 1001#32
  let v17211 : BitVec 32 := Scalar.addi v17210 c1001_i32
  let v17212 : Index := Scalar.indexCast v17211
  ![v17212.toNat]
def k0_off2150 (v17213 : BitVec 32) : Fin 2 → Nat :=
  let c4095_i32_6286 : BitVec 32 := 4095#32
  let v17214 : BitVec 32 := Scalar.andi v17213 c4095_i32_6286
  let v17215 : Index := Scalar.indexCast v17214
  let c0_6287 : Index := 0#32
  ![v17215.toNat, 0]

def k0_chk1010 (v17213 : BitVec 32) : Prop :=
  (∀ a, (k0_off2150 v17213) a + S1x256.size a ≤ S4096x256.size a)
theorem k0_off2150_inb : ∀ (v17213 : BitVec 32) (k0_hw1010 : k0_chk1010 v17213), ∀ a, (k0_off2150 v17213) a + S1x256.size a ≤ S4096x256.size a := fun v17213 k0_hw1010 => k0_hw1010

def k0_off2151 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6289 : BitVec 32 := 1024#32
  let v17220 : BitVec 32 := Scalar.muli v14 c1024_i32_6289
  let c1002_i32 : BitVec 32 := 1002#32
  let v17221 : BitVec 32 := Scalar.addi v17220 c1002_i32
  let v17222 : Index := Scalar.indexCast v17221
  ![v17222.toNat]
def k0_off2152 (v17223 : BitVec 32) : Fin 2 → Nat :=
  let c4095_i32_6290 : BitVec 32 := 4095#32
  let v17224 : BitVec 32 := Scalar.andi v17223 c4095_i32_6290
  let v17225 : Index := Scalar.indexCast v17224
  let c0_6291 : Index := 0#32
  ![v17225.toNat, 0]

def k0_chk1011 (v17223 : BitVec 32) : Prop :=
  (∀ a, (k0_off2152 v17223) a + S1x256.size a ≤ S4096x256.size a)
theorem k0_off2152_inb : ∀ (v17223 : BitVec 32) (k0_hw1011 : k0_chk1011 v17223), ∀ a, (k0_off2152 v17223) a + S1x256.size a ≤ S4096x256.size a := fun v17223 k0_hw1011 => k0_hw1011

def k0_off2153 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6293 : BitVec 32 := 1024#32
  let v17230 : BitVec 32 := Scalar.muli v14 c1024_i32_6293
  let c1003_i32 : BitVec 32 := 1003#32
  let v17231 : BitVec 32 := Scalar.addi v17230 c1003_i32
  let v17232 : Index := Scalar.indexCast v17231
  ![v17232.toNat]
def k0_off2154 (v17233 : BitVec 32) : Fin 2 → Nat :=
  let c4095_i32_6294 : BitVec 32 := 4095#32
  let v17234 : BitVec 32 := Scalar.andi v17233 c4095_i32_6294
  let v17235 : Index := Scalar.indexCast v17234
  let c0_6295 : Index := 0#32
  ![v17235.toNat, 0]

def k0_chk1012 (v17233 : BitVec 32) : Prop :=
  (∀ a, (k0_off2154 v17233) a + S1x256.size a ≤ S4096x256.size a)
theorem k0_off2154_inb : ∀ (v17233 : BitVec 32) (k0_hw1012 : k0_chk1012 v17233), ∀ a, (k0_off2154 v17233) a + S1x256.size a ≤ S4096x256.size a := fun v17233 k0_hw1012 => k0_hw1012

def k0_off2155 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6297 : BitVec 32 := 1024#32
  let v17240 : BitVec 32 := Scalar.muli v14 c1024_i32_6297
  let c1004_i32 : BitVec 32 := 1004#32
  let v17241 : BitVec 32 := Scalar.addi v17240 c1004_i32
  let v17242 : Index := Scalar.indexCast v17241
  ![v17242.toNat]
def k0_off2156 (v17243 : BitVec 32) : Fin 2 → Nat :=
  let c4095_i32_6298 : BitVec 32 := 4095#32
  let v17244 : BitVec 32 := Scalar.andi v17243 c4095_i32_6298
  let v17245 : Index := Scalar.indexCast v17244
  let c0_6299 : Index := 0#32
  ![v17245.toNat, 0]

def k0_chk1013 (v17243 : BitVec 32) : Prop :=
  (∀ a, (k0_off2156 v17243) a + S1x256.size a ≤ S4096x256.size a)
theorem k0_off2156_inb : ∀ (v17243 : BitVec 32) (k0_hw1013 : k0_chk1013 v17243), ∀ a, (k0_off2156 v17243) a + S1x256.size a ≤ S4096x256.size a := fun v17243 k0_hw1013 => k0_hw1013

def k0_off2157 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6301 : BitVec 32 := 1024#32
  let v17250 : BitVec 32 := Scalar.muli v14 c1024_i32_6301
  let c1005_i32 : BitVec 32 := 1005#32
  let v17251 : BitVec 32 := Scalar.addi v17250 c1005_i32
  let v17252 : Index := Scalar.indexCast v17251
  ![v17252.toNat]
def k0_off2158 (v17253 : BitVec 32) : Fin 2 → Nat :=
  let c4095_i32_6302 : BitVec 32 := 4095#32
  let v17254 : BitVec 32 := Scalar.andi v17253 c4095_i32_6302
  let v17255 : Index := Scalar.indexCast v17254
  let c0_6303 : Index := 0#32
  ![v17255.toNat, 0]

def k0_chk1014 (v17253 : BitVec 32) : Prop :=
  (∀ a, (k0_off2158 v17253) a + S1x256.size a ≤ S4096x256.size a)
theorem k0_off2158_inb : ∀ (v17253 : BitVec 32) (k0_hw1014 : k0_chk1014 v17253), ∀ a, (k0_off2158 v17253) a + S1x256.size a ≤ S4096x256.size a := fun v17253 k0_hw1014 => k0_hw1014

def k0_off2159 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6305 : BitVec 32 := 1024#32
  let v17260 : BitVec 32 := Scalar.muli v14 c1024_i32_6305
  let c1006_i32 : BitVec 32 := 1006#32
  let v17261 : BitVec 32 := Scalar.addi v17260 c1006_i32
  let v17262 : Index := Scalar.indexCast v17261
  ![v17262.toNat]
def k0_off2160 (v17263 : BitVec 32) : Fin 2 → Nat :=
  let c4095_i32_6306 : BitVec 32 := 4095#32
  let v17264 : BitVec 32 := Scalar.andi v17263 c4095_i32_6306
  let v17265 : Index := Scalar.indexCast v17264
  let c0_6307 : Index := 0#32
  ![v17265.toNat, 0]

def k0_chk1015 (v17263 : BitVec 32) : Prop :=
  (∀ a, (k0_off2160 v17263) a + S1x256.size a ≤ S4096x256.size a)
theorem k0_off2160_inb : ∀ (v17263 : BitVec 32) (k0_hw1015 : k0_chk1015 v17263), ∀ a, (k0_off2160 v17263) a + S1x256.size a ≤ S4096x256.size a := fun v17263 k0_hw1015 => k0_hw1015

def k0_off2161 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6309 : BitVec 32 := 1024#32
  let v17270 : BitVec 32 := Scalar.muli v14 c1024_i32_6309
  let c1007_i32 : BitVec 32 := 1007#32
  let v17271 : BitVec 32 := Scalar.addi v17270 c1007_i32
  let v17272 : Index := Scalar.indexCast v17271
  ![v17272.toNat]
def k0_off2162 (v17273 : BitVec 32) : Fin 2 → Nat :=
  let c4095_i32_6310 : BitVec 32 := 4095#32
  let v17274 : BitVec 32 := Scalar.andi v17273 c4095_i32_6310
  let v17275 : Index := Scalar.indexCast v17274
  let c0_6311 : Index := 0#32
  ![v17275.toNat, 0]

def k0_chk1016 (v17273 : BitVec 32) : Prop :=
  (∀ a, (k0_off2162 v17273) a + S1x256.size a ≤ S4096x256.size a)
theorem k0_off2162_inb : ∀ (v17273 : BitVec 32) (k0_hw1016 : k0_chk1016 v17273), ∀ a, (k0_off2162 v17273) a + S1x256.size a ≤ S4096x256.size a := fun v17273 k0_hw1016 => k0_hw1016

def k0_off2163 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6313 : BitVec 32 := 1024#32
  let v17280 : BitVec 32 := Scalar.muli v14 c1024_i32_6313
  let c1008_i32 : BitVec 32 := 1008#32
  let v17281 : BitVec 32 := Scalar.addi v17280 c1008_i32
  let v17282 : Index := Scalar.indexCast v17281
  ![v17282.toNat]
def k0_off2164 (v17283 : BitVec 32) : Fin 2 → Nat :=
  let c4095_i32_6314 : BitVec 32 := 4095#32
  let v17284 : BitVec 32 := Scalar.andi v17283 c4095_i32_6314
  let v17285 : Index := Scalar.indexCast v17284
  let c0_6315 : Index := 0#32
  ![v17285.toNat, 0]

def k0_chk1017 (v17283 : BitVec 32) : Prop :=
  (∀ a, (k0_off2164 v17283) a + S1x256.size a ≤ S4096x256.size a)
theorem k0_off2164_inb : ∀ (v17283 : BitVec 32) (k0_hw1017 : k0_chk1017 v17283), ∀ a, (k0_off2164 v17283) a + S1x256.size a ≤ S4096x256.size a := fun v17283 k0_hw1017 => k0_hw1017

def k0_off2165 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6317 : BitVec 32 := 1024#32
  let v17290 : BitVec 32 := Scalar.muli v14 c1024_i32_6317
  let c1009_i32 : BitVec 32 := 1009#32
  let v17291 : BitVec 32 := Scalar.addi v17290 c1009_i32
  let v17292 : Index := Scalar.indexCast v17291
  ![v17292.toNat]
def k0_off2166 (v17293 : BitVec 32) : Fin 2 → Nat :=
  let c4095_i32_6318 : BitVec 32 := 4095#32
  let v17294 : BitVec 32 := Scalar.andi v17293 c4095_i32_6318
  let v17295 : Index := Scalar.indexCast v17294
  let c0_6319 : Index := 0#32
  ![v17295.toNat, 0]

def k0_chk1018 (v17293 : BitVec 32) : Prop :=
  (∀ a, (k0_off2166 v17293) a + S1x256.size a ≤ S4096x256.size a)
theorem k0_off2166_inb : ∀ (v17293 : BitVec 32) (k0_hw1018 : k0_chk1018 v17293), ∀ a, (k0_off2166 v17293) a + S1x256.size a ≤ S4096x256.size a := fun v17293 k0_hw1018 => k0_hw1018

def k0_off2167 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6321 : BitVec 32 := 1024#32
  let v17300 : BitVec 32 := Scalar.muli v14 c1024_i32_6321
  let c1010_i32 : BitVec 32 := 1010#32
  let v17301 : BitVec 32 := Scalar.addi v17300 c1010_i32
  let v17302 : Index := Scalar.indexCast v17301
  ![v17302.toNat]
def k0_off2168 (v17303 : BitVec 32) : Fin 2 → Nat :=
  let c4095_i32_6322 : BitVec 32 := 4095#32
  let v17304 : BitVec 32 := Scalar.andi v17303 c4095_i32_6322
  let v17305 : Index := Scalar.indexCast v17304
  let c0_6323 : Index := 0#32
  ![v17305.toNat, 0]

def k0_chk1019 (v17303 : BitVec 32) : Prop :=
  (∀ a, (k0_off2168 v17303) a + S1x256.size a ≤ S4096x256.size a)
theorem k0_off2168_inb : ∀ (v17303 : BitVec 32) (k0_hw1019 : k0_chk1019 v17303), ∀ a, (k0_off2168 v17303) a + S1x256.size a ≤ S4096x256.size a := fun v17303 k0_hw1019 => k0_hw1019

def k0_off2169 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6325 : BitVec 32 := 1024#32
  let v17310 : BitVec 32 := Scalar.muli v14 c1024_i32_6325
  let c1011_i32 : BitVec 32 := 1011#32
  let v17311 : BitVec 32 := Scalar.addi v17310 c1011_i32
  let v17312 : Index := Scalar.indexCast v17311
  ![v17312.toNat]
def k0_off2170 (v17313 : BitVec 32) : Fin 2 → Nat :=
  let c4095_i32_6326 : BitVec 32 := 4095#32
  let v17314 : BitVec 32 := Scalar.andi v17313 c4095_i32_6326
  let v17315 : Index := Scalar.indexCast v17314
  let c0_6327 : Index := 0#32
  ![v17315.toNat, 0]

def k0_chk1020 (v17313 : BitVec 32) : Prop :=
  (∀ a, (k0_off2170 v17313) a + S1x256.size a ≤ S4096x256.size a)
theorem k0_off2170_inb : ∀ (v17313 : BitVec 32) (k0_hw1020 : k0_chk1020 v17313), ∀ a, (k0_off2170 v17313) a + S1x256.size a ≤ S4096x256.size a := fun v17313 k0_hw1020 => k0_hw1020

def k0_off2171 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6329 : BitVec 32 := 1024#32
  let v17320 : BitVec 32 := Scalar.muli v14 c1024_i32_6329
  let c1012_i32 : BitVec 32 := 1012#32
  let v17321 : BitVec 32 := Scalar.addi v17320 c1012_i32
  let v17322 : Index := Scalar.indexCast v17321
  ![v17322.toNat]
def k0_off2172 (v17323 : BitVec 32) : Fin 2 → Nat :=
  let c4095_i32_6330 : BitVec 32 := 4095#32
  let v17324 : BitVec 32 := Scalar.andi v17323 c4095_i32_6330
  let v17325 : Index := Scalar.indexCast v17324
  let c0_6331 : Index := 0#32
  ![v17325.toNat, 0]

def k0_chk1021 (v17323 : BitVec 32) : Prop :=
  (∀ a, (k0_off2172 v17323) a + S1x256.size a ≤ S4096x256.size a)
theorem k0_off2172_inb : ∀ (v17323 : BitVec 32) (k0_hw1021 : k0_chk1021 v17323), ∀ a, (k0_off2172 v17323) a + S1x256.size a ≤ S4096x256.size a := fun v17323 k0_hw1021 => k0_hw1021

def k0_off2173 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6333 : BitVec 32 := 1024#32
  let v17330 : BitVec 32 := Scalar.muli v14 c1024_i32_6333
  let c1013_i32 : BitVec 32 := 1013#32
  let v17331 : BitVec 32 := Scalar.addi v17330 c1013_i32
  let v17332 : Index := Scalar.indexCast v17331
  ![v17332.toNat]
def k0_off2174 (v17333 : BitVec 32) : Fin 2 → Nat :=
  let c4095_i32_6334 : BitVec 32 := 4095#32
  let v17334 : BitVec 32 := Scalar.andi v17333 c4095_i32_6334
  let v17335 : Index := Scalar.indexCast v17334
  let c0_6335 : Index := 0#32
  ![v17335.toNat, 0]

def k0_chk1022 (v17333 : BitVec 32) : Prop :=
  (∀ a, (k0_off2174 v17333) a + S1x256.size a ≤ S4096x256.size a)
theorem k0_off2174_inb : ∀ (v17333 : BitVec 32) (k0_hw1022 : k0_chk1022 v17333), ∀ a, (k0_off2174 v17333) a + S1x256.size a ≤ S4096x256.size a := fun v17333 k0_hw1022 => k0_hw1022

def k0_off2175 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6337 : BitVec 32 := 1024#32
  let v17340 : BitVec 32 := Scalar.muli v14 c1024_i32_6337
  let c1014_i32 : BitVec 32 := 1014#32
  let v17341 : BitVec 32 := Scalar.addi v17340 c1014_i32
  let v17342 : Index := Scalar.indexCast v17341
  ![v17342.toNat]
def k0_off2176 (v17343 : BitVec 32) : Fin 2 → Nat :=
  let c4095_i32_6338 : BitVec 32 := 4095#32
  let v17344 : BitVec 32 := Scalar.andi v17343 c4095_i32_6338
  let v17345 : Index := Scalar.indexCast v17344
  let c0_6339 : Index := 0#32
  ![v17345.toNat, 0]

def k0_chk1023 (v17343 : BitVec 32) : Prop :=
  (∀ a, (k0_off2176 v17343) a + S1x256.size a ≤ S4096x256.size a)
theorem k0_off2176_inb : ∀ (v17343 : BitVec 32) (k0_hw1023 : k0_chk1023 v17343), ∀ a, (k0_off2176 v17343) a + S1x256.size a ≤ S4096x256.size a := fun v17343 k0_hw1023 => k0_hw1023

def k0_off2177 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6341 : BitVec 32 := 1024#32
  let v17350 : BitVec 32 := Scalar.muli v14 c1024_i32_6341
  let c1015_i32 : BitVec 32 := 1015#32
  let v17351 : BitVec 32 := Scalar.addi v17350 c1015_i32
  let v17352 : Index := Scalar.indexCast v17351
  ![v17352.toNat]
def k0_off2178 (v17353 : BitVec 32) : Fin 2 → Nat :=
  let c4095_i32_6342 : BitVec 32 := 4095#32
  let v17354 : BitVec 32 := Scalar.andi v17353 c4095_i32_6342
  let v17355 : Index := Scalar.indexCast v17354
  let c0_6343 : Index := 0#32
  ![v17355.toNat, 0]

def k0_chk1024 (v17353 : BitVec 32) : Prop :=
  (∀ a, (k0_off2178 v17353) a + S1x256.size a ≤ S4096x256.size a)
theorem k0_off2178_inb : ∀ (v17353 : BitVec 32) (k0_hw1024 : k0_chk1024 v17353), ∀ a, (k0_off2178 v17353) a + S1x256.size a ≤ S4096x256.size a := fun v17353 k0_hw1024 => k0_hw1024

def k0_off2179 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6345 : BitVec 32 := 1024#32
  let v17360 : BitVec 32 := Scalar.muli v14 c1024_i32_6345
  let c1016_i32 : BitVec 32 := 1016#32
  let v17361 : BitVec 32 := Scalar.addi v17360 c1016_i32
  let v17362 : Index := Scalar.indexCast v17361
  ![v17362.toNat]
def k0_off2180 (v17363 : BitVec 32) : Fin 2 → Nat :=
  let c4095_i32_6346 : BitVec 32 := 4095#32
  let v17364 : BitVec 32 := Scalar.andi v17363 c4095_i32_6346
  let v17365 : Index := Scalar.indexCast v17364
  let c0_6347 : Index := 0#32
  ![v17365.toNat, 0]

def k0_chk1025 (v17363 : BitVec 32) : Prop :=
  (∀ a, (k0_off2180 v17363) a + S1x256.size a ≤ S4096x256.size a)
theorem k0_off2180_inb : ∀ (v17363 : BitVec 32) (k0_hw1025 : k0_chk1025 v17363), ∀ a, (k0_off2180 v17363) a + S1x256.size a ≤ S4096x256.size a := fun v17363 k0_hw1025 => k0_hw1025

def k0_off2181 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6349 : BitVec 32 := 1024#32
  let v17370 : BitVec 32 := Scalar.muli v14 c1024_i32_6349
  let c1017_i32 : BitVec 32 := 1017#32
  let v17371 : BitVec 32 := Scalar.addi v17370 c1017_i32
  let v17372 : Index := Scalar.indexCast v17371
  ![v17372.toNat]
def k0_off2182 (v17373 : BitVec 32) : Fin 2 → Nat :=
  let c4095_i32_6350 : BitVec 32 := 4095#32
  let v17374 : BitVec 32 := Scalar.andi v17373 c4095_i32_6350
  let v17375 : Index := Scalar.indexCast v17374
  let c0_6351 : Index := 0#32
  ![v17375.toNat, 0]

def k0_chk1026 (v17373 : BitVec 32) : Prop :=
  (∀ a, (k0_off2182 v17373) a + S1x256.size a ≤ S4096x256.size a)
theorem k0_off2182_inb : ∀ (v17373 : BitVec 32) (k0_hw1026 : k0_chk1026 v17373), ∀ a, (k0_off2182 v17373) a + S1x256.size a ≤ S4096x256.size a := fun v17373 k0_hw1026 => k0_hw1026

def k0_off2183 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6353 : BitVec 32 := 1024#32
  let v17380 : BitVec 32 := Scalar.muli v14 c1024_i32_6353
  let c1018_i32 : BitVec 32 := 1018#32
  let v17381 : BitVec 32 := Scalar.addi v17380 c1018_i32
  let v17382 : Index := Scalar.indexCast v17381
  ![v17382.toNat]
def k0_off2184 (v17383 : BitVec 32) : Fin 2 → Nat :=
  let c4095_i32_6354 : BitVec 32 := 4095#32
  let v17384 : BitVec 32 := Scalar.andi v17383 c4095_i32_6354
  let v17385 : Index := Scalar.indexCast v17384
  let c0_6355 : Index := 0#32
  ![v17385.toNat, 0]

def k0_chk1027 (v17383 : BitVec 32) : Prop :=
  (∀ a, (k0_off2184 v17383) a + S1x256.size a ≤ S4096x256.size a)
theorem k0_off2184_inb : ∀ (v17383 : BitVec 32) (k0_hw1027 : k0_chk1027 v17383), ∀ a, (k0_off2184 v17383) a + S1x256.size a ≤ S4096x256.size a := fun v17383 k0_hw1027 => k0_hw1027

def k0_off2185 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6357 : BitVec 32 := 1024#32
  let v17390 : BitVec 32 := Scalar.muli v14 c1024_i32_6357
  let c1019_i32 : BitVec 32 := 1019#32
  let v17391 : BitVec 32 := Scalar.addi v17390 c1019_i32
  let v17392 : Index := Scalar.indexCast v17391
  ![v17392.toNat]
def k0_off2186 (v17393 : BitVec 32) : Fin 2 → Nat :=
  let c4095_i32_6358 : BitVec 32 := 4095#32
  let v17394 : BitVec 32 := Scalar.andi v17393 c4095_i32_6358
  let v17395 : Index := Scalar.indexCast v17394
  let c0_6359 : Index := 0#32
  ![v17395.toNat, 0]

def k0_chk1028 (v17393 : BitVec 32) : Prop :=
  (∀ a, (k0_off2186 v17393) a + S1x256.size a ≤ S4096x256.size a)
theorem k0_off2186_inb : ∀ (v17393 : BitVec 32) (k0_hw1028 : k0_chk1028 v17393), ∀ a, (k0_off2186 v17393) a + S1x256.size a ≤ S4096x256.size a := fun v17393 k0_hw1028 => k0_hw1028

def k0_off2187 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6361 : BitVec 32 := 1024#32
  let v17400 : BitVec 32 := Scalar.muli v14 c1024_i32_6361
  let c1020_i32 : BitVec 32 := 1020#32
  let v17401 : BitVec 32 := Scalar.addi v17400 c1020_i32
  let v17402 : Index := Scalar.indexCast v17401
  ![v17402.toNat]
def k0_off2188 (v17403 : BitVec 32) : Fin 2 → Nat :=
  let c4095_i32_6362 : BitVec 32 := 4095#32
  let v17404 : BitVec 32 := Scalar.andi v17403 c4095_i32_6362
  let v17405 : Index := Scalar.indexCast v17404
  let c0_6363 : Index := 0#32
  ![v17405.toNat, 0]

def k0_chk1029 (v17403 : BitVec 32) : Prop :=
  (∀ a, (k0_off2188 v17403) a + S1x256.size a ≤ S4096x256.size a)
theorem k0_off2188_inb : ∀ (v17403 : BitVec 32) (k0_hw1029 : k0_chk1029 v17403), ∀ a, (k0_off2188 v17403) a + S1x256.size a ≤ S4096x256.size a := fun v17403 k0_hw1029 => k0_hw1029

def k0_off2189 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6365 : BitVec 32 := 1024#32
  let v17410 : BitVec 32 := Scalar.muli v14 c1024_i32_6365
  let c1021_i32 : BitVec 32 := 1021#32
  let v17411 : BitVec 32 := Scalar.addi v17410 c1021_i32
  let v17412 : Index := Scalar.indexCast v17411
  ![v17412.toNat]
def k0_off2190 (v17413 : BitVec 32) : Fin 2 → Nat :=
  let c4095_i32_6366 : BitVec 32 := 4095#32
  let v17414 : BitVec 32 := Scalar.andi v17413 c4095_i32_6366
  let v17415 : Index := Scalar.indexCast v17414
  let c0_6367 : Index := 0#32
  ![v17415.toNat, 0]

def k0_chk1030 (v17413 : BitVec 32) : Prop :=
  (∀ a, (k0_off2190 v17413) a + S1x256.size a ≤ S4096x256.size a)
theorem k0_off2190_inb : ∀ (v17413 : BitVec 32) (k0_hw1030 : k0_chk1030 v17413), ∀ a, (k0_off2190 v17413) a + S1x256.size a ≤ S4096x256.size a := fun v17413 k0_hw1030 => k0_hw1030

def k0_off2191 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6369 : BitVec 32 := 1024#32
  let v17420 : BitVec 32 := Scalar.muli v14 c1024_i32_6369
  let c1022_i32 : BitVec 32 := 1022#32
  let v17421 : BitVec 32 := Scalar.addi v17420 c1022_i32
  let v17422 : Index := Scalar.indexCast v17421
  ![v17422.toNat]
def k0_off2192 (v17423 : BitVec 32) : Fin 2 → Nat :=
  let c4095_i32_6370 : BitVec 32 := 4095#32
  let v17424 : BitVec 32 := Scalar.andi v17423 c4095_i32_6370
  let v17425 : Index := Scalar.indexCast v17424
  let c0_6371 : Index := 0#32
  ![v17425.toNat, 0]

def k0_chk1031 (v17423 : BitVec 32) : Prop :=
  (∀ a, (k0_off2192 v17423) a + S1x256.size a ≤ S4096x256.size a)
theorem k0_off2192_inb : ∀ (v17423 : BitVec 32) (k0_hw1031 : k0_chk1031 v17423), ∀ a, (k0_off2192 v17423) a + S1x256.size a ≤ S4096x256.size a := fun v17423 k0_hw1031 => k0_hw1031

def k0_off2193 (i : grid0.Coords) : Fin 1 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c1024_i32_6373 : BitVec 32 := 1024#32
  let v17430 : BitVec 32 := Scalar.muli v14 c1024_i32_6373
  let c1023_i32 : BitVec 32 := 1023#32
  let v17431 : BitVec 32 := Scalar.addi v17430 c1023_i32
  let v17432 : Index := Scalar.indexCast v17431
  ![v17432.toNat]
def k0_off2194 (v17433 : BitVec 32) : Fin 2 → Nat :=
  let c4095_i32_6374 : BitVec 32 := 4095#32
  let v17434 : BitVec 32 := Scalar.andi v17433 c4095_i32_6374
  let v17435 : Index := Scalar.indexCast v17434
  let c0_6375 : Index := 0#32
  ![v17435.toNat, 0]

def k0_chk1032 (v17433 : BitVec 32) : Prop :=
  (∀ a, (k0_off2194 v17433) a + S1x256.size a ≤ S4096x256.size a)
theorem k0_off2194_inb : ∀ (v17433 : BitVec 32) (k0_hw1032 : k0_chk1032 v17433), ∀ a, (k0_off2194 v17433) a + S1x256.size a ≤ S4096x256.size a := fun v17433 k0_hw1032 => k0_hw1032

def k0_off2195 (i : grid0.Coords) : Fin 2 → Nat :=
  let arg0 : BitVec 32 := BitVec.ofNat 32 (i 0).val
  let c1_i32_5 : BitVec 32 := 1#32
  let v13 : BitVec 32 := Scalar.addi arg0 c1_i32_5
  let c15_i32 : BitVec 32 := 15#32
  let v14 : BitVec 32 := Scalar.minsi v13 c15_i32
  let c8_i32_6380 : BitVec 32 := 8#32
  let v17443 : BitVec 32 := Scalar.muli v14 c8_i32_6380
  let c7_i32_6381 : BitVec 32 := 7#32
  let v17444 : BitVec 32 := Scalar.addi v17443 c7_i32_6381
  let v17445 : Index := Scalar.indexCast v17444
  let c0_6382 : Index := 0#32
  ![v17445.toNat, 0]
def k0_off2196 (i : grid0.Coords) : Fin 3 → Nat :=
  let c1_i32_6377 : BitVec 32 := 1#32
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v17440 : BitVec 32 := Scalar.subi c1_i32_6377 v12
  let v17488 : Index := Scalar.indexCast v17440
  let c0_6393 : Index := 0#32
  let c896_6394 : Index := 896#32
  ![v17488.toNat, 0, 896]
def k0_off2197 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v17549 : Index := Scalar.indexCast v12
  let c0_6410 : Index := 0#32
  let c0_6411 : Index := 0#32
  ![v17549.toNat, 0, 0]
def k0_off2198 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v17610 : Index := Scalar.indexCast v12
  let c0_6429 : Index := 0#32
  let c256_6430 : Index := 256#32
  ![v17610.toNat, 0, 256]
def k0_off2199 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v17672 : Index := Scalar.indexCast v12
  let c0_6448 : Index := 0#32
  let c512_6449 : Index := 512#32
  ![v17672.toNat, 0, 512]
def k0_off2200 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v17734 : Index := Scalar.indexCast v12
  let c0_6467 : Index := 0#32
  let c768_6468 : Index := 768#32
  ![v17734.toNat, 0, 768]
def k0_cond2 (i : grid0.Coords) : BitVec 1 :=
  let arg0 : BitVec 32 := BitVec.ofNat 32 (i 0).val
  let c15_i32_6474 : BitVec 32 := 15#32
  let v17744 : BitVec 1 := Scalar.cmpi .eq arg0 c15_i32_6474
  let v17745 : BitVec 32 := Scalar.extui v17744
  let c0_i32_6475 : BitVec 32 := 0#32
  let v17746 : BitVec 1 := Scalar.cmpi .ne v17745 c0_i32_6475
  v17746

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S16384 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x16384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x7168 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x7168 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x7168 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S64x7168 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S64x1x16384 : Shape := ⟨3, ![64, 1, 16384]⟩
abbrev S8192x7168 : Shape := ⟨2, ![8192, 7168]⟩
abbrev S128x7168 : Shape := ⟨2, ![128, 7168]⟩
abbrev S64x7168 : Shape := ⟨2, ![64, 7168]⟩
abbrev S16384 : Shape := ⟨1, ![16384]⟩
abbrev S_ : Shape := ⟨0, ![]⟩
abbrev S16384x1 : Shape := ⟨2, ![16384, 1]⟩
abbrev S64x1x8192 : Shape := ⟨3, ![64, 1, 8192]⟩
abbrev S8192 : Shape := ⟨1, ![8192]⟩
abbrev S8192x1 : Shape := ⟨2, ![8192, 1]⟩
abbrev S64x1x7168 : Shape := ⟨3, ![64, 1, 7168]⟩

abbrev nBuf : Space → Nat
  | .hbm => 85
  | .vmem => 0
  | .smem => 0
  | _ => 0

abbrev bufTy : (tb : Table) → Fin (tcTables nBuf tb) → BufTy
  | .hbm, ⟨0, _⟩ => ⟨S64x1x16384, .bf16⟩
  | .hbm, ⟨1, _⟩ => ⟨S8192x7168, .i8⟩
  | .hbm, ⟨2, _⟩ => ⟨S128x7168, .bf16⟩
  | .hbm, ⟨3, _⟩ => ⟨S64x7168, .i8⟩
  | .hbm, ⟨4, _⟩ => ⟨S16384, .i32⟩
  | .hbm, ⟨5, _⟩ => ⟨S16384, .i32⟩
  | .hbm, ⟨6, _⟩ => ⟨S_, .i32⟩
  | .hbm, ⟨7, _⟩ => ⟨S16384, .i32⟩
  | .hbm, ⟨8, _⟩ => ⟨S16384, .i1⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S16384, .i32⟩
  | .hbm, ⟨13, _⟩ => ⟨S16384x1, .i32⟩
  | .hbm, ⟨14, _⟩ => ⟨S64x1x16384, .bf16⟩
  | .hbm, ⟨15, _⟩ => ⟨S64x7168, .i32⟩
  | .hbm, ⟨16, _⟩ => ⟨S_, .i32⟩
  | .hbm, ⟨17, _⟩ => ⟨S64x7168, .i32⟩
  | .hbm, ⟨18, _⟩ => ⟨S64x7168, .i32⟩
  | .hbm, ⟨19, _⟩ => ⟨S_, .i32⟩
  | .hbm, ⟨20, _⟩ => ⟨S64x7168, .i32⟩
  | .hbm, ⟨21, _⟩ => ⟨S64x7168, .i32⟩
  | .hbm, ⟨22, _⟩ => ⟨S128x7168, .i32⟩
  | .hbm, ⟨23, _⟩ => ⟨S128x7168, .f32⟩
  | .hbm, ⟨24, _⟩ => ⟨S128x7168, .bf16⟩
  | .hbm, ⟨25, _⟩ => ⟨S8192x7168, .i32⟩
  | .hbm, ⟨26, _⟩ => ⟨S_, .i32⟩
  | .hbm, ⟨27, _⟩ => ⟨S8192x7168, .i32⟩
  | .hbm, ⟨28, _⟩ => ⟨S8192x7168, .i32⟩
  | .hbm, ⟨29, _⟩ => ⟨S_, .i32⟩
  | .hbm, ⟨30, _⟩ => ⟨S8192x7168, .i32⟩
  | .hbm, ⟨31, _⟩ => ⟨S8192x7168, .i32⟩
  | .hbm, ⟨32, _⟩ => ⟨S64x1x8192, .bf16⟩
  | .hbm, ⟨33, _⟩ => ⟨S8192, .i32⟩
  | .hbm, ⟨34, _⟩ => ⟨S8192x7168, .f32⟩
  | .hbm, ⟨35, _⟩ => ⟨S8192x7168, .bf16⟩
  | .hbm, ⟨36, _⟩ => ⟨S_, .i32⟩
  | .hbm, ⟨37, _⟩ => ⟨S8192, .i32⟩
  | .hbm, ⟨38, _⟩ => ⟨S8192, .i1⟩
  | .hbm, ⟨39, _⟩ => ⟨S_, .i32⟩
  | .hbm, ⟨40, _⟩ => ⟨S8192, .i32⟩
  | .hbm, ⟨41, _⟩ => ⟨S8192, .i32⟩
  | .hbm, ⟨42, _⟩ => ⟨S8192, .i32⟩
  | .hbm, ⟨43, _⟩ => ⟨S8192x1, .i32⟩
  | .hbm, ⟨44, _⟩ => ⟨S8192x7168, .bf16⟩
  | .hbm, ⟨45, _⟩ => ⟨S8192x7168, .bf16⟩
  | .hbm, ⟨46, _⟩ => ⟨S_, .i32⟩
  | .hbm, ⟨47, _⟩ => ⟨S8192, .i32⟩
  | .hbm, ⟨48, _⟩ => ⟨S8192, .i1⟩
  | .hbm, ⟨49, _⟩ => ⟨S_, .i32⟩
  | .hbm, ⟨50, _⟩ => ⟨S8192, .i32⟩
  | .hbm, ⟨51, _⟩ => ⟨S8192, .i32⟩
  | .hbm, ⟨52, _⟩ => ⟨S8192, .i32⟩
  | .hbm, ⟨53, _⟩ => ⟨S8192x1, .i32⟩
  | .hbm, ⟨54, _⟩ => ⟨S8192x7168, .bf16⟩
  | .hbm, ⟨55, _⟩ => ⟨S8192x7168, .bf16⟩
  | .hbm, ⟨56, _⟩ => ⟨S64x1x7168, .f32⟩
  | .hbm, ⟨57, _⟩ => ⟨S64x1x8192, .bf16⟩
  | .hbm, ⟨58, _⟩ => ⟨S8192, .i32⟩
  | .hbm, ⟨59, _⟩ => ⟨S8192x7168, .f32⟩
  | .hbm, ⟨60, _⟩ => ⟨S8192x7168, .bf16⟩
  | .hbm, ⟨61, _⟩ => ⟨S_, .i32⟩
  | .hbm, ⟨62, _⟩ => ⟨S8192, .i32⟩
  | .hbm, ⟨63, _⟩ => ⟨S8192, .i1⟩
  | .hbm, ⟨64, _⟩ => ⟨S_, .i32⟩
  | .hbm, ⟨65, _⟩ => ⟨S8192, .i32⟩
  | .hbm, ⟨66, _⟩ => ⟨S8192, .i32⟩
  | .hbm, ⟨67, _⟩ => ⟨S8192, .i32⟩
  | .hbm, ⟨68, _⟩ => ⟨S8192x1, .i32⟩
  | .hbm, ⟨69, _⟩ => ⟨S8192x7168, .bf16⟩
  | .hbm, ⟨70, _⟩ => ⟨S8192x7168, .bf16⟩
  | .hbm, ⟨71, _⟩ => ⟨S_, .i32⟩
  | .hbm, ⟨72, _⟩ => ⟨S8192, .i32⟩
  | .hbm, ⟨73, _⟩ => ⟨S8192, .i1⟩
  | .hbm, ⟨74, _⟩ => ⟨S_, .i32⟩
  | .hbm, ⟨75, _⟩ => ⟨S8192, .i32⟩
  | .hbm, ⟨76, _⟩ => ⟨S8192, .i32⟩
  | .hbm, ⟨77, _⟩ => ⟨S8192, .i32⟩
  | .hbm, ⟨78, _⟩ => ⟨S8192x1, .i32⟩
  | .hbm, ⟨79, _⟩ => ⟨S8192x7168, .bf16⟩
  | .hbm, ⟨80, _⟩ => ⟨S8192x7168, .bf16⟩
  | .hbm, ⟨81, _⟩ => ⟨S64x1x7168, .f32⟩
  | .hbm, ⟨82, _⟩ => ⟨S64x1x7168, .f32⟩
  | .hbm, ⟨83, _⟩ => ⟨S64x1x7168, .bf16⟩
  | .hbm, ⟨84, _⟩ => ⟨S64x7168, .bf16⟩
  | _, _ => ⟨S64x1x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_5 : Ref sig .tc := ⟨.hbm, 36, rfl⟩
abbrev main_v24 : Ref sig .tc := ⟨.hbm, 37, rfl⟩
abbrev main_v25 : Ref sig .tc := ⟨.hbm, 38, rfl⟩
abbrev main_c_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_7 : Ref sig .tc := ⟨.hbm, 46, rfl⟩
abbrev main_v32 : Ref sig .tc := ⟨.hbm, 47, rfl⟩
abbrev main_v33 : Ref sig .tc := ⟨.hbm, 48, rfl⟩
abbrev main_c_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_9 : Ref sig .tc := ⟨.hbm, 61, rfl⟩
abbrev main_v45 : Ref sig .tc := ⟨.hbm, 62, rfl⟩
abbrev main_v46 : Ref sig .tc := ⟨.hbm, 63, rfl⟩
abbrev main_c_10 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c_11 : Ref sig .tc := ⟨.hbm, 71, rfl⟩
abbrev main_v53 : Ref sig .tc := ⟨.hbm, 72, rfl⟩
abbrev main_v54 : Ref sig .tc := ⟨.hbm, 73, rfl⟩
abbrev main_c_12 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩

abbrev nD : Nat := 1
abbrev τ : Topo := Topo.v7x

variable {F : FTy → Type} [FloatOps F]
-- ==== Proof.KernelHeld.lean ====
/-
  Buffers held whole, and the check every gather makes.
-/
module

public import proofs.«01_k».proof.Proof.Gen.Kernel.Loops
public import Idealize.ShloMosaic.Lib.Tactic

@[expose] public section

noncomputable section

namespace Cert.Kernel.Proof

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- Every check the body makes: the word `w &&& 4095` names a row of the table, whatever `w` is. -/
theorem chk_row (w : BitVec 32) :
    ∀ a : Fin 2, (![(Scalar.indexCast (Scalar.andi w 4095#32)).toNat, 0] : Fin 2 → Nat) a + S1x256.size a ≤ S4096x256.size a := by
  intro a; fin_cases a
  · show (w &&& 4095#32).toNat + 1 ≤ 4096
    have := Nat.and_le_right (n := w.toNat) (m := 4095)
    rw [BitVec.toNat_and]; simp only [BitVec.toNat_ofNat, Nat.reducePow, Nat.reduceMod] at this ⊢; omega
  · exact Nat.le_refl _

end Cert.Kernel.Proof

end
-- ==== Proof.KernelSlots.lean ====
/-
  The slots of the gathered columns: step `i` reads slot `i % 2` and fills the other one, in closed form.
-/
module

public import proofs.«01_k».proof.Proof.Gen.Kernel
public import Idealize.ShloMosaic.Lib.Exec

@[expose] public section

namespace Cert.Kernel.Proof

open Cert.Kernel Cert.Kernel.Gen
open Idealize.ShloMosaic

theorem slotR0_eq : ∀ i : grid0.Coords, k0_off25 i = ![(i 0).val % 2, 0, 0] := by decide +kernel
theorem slotR256_eq : ∀ i : grid0.Coords, k0_off26 i = ![(i 0).val % 2, 0, 256] := by decide +kernel
theorem slotR512_eq : ∀ i : grid0.Coords, k0_off27 i = ![(i 0).val % 2, 0, 512] := by decide +kernel
theorem slotR768_eq : ∀ i : grid0.Coords, k0_off28 i = ![(i 0).val % 2, 0, 768] := by decide +kernel
theorem slotW0_eq : ∀ i : grid0.Coords, k0_off346 i = ![1 - (i 0).val % 2, 0, 0] := by decide +kernel
theorem slotW128_eq : ∀ i : grid0.Coords, k0_off588 i = ![1 - (i 0).val % 2, 0, 128] := by decide +kernel
theorem slotW256_eq : ∀ i : grid0.Coords, k0_off910 i = ![1 - (i 0).val % 2, 0, 256] := by decide +kernel
theorem slotW384_eq : ∀ i : grid0.Coords, k0_off1150 i = ![1 - (i 0).val % 2, 0, 384] := by decide +kernel
theorem slotW512_eq : ∀ i : grid0.Coords, k0_off1392 i = ![1 - (i 0).val % 2, 0, 512] := by decide +kernel
theorem slotW640_eq : ∀ i : grid0.Coords, k0_off1714 i = ![1 - (i 0).val % 2, 0, 640] := by decide +kernel
theorem slotW768_eq : ∀ i : grid0.Coords, k0_off1956 i = ![1 - (i 0).val % 2, 0, 768] := by decide +kernel
theorem slotW896_eq : ∀ i : grid0.Coords, k0_off2196 i = ![1 - (i 0).val % 2, 0, 896] := by decide +kernel

variable (i : grid0.Coords)
instance : ClosedOff (k0_off25 i) := ⟨_, slotR0_eq i⟩
instance : ClosedOff (k0_off26 i) := ⟨_, slotR256_eq i⟩
instance : ClosedOff (k0_off27 i) := ⟨_, slotR512_eq i⟩
instance : ClosedOff (k0_off28 i) := ⟨_, slotR768_eq i⟩
instance : ClosedOff (k0_off105 i) := ⟨_, slotR0_eq i⟩
instance : ClosedOff (k0_off106 i) := ⟨_, slotR256_eq i⟩
instance : ClosedOff (k0_off107 i) := ⟨_, slotR512_eq i⟩
instance : ClosedOff (k0_off108 i) := ⟨_, slotR768_eq i⟩
instance : ClosedOff (k0_off185 i) := ⟨_, slotR0_eq i⟩
instance : ClosedOff (k0_off186 i) := ⟨_, slotR256_eq i⟩
instance : ClosedOff (k0_off187 i) := ⟨_, slotR512_eq i⟩
instance : ClosedOff (k0_off188 i) := ⟨_, slotR768_eq i⟩
instance : ClosedOff (k0_off265 i) := ⟨_, slotR0_eq i⟩
instance : ClosedOff (k0_off266 i) := ⟨_, slotR256_eq i⟩
instance : ClosedOff (k0_off267 i) := ⟨_, slotR512_eq i⟩
instance : ClosedOff (k0_off268 i) := ⟨_, slotR768_eq i⟩
instance : ClosedOff (k0_off346 i) := ⟨_, slotW0_eq i⟩
instance : ClosedOff (k0_off347 i) := ⟨_, slotR0_eq i⟩
instance : ClosedOff (k0_off348 i) := ⟨_, slotR256_eq i⟩
instance : ClosedOff (k0_off349 i) := ⟨_, slotR512_eq i⟩
instance : ClosedOff (k0_off350 i) := ⟨_, slotR768_eq i⟩
instance : ClosedOff (k0_off427 i) := ⟨_, slotR0_eq i⟩
instance : ClosedOff (k0_off428 i) := ⟨_, slotR256_eq i⟩
instance : ClosedOff (k0_off429 i) := ⟨_, slotR512_eq i⟩
instance : ClosedOff (k0_off430 i) := ⟨_, slotR768_eq i⟩
instance : ClosedOff (k0_off507 i) := ⟨_, slotR0_eq i⟩
instance : ClosedOff (k0_off508 i) := ⟨_, slotR256_eq i⟩
instance : ClosedOff (k0_off509 i) := ⟨_, slotR512_eq i⟩
instance : ClosedOff (k0_off510 i) := ⟨_, slotR768_eq i⟩
instance : ClosedOff (k0_off588 i) := ⟨_, slotW128_eq i⟩
instance : ClosedOff (k0_off589 i) := ⟨_, slotR0_eq i⟩
instance : ClosedOff (k0_off590 i) := ⟨_, slotR256_eq i⟩
instance : ClosedOff (k0_off591 i) := ⟨_, slotR512_eq i⟩
instance : ClosedOff (k0_off592 i) := ⟨_, slotR768_eq i⟩
instance : ClosedOff (k0_off669 i) := ⟨_, slotR0_eq i⟩
instance : ClosedOff (k0_off670 i) := ⟨_, slotR256_eq i⟩
instance : ClosedOff (k0_off671 i) := ⟨_, slotR512_eq i⟩
instance : ClosedOff (k0_off672 i) := ⟨_, slotR768_eq i⟩
instance : ClosedOff (k0_off749 i) := ⟨_, slotR0_eq i⟩
instance : ClosedOff (k0_off750 i) := ⟨_, slotR256_eq i⟩
instance : ClosedOff (k0_off751 i) := ⟨_, slotR512_eq i⟩
instance : ClosedOff (k0_off752 i) := ⟨_, slotR768_eq i⟩
instance : ClosedOff (k0_off829 i) := ⟨_, slotR0_eq i⟩
instance : ClosedOff (k0_off830 i) := ⟨_, slotR256_eq i⟩
instance : ClosedOff (k0_off831 i) := ⟨_, slotR512_eq i⟩
instance : ClosedOff (k0_off832 i) := ⟨_, slotR768_eq i⟩
instance : ClosedOff (k0_off910 i) := ⟨_, slotW256_eq i⟩
instance : ClosedOff (k0_off911 i) := ⟨_, slotR0_eq i⟩
instance : ClosedOff (k0_off912 i) := ⟨_, slotR256_eq i⟩
instance : ClosedOff (k0_off913 i) := ⟨_, slotR512_eq i⟩
instance : ClosedOff (k0_off914 i) := ⟨_, slotR768_eq i⟩
instance : ClosedOff (k0_off991 i) := ⟨_, slotR0_eq i⟩
instance : ClosedOff (k0_off992 i) := ⟨_, slotR256_eq i⟩
instance : ClosedOff (k0_off993 i) := ⟨_, slotR512_eq i⟩
instance : ClosedOff (k0_off994 i) := ⟨_, slotR768_eq i⟩
instance : ClosedOff (k0_off1071 i) := ⟨_, slotR0_eq i⟩
instance : ClosedOff (k0_off1072 i) := ⟨_, slotR256_eq i⟩
instance : ClosedOff (k0_off1073 i) := ⟨_, slotR512_eq i⟩
instance : ClosedOff (k0_off1074 i) := ⟨_, slotR768_eq i⟩
instance : ClosedOff (k0_off1150 i) := ⟨_, slotW384_eq i⟩
instance : ClosedOff (k0_off1151 i) := ⟨_, slotR0_eq i⟩
instance : ClosedOff (k0_off1152 i) := ⟨_, slotR256_eq i⟩
instance : ClosedOff (k0_off1153 i) := ⟨_, slotR512_eq i⟩
instance : ClosedOff (k0_off1154 i) := ⟨_, slotR768_eq i⟩
instance : ClosedOff (k0_off1231 i) := ⟨_, slotR0_eq i⟩
instance : ClosedOff (k0_off1232 i) := ⟨_, slotR256_eq i⟩
instance : ClosedOff (k0_off1233 i) := ⟨_, slotR512_eq i⟩
instance : ClosedOff (k0_off1234 i) := ⟨_, slotR768_eq i⟩
instance : ClosedOff (k0_off1311 i) := ⟨_, slotR0_eq i⟩
instance : ClosedOff (k0_off1312 i) := ⟨_, slotR256_eq i⟩
instance : ClosedOff (k0_off1313 i) := ⟨_, slotR512_eq i⟩
instance : ClosedOff (k0_off1314 i) := ⟨_, slotR768_eq i⟩
instance : ClosedOff (k0_off1392 i) := ⟨_, slotW512_eq i⟩
instance : ClosedOff (k0_off1393 i) := ⟨_, slotR0_eq i⟩
instance : ClosedOff (k0_off1394 i) := ⟨_, slotR256_eq i⟩
instance : ClosedOff (k0_off1395 i) := ⟨_, slotR512_eq i⟩
instance : ClosedOff (k0_off1396 i) := ⟨_, slotR768_eq i⟩
instance : ClosedOff (k0_off1473 i) := ⟨_, slotR0_eq i⟩
instance : ClosedOff (k0_off1474 i) := ⟨_, slotR256_eq i⟩
instance : ClosedOff (k0_off1475 i) := ⟨_, slotR512_eq i⟩
instance : ClosedOff (k0_off1476 i) := ⟨_, slotR768_eq i⟩
instance : ClosedOff (k0_off1553 i) := ⟨_, slotR0_eq i⟩
instance : ClosedOff (k0_off1554 i) := ⟨_, slotR256_eq i⟩
instance : ClosedOff (k0_off1555 i) := ⟨_, slotR512_eq i⟩
instance : ClosedOff (k0_off1556 i) := ⟨_, slotR768_eq i⟩
instance : ClosedOff (k0_off1633 i) := ⟨_, slotR0_eq i⟩
instance : ClosedOff (k0_off1634 i) := ⟨_, slotR256_eq i⟩
instance : ClosedOff (k0_off1635 i) := ⟨_, slotR512_eq i⟩
instance : ClosedOff (k0_off1636 i) := ⟨_, slotR768_eq i⟩
instance : ClosedOff (k0_off1714 i) := ⟨_, slotW640_eq i⟩
instance : ClosedOff (k0_off1715 i) := ⟨_, slotR0_eq i⟩
instance : ClosedOff (k0_off1716 i) := ⟨_, slotR256_eq i⟩
instance : ClosedOff (k0_off1717 i) := ⟨_, slotR512_eq i⟩
instance : ClosedOff (k0_off1718 i) := ⟨_, slotR768_eq i⟩
instance : ClosedOff (k0_off1795 i) := ⟨_, slotR0_eq i⟩
instance : ClosedOff (k0_off1796 i) := ⟨_, slotR256_eq i⟩
instance : ClosedOff (k0_off1797 i) := ⟨_, slotR512_eq i⟩
instance : ClosedOff (k0_off1798 i) := ⟨_, slotR768_eq i⟩
instance : ClosedOff (k0_off1875 i) := ⟨_, slotR0_eq i⟩
instance : ClosedOff (k0_off1876 i) := ⟨_, slotR256_eq i⟩
instance : ClosedOff (k0_off1877 i) := ⟨_, slotR512_eq i⟩
instance : ClosedOff (k0_off1878 i) := ⟨_, slotR768_eq i⟩
instance : ClosedOff (k0_off1956 i) := ⟨_, slotW768_eq i⟩
instance : ClosedOff (k0_off1957 i) := ⟨_, slotR0_eq i⟩
instance : ClosedOff (k0_off1958 i) := ⟨_, slotR256_eq i⟩
instance : ClosedOff (k0_off1959 i) := ⟨_, slotR512_eq i⟩
instance : ClosedOff (k0_off1960 i) := ⟨_, slotR768_eq i⟩
instance : ClosedOff (k0_off2037 i) := ⟨_, slotR0_eq i⟩
instance : ClosedOff (k0_off2038 i) := ⟨_, slotR256_eq i⟩
instance : ClosedOff (k0_off2039 i) := ⟨_, slotR512_eq i⟩
instance : ClosedOff (k0_off2040 i) := ⟨_, slotR768_eq i⟩
instance : ClosedOff (k0_off2117 i) := ⟨_, slotR0_eq i⟩
instance : ClosedOff (k0_off2118 i) := ⟨_, slotR256_eq i⟩
instance : ClosedOff (k0_off2119 i) := ⟨_, slotR512_eq i⟩
instance : ClosedOff (k0_off2120 i) := ⟨_, slotR768_eq i⟩
instance : ClosedOff (k0_off2196 i) := ⟨_, slotW896_eq i⟩
instance : ClosedOff (k0_off2197 i) := ⟨_, slotR0_eq i⟩
instance : ClosedOff (k0_off2198 i) := ⟨_, slotR256_eq i⟩
instance : ClosedOff (k0_off2199 i) := ⟨_, slotR512_eq i⟩
instance : ClosedOff (k0_off2200 i) := ⟨_, slotR768_eq i⟩

end Cert.Kernel.Proof
-- ==== Proof.KernelCore.lean ====
/-
  A step of the kernel after its opening, run once at symbolic operands.
-/
module

public import proofs.«01_k».proof.Proof.KernelHeld
public import proofs.«01_k».proof.Proof.KernelSlots

@[expose] public section

noncomputable section

namespace Cert.Kernel.Proof

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The first part of a step after its opening (`k0_part27`): the first tiles. -/
noncomputable def core500
    (i : grid0.Coords)
    (arg1 : Memref sig .tc .smem S16384 .i32) (harg1 : arg1.IsWhole)
    (arg2 : Memref sig .tc .vmem S128x128 .i32) (harg2 : arg2.IsWhole)
    (arg3 : Memref sig .tc .vmem S64x16384 .bf16) (harg3 : arg3.IsWhole)
    (arg4 : Memref sig .tc .vmem S512x7168 .i8) (harg4 : arg4.IsWhole)
    (arg5 : Memref sig .tc .vmem S8x7168 .bf16) (harg5 : arg5.IsWhole)
    (arg6 : Memref sig .tc .vmem S8x7168 .i8) (harg6 : arg6.IsWhole)
    (arg7 : Memref sig .tc .vmem S64x7168 .bf16) (harg7 : arg7.IsWhole)
    (arg8 : Memref sig .tc .vmem S4096x256 .f32) (harg8 : arg8.IsWhole)
    (arg9 : Memref sig .tc .vmem S1024x256 .f32) (harg9 : arg9.IsWhole)
    (arg10 : Memref sig .tc .vmem S2x64x1024 .bf16) (harg10 : arg10.IsWhole)
    (arg11 : Memref sig .tc .vmem S64x7168 .f32) (harg11 : arg11.IsWhole)
    (arg12 : Memref sig .tc .vmem S8x7168 .f32) (harg12 : arg12.IsWhole)
    (arg13 : Memref sig .tc .vmem S8x7168 .f32) (harg13 : arg13.IsWhole)
    (r : Σ' (arg0 : BitVec 32) (v12 : BitVec 32), BitVec 32) :
    Prog (TpuEff nD τ sig (Elt F) Λ₀ .tc) (Σ' (arg0 : BitVec 32) (v12 : BitVec 32) (v14 : BitVec 32), Vec F S1x256 .f32) := do
  let ⟨arg0, v12, v14⟩ := r
  let ⟨v59, v79⟩ : Σ' (v59 : FVec F S128x256 .bf16), FVec F S8x16x256 .bf16 ← k0_part28 i arg1 harg1 arg2 harg2 arg3 harg3 arg4 harg4 arg5 harg5 arg6 harg6 arg7 harg7 arg8 harg8 arg9 harg9 arg10 harg10 arg11 harg11 arg12 harg12 arg13 harg13
  let ⟨v92, v120, v122, v123⟩ : Σ' (v92 : FVec F S64x256 .f32) (v120 : FVec F S128x256 .bf16) (v122 : IVec S64x256 32), IVec S64x256 32 ← k0_part29 i arg1 harg1 arg2 harg2 arg3 harg3 arg4 harg4 arg5 harg5 arg6 harg6 arg7 harg7 arg8 harg8 arg9 harg9 arg10 harg10 arg11 harg11 arg12 harg12 arg13 harg13 v12 v59 v79
  let ⟨v154, v167, v169⟩ : Σ' (v154 : FVec F S64x256 .f32) (v167 : FVec F S8x16x256 .bf16), FVec F S1x256 .f32 ← k0_part30 i arg1 harg1 arg2 harg2 arg3 harg3 arg4 harg4 arg5 harg5 arg6 harg6 arg7 harg7 arg8 harg8 arg9 harg9 arg10 harg10 arg11 harg11 arg12 harg12 arg13 harg13 v12 v92 v120 v122 v123
  let v216 : FVec F S64x256 .f32 ← k0_part31 i arg1 harg1 arg2 harg2 arg3 harg3 arg4 harg4 arg5 harg5 arg6 harg6 arg7 harg7 arg8 harg8 arg9 harg9 arg10 harg10 arg11 harg11 arg12 harg12 arg13 harg13 v12 v154 v167 v169
  let ⟨v244, v257, v262⟩ : Σ' (v244 : FVec F S128x256 .bf16) (v257 : FVec F S8x16x256 .bf16), FVec F S1x16x256 .bf16 ← k0_part32 i arg1 harg1 arg2 harg2 arg3 harg3 arg4 harg4 arg5 harg5 arg6 harg6 arg7 harg7 arg8 harg8 arg9 harg9 arg10 harg10 arg11 harg11 arg12 harg12 arg13 harg13
  let ⟨v297, k0_hw10⟩ : Σ' (v297 : Elt F .i32), k0_chk10 v297 ← k0_part33 i arg1 harg1 arg2 harg2 arg3 harg3 arg4 harg4 arg5 harg5 arg6 harg6 arg7 harg7 arg8 harg8 arg9 harg9 arg10 harg10 arg11 harg11 arg12 harg12 arg13 harg13 v12 v14 v216 v244 v257 v262
  let v333 : FVec F S1x256 .f32 ← k0_part34 i arg1 harg1 arg2 harg2 arg3 harg3 arg4 harg4 arg5 harg5 arg6 harg6 arg7 harg7 arg8 harg8 arg9 harg9 arg10 harg10 arg11 harg11 arg12 harg12 arg13 harg13 v14 v297 k0_hw10
  k0_part35 i arg1 harg1 arg2 harg2 arg3 harg3 arg4 harg4 arg5 harg5 arg6 harg6 arg7 harg7 arg8 harg8 arg9 harg9 arg10 harg10 arg11 harg11 arg12 harg12 arg13 harg13 v14 v333
  let ⟨v397, k0_hw20⟩ : Σ' (v397 : Elt F .i32), k0_chk20 v397 ← k0_part36 i arg1 harg1 arg2 harg2 arg3 harg3 arg4 harg4 arg5 harg5 arg6 harg6 arg7 harg7 arg8 harg8 arg9 harg9 arg10 harg10 arg11 harg11 arg12 harg12 arg13 harg13 v14
  let v433 : FVec F S1x256 .f32 ← k0_part37 i arg1 harg1 arg2 harg2 arg3 harg3 arg4 harg4 arg5 harg5 arg6 harg6 arg7 harg7 arg8 harg8 arg9 harg9 arg10 harg10 arg11 harg11 arg12 harg12 arg13 harg13 v14 v397 k0_hw20
  k0_part38 i arg1 harg1 arg2 harg2 arg3 harg3 arg4 harg4 arg5 harg5 arg6 harg6 arg7 harg7 arg8 harg8 arg9 harg9 arg10 harg10 arg11 harg11 arg12 harg12 arg13 harg13 v14 v433
  let ⟨v497, k0_hw30⟩ : Σ' (v497 : Elt F .i32), k0_chk30 v497 ← k0_part39 i arg1 harg1 arg2 harg2 arg3 harg3 arg4 harg4 arg5 harg5 arg6 harg6 arg7 harg7 arg8 harg8 arg9 harg9 arg10 harg10 arg11 harg11 arg12 harg12 arg13 harg13 v14
  let v533 : FVec F S1x256 .f32 ← k0_part40 i arg1 harg1 arg2 harg2 arg3 harg3 arg4 harg4 arg5 harg5 arg6 harg6 arg7 harg7 arg8 harg8 arg9 harg9 arg10 harg10 arg11 harg11 arg12 harg12 arg13 harg13 v14 v497 k0_hw30
  k0_part41 i arg1 harg1 arg2 harg2 arg3 harg3 arg4 harg4 arg5 harg5 arg6 harg6 arg7 harg7 arg8 harg8 arg9 harg9 arg10 harg10 arg11 harg11 arg12 harg12 arg13 harg13 v14 v533
  let ⟨v597, k0_hw40⟩ : Σ' (v597 : Elt F .i32), k0_chk40 v597 ← k0_part42 i arg1 harg1 arg2 harg2 arg3 harg3 arg4 harg4 arg5 harg5 arg6 harg6 arg7 harg7 arg8 harg8 arg9 harg9 arg10 harg10 arg11 harg11 arg12 harg12 arg13 harg13 v14
  let v633 : FVec F S1x256 .f32 ← k0_part43 i arg1 harg1 arg2 harg2 arg3 harg3 arg4 harg4 arg5 harg5 arg6 harg6 arg7 harg7 arg8 harg8 arg9 harg9 arg10 harg10 arg11 harg11 arg12 harg12 arg13 harg13 v14 v597 k0_hw40
  let ⟨v665, c15_i32_244⟩ : Σ' (v665 : IVec S64x256 32), BitVec 32 ← k0_part44 i arg1 harg1 arg2 harg2 arg3 harg3 arg4 harg4 arg5 harg5 arg6 harg6 arg7 harg7 arg8 harg8 arg9 harg9 arg10 harg10 arg11 harg11 arg12 harg12 arg13 harg13 v14 v633
  let ⟨v691, v711, v712⟩ : Σ' (v691 : FVec F S128x256 .bf16) (v711 : FVec F S8x16x256 .bf16), Vec F S1x256 .f32 ← k0_part45 i arg1 harg1 arg2 harg2 arg3 harg3 arg4 harg4 arg5 harg5 arg6 harg6 arg7 harg7 arg8 harg8 arg9 harg9 arg10 harg10 arg11 harg11 arg12 harg12 arg13 harg13 v665 c15_i32_244
  let ⟨v724, v752, v754, v756, v757⟩ : Σ' (v724 : FVec F S64x256 .f32) (v752 : FVec F S128x256 .bf16) (v754 : IVec S64x256 32) (v756 : IVec S64x256 32), IVec S64x256 32 ← k0_part46 i arg1 harg1 arg2 harg2 arg3 harg3 arg4 harg4 arg5 harg5 arg6 harg6 arg7 harg7 arg8 harg8 arg9 harg9 arg10 harg10 arg11 harg11 arg12 harg12 arg13 harg13 v12 v691 v711 v712
  let ⟨v786, v799, v804⟩ : Σ' (v786 : FVec F S64x256 .f32) (v799 : FVec F S8x16x256 .bf16), FVec F S1x16x256 .bf16 ← k0_part47 i arg1 harg1 arg2 harg2 arg3 harg3 arg4 harg4 arg5 harg5 arg6 harg6 arg7 harg7 arg8 harg8 arg9 harg9 arg10 harg10 arg11 harg11 arg12 harg12 arg13 harg13 v12 v724 v752 v754 v756 v757
  let ⟨v848, v849⟩ : Σ' (v848 : FVec F S64x256 .f32), Vec F S64x256 .i8 ← k0_part48 i arg1 harg1 arg2 harg2 arg3 harg3 arg4 harg4 arg5 harg5 arg6 harg6 arg7 harg7 arg8 harg8 arg9 harg9 arg10 harg10 arg11 harg11 arg12 harg12 arg13 harg13 v12 v786 v799 v804
  let ⟨v876, v896⟩ : Σ' (v876 : FVec F S128x256 .bf16), FVec F S8x16x256 .bf16 ← k0_part49 i arg1 harg1 arg2 harg2 arg3 harg3 arg4 harg4 arg5 harg5 arg6 harg6 arg7 harg7 arg8 harg8 arg9 harg9 arg10 harg10 arg11 harg11 arg12 harg12 arg13 harg13 v849
  let v932 : Vec F S1x256 .f32 ← k0_part50 i arg1 harg1 arg2 harg2 arg3 harg3 arg4 harg4 arg5 harg5 arg6 harg6 arg7 harg7 arg8 harg8 arg9 harg9 arg10 harg10 arg11 harg11 arg12 harg12 arg13 harg13 v12 v14 v848 v876 v896
  let v966 : BitVec 32 ← k0_part51 i arg1 harg1 arg2 harg2 arg3 harg3 arg4 harg4 arg5 harg5 arg6 harg6 arg7 harg7 arg8 harg8 arg9 harg9 arg10 harg10 arg11 harg11 arg12 harg12 arg13 harg13 v14 v932
  let ⟨v999, k0_hw55, c4095_i32_355⟩ : Σ' (v999 : Elt F .i32) (k0_hw55 : k0_chk55 v999), BitVec 32 ← k0_part52 i arg1 harg1 arg2 harg2 arg3 harg3 arg4 harg4 arg5 harg5 arg6 harg6 arg7 harg7 arg8 harg8 arg9 harg9 arg10 harg10 arg11 harg11 arg12 harg12 arg13 harg13 v14 v966
  let v1032 : Vec F S1x256 .f32 ← k0_part53 i arg1 harg1 arg2 harg2 arg3 harg3 arg4 harg4 arg5 harg5 arg6 harg6 arg7 harg7 arg8 harg8 arg9 harg9 arg10 harg10 arg11 harg11 arg12 harg12 arg13 harg13 v14 v999 k0_hw55 c4095_i32_355
  let v1066 : BitVec 32 ← k0_part54 i arg1 harg1 arg2 harg2 arg3 harg3 arg4 harg4 arg5 harg5 arg6 harg6 arg7 harg7 arg8 harg8 arg9 harg9 arg10 harg10 arg11 harg11 arg12 harg12 arg13 harg13 v14 v1032
  let ⟨v1099, k0_hw65, c4095_i32_395⟩ : Σ' (v1099 : Elt F .i32) (k0_hw65 : k0_chk65 v1099), BitVec 32 ← k0_part55 i arg1 harg1 arg2 harg2 arg3 harg3 arg4 harg4 arg5 harg5 arg6 harg6 arg7 harg7 arg8 harg8 arg9 harg9 arg10 harg10 arg11 harg11 arg12 harg12 arg13 harg13 v14 v1066
  let v1132 : Vec F S1x256 .f32 ← k0_part56 i arg1 harg1 arg2 harg2 arg3 harg3 arg4 harg4 arg5 harg5 arg6 harg6 arg7 harg7 arg8 harg8 arg9 harg9 arg10 harg10 arg11 harg11 arg12 harg12 arg13 harg13 v14 v1099 k0_hw65 c4095_i32_395
  let v1166 : BitVec 32 ← k0_part57 i arg1 harg1 arg2 harg2 arg3 harg3 arg4 harg4 arg5 harg5 arg6 harg6 arg7 harg7 arg8 harg8 arg9 harg9 arg10 harg10 arg11 harg11 arg12 harg12 arg13 harg13 v14 v1132
  let ⟨v1199, k0_hw75, c4095_i32_436⟩ : Σ' (v1199 : Elt F .i32) (k0_hw75 : k0_chk75 v1199), BitVec 32 ← k0_part58 i arg1 harg1 arg2 harg2 arg3 harg3 arg4 harg4 arg5 harg5 arg6 harg6 arg7 harg7 arg8 harg8 arg9 harg9 arg10 harg10 arg11 harg11 arg12 harg12 arg13 harg13 v14 v1166
  let v1232 : Vec F S1x256 .f32 ← k0_part59 i arg1 harg1 arg2 harg2 arg3 harg3 arg4 harg4 arg5 harg5 arg6 harg6 arg7 harg7 arg8 harg8 arg9 harg9 arg10 harg10 arg11 harg11 arg12 harg12 arg13 harg13 v14 v1199 k0_hw75 c4095_i32_436
  let v1266 : BitVec 32 ← k0_part60 i arg1 harg1 arg2 harg2 arg3 harg3 arg4 harg4 arg5 harg5 arg6 harg6 arg7 harg7 arg8 harg8 arg9 harg9 arg10 harg10 arg11 harg11 arg12 harg12 arg13 harg13 v14 v1232
  let ⟨v1297, v1299, c4_i32_478⟩ : Σ' (v1297 : IVec S64x256 32) (v1299 : IVec S64x256 32), BitVec 32 ← k0_part61 i arg1 harg1 arg2 harg2 arg3 harg3 arg4 harg4 arg5 harg5 arg6 harg6 arg7 harg7 arg8 harg8 arg9 harg9 arg10 harg10 arg11 harg11 arg12 harg12 arg13 harg13 v14 v1266
  let ⟨v1323, v1343, v1347⟩ : Σ' (v1323 : FVec F S128x256 .bf16) (v1343 : FVec F S8x16x256 .bf16), FVec F S16x256 .bf16 ← k0_part62 i arg1 harg1 arg2 harg2 arg3 harg3 arg4 harg4 arg5 harg5 arg6 harg6 arg7 harg7 arg8 harg8 arg9 harg9 arg10 harg10 arg11 harg11 arg12 harg12 arg13 harg13 v1297 v1299 c4_i32_478
  let ⟨v1356, v1384, v1391, v1392⟩ : Σ' (v1356 : FVec F S64x256 .f32) (v1384 : FVec F S128x256 .bf16) (v1391 : IVec S64x1x256 32), IVec S64x1x256 32 ← k0_part63 i arg1 harg1 arg2 harg2 arg3 harg3 arg4 harg4 arg5 harg5 arg6 harg6 arg7 harg7 arg8 harg8 arg9 harg9 arg10 harg10 arg11 harg11 arg12 harg12 arg13 harg13 v12 v1323 v1343 v1347
  let ⟨v1418, v1438⟩ : Σ' (v1418 : FVec F S64x256 .f32), FVec F S8x16x256 .bf16 ← k0_part64 i arg1 harg1 arg2 harg2 arg3 harg3 arg4 harg4 arg5 harg5 arg6 harg6 arg7 harg7 arg8 harg8 arg9 harg9 arg10 harg10 arg11 harg11 arg12 harg12 arg13 harg13 v12 v1356 v1384 v1391 v1392
  let ⟨v1480, v1482, v1483⟩ : Σ' (v1480 : FVec F S64x256 .f32) (v1482 : IVec S64x256 32), IVec S64x256 32 ← k0_part65 i arg1 harg1 arg2 harg2 arg3 harg3 arg4 harg4 arg5 harg5 arg6 harg6 arg7 harg7 arg8 harg8 arg9 harg9 arg10 harg10 arg11 harg11 arg12 harg12 arg13 harg13 v12 v1418 v1438
  let ⟨v1508, v1528, v1530⟩ : Σ' (v1508 : FVec F S128x256 .bf16) (v1528 : FVec F S8x16x256 .bf16), FVec F S1x256 .f32 ← k0_part66 i arg1 harg1 arg2 harg2 arg3 harg3 arg4 harg4 arg5 harg5 arg6 harg6 arg7 harg7 arg8 harg8 arg9 harg9 arg10 harg10 arg11 harg11 arg12 harg12 arg13 harg13 v1482 v1483
  let v1567 : FVec F S1x256 .f32 ← k0_part67 i arg1 harg1 arg2 harg2 arg3 harg3 arg4 harg4 arg5 harg5 arg6 harg6 arg7 harg7 arg8 harg8 arg9 harg9 arg10 harg10 arg11 harg11 arg12 harg12 arg13 harg13 v12 v14 v1480 v1508 v1528 v1530
  k0_part68 i arg1 harg1 arg2 harg2 arg3 harg3 arg4 harg4 arg5 harg5 arg6 harg6 arg7 harg7 arg8 harg8 arg9 harg9 arg10 harg10 arg11 harg11 arg12 harg12 arg13 harg13 v14 v1567
  let ⟨v1631, k0_hw93⟩ : Σ' (v1631 : Elt F .i32), k0_chk93 v1631 ← k0_part69 i arg1 harg1 arg2 harg2 arg3 harg3 arg4 harg4 arg5 harg5 arg6 harg6 arg7 harg7 arg8 harg8 arg9 harg9 arg10 harg10 arg11 harg11 arg12 harg12 arg13 harg13 v14
  let v1667 : FVec F S1x256 .f32 ← k0_part70 i arg1 harg1 arg2 harg2 arg3 harg3 arg4 harg4 arg5 harg5 arg6 harg6 arg7 harg7 arg8 harg8 arg9 harg9 arg10 harg10 arg11 harg11 arg12 harg12 arg13 harg13 v14 v1631 k0_hw93
  k0_part71 i arg1 harg1 arg2 harg2 arg3 harg3 arg4 harg4 arg5 harg5 arg6 harg6 arg7 harg7 arg8 harg8 arg9 harg9 arg10 harg10 arg11 harg11 arg12 harg12 arg13 harg13 v14 v1667
  let ⟨v1731, k0_hw103⟩ : Σ' (v1731 : Elt F .i32), k0_chk103 v1731 ← k0_part72 i arg1 harg1 arg2 harg2 arg3 harg3 arg4 harg4 arg5 harg5 arg6 harg6 arg7 harg7 arg8 harg8 arg9 harg9 arg10 harg10 arg11 harg11 arg12 harg12 arg13 harg13 v14
  let v1767 : FVec F S1x256 .f32 ← k0_part73 i arg1 harg1 arg2 harg2 arg3 harg3 arg4 harg4 arg5 harg5 arg6 harg6 arg7 harg7 arg8 harg8 arg9 harg9 arg10 harg10 arg11 harg11 arg12 harg12 arg13 harg13 v14 v1731 k0_hw103
  k0_part74 i arg1 harg1 arg2 harg2 arg3 harg3 arg4 harg4 arg5 harg5 arg6 harg6 arg7 harg7 arg8 harg8 arg9 harg9 arg10 harg10 arg11 harg11 arg12 harg12 arg13 harg13 v14 v1767
  let ⟨v1831, k0_hw113⟩ : Σ' (v1831 : Elt F .i32), k0_chk113 v1831 ← k0_part75 i arg1 harg1 arg2 harg2 arg3 harg3 arg4 harg4 arg5 harg5 arg6 harg6 arg7 harg7 arg8 harg8 arg9 harg9 arg10 harg10 arg11 harg11 arg12 harg12 arg13 harg13 v14
  let v1867 : FVec F S1x256 .f32 ← k0_part76 i arg1 harg1 arg2 harg2 arg3 harg3 arg4 harg4 arg5 harg5 arg6 harg6 arg7 harg7 arg8 harg8 arg9 harg9 arg10 harg10 arg11 harg11 arg12 harg12 arg13 harg13 v14 v1831 k0_hw113
  k0_part77 i arg1 harg1 arg2 harg2 arg3 harg3 arg4 harg4 arg5 harg5 arg6 harg6 arg7 harg7 arg8 harg8 arg9 harg9 arg10 harg10 arg11 harg11 arg12 harg12 arg13 harg13 v14 v1867
  let ⟨v1933, v1934⟩ : Σ' (v1933 : IVec S64x256 32), IVec S64x1x256 32 ← k0_part78 i arg1 harg1 arg2 harg2 arg3 harg3 arg4 harg4 arg5 harg5 arg6 harg6 arg7 harg7 arg8 harg8 arg9 harg9 arg10 harg10 arg11 harg11 arg12 harg12 arg13 harg13 v14
  let ⟨v1955, v1982⟩ : Σ' (v1955 : FVec F S128x256 .bf16), FVec F S8x16x256 .bf16 ← k0_part79 i arg1 harg1 arg2 harg2 arg3 harg3 arg4 harg4 arg5 harg5 arg6 harg6 arg7 harg7 arg8 harg8 arg9 harg9 arg10 harg10 arg11 harg11 arg12 harg12 arg13 harg13 v1933 v1934
  let ⟨v1988, v2016, v2027⟩ : Σ' (v1988 : FVec F S64x256 .f32) (v2016 : FVec F S128x256 .bf16), FVec F S128x256 .f32 ← k0_part80 i arg1 harg1 arg2 harg2 arg3 harg3 arg4 harg4 arg5 harg5 arg6 harg6 arg7 harg7 arg8 harg8 arg9 harg9 arg10 harg10 arg11 harg11 arg12 harg12 arg13 harg13 v12 v1955 v1982
  let ⟨v2050, v2070, v2072⟩ : Σ' (v2050 : FVec F S64x256 .f32) (v2070 : FVec F S8x16x256 .bf16), FVec F S1x256 .f32 ← k0_part81 i arg1 harg1 arg2 harg2 arg3 harg3 arg4 harg4 arg5 harg5 arg6 harg6 arg7 harg7 arg8 harg8 arg9 harg9 arg10 harg10 arg11 harg11 arg12 harg12 arg13 harg13 v12 v1988 v2016 v2027
  let ⟨v2112, v2114, v2116, v2117⟩ : Σ' (v2112 : FVec F S64x256 .f32) (v2114 : IVec S64x256 32) (v2116 : IVec S64x256 32), IVec S64x256 32 ← k0_part82 i arg1 harg1 arg2 harg2 arg3 harg3 arg4 harg4 arg5 harg5 arg6 harg6 arg7 harg7 arg8 harg8 arg9 harg9 arg10 harg10 arg11 harg11 arg12 harg12 arg13 harg13 v12 v2050 v2070 v2072
  let ⟨v2140, v2160, v2165⟩ : Σ' (v2140 : FVec F S128x256 .bf16) (v2160 : FVec F S8x16x256 .bf16), FVec F S1x16x256 .bf16 ← k0_part83 i arg1 harg1 arg2 harg2 arg3 harg3 arg4 harg4 arg5 harg5 arg6 harg6 arg7 harg7 arg8 harg8 arg9 harg9 arg10 harg10 arg11 harg11 arg12 harg12 arg13 harg13 v2114 v2116 v2117
  let v2200 : BitVec 32 ← k0_part84 i arg1 harg1 arg2 harg2 arg3 harg3 arg4 harg4 arg5 harg5 arg6 harg6 arg7 harg7 arg8 harg8 arg9 harg9 arg10 harg10 arg11 harg11 arg12 harg12 arg13 harg13 v12 v14 v2112 v2140 v2160 v2165
  let ⟨v2233, k0_hw128, c4095_i32_808⟩ : Σ' (v2233 : Elt F .i32) (k0_hw128 : k0_chk128 v2233), BitVec 32 ← k0_part85 i arg1 harg1 arg2 harg2 arg3 harg3 arg4 harg4 arg5 harg5 arg6 harg6 arg7 harg7 arg8 harg8 arg9 harg9 arg10 harg10 arg11 harg11 arg12 harg12 arg13 harg13 v14 v2200
  let v2266 : Vec F S1x256 .f32 ← k0_part86 i arg1 harg1 arg2 harg2 arg3 harg3 arg4 harg4 arg5 harg5 arg6 harg6 arg7 harg7 arg8 harg8 arg9 harg9 arg10 harg10 arg11 harg11 arg12 harg12 arg13 harg13 v14 v2233 k0_hw128 c4095_i32_808
  pure ⟨arg0, v12, v14, v2266⟩

/-- A step after its opening: the tiles with the next step's gathers, and the last step's result. -/
noncomputable def core
    (i : grid0.Coords)
    (arg1 : Memref sig .tc .smem S16384 .i32) (harg1 : arg1.IsWhole)
    (arg2 : Memref sig .tc .vmem S128x128 .i32) (harg2 : arg2.IsWhole)
    (arg3 : Memref sig .tc .vmem S64x16384 .bf16) (harg3 : arg3.IsWhole)
    (arg4 : Memref sig .tc .vmem S512x7168 .i8) (harg4 : arg4.IsWhole)
    (arg5 : Memref sig .tc .vmem S8x7168 .bf16) (harg5 : arg5.IsWhole)
    (arg6 : Memref sig .tc .vmem S8x7168 .i8) (harg6 : arg6.IsWhole)
    (arg7 : Memref sig .tc .vmem S64x7168 .bf16) (harg7 : arg7.IsWhole)
    (arg8 : Memref sig .tc .vmem S4096x256 .f32) (harg8 : arg8.IsWhole)
    (arg9 : Memref sig .tc .vmem S1024x256 .f32) (harg9 : arg9.IsWhole)
    (arg10 : Memref sig .tc .vmem S2x64x1024 .bf16) (harg10 : arg10.IsWhole)
    (arg11 : Memref sig .tc .vmem S64x7168 .f32) (harg11 : arg11.IsWhole)
    (arg12 : Memref sig .tc .vmem S8x7168 .f32) (harg12 : arg12.IsWhole)
    (arg13 : Memref sig .tc .vmem S8x7168 .f32) (harg13 : arg13.IsWhole)
    (r : Σ' (arg0 : BitVec 32) (v12 : BitVec 32), BitVec 32) :
    Prog (TpuEff nD τ sig (Elt F) Λ₀ .tc) PUnit := do
  let ⟨arg0, v12, v14, v2266⟩ : Σ' (arg0 : BitVec 32) (v12 : BitVec 32) (v14 : BitVec 32), Vec F S1x256 .f32 ← core500 i arg1 harg1 arg2 harg2 arg3 harg3 arg4 harg4 arg5 harg5 arg6 harg6 arg7 harg7 arg8 harg8 arg9 harg9 arg10 harg10 arg11 harg11 arg12 harg12 arg13 harg13 r
  let v4481 : Elt F .i32 ← k0_part501 i arg1 harg1 arg2 harg2 arg3 harg3 arg4 harg4 arg5 harg5 arg6 harg6 arg7 harg7 arg8 harg8 arg9 harg9 arg10 harg10 arg11 harg11 arg12 harg12 arg13 harg13 v12 v14 v2266
  let ⟨v6761, k0_hw394⟩ : Σ' (v6761 : Elt F .i32), k0_chk394 v6761 ← k0_part502 i arg1 harg1 arg2 harg2 arg3 harg3 arg4 harg4 arg5 harg5 arg6 harg6 arg7 harg7 arg8 harg8 arg9 harg9 arg10 harg10 arg11 harg11 arg12 harg12 arg13 harg13 v12 v14 v4481
  let v8975 : FVec F S1x256 .f32 ← k0_part503 i arg1 harg1 arg2 harg2 arg3 harg3 arg4 harg4 arg5 harg5 arg6 harg6 arg7 harg7 arg8 harg8 arg9 harg9 arg10 harg10 arg11 harg11 arg12 harg12 arg13 harg13 v12 v14 v6761 k0_hw394
  let ⟨v11210, v11267⟩ : Σ' (v11210 : FVec F S64x256 .f32), FVec F S256x256 .bf16 ← k0_part504 i arg1 harg1 arg2 harg2 arg3 harg3 arg4 harg4 arg5 harg5 arg6 harg6 arg7 harg7 arg8 harg8 arg9 harg9 arg10 harg10 arg11 harg11 arg12 harg12 arg13 harg13 v12 v14 v8975
  let ⟨v13467, k0_hw797⟩ : Σ' (v13467 : Elt F .i32), k0_chk797 v13467 ← k0_part505 i arg1 harg1 arg2 harg2 arg3 harg3 arg4 harg4 arg5 harg5 arg6 harg6 arg7 harg7 arg8 harg8 arg9 harg9 arg10 harg10 arg11 harg11 arg12 harg12 arg13 harg13 v12 v14 v11210 v11267
  let ⟨v15738, v15747⟩ : Σ' (v15738 : FVec F S64x256 .f32), IVec S64x2x256 32 ← k0_part506 i arg1 harg1 arg2 harg2 arg3 harg3 arg4 harg4 arg5 harg5 arg6 harg6 arg7 harg7 arg8 harg8 arg9 harg9 arg10 harg10 arg11 harg11 arg12 harg12 arg13 harg13 v12 v14 v13467 k0_hw797
  k0_part507 i arg1 harg1 arg2 harg2 arg3 harg3 arg4 harg4 arg5 harg5 arg6 harg6 arg7 harg7 arg8 harg8 arg9 harg9 arg10 harg10 arg11 harg11 arg12 harg12 arg13 harg13 arg0 v12 v14 v15738 v15747
  if k0_h2 : k0_cond2 i = 1#1 then do
    let v17747 : Vec F S64x7168 .f32 ← Prog.lift (.load arg11 (Rect.unit (s := S64x7168) ![0, 0] S64x7168.size inb_S64x7168_S64x7168_0_0).toLoadRect (View.loadsAt_vmem h_S64x7168))
    let v17749 : Vec F S64x7168 .bf16 ← Prog.lift (.load arg7 (Rect.unit (s := S64x7168) ![0, 0] S64x7168.size inb_S64x7168_S64x7168_0_0).toLoadRect (View.loadsAt_vmem h_S64x7168))
    Prog.lift (.store arg7 (Rect.unit (s := S64x7168) ![0, 0] S64x7168.size inb_S64x7168_S64x7168_0_0) (k0_pay1 v17747) Finset.univ (View.stores_vmem h_S64x7168 (harg7.storeExact_slice rfl _ packedbf16_S64x7168_S64x7168_0_0) (fun _ => rfl)) (.inl rfl))
    pure ⟨⟩
  else do
    pure ⟨⟩
  pure ⟨⟩

/-- The body is its opening, then the rest. -/
theorem kernel_split
    (i : grid0.Coords)
    (arg1 : Memref sig .tc .smem S16384 .i32) (harg1 : arg1.IsWhole)
    (arg2 : Memref sig .tc .vmem S128x128 .i32) (harg2 : arg2.IsWhole)
    (arg3 : Memref sig .tc .vmem S64x16384 .bf16) (harg3 : arg3.IsWhole)
    (arg4 : Memref sig .tc .vmem S512x7168 .i8) (harg4 : arg4.IsWhole)
    (arg5 : Memref sig .tc .vmem S8x7168 .bf16) (harg5 : arg5.IsWhole)
    (arg6 : Memref sig .tc .vmem S8x7168 .i8) (harg6 : arg6.IsWhole)
    (arg7 : Memref sig .tc .vmem S64x7168 .bf16) (harg7 : arg7.IsWhole)
    (arg8 : Memref sig .tc .vmem S4096x256 .f32) (harg8 : arg8.IsWhole)
    (arg9 : Memref sig .tc .vmem S1024x256 .f32) (harg9 : arg9.IsWhole)
    (arg10 : Memref sig .tc .vmem S2x64x1024 .bf16) (harg10 : arg10.IsWhole)
    (arg11 : Memref sig .tc .vmem S64x7168 .f32) (harg11 : arg11.IsWhole)
    (arg12 : Memref sig .tc .vmem S8x7168 .f32) (harg12 : arg12.IsWhole)
    (arg13 : Memref sig .tc .vmem S8x7168 .f32) (harg13 : arg13.IsWhole) :
    cc0__kernel (F := F) i arg1 harg1 arg2 harg2 arg3 harg3 arg4 harg4 arg5 harg5 arg6 harg6 arg7 harg7 arg8 harg8 arg9 harg9 arg10 harg10 arg11 harg11 arg12 harg12 arg13 harg13 = (k0_part27 i arg1 harg1 arg2 harg2 arg3 harg3 arg4 harg4 arg5 harg5 arg6 harg6 arg7 harg7 arg8 harg8 arg9 harg9 arg10 harg10 arg11 harg11 arg12 harg12 arg13 harg13 >>= fun r => core i arg1 harg1 arg2 harg2 arg3 harg3 arg4 harg4 arg5 harg5 arg6 harg6 arg7 harg7 arg8 harg8 arg9 harg9 arg10 harg10 arg11 harg11 arg12 harg12 arg13 harg13 r) := by
  rw [cc0__kernel_eq_skeleton]; unfold cc0__kernel_skel; rw [k0_part500_eq_skeleton]
  exact Prog.bind_assoc _ _ _

/-- What a step leaves after its opening, WITH the proof that it runs there: the result's block, the gathered rows,
    the two slots of gathered columns and the accumulator; every other buffer as it was. -/
noncomputable def coreRun (c : Dev nD)
    (i : grid0.Coords)
    (arg1 : Memref sig .tc .smem S16384 .i32) (harg1 : arg1.IsWhole)
    (arg2 : Memref sig .tc .vmem S128x128 .i32) (harg2 : arg2.IsWhole)
    (arg3 : Memref sig .tc .vmem S64x16384 .bf16) (harg3 : arg3.IsWhole)
    (arg4 : Memref sig .tc .vmem S512x7168 .i8) (harg4 : arg4.IsWhole)
    (arg5 : Memref sig .tc .vmem S8x7168 .bf16) (harg5 : arg5.IsWhole)
    (arg6 : Memref sig .tc .vmem S8x7168 .i8) (harg6 : arg6.IsWhole)
    (arg7 : Memref sig .tc .vmem S64x7168 .bf16) (harg7 : arg7.IsWhole)
    (arg8 : Memref sig .tc .vmem S4096x256 .f32) (harg8 : arg8.IsWhole)
    (arg9 : Memref sig .tc .vmem S1024x256 .f32) (harg9 : arg9.IsWhole)
    (arg10 : Memref sig .tc .vmem S2x64x1024 .bf16) (harg10 : arg10.IsWhole)
    (arg11 : Memref sig .tc .vmem S64x7168 .f32) (harg11 : arg11.IsWhole)
    (arg12 : Memref sig .tc .vmem S8x7168 .f32) (harg12 : arg12.IsWhole)
    (arg13 : Memref sig .tc .vmem S8x7168 .f32) (harg13 : arg13.IsWhole)
    (v0 v12 v14 : BitVec 32)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) :
    { W : Bf (F := F) c arg7 × Bf (F := F) c arg9 × Bf (F := F) c arg10 × Bf (F := F) c arg11 //
      ∀ (E : Set ℕ) (Q : PUnit → sProp 𝕄),
        iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13
          ∗ (iprop(pt c arg1 f1 ∗ pt c arg2 f2 ∗ pt c arg3 f3 ∗ pt c arg4 f4 ∗ pt c arg5 f5 ∗ pt c arg6 f6 ∗ pt c arg7 W.1 ∗ pt c arg8 f8 ∗ pt c arg9 W.2.1 ∗ pt c arg10 W.2.2.1 ∗ pt c arg11 W.2.2.2 ∗ pt c arg12 f12 ∗ pt c arg13 f13) -∗ Q ⟨⟩))
        ⊢ wp frame (wpE (defs₀ (F := F)) Variants.none c none) E
            (core i arg1 harg1 arg2 harg2 arg3 harg3 arg4 harg4 arg5 harg5 arg6 harg6 arg7 harg7 arg8 harg8 arg9 harg9 arg10 harg10 arg11 harg11 arg12 harg12 arg13 harg13 ⟨v0, v12, v14⟩) Q } := by
  refine ⟨⟨?_, ?_, ?_, ?_⟩, fun E Q => ?run⟩
  case run =>
    iintro ⟨H1, H2, H3, H4, H5, H6, H7, H8, H9, H10, H11, H12, H13, Hk⟩
    unfold core core500
    sl_exec_parts (disch := exact chk_row _)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

end Cert.Kernel.Proof

end
-- ==== Proof.KernelOpen.lean ====
/-
  The opening of a step: on the first step the table, the first rows gathered and the cleared accumulator; on every
  step the scales and zero points. And a whole step, its opening and the rest.
-/
module

public import proofs.«01_k».proof.Proof.KernelCore

@[expose] public section

noncomputable section

namespace Cert.Kernel.Proof

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option warn.classDefReducibility false in
/-- The opening's gather loop: the rows are held at something. -/
@[sl_loop] noncomputable def loopInv_k0_t1 (c : Dev nD)
    (i : grid0.Coords)
    (arg1 : Memref sig .tc .smem S16384 .i32) (harg1 : arg1.IsWhole)
    (arg2 : Memref sig .tc .vmem S128x128 .i32) (harg2 : arg2.IsWhole)
    (arg3 : Memref sig .tc .vmem S64x16384 .bf16) (harg3 : arg3.IsWhole)
    (arg4 : Memref sig .tc .vmem S512x7168 .i8) (harg4 : arg4.IsWhole)
    (arg5 : Memref sig .tc .vmem S8x7168 .bf16) (harg5 : arg5.IsWhole)
    (arg6 : Memref sig .tc .vmem S8x7168 .i8) (harg6 : arg6.IsWhole)
    (arg7 : Memref sig .tc .vmem S64x7168 .bf16) (harg7 : arg7.IsWhole)
    (arg8 : Memref sig .tc .vmem S4096x256 .f32) (harg8 : arg8.IsWhole)
    (arg9 : Memref sig .tc .vmem S1024x256 .f32) (harg9 : arg9.IsWhole)
    (arg10 : Memref sig .tc .vmem S2x64x1024 .bf16) (harg10 : arg10.IsWhole)
    (arg11 : Memref sig .tc .vmem S64x7168 .f32) (harg11 : arg11.IsWhole)
    (arg12 : Memref sig .tc .vmem S8x7168 .f32) (harg12 : arg12.IsWhole)
    (arg13 : Memref sig .tc .vmem S8x7168 .f32) (harg13 : arg13.IsWhole)
    (k0_h1 : k0_cond1 i = 1#1) (c0_i32_6700 c1_i32_6702 : BitVec 32)
    (f1 : Bf (F := F) c arg1) (f8 : Bf (F := F) c arg8) :
    Gen.LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 k0_h1 c0_i32_6700 c1_i32_6702 where
  inv := fun k _ => iprop(pt c arg1 f1 ∗ pt c arg8 f8 ∗ ∃ f9 : Bf (F := F) c arg9, pt c arg9 f9)
  step := fun k _ => by
    iintro ⟨H1, H8, %f9, H9⟩
    unfold k0_t1_body
    sl_exec (disch := exact fun _ => chk_row _)
    sl_step
    isplitl [H1]; · iexact H1
    isplitl [H8]; · iexact H8
    iexists _; iexact H9

set_option maxRecDepth 100000 in
/-- The opening runs; it changes the scratch buffers only. -/
theorem openRun (c : Dev nD)
    (i : grid0.Coords)
    (arg1 : Memref sig .tc .smem S16384 .i32) (harg1 : arg1.IsWhole)
    (arg2 : Memref sig .tc .vmem S128x128 .i32) (harg2 : arg2.IsWhole)
    (arg3 : Memref sig .tc .vmem S64x16384 .bf16) (harg3 : arg3.IsWhole)
    (arg4 : Memref sig .tc .vmem S512x7168 .i8) (harg4 : arg4.IsWhole)
    (arg5 : Memref sig .tc .vmem S8x7168 .bf16) (harg5 : arg5.IsWhole)
    (arg6 : Memref sig .tc .vmem S8x7168 .i8) (harg6 : arg6.IsWhole)
    (arg7 : Memref sig .tc .vmem S64x7168 .bf16) (harg7 : arg7.IsWhole)
    (arg8 : Memref sig .tc .vmem S4096x256 .f32) (harg8 : arg8.IsWhole)
    (arg9 : Memref sig .tc .vmem S1024x256 .f32) (harg9 : arg9.IsWhole)
    (arg10 : Memref sig .tc .vmem S2x64x1024 .bf16) (harg10 : arg10.IsWhole)
    (arg11 : Memref sig .tc .vmem S64x7168 .f32) (harg11 : arg11.IsWhole)
    (arg12 : Memref sig .tc .vmem S8x7168 .f32) (harg12 : arg12.IsWhole)
    (arg13 : Memref sig .tc .vmem S8x7168 .f32) (harg13 : arg13.IsWhole)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (R : sProp 𝕄)
    (Q : (Σ' (arg0 : BitVec 32) (v12 : BitVec 32), BitVec 32) → sProp 𝕄)
    (hQ : ∀ r (g8 : Bf (F := F) c arg8) (g9 : Bf (F := F) c arg9) (g10 : Bf (F := F) c arg10) (g11 : Bf (F := F) c arg11) (g12 : Bf (F := F) c arg12) (g13 : Bf (F := F) c arg13), iprop((pt c arg1 f1 ∗ pt c arg2 f2 ∗ pt c arg3 f3 ∗ pt c arg4 f4 ∗ pt c arg5 f5 ∗ pt c arg6 f6 ∗ pt c arg7 f7 ∗ pt c arg8 g8 ∗ pt c arg9 g9 ∗ pt c arg10 g10 ∗ pt c arg11 g11 ∗ pt c arg12 g12 ∗ pt c arg13 g13) ∗ R) ⊢ Q r) :
    iprop((pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13) ∗ R)
      ⊢ wp frame (wpE (defs₀ (F := F)) Variants.none c none) Set.univ
          (k0_part27 i arg1 harg1 arg2 harg2 arg3 harg3 arg4 harg4 arg5 harg5 arg6 harg6 arg7 harg7 arg8 harg8 arg9 harg9 arg10 harg10 arg11 harg11 arg12 harg12 arg13 harg13) Q := by
  iintro ⟨⟨H1, H2, H3, H4, H5, H6, H7, H8, H9, H10, H11, H12, H13⟩, HR⟩
  by_cases k0_h1 : k0_cond1 i = 1#1
  · sl_exec_parts (disch := exact fun _ => chk_row _)
    sl_step
    iapply (hQ _ _ _ _ _ _ _)
    isplitr [HR]; swap; · iexact HR
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · sl_exec_parts (disch := exact fun _ => chk_row _)
    sl_step
    iapply (hQ _ _ _ _ _ _ _)
    isplitr [HR]; swap; · iexact HR
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- The rest of a step, after its opening: what it leaves in the four buffers it writes, as `coreRun` names it. -/
theorem core_spec (c : Dev nD)
    (i : grid0.Coords)
    (arg1 : Memref sig .tc .smem S16384 .i32) (harg1 : arg1.IsWhole)
    (arg2 : Memref sig .tc .vmem S128x128 .i32) (harg2 : arg2.IsWhole)
    (arg3 : Memref sig .tc .vmem S64x16384 .bf16) (harg3 : arg3.IsWhole)
    (arg4 : Memref sig .tc .vmem S512x7168 .i8) (harg4 : arg4.IsWhole)
    (arg5 : Memref sig .tc .vmem S8x7168 .bf16) (harg5 : arg5.IsWhole)
    (arg6 : Memref sig .tc .vmem S8x7168 .i8) (harg6 : arg6.IsWhole)
    (arg7 : Memref sig .tc .vmem S64x7168 .bf16) (harg7 : arg7.IsWhole)
    (arg8 : Memref sig .tc .vmem S4096x256 .f32) (harg8 : arg8.IsWhole)
    (arg9 : Memref sig .tc .vmem S1024x256 .f32) (harg9 : arg9.IsWhole)
    (arg10 : Memref sig .tc .vmem S2x64x1024 .bf16) (harg10 : arg10.IsWhole)
    (arg11 : Memref sig .tc .vmem S64x7168 .f32) (harg11 : arg11.IsWhole)
    (arg12 : Memref sig .tc .vmem S8x7168 .f32) (harg12 : arg12.IsWhole)
    (arg13 : Memref sig .tc .vmem S8x7168 .f32) (harg13 : arg13.IsWhole)
    (v0 v12 v14 : BitVec 32)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) :
    ∃ (g7 : Bf (F := F) c arg7) (g9 : Bf (F := F) c arg9) (g10 : Bf (F := F) c arg10) (g11 : Bf (F := F) c arg11),
      (g7, g9, g10, g11) = (coreRun c i arg1 harg1 arg2 harg2 arg3 harg3 arg4 harg4 arg5 harg5 arg6 harg6 arg7 harg7 arg8 harg8 arg9 harg9 arg10 harg10 arg11 harg11 arg12 harg12 arg13 harg13 v0 v12 v14 f1 f2 f3 f4 f5 f6 f7 f8 f9 f10 f11 f12 f13).1 ∧
      ∀ (E : Set ℕ) (Q : PUnit → sProp 𝕄),
        iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13
          ∗ (iprop(pt c arg1 f1 ∗ pt c arg2 f2 ∗ pt c arg3 f3 ∗ pt c arg4 f4 ∗ pt c arg5 f5 ∗ pt c arg6 f6 ∗ pt c arg7 g7 ∗ pt c arg8 f8 ∗ pt c arg9 g9 ∗ pt c arg10 g10 ∗ pt c arg11 g11 ∗ pt c arg12 f12 ∗ pt c arg13 f13) -∗ Q ⟨⟩))
        ⊢ wp frame (wpE (defs₀ (F := F)) Variants.none c none) E (core i arg1 harg1 arg2 harg2 arg3 harg3 arg4 harg4 arg5 harg5 arg6 harg6 arg7 harg7 arg8 harg8 arg9 harg9 arg10 harg10 arg11 harg11 arg12 harg12 arg13 harg13 ⟨v0, v12, v14⟩) Q := by
  generalize coreRun c i arg1 harg1 arg2 harg2 arg3 harg3 arg4 harg4 arg5 harg5 arg6 harg6 arg7 harg7 arg8 harg8 arg9 harg9 arg10 harg10 arg11 harg11 arg12 harg12 arg13 harg13 v0 v12 v14 f1 f2 f3 f4 f5 f6 f7 f8 f9 f10 f11 f12 f13 = W
  obtain ⟨⟨g7, g9, g10, g11⟩, h⟩ := W
  exact ⟨g7, g9, g10, g11, rfl, h⟩

set_option maxRecDepth 100000 in
/-- A whole step runs; it changes the result's block and the scratch buffers but the last two, and these in its opening. -/
theorem stepRun (c : Dev nD)
    (i : grid0.Coords)
    (arg1 : Memref sig .tc .smem S16384 .i32) (harg1 : arg1.IsWhole)
    (arg2 : Memref sig .tc .vmem S128x128 .i32) (harg2 : arg2.IsWhole)
    (arg3 : Memref sig .tc .vmem S64x16384 .bf16) (harg3 : arg3.IsWhole)
    (arg4 : Memref sig .tc .vmem S512x7168 .i8) (harg4 : arg4.IsWhole)
    (arg5 : Memref sig .tc .vmem S8x7168 .bf16) (harg5 : arg5.IsWhole)
    (arg6 : Memref sig .tc .vmem S8x7168 .i8) (harg6 : arg6.IsWhole)
    (arg7 : Memref sig .tc .vmem S64x7168 .bf16) (harg7 : arg7.IsWhole)
    (arg8 : Memref sig .tc .vmem S4096x256 .f32) (harg8 : arg8.IsWhole)
    (arg9 : Memref sig .tc .vmem S1024x256 .f32) (harg9 : arg9.IsWhole)
    (arg10 : Memref sig .tc .vmem S2x64x1024 .bf16) (harg10 : arg10.IsWhole)
    (arg11 : Memref sig .tc .vmem S64x7168 .f32) (harg11 : arg11.IsWhole)
    (arg12 : Memref sig .tc .vmem S8x7168 .f32) (harg12 : arg12.IsWhole)
    (arg13 : Memref sig .tc .vmem S8x7168 .f32) (harg13 : arg13.IsWhole)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (R : sProp 𝕄) (Q : PUnit → sProp 𝕄)
    (hQ : ∀ (g7 : Bf (F := F) c arg7) (g8 : Bf (F := F) c arg8) (g9 : Bf (F := F) c arg9) (g10 : Bf (F := F) c arg10) (g11 : Bf (F := F) c arg11) (g12 : Bf (F := F) c arg12) (g13 : Bf (F := F) c arg13), iprop((pt c arg1 f1 ∗ pt c arg2 f2 ∗ pt c arg3 f3 ∗ pt c arg4 f4 ∗ pt c arg5 f5 ∗ pt c arg6 f6 ∗ pt c arg7 g7 ∗ pt c arg8 g8 ∗ pt c arg9 g9 ∗ pt c arg10 g10 ∗ pt c arg11 g11 ∗ pt c arg12 g12 ∗ pt c arg13 g13) ∗ R) ⊢ Q ⟨⟩) :
    iprop((pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13) ∗ R)
      ⊢ wp frame (wpE (defs₀ (F := F)) Variants.none c none) Set.univ
          (cc0__kernel i arg1 harg1 arg2 harg2 arg3 harg3 arg4 harg4 arg5 harg5 arg6 harg6 arg7 harg7 arg8 harg8 arg9 harg9 arg10 harg10 arg11 harg11 arg12 harg12 arg13 harg13) Q := by
  rw [kernel_split, wp_bind]
  refine openRun c i arg1 harg1 arg2 harg2 arg3 harg3 arg4 harg4 arg5 harg5 arg6 harg6 arg7 harg7 arg8 harg8 arg9 harg9 arg10 harg10 arg11 harg11 arg12 harg12 arg13 harg13 f1 f2 f3 f4 f5 f6 f7 f8 f9 f10 f11 f12 f13 R _ ?_
  rintro ⟨v0, v12, v14⟩ g8 g9 g10 g11 g12 g13
  obtain ⟨W7, W9, W10, W11, -, hW⟩ := core_spec c i arg1 harg1 arg2 harg2 arg3 harg3 arg4 harg4 arg5 harg5 arg6 harg6 arg7 harg7 arg8 harg8 arg9 harg9 arg10 harg10 arg11 harg11 arg12 harg12 arg13 harg13 v0 v12 v14 f1 f2 f3 f4 f5 f6 f7 g8 g9 g10 g11 g12 g13
  iintro ⟨⟨H1, H2, H3, H4, H5, H6, H7, H8, H9, H10, H11, H12, H13⟩, HR⟩
  iapply (hW Set.univ Q)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨H1, H2, H3, H4, H5, H6, H7, H8, H9, H10, H11, H12, H13⟩
  iapply (hQ _ _ _ _ _ _ _)
  isplitr [HR]; swap; · iexact HR
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

end Cert.Kernel.Proof

end
-- ==== Proof.KernelFrame.lean ====
/-
  The frame of the kernel: it terminates, leaves its arguments as they were and every semaphore counter at zero.

  The scratch buffers are held at something between the steps and the result's block is not described.
-/
module

public import proofs.«01_k».proof.Proof.KernelOpen
public import proofs.«01_k».proof.Proof.Gen.Kernel.Frame
public import proofs.«01_k».proof.Proof.Gen.Kernel.Points
public import Idealize.ShloMosaic.Lib.Pipeline.KitQuiescent

@[expose] public section

noncomputable section

namespace Cert.Kernel.Proof

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [∀ e, Nonempty (Elt F e)]

local notation "𝕄" => MT nD τ sig Unit (Elt F) ℕ (UR sig nD τ) ℕ

/-- The proof's resource algebra: the pipeline's. -/
abbrev EP : Emb (UR sig nD τ) (MT nD τ sig Unit (Elt F) ℕ (UR sig nD τ) ℕ) := emb₁

/-- The launch element: every staging cell's owner at round 0 and a duty token for every transfer. -/
def u₀ : UR sig nD τ := initOf (Pipeline.cells cfgs launch0.cellOf_inj) (Pipeline.launchToks cfgs launch0.cellOf_inj)

omit [FloatOps F] [∀ e, Nonempty (Elt F e)] in
/-- Owning a whole buffer's memref at `X` is holding the buffer at contents that read `X`. -/
theorem owns_held (c : Dev nD) {sp : Space} {S : Shape} {e : EltTy} {M : Memref sig .tc sp S e} (h : M.IsWhole) (X : S.Idx → Elt F e) :
    (owns (c : Thread nD τ) M fullShare X : sProp 𝕄) = iprop(∃ f : Bf (F := F) c M, ⌜M.view.read (Elt F) f = X⌝ ∗ pt c M f) := by
  unfold owns; rw [h.set_eq_univ]

/-- Window 0's buffers are whole. -/
theorem hst0_0 (t : Fin cfg0.N) : (st0_0 t).IsWhole := hstage0_0 ((cfg0.slots t 0).cast nbuf0_0)
/-- Window 1's buffers are whole. -/
theorem hst0_1 (t : Fin cfg0.N) : (st0_1 t).IsWhole := hstage0_1 ((cfg0.slots t 1).cast nbuf0_1)
/-- Window 2's buffers are whole. -/
theorem hst0_2 (t : Fin cfg0.N) : (st0_2 t).IsWhole := hstage0_2 ((cfg0.slots t 2).cast nbuf0_2)
/-- Window 3's buffers are whole. -/
theorem hst0_3 (t : Fin cfg0.N) : (st0_3 t).IsWhole := hstage0_3 ((cfg0.slots t 3).cast nbuf0_3)
/-- Window 4's buffers are whole. -/
theorem hst0_4 (t : Fin cfg0.N) : (st0_4 t).IsWhole := hstage0_4 ((cfg0.slots t 4).cast nbuf0_4)
/-- Window 5's buffers are whole. -/
theorem hst0_5 (t : Fin cfg0.N) : (st0_5 t).IsWhole := hstage0_5 ((cfg0.slots t 5).cast nbuf0_5)
/-- Window 6's buffers are whole. -/
theorem hst0_6 (t : Fin cfg0.N) : (st0_6 t).IsWhole := hstage0_6 ((cfg0.slots t 6).cast nbuf0_6)

variable (m : (ℓ : Loc nD τ sig) → Buf (Elt F) ℓ) (ρ : Dev nD → PrngReg)

/-- The window the frame does not describe: the result's. -/
def fgt : Fin 7 → Bool
  | 0 => false | 1 => false | 2 => false | 3 => false | 4 => false | 5 => false | 6 => true

/-- The frame's proof data: every input's block stays as fetched, the scratch buffers are held at something. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => fun _ => Classical.arbitrary _
  Φ _ := Pipeline.scopedRest spec0 c
  q _ := fullShare
  owed _ := 0

set_option maxHeartbeats 2000000 in
/-- A step, from the six input blocks and the scratch buffers at something, hands them back. -/
theorem frame_body (c : Dev nD) :
    BodyObligation (fdats m 0 c) (defs₀ (F := F)) Variants.none () Set.univ fgt := fun t => by
  rw [bigSep_W0, bigSep_W0]
  dsimp only [fgt]
  simp only [owns_held c (hst0_0 t), owns_held c (hst0_1 t), owns_held c (hst0_2 t), owns_held c (hst0_3 t), owns_held c (hst0_4 t), owns_held c (hst0_5 t), owns_held c (hst0_6 t)]
  rw [show (fdats m 0 c).Φ t.castSucc = Pipeline.scopedRest spec0 c from rfl, show (fdats m 0 c).Φ t.succ = Pipeline.scopedRest spec0 c from rfl,
    show (fdats m 0 c).owesAt () t.succ = (fdats m 0 c).owesAt () t.castSucc from rfl, scopedRest0_eq]
  iintro ⟨⟨⟨%f8, H8⟩, ⟨%f9, H9⟩, ⟨%f10, H10⟩, ⟨%f11, H11⟩, ⟨%f12, H12⟩, ⟨%f13, H13⟩⟩, Howes, ⟨%d0, %f1, %hf1, H1⟩, ⟨%d1, %f2, %hf2, H2⟩, ⟨%d2, %f3, %hf3, H3⟩, ⟨%d3, %f4, %hf4, H4⟩, ⟨%d4, %f5, %hf5, H5⟩, ⟨%d5, %f6, %hf6, H6⟩, ⟨%X6, %f7, -, H7⟩⟩
  rw [show (defs₀ (F := F) Proc.tc 0 (t, cfg0.slots t)) = bodyAt0 t from rfl]
  iapply (stepRun c (grid0.coords t) (st0_0 t) (hst0_0 t) (st0_1 t) (hst0_1 t) (st0_2 t) (hst0_2 t) (st0_3 t) (hst0_3 t) (st0_4 t) (hst0_4 t) (st0_5 t) (hst0_5 t) (st0_6 t) (hst0_6 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) f1 f2 f3 f4 f5 f6 f7 f8 f9 f10 f11 f12 f13 ((fdats m 0 c).owesAt () t.castSucc) _ ?hQ)
  case hQ =>
    intro g7 g8 g9 g10 g11 g12 g13
    iintro ⟨⟨H1, H2, H3, H4, H5, H6, H7, H8, H9, H10, H11, H12, H13⟩, Howes⟩
    isplitl [H8 H9 H10 H11 H12 H13]
    · isplitl [H8]; · iexists _; iexact H8
      isplitl [H9]; · iexists _; iexact H9
      isplitl [H10]; · iexists _; iexact H10
      isplitl [H11]; · iexists _; iexact H11
      isplitl [H12]; · iexists _; iexact H12
      iexists _; iexact H13
    isplitl [Howes]; · iexact Howes
    isplitl [H1]; · iexists f1; isplitr; swap; (· iexact H1); ipureintro; exact hf1.trans (before0_0_of m (fdats m 0 c) rfl (fun _ => rfl) t d0)
    isplitl [H2]; · iexists f2; isplitr; swap; (· iexact H2); ipureintro; exact hf2.trans (before0_1_of m (fdats m 0 c) rfl (fun _ => rfl) t d1)
    isplitl [H3]; · iexists f3; isplitr; swap; (· iexact H3); ipureintro; exact hf3.trans (before0_2_of m (fdats m 0 c) rfl (fun _ => rfl) t d2)
    isplitl [H4]; · iexists f4; isplitr; swap; (· iexact H4); ipureintro; exact hf4.trans (before0_3_of m (fdats m 0 c) rfl (fun _ => rfl) t d3)
    isplitl [H5]; · iexists f5; isplitr; swap; (· iexact H5); ipureintro; exact hf5.trans (before0_4_of m (fdats m 0 c) rfl (fun _ => rfl) t d4)
    isplitl [H6]; · iexists f6; isplitr; swap; (· iexact H6); ipureintro; exact hf6.trans (before0_5_of m (fdats m 0 c) rfl (fun _ => rfl) t d5)
    iexists _, g7; isplitr; swap; (· iexact H7); ipureintro; rfl
  isplitr [Howes]; swap; · iexact Howes
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- An input window's array ends as the region found it. -/
theorem ArrIn (c : Dev nD) {mem : (ℓ : Loc nD τ sig) → Buf (Elt F) ℓ} (w : Fin cfg0.W) (hf : fgt w = false) (hw : (cfg0.win w).isOut = false)
    (h : ∀ w, ((fdats m 0 c).toRForget fgt).ArrAt w cfg0.N (mem ((cfg0.win w).arr.view.loc (c.tc : Thread nD τ)))) :
    mem ((cfg0.win w).arr.view.loc (c.tc : Thread nD τ)) = V m c (Pipeline.arrRef spec0 w) :=
  (((fdats m 0 c).toRForget_arrAt_iff hf _ _).mp (h w)).trans ((fdats m 0 c).arrAt_in w hw _)

/-- The physical post: the arguments' arrays at their launch contents. -/
def Kept (r : PUnit × MemSt nD τ sig (Elt F)) : Prop := ∀ c : Dev nD,
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)

-- the launch theorem's implicit arguments are found by unifying its conclusion with this one
set_option backward.isDefEq.respectTransparency.types false in
/-- From any memory with zero counters the kernel terminates, the arguments as they were and every counter at zero. -/
theorem frame_run : θ_run defs (onTc (τ := τ) (main (F := F))) ⟨m, fun _ => 0, ρ⟩ (fun r => Kept m r ∧ r.2.sem = fun _ => 0) :=
  Pipeline.θ_run_region_kit_forget_quiescent cfgs (fdats m) () (0 : Fin 1) launch0 (Pipeline.OwnSemFacts.none spec0) EP defs₀ Variants.none fgt m ρ main
    (hbody := fun c => (frame_body m c).loose)
    (hshare := fun c => (fdats m 0 c).share_full fun _ => rfl) (howed := fun _ _ => rfl)
    (G := fun _ => iprop(emp)) (u₀ := u₀)
    (hu₀ := by
      iintro Hu; imodintro
      isplitl [Hu]; · iapply (show (ownU u₀ : sProp 𝕄) ⊢ BI.own (EP (initOf (Pipeline.cells cfgs launch0.cellOf_inj) (Pipeline.launchToks cfgs launch0.cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none) (hA := fun _ _ => rfl)
    (X := fun _ => iprop(emp)) (Y := fun _ => iprop(emp)) (Z := fun c => Pipeline.unscopedRest spec0 c (V m c))
    (hX := fun c => by
      iintro ⟨Hr, -, -, -, -⟩; imodintro
      isplitr; · iempintro
      iexact Hr)
    (hin := fun c => by
      rw [show (fdats m 0 c).Φ 0 = Pipeline.scopedRest spec0 c from rfl]
      iintro ⟨-, Hr⟩; iexact Hr)
    (hout := fun c => by
      rw [Pipeline.ownSems0_none, show (fdats m 0 c).Φ (Fin.last cfg0.N) = Pipeline.scopedRest spec0 c from rfl]
      iintro Hr
      isplitr; · iempintro
      isplitr; · iempintro
      iexact Hr)
    (QY := fun c mem => mem.mem ((c.tc : Thread nD τ).loc main_arg0) = m ((c.tc : Thread nD τ).loc main_arg0)
      ∧ mem.mem ((c.tc : Thread nD τ).loc main_arg4) = m ((c.tc : Thread nD τ).loc main_arg4))
    (hY := fun c s' => by
      rw [unscopedRest0_eq, V_main_arg0, V_main_arg4]
      iintro ⟨-, ⟨H0, H4⟩, HSI⟩
      icombine HSI H0 gives %h0
      icombine HSI H4 gives %h4
      imodintro
      isplitr; · ipureintro; exact ⟨Buf.eq_of_forall_mem_univ h0, Buf.eq_of_forall_mem_univ h4⟩
      iexact HSI)
    (hQ := fun s h hz => ⟨fun c => ⟨(h c).2.1,
      (ArrIn m c 3 rfl rfl (h c).1).trans (V_main_arg1 m c),
      (ArrIn m c 4 rfl rfl (h c).1).trans (V_main_arg2 m c),
      (ArrIn m c 5 rfl rfl (h c).1).trans (V_main_arg3 m c),
      (h c).2.2,
      (ArrIn m c 0 rfl rfl (h c).1).trans (V_main_arg5 m c)⟩, hz⟩)

end Cert.Kernel.Proof

end
-- ==== Proof.KernelIdealHeld.lean ====
/-
  Buffers held whole, and the check every gather makes.
-/
module

public import proofs.«01_k».proof.Proof.Gen.KernelIdeal.Loops
public import Idealize.ShloMosaic.Lib.Tactic

@[expose] public section

noncomputable section

namespace Cert.KernelIdeal.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- Every check the body makes: the word `w &&& 4095` names a row of the table, whatever `w` is. -/
theorem chk_row (w : BitVec 32) :
    ∀ a : Fin 2, (![(Scalar.indexCast (Scalar.andi w 4095#32)).toNat, 0] : Fin 2 → Nat) a + S1x256.size a ≤ S4096x256.size a := by
  intro a; fin_cases a
  · show (w &&& 4095#32).toNat + 1 ≤ 4096
    have := Nat.and_le_right (n := w.toNat) (m := 4095)
    rw [BitVec.toNat_and]; simp only [BitVec.toNat_ofNat, Nat.reducePow, Nat.reduceMod] at this ⊢; omega
  · exact Nat.le_refl _

end Cert.KernelIdeal.Proof

end
-- ==== Proof.KernelIdealSlots.lean ====
/-
  The slots of the gathered columns: step `i` reads slot `i % 2` and fills the other one, in closed form.
-/
module

public import proofs.«01_k».proof.Proof.Gen.KernelIdeal
public import Idealize.ShloMosaic.Lib.Exec

@[expose] public section

namespace Cert.KernelIdeal.Proof

open Cert.KernelIdeal Cert.KernelIdeal.Gen
open Idealize.ShloMosaic

theorem slotR0_eq : ∀ i : grid0.Coords, k0_off25 i = ![(i 0).val % 2, 0, 0] := by decide +kernel
theorem slotR256_eq : ∀ i : grid0.Coords, k0_off26 i = ![(i 0).val % 2, 0, 256] := by decide +kernel
theorem slotR512_eq : ∀ i : grid0.Coords, k0_off27 i = ![(i 0).val % 2, 0, 512] := by decide +kernel
theorem slotR768_eq : ∀ i : grid0.Coords, k0_off28 i = ![(i 0).val % 2, 0, 768] := by decide +kernel
theorem slotW0_eq : ∀ i : grid0.Coords, k0_off346 i = ![1 - (i 0).val % 2, 0, 0] := by decide +kernel
theorem slotW128_eq : ∀ i : grid0.Coords, k0_off588 i = ![1 - (i 0).val % 2, 0, 128] := by decide +kernel
theorem slotW256_eq : ∀ i : grid0.Coords, k0_off910 i = ![1 - (i 0).val % 2, 0, 256] := by decide +kernel
theorem slotW384_eq : ∀ i : grid0.Coords, k0_off1150 i = ![1 - (i 0).val % 2, 0, 384] := by decide +kernel
theorem slotW512_eq : ∀ i : grid0.Coords, k0_off1392 i = ![1 - (i 0).val % 2, 0, 512] := by decide +kernel
theorem slotW640_eq : ∀ i : grid0.Coords, k0_off1714 i = ![1 - (i 0).val % 2, 0, 640] := by decide +kernel
theorem slotW768_eq : ∀ i : grid0.Coords, k0_off1956 i = ![1 - (i 0).val % 2, 0, 768] := by decide +kernel
theorem slotW896_eq : ∀ i : grid0.Coords, k0_off2196 i = ![1 - (i 0).val % 2, 0, 896] := by decide +kernel

variable (i : grid0.Coords)
instance : ClosedOff (k0_off25 i) := ⟨_, slotR0_eq i⟩
instance : ClosedOff (k0_off26 i) := ⟨_, slotR256_eq i⟩
instance : ClosedOff (k0_off27 i) := ⟨_, slotR512_eq i⟩
instance : ClosedOff (k0_off28 i) := ⟨_, slotR768_eq i⟩
instance : ClosedOff (k0_off105 i) := ⟨_, slotR0_eq i⟩
instance : ClosedOff (k0_off106 i) := ⟨_, slotR256_eq i⟩
instance : ClosedOff (k0_off107 i) := ⟨_, slotR512_eq i⟩
instance : ClosedOff (k0_off108 i) := ⟨_, slotR768_eq i⟩
instance : ClosedOff (k0_off185 i) := ⟨_, slotR0_eq i⟩
instance : ClosedOff (k0_off186 i) := ⟨_, slotR256_eq i⟩
instance : ClosedOff (k0_off187 i) := ⟨_, slotR512_eq i⟩
instance : ClosedOff (k0_off188 i) := ⟨_, slotR768_eq i⟩
instance : ClosedOff (k0_off265 i) := ⟨_, slotR0_eq i⟩
instance : ClosedOff (k0_off266 i) := ⟨_, slotR256_eq i⟩
instance : ClosedOff (k0_off267 i) := ⟨_, slotR512_eq i⟩
instance : ClosedOff (k0_off268 i) := ⟨_, slotR768_eq i⟩
instance : ClosedOff (k0_off346 i) := ⟨_, slotW0_eq i⟩
instance : ClosedOff (k0_off347 i) := ⟨_, slotR0_eq i⟩
instance : ClosedOff (k0_off348 i) := ⟨_, slotR256_eq i⟩
instance : ClosedOff (k0_off349 i) := ⟨_, slotR512_eq i⟩
instance : ClosedOff (k0_off350 i) := ⟨_, slotR768_eq i⟩
instance : ClosedOff (k0_off427 i) := ⟨_, slotR0_eq i⟩
instance : ClosedOff (k0_off428 i) := ⟨_, slotR256_eq i⟩
instance : ClosedOff (k0_off429 i) := ⟨_, slotR512_eq i⟩
instance : ClosedOff (k0_off430 i) := ⟨_, slotR768_eq i⟩
instance : ClosedOff (k0_off507 i) := ⟨_, slotR0_eq i⟩
instance : ClosedOff (k0_off508 i) := ⟨_, slotR256_eq i⟩
instance : ClosedOff (k0_off509 i) := ⟨_, slotR512_eq i⟩
instance : ClosedOff (k0_off510 i) := ⟨_, slotR768_eq i⟩
instance : ClosedOff (k0_off588 i) := ⟨_, slotW128_eq i⟩
instance : ClosedOff (k0_off589 i) := ⟨_, slotR0_eq i⟩
instance : ClosedOff (k0_off590 i) := ⟨_, slotR256_eq i⟩
instance : ClosedOff (k0_off591 i) := ⟨_, slotR512_eq i⟩
instance : ClosedOff (k0_off592 i) := ⟨_, slotR768_eq i⟩
instance : ClosedOff (k0_off669 i) := ⟨_, slotR0_eq i⟩
instance : ClosedOff (k0_off670 i) := ⟨_, slotR256_eq i⟩
instance : ClosedOff (k0_off671 i) := ⟨_, slotR512_eq i⟩
instance : ClosedOff (k0_off672 i) := ⟨_, slotR768_eq i⟩
instance : ClosedOff (k0_off749 i) := ⟨_, slotR0_eq i⟩
instance : ClosedOff (k0_off750 i) := ⟨_, slotR256_eq i⟩
instance : ClosedOff (k0_off751 i) := ⟨_, slotR512_eq i⟩
instance : ClosedOff (k0_off752 i) := ⟨_, slotR768_eq i⟩
instance : ClosedOff (k0_off829 i) := ⟨_, slotR0_eq i⟩
instance : ClosedOff (k0_off830 i) := ⟨_, slotR256_eq i⟩
instance : ClosedOff (k0_off831 i) := ⟨_, slotR512_eq i⟩
instance : ClosedOff (k0_off832 i) := ⟨_, slotR768_eq i⟩
instance : ClosedOff (k0_off910 i) := ⟨_, slotW256_eq i⟩
instance : ClosedOff (k0_off911 i) := ⟨_, slotR0_eq i⟩
instance : ClosedOff (k0_off912 i) := ⟨_, slotR256_eq i⟩
instance : ClosedOff (k0_off913 i) := ⟨_, slotR512_eq i⟩
instance : ClosedOff (k0_off914 i) := ⟨_, slotR768_eq i⟩
instance : ClosedOff (k0_off991 i) := ⟨_, slotR0_eq i⟩
instance : ClosedOff (k0_off992 i) := ⟨_, slotR256_eq i⟩
instance : ClosedOff (k0_off993 i) := ⟨_, slotR512_eq i⟩
instance : ClosedOff (k0_off994 i) := ⟨_, slotR768_eq i⟩
instance : ClosedOff (k0_off1071 i) := ⟨_, slotR0_eq i⟩
instance : ClosedOff (k0_off1072 i) := ⟨_, slotR256_eq i⟩
instance : ClosedOff (k0_off1073 i) := ⟨_, slotR512_eq i⟩
instance : ClosedOff (k0_off1074 i) := ⟨_, slotR768_eq i⟩
instance : ClosedOff (k0_off1150 i) := ⟨_, slotW384_eq i⟩
instance : ClosedOff (k0_off1151 i) := ⟨_, slotR0_eq i⟩
instance : ClosedOff (k0_off1152 i) := ⟨_, slotR256_eq i⟩
instance : ClosedOff (k0_off1153 i) := ⟨_, slotR512_eq i⟩
instance : ClosedOff (k0_off1154 i) := ⟨_, slotR768_eq i⟩
instance : ClosedOff (k0_off1231 i) := ⟨_, slotR0_eq i⟩
instance : ClosedOff (k0_off1232 i) := ⟨_, slotR256_eq i⟩
instance : ClosedOff (k0_off1233 i) := ⟨_, slotR512_eq i⟩
instance : ClosedOff (k0_off1234 i) := ⟨_, slotR768_eq i⟩
instance : ClosedOff (k0_off1311 i) := ⟨_, slotR0_eq i⟩
instance : ClosedOff (k0_off1312 i) := ⟨_, slotR256_eq i⟩
instance : ClosedOff (k0_off1313 i) := ⟨_, slotR512_eq i⟩
instance : ClosedOff (k0_off1314 i) := ⟨_, slotR768_eq i⟩
instance : ClosedOff (k0_off1392 i) := ⟨_, slotW512_eq i⟩
instance : ClosedOff (k0_off1393 i) := ⟨_, slotR0_eq i⟩
instance : ClosedOff (k0_off1394 i) := ⟨_, slotR256_eq i⟩
instance : ClosedOff (k0_off1395 i) := ⟨_, slotR512_eq i⟩
instance : ClosedOff (k0_off1396 i) := ⟨_, slotR768_eq i⟩
instance : ClosedOff (k0_off1473 i) := ⟨_, slotR0_eq i⟩
instance : ClosedOff (k0_off1474 i) := ⟨_, slotR256_eq i⟩
instance : ClosedOff (k0_off1475 i) := ⟨_, slotR512_eq i⟩
instance : ClosedOff (k0_off1476 i) := ⟨_, slotR768_eq i⟩
instance : ClosedOff (k0_off1553 i) := ⟨_, slotR0_eq i⟩
instance : ClosedOff (k0_off1554 i) := ⟨_, slotR256_eq i⟩
instance : ClosedOff (k0_off1555 i) := ⟨_, slotR512_eq i⟩
instance : ClosedOff (k0_off1556 i) := ⟨_, slotR768_eq i⟩
instance : ClosedOff (k0_off1633 i) := ⟨_, slotR0_eq i⟩
instance : ClosedOff (k0_off1634 i) := ⟨_, slotR256_eq i⟩
instance : ClosedOff (k0_off1635 i) := ⟨_, slotR512_eq i⟩
instance : ClosedOff (k0_off1636 i) := ⟨_, slotR768_eq i⟩
instance : ClosedOff (k0_off1714 i) := ⟨_, slotW640_eq i⟩
instance : ClosedOff (k0_off1715 i) := ⟨_, slotR0_eq i⟩
instance : ClosedOff (k0_off1716 i) := ⟨_, slotR256_eq i⟩
instance : ClosedOff (k0_off1717 i) := ⟨_, slotR512_eq i⟩
instance : ClosedOff (k0_off1718 i) := ⟨_, slotR768_eq i⟩
instance : ClosedOff (k0_off1795 i) := ⟨_, slotR0_eq i⟩
instance : ClosedOff (k0_off1796 i) := ⟨_, slotR256_eq i⟩
instance : ClosedOff (k0_off1797 i) := ⟨_, slotR512_eq i⟩
instance : ClosedOff (k0_off1798 i) := ⟨_, slotR768_eq i⟩
instance : ClosedOff (k0_off1875 i) := ⟨_, slotR0_eq i⟩
instance : ClosedOff (k0_off1876 i) := ⟨_, slotR256_eq i⟩
instance : ClosedOff (k0_off1877 i) := ⟨_, slotR512_eq i⟩
instance : ClosedOff (k0_off1878 i) := ⟨_, slotR768_eq i⟩
instance : ClosedOff (k0_off1956 i) := ⟨_, slotW768_eq i⟩
instance : ClosedOff (k0_off1957 i) := ⟨_, slotR0_eq i⟩
instance : ClosedOff (k0_off1958 i) := ⟨_, slotR256_eq i⟩
instance : ClosedOff (k0_off1959 i) := ⟨_, slotR512_eq i⟩
instance : ClosedOff (k0_off1960 i) := ⟨_, slotR768_eq i⟩
instance : ClosedOff (k0_off2037 i) := ⟨_, slotR0_eq i⟩
instance : ClosedOff (k0_off2038 i) := ⟨_, slotR256_eq i⟩
instance : ClosedOff (k0_off2039 i) := ⟨_, slotR512_eq i⟩
instance : ClosedOff (k0_off2040 i) := ⟨_, slotR768_eq i⟩
instance : ClosedOff (k0_off2117 i) := ⟨_, slotR0_eq i⟩
instance : ClosedOff (k0_off2118 i) := ⟨_, slotR256_eq i⟩
instance : ClosedOff (k0_off2119 i) := ⟨_, slotR512_eq i⟩
instance : ClosedOff (k0_off2120 i) := ⟨_, slotR768_eq i⟩
instance : ClosedOff (k0_off2196 i) := ⟨_, slotW896_eq i⟩
instance : ClosedOff (k0_off2197 i) := ⟨_, slotR0_eq i⟩
instance : ClosedOff (k0_off2198 i) := ⟨_, slotR256_eq i⟩
instance : ClosedOff (k0_off2199 i) := ⟨_, slotR512_eq i⟩
instance : ClosedOff (k0_off2200 i) := ⟨_, slotR768_eq i⟩

end Cert.KernelIdeal.Proof
-- ==== Proof.KernelIdealCore.lean ====
/-
  A step of the kernel after its opening, run once at symbolic operands.
-/
module

public import proofs.«01_k».proof.Proof.KernelIdealHeld
public import proofs.«01_k».proof.Proof.KernelIdealSlots

@[expose] public section

noncomputable section

namespace Cert.KernelIdeal.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The first part of a step after its opening (`k0_part27`): the first tiles. -/
noncomputable def core500
    (i : grid0.Coords)
    (arg1 : Memref sig .tc .smem S16384 .i32) (harg1 : arg1.IsWhole)
    (arg2 : Memref sig .tc .vmem S128x128 .i32) (harg2 : arg2.IsWhole)
    (arg3 : Memref sig .tc .vmem S64x16384 .bf16) (harg3 : arg3.IsWhole)
    (arg4 : Memref sig .tc .vmem S512x7168 .i8) (harg4 : arg4.IsWhole)
    (arg5 : Memref sig .tc .vmem S8x7168 .bf16) (harg5 : arg5.IsWhole)
    (arg6 : Memref sig .tc .vmem S8x7168 .i8) (harg6 : arg6.IsWhole)
    (arg7 : Memref sig .tc .vmem S64x7168 .bf16) (harg7 : arg7.IsWhole)
    (arg8 : Memref sig .tc .vmem S4096x256 .f32) (harg8 : arg8.IsWhole)
    (arg9 : Memref sig .tc .vmem S1024x256 .f32) (harg9 : arg9.IsWhole)
    (arg10 : Memref sig .tc .vmem S2x64x1024 .bf16) (harg10 : arg10.IsWhole)
    (arg11 : Memref sig .tc .vmem S64x7168 .f32) (harg11 : arg11.IsWhole)
    (arg12 : Memref sig .tc .vmem S8x7168 .f32) (harg12 : arg12.IsWhole)
    (arg13 : Memref sig .tc .vmem S8x7168 .f32) (harg13 : arg13.IsWhole)
    (r : Σ' (arg0 : BitVec 32) (v12 : BitVec 32), BitVec 32) :
    Prog (TpuEff nD τ sig (Elt F) Λ₀ .tc) (Σ' (arg0 : BitVec 32) (v12 : BitVec 32) (v14 : BitVec 32), Vec F S1x256 .f32) := do
  let ⟨arg0, v12, v14⟩ := r
  let ⟨v59, v79⟩ : Σ' (v59 : FVec F S128x256 .bf16), FVec F S8x16x256 .bf16 ← k0_part28 i arg1 harg1 arg2 harg2 arg3 harg3 arg4 harg4 arg5 harg5 arg6 harg6 arg7 harg7 arg8 harg8 arg9 harg9 arg10 harg10 arg11 harg11 arg12 harg12 arg13 harg13
  let ⟨v92, v120, v122, v123⟩ : Σ' (v92 : FVec F S64x256 .f32) (v120 : FVec F S128x256 .bf16) (v122 : IVec S64x256 32), IVec S64x256 32 ← k0_part29 i arg1 harg1 arg2 harg2 arg3 harg3 arg4 harg4 arg5 harg5 arg6 harg6 arg7 harg7 arg8 harg8 arg9 harg9 arg10 harg10 arg11 harg11 arg12 harg12 arg13 harg13 v12 v59 v79
  let ⟨v154, v167, v169⟩ : Σ' (v154 : FVec F S64x256 .f32) (v167 : FVec F S8x16x256 .bf16), FVec F S1x256 .f32 ← k0_part30 i arg1 harg1 arg2 harg2 arg3 harg3 arg4 harg4 arg5 harg5 arg6 harg6 arg7 harg7 arg8 harg8 arg9 harg9 arg10 harg10 arg11 harg11 arg12 harg12 arg13 harg13 v12 v92 v120 v122 v123
  let v216 : FVec F S64x256 .f32 ← k0_part31 i arg1 harg1 arg2 harg2 arg3 harg3 arg4 harg4 arg5 harg5 arg6 harg6 arg7 harg7 arg8 harg8 arg9 harg9 arg10 harg10 arg11 harg11 arg12 harg12 arg13 harg13 v12 v154 v167 v169
  let ⟨v244, v257, v262⟩ : Σ' (v244 : FVec F S128x256 .bf16) (v257 : FVec F S8x16x256 .bf16), FVec F S1x16x256 .bf16 ← k0_part32 i arg1 harg1 arg2 harg2 arg3 harg3 arg4 harg4 arg5 harg5 arg6 harg6 arg7 harg7 arg8 harg8 arg9 harg9 arg10 harg10 arg11 harg11 arg12 harg12 arg13 harg13
  let ⟨v297, k0_hw10⟩ : Σ' (v297 : Elt F .i32), k0_chk10 v297 ← k0_part33 i arg1 harg1 arg2 harg2 arg3 harg3 arg4 harg4 arg5 harg5 arg6 harg6 arg7 harg7 arg8 harg8 arg9 harg9 arg10 harg10 arg11 harg11 arg12 harg12 arg13 harg13 v12 v14 v216 v244 v257 v262
  let v333 : FVec F S1x256 .f32 ← k0_part34 i arg1 harg1 arg2 harg2 arg3 harg3 arg4 harg4 arg5 harg5 arg6 harg6 arg7 harg7 arg8 harg8 arg9 harg9 arg10 harg10 arg11 harg11 arg12 harg12 arg13 harg13 v14 v297 k0_hw10
  k0_part35 i arg1 harg1 arg2 harg2 arg3 harg3 arg4 harg4 arg5 harg5 arg6 harg6 arg7 harg7 arg8 harg8 arg9 harg9 arg10 harg10 arg11 harg11 arg12 harg12 arg13 harg13 v14 v333
  let ⟨v397, k0_hw20⟩ : Σ' (v397 : Elt F .i32), k0_chk20 v397 ← k0_part36 i arg1 harg1 arg2 harg2 arg3 harg3 arg4 harg4 arg5 harg5 arg6 harg6 arg7 harg7 arg8 harg8 arg9 harg9 arg10 harg10 arg11 harg11 arg12 harg12 arg13 harg13 v14
  let v433 : FVec F S1x256 .f32 ← k0_part37 i arg1 harg1 arg2 harg2 arg3 harg3 arg4 harg4 arg5 harg5 arg6 harg6 arg7 harg7 arg8 harg8 arg9 harg9 arg10 harg10 arg11 harg11 arg12 harg12 arg13 harg13 v14 v397 k0_hw20
  k0_part38 i arg1 harg1 arg2 harg2 arg3 harg3 arg4 harg4 arg5 harg5 arg6 harg6 arg7 harg7 arg8 harg8 arg9 harg9 arg10 harg10 arg11 harg11 arg12 harg12 arg13 harg13 v14 v433
  let ⟨v497, k0_hw30⟩ : Σ' (v497 : Elt F .i32), k0_chk30 v497 ← k0_part39 i arg1 harg1 arg2 harg2 arg3 harg3 arg4 harg4 arg5 harg5 arg6 harg6 arg7 harg7 arg8 harg8 arg9 harg9 arg10 harg10 arg11 harg11 arg12 harg12 arg13 harg13 v14
  let v533 : FVec F S1x256 .f32 ← k0_part40 i arg1 harg1 arg2 harg2 arg3 harg3 arg4 harg4 arg5 harg5 arg6 harg6 arg7 harg7 arg8 harg8 arg9 harg9 arg10 harg10 arg11 harg11 arg12 harg12 arg13 harg13 v14 v497 k0_hw30
  k0_part41 i arg1 harg1 arg2 harg2 arg3 harg3 arg4 harg4 arg5 harg5 arg6 harg6 arg7 harg7 arg8 harg8 arg9 harg9 arg10 harg10 arg11 harg11 arg12 harg12 arg13 harg13 v14 v533
  let ⟨v597, k0_hw40⟩ : Σ' (v597 : Elt F .i32), k0_chk40 v597 ← k0_part42 i arg1 harg1 arg2 harg2 arg3 harg3 arg4 harg4 arg5 harg5 arg6 harg6 arg7 harg7 arg8 harg8 arg9 harg9 arg10 harg10 arg11 harg11 arg12 harg12 arg13 harg13 v14
  let v633 : FVec F S1x256 .f32 ← k0_part43 i arg1 harg1 arg2 harg2 arg3 harg3 arg4 harg4 arg5 harg5 arg6 harg6 arg7 harg7 arg8 harg8 arg9 harg9 arg10 harg10 arg11 harg11 arg12 harg12 arg13 harg13 v14 v597 k0_hw40
  let ⟨v665, c15_i32_244⟩ : Σ' (v665 : IVec S64x256 32), BitVec 32 ← k0_part44 i arg1 harg1 arg2 harg2 arg3 harg3 arg4 harg4 arg5 harg5 arg6 harg6 arg7 harg7 arg8 harg8 arg9 harg9 arg10 harg10 arg11 harg11 arg12 harg12 arg13 harg13 v14 v633
  let ⟨v691, v711, v712⟩ : Σ' (v691 : FVec F S128x256 .bf16) (v711 : FVec F S8x16x256 .bf16), Vec F S1x256 .f32 ← k0_part45 i arg1 harg1 arg2 harg2 arg3 harg3 arg4 harg4 arg5 harg5 arg6 harg6 arg7 harg7 arg8 harg8 arg9 harg9 arg10 harg10 arg11 harg11 arg12 harg12 arg13 harg13 v665 c15_i32_244
  let ⟨v724, v752, v754, v756, v757⟩ : Σ' (v724 : FVec F S64x256 .f32) (v752 : FVec F S128x256 .bf16) (v754 : IVec S64x256 32) (v756 : IVec S64x256 32), IVec S64x256 32 ← k0_part46 i arg1 harg1 arg2 harg2 arg3 harg3 arg4 harg4 arg5 harg5 arg6 harg6 arg7 harg7 arg8 harg8 arg9 harg9 arg10 harg10 arg11 harg11 arg12 harg12 arg13 harg13 v12 v691 v711 v712
  let ⟨v786, v799, v804⟩ : Σ' (v786 : FVec F S64x256 .f32) (v799 : FVec F S8x16x256 .bf16), FVec F S1x16x256 .bf16 ← k0_part47 i arg1 harg1 arg2 harg2 arg3 harg3 arg4 harg4 arg5 harg5 arg6 harg6 arg7 harg7 arg8 harg8 arg9 harg9 arg10 harg10 arg11 harg11 arg12 harg12 arg13 harg13 v12 v724 v752 v754 v756 v757
  let ⟨v848, v849⟩ : Σ' (v848 : FVec F S64x256 .f32), Vec F S64x256 .i8 ← k0_part48 i arg1 harg1 arg2 harg2 arg3 harg3 arg4 harg4 arg5 harg5 arg6 harg6 arg7 harg7 arg8 harg8 arg9 harg9 arg10 harg10 arg11 harg11 arg12 harg12 arg13 harg13 v12 v786 v799 v804
  let ⟨v876, v896⟩ : Σ' (v876 : FVec F S128x256 .bf16), FVec F S8x16x256 .bf16 ← k0_part49 i arg1 harg1 arg2 harg2 arg3 harg3 arg4 harg4 arg5 harg5 arg6 harg6 arg7 harg7 arg8 harg8 arg9 harg9 arg10 harg10 arg11 harg11 arg12 harg12 arg13 harg13 v849
  let v932 : Vec F S1x256 .f32 ← k0_part50 i arg1 harg1 arg2 harg2 arg3 harg3 arg4 harg4 arg5 harg5 arg6 harg6 arg7 harg7 arg8 harg8 arg9 harg9 arg10 harg10 arg11 harg11 arg12 harg12 arg13 harg13 v12 v14 v848 v876 v896
  let v966 : BitVec 32 ← k0_part51 i arg1 harg1 arg2 harg2 arg3 harg3 arg4 harg4 arg5 harg5 arg6 harg6 arg7 harg7 arg8 harg8 arg9 harg9 arg10 harg10 arg11 harg11 arg12 harg12 arg13 harg13 v14 v932
  let ⟨v999, k0_hw55, c4095_i32_355⟩ : Σ' (v999 : Elt F .i32) (k0_hw55 : k0_chk55 v999), BitVec 32 ← k0_part52 i arg1 harg1 arg2 harg2 arg3 harg3 arg4 harg4 arg5 harg5 arg6 harg6 arg7 harg7 arg8 harg8 arg9 harg9 arg10 harg10 arg11 harg11 arg12 harg12 arg13 harg13 v14 v966
  let v1032 : Vec F S1x256 .f32 ← k0_part53 i arg1 harg1 arg2 harg2 arg3 harg3 arg4 harg4 arg5 harg5 arg6 harg6 arg7 harg7 arg8 harg8 arg9 harg9 arg10 harg10 arg11 harg11 arg12 harg12 arg13 harg13 v14 v999 k0_hw55 c4095_i32_355
  let v1066 : BitVec 32 ← k0_part54 i arg1 harg1 arg2 harg2 arg3 harg3 arg4 harg4 arg5 harg5 arg6 harg6 arg7 harg7 arg8 harg8 arg9 harg9 arg10 harg10 arg11 harg11 arg12 harg12 arg13 harg13 v14 v1032
  let ⟨v1099, k0_hw65, c4095_i32_395⟩ : Σ' (v1099 : Elt F .i32) (k0_hw65 : k0_chk65 v1099), BitVec 32 ← k0_part55 i arg1 harg1 arg2 harg2 arg3 harg3 arg4 harg4 arg5 harg5 arg6 harg6 arg7 harg7 arg8 harg8 arg9 harg9 arg10 harg10 arg11 harg11 arg12 harg12 arg13 harg13 v14 v1066
  let v1132 : Vec F S1x256 .f32 ← k0_part56 i arg1 harg1 arg2 harg2 arg3 harg3 arg4 harg4 arg5 harg5 arg6 harg6 arg7 harg7 arg8 harg8 arg9 harg9 arg10 harg10 arg11 harg11 arg12 harg12 arg13 harg13 v14 v1099 k0_hw65 c4095_i32_395
  let v1166 : BitVec 32 ← k0_part57 i arg1 harg1 arg2 harg2 arg3 harg3 arg4 harg4 arg5 harg5 arg6 harg6 arg7 harg7 arg8 harg8 arg9 harg9 arg10 harg10 arg11 harg11 arg12 harg12 arg13 harg13 v14 v1132
  let ⟨v1199, k0_hw75, c4095_i32_436⟩ : Σ' (v1199 : Elt F .i32) (k0_hw75 : k0_chk75 v1199), BitVec 32 ← k0_part58 i arg1 harg1 arg2 harg2 arg3 harg3 arg4 harg4 arg5 harg5 arg6 harg6 arg7 harg7 arg8 harg8 arg9 harg9 arg10 harg10 arg11 harg11 arg12 harg12 arg13 harg13 v14 v1166
  let v1232 : Vec F S1x256 .f32 ← k0_part59 i arg1 harg1 arg2 harg2 arg3 harg3 arg4 harg4 arg5 harg5 arg6 harg6 arg7 harg7 arg8 harg8 arg9 harg9 arg10 harg10 arg11 harg11 arg12 harg12 arg13 harg13 v14 v1199 k0_hw75 c4095_i32_436
  let v1266 : BitVec 32 ← k0_part60 i arg1 harg1 arg2 harg2 arg3 harg3 arg4 harg4 arg5 harg5 arg6 harg6 arg7 harg7 arg8 harg8 arg9 harg9 arg10 harg10 arg11 harg11 arg12 harg12 arg13 harg13 v14 v1232
  let ⟨v1297, v1299, c4_i32_478⟩ : Σ' (v1297 : IVec S64x256 32) (v1299 : IVec S64x256 32), BitVec 32 ← k0_part61 i arg1 harg1 arg2 harg2 arg3 harg3 arg4 harg4 arg5 harg5 arg6 harg6 arg7 harg7 arg8 harg8 arg9 harg9 arg10 harg10 arg11 harg11 arg12 harg12 arg13 harg13 v14 v1266
  let ⟨v1323, v1343, v1347⟩ : Σ' (v1323 : FVec F S128x256 .bf16) (v1343 : FVec F S8x16x256 .bf16), FVec F S16x256 .bf16 ← k0_part62 i arg1 harg1 arg2 harg2 arg3 harg3 arg4 harg4 arg5 harg5 arg6 harg6 arg7 harg7 arg8 harg8 arg9 harg9 arg10 harg10 arg11 harg11 arg12 harg12 arg13 harg13 v1297 v1299 c4_i32_478
  let ⟨v1356, v1384, v1391, v1392⟩ : Σ' (v1356 : FVec F S64x256 .f32) (v1384 : FVec F S128x256 .bf16) (v1391 : IVec S64x1x256 32), IVec S64x1x256 32 ← k0_part63 i arg1 harg1 arg2 harg2 arg3 harg3 arg4 harg4 arg5 harg5 arg6 harg6 arg7 harg7 arg8 harg8 arg9 harg9 arg10 harg10 arg11 harg11 arg12 harg12 arg13 harg13 v12 v1323 v1343 v1347
  let ⟨v1418, v1438⟩ : Σ' (v1418 : FVec F S64x256 .f32), FVec F S8x16x256 .bf16 ← k0_part64 i arg1 harg1 arg2 harg2 arg3 harg3 arg4 harg4 arg5 harg5 arg6 harg6 arg7 harg7 arg8 harg8 arg9 harg9 arg10 harg10 arg11 harg11 arg12 harg12 arg13 harg13 v12 v1356 v1384 v1391 v1392
  let ⟨v1480, v1482, v1483⟩ : Σ' (v1480 : FVec F S64x256 .f32) (v1482 : IVec S64x256 32), IVec S64x256 32 ← k0_part65 i arg1 harg1 arg2 harg2 arg3 harg3 arg4 harg4 arg5 harg5 arg6 harg6 arg7 harg7 arg8 harg8 arg9 harg9 arg10 harg10 arg11 harg11 arg12 harg12 arg13 harg13 v12 v1418 v1438
  let ⟨v1508, v1528, v1530⟩ : Σ' (v1508 : FVec F S128x256 .bf16) (v1528 : FVec F S8x16x256 .bf16), FVec F S1x256 .f32 ← k0_part66 i arg1 harg1 arg2 harg2 arg3 harg3 arg4 harg4 arg5 harg5 arg6 harg6 arg7 harg7 arg8 harg8 arg9 harg9 arg10 harg10 arg11 harg11 arg12 harg12 arg13 harg13 v1482 v1483
  let v1567 : FVec F S1x256 .f32 ← k0_part67 i arg1 harg1 arg2 harg2 arg3 harg3 arg4 harg4 arg5 harg5 arg6 harg6 arg7 harg7 arg8 harg8 arg9 harg9 arg10 harg10 arg11 harg11 arg12 harg12 arg13 harg13 v12 v14 v1480 v1508 v1528 v1530
  k0_part68 i arg1 harg1 arg2 harg2 arg3 harg3 arg4 harg4 arg5 harg5 arg6 harg6 arg7 harg7 arg8 harg8 arg9 harg9 arg10 harg10 arg11 harg11 arg12 harg12 arg13 harg13 v14 v1567
  let ⟨v1631, k0_hw93⟩ : Σ' (v1631 : Elt F .i32), k0_chk93 v1631 ← k0_part69 i arg1 harg1 arg2 harg2 arg3 harg3 arg4 harg4 arg5 harg5 arg6 harg6 arg7 harg7 arg8 harg8 arg9 harg9 arg10 harg10 arg11 harg11 arg12 harg12 arg13 harg13 v14
  let v1667 : FVec F S1x256 .f32 ← k0_part70 i arg1 harg1 arg2 harg2 arg3 harg3 arg4 harg4 arg5 harg5 arg6 harg6 arg7 harg7 arg8 harg8 arg9 harg9 arg10 harg10 arg11 harg11 arg12 harg12 arg13 harg13 v14 v1631 k0_hw93
  k0_part71 i arg1 harg1 arg2 harg2 arg3 harg3 arg4 harg4 arg5 harg5 arg6 harg6 arg7 harg7 arg8 harg8 arg9 harg9 arg10 harg10 arg11 harg11 arg12 harg12 arg13 harg13 v14 v1667
  let ⟨v1731, k0_hw103⟩ : Σ' (v1731 : Elt F .i32), k0_chk103 v1731 ← k0_part72 i arg1 harg1 arg2 harg2 arg3 harg3 arg4 harg4 arg5 harg5 arg6 harg6 arg7 harg7 arg8 harg8 arg9 harg9 arg10 harg10 arg11 harg11 arg12 harg12 arg13 harg13 v14
  let v1767 : FVec F S1x256 .f32 ← k0_part73 i arg1 harg1 arg2 harg2 arg3 harg3 arg4 harg4 arg5 harg5 arg6 harg6 arg7 harg7 arg8 harg8 arg9 harg9 arg10 harg10 arg11 harg11 arg12 harg12 arg13 harg13 v14 v1731 k0_hw103
  k0_part74 i arg1 harg1 arg2 harg2 arg3 harg3 arg4 harg4 arg5 harg5 arg6 harg6 arg7 harg7 arg8 harg8 arg9 harg9 arg10 harg10 arg11 harg11 arg12 harg12 arg13 harg13 v14 v1767
  let ⟨v1831, k0_hw113⟩ : Σ' (v1831 : Elt F .i32), k0_chk113 v1831 ← k0_part75 i arg1 harg1 arg2 harg2 arg3 harg3 arg4 harg4 arg5 harg5 arg6 harg6 arg7 harg7 arg8 harg8 arg9 harg9 arg10 harg10 arg11 harg11 arg12 harg12 arg13 harg13 v14
  let v1867 : FVec F S1x256 .f32 ← k0_part76 i arg1 harg1 arg2 harg2 arg3 harg3 arg4 harg4 arg5 harg5 arg6 harg6 arg7 harg7 arg8 harg8 arg9 harg9 arg10 harg10 arg11 harg11 arg12 harg12 arg13 harg13 v14 v1831 k0_hw113
  k0_part77 i arg1 harg1 arg2 harg2 arg3 harg3 arg4 harg4 arg5 harg5 arg6 harg6 arg7 harg7 arg8 harg8 arg9 harg9 arg10 harg10 arg11 harg11 arg12 harg12 arg13 harg13 v14 v1867
  let ⟨v1933, v1934⟩ : Σ' (v1933 : IVec S64x256 32), IVec S64x1x256 32 ← k0_part78 i arg1 harg1 arg2 harg2 arg3 harg3 arg4 harg4 arg5 harg5 arg6 harg6 arg7 harg7 arg8 harg8 arg9 harg9 arg10 harg10 arg11 harg11 arg12 harg12 arg13 harg13 v14
  let ⟨v1955, v1982⟩ : Σ' (v1955 : FVec F S128x256 .bf16), FVec F S8x16x256 .bf16 ← k0_part79 i arg1 harg1 arg2 harg2 arg3 harg3 arg4 harg4 arg5 harg5 arg6 harg6 arg7 harg7 arg8 harg8 arg9 harg9 arg10 harg10 arg11 harg11 arg12 harg12 arg13 harg13 v1933 v1934
  let ⟨v1988, v2016, v2027⟩ : Σ' (v1988 : FVec F S64x256 .f32) (v2016 : FVec F S128x256 .bf16), FVec F S128x256 .f32 ← k0_part80 i arg1 harg1 arg2 harg2 arg3 harg3 arg4 harg4 arg5 harg5 arg6 harg6 arg7 harg7 arg8 harg8 arg9 harg9 arg10 harg10 arg11 harg11 arg12 harg12 arg13 harg13 v12 v1955 v1982
  let ⟨v2050, v2070, v2072⟩ : Σ' (v2050 : FVec F S64x256 .f32) (v2070 : FVec F S8x16x256 .bf16), FVec F S1x256 .f32 ← k0_part81 i arg1 harg1 arg2 harg2 arg3 harg3 arg4 harg4 arg5 harg5 arg6 harg6 arg7 harg7 arg8 harg8 arg9 harg9 arg10 harg10 arg11 harg11 arg12 harg12 arg13 harg13 v12 v1988 v2016 v2027
  let ⟨v2112, v2114, v2116, v2117⟩ : Σ' (v2112 : FVec F S64x256 .f32) (v2114 : IVec S64x256 32) (v2116 : IVec S64x256 32), IVec S64x256 32 ← k0_part82 i arg1 harg1 arg2 harg2 arg3 harg3 arg4 harg4 arg5 harg5 arg6 harg6 arg7 harg7 arg8 harg8 arg9 harg9 arg10 harg10 arg11 harg11 arg12 harg12 arg13 harg13 v12 v2050 v2070 v2072
  let ⟨v2140, v2160, v2165⟩ : Σ' (v2140 : FVec F S128x256 .bf16) (v2160 : FVec F S8x16x256 .bf16), FVec F S1x16x256 .bf16 ← k0_part83 i arg1 harg1 arg2 harg2 arg3 harg3 arg4 harg4 arg5 harg5 arg6 harg6 arg7 harg7 arg8 harg8 arg9 harg9 arg10 harg10 arg11 harg11 arg12 harg12 arg13 harg13 v2114 v2116 v2117
  let v2200 : BitVec 32 ← k0_part84 i arg1 harg1 arg2 harg2 arg3 harg3 arg4 harg4 arg5 harg5 arg6 harg6 arg7 harg7 arg8 harg8 arg9 harg9 arg10 harg10 arg11 harg11 arg12 harg12 arg13 harg13 v12 v14 v2112 v2140 v2160 v2165
  let ⟨v2233, k0_hw128, c4095_i32_808⟩ : Σ' (v2233 : Elt F .i32) (k0_hw128 : k0_chk128 v2233), BitVec 32 ← k0_part85 i arg1 harg1 arg2 harg2 arg3 harg3 arg4 harg4 arg5 harg5 arg6 harg6 arg7 harg7 arg8 harg8 arg9 harg9 arg10 harg10 arg11 harg11 arg12 harg12 arg13 harg13 v14 v2200
  let v2266 : Vec F S1x256 .f32 ← k0_part86 i arg1 harg1 arg2 harg2 arg3 harg3 arg4 harg4 arg5 harg5 arg6 harg6 arg7 harg7 arg8 harg8 arg9 harg9 arg10 harg10 arg11 harg11 arg12 harg12 arg13 harg13 v14 v2233 k0_hw128 c4095_i32_808
  pure ⟨arg0, v12, v14, v2266⟩

/-- A step after its opening: the tiles with the next step's gathers, and the last step's result. -/
noncomputable def core
    (i : grid0.Coords)
    (arg1 : Memref sig .tc .smem S16384 .i32) (harg1 : arg1.IsWhole)
    (arg2 : Memref sig .tc .vmem S128x128 .i32) (harg2 : arg2.IsWhole)
    (arg3 : Memref sig .tc .vmem S64x16384 .bf16) (harg3 : arg3.IsWhole)
    (arg4 : Memref sig .tc .vmem S512x7168 .i8) (harg4 : arg4.IsWhole)
    (arg5 : Memref sig .tc .vmem S8x7168 .bf16) (harg5 : arg5.IsWhole)
    (arg6 : Memref sig .tc .vmem S8x7168 .i8) (harg6 : arg6.IsWhole)
    (arg7 : Memref sig .tc .vmem S64x7168 .bf16) (harg7 : arg7.IsWhole)
    (arg8 : Memref sig .tc .vmem S4096x256 .f32) (harg8 : arg8.IsWhole)
    (arg9 : Memref sig .tc .vmem S1024x256 .f32) (harg9 : arg9.IsWhole)
    (arg10 : Memref sig .tc .vmem S2x64x1024 .bf16) (harg10 : arg10.IsWhole)
    (arg11 : Memref sig .tc .vmem S64x7168 .f32) (harg11 : arg11.IsWhole)
    (arg12 : Memref sig .tc .vmem S8x7168 .f32) (harg12 : arg12.IsWhole)
    (arg13 : Memref sig .tc .vmem S8x7168 .f32) (harg13 : arg13.IsWhole)
    (r : Σ' (arg0 : BitVec 32) (v12 : BitVec 32), BitVec 32) :
    Prog (TpuEff nD τ sig (Elt F) Λ₀ .tc) PUnit := do
  let ⟨arg0, v12, v14, v2266⟩ : Σ' (arg0 : BitVec 32) (v12 : BitVec 32) (v14 : BitVec 32), Vec F S1x256 .f32 ← core500 i arg1 harg1 arg2 harg2 arg3 harg3 arg4 harg4 arg5 harg5 arg6 harg6 arg7 harg7 arg8 harg8 arg9 harg9 arg10 harg10 arg11 harg11 arg12 harg12 arg13 harg13 r
  let v4481 : Elt F .i32 ← k0_part501 i arg1 harg1 arg2 harg2 arg3 harg3 arg4 harg4 arg5 harg5 arg6 harg6 arg7 harg7 arg8 harg8 arg9 harg9 arg10 harg10 arg11 harg11 arg12 harg12 arg13 harg13 v12 v14 v2266
  let ⟨v6761, k0_hw394⟩ : Σ' (v6761 : Elt F .i32), k0_chk394 v6761 ← k0_part502 i arg1 harg1 arg2 harg2 arg3 harg3 arg4 harg4 arg5 harg5 arg6 harg6 arg7 harg7 arg8 harg8 arg9 harg9 arg10 harg10 arg11 harg11 arg12 harg12 arg13 harg13 v12 v14 v4481
  let v8975 : FVec F S1x256 .f32 ← k0_part503 i arg1 harg1 arg2 harg2 arg3 harg3 arg4 harg4 arg5 harg5 arg6 harg6 arg7 harg7 arg8 harg8 arg9 harg9 arg10 harg10 arg11 harg11 arg12 harg12 arg13 harg13 v12 v14 v6761 k0_hw394
  let ⟨v11210, v11267⟩ : Σ' (v11210 : FVec F S64x256 .f32), FVec F S256x256 .bf16 ← k0_part504 i arg1 harg1 arg2 harg2 arg3 harg3 arg4 harg4 arg5 harg5 arg6 harg6 arg7 harg7 arg8 harg8 arg9 harg9 arg10 harg10 arg11 harg11 arg12 harg12 arg13 harg13 v12 v14 v8975
  let ⟨v13467, k0_hw797⟩ : Σ' (v13467 : Elt F .i32), k0_chk797 v13467 ← k0_part505 i arg1 harg1 arg2 harg2 arg3 harg3 arg4 harg4 arg5 harg5 arg6 harg6 arg7 harg7 arg8 harg8 arg9 harg9 arg10 harg10 arg11 harg11 arg12 harg12 arg13 harg13 v12 v14 v11210 v11267
  let ⟨v15738, v15747⟩ : Σ' (v15738 : FVec F S64x256 .f32), IVec S64x2x256 32 ← k0_part506 i arg1 harg1 arg2 harg2 arg3 harg3 arg4 harg4 arg5 harg5 arg6 harg6 arg7 harg7 arg8 harg8 arg9 harg9 arg10 harg10 arg11 harg11 arg12 harg12 arg13 harg13 v12 v14 v13467 k0_hw797
  k0_part507 i arg1 harg1 arg2 harg2 arg3 harg3 arg4 harg4 arg5 harg5 arg6 harg6 arg7 harg7 arg8 harg8 arg9 harg9 arg10 harg10 arg11 harg11 arg12 harg12 arg13 harg13 arg0 v12 v14 v15738 v15747
  if k0_h2 : k0_cond2 i = 1#1 then do
    let v17747 : Vec F S64x7168 .f32 ← Prog.lift (.load arg11 (Rect.unit (s := S64x7168) ![0, 0] S64x7168.size inb_S64x7168_S64x7168_0_0).toLoadRect (View.loadsAt_vmem h_S64x7168))
    let v17749 : Vec F S64x7168 .bf16 ← Prog.lift (.load arg7 (Rect.unit (s := S64x7168) ![0, 0] S64x7168.size inb_S64x7168_S64x7168_0_0).toLoadRect (View.loadsAt_vmem h_S64x7168))
    Prog.lift (.store arg7 (Rect.unit (s := S64x7168) ![0, 0] S64x7168.size inb_S64x7168_S64x7168_0_0) (k0_pay1 v17747) Finset.univ (View.stores_vmem h_S64x7168 (harg7.storeExact_slice rfl _ packedbf16_S64x7168_S64x7168_0_0) (fun _ => rfl)) (.inl rfl))
    pure ⟨⟩
  else do
    pure ⟨⟩
  pure ⟨⟩

/-- The body is its opening, then the rest. -/
theorem kernel_split
    (i : grid0.Coords)
    (arg1 : Memref sig .tc .smem S16384 .i32) (harg1 : arg1.IsWhole)
    (arg2 : Memref sig .tc .vmem S128x128 .i32) (harg2 : arg2.IsWhole)
    (arg3 : Memref sig .tc .vmem S64x16384 .bf16) (harg3 : arg3.IsWhole)
    (arg4 : Memref sig .tc .vmem S512x7168 .i8) (harg4 : arg4.IsWhole)
    (arg5 : Memref sig .tc .vmem S8x7168 .bf16) (harg5 : arg5.IsWhole)
    (arg6 : Memref sig .tc .vmem S8x7168 .i8) (harg6 : arg6.IsWhole)
    (arg7 : Memref sig .tc .vmem S64x7168 .bf16) (harg7 : arg7.IsWhole)
    (arg8 : Memref sig .tc .vmem S4096x256 .f32) (harg8 : arg8.IsWhole)
    (arg9 : Memref sig .tc .vmem S1024x256 .f32) (harg9 : arg9.IsWhole)
    (arg10 : Memref sig .tc .vmem S2x64x1024 .bf16) (harg10 : arg10.IsWhole)
    (arg11 : Memref sig .tc .vmem S64x7168 .f32) (harg11 : arg11.IsWhole)
    (arg12 : Memref sig .tc .vmem S8x7168 .f32) (harg12 : arg12.IsWhole)
    (arg13 : Memref sig .tc .vmem S8x7168 .f32) (harg13 : arg13.IsWhole) :
    cc0__kernel (F := F) i arg1 harg1 arg2 harg2 arg3 harg3 arg4 harg4 arg5 harg5 arg6 harg6 arg7 harg7 arg8 harg8 arg9 harg9 arg10 harg10 arg11 harg11 arg12 harg12 arg13 harg13 = (k0_part27 i arg1 harg1 arg2 harg2 arg3 harg3 arg4 harg4 arg5 harg5 arg6 harg6 arg7 harg7 arg8 harg8 arg9 harg9 arg10 harg10 arg11 harg11 arg12 harg12 arg13 harg13 >>= fun r => core i arg1 harg1 arg2 harg2 arg3 harg3 arg4 harg4 arg5 harg5 arg6 harg6 arg7 harg7 arg8 harg8 arg9 harg9 arg10 harg10 arg11 harg11 arg12 harg12 arg13 harg13 r) := by
  rw [cc0__kernel_eq_skeleton]; unfold cc0__kernel_skel; rw [k0_part500_eq_skeleton]
  exact Prog.bind_assoc _ _ _

/-- What a step leaves after its opening, WITH the proof that it runs there: the result's block, the gathered rows,
    the two slots of gathered columns and the accumulator; every other buffer as it was. -/
noncomputable def coreRun (c : Dev nD)
    (i : grid0.Coords)
    (arg1 : Memref sig .tc .smem S16384 .i32) (harg1 : arg1.IsWhole)
    (arg2 : Memref sig .tc .vmem S128x128 .i32) (harg2 : arg2.IsWhole)
    (arg3 : Memref sig .tc .vmem S64x16384 .bf16) (harg3 : arg3.IsWhole)
    (arg4 : Memref sig .tc .vmem S512x7168 .i8) (harg4 : arg4.IsWhole)
    (arg5 : Memref sig .tc .vmem S8x7168 .bf16) (harg5 : arg5.IsWhole)
    (arg6 : Memref sig .tc .vmem S8x7168 .i8) (harg6 : arg6.IsWhole)
    (arg7 : Memref sig .tc .vmem S64x7168 .bf16) (harg7 : arg7.IsWhole)
    (arg8 : Memref sig .tc .vmem S4096x256 .f32) (harg8 : arg8.IsWhole)
    (arg9 : Memref sig .tc .vmem S1024x256 .f32) (harg9 : arg9.IsWhole)
    (arg10 : Memref sig .tc .vmem S2x64x1024 .bf16) (harg10 : arg10.IsWhole)
    (arg11 : Memref sig .tc .vmem S64x7168 .f32) (harg11 : arg11.IsWhole)
    (arg12 : Memref sig .tc .vmem S8x7168 .f32) (harg12 : arg12.IsWhole)
    (arg13 : Memref sig .tc .vmem S8x7168 .f32) (harg13 : arg13.IsWhole)
    (v0 v12 v14 : BitVec 32)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) :
    { W : Bf (F := F) c arg7 × Bf (F := F) c arg9 × Bf (F := F) c arg10 × Bf (F := F) c arg11 //
      ∀ (E : Set ℕ) (Q : PUnit → sProp 𝕄),
        iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13
          ∗ (iprop(pt c arg1 f1 ∗ pt c arg2 f2 ∗ pt c arg3 f3 ∗ pt c arg4 f4 ∗ pt c arg5 f5 ∗ pt c arg6 f6 ∗ pt c arg7 W.1 ∗ pt c arg8 f8 ∗ pt c arg9 W.2.1 ∗ pt c arg10 W.2.2.1 ∗ pt c arg11 W.2.2.2 ∗ pt c arg12 f12 ∗ pt c arg13 f13) -∗ Q ⟨⟩))
        ⊢ wp frame (wpE (defs₀ (F := F)) Variants.none c none) E
            (core i arg1 harg1 arg2 harg2 arg3 harg3 arg4 harg4 arg5 harg5 arg6 harg6 arg7 harg7 arg8 harg8 arg9 harg9 arg10 harg10 arg11 harg11 arg12 harg12 arg13 harg13 ⟨v0, v12, v14⟩) Q } := by
  refine ⟨⟨?_, ?_, ?_, ?_⟩, fun E Q => ?run⟩
  case run =>
    iintro ⟨H1, H2, H3, H4, H5, H6, H7, H8, H9, H10, H11, H12, H13, Hk⟩
    unfold core core500
    sl_exec_parts (disch := exact chk_row _)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

end Cert.KernelIdeal.Proof

end
-- ==== Proof.KernelIdealOpen.lean ====
/-
  The opening of a step: on the first step the table, the first rows gathered and the cleared accumulator; on every
  step the scales and zero points. And a whole step, its opening and the rest.
-/
module

public import proofs.«01_k».proof.Proof.KernelIdealCore

@[expose] public section

noncomputable section

namespace Cert.KernelIdeal.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option warn.classDefReducibility false in
/-- The opening's gather loop: the rows are held at something. -/
@[sl_loop] noncomputable def loopInv_k0_t1 (c : Dev nD)
    (i : grid0.Coords)
    (arg1 : Memref sig .tc .smem S16384 .i32) (harg1 : arg1.IsWhole)
    (arg2 : Memref sig .tc .vmem S128x128 .i32) (harg2 : arg2.IsWhole)
    (arg3 : Memref sig .tc .vmem S64x16384 .bf16) (harg3 : arg3.IsWhole)
    (arg4 : Memref sig .tc .vmem S512x7168 .i8) (harg4 : arg4.IsWhole)
    (arg5 : Memref sig .tc .vmem S8x7168 .bf16) (harg5 : arg5.IsWhole)
    (arg6 : Memref sig .tc .vmem S8x7168 .i8) (harg6 : arg6.IsWhole)
    (arg7 : Memref sig .tc .vmem S64x7168 .bf16) (harg7 : arg7.IsWhole)
    (arg8 : Memref sig .tc .vmem S4096x256 .f32) (harg8 : arg8.IsWhole)
    (arg9 : Memref sig .tc .vmem S1024x256 .f32) (harg9 : arg9.IsWhole)
    (arg10 : Memref sig .tc .vmem S2x64x1024 .bf16) (harg10 : arg10.IsWhole)
    (arg11 : Memref sig .tc .vmem S64x7168 .f32) (harg11 : arg11.IsWhole)
    (arg12 : Memref sig .tc .vmem S8x7168 .f32) (harg12 : arg12.IsWhole)
    (arg13 : Memref sig .tc .vmem S8x7168 .f32) (harg13 : arg13.IsWhole)
    (k0_h1 : k0_cond1 i = 1#1) (c0_i32_6700 c1_i32_6702 : BitVec 32)
    (f1 : Bf (F := F) c arg1) (f8 : Bf (F := F) c arg8) :
    Gen.LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 k0_h1 c0_i32_6700 c1_i32_6702 where
  inv := fun k _ => iprop(pt c arg1 f1 ∗ pt c arg8 f8 ∗ ∃ f9 : Bf (F := F) c arg9, pt c arg9 f9)
  step := fun k _ => by
    iintro ⟨H1, H8, %f9, H9⟩
    unfold k0_t1_body
    sl_exec (disch := exact fun _ => chk_row _)
    sl_step
    isplitl [H1]; · iexact H1
    isplitl [H8]; · iexact H8
    iexists _; iexact H9

set_option maxRecDepth 100000 in
/-- The opening runs; it changes the scratch buffers only. -/
theorem openRun (c : Dev nD)
    (i : grid0.Coords)
    (arg1 : Memref sig .tc .smem S16384 .i32) (harg1 : arg1.IsWhole)
    (arg2 : Memref sig .tc .vmem S128x128 .i32) (harg2 : arg2.IsWhole)
    (arg3 : Memref sig .tc .vmem S64x16384 .bf16) (harg3 : arg3.IsWhole)
    (arg4 : Memref sig .tc .vmem S512x7168 .i8) (harg4 : arg4.IsWhole)
    (arg5 : Memref sig .tc .vmem S8x7168 .bf16) (harg5 : arg5.IsWhole)
    (arg6 : Memref sig .tc .vmem S8x7168 .i8) (harg6 : arg6.IsWhole)
    (arg7 : Memref sig .tc .vmem S64x7168 .bf16) (harg7 : arg7.IsWhole)
    (arg8 : Memref sig .tc .vmem S4096x256 .f32) (harg8 : arg8.IsWhole)
    (arg9 : Memref sig .tc .vmem S1024x256 .f32) (harg9 : arg9.IsWhole)
    (arg10 : Memref sig .tc .vmem S2x64x1024 .bf16) (harg10 : arg10.IsWhole)
    (arg11 : Memref sig .tc .vmem S64x7168 .f32) (harg11 : arg11.IsWhole)
    (arg12 : Memref sig .tc .vmem S8x7168 .f32) (harg12 : arg12.IsWhole)
    (arg13 : Memref sig .tc .vmem S8x7168 .f32) (harg13 : arg13.IsWhole)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (R : sProp 𝕄)
    (Q : (Σ' (arg0 : BitVec 32) (v12 : BitVec 32), BitVec 32) → sProp 𝕄)
    (hQ : ∀ r (g8 : Bf (F := F) c arg8) (g9 : Bf (F := F) c arg9) (g10 : Bf (F := F) c arg10) (g11 : Bf (F := F) c arg11) (g12 : Bf (F := F) c arg12) (g13 : Bf (F := F) c arg13), iprop((pt c arg1 f1 ∗ pt c arg2 f2 ∗ pt c arg3 f3 ∗ pt c arg4 f4 ∗ pt c arg5 f5 ∗ pt c arg6 f6 ∗ pt c arg7 f7 ∗ pt c arg8 g8 ∗ pt c arg9 g9 ∗ pt c arg10 g10 ∗ pt c arg11 g11 ∗ pt c arg12 g12 ∗ pt c arg13 g13) ∗ R) ⊢ Q r) :
    iprop((pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13) ∗ R)
      ⊢ wp frame (wpE (defs₀ (F := F)) Variants.none c none) Set.univ
          (k0_part27 i arg1 harg1 arg2 harg2 arg3 harg3 arg4 harg4 arg5 harg5 arg6 harg6 arg7 harg7 arg8 harg8 arg9 harg9 arg10 harg10 arg11 harg11 arg12 harg12 arg13 harg13) Q := by
  iintro ⟨⟨H1, H2, H3, H4, H5, H6, H7, H8, H9, H10, H11, H12, H13⟩, HR⟩
  by_cases k0_h1 : k0_cond1 i = 1#1
  · sl_exec_parts (disch := exact fun _ => chk_row _)
    sl_step
    iapply (hQ _ _ _ _ _ _ _)
    isplitr [HR]; swap; · iexact HR
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · sl_exec_parts (disch := exact fun _ => chk_row _)
    sl_step
    iapply (hQ _ _ _ _ _ _ _)
    isplitr [HR]; swap; · iexact HR
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- The rest of a step, after its opening: what it leaves in the four buffers it writes, as `coreRun` names it. -/
theorem core_spec (c : Dev nD)
    (i : grid0.Coords)
    (arg1 : Memref sig .tc .smem S16384 .i32) (harg1 : arg1.IsWhole)
    (arg2 : Memref sig .tc .vmem S128x128 .i32) (harg2 : arg2.IsWhole)
    (arg3 : Memref sig .tc .vmem S64x16384 .bf16) (harg3 : arg3.IsWhole)
    (arg4 : Memref sig .tc .vmem S512x7168 .i8) (harg4 : arg4.IsWhole)
    (arg5 : Memref sig .tc .vmem S8x7168 .bf16) (harg5 : arg5.IsWhole)
    (arg6 : Memref sig .tc .vmem S8x7168 .i8) (harg6 : arg6.IsWhole)
    (arg7 : Memref sig .tc .vmem S64x7168 .bf16) (harg7 : arg7.IsWhole)
    (arg8 : Memref sig .tc .vmem S4096x256 .f32) (harg8 : arg8.IsWhole)
    (arg9 : Memref sig .tc .vmem S1024x256 .f32) (harg9 : arg9.IsWhole)
    (arg10 : Memref sig .tc .vmem S2x64x1024 .bf16) (harg10 : arg10.IsWhole)
    (arg11 : Memref sig .tc .vmem S64x7168 .f32) (harg11 : arg11.IsWhole)
    (arg12 : Memref sig .tc .vmem S8x7168 .f32) (harg12 : arg12.IsWhole)
    (arg13 : Memref sig .tc .vmem S8x7168 .f32) (harg13 : arg13.IsWhole)
    (v0 v12 v14 : BitVec 32)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) :
    ∃ (g7 : Bf (F := F) c arg7) (g9 : Bf (F := F) c arg9) (g10 : Bf (F := F) c arg10) (g11 : Bf (F := F) c arg11),
      (g7, g9, g10, g11) = (coreRun c i arg1 harg1 arg2 harg2 arg3 harg3 arg4 harg4 arg5 harg5 arg6 harg6 arg7 harg7 arg8 harg8 arg9 harg9 arg10 harg10 arg11 harg11 arg12 harg12 arg13 harg13 v0 v12 v14 f1 f2 f3 f4 f5 f6 f7 f8 f9 f10 f11 f12 f13).1 ∧
      ∀ (E : Set ℕ) (Q : PUnit → sProp 𝕄),
        iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13
          ∗ (iprop(pt c arg1 f1 ∗ pt c arg2 f2 ∗ pt c arg3 f3 ∗ pt c arg4 f4 ∗ pt c arg5 f5 ∗ pt c arg6 f6 ∗ pt c arg7 g7 ∗ pt c arg8 f8 ∗ pt c arg9 g9 ∗ pt c arg10 g10 ∗ pt c arg11 g11 ∗ pt c arg12 f12 ∗ pt c arg13 f13) -∗ Q ⟨⟩))
        ⊢ wp frame (wpE (defs₀ (F := F)) Variants.none c none) E (core i arg1 harg1 arg2 harg2 arg3 harg3 arg4 harg4 arg5 harg5 arg6 harg6 arg7 harg7 arg8 harg8 arg9 harg9 arg10 harg10 arg11 harg11 arg12 harg12 arg13 harg13 ⟨v0, v12, v14⟩) Q := by
  generalize coreRun c i arg1 harg1 arg2 harg2 arg3 harg3 arg4 harg4 arg5 harg5 arg6 harg6 arg7 harg7 arg8 harg8 arg9 harg9 arg10 harg10 arg11 harg11 arg12 harg12 arg13 harg13 v0 v12 v14 f1 f2 f3 f4 f5 f6 f7 f8 f9 f10 f11 f12 f13 = W
  obtain ⟨⟨g7, g9, g10, g11⟩, h⟩ := W
  exact ⟨g7, g9, g10, g11, rfl, h⟩

set_option maxRecDepth 100000 in
/-- A whole step runs; it changes the result's block and the scratch buffers but the last two, and these in its opening. -/
theorem stepRun (c : Dev nD)
    (i : grid0.Coords)
    (arg1 : Memref sig .tc .smem S16384 .i32) (harg1 : arg1.IsWhole)
    (arg2 : Memref sig .tc .vmem S128x128 .i32) (harg2 : arg2.IsWhole)
    (arg3 : Memref sig .tc .vmem S64x16384 .bf16) (harg3 : arg3.IsWhole)
    (arg4 : Memref sig .tc .vmem S512x7168 .i8) (harg4 : arg4.IsWhole)
    (arg5 : Memref sig .tc .vmem S8x7168 .bf16) (harg5 : arg5.IsWhole)
    (arg6 : Memref sig .tc .vmem S8x7168 .i8) (harg6 : arg6.IsWhole)
    (arg7 : Memref sig .tc .vmem S64x7168 .bf16) (harg7 : arg7.IsWhole)
    (arg8 : Memref sig .tc .vmem S4096x256 .f32) (harg8 : arg8.IsWhole)
    (arg9 : Memref sig .tc .vmem S1024x256 .f32) (harg9 : arg9.IsWhole)
    (arg10 : Memref sig .tc .vmem S2x64x1024 .bf16) (harg10 : arg10.IsWhole)
    (arg11 : Memref sig .tc .vmem S64x7168 .f32) (harg11 : arg11.IsWhole)
    (arg12 : Memref sig .tc .vmem S8x7168 .f32) (harg12 : arg12.IsWhole)
    (arg13 : Memref sig .tc .vmem S8x7168 .f32) (harg13 : arg13.IsWhole)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (R : sProp 𝕄) (Q : PUnit → sProp 𝕄)
    (hQ : ∀ (g7 : Bf (F := F) c arg7) (g8 : Bf (F := F) c arg8) (g9 : Bf (F := F) c arg9) (g10 : Bf (F := F) c arg10) (g11 : Bf (F := F) c arg11) (g12 : Bf (F := F) c arg12) (g13 : Bf (F := F) c arg13), iprop((pt c arg1 f1 ∗ pt c arg2 f2 ∗ pt c arg3 f3 ∗ pt c arg4 f4 ∗ pt c arg5 f5 ∗ pt c arg6 f6 ∗ pt c arg7 g7 ∗ pt c arg8 g8 ∗ pt c arg9 g9 ∗ pt c arg10 g10 ∗ pt c arg11 g11 ∗ pt c arg12 g12 ∗ pt c arg13 g13) ∗ R) ⊢ Q ⟨⟩) :
    iprop((pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13) ∗ R)
      ⊢ wp frame (wpE (defs₀ (F := F)) Variants.none c none) Set.univ
          (cc0__kernel i arg1 harg1 arg2 harg2 arg3 harg3 arg4 harg4 arg5 harg5 arg6 harg6 arg7 harg7 arg8 harg8 arg9 harg9 arg10 harg10 arg11 harg11 arg12 harg12 arg13 harg13) Q := by
  rw [kernel_split, wp_bind]
  refine openRun c i arg1 harg1 arg2 harg2 arg3 harg3 arg4 harg4 arg5 harg5 arg6 harg6 arg7 harg7 arg8 harg8 arg9 harg9 arg10 harg10 arg11 harg11 arg12 harg12 arg13 harg13 f1 f2 f3 f4 f5 f6 f7 f8 f9 f10 f11 f12 f13 R _ ?_
  rintro ⟨v0, v12, v14⟩ g8 g9 g10 g11 g12 g13
  obtain ⟨W7, W9, W10, W11, -, hW⟩ := core_spec c i arg1 harg1 arg2 harg2 arg3 harg3 arg4 harg4 arg5 harg5 arg6 harg6 arg7 harg7 arg8 harg8 arg9 harg9 arg10 harg10 arg11 harg11 arg12 harg12 arg13 harg13 v0 v12 v14 f1 f2 f3 f4 f5 f6 f7 g8 g9 g10 g11 g12 g13
  iintro ⟨⟨H1, H2, H3, H4, H5, H6, H7, H8, H9, H10, H11, H12, H13⟩, HR⟩
  iapply (hW Set.univ Q)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨H1, H2, H3, H4, H5, H6, H7, H8, H9, H10, H11, H12, H13⟩
  iapply (hQ _ _ _ _ _ _ _)
  isplitr [HR]; swap; · iexact HR
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

end Cert.KernelIdeal.Proof

end
-- ==== Proof.KernelIdealFrame.lean ====
/-
  The frame of the kernel: it terminates, leaves its arguments as they were and every semaphore counter at zero.

  The scratch buffers are held at something between the steps and the result's block is not described.
-/
module

public import proofs.«01_k».proof.Proof.KernelIdealOpen
public import proofs.«01_k».proof.Proof.Gen.KernelIdeal.Frame
public import proofs.«01_k».proof.Proof.Gen.KernelIdeal.Points
public import Idealize.ShloMosaic.Lib.Pipeline.KitQuiescent

@[expose] public section

noncomputable section

namespace Cert.KernelIdeal.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [∀ e, Nonempty (Elt F e)]

local notation "𝕄" => MT nD τ sig Unit (Elt F) ℕ (UR sig nD τ) ℕ

/-- The proof's resource algebra: the pipeline's. -/
abbrev EP : Emb (UR sig nD τ) (MT nD τ sig Unit (Elt F) ℕ (UR sig nD τ) ℕ) := emb₁

/-- The launch element: every staging cell's owner at round 0 and a duty token for every transfer. -/
def u₀ : UR sig nD τ := initOf (Pipeline.cells cfgs launch0.cellOf_inj) (Pipeline.launchToks cfgs launch0.cellOf_inj)

omit [FloatOps F] [∀ e, Nonempty (Elt F e)] in
/-- Owning a whole buffer's memref at `X` is holding the buffer at contents that read `X`. -/
theorem owns_held (c : Dev nD) {sp : Space} {S : Shape} {e : EltTy} {M : Memref sig .tc sp S e} (h : M.IsWhole) (X : S.Idx → Elt F e) :
    (owns (c : Thread nD τ) M fullShare X : sProp 𝕄) = iprop(∃ f : Bf (F := F) c M, ⌜M.view.read (Elt F) f = X⌝ ∗ pt c M f) := by
  unfold owns; rw [h.set_eq_univ]

/-- Window 0's buffers are whole. -/
theorem hst0_0 (t : Fin cfg0.N) : (st0_0 t).IsWhole := hstage0_0 ((cfg0.slots t 0).cast nbuf0_0)
/-- Window 1's buffers are whole. -/
theorem hst0_1 (t : Fin cfg0.N) : (st0_1 t).IsWhole := hstage0_1 ((cfg0.slots t 1).cast nbuf0_1)
/-- Window 2's buffers are whole. -/
theorem hst0_2 (t : Fin cfg0.N) : (st0_2 t).IsWhole := hstage0_2 ((cfg0.slots t 2).cast nbuf0_2)
/-- Window 3's buffers are whole. -/
theorem hst0_3 (t : Fin cfg0.N) : (st0_3 t).IsWhole := hstage0_3 ((cfg0.slots t 3).cast nbuf0_3)
/-- Window 4's buffers are whole. -/
theorem hst0_4 (t : Fin cfg0.N) : (st0_4 t).IsWhole := hstage0_4 ((cfg0.slots t 4).cast nbuf0_4)
/-- Window 5's buffers are whole. -/
theorem hst0_5 (t : Fin cfg0.N) : (st0_5 t).IsWhole := hstage0_5 ((cfg0.slots t 5).cast nbuf0_5)
/-- Window 6's buffers are whole. -/
theorem hst0_6 (t : Fin cfg0.N) : (st0_6 t).IsWhole := hstage0_6 ((cfg0.slots t 6).cast nbuf0_6)

variable (m : (ℓ : Loc nD τ sig) → Buf (Elt F) ℓ) (ρ : Dev nD → PrngReg)

/-- The window the frame does not describe: the result's. -/
def fgt : Fin 7 → Bool
  | 0 => false | 1 => false | 2 => false | 3 => false | 4 => false | 5 => false | 6 => true

/-- The frame's proof data: every input's block stays as fetched, the scratch buffers are held at something. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => fun _ => Classical.arbitrary _
  Φ _ := Pipeline.scopedRest spec0 c
  q _ := fullShare
  owed _ := 0

set_option maxHeartbeats 2000000 in
/-- A step, from the six input blocks and the scratch buffers at something, hands them back. -/
theorem frame_body (c : Dev nD) :
    BodyObligation (fdats m 0 c) (defs₀ (F := F)) Variants.none () Set.univ fgt := fun t => by
  rw [bigSep_W0, bigSep_W0]
  dsimp only [fgt]
  simp only [owns_held c (hst0_0 t), owns_held c (hst0_1 t), owns_held c (hst0_2 t), owns_held c (hst0_3 t), owns_held c (hst0_4 t), owns_held c (hst0_5 t), owns_held c (hst0_6 t)]
  rw [show (fdats m 0 c).Φ t.castSucc = Pipeline.scopedRest spec0 c from rfl, show (fdats m 0 c).Φ t.succ = Pipeline.scopedRest spec0 c from rfl,
    show (fdats m 0 c).owesAt () t.succ = (fdats m 0 c).owesAt () t.castSucc from rfl, scopedRest0_eq]
  iintro ⟨⟨⟨%f8, H8⟩, ⟨%f9, H9⟩, ⟨%f10, H10⟩, ⟨%f11, H11⟩, ⟨%f12, H12⟩, ⟨%f13, H13⟩⟩, Howes, ⟨%d0, %f1, %hf1, H1⟩, ⟨%d1, %f2, %hf2, H2⟩, ⟨%d2, %f3, %hf3, H3⟩, ⟨%d3, %f4, %hf4, H4⟩, ⟨%d4, %f5, %hf5, H5⟩, ⟨%d5, %f6, %hf6, H6⟩, ⟨%X6, %f7, -, H7⟩⟩
  rw [show (defs₀ (F := F) Proc.tc 0 (t, cfg0.slots t)) = bodyAt0 t from rfl]
  iapply (stepRun c (grid0.coords t) (st0_0 t) (hst0_0 t) (st0_1 t) (hst0_1 t) (st0_2 t) (hst0_2 t) (st0_3 t) (hst0_3 t) (st0_4 t) (hst0_4 t) (st0_5 t) (hst0_5 t) (st0_6 t) (hst0_6 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) f1 f2 f3 f4 f5 f6 f7 f8 f9 f10 f11 f12 f13 ((fdats m 0 c).owesAt () t.castSucc) _ ?hQ)
  case hQ =>
    intro g7 g8 g9 g10 g11 g12 g13
    iintro ⟨⟨H1, H2, H3, H4, H5, H6, H7, H8, H9, H10, H11, H12, H13⟩, Howes⟩
    isplitl [H8 H9 H10 H11 H12 H13]
    · isplitl [H8]; · iexists _; iexact H8
      isplitl [H9]; · iexists _; iexact H9
      isplitl [H10]; · iexists _; iexact H10
      isplitl [H11]; · iexists _; iexact H11
      isplitl [H12]; · iexists _; iexact H12
      iexists _; iexact H13
    isplitl [Howes]; · iexact Howes
    isplitl [H1]; · iexists f1; isplitr; swap; (· iexact H1); ipureintro; exact hf1.trans (before0_0_of m (fdats m 0 c) rfl (fun _ => rfl) t d0)
    isplitl [H2]; · iexists f2; isplitr; swap; (· iexact H2); ipureintro; exact hf2.trans (before0_1_of m (fdats m 0 c) rfl (fun _ => rfl) t d1)
    isplitl [H3]; · iexists f3; isplitr; swap; (· iexact H3); ipureintro; exact hf3.trans (before0_2_of m (fdats m 0 c) rfl (fun _ => rfl) t d2)
    isplitl [H4]; · iexists f4; isplitr; swap; (· iexact H4); ipureintro; exact hf4.trans (before0_3_of m (fdats m 0 c) rfl (fun _ => rfl) t d3)
    isplitl [H5]; · iexists f5; isplitr; swap; (· iexact H5); ipureintro; exact hf5.trans (before0_4_of m (fdats m 0 c) rfl (fun _ => rfl) t d4)
    isplitl [H6]; · iexists f6; isplitr; swap; (· iexact H6); ipureintro; exact hf6.trans (before0_5_of m (fdats m 0 c) rfl (fun _ => rfl) t d5)
    iexists _, g7; isplitr; swap; (· iexact H7); ipureintro; rfl
  isplitr [Howes]; swap; · iexact Howes
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- An input window's array ends as the region found it. -/
theorem ArrIn (c : Dev nD) {mem : (ℓ : Loc nD τ sig) → Buf (Elt F) ℓ} (w : Fin cfg0.W) (hf : fgt w = false) (hw : (cfg0.win w).isOut = false)
    (h : ∀ w, ((fdats m 0 c).toRForget fgt).ArrAt w cfg0.N (mem ((cfg0.win w).arr.view.loc (c.tc : Thread nD τ)))) :
    mem ((cfg0.win w).arr.view.loc (c.tc : Thread nD τ)) = V m c (Pipeline.arrRef spec0 w) :=
  (((fdats m 0 c).toRForget_arrAt_iff hf _ _).mp (h w)).trans ((fdats m 0 c).arrAt_in w hw _)

/-- The physical post: the arguments' arrays at their launch contents. -/
def Kept (r : PUnit × MemSt nD τ sig (Elt F)) : Prop := ∀ c : Dev nD,
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)

-- the launch theorem's implicit arguments are found by unifying its conclusion with this one
set_option backward.isDefEq.respectTransparency.types false in
/-- From any memory with zero counters the kernel terminates, the arguments as they were and every counter at zero. -/
theorem frame_run : θ_run defs (onTc (τ := τ) (main (F := F))) ⟨m, fun _ => 0, ρ⟩ (fun r => Kept m r ∧ r.2.sem = fun _ => 0) :=
  Pipeline.θ_run_region_kit_forget_quiescent cfgs (fdats m) () (0 : Fin 1) launch0 (Pipeline.OwnSemFacts.none spec0) EP defs₀ Variants.none fgt m ρ main
    (hbody := fun c => (frame_body m c).loose)
    (hshare := fun c => (fdats m 0 c).share_full fun _ => rfl) (howed := fun _ _ => rfl)
    (G := fun _ => iprop(emp)) (u₀ := u₀)
    (hu₀ := by
      iintro Hu; imodintro
      isplitl [Hu]; · iapply (show (ownU u₀ : sProp 𝕄) ⊢ BI.own (EP (initOf (Pipeline.cells cfgs launch0.cellOf_inj) (Pipeline.launchToks cfgs launch0.cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none) (hA := fun _ _ => rfl)
    (X := fun _ => iprop(emp)) (Y := fun _ => iprop(emp)) (Z := fun c => Pipeline.unscopedRest spec0 c (V m c))
    (hX := fun c => by
      iintro ⟨Hr, -, -, -, -⟩; imodintro
      isplitr; · iempintro
      iexact Hr)
    (hin := fun c => by
      rw [show (fdats m 0 c).Φ 0 = Pipeline.scopedRest spec0 c from rfl]
      iintro ⟨-, Hr⟩; iexact Hr)
    (hout := fun c => by
      rw [Pipeline.ownSems0_none, show (fdats m 0 c).Φ (Fin.last cfg0.N) = Pipeline.scopedRest spec0 c from rfl]
      iintro Hr
      isplitr; · iempintro
      isplitr; · iempintro
      iexact Hr)
    (QY := fun c mem => mem.mem ((c.tc : Thread nD τ).loc main_arg0) = m ((c.tc : Thread nD τ).loc main_arg0)
      ∧ mem.mem ((c.tc : Thread nD τ).loc main_arg4) = m ((c.tc : Thread nD τ).loc main_arg4))
    (hY := fun c s' => by
      rw [unscopedRest0_eq, V_main_arg0, V_main_arg4]
      iintro ⟨-, ⟨H0, H4⟩, HSI⟩
      icombine HSI H0 gives %h0
      icombine HSI H4 gives %h4
      imodintro
      isplitr; · ipureintro; exact ⟨Buf.eq_of_forall_mem_univ h0, Buf.eq_of_forall_mem_univ h4⟩
      iexact HSI)
    (hQ := fun s h hz => ⟨fun c => ⟨(h c).2.1,
      (ArrIn m c 3 rfl rfl (h c).1).trans (V_main_arg1 m c),
      (ArrIn m c 4 rfl rfl (h c).1).trans (V_main_arg2 m c),
      (ArrIn m c 5 rfl rfl (h c).1).trans (V_main_arg3 m c),
      (h c).2.2,
      (ArrIn m c 0 rfl rfl (h c).1).trans (V_main_arg5 m c)⟩, hz⟩)

end Cert.KernelIdeal.Proof

end
-- ==== Proof.KernelIdealGather.lean ====
/-
  Gathering rows of the table: what the buffer of gathered rows holds after one more row is copied into it.
-/
module

public import proofs.«01_k».proof.Proof.KernelIdealHeld
public import Idealize.ShloMosaic.Lib.ValueIdxCore
public import Idealize.ShloMosaic.Lib.ValueIdx
public import Idealize.ShloMosaic.Lib.ValueLayout
public import Idealize.ShloMosaic.Lib.WritesUnit
public import Idealize.ShloMosaic.Lib.VecWindow
public import Idealize.ShloMosaic.Lib.Pointwise

@[expose] public section

noncomputable section

namespace Cert.KernelIdeal.Proof

open Cert.KernelIdeal Cert.KernelIdeal.Gen
open Idealize.ShloMosaic hiding ix0 ix1 ix2 ix3 ix4 ix5
open Idealize.ShloMosaic.ValueIdx
open Idealize.ShloMosaic.TcCoe

variable {F : FTy → Type} [FloatOps F]
variable {c : Dev nD} {arg1 : Memref sig .tc .smem S16384 .i32} {arg8 : Memref sig .tc .vmem S4096x256 .f32}
  {arg9 : Memref sig .tc .vmem S1024x256 .f32}

/-- The word `k` of the permutation. -/
def wordAt (f1 : Bf (F := F) c arg1) (k : ℕ) : BitVec 32 :=
  if h : k < 16384 then arg1.view.read (Elt F) f1 (ix1 ⟨k, h⟩) else 0#32

/-- The table's row a word names: its low twelve bits. -/
def row (w : BitVec 32) : Fin 4096 := ⟨(w &&& 4095#32).toNat, by
  have := Nat.and_le_right (n := w.toNat) (m := 4095)
  rw [BitVec.toNat_and]; simp only [BitVec.toNat_ofNat, Nat.reducePow, Nat.reduceMod] at this ⊢; omega⟩

/-- The first `n` gathered rows are the table's rows named by the words from `base` on. -/
def Gathered (f1 : Bf (F := F) c arg1) (f8 : Bf (F := F) c arg8) (f9 : Bf (F := F) c arg9) (base n : ℕ) : Prop :=
  ∀ κ : Fin 1024, κ.val < n → ∀ l : Fin 256,
    arg9.view.read (Elt F) f9 (ix2 κ l) = arg8.view.read (Elt F) f8 (ix2 (row (wordAt f1 (base + κ.val))) l)

theorem gathered_zero (f1 : Bf (F := F) c arg1) (f8 : Bf (F := F) c arg8) (f9 : Bf (F := F) c arg9) (base : ℕ) :
    Gathered f1 f8 f9 base 0 := fun _ h => absurd h (Nat.not_lt_zero _)

/-- A load of one word of the permutation. -/
theorem word_load (f1 : Bf (F := F) c arg1) (n : ℕ) {off : Fin 1 → ℕ} (inb : ∀ a, off a + S1.size a ≤ S16384.size a)
    (hoff : off = ![n]) (x) : arg1.view.readAt (Elt F) (Rect.unit (s := S16384) off S1.size inb).toLoadRect f1 x = wordAt f1 n := by
  subst hoff
  have hn : n < 16384 := by have := inb 0; simp [S16384, S1] at this; omega
  rw [View.readAt_apply, wordAt, dif_pos hn]
  refine congrArg _ (funext fun a => Fin.ext ?_)
  have hx : (x a).val = 0 := by
    have := (x a).isLt; fin_cases a; simpa [S1] using this
  fin_cases a
  show n + 1 * (x 0).val = n
  have : (x 0).val = 0 := hx
  omega

/-- One more row copied: the rows gathered so far and that one. -/
theorem gathered_cons {f1 : Bf (F := F) c arg1} {f8 : Bf (F := F) c arg8} {f9 : Bf (F := F) c arg9} {base n : ℕ}
    {off : Fin 2 → ℕ} {inb : ∀ a, off a + S1x256.size a ≤ S1024x256.size a} {v : Vec F S1x256 .f32}
    {L : List (View.Piece (Elt F) S1024x256 .f32)} (w : BitVec 32)
    {off8 : Fin 2 → ℕ} {inb8 : ∀ a, off8 a + S1x256.size a ≤ S4096x256.size a}
    (hoff : off = ![n, 0])
    (hv : v = shapeCast S1x256 (arg8.view.readAt (Elt F) (Rect.unit (s := S4096x256) off8 S1x256.size inb8).toLoadRect f8) shapeCasts_S1x256_S1x256)
    (hoff8 : off8 = ![(Scalar.indexCast (Scalar.andi w 4095#32)).toNat, 0])
    (hw : w = wordAt f1 (base + n))
    (h : Gathered f1 f8 (arg9.view.writes (Elt F) f9 L) base n) :
    Gathered f1 f8 (arg9.view.writes (Elt F) f9 ((⟨Rect.unit (s := S1024x256) off S1x256.size inb, v⟩ : View.Piece (Elt F) S1024x256 .f32) :: L)) base (n + 1) := by
  intro κ hκ l
  by_cases hlt : κ.val < n
  · rw [← h κ hlt l]
    exact View.read_writes_cons_rows_of_not_mem _ _ inb v L (ix2 κ l) hoff (W := 1) rfl (Or.inl hlt)
  · have hκn : κ.val = n := by omega
    refine (View.read_writes_cons_rows_of_mem _ _ inb v L (ix2 κ l) (ix2 (0 : Fin 1) l) hoff (by show κ.val = n + 0; omega) rfl).trans ?_
    subst hv hoff8
    refine (shapeCast_apply _ _ (ix2 (0 : Fin 1) l) (ix2 (0 : Fin 1) l) rfl).trans ?_
    rw [View.readAt_apply, hκn, ← hw]
    refine congrArg _ (funext fun a => Fin.ext ?_)
    fin_cases a
    · exact Nat.add_zero _
    · show 0 + 1 * l.val = l.val
      omega

end Cert.KernelIdeal.Proof

end
-- ==== Proof.KernelIdealRows.lean ====
/-
  The rows a step gathers for the next one: each is the table's row its word names.
-/
module

public import proofs.«01_k».proof.Proof.KernelIdealCore
public import proofs.«01_k».proof.Proof.KernelIdealGather
public import proofs.«01_k».proof.Proof.KernelIdealHeld
public import Idealize.ShloMosaic.Lib.ValueIdxCore
public import Idealize.ShloMosaic.Lib.ValueIdx
public import Idealize.ShloMosaic.Lib.ValueLayout
public import Idealize.ShloMosaic.Lib.WritesUnit
public import Idealize.ShloMosaic.Lib.VecWindow
public import Idealize.ShloMosaic.Lib.Pointwise

@[expose] public section

noncomputable section

namespace Cert.KernelIdeal.Proof

open Cert.KernelIdeal Cert.KernelIdeal.Gen
open Idealize.ShloMosaic hiding ix0 ix1 ix2 ix3 ix4 ix5
open Idealize.ShloMosaic.ValueIdx
open Idealize.ShloMosaic.TcCoe

variable {F : FTy → Type} [FloatOps F]

/-- One more row copied by a step, its word loaded from the permutation at an offset with a closed form. -/
theorem gathered_step {c : Dev nD} {arg1 : Memref sig .tc .smem S16384 .i32} {arg8 : Memref sig .tc .vmem S4096x256 .f32}
    {arg9 : Memref sig .tc .vmem S1024x256 .f32} {f1 : Bf (F := F) c arg1} {f8 : Bf (F := F) c arg8} {f9 : Bf (F := F) c arg9} {base n : ℕ}
    {inb : ∀ a, (![n, 0] : Fin 2 → ℕ) a + S1x256.size a ≤ S1024x256.size a} {v : Vec F S1x256 .f32}
    {L : List (View.Piece (Elt F) S1024x256 .f32)} {w : BitVec 32}
    {off8 : Fin 2 → ℕ} {inb8 : ∀ a, off8 a + S1x256.size a ≤ S4096x256.size a}
    {off1 : Fin 1 → ℕ} {inb1 : ∀ a, off1 a + S1.size a ≤ S16384.size a} {x} [co : ClosedOff off1]
    (hv : v = shapeCast S1x256 (arg8.view.readAt (Elt F) (Rect.unit (s := S4096x256) off8 S1x256.size inb8).toLoadRect f8) shapeCasts_S1x256_S1x256)
    (hoff8 : off8 = ![(Scalar.indexCast (Scalar.andi w 4095#32)).toNat, 0])
    (hw : w = arg1.view.readAt (Elt F) (Rect.unit (s := S16384) off1 S1.size inb1).toLoadRect f1 x)
    (hform : co.form = ![base + n])
    (h : Gathered f1 f8 (arg9.view.writes (Elt F) f9 L) base n) :
    Gathered f1 f8 (arg9.view.writes (Elt F) f9 ((⟨Rect.unit (s := S1024x256) ![n, 0] S1x256.size inb, v⟩ : View.Piece (Elt F) S1024x256 .f32) :: L)) base (n + 1) :=
  gathered_cons w rfl hv hoff8 (hw.trans (word_load f1 _ inb1 (co.eq.trans hform) x)) h

/-- The first word of the columns the step after step `i` multiplies (of its own again, at the last step). -/
def nextBase (i : grid0.Coords) : ℕ := 1024 * min ((i 0).val + 1) 15

variable (c : Dev nD) (i : grid0.Coords)
  (arg1 : Memref sig .tc .smem S16384 .i32) (arg8 : Memref sig .tc .vmem S4096x256 .f32) (arg9 : Memref sig .tc .vmem S1024x256 .f32)
  (f1 : Bf (F := F) c arg1) (f8 : Bf (F := F) c arg8) (f9 : Bf (F := F) c arg9)

/-! The rows gathered by each of the eight points at which a group of 128 of them is complete. -/

set_option maxRecDepth 100000 in
theorem rows_152 : Gathered f1 f8 (arg9.view.writes (Elt F) f9 (coreRun.sl.H9_152 c i arg1 arg8 f1 f8)) (nextBase i) 152 := by
  iterate 152 refine gathered_step rfl rfl rfl (by exact rfl) ?_
  exact gathered_zero _ _ _ _

set_option maxRecDepth 100000 in
theorem rows_266 : Gathered f1 f8 (arg9.view.writes (Elt F) f9 (coreRun.sl.H9_266 c i arg1 arg8 f1 f8)) (nextBase i) 266 := by
  iterate 114 refine gathered_step rfl rfl rfl (by exact rfl) ?_
  exact rows_152 c i arg1 arg8 arg9 f1 f8 f9

set_option maxRecDepth 100000 in
theorem rows_418 : Gathered f1 f8 (arg9.view.writes (Elt F) f9 (coreRun.sl.H9_418 c i arg1 arg8 f1 f8)) (nextBase i) 418 := by
  iterate 152 refine gathered_step rfl rfl rfl (by exact rfl) ?_
  exact rows_266 c i arg1 arg8 arg9 f1 f8 f9

set_option maxRecDepth 100000 in
theorem rows_531 : Gathered f1 f8 (arg9.view.writes (Elt F) f9 (coreRun.sl.H9_531 c i arg1 arg8 f1 f8)) (nextBase i) 531 := by
  iterate 113 refine gathered_step rfl rfl rfl (by exact rfl) ?_
  exact rows_418 c i arg1 arg8 arg9 f1 f8 f9

set_option maxRecDepth 100000 in
theorem rows_645 : Gathered f1 f8 (arg9.view.writes (Elt F) f9 (coreRun.sl.H9_645 c i arg1 arg8 f1 f8)) (nextBase i) 645 := by
  iterate 114 refine gathered_step rfl rfl rfl (by exact rfl) ?_
  exact rows_531 c i arg1 arg8 arg9 f1 f8 f9

set_option maxRecDepth 100000 in
theorem rows_797 : Gathered f1 f8 (arg9.view.writes (Elt F) f9 (coreRun.sl.H9_797 c i arg1 arg8 f1 f8)) (nextBase i) 797 := by
  iterate 152 refine gathered_step rfl rfl rfl (by exact rfl) ?_
  exact rows_645 c i arg1 arg8 arg9 f1 f8 f9

set_option maxRecDepth 100000 in
theorem rows_911 : Gathered f1 f8 (arg9.view.writes (Elt F) f9 (coreRun.sl.H9_911 c i arg1 arg8 f1 f8)) (nextBase i) 911 := by
  iterate 114 refine gathered_step rfl rfl rfl (by exact rfl) ?_
  exact rows_797 c i arg1 arg8 arg9 f1 f8 f9

set_option maxRecDepth 100000 in
theorem rows_1024 : Gathered f1 f8 (arg9.view.writes (Elt F) f9 (coreRun.sl.H9_1024 c i arg1 arg8 f1 f8)) (nextBase i) 1024 := by
  iterate 113 refine gathered_step rfl rfl rfl (by exact rfl) ?_
  exact rows_911 c i arg1 arg8 arg9 f1 f8 f9

end Cert.KernelIdeal.Proof

end
-- ==== Proof.Quarter.lean ====
/-
  The quotient of a word below 16384 by 4096, as the kernel computes it.
-/
module

public import Idealize.ShloMosaic.PureOps
public import Idealize.ShloMosaic.Lib.WordCmp

@[expose] public section

namespace Cert.KernelIdeal.Proof

open Idealize.ShloMosaic

/-- Which of the four column blocks a word names, as the kernel computes it. -/
def quarter (w : BitVec 32) : BitVec 32 :=
  Scalar.select (Scalar.andi (Scalar.cmpi .ne (Scalar.subi ((Scalar.cmpi .sgt w 0#32).setWidth 32) ((Scalar.cmpi .slt w 0#32).setWidth 32))
      (Scalar.subi (Scalar.extui (Scalar.cmpi .sgt 4096#32 0#32)) (Scalar.extui (Scalar.cmpi .slt 4096#32 0#32))))
    (Scalar.cmpi .ne (Scalar.remsi w 4096#32) 0#32)) (Scalar.subi (Scalar.divsi w 4096#32) 1#32) (Scalar.divsi w 4096#32)

/-- The signed quotient of a word below 16384 by 4096. -/
theorem divsi_4096 (w : BitVec 32) (hw : w.toNat < 16384) : Scalar.divsi w 4096#32 = BitVec.ofNat 32 (w.toNat / 4096) := by
  have hc : ¬ IntOp.SDivCorner w 4096#32 := by
    unfold IntOp.SDivCorner; rintro (h | ⟨-, h⟩) <;> exact absurd h (by decide)
  unfold Scalar.divsi IntOp.divsi
  rw [if_neg hc, BitVec.sdiv_eq]
  have h1 : w.msb = false := BitVec.msb_eq_false_iff_two_mul_lt.mpr (by omega)
  rw [h1, show (4096#32).msb = false from by decide]
  apply BitVec.eq_of_toNat_eq
  have h2 : (4096#32 : BitVec 32).toNat = 4096 := by decide
  simp only [BitVec.udiv_eq, BitVec.toNat_udiv, h2, BitVec.toNat_ofNat]
  omega

/-- On a word below 16384 it is the quotient by 4096. -/
theorem quarter_eq (w : BitVec 32) (hw : w.toNat < 16384) : quarter w = BitVec.ofNat 32 (w.toNat / 4096) := by
  by_cases h0 : w = 0#32
  · subst h0; decide
  have hn : w.toNat ≠ 0 := fun h => h0 (BitVec.eq_of_toNat_eq h)
  have hi : w.toInt = (w.toNat : Int) := BitVec.toInt_eq_toNat_of_lt (by omega)
  have hgt : Scalar.cmpi .sgt w 0#32 = 1#1 := by
    show BitVec.ofBool (decide ((0#32).toInt < w.toInt)) = 1#1
    have : (0#32).toInt = 0 := by decide
    rw [hi, this, decide_eq_true (by omega)]; rfl
  have hlt : Scalar.cmpi .slt w 0#32 = 0#1 := by
    show BitVec.ofBool (decide (w.toInt < (0#32).toInt)) = 0#1
    have : (0#32).toInt = 0 := by decide
    rw [hi, this, decide_eq_false (by omega)]; rfl
  unfold quarter
  rw [hgt, hlt, ← divsi_4096 w hw]
  generalize Scalar.divsi w 4096#32 = q
  generalize Scalar.cmpi .ne (Scalar.remsi w 4096#32) 0#32 = b
  have : Scalar.andi (Scalar.cmpi .ne (Scalar.subi ((1#1).setWidth 32) ((0#1).setWidth 32))
      (Scalar.subi (Scalar.extui (Scalar.cmpi .sgt 4096#32 0#32)) (Scalar.extui (Scalar.cmpi .slt 4096#32 0#32)))) b = 0#1 := by
    revert b; decide
  unfold Scalar.select
  rw [if_neg (by rw [this]; decide)]

end Cert.KernelIdeal.Proof
-- ==== Proof.KernelIdealTable.lean ====
/-
  The table of the activations and the columns gathered from it, read at an entry.
-/
module

public import proofs.«01_k».proof.Proof.KernelIdealGather
public import proofs.«01_k».proof.Proof.Quarter
public import Idealize.ShloMosaic.PureOps.Ideal.Laws
public import Idealize.ShloMosaic.Lib.Pipeline.Value

@[expose] public section

noncomputable section

namespace Cert.KernelIdeal.Proof

open Cert.KernelIdeal Cert.KernelIdeal.Gen
open Idealize.ShloMosaic hiding ix0 ix1 ix2 ix3 ix4 ix5
open Idealize.ShloMosaic.ValueIdx
open Idealize.ShloMosaic.TcCoe

section Generic
variable {F : FTy → Type} [FloatOps F]

/-- 128 rows of the table, from the four blocks of columns they come from. -/
def tpiece (a b c d : Vec F S64x128 .bf16) : FVec F S128x256 .f32 :=
  shapeCast S128x256 (transpose S128x256 [1, 0]
    (concatenate S256x128 0
      [⟨S64x128, extf .f32 (shapeCast S64x128 a shapeCasts_S64x128_S64x128 : FVec F S64x128 .bf16) bitsLt_bf16_f32⟩,
       ⟨S64x128, extf .f32 (shapeCast S64x128 b shapeCasts_S64x128_S64x128 : FVec F S64x128 .bf16) bitsLt_bf16_f32⟩,
       ⟨S64x128, extf .f32 (shapeCast S64x128 c shapeCasts_S64x128_S64x128 : FVec F S64x128 .bf16) bitsLt_bf16_f32⟩,
       ⟨S64x128, extf .f32 (shapeCast S64x128 d shapeCasts_S64x128_S64x128 : FVec F S64x128 .bf16) bitsLt_bf16_f32⟩]
      concatenates_S64x128_S64x128_S64x128_S64x128_S256x128_d0 : FVec F S256x128 .f32)
    transposes_S256x128_p1_0_S128x256 : FVec F S128x256 .f32) shapeCasts_S128x256_S128x256

/-- The 128 gathered columns, from the 128 gathered rows and their words. -/
def gpiece (rows : Vec F S128x256 .f32) (words : Vec F S1x128 .i32) : FVec F S1x64x128 .bf16 :=
  shapeCast S1x64x128 (k0_pay66 rows words) shapeCasts_S64x128_S1x64x128

end Generic

/-- The row a word names. -/
theorem row_val (w : BitVec 32) : (row w).val = w.toNat % 4096 := by
  show (w &&& 4095#32).toNat = _
  rw [BitVec.toNat_and]
  exact Nat.and_two_pow_sub_one_eq_mod w.toNat 12

/-- An entry of a piece of the table. -/
theorem tpiece_apply (a b c d : Vec Ideal S64x128 .bf16) (r : Fin 128) (q : Fin 4) (m : Fin 64) :
    tpiece (F := Ideal) a b c d (ix2 r ⟨q.val * 64 + m.val, by omega⟩)
      = (match q with | 0 => a | 1 => b | 2 => c | 3 => d : Vec Ideal S64x128 .bf16) (ix2 m r) := by
  unfold tpiece
  rw [shapeCast_self]
  refine (transpose_ix2_apply (a := 256) (b := 128) _ _ r ⟨q.val * 64 + m.val, by omega⟩).trans ?_
  have e := concatenate_ofFn_apply (t := S256x128) (s₁ := S64x128) 0
    (fun n : Fin 4 => (extf (F := Ideal) .f32 (shapeCast S64x128 (match n with | 0 => a | 1 => b | 2 => c | 3 => d : Vec Ideal S64x128 .bf16) shapeCasts_S64x128_S64x128 : FVec Ideal S64x128 .bf16) bitsLt_bf16_f32 : FVec Ideal S64x128 .f32))
    concatenates_S64x128_S64x128_S64x128_S64x128_S256x128_d0 rfl 64 rfl (ix2 ⟨q.val * 64 + m.val, by omega⟩ r) q
    (by show (q.val * 64 + m.val) / 64 = q.val; omega) (ix2 m r) (by show m.val = (q.val * 64 + m.val) % 64; omega)
    (by intro c hc; fin_cases c <;> first | rfl | exact absurd rfl hc)
  refine Eq.trans ?_ (e.trans ?_)
  · rfl
  · rw [shapeCast_self]; rfl

/-- An entry of a piece of gathered columns: the entry of the gathered row in the column block its word names. -/
theorem gpiece_apply (rows : Vec Ideal S128x256 .f32) (words : Vec Ideal S1x128 .i32) (m : Fin 64) (l : Fin 128)
    (hw : (words (ix2 0 l) : BitVec 32).toNat < 16384) :
    gpiece (F := Ideal) rows words (ix3 0 m l)
      = rows (ix2 l ⟨(words (ix2 0 l) : BitVec 32).toNat / 4096 * 64 + m.val, by omega⟩) := by
  unfold gpiece
  refine (shapeCast_apply _ _ (ix3 0 m l) (ix2 m l) (by simp [Shape.rowMajor_val_two, Shape.rowMajor_val_three])).trans ?_
  have hT : ∀ (o : ℕ) (ho : o + 64 ≤ 256) (h : S256x128.Slices ![o, 0] S64x128),
      extractStridedSlice S64x128 ![o, 0] (transpose S256x128 [1, 0] rows transposes_S128x256_p1_0_S256x128 : FVec Ideal S256x128 .f32) h (ix2 m l)
        = rows (ix2 l ⟨o + m.val, by omega⟩) := by
    intro o ho h
    refine (extractStridedSlice_apply _ _ _ (ix2 m l) (ix2 (⟨o + m.val, by omega⟩ : Fin 256) l) (by intro a; fin_cases a <;> first | rfl | exact (Nat.zero_add _).symm)).trans ?_
    exact transpose_ix2_apply (a := 128) (b := 256) _ _ ⟨o + m.val, by omega⟩ l
  have hq : ∀ (x : IVec S1x128 32), (broadcastTo S64x128 (shapeCast S1x128 x shapeCasts_S1x128_S1x128 : IVec S1x128 32) broadcasts_S1x128_S64x128 : IVec S64x128 32) (ix2 m l) = x (ix2 0 l) := by
    intro x
    rw [Idealize.ShloMosaic.broadcastTo_apply _ _ (ix2 m l) (ix2 (0 : Fin 1) l) (by intro a; fin_cases a <;> rfl), shapeCast_self]
  have key : k0_pay66 (F := Ideal) rows words (ix2 m l)
      = Scalar.select (Scalar.cmpi .eq (quarter (words (ix2 0 l))) 3#32) (rows (ix2 l ⟨192 + m.val, by omega⟩))
        (Scalar.select (Scalar.cmpi .eq (quarter (words (ix2 0 l))) 2#32) (rows (ix2 l ⟨128 + m.val, by omega⟩))
          (Scalar.select (Scalar.cmpi .eq (quarter (words (ix2 0 l))) 1#32) (rows (ix2 l ⟨64 + m.val, by omega⟩))
            (rows (ix2 l ⟨0 + m.val, by omega⟩)))) := by
    rw [← hT 192 (by omega) slices_S256x128_o192_0_S64x128, ← hT 128 (by omega) slices_S256x128_o128_0_S64x128,
      ← hT 64 (by omega) slices_S256x128_o64_0_S64x128, ← hT 0 (by omega) slices_S256x128_o0_0_S64x128]
    unfold k0_pay66
    simp only [shapeCast_self (α := BitVec 32) (s := S1x128)]
    have hq' : ∀ (x : IVec S1x128 32), (broadcastTo S64x128 x broadcasts_S1x128_S64x128 : IVec S64x128 32) (ix2 m l) = x (ix2 0 l) := by
      intro x; have := hq x; rwa [shapeCast_self] at this
    simp only [truncf, select_apply, cmpi, hq']
    rfl
  rw [key, quarter_eq _ hw]
  rcases (by omega : (words (ix2 0 l) : BitVec 32).toNat / 4096 = 0 ∨ (words (ix2 0 l) : BitVec 32).toNat / 4096 = 1
      ∨ (words (ix2 0 l) : BitVec 32).toNat / 4096 = 2 ∨ (words (ix2 0 l) : BitVec 32).toNat / 4096 = 3) with h | h | h | h <;>
    · simp only [h]; rfl

end Cert.KernelIdeal.Proof

end
-- ==== Proof.KernelIdealColumns.lean ====
/-
  The gathered columns: what a slot holds after one more group of 128 columns is stored into it.
-/
module

public import proofs.«01_k».proof.Proof.KernelIdealTable
public import proofs.«01_k».proof.Proof.KernelIdealGather
public import proofs.«01_k».proof.Proof.KernelIdealHeld
public import Idealize.ShloMosaic.Lib.ValueIdxCore
public import Idealize.ShloMosaic.Lib.ValueIdx
public import Idealize.ShloMosaic.Lib.ValueLayout
public import Idealize.ShloMosaic.Lib.WritesUnit
public import Idealize.ShloMosaic.Lib.VecWindow
public import Idealize.ShloMosaic.Lib.Pointwise

@[expose] public section

noncomputable section

namespace Cert.KernelIdeal.Proof

open Cert.KernelIdeal Cert.KernelIdeal.Gen
open Idealize.ShloMosaic hiding ix0 ix1 ix2 ix3 ix4 ix5
open Idealize.ShloMosaic.ValueIdx
open Idealize.ShloMosaic.TcCoe

variable {c : Dev nD} {arg1 : Memref sig .tc .smem S16384 .i32} {arg2 : Memref sig .tc .vmem S128x128 .i32}
  {arg8 : Memref sig .tc .vmem S4096x256 .f32} {arg9 : Memref sig .tc .vmem S1024x256 .f32} {arg10 : Memref sig .tc .vmem S2x64x1024 .bf16}

/-- The table's first `n` rows hold the activations: row `r` has column `4096 q + r` of them in its `q`-th block of 64. -/
def Tabled (f8 : Bf (F := Ideal) c arg8) (xs : Fin 64 → ℕ → EReal) (n : ℕ) : Prop :=
  ∀ r : Fin 4096, r.val < n → ∀ (q : Fin 4) (m : Fin 64),
    arg8.view.read (Elt Ideal) f8 (ix2 r ⟨q.val * 64 + m.val, by omega⟩) = xs m (4096 * q.val + r.val)

/-- The entry of the table a word names, in the word's own block. -/
theorem table_entry {f8 : Bf (F := Ideal) c arg8} {xs : Fin 64 → ℕ → EReal} (hT : Tabled f8 xs 4096) (w : BitVec 32) (hw : w.toNat < 16384)
    (m : Fin 64) : arg8.view.read (Elt Ideal) f8 (ix2 (row w) ⟨w.toNat / 4096 * 64 + m.val, by omega⟩) = xs m w.toNat := by
  have h := hT (row w) (row w).isLt ⟨w.toNat / 4096, by omega⟩ m
  rw [row_val] at h
  rw [show 4096 * (w.toNat / 4096) + w.toNat % 4096 = w.toNat from Nat.div_add_mod _ _] at h
  exact h

/-- Slot `s` has in its first `n` columns the columns of the activations the words from `base` on name, and every other
    slot is as it was. -/
def Filled (f1 : Bf (F := Ideal) c arg1) (f10 g10 : Bf (F := Ideal) c arg10) (xs : Fin 64 → ℕ → EReal) (s : Fin 2) (base n : ℕ) : Prop :=
  (∀ κ : Fin 1024, κ.val < n → ∀ m : Fin 64, arg10.view.read (Elt Ideal) g10 (ix3 s m κ) = xs m (wordAt f1 (base + κ.val)).toNat)
    ∧ ∀ s' : Fin 2, s' ≠ s → ∀ (m : Fin 64) (κ : Fin 1024),
        arg10.view.read (Elt Ideal) g10 (ix3 s' m κ) = arg10.view.read (Elt Ideal) f10 (ix3 s' m κ)

theorem filled_zero (f1 : Bf (F := Ideal) c arg1) (f10 : Bf (F := Ideal) c arg10) (xs : Fin 64 → ℕ → EReal) (s : Fin 2) (base : ℕ) :
    Filled f1 f10 f10 xs s base 0 := ⟨fun _ h => absurd h (Nat.not_lt_zero _), fun _ _ _ _ => rfl⟩

/-- A load of 128 words from the permutation's rows of 128. -/
theorem words_load {f1 : Bf (F := Ideal) c arg1} {f2 : Bf (F := Ideal) c arg2}
    (hperm : ∀ a b : Fin 128, arg2.view.read (Elt Ideal) f2 (ix2 a b) = wordAt f1 (128 * a.val + b.val))
    (g : ℕ) {off : Fin 2 → ℕ} (inb : ∀ a, off a + S1x128.size a ≤ S128x128.size a) (hoff : off = ![g, 0]) (l : Fin 128) :
    arg2.view.readAt (Elt Ideal) (Rect.unit (s := S128x128) off S1x128.size inb).toLoadRect f2 (ix2 0 l) = wordAt f1 (128 * g + l.val) := by
  subst hoff
  have hg : g < 128 := by have := inb 0; simp [S128x128, S1x128] at this; omega
  rw [View.readAt_apply]
  refine Eq.trans (congrArg _ (funext fun a => Fin.ext ?_)) (hperm ⟨g, hg⟩ l)
  fin_cases a
  · exact Nat.add_zero _
  · show 0 + 1 * l.val = l.val
    omega

/-- A load of 128 gathered rows. -/
theorem rows_load {f1 : Bf (F := Ideal) c arg1} {f8 : Bf (F := Ideal) c arg8} {f9 : Bf (F := Ideal) c arg9} {base n' : ℕ}
    (h : Gathered f1 f8 f9 base n') (n : ℕ) (hn : n + 128 ≤ n') {off : Fin 2 → ℕ} (inb : ∀ a, off a + S128x256.size a ≤ S1024x256.size a)
    (hoff : off = ![n, 0]) (l : Fin 128) (b : Fin 256) :
    arg9.view.readAt (Elt Ideal) (Rect.unit (s := S1024x256) off S128x256.size inb).toLoadRect f9 (ix2 l b)
      = arg8.view.read (Elt Ideal) f8 (ix2 (row (wordAt f1 (base + n + l.val))) b) := by
  subst hoff
  have hg : n + 128 ≤ 1024 := by have := inb 0; simpa [S1024x256, S128x256] using this
  rw [View.readAt_apply, Nat.add_assoc]
  refine Eq.trans (congrArg _ (funext fun a => Fin.ext ?_)) (h ⟨n + l.val, by omega⟩ (by show n + l.val < n'; omega) b)
  fin_cases a
  · show n + 1 * l.val = n + l.val
    omega
  · show 0 + 1 * b.val = b.val
    omega

/-- One more group of 128 columns stored. -/
theorem filled_cons {f1 : Bf (F := Ideal) c arg1} {f8 : Bf (F := Ideal) c arg8} {f10 : Bf (F := Ideal) c arg10} {xs : Fin 64 → ℕ → EReal}
    {s : Fin 2} {base n : ℕ} {off : Fin 3 → ℕ} {inb : ∀ a, off a + S1x64x128.size a ≤ S2x64x1024.size a} {v : Vec Ideal S1x64x128 .bf16}
    {L : List (View.Piece (Elt Ideal) S2x64x1024 .bf16)} {rows : Vec Ideal S128x256 .f32} {words : Vec Ideal S1x128 .i32}
    (hT : Tabled f8 xs 4096) (hw : ∀ k, (wordAt f1 k).toNat < 16384)
    (hv : v = gpiece (F := Ideal) rows words)
    (hoff : off = ![s.val, 0, n])
    (hrows : ∀ l b, rows (ix2 l b) = arg8.view.read (Elt Ideal) f8 (ix2 (row (wordAt f1 (base + n + l.val))) b))
    (hwords : ∀ l, words (ix2 0 l) = wordAt f1 (base + n + l.val))
    (h : Filled f1 f10 (arg10.view.writes (Elt Ideal) f10 L) xs s base n) :
    Filled f1 f10 (arg10.view.writes (Elt Ideal) f10 ((⟨Rect.unit (s := S2x64x1024) off S1x64x128.size inb, v⟩ : View.Piece (Elt Ideal) S2x64x1024 .bf16) :: L))
      xs s base (n + 128) := by
  subst hv
  refine ⟨fun κ hκ m => ?_, fun s' hs m κ => ?_⟩
  · by_cases hlt : κ.val < n
    · rw [← h.1 κ hlt m]
      exact View.read_writes_cons_unit_of_not_mem _ _ inb _ L (ix3 s m κ) hoff 2 (Or.inl hlt)
    · obtain ⟨l, hl⟩ : ∃ l : Fin 128, κ.val = n + l.val := ⟨⟨κ.val - n, by omega⟩, by simp; omega⟩
      refine (View.read_writes_cons_unit_of_mem _ _ inb _ L (ix3 s m κ) (ix3 0 m l) hoff ?_).trans ?_
      · intro a
        fin_cases a
        · rfl
        · exact (Nat.zero_add _).symm
        · exact hl
      · have hwl := hwords l
        rw [gpiece_apply rows words m l (by rw [hwl]; exact hw _), hrows]
        have := table_entry hT (wordAt f1 (base + n + l.val)) (hw _) m
        rw [hl, ← Nat.add_assoc, ← this]
        refine congrArg _ (congrArg _ (Fin.ext ?_))
        show (words (ix2 0 l) : BitVec 32).toNat / 4096 * 64 + m.val = _
        rw [hwl]
  · rw [← h.2 s' hs m κ]
    refine View.read_writes_cons_unit_of_not_mem _ _ inb _ L (ix3 s' m κ) hoff 0 ?_
    have : s'.val ≠ s.val := fun e => hs (Fin.ext e)
    show s'.val < s.val ∨ s.val + 1 ≤ s'.val
    omega

end Cert.KernelIdeal.Proof

end
-- ==== Proof.KernelIdealNext.lean ====
/-
  The columns a step gathers for the next one, into the slot it does not read.
-/
module

public import proofs.«01_k».proof.Proof.KernelIdealRows
public import proofs.«01_k».proof.Proof.KernelIdealColumns
public import proofs.«01_k».proof.Proof.KernelIdealTable
public import proofs.«01_k».proof.Proof.KernelIdealHeld
public import proofs.«01_k».proof.Proof.KernelIdealHeld
public import Idealize.ShloMosaic.Lib.ValueIdxCore
public import Idealize.ShloMosaic.Lib.ValueIdx
public import Idealize.ShloMosaic.Lib.ValueLayout
public import Idealize.ShloMosaic.Lib.WritesUnit
public import Idealize.ShloMosaic.Lib.VecWindow
public import Idealize.ShloMosaic.Lib.Pointwise

@[expose] public section

noncomputable section

namespace Cert.KernelIdeal.Proof

open Cert.KernelIdeal Cert.KernelIdeal.Gen
open Idealize.ShloMosaic hiding ix0 ix1 ix2 ix3 ix4 ix5
open Idealize.ShloMosaic.ValueIdx
open Idealize.ShloMosaic.TcCoe

/-- The slot step `i` reads. -/
def slot (i : grid0.Coords) : Fin 2 := ⟨(i 0).val % 2, Nat.mod_lt _ (by decide)⟩

/-- The slot step `i` fills. -/
def other (i : grid0.Coords) : Fin 2 := ⟨1 - (i 0).val % 2, by omega⟩

theorem slot_ne_other (i : grid0.Coords) : slot i ≠ other i := by
  intro h
  have := congrArg Fin.val h
  simp only [slot, other] at this
  omega

/-- A word of the next step's group `j`. -/
theorem next_word {c : Dev nD} {arg1 : Memref sig .tc .smem S16384 .i32} (f1 : Bf (F := Ideal) c arg1) (i : grid0.Coords) (j : ℕ) (l : Fin 128) :
    wordAt f1 (128 * (8 * min ((i 0).val + 1) 15 + j) + l.val) = wordAt f1 (nextBase i + 128 * j + l.val) :=
  congrArg (wordAt f1) (by unfold nextBase; omega)

variable (c : Dev nD) (i : grid0.Coords)
  (arg1 : Memref sig .tc .smem S16384 .i32) (arg2 : Memref sig .tc .vmem S128x128 .i32)
  (arg8 : Memref sig .tc .vmem S4096x256 .f32) (arg9 : Memref sig .tc .vmem S1024x256 .f32) (arg10 : Memref sig .tc .vmem S2x64x1024 .bf16)
  (f1 : Bf (F := Ideal) c arg1) (f2 : Bf (F := Ideal) c arg2) (f8 : Bf (F := Ideal) c arg8)
  (f10 : Bf (F := Ideal) c arg10)

/-! The slot after each of the eight groups of 128 columns. -/

theorem cols_1 {xs : Fin 64 → ℕ → EReal}
    (hT : Tabled f8 xs 4096) (hw : ∀ k, (wordAt f1 k).toNat < 16384)
    (hperm : ∀ a b : Fin 128, arg2.view.read (Elt Ideal) f2 (ix2 a b) = wordAt f1 (128 * a.val + b.val)) :
    Filled f1 f10 (arg10.view.writes (Elt Ideal) f10 (coreRun.sl.H10_1 c i arg1 arg2 arg8 arg9 f1 f2 f8)) xs (other i) (nextBase i) 128 :=
  filled_cons hT hw rfl (slotW0_eq i) (rows_load (rows_152 c i arg1 arg8 arg9 f1 f8 _) 0 (by decide) _ rfl)
    (fun l => (words_load hperm _ _ (k0_off345_eq i) l).trans (next_word f1 i 0 l)) (filled_zero _ _ _ _ _)

theorem cols_2 {xs : Fin 64 → ℕ → EReal}
    (hT : Tabled f8 xs 4096) (hw : ∀ k, (wordAt f1 k).toNat < 16384)
    (hperm : ∀ a b : Fin 128, arg2.view.read (Elt Ideal) f2 (ix2 a b) = wordAt f1 (128 * a.val + b.val)) :
    Filled f1 f10 (arg10.view.writes (Elt Ideal) f10 (coreRun.sl.H10_2 c i arg1 arg2 arg8 arg9 f1 f2 f8)) xs (other i) (nextBase i) 256 :=
  filled_cons hT hw rfl (slotW128_eq i) (rows_load (rows_266 c i arg1 arg8 arg9 f1 f8 _) 128 (by decide) _ rfl)
    (fun l => (words_load hperm _ _ (k0_off587_eq i) l).trans (next_word f1 i 1 l)) (cols_1 c i arg1 arg2 arg8 arg9 arg10 f1 f2 f8 f10 hT hw hperm)

theorem cols_3 {xs : Fin 64 → ℕ → EReal}
    (hT : Tabled f8 xs 4096) (hw : ∀ k, (wordAt f1 k).toNat < 16384)
    (hperm : ∀ a b : Fin 128, arg2.view.read (Elt Ideal) f2 (ix2 a b) = wordAt f1 (128 * a.val + b.val)) :
    Filled f1 f10 (arg10.view.writes (Elt Ideal) f10 (coreRun.sl.H10_3 c i arg1 arg2 arg8 arg9 f1 f2 f8)) xs (other i) (nextBase i) 384 :=
  filled_cons hT hw rfl (slotW256_eq i) (rows_load (rows_418 c i arg1 arg8 arg9 f1 f8 _) 256 (by decide) _ rfl)
    (fun l => (words_load hperm _ _ (k0_off909_eq i) l).trans (next_word f1 i 2 l)) (cols_2 c i arg1 arg2 arg8 arg9 arg10 f1 f2 f8 f10 hT hw hperm)

theorem cols_4 {xs : Fin 64 → ℕ → EReal}
    (hT : Tabled f8 xs 4096) (hw : ∀ k, (wordAt f1 k).toNat < 16384)
    (hperm : ∀ a b : Fin 128, arg2.view.read (Elt Ideal) f2 (ix2 a b) = wordAt f1 (128 * a.val + b.val)) :
    Filled f1 f10 (arg10.view.writes (Elt Ideal) f10 (coreRun.sl.H10_4 c i arg1 arg2 arg8 arg9 f1 f2 f8)) xs (other i) (nextBase i) 512 :=
  filled_cons hT hw rfl (slotW384_eq i) (rows_load (rows_531 c i arg1 arg8 arg9 f1 f8 _) 384 (by decide) _ rfl)
    (fun l => (words_load hperm _ _ (k0_off1149_eq i) l).trans (next_word f1 i 3 l)) (cols_3 c i arg1 arg2 arg8 arg9 arg10 f1 f2 f8 f10 hT hw hperm)

theorem cols_5 {xs : Fin 64 → ℕ → EReal}
    (hT : Tabled f8 xs 4096) (hw : ∀ k, (wordAt f1 k).toNat < 16384)
    (hperm : ∀ a b : Fin 128, arg2.view.read (Elt Ideal) f2 (ix2 a b) = wordAt f1 (128 * a.val + b.val)) :
    Filled f1 f10 (arg10.view.writes (Elt Ideal) f10 (coreRun.sl.H10_5 c i arg1 arg2 arg8 arg9 f1 f2 f8)) xs (other i) (nextBase i) 640 :=
  filled_cons hT hw rfl (slotW512_eq i) (rows_load (rows_645 c i arg1 arg8 arg9 f1 f8 _) 512 (by decide) _ rfl)
    (fun l => (words_load hperm _ _ (k0_off1391_eq i) l).trans (next_word f1 i 4 l)) (cols_4 c i arg1 arg2 arg8 arg9 arg10 f1 f2 f8 f10 hT hw hperm)

theorem cols_6 {xs : Fin 64 → ℕ → EReal}
    (hT : Tabled f8 xs 4096) (hw : ∀ k, (wordAt f1 k).toNat < 16384)
    (hperm : ∀ a b : Fin 128, arg2.view.read (Elt Ideal) f2 (ix2 a b) = wordAt f1 (128 * a.val + b.val)) :
    Filled f1 f10 (arg10.view.writes (Elt Ideal) f10 (coreRun.sl.H10_6 c i arg1 arg2 arg8 arg9 f1 f2 f8)) xs (other i) (nextBase i) 768 :=
  filled_cons hT hw rfl (slotW640_eq i) (rows_load (rows_797 c i arg1 arg8 arg9 f1 f8 _) 640 (by decide) _ rfl)
    (fun l => (words_load hperm _ _ (k0_off1713_eq i) l).trans (next_word f1 i 5 l)) (cols_5 c i arg1 arg2 arg8 arg9 arg10 f1 f2 f8 f10 hT hw hperm)

theorem cols_7 {xs : Fin 64 → ℕ → EReal}
    (hT : Tabled f8 xs 4096) (hw : ∀ k, (wordAt f1 k).toNat < 16384)
    (hperm : ∀ a b : Fin 128, arg2.view.read (Elt Ideal) f2 (ix2 a b) = wordAt f1 (128 * a.val + b.val)) :
    Filled f1 f10 (arg10.view.writes (Elt Ideal) f10 (coreRun.sl.H10_7 c i arg1 arg2 arg8 arg9 f1 f2 f8)) xs (other i) (nextBase i) 896 :=
  filled_cons hT hw rfl (slotW768_eq i) (rows_load (rows_911 c i arg1 arg8 arg9 f1 f8 _) 768 (by decide) _ rfl)
    (fun l => (words_load hperm _ _ (k0_off1955_eq i) l).trans (next_word f1 i 6 l)) (cols_6 c i arg1 arg2 arg8 arg9 arg10 f1 f2 f8 f10 hT hw hperm)

theorem cols_8 {xs : Fin 64 → ℕ → EReal}
    (hT : Tabled f8 xs 4096) (hw : ∀ k, (wordAt f1 k).toNat < 16384)
    (hperm : ∀ a b : Fin 128, arg2.view.read (Elt Ideal) f2 (ix2 a b) = wordAt f1 (128 * a.val + b.val)) :
    Filled f1 f10 (arg10.view.writes (Elt Ideal) f10 (coreRun.sl.H10_8 c i arg1 arg2 arg8 arg9 f1 f2 f8)) xs (other i) (nextBase i) 1024 :=
  filled_cons hT hw rfl (slotW896_eq i) (rows_load (rows_1024 c i arg1 arg8 arg9 f1 f8 _) 896 (by decide) _ rfl)
    (fun l => (words_load hperm _ _ (k0_off2195_eq i) l).trans (next_word f1 i 7 l)) (cols_7 c i arg1 arg2 arg8 arg9 arg10 f1 f2 f8 f10 hT hw hperm)

end Cert.KernelIdeal.Proof

end
-- ==== Proof.KernelIdealTile.lean ====
/-
  The value of one tile of the accumulator: the dequantized weights of a block of rows, and their product with the
  gathered columns, both as the kernel computes them, read at an entry on the extended reals.
-/
module

public import proofs.«01_k».proof.Proof.Gen.KernelIdeal
public import Idealize.ShloMosaic.PureOps.Ideal.Laws
public import Idealize.ShloMosaic.Lib.ValueIdxCore
public import Idealize.ShloMosaic.Lib.ValueIdx
public import Idealize.ShloMosaic.Lib.ValueLayout
public import Idealize.ShloMosaic.Lib.MatmulPlain
public import Idealize.ShloMosaic.Lib.Pipeline.Value
public import Idealize.ShloMosaic.Lib.Pointwise

@[expose] public section

noncomputable section

namespace Cert.KernelIdeal.Proof

open Cert.KernelIdeal Cert.KernelIdeal.Gen
open Idealize.ShloMosaic hiding ix0 ix1 ix2 ix3 ix4 ix5
open Idealize.ShloMosaic.ValueIdx
open scoped BigOperators

/-- The four-bit weight a packed byte holds: the low half at an even row, the high half at an odd one. -/
noncomputable def nib (w : BitVec 8) (h : ℕ) : EReal :=
  if h % 2 = 0 then FloatOps.sitofp (F := Ideal) .f32 ((w.setWidth 32) &&& 15#32)
  else FloatOps.sitofp (F := Ideal) .f32 (Scalar.shrsi (w.setWidth 32) 4#32)

section Generic
variable {F : FTy → Type} [FloatOps F]

/-- The weights of one group of 128 rows and 256 columns, from its packed bytes, its zero points and its scales. -/
noncomputable def wtile (q : Vec F S64x256 .i8) (z s : Vec F S1x256 .f32) : FVec F S128x256 .bf16 :=
  let q32 : IVec S64x256 32 := extui 32 q natLt_8_32
  let lo : IVec S64x256 32 := andi q32 (broadcast S64x256 15#32)
  let hi : IVec S64x256 32 := shrsi q32 (broadcast S64x256 4#32)
  let c : IVec S64x2x256 32 := concatenate S64x2x256 1
    [⟨S64x1x256, shapeCast S64x1x256 lo shapeCasts_S64x256_S64x1x256⟩, ⟨S64x1x256, shapeCast S64x1x256 hi shapeCasts_S64x256_S64x1x256⟩]
    concatenates_S64x1x256_S64x1x256_S64x2x256_d1
  let cf : FVec F S128x256 .bf16 := truncf .bf16 (sitofp .f32 (shapeCast S128x256 c shapeCasts_S64x2x256_S128x256) : FVec F S128x256 .f32) bitsLt_bf16_f32
  let row (v : Vec F S1x256 .f32) : FVec F S8x16x256 .bf16 :=
    broadcastTo S8x16x256 (shapeCast S1x16x256
      (truncf .bf16 (broadcastTo S16x256 (shapeCast S1x256 v shapeCasts_S1x256_S1x256) broadcasts_S1x256_S16x256 : FVec F S16x256 .f32) bitsLt_bf16_f32 : FVec F S16x256 .bf16)
      shapeCasts_S16x256_S1x16x256) broadcasts_S1x16x256_S8x16x256
  shapeCast S128x256 (mulf (subf (shapeCast S8x16x256 cf shapeCasts_S128x256_S8x16x256) (row z)) (row s) : FVec F S8x16x256 .bf16) shapeCasts_S8x16x256_S128x256

/-- The product of 256 gathered columns with two groups of weights. -/
noncomputable def dtile (x : Vec F S1x64x256 .bf16) (w₀ w₁ : FVec F S128x256 .bf16) : FVec F S64x256 .f32 :=
  matmul dot_S64x256_S256x256_S64x256_1_0_0_1_n_n none (shapeCast S64x256 x shapeCasts_S1x64x256_S64x256)
    (concatenate S256x256 0 [⟨S128x256, w₀⟩, ⟨S128x256, w₁⟩] concatenates_S128x256_S128x256_S256x256_d0)
    (constant S64x256 .f32 0x00000000#32)

/-- A tile of the accumulator after a step: what it held plus the products of the step's four blocks of columns. -/
noncomputable def tile (a : Vec F S64x256 .f32) (x₀ x₁ x₂ x₃ : Vec F S1x64x256 .bf16) (q₀ q₁ q₂ q₃ q₄ q₅ q₆ q₇ : Vec F S64x256 .i8)
    (z₀ z₁ z₂ z₃ z₄ z₅ z₆ z₇ s₀ s₁ s₂ s₃ s₄ s₅ s₆ s₇ : Vec F S1x256 .f32) : FVec F S64x256 .f32 :=
  addf a (addf (addf (addf (dtile x₀ (wtile q₀ z₀ s₀) (wtile q₁ z₁ s₁)) (dtile x₁ (wtile q₂ z₂ s₂) (wtile q₃ z₃ s₃)))
    (dtile x₂ (wtile q₄ z₄ s₄) (wtile q₅ z₅ s₅))) (dtile x₃ (wtile q₆ z₆ s₆) (wtile q₇ z₇ s₇)))

end Generic

@[local simp] theorem ix2_val0 {n0 n1 : ℕ} (a : Fin n0) (b : Fin n1) : ((ix2 a b) 0).val = a.val := rfl
@[local simp] theorem ix2_val1 {n0 n1 : ℕ} (a : Fin n0) (b : Fin n1) : ((ix2 a b) 1).val = b.val := rfl
@[local simp] theorem ix3_val0 {n0 n1 n2 : ℕ} (a : Fin n0) (b : Fin n1) (c : Fin n2) : ((ix3 a b c) 0).val = a.val := rfl
@[local simp] theorem ix3_val1 {n0 n1 n2 : ℕ} (a : Fin n0) (b : Fin n1) (c : Fin n2) : ((ix3 a b c) 1).val = b.val := rfl
@[local simp] theorem ix3_val2 {n0 n1 n2 : ℕ} (a : Fin n0) (b : Fin n1) (c : Fin n2) : ((ix3 a b c) 2).val = c.val := rfl

/-- One weight: its four bits less the zero point of its column, times the column's scale. -/
theorem wtile_apply (q : Vec Ideal S64x256 .i8) (z s : Vec Ideal S1x256 .f32) (a : Fin 128) (b : Fin 256) :
    wtile (F := Ideal) q z s (ix2 a b)
      = (nib (q (ix2 ⟨a.val / 2, by omega⟩ b)) a.val - z (ix2 0 b)) * s (ix2 0 b) := by
  have hrow : ∀ (v : Vec Ideal S1x256 .f32) (i : Fin 8) (j : Fin 16),
      broadcastTo S8x16x256 (shapeCast S1x16x256
        (truncf (F := Ideal) .bf16 (broadcastTo S16x256 (shapeCast S1x256 v shapeCasts_S1x256_S1x256) broadcasts_S1x256_S16x256 : FVec Ideal S16x256 .f32) bitsLt_bf16_f32 : FVec Ideal S16x256 .bf16)
        shapeCasts_S16x256_S1x16x256) broadcasts_S1x16x256_S8x16x256 (ix3 i j b) = v (ix2 0 b) := by
    intro v i j
    rw [Idealize.ShloMosaic.broadcastTo_apply _ _ (ix3 i j b) (ix3 (0 : Fin 1) j b) (by intro a; fin_cases a <;> rfl)]
    rw [shapeCast_apply _ _ (ix3 (0 : Fin 1) j b) (ix2 j b) (by simp [Shape.rowMajor_val_two, Shape.rowMajor_val_three])]
    show (broadcastTo S16x256 (shapeCast S1x256 v shapeCasts_S1x256_S1x256) broadcasts_S1x256_S16x256 : FVec Ideal S16x256 .f32) (ix2 j b) = _
    rw [Idealize.ShloMosaic.broadcastTo_apply _ _ (ix2 j b) (ix2 (0 : Fin 1) b) (by intro a; fin_cases a <;> rfl), shapeCast_self]
  unfold wtile
  rw [shapeCast_apply _ _ (ix2 a b) (ix3 (⟨a.val / 16, by omega⟩ : Fin 8) (⟨a.val % 16, by omega⟩ : Fin 16) b)
    (by simp [Shape.rowMajor_val_two, Shape.rowMajor_val_three]; omega)]
  refine congrArg₂ (· * ·) (congrArg₂ (· - ·) ?_ (hrow z _ _)) (hrow s _ _)
  rw [shapeCast_apply _ _ (ix3 (⟨a.val / 16, by omega⟩ : Fin 8) (⟨a.val % 16, by omega⟩ : Fin 16) b) (ix2 a b)
    (by simp [Shape.rowMajor_val_two, Shape.rowMajor_val_three]; omega)]
  show FloatOps.sitofp (F := Ideal) .f32 (shapeCast S128x256 _ _ (ix2 a b)) = _
  rw [shapeCast_apply _ _ (ix2 a b) (ix3 (⟨a.val / 2, by omega⟩ : Fin 64) (⟨a.val % 2, by omega⟩ : Fin 2) b)
    (by simp [Shape.rowMajor_val_two, Shape.rowMajor_val_three]; omega)]
  unfold nib
  rcases Nat.mod_two_eq_zero_or_one a.val with h | h
  · rw [if_pos h]
    rw [concatenate_pair_apply_left (s₁ := S64x1x256) (s₂ := S64x1x256) 1 _ _ _ (ix3 (⟨a.val / 2, by omega⟩ : Fin 64) (⟨a.val % 2, by omega⟩ : Fin 2) b) rfl (ix3 (⟨a.val / 2, by omega⟩ : Fin 64) (0 : Fin 1) b)]
    · rw [shapeCast_apply _ _ _ (ix2 (⟨a.val / 2, by omega⟩ : Fin 64) b) (by simp [Shape.rowMajor_val_two, Shape.rowMajor_val_three])]
      rfl
    all_goals first | (intro c; fin_cases c <;> simp [h]) | simp [h]
  · rw [if_neg (by omega)]
    rw [concatenate_pair_apply_right (s₁ := S64x1x256) (s₂ := S64x1x256) 1 _ _ _ (ix3 (⟨a.val / 2, by omega⟩ : Fin 64) (⟨a.val % 2, by omega⟩ : Fin 2) b) rfl rfl (ix3 (⟨a.val / 2, by omega⟩ : Fin 64) (0 : Fin 1) b)]
    · rw [shapeCast_apply _ _ _ (ix2 (⟨a.val / 2, by omega⟩ : Fin 64) b) (by simp [Shape.rowMajor_val_two, Shape.rowMajor_val_three])]
      rfl
    all_goals first | (intro c; fin_cases c <;> simp [h]) | simp [h]

/-- One entry of a product: the sum over its 256 columns. -/
theorem dtile_apply (x : Vec Ideal S1x64x256 .bf16) (w₀ w₁ : FVec Ideal S128x256 .bf16) (m : Fin 64) (b : Fin 256)
    (f : ℕ → EReal) (h₀ : ∀ a : Fin 128, x (ix3 0 m ⟨a.val, by omega⟩) * w₀ (ix2 a b) = f a.val)
    (h₁ : ∀ a : Fin 128, x (ix3 0 m ⟨128 + a.val, by omega⟩) * w₁ (ix2 a b) = f (128 + a.val)) :
    dtile (F := Ideal) x w₀ w₁ (ix2 m b) = ∑ k ∈ Finset.range 256, f k := by
  unfold dtile
  rw [show (dot_S64x256_S256x256_S64x256_1_0_0_1_n_n) = DotDims.plain 64 256 256 from rfl]
  refine (Ideal.matmul_plain_apply (M := 64) (K := 256) (N := 256) none _ _ _ m b).trans ?_
  rw [Finset.sum_range]
  have h0 : (constant (F := Ideal) S64x256 .f32 0x00000000#32 : FVec Ideal S64x256 .f32) (ix2 m b) = 0 := Ideal.ofBits_zero_f32
  rw [h0, zero_add]
  refine Finset.sum_congr rfl fun k _ => ?_
  rw [shapeCast_apply _ _ (ix2 m k) (ix3 (0 : Fin 1) m k) (by simp [Shape.rowMajor_val_two, Shape.rowMajor_val_three])]
  by_cases hk : k.val < 128
  · rw [concatenate_pair_apply_left (s₁ := S128x256) (s₂ := S128x256) 0 _ _ _ (ix2 k b) rfl (ix2 (⟨k.val, hk⟩ : Fin 128) b)
      (by intro c; fin_cases c <;> rfl)]
    exact h₀ ⟨k.val, hk⟩
  · rw [concatenate_pair_apply_right (s₁ := S128x256) (s₂ := S128x256) 0 _ _ _ (ix2 k b) rfl rfl (ix2 (⟨k.val - 128, by omega⟩ : Fin 128) b)
      (by intro c; fin_cases c <;> simp) (by simp; omega)]
    have := h₁ ⟨k.val - 128, by omega⟩
    have e : 128 + (k.val - 128) = k.val := by omega
    simp only [e] at this
    exact this

/-- One entry of a tile after a step: what it held plus the sum over the step's 1024 columns, each the gathered column's
    entry times its weight. `X`, `Q`, `Z` and `S` name the entries of the pieces the tile is computed from. -/
theorem tile_apply (a : Vec Ideal S64x256 .f32) (x₀ x₁ x₂ x₃ : Vec Ideal S1x64x256 .bf16) (q₀ q₁ q₂ q₃ q₄ q₅ q₆ q₇ : Vec Ideal S64x256 .i8)
    (z₀ z₁ z₂ z₃ z₄ z₅ z₆ z₇ s₀ s₁ s₂ s₃ s₄ s₅ s₆ s₇ : Vec Ideal S1x256 .f32) (m : Fin 64) (b : Fin 256)
    (X : ℕ → EReal) (Q : ℕ → BitVec 8) (Z S : ℕ → EReal)
    (hx₀ : ∀ k : Fin 256, x₀ (ix3 0 m k) = X k.val) (hx₁ : ∀ k : Fin 256, x₁ (ix3 0 m k) = X (256 + k.val))
    (hx₂ : ∀ k : Fin 256, x₂ (ix3 0 m k) = X (512 + k.val)) (hx₃ : ∀ k : Fin 256, x₃ (ix3 0 m k) = X (768 + k.val))
    (hq₀ : ∀ k : Fin 64, q₀ (ix2 k b) = Q k.val) (hq₁ : ∀ k : Fin 64, q₁ (ix2 k b) = Q (64 + k.val))
    (hq₂ : ∀ k : Fin 64, q₂ (ix2 k b) = Q (128 + k.val)) (hq₃ : ∀ k : Fin 64, q₃ (ix2 k b) = Q (192 + k.val))
    (hq₄ : ∀ k : Fin 64, q₄ (ix2 k b) = Q (256 + k.val)) (hq₅ : ∀ k : Fin 64, q₅ (ix2 k b) = Q (320 + k.val))
    (hq₆ : ∀ k : Fin 64, q₆ (ix2 k b) = Q (384 + k.val)) (hq₇ : ∀ k : Fin 64, q₇ (ix2 k b) = Q (448 + k.val))
    (hz₀ : z₀ (ix2 0 b) = Z 0) (hz₁ : z₁ (ix2 0 b) = Z 1) (hz₂ : z₂ (ix2 0 b) = Z 2) (hz₃ : z₃ (ix2 0 b) = Z 3)
    (hz₄ : z₄ (ix2 0 b) = Z 4) (hz₅ : z₅ (ix2 0 b) = Z 5) (hz₆ : z₆ (ix2 0 b) = Z 6) (hz₇ : z₇ (ix2 0 b) = Z 7)
    (hs₀ : s₀ (ix2 0 b) = S 0) (hs₁ : s₁ (ix2 0 b) = S 1) (hs₂ : s₂ (ix2 0 b) = S 2) (hs₃ : s₃ (ix2 0 b) = S 3)
    (hs₄ : s₄ (ix2 0 b) = S 4) (hs₅ : s₅ (ix2 0 b) = S 5) (hs₆ : s₆ (ix2 0 b) = S 6) (hs₇ : s₇ (ix2 0 b) = S 7) :
    tile (F := Ideal) a x₀ x₁ x₂ x₃ q₀ q₁ q₂ q₃ q₄ q₅ q₆ q₇ z₀ z₁ z₂ z₃ z₄ z₅ z₆ z₇ s₀ s₁ s₂ s₃ s₄ s₅ s₆ s₇ (ix2 m b)
      = a (ix2 m b) + ∑ k ∈ Finset.range 1024, X k * ((nib (Q (k / 2)) k - Z (k / 128)) * S (k / 128)) := by
  set f : ℕ → EReal := fun k => X k * ((nib (Q (k / 2)) k - Z (k / 128)) * S (k / 128)) with hf
  have hd : ∀ (n : ℕ) (x : Vec Ideal S1x64x256 .bf16) (q q' : Vec Ideal S64x256 .i8) (z z' s s' : Vec Ideal S1x256 .f32)
      (_ : ∀ k : Fin 256, x (ix3 0 m k) = X (256 * n + k.val))
      (_ : ∀ k : Fin 64, q (ix2 k b) = Q (128 * n + k.val)) (_ : ∀ k : Fin 64, q' (ix2 k b) = Q (128 * n + 64 + k.val))
      (_ : z (ix2 0 b) = Z (2 * n)) (_ : z' (ix2 0 b) = Z (2 * n + 1)) (_ : s (ix2 0 b) = S (2 * n)) (_ : s' (ix2 0 b) = S (2 * n + 1)),
      dtile (F := Ideal) x (wtile q z s) (wtile q' z' s') (ix2 m b) = ∑ k ∈ Finset.range 256, f (256 * n + k) := by
    intro n x q q' z z' s s' hx hq hq' hz hz' hs hs'
    refine dtile_apply x _ _ m b (fun k => f (256 * n + k)) (fun k => ?_) (fun k => ?_)
    · have hk := k.isLt
      rw [wtile_apply, hx, hq, hz, hs, hf]
      have e1 : (256 * n + k.val) / 2 = 128 * n + k.val / 2 := by omega
      have e2 : (256 * n + k.val) / 128 = 2 * n := by omega
      have e3 : (256 * n + k.val) % 2 = k.val % 2 := by omega
      simp only [e1, e2, nib, e3]
    · have hk := k.isLt
      rw [wtile_apply, hx, hq', hz', hs', hf]
      have e1 : (256 * n + (128 + k.val)) / 2 = 128 * n + 64 + k.val / 2 := by omega
      have e2 : (256 * n + (128 + k.val)) / 128 = 2 * n + 1 := by omega
      have e3 : (256 * n + (128 + k.val)) % 2 = k.val % 2 := by omega
      simp only [e1, e2, nib, e3]
  have d₀ := hd 0 x₀ q₀ q₁ z₀ z₁ s₀ s₁ (by simpa using hx₀) (by simpa using hq₀) (by simpa using hq₁) hz₀ hz₁ hs₀ hs₁
  have d₁ := hd 1 x₁ q₂ q₃ z₂ z₃ s₂ s₃ hx₁ hq₂ hq₃ hz₂ hz₃ hs₂ hs₃
  have d₂ := hd 2 x₂ q₄ q₅ z₄ z₅ s₄ s₅ hx₂ hq₄ hq₅ hz₄ hz₅ hs₄ hs₅
  have d₃ := hd 3 x₃ q₆ q₇ z₆ z₇ s₆ s₇ hx₃ hq₆ hq₇ hz₆ hz₇ hs₆ hs₇
  show a (ix2 m b) + (((dtile (F := Ideal) _ _ _ (ix2 m b) + dtile (F := Ideal) _ _ _ (ix2 m b)) + dtile (F := Ideal) _ _ _ (ix2 m b)) + dtile (F := Ideal) _ _ _ (ix2 m b)) = _
  rw [d₀, d₁, d₂, d₃]
  refine congrArg (a (ix2 m b) + ·) ?_
  rw [show (1024 : ℕ) = 256 + 256 + 256 + 256 from rfl, Finset.sum_range_add, Finset.sum_range_add, Finset.sum_range_add]
  simp [hf]

end Cert.KernelIdeal.Proof

end
-- ==== Proof.KernelIdealAdded.lean ====
/-
  The accumulator: what it holds after one more tile of 256 columns is stored into it.
-/
module

public import proofs.«01_k».proof.Proof.KernelIdealTile
public import proofs.«01_k».proof.Proof.KernelIdealTable
public import proofs.«01_k».proof.Proof.KernelIdealHeld
public import proofs.«01_k».proof.Proof.KernelIdealHeld
public import Idealize.ShloMosaic.Lib.ValueIdxCore
public import Idealize.ShloMosaic.Lib.ValueIdx
public import Idealize.ShloMosaic.Lib.ValueLayout
public import Idealize.ShloMosaic.Lib.WritesUnit
public import Idealize.ShloMosaic.Lib.VecWindow
public import Idealize.ShloMosaic.Lib.Pointwise

@[expose] public section

noncomputable section

namespace Cert.KernelIdeal.Proof

open Cert.KernelIdeal Cert.KernelIdeal.Gen
open Idealize.ShloMosaic hiding ix0 ix1 ix2 ix3 ix4 ix5
open Idealize.ShloMosaic.ValueIdx
open Idealize.ShloMosaic.TcCoe

/-- A load of a block of a rank-2 buffer, read at an entry. -/
theorem load_two {c : Dev nD} {sp : Space} {R C r w : ℕ} {e : EltTy} {M : Memref sig .tc sp ⟨2, ![R, C]⟩ e} {f : Bf (F := Ideal) c M}
    {G : ℕ → ℕ → Elt Ideal e} (hG : ∀ (a : Fin R) (b : Fin C), M.view.read (Elt Ideal) f (ix2 a b) = G a.val b.val) (p q : ℕ)
    (inb : ∀ a, (![p, q] : Fin 2 → ℕ) a + (⟨2, ![r, w]⟩ : Shape).size a ≤ (⟨2, ![R, C]⟩ : Shape).size a) (a : Fin r) (b : Fin w) :
    M.view.readAt (Elt Ideal) (Rect.unit (s := ⟨2, ![R, C]⟩) ![p, q] (⟨2, ![r, w]⟩ : Shape).size inb).toLoadRect f (ix2 a b)
      = G (p + a.val) (q + b.val) := by
  have h0 : p + r ≤ R := inb 0
  have h1 : q + w ≤ C := inb 1
  rw [View.readAt_apply]
  refine Eq.trans (congrArg _ (funext fun x => Fin.ext ?_)) (hG ⟨p + a.val, by omega⟩ ⟨q + b.val, by omega⟩)
  fin_cases x
  · show p + 1 * a.val = p + a.val
    omega
  · show q + 1 * b.val = q + b.val
    omega

variable {c : Dev nD} {arg4 : Memref sig .tc .vmem S512x7168 .i8} {arg10 : Memref sig .tc .vmem S2x64x1024 .bf16}
  {arg11 : Memref sig .tc .vmem S64x7168 .f32} {arg12 : Memref sig .tc .vmem S8x7168 .f32} {arg13 : Memref sig .tc .vmem S8x7168 .f32}

/-- Slot `s` of the gathered columns holds `X`. -/
def Reads (g : Bf (F := Ideal) c arg10) (s : Fin 2) (X : Fin 64 → ℕ → EReal) : Prop :=
  ∀ (m : Fin 64) (κ : Fin 1024), arg10.view.read (Elt Ideal) g (ix3 s m κ) = X m κ.val

/-- A load of 256 gathered columns, read at an entry. -/
theorem cols_load {g : Bf (F := Ideal) c arg10} {s : Fin 2} {X : Fin 64 → ℕ → EReal} (hg : Reads g s X) (n : ℕ) {off : Fin 3 → ℕ}
    (inb : ∀ a, off a + S1x64x256.size a ≤ S2x64x1024.size a) (hoff : off = ![s.val, 0, n]) (m : Fin 64) (k : Fin 256) :
    arg10.view.readAt (Elt Ideal) (Rect.unit (s := S2x64x1024) off S1x64x256.size inb).toLoadRect g (ix3 0 m k) = X m (n + k.val) := by
  subst hoff
  have h2 : n + 256 ≤ 1024 := inb 2
  rw [View.readAt_apply]
  refine Eq.trans (congrArg _ (funext fun x => Fin.ext ?_)) (hg m ⟨n + k.val, by omega⟩)
  fin_cases x
  · exact Nat.add_zero _
  · show 0 + 1 * m.val = m.val
    omega
  · show n + 1 * k.val = n + k.val
    omega

/-- What a step adds to an entry of the accumulator: the sum over its 1024 columns of the gathered entry times its weight. -/
def stepSum (X : Fin 64 → ℕ → EReal) (Q : ℕ → ℕ → BitVec 8) (Z S : ℕ → ℕ → EReal) (m : Fin 64) (b : ℕ) : EReal :=
  ∑ k ∈ Finset.range 1024, X m k * ((nib (Q (k / 2) b) k - Z (k / 128) b) * S (k / 128) b)

/-- The accumulator's first `n` columns have the step's sums added. -/
def Added (f11 g11 : Bf (F := Ideal) c arg11) (X : Fin 64 → ℕ → EReal) (Q : ℕ → ℕ → BitVec 8) (Z S : ℕ → ℕ → EReal) (n : ℕ) : Prop :=
  ∀ (m : Fin 64) (b : Fin 7168), b.val < n →
    arg11.view.read (Elt Ideal) g11 (ix2 m b) = arg11.view.read (Elt Ideal) f11 (ix2 m b) + stepSum X Q Z S m b.val

/-- One more tile of 256 columns stored. -/
theorem added_cons {f4 : Bf (F := Ideal) c arg4} {f11 g11 : Bf (F := Ideal) c arg11} {f12 : Bf (F := Ideal) c arg12} {f13 : Bf (F := Ideal) c arg13}
    {X : Fin 64 → ℕ → EReal} {Q : ℕ → ℕ → BitVec 8} {Z S : ℕ → ℕ → EReal} {s : Fin 2} {n : ℕ}
    {inb : ∀ a, (![0, n] : Fin 2 → ℕ) a + S64x256.size a ≤ S64x7168.size a} {v : Vec Ideal S64x256 .f32}
    {L : List (View.Piece (Elt Ideal) S64x7168 .f32)}
    {inbA : ∀ a, (![0, n] : Fin 2 → ℕ) a + S64x256.size a ≤ S64x7168.size a}
    {o0 : Fin 3 → ℕ} {inbX0 : ∀ a, o0 a + S1x64x256.size a ≤ S2x64x1024.size a} {g0 : Bf (F := Ideal) c arg10} [co0 : ClosedOff o0]
    {o1 : Fin 3 → ℕ} {inbX1 : ∀ a, o1 a + S1x64x256.size a ≤ S2x64x1024.size a} {g1 : Bf (F := Ideal) c arg10} [co1 : ClosedOff o1]
    {o2 : Fin 3 → ℕ} {inbX2 : ∀ a, o2 a + S1x64x256.size a ≤ S2x64x1024.size a} {g2 : Bf (F := Ideal) c arg10} [co2 : ClosedOff o2]
    {o3 : Fin 3 → ℕ} {inbX3 : ∀ a, o3 a + S1x64x256.size a ≤ S2x64x1024.size a} {g3 : Bf (F := Ideal) c arg10} [co3 : ClosedOff o3]
    {inbQ0 : ∀ a, (![0, n] : Fin 2 → ℕ) a + S64x256.size a ≤ S512x7168.size a}
    {inbQ1 : ∀ a, (![64, n] : Fin 2 → ℕ) a + S64x256.size a ≤ S512x7168.size a}
    {inbQ2 : ∀ a, (![128, n] : Fin 2 → ℕ) a + S64x256.size a ≤ S512x7168.size a}
    {inbQ3 : ∀ a, (![192, n] : Fin 2 → ℕ) a + S64x256.size a ≤ S512x7168.size a}
    {inbQ4 : ∀ a, (![256, n] : Fin 2 → ℕ) a + S64x256.size a ≤ S512x7168.size a}
    {inbQ5 : ∀ a, (![320, n] : Fin 2 → ℕ) a + S64x256.size a ≤ S512x7168.size a}
    {inbQ6 : ∀ a, (![384, n] : Fin 2 → ℕ) a + S64x256.size a ≤ S512x7168.size a}
    {inbQ7 : ∀ a, (![448, n] : Fin 2 → ℕ) a + S64x256.size a ≤ S512x7168.size a}
    {inbZ0 : ∀ a, (![0, n] : Fin 2 → ℕ) a + S1x256.size a ≤ S8x7168.size a}
    {inbZ1 : ∀ a, (![1, n] : Fin 2 → ℕ) a + S1x256.size a ≤ S8x7168.size a}
    {inbZ2 : ∀ a, (![2, n] : Fin 2 → ℕ) a + S1x256.size a ≤ S8x7168.size a}
    {inbZ3 : ∀ a, (![3, n] : Fin 2 → ℕ) a + S1x256.size a ≤ S8x7168.size a}
    {inbZ4 : ∀ a, (![4, n] : Fin 2 → ℕ) a + S1x256.size a ≤ S8x7168.size a}
    {inbZ5 : ∀ a, (![5, n] : Fin 2 → ℕ) a + S1x256.size a ≤ S8x7168.size a}
    {inbZ6 : ∀ a, (![6, n] : Fin 2 → ℕ) a + S1x256.size a ≤ S8x7168.size a}
    {inbZ7 : ∀ a, (![7, n] : Fin 2 → ℕ) a + S1x256.size a ≤ S8x7168.size a}
    (hQ : ∀ (a : Fin 512) (b : Fin 7168), arg4.view.read (Elt Ideal) f4 (ix2 a b) = Q a.val b.val)
    (hZ : ∀ (a : Fin 8) (b : Fin 7168), arg13.view.read (Elt Ideal) f13 (ix2 a b) = Z a.val b.val)
    (hS : ∀ (a : Fin 8) (b : Fin 7168), arg12.view.read (Elt Ideal) f12 (ix2 a b) = S a.val b.val)
    (hv : v = shapeCast S64x256 (tile (F := Ideal) (arg11.view.readAt (Elt Ideal) (Rect.unit (s := S64x7168) ![0, n] S64x256.size inbA).toLoadRect f11)
      (arg10.view.readAt (Elt Ideal) (Rect.unit (s := S2x64x1024) o0 S1x64x256.size inbX0).toLoadRect g0)
      (arg10.view.readAt (Elt Ideal) (Rect.unit (s := S2x64x1024) o1 S1x64x256.size inbX1).toLoadRect g1)
      (arg10.view.readAt (Elt Ideal) (Rect.unit (s := S2x64x1024) o2 S1x64x256.size inbX2).toLoadRect g2)
      (arg10.view.readAt (Elt Ideal) (Rect.unit (s := S2x64x1024) o3 S1x64x256.size inbX3).toLoadRect g3)
      (arg4.view.readAt (Elt Ideal) (Rect.unit (s := S512x7168) ![0, n] S64x256.size inbQ0).toLoadRect f4)
      (arg4.view.readAt (Elt Ideal) (Rect.unit (s := S512x7168) ![64, n] S64x256.size inbQ1).toLoadRect f4)
      (arg4.view.readAt (Elt Ideal) (Rect.unit (s := S512x7168) ![128, n] S64x256.size inbQ2).toLoadRect f4)
      (arg4.view.readAt (Elt Ideal) (Rect.unit (s := S512x7168) ![192, n] S64x256.size inbQ3).toLoadRect f4)
      (arg4.view.readAt (Elt Ideal) (Rect.unit (s := S512x7168) ![256, n] S64x256.size inbQ4).toLoadRect f4)
      (arg4.view.readAt (Elt Ideal) (Rect.unit (s := S512x7168) ![320, n] S64x256.size inbQ5).toLoadRect f4)
      (arg4.view.readAt (Elt Ideal) (Rect.unit (s := S512x7168) ![384, n] S64x256.size inbQ6).toLoadRect f4)
      (arg4.view.readAt (Elt Ideal) (Rect.unit (s := S512x7168) ![448, n] S64x256.size inbQ7).toLoadRect f4)
      (arg13.view.readAt (Elt Ideal) (Rect.unit (s := S8x7168) ![0, n] S1x256.size inbZ0).toLoadRect f13)
      (arg13.view.readAt (Elt Ideal) (Rect.unit (s := S8x7168) ![1, n] S1x256.size inbZ1).toLoadRect f13)
      (arg13.view.readAt (Elt Ideal) (Rect.unit (s := S8x7168) ![2, n] S1x256.size inbZ2).toLoadRect f13)
      (arg13.view.readAt (Elt Ideal) (Rect.unit (s := S8x7168) ![3, n] S1x256.size inbZ3).toLoadRect f13)
      (arg13.view.readAt (Elt Ideal) (Rect.unit (s := S8x7168) ![4, n] S1x256.size inbZ4).toLoadRect f13)
      (arg13.view.readAt (Elt Ideal) (Rect.unit (s := S8x7168) ![5, n] S1x256.size inbZ5).toLoadRect f13)
      (arg13.view.readAt (Elt Ideal) (Rect.unit (s := S8x7168) ![6, n] S1x256.size inbZ6).toLoadRect f13)
      (arg13.view.readAt (Elt Ideal) (Rect.unit (s := S8x7168) ![7, n] S1x256.size inbZ7).toLoadRect f13)
      (arg12.view.readAt (Elt Ideal) (Rect.unit (s := S8x7168) ![0, n] S1x256.size inbZ0).toLoadRect f12)
      (arg12.view.readAt (Elt Ideal) (Rect.unit (s := S8x7168) ![1, n] S1x256.size inbZ1).toLoadRect f12)
      (arg12.view.readAt (Elt Ideal) (Rect.unit (s := S8x7168) ![2, n] S1x256.size inbZ2).toLoadRect f12)
      (arg12.view.readAt (Elt Ideal) (Rect.unit (s := S8x7168) ![3, n] S1x256.size inbZ3).toLoadRect f12)
      (arg12.view.readAt (Elt Ideal) (Rect.unit (s := S8x7168) ![4, n] S1x256.size inbZ4).toLoadRect f12)
      (arg12.view.readAt (Elt Ideal) (Rect.unit (s := S8x7168) ![5, n] S1x256.size inbZ5).toLoadRect f12)
      (arg12.view.readAt (Elt Ideal) (Rect.unit (s := S8x7168) ![6, n] S1x256.size inbZ6).toLoadRect f12)
      (arg12.view.readAt (Elt Ideal) (Rect.unit (s := S8x7168) ![7, n] S1x256.size inbZ7).toLoadRect f12)) shapeCasts_S64x256_S64x256)
    (hf0 : co0.form = ![s.val, 0, 0]) (hf1 : co1.form = ![s.val, 0, 256]) (hf2 : co2.form = ![s.val, 0, 512]) (hf3 : co3.form = ![s.val, 0, 768])
    (hg0 : Reads g0 s X) (hg1 : Reads g1 s X) (hg2 : Reads g2 s X) (hg3 : Reads g3 s X)
    (h : Added f11 (arg11.view.writes (Elt Ideal) g11 L) X Q Z S n) :
    Added f11 (arg11.view.writes (Elt Ideal) g11 ((⟨Rect.unit (s := S64x7168) ![0, n] S64x256.size inb, v⟩ : View.Piece (Elt Ideal) S64x7168 .f32) :: L))
      X Q Z S (n + 256) := by
  subst hv
  intro m b hb
  by_cases hlt : b.val < n
  · rw [← h m b hlt]
    exact View.read_writes_cons_unit_of_not_mem _ _ inb _ L (ix2 m b) rfl 1 (Or.inl hlt)
  · obtain ⟨l, hl⟩ : ∃ l : Fin 256, b.val = n + l.val := ⟨⟨b.val - n, by omega⟩, by simp; omega⟩
    refine (View.read_writes_cons_unit_of_mem _ _ inb _ L (ix2 m b) (ix2 m l) rfl ?_).trans ?_
    · intro a
      fin_cases a
      · exact (Nat.zero_add _).symm
      · exact hl
    · obtain ⟨A, hA⟩ : ∃ A : ℕ → ℕ → Elt Ideal .f32, ∀ (a : Fin 64) (b : Fin 7168), arg11.view.read (Elt Ideal) f11 (ix2 a b) = A a.val b.val :=
        ⟨fun x y => if hh : x < 64 ∧ y < 7168 then arg11.view.read (Elt Ideal) f11 (ix2 (⟨x, hh.1⟩ : Fin 64) (⟨y, hh.2⟩ : Fin 7168)) else (0 : EReal),
          fun a b => by beta_reduce; rw [dif_pos ⟨a.isLt, b.isLt⟩]⟩
      refine (congrFun (shapeCast_self _ _) (ix2 m l)).trans ?_
      refine (tile_apply _ _ _ _ _ _ _ _ _ _ _ _ _ _ _ _ _ _ _ _ _ _ _ _ _ _ _ _ _ m l (X m) (fun k => Q k b.val) (fun k => Z k b.val) (fun k => S k b.val)
        (fun k => ?_) (fun k => ?_) (fun k => ?_) (fun k => ?_)
        (fun k => ?_) (fun k => ?_) (fun k => ?_) (fun k => ?_) (fun k => ?_) (fun k => ?_) (fun k => ?_) (fun k => ?_)
        ?_ ?_ ?_ ?_ ?_ ?_ ?_ ?_ ?_ ?_ ?_ ?_ ?_ ?_ ?_ ?_).trans ?_
      · exact (cols_load hg0 0 _ (co0.eq.trans hf0) m k).trans (congrArg (X m) (Nat.zero_add _))
      · exact cols_load hg1 256 _ (co1.eq.trans hf1) m k
      · exact cols_load hg2 512 _ (co2.eq.trans hf2) m k
      · exact cols_load hg3 768 _ (co3.eq.trans hf3) m k
      · exact (load_two hQ 0 n inbQ0 k l).trans (by rw [Nat.zero_add, hl])
      · exact (load_two hQ 64 n inbQ1 k l).trans (by rw [hl])
      · exact (load_two hQ 128 n inbQ2 k l).trans (by rw [hl])
      · exact (load_two hQ 192 n inbQ3 k l).trans (by rw [hl])
      · exact (load_two hQ 256 n inbQ4 k l).trans (by rw [hl])
      · exact (load_two hQ 320 n inbQ5 k l).trans (by rw [hl])
      · exact (load_two hQ 384 n inbQ6 k l).trans (by rw [hl])
      · exact (load_two hQ 448 n inbQ7 k l).trans (by rw [hl])
      · exact (load_two hZ 0 n inbZ0 0 l).trans (by rw [hl]; rfl)
      · exact (load_two hZ 1 n inbZ1 0 l).trans (by rw [hl]; rfl)
      · exact (load_two hZ 2 n inbZ2 0 l).trans (by rw [hl]; rfl)
      · exact (load_two hZ 3 n inbZ3 0 l).trans (by rw [hl]; rfl)
      · exact (load_two hZ 4 n inbZ4 0 l).trans (by rw [hl]; rfl)
      · exact (load_two hZ 5 n inbZ5 0 l).trans (by rw [hl]; rfl)
      · exact (load_two hZ 6 n inbZ6 0 l).trans (by rw [hl]; rfl)
      · exact (load_two hZ 7 n inbZ7 0 l).trans (by rw [hl]; rfl)
      · exact (load_two hS 0 n inbZ0 0 l).trans (by rw [hl]; rfl)
      · exact (load_two hS 1 n inbZ1 0 l).trans (by rw [hl]; rfl)
      · exact (load_two hS 2 n inbZ2 0 l).trans (by rw [hl]; rfl)
      · exact (load_two hS 3 n inbZ3 0 l).trans (by rw [hl]; rfl)
      · exact (load_two hS 4 n inbZ4 0 l).trans (by rw [hl]; rfl)
      · exact (load_two hS 5 n inbZ5 0 l).trans (by rw [hl]; rfl)
      · exact (load_two hS 6 n inbZ6 0 l).trans (by rw [hl]; rfl)
      · exact (load_two hS 7 n inbZ7 0 l).trans (by rw [hl]; rfl)
      · refine congrArg (· + stepSum X Q Z S m b.val) ?_
        refine (load_two hA 0 n inbA m l).trans ?_
        rw [Nat.zero_add, ← hl]
        exact (hA m b).symm

end Cert.KernelIdeal.Proof

end
-- ==== Proof.KernelIdealFirst.lean ====
/-
  What the opening of a step stores, read at an entry: the table of the activations, the zero points and the scales.
-/
module

public import proofs.«01_k».proof.Proof.KernelIdealColumns
public import proofs.«01_k».proof.Proof.KernelIdealAdded
public import proofs.«01_k».proof.Proof.KernelIdealTile

@[expose] public section

noncomputable section

namespace Cert.KernelIdeal.Proof

open Cert.KernelIdeal Cert.KernelIdeal.Gen
open Idealize.ShloMosaic hiding ix0 ix1 ix2 ix3 ix4 ix5
open Idealize.ShloMosaic.ValueIdx
open Idealize.ShloMosaic.TcCoe

variable {c : Dev nD} {arg3 : Memref sig .tc .vmem S64x16384 .bf16} {arg8 : Memref sig .tc .vmem S4096x256 .f32}

theorem tabled_zero (f8 : Bf (F := Ideal) c arg8) (xs : Fin 64 → ℕ → EReal) : Tabled f8 xs 0 := fun _ h => absurd h (Nat.not_lt_zero _)

/-- A load of 128 columns of the activations. -/
theorem x_load {f3 : Bf (F := Ideal) c arg3} {xs : Fin 64 → ℕ → EReal}
    (hx : ∀ (m : Fin 64) (k : Fin 16384), arg3.view.read (Elt Ideal) f3 (ix2 m k) = xs m k.val) (n : ℕ) {off : Fin 2 → ℕ}
    (inb : ∀ a, off a + S64x128.size a ≤ S64x16384.size a) (hoff : off = ![0, n]) (m : Fin 64) (l : Fin 128) :
    arg3.view.readAt (Elt Ideal) (Rect.unit (s := S64x16384) off S64x128.size inb).toLoadRect f3 (ix2 m l) = xs m (n + l.val) := by
  subst hoff
  have h1 : n + 128 ≤ 16384 := inb 1
  rw [View.readAt_apply]
  refine Eq.trans (congrArg _ (funext fun x => Fin.ext ?_)) (hx m ⟨n + l.val, by omega⟩)
  fin_cases x
  · show 0 + 1 * m.val = m.val
    omega
  · show n + 1 * l.val = n + l.val
    omega

/-- 128 more rows of the table stored. -/
theorem tabled_cons {f8 : Bf (F := Ideal) c arg8} {xs : Fin 64 → ℕ → EReal} {n : ℕ} {off : Fin 2 → ℕ}
    {inb : ∀ a, off a + S128x256.size a ≤ S4096x256.size a} {v : Vec Ideal S128x256 .f32} {L : List (View.Piece (Elt Ideal) S4096x256 .f32)}
    {x₀ x₁ x₂ x₃ : Vec Ideal S64x128 .bf16} (hv : v = tpiece (F := Ideal) x₀ x₁ x₂ x₃) (hoff : off = ![n, 0])
    (h₀ : ∀ m l, x₀ (ix2 m l) = xs m (n + l.val)) (h₁ : ∀ m l, x₁ (ix2 m l) = xs m (4096 + n + l.val))
    (h₂ : ∀ m l, x₂ (ix2 m l) = xs m (8192 + n + l.val)) (h₃ : ∀ m l, x₃ (ix2 m l) = xs m (12288 + n + l.val))
    (h : Tabled (c := c) (arg8.view.writes (Elt Ideal) f8 L) xs n) :
    Tabled (c := c) (arg8.view.writes (Elt Ideal) f8 ((⟨Rect.unit (s := S4096x256) off S128x256.size inb, v⟩ : View.Piece (Elt Ideal) S4096x256 .f32) :: L))
      xs (n + 128) := by
  subst hv
  intro r hr q m
  by_cases hlt : r.val < n
  · rw [← h r hlt q m]
    exact View.read_writes_cons_unit_of_not_mem _ _ inb _ L (ix2 r _) hoff 0 (Or.inl hlt)
  · obtain ⟨l, hl⟩ : ∃ l : Fin 128, r.val = n + l.val := ⟨⟨r.val - n, by omega⟩, by simp; omega⟩
    refine (View.read_writes_cons_unit_of_mem _ _ inb _ L (ix2 r _) (ix2 l ⟨q.val * 64 + m.val, by omega⟩) hoff ?_).trans ?_
    · intro a
      fin_cases a
      · exact hl
      · exact (Nat.zero_add _).symm
    · rw [tpiece_apply, hl]
      fin_cases q
      · exact (h₀ m l).trans (congrArg (xs m) (by simp))
      · exact (h₁ m l).trans (congrArg (xs m) (by simp; omega))
      · exact (h₂ m l).trans (congrArg (xs m) (by simp; omega))
      · exact (h₃ m l).trans (congrArg (xs m) (by simp; omega))

/-- The zero point a packed byte holds at step `t`: its low half before step 8, its high half from there on. -/
def zpt (t : ℕ) (w : BitVec 8) : EReal :=
  FloatOps.sitofp (F := Ideal) .f32 (Scalar.shrsi (w.setWidth 32) (if t < 8 then 0#32 else 4#32) &&& 15#32)

/-- A load of a whole buffer of rank 2. -/
theorem load_whole {sp : Space} {R C : ℕ} {e : EltTy} {M : Memref sig .tc sp ⟨2, ![R, C]⟩ e} (f : Bf (F := Ideal) c M)
    (inb : ∀ a, (![0, 0] : Fin 2 → ℕ) a + (⟨2, ![R, C]⟩ : Shape).size a ≤ (⟨2, ![R, C]⟩ : Shape).size a) (a : Fin R) (b : Fin C) :
    M.view.readAt (Elt Ideal) (Rect.unit (s := ⟨2, ![R, C]⟩) ![0, 0] (⟨2, ![R, C]⟩ : Shape).size inb).toLoadRect f (ix2 a b)
      = M.view.read (Elt Ideal) f (ix2 a b) := by
  rw [View.readAt_apply]
  refine congrArg _ (funext fun x => Fin.ext ?_)
  fin_cases x
  · show 0 + 1 * a.val = a.val
    omega
  · show 0 + 1 * b.val = b.val
    omega

/-- A whole buffer of rank 2 after a store of all of it. -/
theorem store_whole {sp : Space} {R C : ℕ} {e : EltTy} {M : Memref sig .tc sp ⟨2, ![R, C]⟩ e} (f : Bf (F := Ideal) c M)
    (inb : ∀ a, (![0, 0] : Fin 2 → ℕ) a + (⟨2, ![R, C]⟩ : Shape).size a ≤ (⟨2, ![R, C]⟩ : Shape).size a)
    (v : (⟨2, ![R, C]⟩ : Shape).Idx → Elt Ideal e) (L : List (View.Piece (Elt Ideal) ⟨2, ![R, C]⟩ e)) (a : Fin R) (b : Fin C) :
    M.view.read (Elt Ideal) (M.view.writes (Elt Ideal) f
      ((⟨Rect.unit (s := ⟨2, ![R, C]⟩) ![0, 0] (⟨2, ![R, C]⟩ : Shape).size inb, v⟩ : View.Piece (Elt Ideal) ⟨2, ![R, C]⟩ e) :: L)) (ix2 a b)
      = v (ix2 a b) := by
  refine View.read_writes_cons_unit_of_mem _ _ inb _ L (ix2 a b) (ix2 a b) rfl ?_
  intro x
  fin_cases x
  · exact (Nat.zero_add _).symm
  · exact (Nat.zero_add _).symm

/-- The zero points stored at step `i`. -/
theorem zeros_apply (i : grid0.Coords) (v : Vec Ideal S8x7168 .i8) (a : Fin 8) (b : Fin 7168) :
    k0_pay106 (F := Ideal) i v (ix2 a b) = zpt (i 0).val (v (ix2 a b)) := by
  unfold k0_pay106
  simp only [shapeCast_self]
  have h : ∀ n : Fin 16, Scalar.select (Scalar.cmpi .slt (BitVec.ofNat 32 n.val) 8#32) (0#32 : BitVec 32) 4#32 = if n.val < 8 then 0#32 else 4#32 := by decide
  have := h (i 0)
  unfold zpt
  rw [← this]
  rfl

/-- The scales stored at a step. -/
theorem scales_apply (v : Vec Ideal S8x7168 .bf16) (a : Fin 8) (b : Fin 7168) : k0_pay107 (F := Ideal) v (ix2 a b) = v (ix2 a b) := by
  unfold k0_pay107
  simp only [shapeCast_self]
  rfl

/-- The accumulator is cleared. -/
theorem clear_apply (a : Fin 64) (b : Fin 7168) : k0_pay105 (F := Ideal) (ix2 a b) = (0 : EReal) := by
  unfold k0_pay105
  simp only [shapeCast_self]
  exact Ideal.ofBits_zero_f32

/-- The first step is step 0. -/
theorem cond1_iff (i : grid0.Coords) : k0_cond1 i = 1#1 ↔ (i 0).val = 0 := by
  have h : ∀ n : Fin 16, Scalar.cmpi .ne (Scalar.extui (Scalar.cmpi .eq (BitVec.ofNat 32 n.val) 0#32)) 0#32 = 1#1 ↔ n.val = 0 := by decide
  exact h (i 0)

/-- The last step is step 15. -/
theorem cond2_iff (i : grid0.Coords) : k0_cond2 i = 1#1 ↔ (i 0).val = 15 := by
  have h : ∀ n : Fin 16, Scalar.cmpi .ne (Scalar.extui (Scalar.cmpi .eq (BitVec.ofNat 32 n.val) 15#32)) 0#32 = 1#1 ↔ n.val = 15 := by decide
  exact h (i 0)

end Cert.KernelIdeal.Proof

end
-- ==== Proof.KernelIdealOpenValue.lean ====
/-
  The opening of a step, with what it leaves: the table, the first columns, a zero accumulator, the scales and zero points.
-/
module

public import proofs.«01_k».proof.Proof.KernelIdealNext
public import proofs.«01_k».proof.Proof.KernelIdealFirst
public import proofs.«01_k».proof.Proof.KernelIdealCore

@[expose] public section

noncomputable section

namespace Cert.KernelIdeal.Proof

open Cert.KernelIdeal Cert.KernelIdeal.Gen

open Idealize.ShloMosaic hiding ix0 ix1 ix2 ix3 ix4 ix5
open Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

set_option warn.classDefReducibility false in
/-- The opening's gather loop: before trip `k` its first `8 k` rows are gathered. -/
@[sl_loop] noncomputable def gatherLoop (c : Dev nD)
    (i : grid0.Coords)
    (arg1 : Memref sig .tc .smem S16384 .i32) (harg1 : arg1.IsWhole)
    (arg2 : Memref sig .tc .vmem S128x128 .i32) (harg2 : arg2.IsWhole)
    (arg3 : Memref sig .tc .vmem S64x16384 .bf16) (harg3 : arg3.IsWhole)
    (arg4 : Memref sig .tc .vmem S512x7168 .i8) (harg4 : arg4.IsWhole)
    (arg5 : Memref sig .tc .vmem S8x7168 .bf16) (harg5 : arg5.IsWhole)
    (arg6 : Memref sig .tc .vmem S8x7168 .i8) (harg6 : arg6.IsWhole)
    (arg7 : Memref sig .tc .vmem S64x7168 .bf16) (harg7 : arg7.IsWhole)
    (arg8 : Memref sig .tc .vmem S4096x256 .f32) (harg8 : arg8.IsWhole)
    (arg9 : Memref sig .tc .vmem S1024x256 .f32) (harg9 : arg9.IsWhole)
    (arg10 : Memref sig .tc .vmem S2x64x1024 .bf16) (harg10 : arg10.IsWhole)
    (arg11 : Memref sig .tc .vmem S64x7168 .f32) (harg11 : arg11.IsWhole)
    (arg12 : Memref sig .tc .vmem S8x7168 .f32) (harg12 : arg12.IsWhole)
    (arg13 : Memref sig .tc .vmem S8x7168 .f32) (harg13 : arg13.IsWhole)
    (k0_h1 : k0_cond1 i = 1#1) (c0_i32_6700 c1_i32_6702 : BitVec 32)
    (f1 : Bf (F := Ideal) c arg1) (f8 : Bf (F := Ideal) c arg8) :
    Gen.LoopInvTy_k0_t1 (F := Ideal) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 k0_h1 c0_i32_6700 c1_i32_6702 where
  inv := fun k _ => iprop(pt c arg1 f1 ∗ pt c arg8 f8 ∗ ∃ f9 : Bf (F := Ideal) c arg9, pt c arg9 f9 ∗ ⌜8 * k = 0 ∨ Gathered f1 f8 f9 0 (8 * k)⌝)
  step := fun k _ => by
    iintro ⟨H1, H8, %f9, H9, %hg⟩
    unfold k0_t1_body
    sl_exec (disch := exact fun _ => chk_row _)
    sl_step
    isplitl [H1]; · iexact H1
    isplitl [H8]; · iexact H8
    iexists _; isplitl [H9]; · iexact H9
    ipureintro; right
    have hz : ∀ j : ℕ, 0 + (8 * k.val + j) = 8 * k.val + j := fun j => Nat.zero_add _
    refine gathered_cons (n := 8 * k.val + 7) _ (k0_off24_eq k) rfl rfl (by rw [hz]; exact word_load f1 _ _ (k0_off22_eq k) _) ?_
    refine gathered_cons (n := 8 * k.val + 6) _ (k0_off21_eq k) rfl rfl (by rw [hz]; exact word_load f1 _ _ (k0_off19_eq k) _) ?_
    refine gathered_cons (n := 8 * k.val + 5) _ (k0_off18_eq k) rfl rfl (by rw [hz]; exact word_load f1 _ _ (k0_off16_eq k) _) ?_
    refine gathered_cons (n := 8 * k.val + 4) _ (k0_off15_eq k) rfl rfl (by rw [hz]; exact word_load f1 _ _ (k0_off13_eq k) _) ?_
    refine gathered_cons (n := 8 * k.val + 3) _ (k0_off12_eq k) rfl rfl (by rw [hz]; exact word_load f1 _ _ (k0_off10_eq k) _) ?_
    refine gathered_cons (n := 8 * k.val + 2) _ (k0_off9_eq k) rfl rfl (by rw [hz]; exact word_load f1 _ _ (k0_off7_eq k) _) ?_
    refine gathered_cons (n := 8 * k.val + 1) _ (k0_off6_eq k) rfl rfl (by rw [hz]; exact word_load f1 _ _ (k0_off4_eq k) _) ?_
    refine gathered_cons (n := 8 * k.val) _ (k0_off3_eq k) rfl rfl (by rw [Nat.zero_add]; exact word_load f1 _ _ (k0_off1_eq k) _) ?_
    exact hg.elim (fun h => h.symm ▸ gathered_zero _ _ _ _) id

set_option maxRecDepth 100000 in
/-- The first step's opening: the table filled, the first 1024 columns gathered into slot 0, the accumulator cleared, the
    scales and zero points stored. -/
theorem openFirst (c : Dev nD)
    (i : grid0.Coords)
    (arg1 : Memref sig .tc .smem S16384 .i32) (harg1 : arg1.IsWhole)
    (arg2 : Memref sig .tc .vmem S128x128 .i32) (harg2 : arg2.IsWhole)
    (arg3 : Memref sig .tc .vmem S64x16384 .bf16) (harg3 : arg3.IsWhole)
    (arg4 : Memref sig .tc .vmem S512x7168 .i8) (harg4 : arg4.IsWhole)
    (arg5 : Memref sig .tc .vmem S8x7168 .bf16) (harg5 : arg5.IsWhole)
    (arg6 : Memref sig .tc .vmem S8x7168 .i8) (harg6 : arg6.IsWhole)
    (arg7 : Memref sig .tc .vmem S64x7168 .bf16) (harg7 : arg7.IsWhole)
    (arg8 : Memref sig .tc .vmem S4096x256 .f32) (harg8 : arg8.IsWhole)
    (arg9 : Memref sig .tc .vmem S1024x256 .f32) (harg9 : arg9.IsWhole)
    (arg10 : Memref sig .tc .vmem S2x64x1024 .bf16) (harg10 : arg10.IsWhole)
    (arg11 : Memref sig .tc .vmem S64x7168 .f32) (harg11 : arg11.IsWhole)
    (arg12 : Memref sig .tc .vmem S8x7168 .f32) (harg12 : arg12.IsWhole)
    (arg13 : Memref sig .tc .vmem S8x7168 .f32) (harg13 : arg13.IsWhole)
    (f1 : Bf (F := Ideal) c arg1) (f2 : Bf (F := Ideal) c arg2) (f3 : Bf (F := Ideal) c arg3) (f4 : Bf (F := Ideal) c arg4) (f5 : Bf (F := Ideal) c arg5) (f6 : Bf (F := Ideal) c arg6) (f7 : Bf (F := Ideal) c arg7) (f8 : Bf (F := Ideal) c arg8) (f9 : Bf (F := Ideal) c arg9) (f10 : Bf (F := Ideal) c arg10) (f11 : Bf (F := Ideal) c arg11) (f12 : Bf (F := Ideal) c arg12) (f13 : Bf (F := Ideal) c arg13) {xs : Fin 64 → ℕ → EReal}
    (hx : ∀ (m : Fin 64) (k : Fin 16384), arg3.view.read (Elt Ideal) f3 (ix2 m k) = xs m k.val) (hw : ∀ k, (wordAt f1 k).toNat < 16384)
    (hperm : ∀ a b : Fin 128, arg2.view.read (Elt Ideal) f2 (ix2 a b) = wordAt f1 (128 * a.val + b.val)) (R : sProp 𝕄)
    (Q : (Σ' (arg0 : BitVec 32) (v12 : BitVec 32), BitVec 32) → sProp 𝕄) (k0_h1 : k0_cond1 i = 1#1)
    (hQ : ∀ r (g8 : Bf (F := Ideal) c arg8) (g9 : Bf (F := Ideal) c arg9) (g10 : Bf (F := Ideal) c arg10) (g11 : Bf (F := Ideal) c arg11) (g12 : Bf (F := Ideal) c arg12) (g13 : Bf (F := Ideal) c arg13),
      iprop(((pt c arg1 f1 ∗ pt c arg2 f2 ∗ pt c arg3 f3 ∗ pt c arg4 f4 ∗ pt c arg5 f5 ∗ pt c arg6 f6 ∗ pt c arg7 f7 ∗ pt c arg8 g8 ∗ pt c arg9 g9 ∗ pt c arg10 g10 ∗ pt c arg11 g11 ∗ pt c arg12 g12 ∗ pt c arg13 g13) ∗ R)
        ∗ ⌜Tabled g8 xs 4096 ∧ Reads g10 0 (fun m κ => xs m (wordAt f1 κ).toNat)
          ∧ (∀ (m : Fin 64) (b : Fin 7168), arg11.view.read (Elt Ideal) g11 (ix2 m b) = (0 : EReal))
          ∧ (∀ (a : Fin 8) (b : Fin 7168), arg12.view.read (Elt Ideal) g12 (ix2 a b) = arg5.view.read (Elt Ideal) f5 (ix2 a b))
          ∧ ∀ (a : Fin 8) (b : Fin 7168), arg13.view.read (Elt Ideal) g13 (ix2 a b) = zpt (i 0).val (arg6.view.read (Elt Ideal) f6 (ix2 a b))⌝) ⊢ Q r) :
    iprop((pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13) ∗ R)
      ⊢ wp frame (wpE (defs₀ (F := Ideal)) Variants.none c none) Set.univ
          (k0_part27 i arg1 harg1 arg2 harg2 arg3 harg3 arg4 harg4 arg5 harg5 arg6 harg6 arg7 harg7 arg8 harg8 arg9 harg9 arg10 harg10 arg11 harg11 arg12 harg12 arg13 harg13) Q := by
  iintro ⟨⟨H1, H2, H3, H4, H5, H6, H7, H8, H9, H10, H11, H12, H13⟩, HR⟩
  sl_exec_parts (disch := exact fun _ => chk_row _)
  sl_step
  iapply (hQ _ _ _ _ _ _ _)
  isplitl [H1 H2 H3 H4 H5 H6 H7 H8 H9 H10 H11 H12 H13 HR]
  · isplitr [HR]; swap; · iexact HR
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  ipureintro
  have hT : Tabled (c := c) (arg8.view.writes (Elt Ideal) arg8.view.junk (openFirst.sl.H8_32 c arg3 f3)) xs 4096 := by
    iterate 32
      refine tabled_cons (by exact rfl) (by exact rfl) (x_load hx _ _ (by exact rfl)) (x_load hx _ _ (by exact rfl)) (x_load hx _ _ (by exact rfl)) (x_load hx _ _ (by exact rfl)) ?_
    exact tabled_zero _ _
  have hG : Gathered (c := c) f1 (arg8.view.writes (Elt Ideal) arg8.view.junk (openFirst.sl.H8_32 c arg3 f3)) f9L0 0 1024 :=
    hL3.resolve_left (by decide)
  have word : ∀ (g : ℕ) {off : Fin 2 → ℕ} (inb : ∀ a, off a + S1x128.size a ≤ S128x128.size a) (_ : off = ![g, 0]) (l : Fin 128),
      arg2.view.readAt (Elt Ideal) (Rect.unit (s := S128x128) off S1x128.size inb).toLoadRect f2 (ix2 0 l) = wordAt f1 (0 + 128 * g + l.val) :=
    fun g _ inb h l => (words_load hperm g inb h l).trans (congrArg (wordAt f1) (by omega))
  have key : ∀ g : Bf (F := Ideal) c arg10, Filled f1 f10 g xs 0 0 1024 → Reads g 0 (fun m κ => xs m (wordAt f1 κ).toNat) :=
    fun g hF m κ => (hF.1 κ κ.isLt m).trans (congrArg (fun k => xs m (wordAt f1 k).toNat) (Nat.zero_add _))
  refine ⟨hT, key _ ?_, fun m b => (store_whole _ _ _ _ m b).trans (clear_apply m b), fun a b => (store_whole _ _ _ _ a b).trans ((scales_apply _ a b).trans (load_whole f5 _ a b)),
    fun a b => (store_whole _ _ _ _ a b).trans ((zeros_apply i _ a b).trans (congrArg (zpt _) (load_whole f6 _ a b)))⟩
  exact filled_cons (n := 896) hT hw (by exact rfl) (by exact rfl) (rows_load hG 896 (by decide) _ (by exact rfl)) (word 7 _ (by exact rfl)) <|
    filled_cons (n := 768) hT hw (by exact rfl) (by exact rfl) (rows_load hG 768 (by decide) _ (by exact rfl)) (word 6 _ (by exact rfl)) <|
    filled_cons (n := 640) hT hw (by exact rfl) (by exact rfl) (rows_load hG 640 (by decide) _ (by exact rfl)) (word 5 _ (by exact rfl)) <|
    filled_cons (n := 512) hT hw (by exact rfl) (by exact rfl) (rows_load hG 512 (by decide) _ (by exact rfl)) (word 4 _ (by exact rfl)) <|
    filled_cons (n := 384) hT hw (by exact rfl) (by exact rfl) (rows_load hG 384 (by decide) _ (by exact rfl)) (word 3 _ (by exact rfl)) <|
    filled_cons (n := 256) hT hw (by exact rfl) (by exact rfl) (rows_load hG 256 (by decide) _ (by exact rfl)) (word 2 _ (by exact rfl)) <|
    filled_cons (n := 128) hT hw (by exact rfl) (by exact rfl) (rows_load hG 128 (by decide) _ (by exact rfl)) (word 1 _ (by exact rfl)) <|
    filled_cons (n := 0) hT hw (by exact rfl) (by exact rfl) (rows_load hG 0 (by decide) _ (by exact rfl)) (word 0 _ (by exact rfl)) <|
    filled_zero _ _ _ _ _

set_option maxRecDepth 100000 in
/-- A later step's opening: the scales and zero points stored, the table, the columns and the accumulator as they were. -/
theorem openLater (c : Dev nD)
    (i : grid0.Coords)
    (arg1 : Memref sig .tc .smem S16384 .i32) (harg1 : arg1.IsWhole)
    (arg2 : Memref sig .tc .vmem S128x128 .i32) (harg2 : arg2.IsWhole)
    (arg3 : Memref sig .tc .vmem S64x16384 .bf16) (harg3 : arg3.IsWhole)
    (arg4 : Memref sig .tc .vmem S512x7168 .i8) (harg4 : arg4.IsWhole)
    (arg5 : Memref sig .tc .vmem S8x7168 .bf16) (harg5 : arg5.IsWhole)
    (arg6 : Memref sig .tc .vmem S8x7168 .i8) (harg6 : arg6.IsWhole)
    (arg7 : Memref sig .tc .vmem S64x7168 .bf16) (harg7 : arg7.IsWhole)
    (arg8 : Memref sig .tc .vmem S4096x256 .f32) (harg8 : arg8.IsWhole)
    (arg9 : Memref sig .tc .vmem S1024x256 .f32) (harg9 : arg9.IsWhole)
    (arg10 : Memref sig .tc .vmem S2x64x1024 .bf16) (harg10 : arg10.IsWhole)
    (arg11 : Memref sig .tc .vmem S64x7168 .f32) (harg11 : arg11.IsWhole)
    (arg12 : Memref sig .tc .vmem S8x7168 .f32) (harg12 : arg12.IsWhole)
    (arg13 : Memref sig .tc .vmem S8x7168 .f32) (harg13 : arg13.IsWhole)
    (f1 : Bf (F := Ideal) c arg1) (f2 : Bf (F := Ideal) c arg2) (f3 : Bf (F := Ideal) c arg3) (f4 : Bf (F := Ideal) c arg4) (f5 : Bf (F := Ideal) c arg5) (f6 : Bf (F := Ideal) c arg6) (f7 : Bf (F := Ideal) c arg7) (f8 : Bf (F := Ideal) c arg8) (f9 : Bf (F := Ideal) c arg9) (f10 : Bf (F := Ideal) c arg10) (f11 : Bf (F := Ideal) c arg11) (f12 : Bf (F := Ideal) c arg12) (f13 : Bf (F := Ideal) c arg13) (R : sProp 𝕄)
    (Q : (Σ' (arg0 : BitVec 32) (v12 : BitVec 32), BitVec 32) → sProp 𝕄) (k0_h1 : ¬ k0_cond1 i = 1#1)
    (hQ : ∀ r (g8 : Bf (F := Ideal) c arg8) (g9 : Bf (F := Ideal) c arg9) (g10 : Bf (F := Ideal) c arg10) (g11 : Bf (F := Ideal) c arg11) (g12 : Bf (F := Ideal) c arg12) (g13 : Bf (F := Ideal) c arg13),
      iprop(((pt c arg1 f1 ∗ pt c arg2 f2 ∗ pt c arg3 f3 ∗ pt c arg4 f4 ∗ pt c arg5 f5 ∗ pt c arg6 f6 ∗ pt c arg7 f7 ∗ pt c arg8 g8 ∗ pt c arg9 g9 ∗ pt c arg10 g10 ∗ pt c arg11 g11 ∗ pt c arg12 g12 ∗ pt c arg13 g13) ∗ R)
        ∗ ⌜g8 = f8 ∧ g10 = f10 ∧ g11 = f11 ∧ (∀ (a : Fin 8) (b : Fin 7168), arg12.view.read (Elt Ideal) g12 (ix2 a b) = arg5.view.read (Elt Ideal) f5 (ix2 a b))
          ∧ ∀ (a : Fin 8) (b : Fin 7168), arg13.view.read (Elt Ideal) g13 (ix2 a b) = zpt (i 0).val (arg6.view.read (Elt Ideal) f6 (ix2 a b))⌝) ⊢ Q r) :
    iprop((pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13) ∗ R)
      ⊢ wp frame (wpE (defs₀ (F := Ideal)) Variants.none c none) Set.univ
          (k0_part27 i arg1 harg1 arg2 harg2 arg3 harg3 arg4 harg4 arg5 harg5 arg6 harg6 arg7 harg7 arg8 harg8 arg9 harg9 arg10 harg10 arg11 harg11 arg12 harg12 arg13 harg13) Q := by
  iintro ⟨⟨H1, H2, H3, H4, H5, H6, H7, H8, H9, H10, H11, H12, H13⟩, HR⟩
  sl_exec_parts (disch := exact fun _ => chk_row _)
  sl_step
  iapply (hQ _ _ _ _ _ _ _)
  isplitl [H1 H2 H3 H4 H5 H6 H7 H8 H9 H10 H11 H12 H13 HR]
  · isplitr [HR]; swap; · iexact HR
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  ipureintro
  exact ⟨rfl, rfl, rfl, fun a b => (store_whole _ _ _ _ a b).trans ((scales_apply _ a b).trans (load_whole f5 _ a b)),
    fun a b => (store_whole _ _ _ _ a b).trans ((zeros_apply i _ a b).trans (congrArg (zpt _) (load_whole f6 _ a b)))⟩

end Cert.KernelIdeal.Proof

end
-- ==== Proof.KernelIdealAccum.lean ====
/-
  The accumulator after a step: every entry has the step's sum added.
-/
module

public import proofs.«01_k».proof.Proof.KernelIdealNext
public import proofs.«01_k».proof.Proof.KernelIdealColumns
public import proofs.«01_k».proof.Proof.KernelIdealAdded
public import proofs.«01_k».proof.Proof.KernelIdealTile
public import proofs.«01_k».proof.Proof.KernelIdealTable
public import proofs.«01_k».proof.Proof.KernelIdealHeld
public import proofs.«01_k».proof.Proof.KernelIdealHeld
public import Idealize.ShloMosaic.Lib.ValueIdxCore
public import Idealize.ShloMosaic.Lib.ValueIdx
public import Idealize.ShloMosaic.Lib.ValueLayout
public import Idealize.ShloMosaic.Lib.WritesUnit
public import Idealize.ShloMosaic.Lib.VecWindow
public import Idealize.ShloMosaic.Lib.Pointwise

@[expose] public section

noncomputable section

namespace Cert.KernelIdeal.Proof

open Cert.KernelIdeal Cert.KernelIdeal.Gen
open Idealize.ShloMosaic hiding ix0 ix1 ix2 ix3 ix4 ix5
open Idealize.ShloMosaic.ValueIdx
open Idealize.ShloMosaic.TcCoe

variable (c : Dev nD) (i : grid0.Coords)
  (arg1 : Memref sig .tc .smem S16384 .i32) (arg2 : Memref sig .tc .vmem S128x128 .i32) (arg4 : Memref sig .tc .vmem S512x7168 .i8)
  (arg8 : Memref sig .tc .vmem S4096x256 .f32) (arg9 : Memref sig .tc .vmem S1024x256 .f32) (arg10 : Memref sig .tc .vmem S2x64x1024 .bf16)
  (arg11 : Memref sig .tc .vmem S64x7168 .f32) (arg12 : Memref sig .tc .vmem S8x7168 .f32) (arg13 : Memref sig .tc .vmem S8x7168 .f32)
  (f1 : Bf (F := Ideal) c arg1) (f2 : Bf (F := Ideal) c arg2) (f4 : Bf (F := Ideal) c arg4) (f8 : Bf (F := Ideal) c arg8)
  (f10 : Bf (F := Ideal) c arg10) (f11 : Bf (F := Ideal) c arg11) (f12 : Bf (F := Ideal) c arg12) (f13 : Bf (F := Ideal) c arg13)

set_option maxRecDepth 100000 in
/-- All 28 tiles of the accumulator after a step. -/
theorem accum (g11 : Bf (F := Ideal) c arg11) {xs : Fin 64 → ℕ → EReal} {X : Fin 64 → ℕ → EReal} {Q : ℕ → ℕ → BitVec 8} {Z S : ℕ → ℕ → EReal}
    (hT : Tabled f8 xs 4096) (hw : ∀ k, (wordAt f1 k).toNat < 16384)
    (hperm : ∀ a b : Fin 128, arg2.view.read (Elt Ideal) f2 (ix2 a b) = wordAt f1 (128 * a.val + b.val))
    (hX : Reads f10 (slot i) X)
    (hQ : ∀ (a : Fin 512) (b : Fin 7168), arg4.view.read (Elt Ideal) f4 (ix2 a b) = Q a.val b.val)
    (hZ : ∀ (a : Fin 8) (b : Fin 7168), arg13.view.read (Elt Ideal) f13 (ix2 a b) = Z a.val b.val)
    (hS : ∀ (a : Fin 8) (b : Fin 7168), arg12.view.read (Elt Ideal) f12 (ix2 a b) = S a.val b.val) :
    Added f11 (arg11.view.writes (Elt Ideal) g11
      (coreRun.sl.H11_28 c i arg1 arg2 arg4 arg8 arg9 arg10 arg11 arg12 arg13 f1 f2 f4 f8 f10 f11 f12 f13)) X Q Z S 7168 := by
  have keep : ∀ {g n}, Filled f1 f10 g xs (other i) (nextBase i) n → Reads g (slot i) X :=
    fun h m κ => (h.2 _ (slot_ne_other i) m κ).trans (hX m κ)
  have h1 := keep (cols_1 c i arg1 arg2 arg8 arg9 arg10 f1 f2 f8 f10 hT hw hperm)
  have h2 := keep (cols_2 c i arg1 arg2 arg8 arg9 arg10 f1 f2 f8 f10 hT hw hperm)
  have h3 := keep (cols_3 c i arg1 arg2 arg8 arg9 arg10 f1 f2 f8 f10 hT hw hperm)
  have h4 := keep (cols_4 c i arg1 arg2 arg8 arg9 arg10 f1 f2 f8 f10 hT hw hperm)
  have h5 := keep (cols_5 c i arg1 arg2 arg8 arg9 arg10 f1 f2 f8 f10 hT hw hperm)
  have h6 := keep (cols_6 c i arg1 arg2 arg8 arg9 arg10 f1 f2 f8 f10 hT hw hperm)
  have h7 := keep (cols_7 c i arg1 arg2 arg8 arg9 arg10 f1 f2 f8 f10 hT hw hperm)
  have h8 := keep (cols_8 c i arg1 arg2 arg8 arg9 arg10 f1 f2 f8 f10 hT hw hperm)
  iterate 28
    refine added_cons (s := slot i) hQ hZ hS (by exact rfl) (by exact rfl) (by exact rfl) (by exact rfl) (by exact rfl) ?_ ?_ ?_ ?_ ?_
    iterate 4 with_reducible assumption
  exact fun _ _ h => absurd h (Nat.not_lt_zero _)

end Cert.KernelIdeal.Proof

end
-- ==== Proof.KernelIdealStep.lean ====
/-
  A whole step with its values: what the table, the gathered columns, the accumulator and the result hold after it.
-/
module

public import proofs.«01_k».proof.Proof.KernelIdealNext
public import proofs.«01_k».proof.Proof.KernelIdealOpenValue
public import proofs.«01_k».proof.Proof.KernelIdealOpen
public import proofs.«01_k».proof.Proof.KernelIdealAccum
public import proofs.«01_k».proof.Proof.KernelIdealCore

@[expose] public section

noncomputable section

namespace Cert.KernelIdeal.Proof

open Cert.KernelIdeal Cert.KernelIdeal.Gen

open Idealize.ShloMosaic hiding ix0 ix1 ix2 ix3 ix4 ix5
open Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- One of the 16384 terms of an entry of the result: the activation the permutation names times the weight, its four bits
    less its group's zero point times its group's scale. -/
def term (xs : Fin 64 → ℕ → EReal) (W : ℕ → ℕ) (Q : ℕ → ℕ → BitVec 8) (Z S : ℕ → ℕ → EReal) (m : Fin 64) (b k : ℕ) : EReal :=
  xs m (W k) * ((nib (Q (k / 2) b) k - Z (k / 128) b) * S (k / 128) b)

/-- What holds before step `t`: the table holds the activations, slot `t` modulo 2 the step's 1024 columns, and the
    accumulator the sums of the terms of the steps before. -/
def Inv {c : Dev nD} {arg8 : Memref sig .tc .vmem S4096x256 .f32} {arg10 : Memref sig .tc .vmem S2x64x1024 .bf16} {arg11 : Memref sig .tc .vmem S64x7168 .f32}
    (xs : Fin 64 → ℕ → EReal) (W : ℕ → ℕ) (Q : ℕ → ℕ → BitVec 8) (Z S : ℕ → ℕ → EReal) (t : ℕ)
    (g8 : Bf (F := Ideal) c arg8) (g10 : Bf (F := Ideal) c arg10) (g11 : Bf (F := Ideal) c arg11) : Prop :=
  Tabled g8 xs 4096 ∧ (t < 16 → ∀ s : Fin 2, s.val = t % 2 → Reads g10 s (fun m κ => xs m (W (1024 * t + κ))))
    ∧ ∀ (m : Fin 64) (b : Fin 7168), arg11.view.read (Elt Ideal) g11 (ix2 m b) = ∑ k ∈ Finset.range (1024 * t), term xs W Q Z S m b.val k

/-- What a step adds to an entry is the sum of its own 1024 terms. -/
theorem stepSum_term (xs : Fin 64 → ℕ → EReal) (W : ℕ → ℕ) (Q : ℕ → ℕ → BitVec 8) (Z S : ℕ → ℕ → EReal) (t : ℕ) (m : Fin 64) (b : ℕ) :
    stepSum (fun m κ => xs m (W (1024 * t + κ))) (fun k b => Q (512 * t + k) b) (fun g b => Z (8 * t + g) b) (fun g b => S (8 * t + g) b) m b
      = ∑ k ∈ Finset.range 1024, term xs W Q Z S m b (1024 * t + k) := by
  refine Finset.sum_congr rfl fun k _ => ?_
  have e1 : (1024 * t + k) / 2 = 512 * t + k / 2 := by omega
  have e2 : (1024 * t + k) / 128 = 8 * t + k / 128 := by omega
  have e3 : (1024 * t + k) % 2 = k % 2 := by omega
  simp only [term, nib, e1, e2, e3]

/-- The result's rounding is none on the extended reals. -/
theorem result_apply (v : Vec Ideal S64x7168 .f32) (a : Fin 64) (b : Fin 7168) : k0_pay1 (F := Ideal) v (ix2 a b) = v (ix2 a b) := by
  unfold k0_pay1
  rfl

set_option maxRecDepth 100000 in
/-- The rest of a step after its opening, with its values. -/
theorem coreValue (c : Dev nD)
    (i : grid0.Coords)
    (arg1 : Memref sig .tc .smem S16384 .i32) (harg1 : arg1.IsWhole)
    (arg2 : Memref sig .tc .vmem S128x128 .i32) (harg2 : arg2.IsWhole)
    (arg3 : Memref sig .tc .vmem S64x16384 .bf16) (harg3 : arg3.IsWhole)
    (arg4 : Memref sig .tc .vmem S512x7168 .i8) (harg4 : arg4.IsWhole)
    (arg5 : Memref sig .tc .vmem S8x7168 .bf16) (harg5 : arg5.IsWhole)
    (arg6 : Memref sig .tc .vmem S8x7168 .i8) (harg6 : arg6.IsWhole)
    (arg7 : Memref sig .tc .vmem S64x7168 .bf16) (harg7 : arg7.IsWhole)
    (arg8 : Memref sig .tc .vmem S4096x256 .f32) (harg8 : arg8.IsWhole)
    (arg9 : Memref sig .tc .vmem S1024x256 .f32) (harg9 : arg9.IsWhole)
    (arg10 : Memref sig .tc .vmem S2x64x1024 .bf16) (harg10 : arg10.IsWhole)
    (arg11 : Memref sig .tc .vmem S64x7168 .f32) (harg11 : arg11.IsWhole)
    (arg12 : Memref sig .tc .vmem S8x7168 .f32) (harg12 : arg12.IsWhole)
    (arg13 : Memref sig .tc .vmem S8x7168 .f32) (harg13 : arg13.IsWhole)
    (v0 v12 v14 : BitVec 32)
    (f1 : Bf (F := Ideal) c arg1) (f2 : Bf (F := Ideal) c arg2) (f3 : Bf (F := Ideal) c arg3) (f4 : Bf (F := Ideal) c arg4) (f5 : Bf (F := Ideal) c arg5) (f6 : Bf (F := Ideal) c arg6) (f7 : Bf (F := Ideal) c arg7) (f8 : Bf (F := Ideal) c arg8) (f9 : Bf (F := Ideal) c arg9) (f10 : Bf (F := Ideal) c arg10) (f11 : Bf (F := Ideal) c arg11) (f12 : Bf (F := Ideal) c arg12) (f13 : Bf (F := Ideal) c arg13) {xs : Fin 64 → ℕ → EReal} {W : ℕ → ℕ} {Qw : ℕ → ℕ → BitVec 8} {Z S : ℕ → ℕ → EReal}
    (hw : ∀ k, (wordAt f1 k).toNat < 16384) (hW : ∀ k, k < 16384 → (wordAt f1 k).toNat = W k)
    (hperm : ∀ a b : Fin 128, arg2.view.read (Elt Ideal) f2 (ix2 a b) = wordAt f1 (128 * a.val + b.val))
    (hq : ∀ (a : Fin 512) (b : Fin 7168), arg4.view.read (Elt Ideal) f4 (ix2 a b) = Qw (512 * (i 0).val + a.val) b.val)
    (hs : ∀ (a : Fin 8) (b : Fin 7168), arg12.view.read (Elt Ideal) f12 (ix2 a b) = S (8 * (i 0).val + a.val) b.val)
    (hz : ∀ (a : Fin 8) (b : Fin 7168), arg13.view.read (Elt Ideal) f13 (ix2 a b) = Z (8 * (i 0).val + a.val) b.val)
    (hI : Inv xs W Qw Z S (i 0).val f8 f10 f11) :
    ∃ (g7 : Bf (F := Ideal) c arg7) (g9 : Bf (F := Ideal) c arg9) (g10 : Bf (F := Ideal) c arg10) (g11 : Bf (F := Ideal) c arg11),
      (Inv xs W Qw Z S ((i 0).val + 1) f8 g10 g11 ∧ ((i 0).val ≠ 15 → g7 = f7)
        ∧ ((i 0).val = 15 → ∀ (m : Fin 64) (b : Fin 7168), arg7.view.read (Elt Ideal) g7 (ix2 m b) = ∑ k ∈ Finset.range 16384, term xs W Qw Z S m b.val k))
      ∧ ∀ (E : Set ℕ) (Q : PUnit → sProp 𝕄),
        iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13
          ∗ (iprop(pt c arg1 f1 ∗ pt c arg2 f2 ∗ pt c arg3 f3 ∗ pt c arg4 f4 ∗ pt c arg5 f5 ∗ pt c arg6 f6 ∗ pt c arg7 g7 ∗ pt c arg8 f8 ∗ pt c arg9 g9 ∗ pt c arg10 g10 ∗ pt c arg11 g11 ∗ pt c arg12 f12 ∗ pt c arg13 f13) -∗ Q ⟨⟩))
        ⊢ wp frame (wpE (defs₀ (F := Ideal)) Variants.none c none) E (core i arg1 harg1 arg2 harg2 arg3 harg3 arg4 harg4 arg5 harg5 arg6 harg6 arg7 harg7 arg8 harg8 arg9 harg9 arg10 harg10 arg11 harg11 arg12 harg12 arg13 harg13 ⟨v0, v12, v14⟩) Q := by
  obtain ⟨g7, g9, g10, g11, he, hrun⟩ := core_spec (F := Ideal) c i arg1 harg1 arg2 harg2 arg3 harg3 arg4 harg4 arg5 harg5 arg6 harg6 arg7 harg7 arg8 harg8 arg9 harg9 arg10 harg10 arg11 harg11 arg12 harg12 arg13 harg13 v0 v12 v14 f1 f2 f3 f4 f5 f6 f7 f8 f9 f10 f11 f12 f13
  refine ⟨g7, g9, g10, g11, ?_, hrun⟩
  have e7 : g7 = if k0_cond2 i = 1#1 then
      arg7.view.writes (Elt Ideal) f7 [⟨Rect.unit ![0, 0] ![64, 7168] inb_S64x7168_S64x7168_0_0,
        k0_pay1 (coreRun.sl.v17747 c i arg1 arg2 arg4 arg8 arg9 arg10 arg11 arg12 arg13 f1 f2 f4 f8 f10 f11 f12 f13)⟩] else f7 := by
    refine (congrArg Prod.fst he).trans ?_
    unfold coreRun
    rfl
  have e10 : g10 = arg10.view.writes (Elt Ideal) f10 (coreRun.sl.H10_8 c i arg1 arg2 arg8 arg9 f1 f2 f8) := by
    refine (congrArg (fun p => p.2.2.1) he).trans ?_
    unfold coreRun
    rfl
  have e11 : g11 = arg11.view.writes (Elt Ideal) f11 (coreRun.sl.H11_28 c i arg1 arg2 arg4 arg8 arg9 arg10 arg11 arg12 arg13 f1 f2 f4 f8 f10 f11 f12 f13) := by
    refine (congrArg (fun p => p.2.2.2) he).trans ?_
    unfold coreRun
    rfl
  clear he hrun
  have hi : (i 0).val < 16 := (i 0).isLt
  have acc : ∀ (g : Bf (F := Ideal) c arg11) (m : Fin 64) (b : Fin 7168),
      arg11.view.read (Elt Ideal) (arg11.view.writes (Elt Ideal) g (coreRun.sl.H11_28 c i arg1 arg2 arg4 arg8 arg9 arg10 arg11 arg12 arg13 f1 f2 f4 f8 f10 f11 f12 f13)) (ix2 m b)
        = ∑ k ∈ Finset.range (1024 * ((i 0).val + 1)), term xs W Qw Z S m b.val k := by
    intro g m b
    refine (accum c i arg1 arg2 arg4 arg8 arg9 arg10 arg11 arg12 arg13 f1 f2 f4 f8 f10 f11 f12 f13 g hI.1 hw hperm (hI.2.1 hi (slot i) rfl)
      (Q := fun k b => Qw (512 * (i 0).val + k) b) (Z := fun g b => Z (8 * (i 0).val + g) b) (S := fun g b => S (8 * (i 0).val + g) b) hq hz hs m b b.isLt).trans ?_
    rw [hI.2.2 m b, stepSum_term, Nat.mul_add, Nat.mul_one, Finset.sum_range_add]
  refine ⟨⟨hI.1, fun h s hs => ?_, fun m b => by rw [e11]; exact acc _ m b⟩, fun h => ?_, fun h m b => ?_⟩
  · have hso : s = other i := Fin.ext (by have := hs; simp only [other]; omega)
    subst hso
    rw [e10]
    intro m κ
    refine ((cols_8 c i arg1 arg2 arg8 arg9 arg10 f1 f2 f8 f10 hI.1 hw hperm).1 κ κ.isLt m).trans (congrArg (xs m) ?_)
    have hn : nextBase i = 1024 * ((i 0).val + 1) := by unfold nextBase; omega
    have hκ := κ.isLt
    rw [hn]
    exact hW _ (by omega)
  · rw [e7, if_neg (fun h' => h ((cond2_iff i).mp h'))]
  · rw [e7, if_pos ((cond2_iff i).mpr h)]
    refine (store_whole _ _ _ _ m b).trans ((result_apply _ m b).trans ?_)
    refine (load_whole (c := c) _ _ m b).trans ((acc _ m b).trans ?_)
    rw [h]

set_option maxRecDepth 100000 in
/-- A whole step, with its values: from what holds before it to what holds before the next; it stores the result at step 15 only. -/
theorem stepValue (c : Dev nD)
    (i : grid0.Coords)
    (arg1 : Memref sig .tc .smem S16384 .i32) (harg1 : arg1.IsWhole)
    (arg2 : Memref sig .tc .vmem S128x128 .i32) (harg2 : arg2.IsWhole)
    (arg3 : Memref sig .tc .vmem S64x16384 .bf16) (harg3 : arg3.IsWhole)
    (arg4 : Memref sig .tc .vmem S512x7168 .i8) (harg4 : arg4.IsWhole)
    (arg5 : Memref sig .tc .vmem S8x7168 .bf16) (harg5 : arg5.IsWhole)
    (arg6 : Memref sig .tc .vmem S8x7168 .i8) (harg6 : arg6.IsWhole)
    (arg7 : Memref sig .tc .vmem S64x7168 .bf16) (harg7 : arg7.IsWhole)
    (arg8 : Memref sig .tc .vmem S4096x256 .f32) (harg8 : arg8.IsWhole)
    (arg9 : Memref sig .tc .vmem S1024x256 .f32) (harg9 : arg9.IsWhole)
    (arg10 : Memref sig .tc .vmem S2x64x1024 .bf16) (harg10 : arg10.IsWhole)
    (arg11 : Memref sig .tc .vmem S64x7168 .f32) (harg11 : arg11.IsWhole)
    (arg12 : Memref sig .tc .vmem S8x7168 .f32) (harg12 : arg12.IsWhole)
    (arg13 : Memref sig .tc .vmem S8x7168 .f32) (harg13 : arg13.IsWhole)
    (f1 : Bf (F := Ideal) c arg1) (f2 : Bf (F := Ideal) c arg2) (f3 : Bf (F := Ideal) c arg3) (f4 : Bf (F := Ideal) c arg4) (f5 : Bf (F := Ideal) c arg5) (f6 : Bf (F := Ideal) c arg6) (f7 : Bf (F := Ideal) c arg7) (f8 : Bf (F := Ideal) c arg8) (f9 : Bf (F := Ideal) c arg9) (f10 : Bf (F := Ideal) c arg10) (f11 : Bf (F := Ideal) c arg11) (f12 : Bf (F := Ideal) c arg12) (f13 : Bf (F := Ideal) c arg13) (R : sProp 𝕄) (Q : PUnit → sProp 𝕄) {xs : Fin 64 → ℕ → EReal} {W : ℕ → ℕ} {Qw : ℕ → ℕ → BitVec 8} {Z S : ℕ → ℕ → EReal}
    (hx : ∀ (m : Fin 64) (k : Fin 16384), arg3.view.read (Elt Ideal) f3 (ix2 m k) = xs m k.val)
    (hw : ∀ k, (wordAt f1 k).toNat < 16384) (hW : ∀ k, k < 16384 → (wordAt f1 k).toNat = W k)
    (hperm : ∀ a b : Fin 128, arg2.view.read (Elt Ideal) f2 (ix2 a b) = wordAt f1 (128 * a.val + b.val))
    (hq : ∀ (a : Fin 512) (b : Fin 7168), arg4.view.read (Elt Ideal) f4 (ix2 a b) = Qw (512 * (i 0).val + a.val) b.val)
    (hs : ∀ (a : Fin 8) (b : Fin 7168), arg5.view.read (Elt Ideal) f5 (ix2 a b) = S (8 * (i 0).val + a.val) b.val)
    (hz : ∀ (a : Fin 8) (b : Fin 7168), zpt (i 0).val (arg6.view.read (Elt Ideal) f6 (ix2 a b)) = Z (8 * (i 0).val + a.val) b.val)
    (hI : (i 0).val ≠ 0 → Inv xs W Qw Z S (i 0).val f8 f10 f11)
    (hQ : ∀ (g7 : Bf (F := Ideal) c arg7) (g8 : Bf (F := Ideal) c arg8) (g9 : Bf (F := Ideal) c arg9) (g10 : Bf (F := Ideal) c arg10) (g11 : Bf (F := Ideal) c arg11) (g12 : Bf (F := Ideal) c arg12) (g13 : Bf (F := Ideal) c arg13),
      iprop(((pt c arg1 f1 ∗ pt c arg2 f2 ∗ pt c arg3 f3 ∗ pt c arg4 f4 ∗ pt c arg5 f5 ∗ pt c arg6 f6 ∗ pt c arg7 g7 ∗ pt c arg8 g8 ∗ pt c arg9 g9 ∗ pt c arg10 g10 ∗ pt c arg11 g11 ∗ pt c arg12 g12 ∗ pt c arg13 g13) ∗ R)
        ∗ ⌜Inv xs W Qw Z S ((i 0).val + 1) g8 g10 g11 ∧ ((i 0).val ≠ 15 → g7 = f7)
          ∧ ((i 0).val = 15 → ∀ (m : Fin 64) (b : Fin 7168), arg7.view.read (Elt Ideal) g7 (ix2 m b) = ∑ k ∈ Finset.range 16384, term xs W Qw Z S m b.val k)⌝) ⊢ Q ⟨⟩) :
    iprop((pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13) ∗ R)
      ⊢ wp frame (wpE (defs₀ (F := Ideal)) Variants.none c none) Set.univ
          (cc0__kernel i arg1 harg1 arg2 harg2 arg3 harg3 arg4 harg4 arg5 harg5 arg6 harg6 arg7 harg7 arg8 harg8 arg9 harg9 arg10 harg10 arg11 harg11 arg12 harg12 arg13 harg13) Q := by
  rw [kernel_split, wp_bind]
  have rest : ∀ (r : (Σ' (arg0 : BitVec 32) (v12 : BitVec 32), BitVec 32)) (g8 : Bf (F := Ideal) c arg8) (g9 : Bf (F := Ideal) c arg9) (g10 : Bf (F := Ideal) c arg10) (g11 : Bf (F := Ideal) c arg11) (g12 : Bf (F := Ideal) c arg12) (g13 : Bf (F := Ideal) c arg13),
      Inv xs W Qw Z S (i 0).val g8 g10 g11
      → (∀ (a : Fin 8) (b : Fin 7168), arg12.view.read (Elt Ideal) g12 (ix2 a b) = arg5.view.read (Elt Ideal) f5 (ix2 a b))
      → (∀ (a : Fin 8) (b : Fin 7168), arg13.view.read (Elt Ideal) g13 (ix2 a b) = zpt (i 0).val (arg6.view.read (Elt Ideal) f6 (ix2 a b)))
      → (iprop((pt c arg1 f1 ∗ pt c arg2 f2 ∗ pt c arg3 f3 ∗ pt c arg4 f4 ∗ pt c arg5 f5 ∗ pt c arg6 f6 ∗ pt c arg7 f7 ∗ pt c arg8 g8 ∗ pt c arg9 g9 ∗ pt c arg10 g10 ∗ pt c arg11 g11 ∗ pt c arg12 g12 ∗ pt c arg13 g13) ∗ R)
        ⊢ wp frame (wpE (defs₀ (F := Ideal)) Variants.none c none) Set.univ (core i arg1 harg1 arg2 harg2 arg3 harg3 arg4 harg4 arg5 harg5 arg6 harg6 arg7 harg7 arg8 harg8 arg9 harg9 arg10 harg10 arg11 harg11 arg12 harg12 arg13 harg13 r) Q) := by
    rintro ⟨v0, v12, v14⟩ g8 g9 g10 g11 g12 g13 hI' h12 h13
    obtain ⟨W7, W9, W10, W11, hV, hrun⟩ := coreValue c i arg1 harg1 arg2 harg2 arg3 harg3 arg4 harg4 arg5 harg5 arg6 harg6 arg7 harg7 arg8 harg8 arg9 harg9 arg10 harg10 arg11 harg11 arg12 harg12 arg13 harg13 v0 v12 v14 f1 f2 f3 f4 f5 f6 f7 g8 g9 g10 g11 g12 g13 hw hW hperm hq
      (fun a b => (h12 a b).trans (hs a b)) (fun a b => (h13 a b).trans (hz a b)) hI'
    iintro ⟨⟨H1, H2, H3, H4, H5, H6, H7, H8, H9, H10, H11, H12, H13⟩, HR⟩
    iapply (hrun Set.univ Q)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iintro ⟨H1, H2, H3, H4, H5, H6, H7, H8, H9, H10, H11, H12, H13⟩
    iapply (hQ _ _ _ _ _ _ _)
    isplitl [H1 H2 H3 H4 H5 H6 H7 H8 H9 H10 H11 H12 H13 HR]
    · isplitr [HR]; swap; · iexact HR
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    ipureintro
    exact hV
  by_cases k0_h1 : k0_cond1 i = 1#1
  · refine openFirst c i arg1 harg1 arg2 harg2 arg3 harg3 arg4 harg4 arg5 harg5 arg6 harg6 arg7 harg7 arg8 harg8 arg9 harg9 arg10 harg10 arg11 harg11 arg12 harg12 arg13 harg13 f1 f2 f3 f4 f5 f6 f7 f8 f9 f10 f11 f12 f13 hx hw hperm R _ k0_h1 ?_
    intro r g8 g9 g10 g11 g12 g13
    have h0 := (cond1_iff i).mp k0_h1
    iintro ⟨H, %h⟩
    have hI0 : Inv xs W Qw Z S (i 0).val g8 g10 g11 := by
      refine ⟨h.1, fun _ s hs m κ => ?_, fun m b => ?_⟩
      · have hs0 : s = 0 := Fin.ext (by rw [hs, h0]; rfl)
        have hκ := κ.isLt
        rw [hs0, h.2.1 m κ]
        show xs m (wordAt f1 κ.val).toNat = xs m (W (1024 * (i 0).val + κ.val))
        rw [hW κ.val (by omega), h0, Nat.mul_zero, Nat.zero_add]
      · rw [h.2.2.1 m b, h0]
        rfl
    iapply (rest r g8 g9 g10 g11 g12 g13 hI0 h.2.2.2.1 h.2.2.2.2)
    iexact H
  · refine openLater c i arg1 harg1 arg2 harg2 arg3 harg3 arg4 harg4 arg5 harg5 arg6 harg6 arg7 harg7 arg8 harg8 arg9 harg9 arg10 harg10 arg11 harg11 arg12 harg12 arg13 harg13 f1 f2 f3 f4 f5 f6 f7 f8 f9 f10 f11 f12 f13 R _ k0_h1 ?_
    intro r g8 g9 g10 g11 g12 g13
    have h0 : (i 0).val ≠ 0 := fun h => k0_h1 ((cond1_iff i).mpr h)
    iintro ⟨H, %h⟩
    obtain ⟨rfl, rfl, rfl, h12, h13⟩ := h
    iapply (rest r _ g9 _ _ g12 g13 (hI h0) h12 h13)
    iexact H

end Cert.KernelIdeal.Proof

end
-- ==== Proof.KernelIdealBlocks.lean ====
/-
  What the kernel's windows show: at each step, each input's block is the rows of the argument that step uses. The
  arguments are named as functions of natural numbers, and the result is written as the sums of 16384 terms.
-/
module

public import proofs.«01_k».proof.Proof.KernelIdealStep
public import proofs.«01_k».proof.Proof.KernelIdealFrame
public import Idealize.ShloMosaic.Lib.Pipeline.ValueKit.Geometry

@[expose] public section

set_option maxRecDepth 16384

noncomputable section

namespace Cert.KernelIdeal.Proof

open Cert.KernelIdeal Cert.KernelIdeal.Gen

open Idealize.ShloMosaic hiding ix0 ix1 ix2 ix3 ix4 ix5
open Idealize.ShloMosaic.ValueIdx
open Idealize.ShloMosaic.TcCoe Idealize.ShloMosaic.Tactic
open Idealize.SL Idealize.SL.RA Idealize.SL.BI
open Idealize.ShloMosaic.Pipeline (Dat Cfg Window BodyObligation BodyObligationLoose cellOf)

/-- Row `r` of the activations, by column. -/
def xsOf (x : Vec Ideal S64x1x16384 .bf16) (r : Fin 64) (k : ℕ) : EReal := if h : k < 16384 then x (ix3 r 0 ⟨k, h⟩) else 0
/-- The column the permutation names. -/
def permOf (p : Vec Ideal S16384 .i32) (k : ℕ) : ℕ := if h : k < 16384 then (p (ix1 ⟨k, h⟩) : BitVec 32).toNat else 0
/-- The packed weights, two to a byte, by row and column. -/
def packedOf (q : Vec Ideal S8192x7168 .i8) (k b : ℕ) : BitVec 8 := if h : k < 8192 ∧ b < 7168 then q (ix2 ⟨k, h.1⟩ ⟨b, h.2⟩) else 0
/-- The zero point of a group and a column: the low four bits of the packed row for the first 64 groups, the high four for the rest. -/
def zeroOf (z : Vec Ideal S64x7168 .i8) (g b : ℕ) : EReal := if h : b < 7168 then zpt (g / 8) (z (ix2 ⟨g % 64, Nat.mod_lt _ (by decide)⟩ ⟨b, h⟩)) else 0
/-- The scale of a group and a column. -/
def scaleOf (s : Vec Ideal S128x7168 .bf16) (g b : ℕ) : EReal := if h : g < 128 ∧ b < 7168 then s (ix2 ⟨g, h.1⟩ ⟨b, h.2⟩) else 0

/-- The product: the permuted activations times the dequantized weights. -/
def product (x : Vec Ideal S64x1x16384 .bf16) (q : Vec Ideal S8192x7168 .i8) (s : Vec Ideal S128x7168 .bf16) (z : Vec Ideal S64x7168 .i8)
    (p : Vec Ideal S16384 .i32) : Vec Ideal S64x7168 .bf16 :=
  fun j => ∑ k ∈ Finset.range 16384, term (xsOf x) (permOf p) (packedOf q) (zeroOf z) (scaleOf s) ⟨(j 0).val, (j 0).isLt⟩ (j 1).val k

variable (m : (ℓ : Loc nD τ sig) → Buf (Elt Ideal) ℓ)

/-- The activations, as launched. -/
abbrev argX (c : Dev nD) : Vec Ideal S64x1x16384 .bf16 := m ((c.tc : Thread nD τ).loc main_arg0)
/-- The packed weights, as launched. -/
abbrev argQ (c : Dev nD) : Vec Ideal S8192x7168 .i8 := m ((c.tc : Thread nD τ).loc main_arg1)
/-- The scales, as launched. -/
abbrev argS (c : Dev nD) : Vec Ideal S128x7168 .bf16 := m ((c.tc : Thread nD τ).loc main_arg2)
/-- The packed zero points, as launched. -/
abbrev argZ (c : Dev nD) : Vec Ideal S64x7168 .i8 := m ((c.tc : Thread nD τ).loc main_arg3)
/-- The permutation, as launched. -/
abbrev argP (c : Dev nD) : Vec Ideal S16384 .i32 := m ((c.tc : Thread nD τ).loc main_arg5)

/-- The region finds the permutation in 128 rows of 128. -/
theorem V_main_v0 (c : Dev nD) : V m c main_v0 = shapeCast S128x128 (argP m c) shapeCasts_S16384_S128x128 := by
  show StableHlo.after hostOps0 _ (Proc.devRef .tc main_v0) = _
  after_results
  rfl

/-- The region finds the activations in 64 rows. -/
theorem V_main_v1 (c : Dev nD) : V m c main_v1 = shapeCast S64x16384 (argX m c) shapeCasts_S64x1x16384_S64x16384 := by
  show StableHlo.after hostOps0 _ (Proc.devRef .tc main_v1) = _
  after_results
  rfl

/-- The grid's one coordinate at a point is the point. -/
theorem coords_val : ∀ t : Fin grid0.N, ((grid0.coords t) 0).val = t.val := by decide +kernel

/-- Step `t` uses block row `t` of the packed weights. -/
theorem index_3 : ∀ t : Fin grid0.N, win0_3.index t 0 = t.val ∧ win0_3.index t 1 = 0 := by decide +kernel
/-- Step `t` uses block row `t` of the scales. -/
theorem index_4 : ∀ t : Fin grid0.N, win0_4.index t 0 = t.val ∧ win0_4.index t 1 = 0 := by decide +kernel
/-- Step `t` uses block row `t` modulo 8 of the packed zero points. -/
theorem index_5 : ∀ t : Fin grid0.N, win0_5.index t 0 = t.val % 8 ∧ win0_5.index t 1 = 0 := by decide +kernel

/-- The permutation's words, at every step. -/
theorem block_perm (c : Dev nD) (t : Fin cfg0.N) (k : Fin 16384) : iblk m c 0 t (ix1 k) = argP m c (ix1 k) := by
  unfold iblk
  rw [View.read_apply]
  show V m c main_arg5 _ = m (c.tc.loc main_arg5) _
  rw [V_main_arg5]
  congr 1
  funext a
  apply Fin.ext
  match a with
  | ⟨0, _⟩ => show 0 * 16384 + 1 * k.val = k.val; omega

/-- The permutation in 128 rows, at every step. -/
theorem block_rows (c : Dev nD) (t : Fin cfg0.N) (a b : Fin 128) :
    iblk m c 1 t (ix2 a b) = argP m c (ix1 ⟨128 * a.val + b.val, by have := a.isLt; have := b.isLt; omega⟩) := by
  have e : iblk m c 1 t (ix2 a b) = (V m c main_v0 : Vec Ideal S128x128 .i32) (ix2 a b) := by
    unfold iblk
    rw [View.read_apply]
    show V m c main_v0 _ = V m c main_v0 _
    congr 1
    funext a'
    apply Fin.ext
    match a' with
    | ⟨0, _⟩ => show 0 * 128 + 1 * a.val = a.val; omega
    | ⟨1, _⟩ => show 0 * 128 + 1 * b.val = b.val; omega
  rw [e, V_main_v0]
  refine shapeCast_apply _ _ _ _ ?_
  rw [Shape.rowMajor_val_one, Shape.rowMajor_val_two]
  show 128 * a.val + b.val = a.val * 128 + b.val
  omega

/-- The activations, at every step. -/
theorem block_x (c : Dev nD) (t : Fin cfg0.N) (r : Fin 64) (k : Fin 16384) : iblk m c 2 t (ix2 r k) = argX m c (ix3 r 0 k) := by
  have e : iblk m c 2 t (ix2 r k) = (V m c main_v1 : Vec Ideal S64x16384 .bf16) (ix2 r k) := by
    unfold iblk
    rw [View.read_apply]
    show V m c main_v1 _ = V m c main_v1 _
    congr 1
    funext a'
    apply Fin.ext
    match a' with
    | ⟨0, _⟩ => show 0 * 64 + 1 * r.val = r.val; omega
    | ⟨1, _⟩ => show 0 * 16384 + 1 * k.val = k.val; omega
  rw [e, V_main_v1]
  refine shapeCast_apply _ _ _ _ ?_
  simp [Shape.rowMajor_val_two, Shape.rowMajor_val_three]

/-- The packed weights step `t` uses. -/
theorem block_q (c : Dev nD) (t : Fin cfg0.N) (a : Fin 512) (b : Fin 7168) :
    iblk m c 3 t (ix2 a b) = packedOf (argQ m c) (512 * t.val + a.val) b.val := by
  have ht : t.val < 16 := t.isLt
  have ha := a.isLt
  have hi := index_3 t
  rw [packedOf, dif_pos ⟨by omega, b.isLt⟩]
  unfold iblk
  rw [View.read_apply]
  show V m c main_arg1 _ = m (c.tc.loc main_arg1) _
  rw [V_main_arg1]
  congr 1
  funext a'
  apply Fin.ext
  match a' with
  | ⟨0, _⟩ => show win0_3.index t 0 * 512 + 1 * a.val = 512 * t.val + a.val; rw [hi.1]; omega
  | ⟨1, _⟩ => show win0_3.index t 1 * 7168 + 1 * b.val = b.val; rw [hi.2]; omega

/-- The scales step `t` uses. -/
theorem block_s (c : Dev nD) (t : Fin cfg0.N) (a : Fin 8) (b : Fin 7168) :
    iblk m c 4 t (ix2 a b) = scaleOf (argS m c) (8 * t.val + a.val) b.val := by
  have ht : t.val < 16 := t.isLt
  have ha := a.isLt
  have hi := index_4 t
  rw [scaleOf, dif_pos ⟨by omega, b.isLt⟩]
  unfold iblk
  rw [View.read_apply]
  show V m c main_arg2 _ = m (c.tc.loc main_arg2) _
  rw [V_main_arg2]
  congr 1
  funext a'
  apply Fin.ext
  match a' with
  | ⟨0, _⟩ => show win0_4.index t 0 * 8 + 1 * a.val = 8 * t.val + a.val; rw [hi.1]; omega
  | ⟨1, _⟩ => show win0_4.index t 1 * 7168 + 1 * b.val = b.val; rw [hi.2]; omega

/-- The zero points step `t` uses. -/
theorem block_z (c : Dev nD) (t : Fin cfg0.N) (a : Fin 8) (b : Fin 7168) :
    zpt t.val (iblk m c 5 t (ix2 a b)) = zeroOf (argZ m c) (8 * t.val + a.val) b.val := by
  have ht : t.val < 16 := t.isLt
  have ha := a.isLt
  have hi := index_5 t
  rw [zeroOf, dif_pos b.isLt, show (8 * t.val + a.val) / 8 = t.val from by omega]
  congr 1
  unfold iblk
  rw [View.read_apply]
  show V m c main_arg3 _ = m (c.tc.loc main_arg3) _
  rw [V_main_arg3]
  congr 1
  funext a'
  apply Fin.ext
  match a' with
  | ⟨0, _⟩ => show win0_5.index t 0 * 8 + 1 * a.val = (8 * t.val + a.val) % 64; rw [hi.1]; omega
  | ⟨1, _⟩ => show win0_5.index t 1 * 7168 + 1 * b.val = b.val; rw [hi.2]; omega

end Cert.KernelIdeal.Proof

end
-- ==== Proof.KernelIdealValue.lean ====
/-
  The value of the kernel: it ends with the product in the result's array and its arguments as they were.
-/
module

public import proofs.«01_k».proof.Proof.KernelIdealBlocks

@[expose] public section

noncomputable section

namespace Cert.KernelIdeal.Proof

open Cert.KernelIdeal Cert.KernelIdeal.Gen

open Idealize.ShloMosaic hiding ix0 ix1 ix2 ix3 ix4 ix5
open Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The product of the arguments as launched. -/
@[irreducible] def outv (c : Dev nD) : Vec Ideal S64x7168 .bf16 := product (argX m c) (argQ m c) (argS m c) (argZ m c) (argP m c)

/-- It is the product. -/
theorem outv_eq (c : Dev nD) : outv m c = product (argX m c) (argQ m c) (argS m c) (argZ m c) (argP m c) := by unfold outv; rfl

/-- An array whose every entry is the sum of the terms is the product. -/
theorem eq_outv (c : Dev nD) (X : Vec Ideal S64x7168 .bf16)
    (h : ∀ (a : Fin 64) (b : Fin 7168), X (ix2 a b)
      = ∑ k ∈ Finset.range 16384, term (xsOf (argX m c)) (permOf (argP m c)) (packedOf (argQ m c)) (zeroOf (argZ m c)) (scaleOf (argS m c)) a b.val k) :
    X = outv m c := by
  rw [outv_eq]
  exact funext fun j => (congrArg X (ValueIdx.eq_ix2 j)).trans (h (j 0) (j 1))

/-- The scratch buffers before step `t`: held, and from step 1 on at contents the step's invariant describes. -/
def scratch (c : Dev nD) (t : ℕ) : sProp 𝕄 :=
  iprop(∃ (f8 : Bf (F := Ideal) c (Memref.whole cc0_scratch0)) (f9 : Bf (F := Ideal) c (Memref.whole cc0_scratch1)) (f10 : Bf (F := Ideal) c (Memref.whole cc0_scratch2))
      (f11 : Bf (F := Ideal) c (Memref.whole cc0_scratch3)) (f12 : Bf (F := Ideal) c (Memref.whole cc0_scratch4)) (f13 : Bf (F := Ideal) c (Memref.whole cc0_scratch5)),
    ⌜t ≠ 0 → Inv (xsOf (argX m c)) (permOf (argP m c)) (packedOf (argQ m c)) (zeroOf (argZ m c)) (scaleOf (argS m c)) t f8 f10 f11⌝
      ∗ pt c (Memref.whole cc0_scratch0) f8 ∗ pt c (Memref.whole cc0_scratch1) f9 ∗ pt c (Memref.whole cc0_scratch2) f10
      ∗ pt c (Memref.whole cc0_scratch3) f11 ∗ pt c (Memref.whole cc0_scratch4) f12 ∗ pt c (Memref.whole cc0_scratch5) f13)

/-- The proof data: every input's block stays as fetched, the last step leaves the product, the scratch buffers carry the invariant. -/
def vdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outv m c
  Φ t := scratch m c t.val
  q _ := fullShare
  owed _ := 0

/-- What the last step leaves. -/
theorem after_result (c : Dev nD) (t : Fin cfg0.N) : (vdats m 0 c).after 6 t = outv m c := rfl

set_option maxRecDepth 16384 in
/-- The result's block after a step: as it was before every step but the last, which leaves the product. -/
theorem leaves_result (c : Dev nD) (t : Fin cfg0.N) (d) (g : Bf (F := Ideal) c (st0_6 t))
    (h : t.val ≠ 15 → (st0_6 t).view.read (Elt Ideal) g = (vdats m 0 c).before 6 t d) (h' : t.val = 15 → (st0_6 t).view.read (Elt Ideal) g = outv m c) :
    (pt c (st0_6 t) g : sProp 𝕄) ⊢ (vdats m 0 c).leavesExact 6 t := by
  by_cases ht : t.val = 15
  · have hi : cfg0.idle 6 (cfg0.grid.coords t) = false := by
      have := (cond2_iff (grid0.coords t)).mpr ((coords_val t).trans ht)
      show (!(k0_cond2 (grid0.coords t) == 1#1)) = false
      rw [this]; rfl
    unfold Dat.leavesExact
    rw [hi]
    dsimp only
    rw [after_result]
    iintro H
    iapply (show (pt c (st0_6 t) g : sProp 𝕄) ⊢ owns (c : Thread nD τ) (st0_6 t) fullShare (outv m c) from by
      rw [owns_held c (hst0_6 t)]
      iintro H
      iexists g
      isplitr; · ipureintro; exact h' ht
      iexact H)
    iexact H
  · have hi : cfg0.idle 6 (cfg0.grid.coords t) = true := by
      have : k0_cond2 (grid0.coords t) ≠ 1#1 := fun hc => ht ((coords_val t).symm.trans ((cond2_iff (grid0.coords t)).mp hc))
      show (!(k0_cond2 (grid0.coords t) == 1#1)) = true
      simp [this]
    have hf : (cfg0.win 6).flush t = false := by
      have h16 : t.val < 16 := t.isLt
      have : ¬ (cfg0.win 6).flush t = true := fun hc => ht (by have := (flush0_6 t).mp hc; omega)
      simpa using this
    rw [Dat.leavesExact_idle _ 6 t hi hf]
    iintro H
    iexists d
    iapply (show (pt c (st0_6 t) g : sProp 𝕄) ⊢ owns (c : Thread nD τ) (st0_6 t) fullShare ((vdats m 0 c).before 6 t d) from by
      rw [owns_held c (hst0_6 t)]
      iintro H
      iexists g
      isplitr; · ipureintro; exact h ht
      iexact H)
    iexact H

set_option maxHeartbeats 2000000 in
/-- A step, from the six input blocks and the scratch buffers under the invariant, hands them back under the next step's. -/
theorem value_body (hP : ∀ (c : Dev nD) (k : Fin 16384), (argP m c (ix1 k)).toNat < 16384) (c : Dev nD) :
    BodyObligation (vdats m 0 c) (defs₀ (F := Ideal)) Variants.none () Set.univ := fun t => by
  have hN : t.val < 16 := t.isLt
  have hcv := coords_val t
  have hl := fun d g h h' => leaves_result m c t d g h h'
  unfold Dat.leavesExact at hl
  rw [bigSep_W0, bigSep_W0]
  dsimp only
  dsimp only at hl
  simp only [owns_held c (hst0_0 t), owns_held c (hst0_1 t), owns_held c (hst0_2 t), owns_held c (hst0_3 t), owns_held c (hst0_4 t), owns_held c (hst0_5 t), owns_held c (hst0_6 t)] at hl ⊢
  rw [show (vdats m 0 c).Φ t.castSucc = scratch m c t.val from rfl, show (vdats m 0 c).Φ t.succ = scratch m c (t.val + 1) from rfl,
    show (vdats m 0 c).owesAt () t.succ = (vdats m 0 c).owesAt () t.castSucc from rfl]
  iintro ⟨HS, Howes, ⟨%d0, %f1, %hf1, H1⟩, ⟨%d1, %f2, %hf2, H2⟩, ⟨%d2, %f3, %hf3, H3⟩, ⟨%d3, %f4, %hf4, H4⟩, ⟨%d4, %f5, %hf5, H5⟩, ⟨%d5, %f6, %hf6, H6⟩, ⟨%d6, %f7, %hf7, H7⟩⟩
  unfold scratch
  icases HS with ⟨%f8, %f9, %f10, %f11, %f12, %f13, %hI, H8, H9, H10, H11, H12, H13⟩
  have e1 := hf1.trans (before0_0_of m (vdats m 0 c) rfl (fun _ => rfl) t d0)
  have e2 := hf2.trans (before0_1_of m (vdats m 0 c) rfl (fun _ => rfl) t d1)
  have e3 := hf3.trans (before0_2_of m (vdats m 0 c) rfl (fun _ => rfl) t d2)
  have e4 := hf4.trans (before0_3_of m (vdats m 0 c) rfl (fun _ => rfl) t d3)
  have e5 := hf5.trans (before0_4_of m (vdats m 0 c) rfl (fun _ => rfl) t d4)
  have e6 := hf6.trans (before0_5_of m (vdats m 0 c) rfl (fun _ => rfl) t d5)
  have hword : ∀ k : Fin 16384, (wordAt (c := c) (arg1 := st0_0 t) f1 k.val : BitVec 32) = argP m c (ix1 k) := fun k => by
    unfold wordAt
    rw [dif_pos k.isLt]
    exact (congrFun e1 (ix1 k)).trans (block_perm m c t k)
  have hw : ∀ k, (wordAt (c := c) (arg1 := st0_0 t) f1 k).toNat < 16384 := fun k => by
    by_cases hk : k < 16384
    · exact (congrArg BitVec.toNat (hword ⟨k, hk⟩)).trans_lt (hP c ⟨k, hk⟩)
    · unfold wordAt; rw [dif_neg hk]; decide
  rw [show (defs₀ (F := Ideal) Proc.tc 0 (t, cfg0.slots t)) = bodyAt0 t from rfl]
  iapply (stepValue c (grid0.coords t) (st0_0 t) (hst0_0 t) (st0_1 t) (hst0_1 t) (st0_2 t) (hst0_2 t) (st0_3 t) (hst0_3 t) (st0_4 t) (hst0_4 t) (st0_5 t) (hst0_5 t) (st0_6 t) (hst0_6 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) f1 f2 f3 f4 f5 f6 f7 f8 f9 f10 f11 f12 f13 ((vdats m 0 c).owesAt () t.castSucc) _
    (xs := xsOf (argX m c)) (W := permOf (argP m c)) (Qw := packedOf (argQ m c)) (Z := zeroOf (argZ m c)) (S := scaleOf (argS m c))
    (fun r k => (congrFun e3 (ix2 r k)).trans ((block_x m c t r k).trans (by rw [xsOf, dif_pos k.isLt])))
    hw
    (fun k hk => (congrArg BitVec.toNat (hword ⟨k, hk⟩)).trans (by rw [permOf, dif_pos hk]))
    (fun a b => (congrFun e2 (ix2 a b)).trans ((block_rows m c t a b).trans (hword ⟨128 * a.val + b.val, by have := a.isLt; have := b.isLt; omega⟩).symm))
    (fun a b => by rw [hcv]; exact (congrFun e4 (ix2 a b)).trans (block_q m c t a b))
    (fun a b => by rw [hcv]; exact (congrFun e5 (ix2 a b)).trans (block_s m c t a b))
    (fun a b => by rw [hcv]; exact (congrArg (zpt t.val) (congrFun e6 (ix2 a b))).trans (block_z m c t a b))
    (by rw [hcv]; exact hI) ?hQ)
  case hQ =>
    intro g7 g8 g9 g10 g11 g12 g13
    rw [hcv]
    iintro ⟨⟨⟨H1, H2, H3, H4, H5, H6, H7, H8, H9, H10, H11, H12, H13⟩, Howes⟩, %hV⟩
    isplitl [H8 H9 H10 H11 H12 H13]
    · iexists g8, g9, g10, g11, g12, g13
      isplitr; · ipureintro; exact fun _ => hV.1
      isplitl [H8]; · iexact H8
      isplitl [H9]; · iexact H9
      isplitl [H10]; · iexact H10
      isplitl [H11]; · iexact H11
      isplitl [H12]; · iexact H12
      iexact H13
    isplitl [Howes]; · iexact Howes
    isplitl [H1]; · iexists f1; isplitr; swap; (· iexact H1); ipureintro; exact e1
    isplitl [H2]; · iexists f2; isplitr; swap; (· iexact H2); ipureintro; exact e2
    isplitl [H3]; · iexists f3; isplitr; swap; (· iexact H3); ipureintro; exact e3
    isplitl [H4]; · iexists f4; isplitr; swap; (· iexact H4); ipureintro; exact e4
    isplitl [H5]; · iexists f5; isplitr; swap; (· iexact H5); ipureintro; exact e5
    isplitl [H6]; · iexists f6; isplitr; swap; (· iexact H6); ipureintro; exact e6
    iapply (hl d6 g7 (fun h => by rw [hV.2.1 h]; exact hf7) (fun h => eq_outv m c _ (hV.2.2 h)))
    iexact H7
  isplitr [Howes]; swap; · iexact Howes
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The result's array at the end: what the last step left. -/
theorem result_array (c : Dev nD) : (vdats m 0 c).arrAt 6 cfg0.N = outv m c := by
  refine Pipeline.Dat.arrAt_eq_of_after_last (vdats m 0 c) 6 (⟨15, by decide⟩ : Fin grid0.N) (by decide +kernel) _ (fun j => ?_)
  rw [after_result]
  exact congrArg (outv m c) (funext fun a => Fin.ext rfl)

/-- The physical post: the product in the result's array and the arguments' arrays at their launch contents. -/
def Done (r : PUnit × MemSt nD τ sig (Elt Ideal)) : Prop := ∀ c : Dev nD,
  r.2.mem ((c.tc : Thread nD τ).loc main_v2) = outv m c
  ∧ r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)

-- the launch theorem's implicit arguments are found by unifying its conclusion with this one
set_option backward.isDefEq.respectTransparency.types false in
/-- From any memory with zero counters whose permutation names columns of the activations, the kernel terminates with the
    product in the result's array and the arguments as they were. -/
theorem value_run (hP : ∀ (c : Dev nD) (k : Fin 16384), (argP m c (ix1 k)).toNat < 16384) :
    θ_run defs (onTc (τ := τ) (main (F := Ideal))) ⟨m, fun _ => 0, ρ⟩ (fun r => Done m r) :=
  Pipeline.θ_run_region_noSem_kit_quiescent cfgs (vdats m) () (0 : Fin 1) launch0 EP defs₀ Variants.none m ρ main
    (hbody := fun c => (value_body m hP c).loose)
    (hshare := fun c => (vdats m 0 c).share_full fun _ => rfl) (howed := fun _ _ => rfl)
    (u₀ := u₀) (hu₀ := .rfl)
    (V := V m) (hmain := hmain m Variants.none) (hA := fun _ _ => rfl)
    (X := fun _ => iprop(emp)) (Y := fun _ => iprop(emp)) (Z := fun c => Pipeline.unscopedRest spec0 c (V m c))
    (hX := fun c => by
      iintro Hr
      isplitr; · iempintro
      iexact Hr)
    (hin := fun c => by
      rw [show (vdats m 0 c).Φ 0 = scratch m c 0 from rfl, scopedRest0_eq]
      unfold scratch
      iintro ⟨-, ⟨%f8, H8⟩, ⟨%f9, H9⟩, ⟨%f10, H10⟩, ⟨%f11, H11⟩, ⟨%f12, H12⟩, ⟨%f13, H13⟩⟩
      iexists f8, f9, f10, f11, f12, f13
      isplitr; · ipureintro; exact fun h => absurd rfl h
      isplitl [H8]; · iexact H8
      isplitl [H9]; · iexact H9
      isplitl [H10]; · iexact H10
      isplitl [H11]; · iexact H11
      isplitl [H12]; · iexact H12
      iexact H13)
    (hout := fun c => by
      rw [show (vdats m 0 c).Φ (Fin.last cfg0.N) = scratch m c 16 from rfl, scopedRest0_eq]
      unfold scratch
      iintro ⟨%f8, %f9, %f10, %f11, %f12, %f13, -, H8, H9, H10, H11, H12, H13⟩
      isplitr; · iempintro
      isplitl [H8]; · iexists f8; iexact H8
      isplitl [H9]; · iexists f9; iexact H9
      isplitl [H10]; · iexists f10; iexact H10
      isplitl [H11]; · iexists f11; iexact H11
      isplitl [H12]; · iexists f12; iexact H12
      iexists f13; iexact H13)
    (QY := fun c mem => mem.mem ((c.tc : Thread nD τ).loc main_arg0) = m ((c.tc : Thread nD τ).loc main_arg0)
      ∧ mem.mem ((c.tc : Thread nD τ).loc main_arg4) = m ((c.tc : Thread nD τ).loc main_arg4))
    (hY := fun c s' => by
      rw [unscopedRest0_eq, V_main_arg0, V_main_arg4]
      iintro ⟨-, ⟨H0, H4⟩, HSI⟩
      icombine HSI H0 gives %h0
      icombine HSI H4 gives %h4
      imodintro
      isplitr; · ipureintro; exact ⟨Buf.eq_of_forall_mem_univ h0, Buf.eq_of_forall_mem_univ h4⟩
      iexact HSI)
    (hQ := fun s h _ c => ⟨((h c).1 6).trans (result_array m c), (h c).2.1,
      ((h c).1 3).trans (((vdats m 0 c).arrAt_in 3 rfl _).trans (V_main_arg1 m c)),
      ((h c).1 4).trans (((vdats m 0 c).arrAt_in 4 rfl _).trans (V_main_arg2 m c)),
      ((h c).1 5).trans (((vdats m 0 c).arrAt_in 5 rfl _).trans (V_main_arg3 m c)),
      (h c).2.2,
      ((h c).1 0).trans (((vdats m 0 c).arrAt_in 0 rfl _).trans (V_main_arg5 m c))⟩)

end Cert.KernelIdeal.Proof

end
-- ==== Proof.ReferenceValue.lean ====
/-
  The value of the reference: where the group indices count up by one every 128 columns and the permutation names columns,
  the reference's result is the same product the kernel leaves.
-/
module

public import proofs.«01_k».proof.Proof.KernelIdealBlocks
public import proofs.«01_k».proof.Proof.Gen.ReferenceIdeal.Run
public import Idealize.ShloMosaic.Lib.Routing.Ops
public import Idealize.ShloMosaic.Lib.WordCmp

@[expose] public section

set_option maxRecDepth 16384

noncomputable section

namespace Cert.ReferenceIdeal.Proof

open Cert.ReferenceIdeal Cert.ReferenceIdeal.Gen Cert.ReferenceIdeal.Value
open Cert.KernelIdeal.Proof (nib zpt term xsOf permOf packedOf zeroOf scaleOf product)

open Idealize.ShloMosaic hiding ix0 ix1 ix2 ix3 ix4 ix5
open Idealize.ShloMosaic.ValueIdx
open Idealize.ShloMosaic.TcCoe

/-- An index below `2 ^ 31` is kept by the wrapping of negative indices. -/
theorem wrapped_at {s : Shape} (hb : S_.BroadcastsInDim s ![]) (g : IVec s 32) (n : BitVec 32) (i : s.Idx) (h : (g i).toNat < 2 ^ 31) :
    select (cmpi .slt g (broadcastInDim s ![] hb (constantI S_ 32 0#32))) (addi g (broadcastInDim s ![] hb (constantI S_ 32 n))) g i = g i := by
  show Scalar.select (IntOp.cmpi .slt (g i) 0#32) _ (g i) = g i
  rw [WordCmp.cmpi_slt_zero, decide_eq_false (by omega)]
  rfl

/-- A vector set up as a column, read at a row. -/
theorem column_at {n : ℕ} {α : Type} (hb : (⟨1, ![n]⟩ : Shape).BroadcastsInDim ⟨2, ![n, 1]⟩ ![0]) (x : (⟨1, ![n]⟩ : Shape).Idx → α) (k : Fin n) (hn : n ≠ 1) :
    broadcastInDim (⟨2, ![n, 1]⟩ : Shape) ![0] hb x (ix2 k 0) = x (ix1 k) := by
  refine broadcastInDim_apply _ _ _ _ _ fun a => ?_
  match a with
  | ⟨0, _⟩ => exact (if_neg hn).symm

/-- The columns of the activations that a column of indices names. -/
theorem gather_columns (x : FVec Ideal S64x1x16384 .bf16) (idx : IVec S16384x1 32) (r : Fin 64) (k b : Fin 16384) (hb : (idx (ix2 k 0)).toNat = b.val) :
    Host.gather gather_S64x1x16384_S16384x1_S64x1x16384_01_2_n_n_2_1_6411 x idx (ix3 r 0 k) = x (ix3 r 0 b) := by
  unfold Host.gather
  refine congrArg x (funext fun a => Fin.ext ?_)
  have hi : (idx (ix2 k 0)).toInt = b.val := by
    rw [StableHlo.Predicate.toInt_eq_toNat_of_lt (by have := b.isLt; omega), hb]
  match a with
  | ⟨0, _⟩ => show 0 + 0 + r.val = r.val; omega
  | ⟨1, _⟩ => rfl
  | ⟨2, _⟩ =>
    have hsi : gather_S64x1x16384_S16384x1_S64x1x16384_01_2_n_n_2_1_6411.siIdx (ix3 r 0 k) ⟨0, by decide⟩ = ix2 k 0 := by
      funext b'
      match b' with
      | ⟨0, _⟩ => rfl
      | ⟨1, _⟩ => rfl
    show min (idx (gather_S64x1x16384_S16384x1_S64x1x16384_01_2_n_n_2_1_6411.siIdx (ix3 r 0 k) ⟨0, by decide⟩)).toInt.toNat (16384 - 1) + 0 + 0 = b.val
    rw [hsi, hi]
    have := b.isLt
    omega

/-- The rows of a table of 128 that a vector of row numbers names. -/
theorem gather_rows (x : FVec Ideal S128x7168 .bf16) (g : IVec S8192 32) (k : Fin 8192) (n : Fin 7168) (b : Fin 128) (hb : g (ix1 k) = BitVec.ofNat 32 b.val) :
    Host.gather gather_S128x7168_S8192x1_S8192x7168_1_0_n_n_0_1_17168 x (broadcastInDim S8192x1 ![0] bcast_S8192_S8192x1_0
      (select (cmpi .slt g (broadcastInDim S8192 ![] bcast_S_S8192 (constantI S_ 32 0#32)))
        (addi g (broadcastInDim S8192 ![] bcast_S_S8192 (constantI S_ 32 128#32))) g)) (ix2 k n) = x (ix2 b n) := by
  refine Routing.gather_row (nb := 128) (B := 7168) (n := 8192) gather_S128x7168_S8192x1_S8192x7168_1_0_n_n_0_1_17168 rfl rfl rfl rfl rfl x _ k n b ?_ (by decide)
  refine (column_at _ _ k (by decide)).trans ?_
  rw [wrapped_at _ _ _ _ (by rw [hb, BitVec.toNat_ofNat]; have := b.isLt; omega), hb]

/-- One half of the product: half the columns, against weights `w` less the groups' zero points, times the groups' scales. -/
def half (x : FVec Ideal S64x1x8192 .bf16) (w : FVec Ideal S8192x7168 .bf16) (z s : FVec Ideal S128x7168 .bf16) (g : IVec S8192 32) : FVec Ideal S64x1x7168 .f32 :=
  Host.dotGeneral dot_S64x1x8192_S8192x7168_S64x1x7168_2_0_01_1_n_n none x
    (mulf (subf w (Host.gather gather_S128x7168_S8192x1_S8192x7168_1_0_n_n_0_1_17168 z (broadcastInDim S8192x1 ![0] bcast_S8192_S8192x1_0
        (select (cmpi .slt g (broadcastInDim S8192 ![] bcast_S_S8192 (constantI S_ 32 0#32)))
          (addi g (broadcastInDim S8192 ![] bcast_S_S8192 (constantI S_ 32 128#32))) g))))
      (Host.gather gather_S128x7168_S8192x1_S8192x7168_1_0_n_n_0_1_17168 s (broadcastInDim S8192x1 ![0] bcast_S8192_S8192x1_0
        (select (cmpi .slt g (broadcastInDim S8192 ![] bcast_S_S8192 (constantI S_ 32 0#32)))
          (addi g (broadcastInDim S8192 ![] bcast_S_S8192 (constantI S_ 32 128#32))) g))))

/-- One half of the product, as a sum. -/
theorem half_apply (x : FVec Ideal S64x1x8192 .bf16) (w : FVec Ideal S8192x7168 .bf16) (z s : FVec Ideal S128x7168 .bf16) (g : IVec S8192 32)
    (G : Fin 8192 → Fin 128) (hG : ∀ k, g (ix1 k) = BitVec.ofNat 32 (G k).val) (r : Fin 64) (n : Fin 7168) :
    half x w z s g (ix3 r 0 n) = ∑ k : Fin 8192, (x (ix3 r 0 k) : EReal) * (((w (ix2 k n) : EReal) - z (ix2 (G k) n)) * s (ix2 (G k) n)) := by
  unfold half
  simp only [Host.dotGeneral]
  rw [Ideal.dotGeneral_apply, ← Equiv.sum_comp (contrEquiv1 dot_S64x1x8192_S8192x7168_S64x1x7168_2_0_01_1_n_n 8192 rfl rfl).symm]
  refine Finset.sum_congr rfl fun k _ => ?_
  have hk := contrEquiv1_symm_val dot_S64x1x8192_S8192x7168_S64x1x7168_2_0_01_1_n_n 8192 rfl rfl k
  have el : dot_S64x1x8192_S8192x7168_S64x1x7168_2_0_01_1_n_n.lhsIdx (ix3 r 0 n) ((contrEquiv1 dot_S64x1x8192_S8192x7168_S64x1x7168_2_0_01_1_n_n 8192 rfl rfl).symm k) = ix3 r 0 k := by
    funext a; apply Fin.ext
    match a with
    | ⟨0, _⟩ => rfl
    | ⟨1, _⟩ => rfl
    | ⟨2, _⟩ => exact hk
  have er : dot_S64x1x8192_S8192x7168_S64x1x7168_2_0_01_1_n_n.rhsIdx (ix3 r 0 n) ((contrEquiv1 dot_S64x1x8192_S8192x7168_S64x1x7168_2_0_01_1_n_n 8192 rfl rfl).symm k) = ix2 k n := by
    funext a; apply Fin.ext
    match a with
    | ⟨0, _⟩ => exact hk
    | ⟨1, _⟩ => rfl
  rw [el, er]
  show (x (ix3 r 0 k) : EReal) * (((w (ix2 k n) : EReal) - Host.gather gather_S128x7168_S8192x1_S8192x7168_1_0_n_n_0_1_17168 z _ (ix2 k n))
    * Host.gather gather_S128x7168_S8192x1_S8192x7168_1_0_n_n_0_1_17168 s _ (ix2 k n)) = _
  rw [gather_rows z g k n (G k) (hG k), gather_rows s g k n (G k) (hG k)]

/-- The activations in the permutation's order. -/
def permuted (x : FVec Ideal S64x1x16384 .bf16) (p : IVec S16384 32) : FVec Ideal S64x1x16384 .bf16 :=
  Host.gather gather_S64x1x16384_S16384x1_S64x1x16384_01_2_n_n_2_1_6411 x (broadcastInDim S16384x1 ![0] bcast_S16384_S16384x1_0
    (select (cmpi .slt p (broadcastInDim S16384 ![] bcast_S_S16384 (constantI S_ 32 0#32)))
      (addi p (broadcastInDim S16384 ![] bcast_S_S16384 (constantI S_ 32 16384#32))) p))

/-- Column `k` of the permuted activations is the column the permutation names. -/
theorem permuted_apply (x : FVec Ideal S64x1x16384 .bf16) (p : IVec S16384 32) (hp : ∀ k : Fin 16384, (p (ix1 k)).toNat < 16384) (r : Fin 64) (k : Fin 16384) :
    permuted x p (ix3 r 0 k) = xsOf x r (permOf p k.val) := by
  have h : permOf p k.val = (p (ix1 k)).toNat := by rw [permOf, dif_pos k.isLt]
  rw [h, xsOf, dif_pos (hp k)]
  refine gather_columns x _ r k ⟨_, hp k⟩ ?_
  refine (congrArg BitVec.toNat (column_at _ _ k (by decide))).trans ?_
  rw [wrapped_at _ _ _ _ (by have := hp k; omega)]

/-- The zero points: the low four bits of the 64 packed rows, then the high four. -/
def zeros (z : IVec S64x7168 8) : FVec Ideal S128x7168 .bf16 :=
  truncf .bf16 (sitofp .f32 (concatenate S128x7168 0
    [⟨S64x7168, (andi (extui 32 z natLt_8_32) (broadcastInDim S64x7168 ![] bcast_S_S64x7168 (constantI S_ 32 15#32)))⟩,
      ⟨S64x7168, (Host.shrsi (extui 32 z natLt_8_32) (broadcastInDim S64x7168 ![] bcast_S_S64x7168 (constantI S_ 32 4#32)))⟩]
    concatenates_S64x7168_S64x7168_S128x7168_d0)) bitsLt_bf16_f32

/-- A shift by four is the same shift on either processor. -/
theorem shift_four (x : BitVec 32) : IntOp.shrsi .host x 4#32 = Scalar.shrsi x 4#32 := rfl

/-- A shift by zero changes nothing. -/
theorem shift_zero (x : BitVec 32) : Scalar.shrsi x 0#32 = x := by
  show IntOp.shrsi .scalar x 0#32 = x
  simp [IntOp.shrsi]

/-- The high four bits of a byte are below 16. -/
theorem high_mask : ∀ w : BitVec 8, Scalar.shrsi (w.setWidth 32) 4#32 &&& 15#32 = Scalar.shrsi (w.setWidth 32) 4#32 := by decide +kernel

/-- Zero point of a group and a column. -/
theorem zeros_apply (z : IVec S64x7168 8) (g : Fin 128) (n : Fin 7168) : zeros z (ix2 g n) = zeroOf z g.val n.val := by
  have hg := g.isLt
  rw [zeroOf, dif_pos n.isLt, zpt]
  show FloatOps.sitofp (F := Ideal) .f32 (concatenate S128x7168 0 _ _ (ix2 g n)) = _
  congr 1
  by_cases h : g.val < 64
  · rw [if_pos (by omega), shift_zero]
    refine (concatenate_pair_apply_left (s₁ := S64x7168) (s₂ := S64x7168) (0 : Fin S128x7168.rank) _ _ _ (ix2 g n) rfl (ix2 ⟨g.val, h⟩ n) fun b => ?_).trans ?_
    · match b with
      | ⟨0, _⟩ => rfl
      | ⟨1, _⟩ => rfl
    · show (z (ix2 ⟨g.val, h⟩ n)).setWidth 32 &&& 15#32 = _
      congr 4
      exact Fin.ext (Nat.mod_eq_of_lt h).symm
  · rw [if_neg (by omega), high_mask]
    have h64 : g.val % 64 = g.val - 64 := by omega
    refine (concatenate_pair_apply_right (s₁ := S64x7168) (s₂ := S64x7168) (0 : Fin S128x7168.rank) _ _ _ (ix2 g n) rfl rfl (ix2 ⟨g.val - 64, by omega⟩ n) (fun b hb => ?_) ?_).trans ?_
    · match b with
      | ⟨0, _⟩ => exact absurd rfl hb
      | ⟨1, _⟩ => rfl
    · show g.val - 64 + 64 = g.val
      omega
    · show IntOp.shrsi .host ((z (ix2 ⟨g.val - 64, _⟩ n)).setWidth 32) 4#32 = _
      rw [shift_four]
      congr 4
      exact Fin.ext h64.symm

/-- A sum over an even number of terms, the even ones first. -/
theorem sum_halves (f : ℕ → EReal) (n : ℕ) : ∑ k ∈ Finset.range (2 * n), f k = ∑ k ∈ Finset.range n, f (2 * k) + ∑ k ∈ Finset.range n, f (2 * k + 1) := by
  induction n with
  | zero => simp
  | succ n ih =>
    rw [show 2 * (n + 1) = 2 * n + 1 + 1 from rfl, Finset.sum_range_succ, Finset.sum_range_succ, ih, Finset.sum_range_succ, Finset.sum_range_succ,
      add_assoc, add_add_add_comm]

/-- The low four bits of the packed weights. -/
def low (q : IVec S8192x7168 8) : FVec Ideal S8192x7168 .bf16 :=
  truncf .bf16 (sitofp .f32 (andi (extui 32 q natLt_8_32) (broadcastInDim S8192x7168 ![] bcast_S_S8192x7168 (constantI S_ 32 15#32)))) bitsLt_bf16_f32
/-- The high four bits of the packed weights. -/
def high (q : IVec S8192x7168 8) : FVec Ideal S8192x7168 .bf16 :=
  truncf .bf16 (sitofp .f32 (Host.shrsi (extui 32 q natLt_8_32) (broadcastInDim S8192x7168 ![] bcast_S_S8192x7168 (constantI S_ 32 4#32)))) bitsLt_bf16_f32

/-- The even columns' weights. -/
theorem low_apply (q : IVec S8192x7168 8) (k : Fin 8192) (n : Fin 7168) : low q (ix2 k n) = nib (packedOf q k.val n.val) (2 * k.val) := by
  rw [nib, if_pos (by omega), packedOf, dif_pos ⟨k.isLt, n.isLt⟩]
  rfl
/-- The odd columns' weights. -/
theorem high_apply (q : IVec S8192x7168 8) (k : Fin 8192) (n : Fin 7168) : high q (ix2 k n) = nib (packedOf q k.val n.val) (2 * k.val + 1) := by
  rw [nib, if_neg (by omega), packedOf, dif_pos ⟨k.isLt, n.isLt⟩]
  rfl

/-- A half of the product is the sum of the terms of its columns, `2 k + e` for the half numbered `e`. -/
theorem half_terms (e : ℕ) (he : e < 2) (x : FVec Ideal S64x1x16384 .bf16) (q : IVec S8192x7168 8) (s : FVec Ideal S128x7168 .bf16) (z : IVec S64x7168 8)
    (p : IVec S16384 32) (xh : FVec Ideal S64x1x8192 .bf16) (w : FVec Ideal S8192x7168 .bf16) (g : IVec S8192 32)
    (hx : ∀ (r : Fin 64) (k : Fin 8192), xh (ix3 r 0 k) = xsOf x r (permOf p (2 * k.val + e)))
    (hw : ∀ (k : Fin 8192) (n : Fin 7168), w (ix2 k n) = nib (packedOf q k.val n.val) (2 * k.val + e))
    (hg : ∀ k : Fin 8192, g (ix1 k) = BitVec.ofNat 32 ((2 * k.val + e) / 128)) (r : Fin 64) (n : Fin 7168) :
    half xh w (zeros z) s g (ix3 r 0 n)
      = ∑ k ∈ Finset.range 8192, term (xsOf x) (permOf p) (packedOf q) (zeroOf z) (scaleOf s) r n.val (2 * k + e) := by
  rw [half_apply xh w (zeros z) s g (fun k => ⟨(2 * k.val + e) / 128, by have := k.isLt; omega⟩) hg, ← Fin.sum_univ_eq_sum_range]
  refine Finset.sum_congr rfl fun k _ => ?_
  have hk := k.isLt
  have hb : (2 * k.val + e) / 2 = k.val := by omega
  have hs : scaleOf s ((2 * k.val + e) / 128) n.val = s (ix2 ⟨(2 * k.val + e) / 128, by omega⟩ n) := by rw [scaleOf, dif_pos ⟨by omega, n.isLt⟩]
  rw [term, hx, hw, zeros_apply, hb, hs]

/-- **The reference's result**: the product, where the group index of a column is its number over 128 and every word of the
    permutation is a column. -/
theorem result_eq (m : (ℓ : Loc nD τ sig) → Buf (Elt Ideal) ℓ) (c : Dev nD)
    (hp : ∀ k : Fin 16384, ((m ((c.tc : Thread nD τ).loc main_arg5) : IVec S16384 32) (ix1 k)).toNat < 16384)
    (hg : ∀ k : Fin 16384, (m ((c.tc : Thread nD τ).loc main_arg4) : IVec S16384 32) (ix1 k) = BitVec.ofNat 32 (k.val / 128)) :
    res_main_v64 (F := Ideal) m c = product (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg5)) := by
  generalize hx : m ((c.tc : Thread nD τ).loc main_arg0) = x at *
  generalize hq : m ((c.tc : Thread nD τ).loc main_arg1) = q at *
  generalize hs : m ((c.tc : Thread nD τ).loc main_arg2) = s at *
  generalize hz : m ((c.tc : Thread nD τ).loc main_arg3) = z at *
  generalize hgi : m ((c.tc : Thread nD τ).loc main_arg4) = gi at *
  generalize hpi : m ((c.tc : Thread nD τ).loc main_arg5) = p at *
  have e : res_main_v64 (F := Ideal) m c = shapeCast S64x7168 (truncf .bf16 (addf
      (half (Host.slice S64x1x8192 ![0, 0, 0] ![1, 1, 2] (permuted x p) slicesBy_S64x1x16384_S64x1x8192_0s1_0s1_0s2) (low q) (zeros z) s
        (Host.slice S8192 ![0] ![2] gi slicesBy_S16384_S8192_0s2))
      (half (Host.slice S64x1x8192 ![0, 0, 1] ![1, 1, 2] (permuted x p) slicesBy_S64x1x16384_S64x1x8192_0s1_0s1_1s2) (high q) (zeros z) s
        (Host.slice S8192 ![1] ![2] gi slicesBy_S16384_S8192_1s2))) bitsLt_bf16_f32) shapeCasts_S64x1x7168_S64x7168 := by
    subst hx hq hs hz hgi hpi
    unfold res_main_v64
    rfl
  suffices h : ∀ (r : Fin 64) (n : Fin 7168), (res_main_v64 (F := Ideal) m c : FVec Ideal S64x7168 .bf16) (ix2 r n)
      = ∑ k ∈ Finset.range (2 * 8192), term (xsOf x) (permOf p) (packedOf q) (zeroOf z) (scaleOf s) r n.val k from
    funext fun j => (congrArg (res_main_v64 (F := Ideal) m c : FVec Ideal S64x7168 .bf16) (ValueIdx.eq_ix2 j)).trans (h (j 0) (j 1))
  intro r n
  rw [e]
  refine (shapeCast_apply _ _ _ (ix3 r 0 n) (by
    rw [Shape.rowMajor_val_two, Shape.rowMajor_val_three]
    show (r.val * 1 + 0) * 7168 + n.val = r.val * 7168 + n.val
    omega)).trans ?_
  show (half _ _ _ _ _ (ix3 r 0 n) : EReal) + half _ _ _ _ _ (ix3 r 0 n) = ∑ k ∈ Finset.range (2 * 8192), term (xsOf x) (permOf p) (packedOf q) (zeroOf z) (scaleOf s) r n.val k
  rw [sum_halves]
  refine congrArg₂ (fun a b : EReal => a + b) (half_terms 0 (by decide) x q s z p _ _ _ ?_ (low_apply q) ?_ r n) (half_terms 1 (by decide) x q s z p _ _ _ ?_ (high_apply q) ?_ r n)
  · intro r k
    refine Eq.trans (congrArg (permuted x p) (funext fun a => Fin.ext ?_)) (permuted_apply x p hp r ⟨2 * k.val + 0, by have := k.isLt; omega⟩)
    match a with
    | ⟨0, _⟩ => show 0 + 1 * r.val = r.val; omega
    | ⟨1, _⟩ => rfl
    | ⟨2, _⟩ => show 0 + 2 * k.val = 2 * k.val + 0; omega
  · intro k
    refine Eq.trans (congrArg gi (funext fun a => Fin.ext ?_)) (hg ⟨2 * k.val + 0, by have := k.isLt; omega⟩)
    match a with
    | ⟨0, _⟩ => show 0 + 2 * k.val = 2 * k.val + 0; omega
  · intro r k
    refine Eq.trans (congrArg (permuted x p) (funext fun a => Fin.ext ?_)) (permuted_apply x p hp r ⟨2 * k.val + 1, by have := k.isLt; omega⟩)
    match a with
    | ⟨0, _⟩ => show 0 + 1 * r.val = r.val; omega
    | ⟨1, _⟩ => rfl
    | ⟨2, _⟩ => show 1 + 2 * k.val = 2 * k.val + 1; omega
  · intro k
    refine Eq.trans (congrArg gi (funext fun a => Fin.ext ?_)) (hg ⟨2 * k.val + 1, by have := k.isLt; omega⟩)
    match a with
    | ⟨0, _⟩ => show 1 + 2 * k.val = 2 * k.val + 1; omega

end Cert.ReferenceIdeal.Proof

end
-- ==== Proof.Pre.lean ====
/-
  What the precondition says of the arguments, and the side conditions it is stated over.
-/
module

public import proofs.«01_k».proof.Pre_pre
public import Idealize.ShloMosaic.Lib.ReduceAll
public import Idealize.ShloMosaic.Lib.Routing.Words
public import Idealize.ShloMosaic.Lib.WordCmp
public import Idealize.ShloMosaic.Lib.Decide

@[expose] public section

noncomputable section

namespace Cert.Pre_pre.Proof

open Cert.Pre_pre
open Idealize.ShloMosaic Idealize.ShloMosaic.ValueIdx

/-- The side conditions of the precondition's operations hold. -/
theorem facts : Cert.Pre_pre.Facts where
  bcast_S_S16384 := by decide
  reducesTo_S16384_S_d0 := by decide
  h_S_ := by decide

/-- Two bits whose conjunction is set are both set. -/
theorem both_set : ∀ a b : BitVec 1, IntOp.andi a b = 1#1 → a = 1#1 ∧ b = 1#1 := by decide

/-- A rank-0 array has one index. -/
theorem one_index : Subsingleton S_.Idx := ⟨fun a b => funext fun k => k.elim0⟩

variable [Cert.Pre_pre.Facts]
open Facts

/-- **The precondition, decoded**: the group index of a column is its number over 128, and every word of the permutation is
    a column. -/
theorem decode (x : FVec Ideal S64x1x16384 .bf16) (q : IVec S8192x7168 8) (s : FVec Ideal S128x7168 .bf16) (z : IVec S64x7168 8) (g p : IVec S16384 32)
    (h : Cert.Pre_pre.fn (F := Ideal) x q s z g p = fun _ => 1#1) (k : Fin 16384) :
    g (ix1 k) = BitVec.ofNat 32 (k.val / 128) ∧ (p (ix1 k)).toNat < 16384 := by
  have hk := k.isLt
  have h0 : IntOp.andi (IntOp.andi
        (Host.reduce IntOp.andi (cmpi .eq g (Routing.pyDiv bcast_S_S16384 (iotaInDim S16384 32 0) (constantI S_ 32 128#32))) (constantI S_ 1 1#1) reducesTo_S16384_S_d0 h_S_ ix0)
        (Host.reduce IntOp.andi (cmpi .sge p (broadcastInDim S16384 ![] bcast_S_S16384 (constantI S_ 32 0#32))) (constantI S_ 1 1#1) reducesTo_S16384_S_d0 h_S_ ix0))
      (Host.reduce IntOp.andi (cmpi .slt p (broadcastInDim S16384 ![] bcast_S_S16384 (constantI S_ 32 16384#32))) (constantI S_ 1 1#1) reducesTo_S16384_S_d0 h_S_ ix0) = 1#1 :=
    congrFun h ix0
  obtain ⟨h1, h4⟩ := both_set _ _ h0
  obtain ⟨h2, h3⟩ := both_set _ _ h1
  haveI := one_index
  have a2 := Host.reduce_andi_all _ _ _ _ _ h2 (ix1 k)
  have a3 := Host.reduce_andi_all _ _ _ _ _ h3 (ix1 k)
  have a4 := Host.reduce_andi_all _ _ _ _ _ h4 (ix1 k)
  constructor
  · have e : IntOp.cmpi .eq (g (ix1 k)) (Routing.pyDiv bcast_S_S16384 (iotaInDim S16384 32 0) (constantI S_ 32 128#32) (ix1 k)) = 1#1 := a2
    rw [Routing.pyDiv_ap bcast_S_S16384 (iotaInDim S16384 32 0) (constantI S_ 32 128#32) (ix1 k) (a := k.val) (b := 128) rfl rfl (by omega) (by decide) (by decide)] at e
    exact (StableHlo.Predicate.cmpi_eq_iff).mp e
  · have e3 : IntOp.cmpi .sge (p (ix1 k)) 0#32 = 1#1 := a3
    have e4 : IntOp.cmpi .slt (p (ix1 k)) (BitVec.ofNat 32 16384) = 1#1 := a4
    have e : IntOp.andi (IntOp.cmpi .sge (p (ix1 k)) 0#32) (IntOp.cmpi .slt (p (ix1 k)) (BitVec.ofNat 32 16384)) = 1#1 := by rw [e3, e4]; rfl
    rw [WordCmp.andi_sge_zero_slt_ofNat (by decide)] at e
    simpa using (StableHlo.Predicate.ofBool_eq_one_iff _).mp e

end Cert.Pre_pre.Proof

end
-- ==== Proof.lean ====
/-
  The proof of the certificate's claims, assembled from the modules under Proof/.
-/
module

public import proofs.«01_k».proof.Defs
public import proofs.«01_k».proof.Proof.KernelFrame
public import proofs.«01_k».proof.Proof.KernelIdealFrame
public import proofs.«01_k».proof.Proof.KernelIdealValue
public import proofs.«01_k».proof.Proof.ReferenceValue
public import proofs.«01_k».proof.Proof.Pre
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel runs, its arguments unchanged and every counter at zero, on the bits of its floats. -/
theorem frame_kernel : Cert.quiescent_Kernel (hKernel := Cert.Kernel.Gen.facts) :=
  fun m g _ => Cert.Kernel.Proof.frame_run (F := Bits) m g

/-- So does the kernel on the extended reals. -/
theorem frame_kernelIdeal : Cert.quiescent_KernelIdeal (hKernelIdeal := Cert.KernelIdeal.Gen.facts) :=
  fun m g _ => Cert.KernelIdeal.Proof.frame_run (F := Ideal) m g

/-- So it does under the precondition. -/
theorem frame_kernelIdeal_pre : Cert.quiescent_KernelIdeal_pre_pre (hKernelIdeal := Cert.KernelIdeal.Gen.facts) (hPre_pre := Cert.Pre_pre.Proof.facts) :=
  fun m g _ => Cert.KernelIdeal.Proof.frame_run (F := Ideal) m g

/-- And so does the reference. -/
theorem frame_referenceIdeal : Cert.quiescent_ReferenceIdeal (hReferenceIdeal := Cert.ReferenceIdeal.Gen.facts) :=
  fun m g _ => (θ_run Cert.ReferenceIdeal.defs _ _).mono
    (fun r h => ⟨fun c => (h c).2, sem_eq_zero_of_no_sems (by decide) r.2⟩) (Cert.ReferenceIdeal.Value.run (F := Ideal) m g)

/-- The reference under the precondition. -/
theorem frame_referenceIdeal_pre : Cert.quiescent_ReferenceIdeal_pre_pre (hReferenceIdeal := Cert.ReferenceIdeal.Gen.facts) (hPre_pre := Cert.Pre_pre.Proof.facts) :=
  fun m g _ => frame_referenceIdeal m g trivial

/-- On the extended reals, from the same arguments, the kernel and the reference end with the same result: the sums over the
    16384 columns of the permuted activations times the dequantized weights. -/
theorem algebraic : Cert.algebraic_KernelIdeal_ReferenceIdeal_pre_pre (hKernelIdeal := Cert.KernelIdeal.Gen.facts)
    (hReferenceIdeal := Cert.ReferenceIdeal.Gen.facts) (hPre_pre := Cert.Pre_pre.Proof.facts) := by
  letI := Cert.Pre_pre.Proof.facts
  intro m g m' g' hpre hargs
  have hdec := fun c k => Cert.Pre_pre.Proof.decode _ _ _ _ _ _ (hpre c) k
  refine ⟨fun c => Cert.KernelIdeal.Proof.outv m c, Cert.KernelIdeal.Proof.value_run m g (fun c k => (hdec c k).2), ?_⟩
  refine (θ_run Cert.ReferenceIdeal.defs _ _).mono (fun r h c => ⟨(h c).1.trans ?_, (h c).2⟩) (Cert.ReferenceIdeal.Value.run (F := Ideal) m' g')
  obtain ⟨h0, h1, h2, h3, h4, h5⟩ := hargs c
  refine (Cert.ReferenceIdeal.Proof.result_eq m' c (fun k => ?_) (fun k => ?_)).trans ?_
  · rw [h5]; exact (hdec c k).2
  · rw [h4]; exact (hdec c k).1
  · rw [h0, h1, h2, h3, h5]
    exact (Cert.KernelIdeal.Proof.outv_eq m c).symm

/-- The claims. -/
theorem claim : Cert.Claim :=
  ⟨Cert.Kernel.Gen.facts, Cert.KernelIdeal.Gen.facts, Cert.ReferenceIdeal.Gen.facts, Cert.Pre_pre.Proof.facts,
    frame_kernel, frame_kernelIdeal, frame_kernelIdeal_pre, frame_referenceIdeal, frame_referenceIdeal_pre, trivial, algebraic⟩

end Cert.Proof

end
